-- ==== Defs.lean ====
def Pre_IntraF (m : (ℓ : Loc Cert.IntraF.nD Cert.IntraF.τ Cert.IntraF.sig) → Buf (Elt Bits) ℓ) : Prop :=
  True

def Pre_IntraFIdeal (m : (ℓ : Loc Cert.IntraFIdeal.nD Cert.IntraFIdeal.τ Cert.IntraFIdeal.sig) → Buf (Elt Ideal) ℓ) : Prop :=
  True

def Pre_IntraFRefIdeal (m : (ℓ : Loc Cert.IntraFRefIdeal.nD Cert.IntraFRefIdeal.τ Cert.IntraFRefIdeal.sig) → Buf (Elt Ideal) ℓ) : Prop :=
  True

def Pre_IntraB (m : (ℓ : Loc Cert.IntraB.nD Cert.IntraB.τ Cert.IntraB.sig) → Buf (Elt Bits) ℓ) : Prop :=
  True

def Pre_IntraBIdeal (m : (ℓ : Loc Cert.IntraBIdeal.nD Cert.IntraBIdeal.τ Cert.IntraBIdeal.sig) → Buf (Elt Ideal) ℓ) : Prop :=
  True

def Pre_IntraBRefIdeal (m : (ℓ : Loc Cert.IntraBRefIdeal.nD Cert.IntraBRefIdeal.τ Cert.IntraBRefIdeal.sig) → Buf (Elt Ideal) ℓ) : Prop :=
  True

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_finite_attention [hPre_finite_attention : Cert.Pre_finite_attention.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_finite_attention.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))) = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_finite_attention [hPre_finite_attention : Cert.Pre_finite_attention.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_finite_attention.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))) = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_finite_attention_bwd [hPre_finite_attention_bwd : Cert.Pre_finite_attention_bwd.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_finite_attention_bwd.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3))) = (fun _ => 1#1)

def Pre_MlaBwdRefIdeal (m : (ℓ : Loc Cert.MlaBwdRefIdeal.nD Cert.MlaBwdRefIdeal.τ Cert.MlaBwdRefIdeal.sig) → Buf (Elt Ideal) ℓ) : Prop :=
  True

def Pre_MlaBwdRefIdeal_finite_attention_bwd [hPre_finite_attention_bwd : Cert.Pre_finite_attention_bwd.Facts] (m : (ℓ : Loc Cert.MlaBwdRefIdeal.nD Cert.MlaBwdRefIdeal.τ Cert.MlaBwdRefIdeal.sig) → Buf (Elt Ideal) ℓ) : Prop :=
  ∀ c : Dev Cert.MlaBwdRefIdeal.nD,
    (Cert.Pre_finite_attention_bwd.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))) = (fun _ => 1#1)

def Pre_GatedNorm (m : (ℓ : Loc Cert.GatedNorm.nD Cert.GatedNorm.τ Cert.GatedNorm.sig) → Buf (Elt Bits) ℓ) : Prop :=
  True

def Pre_GatedNormIdeal (m : (ℓ : Loc Cert.GatedNormIdeal.nD Cert.GatedNormIdeal.τ Cert.GatedNormIdeal.sig) → Buf (Elt Ideal) ℓ) : Prop :=
  True

def Pre_GatedNormIdeal_finite_gated [hPre_finite_gated : Cert.Pre_finite_gated.Facts] (m : (ℓ : Loc Cert.GatedNormIdeal.nD Cert.GatedNormIdeal.τ Cert.GatedNormIdeal.sig) → Buf (Elt Ideal) ℓ) : Prop :=
  ∀ c : Dev Cert.GatedNormIdeal.nD,
    (Cert.Pre_finite_gated.fn (F := Ideal) (m ((c.tc : Thread Cert.GatedNormIdeal.nD Cert.GatedNormIdeal.τ).loc Cert.GatedNormIdeal.main_arg0)) (m ((c.tc : Thread Cert.GatedNormIdeal.nD Cert.GatedNormIdeal.τ).loc Cert.GatedNormIdeal.main_arg1)) (m ((c.tc : Thread Cert.GatedNormIdeal.nD Cert.GatedNormIdeal.τ).loc Cert.GatedNormIdeal.main_arg2)) (m ((c.tc : Thread Cert.GatedNormIdeal.nD Cert.GatedNormIdeal.τ).loc Cert.GatedNormIdeal.main_arg3))) = (fun _ => 1#1)

def Pre_GatedNormRefIdeal (m : (ℓ : Loc Cert.GatedNormRefIdeal.nD Cert.GatedNormRefIdeal.τ Cert.GatedNormRefIdeal.sig) → Buf (Elt Ideal) ℓ) : Prop :=
  True

def Pre_GatedNormRefIdeal_finite_gated [hPre_finite_gated : Cert.Pre_finite_gated.Facts] (m : (ℓ : Loc Cert.GatedNormRefIdeal.nD Cert.GatedNormRefIdeal.τ Cert.GatedNormRefIdeal.sig) → Buf (Elt Ideal) ℓ) : Prop :=
  ∀ c : Dev Cert.GatedNormRefIdeal.nD,
    (Cert.Pre_finite_gated.fn (F := Ideal) (m ((c.tc : Thread Cert.GatedNormRefIdeal.nD Cert.GatedNormRefIdeal.τ).loc Cert.GatedNormRefIdeal.main_arg0)) (m ((c.tc : Thread Cert.GatedNormRefIdeal.nD Cert.GatedNormRefIdeal.τ).loc Cert.GatedNormRefIdeal.main_arg1)) (m ((c.tc : Thread Cert.GatedNormRefIdeal.nD Cert.GatedNormRefIdeal.τ).loc Cert.GatedNormRefIdeal.main_arg2)) (m ((c.tc : Thread Cert.GatedNormRefIdeal.nD Cert.GatedNormRefIdeal.τ).loc Cert.GatedNormRefIdeal.main_arg3))) = (fun _ => 1#1)

def Pre_NormKeep (m : (ℓ : Loc Cert.NormKeep.nD Cert.NormKeep.τ Cert.NormKeep.sig) → Buf (Elt Bits) ℓ) : Prop :=
  True

def Pre_NormKeepIdeal (m : (ℓ : Loc Cert.NormKeepIdeal.nD Cert.NormKeepIdeal.τ Cert.NormKeepIdeal.sig) → Buf (Elt Ideal) ℓ) : Prop :=
  True

def Pre_NormKeepIdeal_finite_norm_keep [hPre_finite_norm_keep : Cert.Pre_finite_norm_keep.Facts] (m : (ℓ : Loc Cert.NormKeepIdeal.nD Cert.NormKeepIdeal.τ Cert.NormKeepIdeal.sig) → Buf (Elt Ideal) ℓ) : Prop :=
  ∀ c : Dev Cert.NormKeepIdeal.nD,
    (Cert.Pre_finite_norm_keep.fn (F := Ideal) (m ((c.tc : Thread Cert.NormKeepIdeal.nD Cert.NormKeepIdeal.τ).loc Cert.NormKeepIdeal.main_arg0)) (m ((c.tc : Thread Cert.NormKeepIdeal.nD Cert.NormKeepIdeal.τ).loc Cert.NormKeepIdeal.main_arg1)) (m ((c.tc : Thread Cert.NormKeepIdeal.nD Cert.NormKeepIdeal.τ).loc Cert.NormKeepIdeal.main_arg2)) (m ((c.tc : Thread Cert.NormKeepIdeal.nD Cert.NormKeepIdeal.τ).loc Cert.NormKeepIdeal.main_arg3))) = (fun _ => 1#1)

def Pre_NormKeepRefIdeal (m : (ℓ : Loc Cert.NormKeepRefIdeal.nD Cert.NormKeepRefIdeal.τ Cert.NormKeepRefIdeal.sig) → Buf (Elt Ideal) ℓ) : Prop :=
  True

def Pre_NormKeepRefIdeal_finite_norm_keep [hPre_finite_norm_keep : Cert.Pre_finite_norm_keep.Facts] (m : (ℓ : Loc Cert.NormKeepRefIdeal.nD Cert.NormKeepRefIdeal.τ Cert.NormKeepRefIdeal.sig) → Buf (Elt Ideal) ℓ) : Prop :=
  ∀ c : Dev Cert.NormKeepRefIdeal.nD,
    (Cert.Pre_finite_norm_keep.fn (F := Ideal) (m ((c.tc : Thread Cert.NormKeepRefIdeal.nD Cert.NormKeepRefIdeal.τ).loc Cert.NormKeepRefIdeal.main_arg0)) (m ((c.tc : Thread Cert.NormKeepRefIdeal.nD Cert.NormKeepRefIdeal.τ).loc Cert.NormKeepRefIdeal.main_arg1)) (m ((c.tc : Thread Cert.NormKeepRefIdeal.nD Cert.NormKeepRefIdeal.τ).loc Cert.NormKeepRefIdeal.main_arg2)) (m ((c.tc : Thread Cert.NormKeepRefIdeal.nD Cert.NormKeepRefIdeal.τ).loc Cert.NormKeepRefIdeal.main_arg3))) = (fun _ => 1#1)

def Pre_PrepF (m : (ℓ : Loc Cert.PrepF.nD Cert.PrepF.τ Cert.PrepF.sig) → Buf (Elt Bits) ℓ) : Prop :=
  True

def Pre_PrepFIdeal (m : (ℓ : Loc Cert.PrepFIdeal.nD Cert.PrepFIdeal.τ Cert.PrepFIdeal.sig) → Buf (Elt Ideal) ℓ) : Prop :=
  True

def Pre_PrepFIdeal_smooth_gates [hPre_smooth_gates : Cert.Pre_smooth_gates.Facts] (m : (ℓ : Loc Cert.PrepFIdeal.nD Cert.PrepFIdeal.τ Cert.PrepFIdeal.sig) → Buf (Elt Ideal) ℓ) : Prop :=
  ∀ c : Dev Cert.PrepFIdeal.nD,
    (Cert.Pre_smooth_gates.fn (F := Ideal) (m ((c.tc : Thread Cert.PrepFIdeal.nD Cert.PrepFIdeal.τ).loc Cert.PrepFIdeal.main_arg0)) (m ((c.tc : Thread Cert.PrepFIdeal.nD Cert.PrepFIdeal.τ).loc Cert.PrepFIdeal.main_arg1)) (m ((c.tc : Thread Cert.PrepFIdeal.nD Cert.PrepFIdeal.τ).loc Cert.PrepFIdeal.main_arg2)) (m ((c.tc : Thread Cert.PrepFIdeal.nD Cert.PrepFIdeal.τ).loc Cert.PrepFIdeal.main_arg3)) (m ((c.tc : Thread Cert.PrepFIdeal.nD Cert.PrepFIdeal.τ).loc Cert.PrepFIdeal.main_arg4)) (m ((c.tc : Thread Cert.PrepFIdeal.nD Cert.PrepFIdeal.τ).loc Cert.PrepFIdeal.main_arg5)) (m ((c.tc : Thread Cert.PrepFIdeal.nD Cert.PrepFIdeal.τ).loc Cert.PrepFIdeal.main_arg6))) = (fun _ => 1#1)

def Pre_PrepFRefIdeal (m : (ℓ : Loc Cert.PrepFRefIdeal.nD Cert.PrepFRefIdeal.τ Cert.PrepFRefIdeal.sig) → Buf (Elt Ideal) ℓ) : Prop :=
  True

def Pre_PrepFRefIdeal_smooth_gates [hPre_smooth_gates : Cert.Pre_smooth_gates.Facts] (m : (ℓ : Loc Cert.PrepFRefIdeal.nD Cert.PrepFRefIdeal.τ Cert.PrepFRefIdeal.sig) → Buf (Elt Ideal) ℓ) : Prop :=
  ∀ c : Dev Cert.PrepFRefIdeal.nD,
    (Cert.Pre_smooth_gates.fn (F := Ideal) (m ((c.tc : Thread Cert.PrepFRefIdeal.nD Cert.PrepFRefIdeal.τ).loc Cert.PrepFRefIdeal.main_arg0)) (m ((c.tc : Thread Cert.PrepFRefIdeal.nD Cert.PrepFRefIdeal.τ).loc Cert.PrepFRefIdeal.main_arg1)) (m ((c.tc : Thread Cert.PrepFRefIdeal.nD Cert.PrepFRefIdeal.τ).loc Cert.PrepFRefIdeal.main_arg2)) (m ((c.tc : Thread Cert.PrepFRefIdeal.nD Cert.PrepFRefIdeal.τ).loc Cert.PrepFRefIdeal.main_arg3)) (m ((c.tc : Thread Cert.PrepFRefIdeal.nD Cert.PrepFRefIdeal.τ).loc Cert.PrepFRefIdeal.main_arg4)) (m ((c.tc : Thread Cert.PrepFRefIdeal.nD Cert.PrepFRefIdeal.τ).loc Cert.PrepFRefIdeal.main_arg5)) (m ((c.tc : Thread Cert.PrepFRefIdeal.nD Cert.PrepFRefIdeal.τ).loc Cert.PrepFRefIdeal.main_arg6))) = (fun _ => 1#1)

def Pre_PrepB (m : (ℓ : Loc Cert.PrepB.nD Cert.PrepB.τ Cert.PrepB.sig) → Buf (Elt Bits) ℓ) : Prop :=
  True

def Pre_PrepBIdeal (m : (ℓ : Loc Cert.PrepBIdeal.nD Cert.PrepBIdeal.τ Cert.PrepBIdeal.sig) → Buf (Elt Ideal) ℓ) : Prop :=
  True

def Pre_PrepBIdeal_smooth_gates [hPre_smooth_gates : Cert.Pre_smooth_gates.Facts] (m : (ℓ : Loc Cert.PrepBIdeal.nD Cert.PrepBIdeal.τ Cert.PrepBIdeal.sig) → Buf (Elt Ideal) ℓ) : Prop :=
  ∀ c : Dev Cert.PrepBIdeal.nD,
    (Cert.Pre_smooth_gates.fn (F := Ideal) (m ((c.tc : Thread Cert.PrepBIdeal.nD Cert.PrepBIdeal.τ).loc Cert.PrepBIdeal.main_arg0)) (m ((c.tc : Thread Cert.PrepBIdeal.nD Cert.PrepBIdeal.τ).loc Cert.PrepBIdeal.main_arg1)) (m ((c.tc : Thread Cert.PrepBIdeal.nD Cert.PrepBIdeal.τ).loc Cert.PrepBIdeal.main_arg2)) (m ((c.tc : Thread Cert.PrepBIdeal.nD Cert.PrepBIdeal.τ).loc Cert.PrepBIdeal.main_arg3)) (m ((c.tc : Thread Cert.PrepBIdeal.nD Cert.PrepBIdeal.τ).loc Cert.PrepBIdeal.main_arg4)) (m ((c.tc : Thread Cert.PrepBIdeal.nD Cert.PrepBIdeal.τ).loc Cert.PrepBIdeal.main_arg5)) (m ((c.tc : Thread Cert.PrepBIdeal.nD Cert.PrepBIdeal.τ).loc Cert.PrepBIdeal.main_arg6))) = (fun _ => 1#1)

def Pre_PrepBRefIdeal (m : (ℓ : Loc Cert.PrepBRefIdeal.nD Cert.PrepBRefIdeal.τ Cert.PrepBRefIdeal.sig) → Buf (Elt Ideal) ℓ) : Prop :=
  True

def Pre_PrepBRefIdeal_smooth_gates [hPre_smooth_gates : Cert.Pre_smooth_gates.Facts] (m : (ℓ : Loc Cert.PrepBRefIdeal.nD Cert.PrepBRefIdeal.τ Cert.PrepBRefIdeal.sig) → Buf (Elt Ideal) ℓ) : Prop :=
  ∀ c : Dev Cert.PrepBRefIdeal.nD,
    (Cert.Pre_smooth_gates.fn (F := Ideal) (m ((c.tc : Thread Cert.PrepBRefIdeal.nD Cert.PrepBRefIdeal.τ).loc Cert.PrepBRefIdeal.main_arg0)) (m ((c.tc : Thread Cert.PrepBRefIdeal.nD Cert.PrepBRefIdeal.τ).loc Cert.PrepBRefIdeal.main_arg1)) (m ((c.tc : Thread Cert.PrepBRefIdeal.nD Cert.PrepBRefIdeal.τ).loc Cert.PrepBRefIdeal.main_arg2)) (m ((c.tc : Thread Cert.PrepBRefIdeal.nD Cert.PrepBRefIdeal.τ).loc Cert.PrepBRefIdeal.main_arg3)) (m ((c.tc : Thread Cert.PrepBRefIdeal.nD Cert.PrepBRefIdeal.τ).loc Cert.PrepBRefIdeal.main_arg4)) (m ((c.tc : Thread Cert.PrepBRefIdeal.nD Cert.PrepBRefIdeal.τ).loc Cert.PrepBRefIdeal.main_arg5)) (m ((c.tc : Thread Cert.PrepBRefIdeal.nD Cert.PrepBRefIdeal.τ).loc Cert.PrepBRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_finite_ffn [hPre_finite_ffn : Cert.Pre_finite_ffn.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_finite_ffn.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4))) = (fun _ => 1#1)

def Pre_FfnDxRefIdeal (m : (ℓ : Loc Cert.FfnDxRefIdeal.nD Cert.FfnDxRefIdeal.τ Cert.FfnDxRefIdeal.sig) → Buf (Elt Ideal) ℓ) : Prop :=
  True

def Pre_FfnDxRefIdeal_finite_ffn [hPre_finite_ffn : Cert.Pre_finite_ffn.Facts] (m : (ℓ : Loc Cert.FfnDxRefIdeal.nD Cert.FfnDxRefIdeal.τ Cert.FfnDxRefIdeal.sig) → Buf (Elt Ideal) ℓ) : Prop :=
  ∀ c : Dev Cert.FfnDxRefIdeal.nD,
    (Cert.Pre_finite_ffn.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_IntraFwdF (m : (ℓ : Loc Cert.IntraFwdF.nD Cert.IntraFwdF.τ Cert.IntraFwdF.sig) → Buf (Elt Bits) ℓ) : Prop :=
  True

def Pre_IntraFwdFIdeal (m : (ℓ : Loc Cert.IntraFwdFIdeal.nD Cert.IntraFwdFIdeal.τ Cert.IntraFwdFIdeal.sig) → Buf (Elt Ideal) ℓ) : Prop :=
  True

def Pre_IntraFwdFRefIdeal (m : (ℓ : Loc Cert.IntraFwdFRefIdeal.nD Cert.IntraFwdFRefIdeal.τ Cert.IntraFwdFRefIdeal.sig) → Buf (Elt Ideal) ℓ) : Prop :=
  True

def Pre_IntraFwdB (m : (ℓ : Loc Cert.IntraFwdB.nD Cert.IntraFwdB.τ Cert.IntraFwdB.sig) → Buf (Elt Bits) ℓ) : Prop :=
  True

def Pre_IntraFwdBIdeal (m : (ℓ : Loc Cert.IntraFwdBIdeal.nD Cert.IntraFwdBIdeal.τ Cert.IntraFwdBIdeal.sig) → Buf (Elt Ideal) ℓ) : Prop :=
  True

def Pre_IntraFwdBRefIdeal (m : (ℓ : Loc Cert.IntraFwdBRefIdeal.nD Cert.IntraFwdBRefIdeal.τ Cert.IntraFwdBRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GatedNormFwd (m : (ℓ : Loc Cert.GatedNormFwd.nD Cert.GatedNormFwd.τ Cert.GatedNormFwd.sig) → Buf (Elt Bits) ℓ) : Prop :=
  True

def Pre_GatedNormFwdIdeal (m : (ℓ : Loc Cert.GatedNormFwdIdeal.nD Cert.GatedNormFwdIdeal.τ Cert.GatedNormFwdIdeal.sig) → Buf (Elt Ideal) ℓ) : Prop :=
  True

def Pre_GatedNormFwdIdeal_finite_gated_fwd [hPre_finite_gated_fwd : Cert.Pre_finite_gated_fwd.Facts] (m : (ℓ : Loc Cert.GatedNormFwdIdeal.nD Cert.GatedNormFwdIdeal.τ Cert.GatedNormFwdIdeal.sig) → Buf (Elt Ideal) ℓ) : Prop :=
  ∀ c : Dev Cert.GatedNormFwdIdeal.nD,
    (Cert.Pre_finite_gated_fwd.fn (F := Ideal) (m ((c.tc : Thread Cert.GatedNormFwdIdeal.nD Cert.GatedNormFwdIdeal.τ).loc Cert.GatedNormFwdIdeal.main_arg0)) (m ((c.tc : Thread Cert.GatedNormFwdIdeal.nD Cert.GatedNormFwdIdeal.τ).loc Cert.GatedNormFwdIdeal.main_arg1)) (m ((c.tc : Thread Cert.GatedNormFwdIdeal.nD Cert.GatedNormFwdIdeal.τ).loc Cert.GatedNormFwdIdeal.main_arg2))) = (fun _ => 1#1)

def Pre_GatedNormFwdRefIdeal (m : (ℓ : Loc Cert.GatedNormFwdRefIdeal.nD Cert.GatedNormFwdRefIdeal.τ Cert.GatedNormFwdRefIdeal.sig) → Buf (Elt Ideal) ℓ) : Prop :=
  True

def Pre_GatedNormFwdRefIdeal_finite_gated_fwd [hPre_finite_gated_fwd : Cert.Pre_finite_gated_fwd.Facts] (m : (ℓ : Loc Cert.GatedNormFwdRefIdeal.nD Cert.GatedNormFwdRefIdeal.τ Cert.GatedNormFwdRefIdeal.sig) → Buf (Elt Ideal) ℓ) : Prop :=
  ∀ c : Dev Cert.GatedNormFwdRefIdeal.nD,
    (Cert.Pre_finite_gated_fwd.fn (F := Ideal) (m ((c.tc : Thread Cert.GatedNormFwdRefIdeal.nD Cert.GatedNormFwdRefIdeal.τ).loc Cert.GatedNormFwdRefIdeal.main_arg0)) (m ((c.tc : Thread Cert.GatedNormFwdRefIdeal.nD Cert.GatedNormFwdRefIdeal.τ).loc Cert.GatedNormFwdRefIdeal.main_arg1)) (m ((c.tc : Thread Cert.GatedNormFwdRefIdeal.nD Cert.GatedNormFwdRefIdeal.τ).loc Cert.GatedNormFwdRefIdeal.main_arg2))) = (fun _ => 1#1)

def Pre_PrepFwdF (m : (ℓ : Loc Cert.PrepFwdF.nD Cert.PrepFwdF.τ Cert.PrepFwdF.sig) → Buf (Elt Bits) ℓ) : Prop :=
  True

def Pre_PrepFwdFIdeal (m : (ℓ : Loc Cert.PrepFwdFIdeal.nD Cert.PrepFwdFIdeal.τ Cert.PrepFwdFIdeal.sig) → Buf (Elt Ideal) ℓ) : Prop :=
  True

def Pre_PrepFwdFIdeal_finite_gates [hPre_finite_gates : Cert.Pre_finite_gates.Facts] (m : (ℓ : Loc Cert.PrepFwdFIdeal.nD Cert.PrepFwdFIdeal.τ Cert.PrepFwdFIdeal.sig) → Buf (Elt Ideal) ℓ) : Prop :=
  ∀ c : Dev Cert.PrepFwdFIdeal.nD,
    (Cert.Pre_finite_gates.fn (F := Ideal) (m ((c.tc : Thread Cert.PrepFwdFIdeal.nD Cert.PrepFwdFIdeal.τ).loc Cert.PrepFwdFIdeal.main_arg0)) (m ((c.tc : Thread Cert.PrepFwdFIdeal.nD Cert.PrepFwdFIdeal.τ).loc Cert.PrepFwdFIdeal.main_arg1)) (m ((c.tc : Thread Cert.PrepFwdFIdeal.nD Cert.PrepFwdFIdeal.τ).loc Cert.PrepFwdFIdeal.main_arg2))) = (fun _ => 1#1)

def Pre_PrepFwdFRefIdeal (m : (ℓ : Loc Cert.PrepFwdFRefIdeal.nD Cert.PrepFwdFRefIdeal.τ Cert.PrepFwdFRefIdeal.sig) → Buf (Elt Ideal) ℓ) : Prop :=
  True

def Pre_PrepFwdFRefIdeal_finite_gates [hPre_finite_gates : Cert.Pre_finite_gates.Facts] (m : (ℓ : Loc Cert.PrepFwdFRefIdeal.nD Cert.PrepFwdFRefIdeal.τ Cert.PrepFwdFRefIdeal.sig) → Buf (Elt Ideal) ℓ) : Prop :=
  ∀ c : Dev Cert.PrepFwdFRefIdeal.nD,
    (Cert.Pre_finite_gates.fn (F := Ideal) (m ((c.tc : Thread Cert.PrepFwdFRefIdeal.nD Cert.PrepFwdFRefIdeal.τ).loc Cert.PrepFwdFRefIdeal.main_arg0)) (m ((c.tc : Thread Cert.PrepFwdFRefIdeal.nD Cert.PrepFwdFRefIdeal.τ).loc Cert.PrepFwdFRefIdeal.main_arg1)) (m ((c.tc : Thread Cert.PrepFwdFRefIdeal.nD Cert.PrepFwdFRefIdeal.τ).loc Cert.PrepFwdFRefIdeal.main_arg2))) = (fun _ => 1#1)

def Pre_PrepFwdB (m : (ℓ : Loc Cert.PrepFwdB.nD Cert.PrepFwdB.τ Cert.PrepFwdB.sig) → Buf (Elt Bits) ℓ) : Prop :=
  True

def Pre_PrepFwdBIdeal (m : (ℓ : Loc Cert.PrepFwdBIdeal.nD Cert.PrepFwdBIdeal.τ Cert.PrepFwdBIdeal.sig) → Buf (Elt Ideal) ℓ) : Prop :=
  True

def Pre_PrepFwdBIdeal_finite_gates [hPre_finite_gates : Cert.Pre_finite_gates.Facts] (m : (ℓ : Loc Cert.PrepFwdBIdeal.nD Cert.PrepFwdBIdeal.τ Cert.PrepFwdBIdeal.sig) → Buf (Elt Ideal) ℓ) : Prop :=
  ∀ c : Dev Cert.PrepFwdBIdeal.nD,
    (Cert.Pre_finite_gates.fn (F := Ideal) (m ((c.tc : Thread Cert.PrepFwdBIdeal.nD Cert.PrepFwdBIdeal.τ).loc Cert.PrepFwdBIdeal.main_arg0)) (m ((c.tc : Thread Cert.PrepFwdBIdeal.nD Cert.PrepFwdBIdeal.τ).loc Cert.PrepFwdBIdeal.main_arg1)) (m ((c.tc : Thread Cert.PrepFwdBIdeal.nD Cert.PrepFwdBIdeal.τ).loc Cert.PrepFwdBIdeal.main_arg2))) = (fun _ => 1#1)

def Pre_PrepFwdBRefIdeal (m : (ℓ : Loc Cert.PrepFwdBRefIdeal.nD Cert.PrepFwdBRefIdeal.τ Cert.PrepFwdBRefIdeal.sig) → Buf (Elt Ideal) ℓ) : Prop :=
  True

def Pre_PrepFwdBRefIdeal_finite_gates [hPre_finite_gates : Cert.Pre_finite_gates.Facts] (m : (ℓ : Loc Cert.PrepFwdBRefIdeal.nD Cert.PrepFwdBRefIdeal.τ Cert.PrepFwdBRefIdeal.sig) → Buf (Elt Ideal) ℓ) : Prop :=
  ∀ c : Dev Cert.PrepFwdBRefIdeal.nD,
    (Cert.Pre_finite_gates.fn (F := Ideal) (m ((c.tc : Thread Cert.PrepFwdBRefIdeal.nD Cert.PrepFwdBRefIdeal.τ).loc Cert.PrepFwdBRefIdeal.main_arg0)) (m ((c.tc : Thread Cert.PrepFwdBRefIdeal.nD Cert.PrepFwdBRefIdeal.τ).loc Cert.PrepFwdBRefIdeal.main_arg1)) (m ((c.tc : Thread Cert.PrepFwdBRefIdeal.nD Cert.PrepFwdBRefIdeal.τ).loc Cert.PrepFwdBRefIdeal.main_arg2))) = (fun _ => 1#1)

def Pre_MlaDelta (m : (ℓ : Loc Cert.MlaDelta.nD Cert.MlaDelta.τ Cert.MlaDelta.sig) → Buf (Elt Bits) ℓ) : Prop :=
  True

def Pre_MlaDeltaIdeal (m : (ℓ : Loc Cert.MlaDeltaIdeal.nD Cert.MlaDeltaIdeal.τ Cert.MlaDeltaIdeal.sig) → Buf (Elt Ideal) ℓ) : Prop :=
  True

def Pre_MlaDeltaRefIdeal (m : (ℓ : Loc Cert.MlaDeltaRefIdeal.nD Cert.MlaDeltaRefIdeal.τ Cert.MlaDeltaRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_ProjectDw (m : (ℓ : Loc Cert.ProjectDw.nD Cert.ProjectDw.τ Cert.ProjectDw.sig) → Buf (Elt Bits) ℓ) : Prop :=
  True

def Pre_ProjectDwIdeal (m : (ℓ : Loc Cert.ProjectDwIdeal.nD Cert.ProjectDwIdeal.τ Cert.ProjectDwIdeal.sig) → Buf (Elt Ideal) ℓ) : Prop :=
  True

def Pre_ProjectDwRefIdeal (m : (ℓ : Loc Cert.ProjectDwRefIdeal.nD Cert.ProjectDwRefIdeal.τ Cert.ProjectDwRefIdeal.sig) → Buf (Elt Ideal) ℓ) : Prop :=
  True

def quiescent_IntraF [hIntraF : Cert.IntraF.Facts] : Prop :=
  ∀ (m : (ℓ : Loc Cert.IntraF.nD Cert.IntraF.τ Cert.IntraF.sig) → Buf (Elt Bits) ℓ) (g : Dev Cert.IntraF.nD → PrngReg), Pre_IntraF m →
    θ_run (Cert.IntraF.defs (F := Bits)) (onTc (τ := Cert.IntraF.τ) (Cert.IntraF.main (F := Bits))) ⟨m, fun _ => 0, g⟩ (fun r => (∀ c : Dev Cert.IntraF.nD,
      r.2.mem ((c.tc : Thread Cert.IntraF.nD Cert.IntraF.τ).loc Cert.IntraF.main_arg0) = m ((c.tc : Thread Cert.IntraF.nD Cert.IntraF.τ).loc Cert.IntraF.main_arg0)
      ∧ r.2.mem ((c.tc : Thread Cert.IntraF.nD Cert.IntraF.τ).loc Cert.IntraF.main_arg1) = m ((c.tc : Thread Cert.IntraF.nD Cert.IntraF.τ).loc Cert.IntraF.main_arg1)
      ∧ r.2.mem ((c.tc : Thread Cert.IntraF.nD Cert.IntraF.τ).loc Cert.IntraF.main_arg2) = m ((c.tc : Thread Cert.IntraF.nD Cert.IntraF.τ).loc Cert.IntraF.main_arg2)
      ∧ r.2.mem ((c.tc : Thread Cert.IntraF.nD Cert.IntraF.τ).loc Cert.IntraF.main_arg3) = m ((c.tc : Thread Cert.IntraF.nD Cert.IntraF.τ).loc Cert.IntraF.main_arg3))
      ∧ r.2.sem = fun _ => 0)

def quiescent_IntraFIdeal [hIntraFIdeal : Cert.IntraFIdeal.Facts] : Prop :=
  ∀ (m : (ℓ : Loc Cert.IntraFIdeal.nD Cert.IntraFIdeal.τ Cert.IntraFIdeal.sig) → Buf (Elt Ideal) ℓ) (g : Dev Cert.IntraFIdeal.nD → PrngReg), Pre_IntraFIdeal m →
    θ_run (Cert.IntraFIdeal.defs (F := Ideal)) (onTc (τ := Cert.IntraFIdeal.τ) (Cert.IntraFIdeal.main (F := Ideal))) ⟨m, fun _ => 0, g⟩ (fun r => (∀ c : Dev Cert.IntraFIdeal.nD,
      r.2.mem ((c.tc : Thread Cert.IntraFIdeal.nD Cert.IntraFIdeal.τ).loc Cert.IntraFIdeal.main_arg0) = m ((c.tc : Thread Cert.IntraFIdeal.nD Cert.IntraFIdeal.τ).loc Cert.IntraFIdeal.main_arg0)
      ∧ r.2.mem ((c.tc : Thread Cert.IntraFIdeal.nD Cert.IntraFIdeal.τ).loc Cert.IntraFIdeal.main_arg1) = m ((c.tc : Thread Cert.IntraFIdeal.nD Cert.IntraFIdeal.τ).loc Cert.IntraFIdeal.main_arg1)
      ∧ r.2.mem ((c.tc : Thread Cert.IntraFIdeal.nD Cert.IntraFIdeal.τ).loc Cert.IntraFIdeal.main_arg2) = m ((c.tc : Thread Cert.IntraFIdeal.nD Cert.IntraFIdeal.τ).loc Cert.IntraFIdeal.main_arg2)
      ∧ r.2.mem ((c.tc : Thread Cert.IntraFIdeal.nD Cert.IntraFIdeal.τ).loc Cert.IntraFIdeal.main_arg3) = m ((c.tc : Thread Cert.IntraFIdeal.nD Cert.IntraFIdeal.τ).loc Cert.IntraFIdeal.main_arg3))
      ∧ r.2.sem = fun _ => 0)

def quiescent_IntraFRefIdeal [hIntraFRefIdeal : Cert.IntraFRefIdeal.Facts] : Prop :=
  ∀ (m : (ℓ : Loc Cert.IntraFRefIdeal.nD Cert.IntraFRefIdeal.τ Cert.IntraFRefIdeal.sig) → Buf (Elt Ideal) ℓ) (g : Dev Cert.IntraFRefIdeal.nD → PrngReg), Pre_IntraFRefIdeal m →
    θ_run (Cert.IntraFRefIdeal.defs (F := Ideal)) (onTc (τ := Cert.IntraFRefIdeal.τ) (Cert.IntraFRefIdeal.main (F := Ideal))) ⟨m, fun _ => 0, g⟩ (fun r => (∀ c : Dev Cert.IntraFRefIdeal.nD,
      r.2.mem ((c.tc : Thread Cert.IntraFRefIdeal.nD Cert.IntraFRefIdeal.τ).loc Cert.IntraFRefIdeal.main_arg0) = m ((c.tc : Thread Cert.IntraFRefIdeal.nD Cert.IntraFRefIdeal.τ).loc Cert.IntraFRefIdeal.main_arg0)
      ∧ r.2.mem ((c.tc : Thread Cert.IntraFRefIdeal.nD Cert.IntraFRefIdeal.τ).loc Cert.IntraFRefIdeal.main_arg1) = m ((c.tc : Thread Cert.IntraFRefIdeal.nD Cert.IntraFRefIdeal.τ).loc Cert.IntraFRefIdeal.main_arg1)
      ∧ r.2.mem ((c.tc : Thread Cert.IntraFRefIdeal.nD Cert.IntraFRefIdeal.τ).loc Cert.IntraFRefIdeal.main_arg2) = m ((c.tc : Thread Cert.IntraFRefIdeal.nD Cert.IntraFRefIdeal.τ).loc Cert.IntraFRefIdeal.main_arg2)
      ∧ r.2.mem ((c.tc : Thread Cert.IntraFRefIdeal.nD Cert.IntraFRefIdeal.τ).loc Cert.IntraFRefIdeal.main_arg3) = m ((c.tc : Thread Cert.IntraFRefIdeal.nD Cert.IntraFRefIdeal.τ).loc Cert.IntraFRefIdeal.main_arg3))
      ∧ r.2.sem = fun _ => 0)

def quiescent_IntraB [hIntraB : Cert.IntraB.Facts] : Prop :=
  ∀ (m : (ℓ : Loc Cert.IntraB.nD Cert.IntraB.τ Cert.IntraB.sig) → Buf (Elt Bits) ℓ) (g : Dev Cert.IntraB.nD → PrngReg), Pre_IntraB m →
    θ_run (Cert.IntraB.defs (F := Bits)) (onTc (τ := Cert.IntraB.τ) (Cert.IntraB.main (F := Bits))) ⟨m, fun _ => 0, g⟩ (fun r => (∀ c : Dev Cert.IntraB.nD,
      r.2.mem ((c.tc : Thread Cert.IntraB.nD Cert.IntraB.τ).loc Cert.IntraB.main_arg0) = m ((c.tc : Thread Cert.IntraB.nD Cert.IntraB.τ).loc Cert.IntraB.main_arg0)
      ∧ r.2.mem ((c.tc : Thread Cert.IntraB.nD Cert.IntraB.τ).loc Cert.IntraB.main_arg1) = m ((c.tc : Thread Cert.IntraB.nD Cert.IntraB.τ).loc Cert.IntraB.main_arg1)
      ∧ r.2.mem ((c.tc : Thread Cert.IntraB.nD Cert.IntraB.τ).loc Cert.IntraB.main_arg2) = m ((c.tc : Thread Cert.IntraB.nD Cert.IntraB.τ).loc Cert.IntraB.main_arg2)
      ∧ r.2.mem ((c.tc : Thread Cert.IntraB.nD Cert.IntraB.τ).loc Cert.IntraB.main_arg3) = m ((c.tc : Thread Cert.IntraB.nD Cert.IntraB.τ).loc Cert.IntraB.main_arg3))
      ∧ r.2.sem = fun _ => 0)

def quiescent_IntraBIdeal [hIntraBIdeal : Cert.IntraBIdeal.Facts] : Prop :=
  ∀ (m : (ℓ : Loc Cert.IntraBIdeal.nD Cert.IntraBIdeal.τ Cert.IntraBIdeal.sig) → Buf (Elt Ideal) ℓ) (g : Dev Cert.IntraBIdeal.nD → PrngReg), Pre_IntraBIdeal m →
    θ_run (Cert.IntraBIdeal.defs (F := Ideal)) (onTc (τ := Cert.IntraBIdeal.τ) (Cert.IntraBIdeal.main (F := Ideal))) ⟨m, fun _ => 0, g⟩ (fun r => (∀ c : Dev Cert.IntraBIdeal.nD,
      r.2.mem ((c.tc : Thread Cert.IntraBIdeal.nD Cert.IntraBIdeal.τ).loc Cert.IntraBIdeal.main_arg0) = m ((c.tc : Thread Cert.IntraBIdeal.nD Cert.IntraBIdeal.τ).loc Cert.IntraBIdeal.main_arg0)
      ∧ r.2.mem ((c.tc : Thread Cert.IntraBIdeal.nD Cert.IntraBIdeal.τ).loc Cert.IntraBIdeal.main_arg1) = m ((c.tc : Thread Cert.IntraBIdeal.nD Cert.IntraBIdeal.τ).loc Cert.IntraBIdeal.main_arg1)
      ∧ r.2.mem ((c.tc : Thread Cert.IntraBIdeal.nD Cert.IntraBIdeal.τ).loc Cert.IntraBIdeal.main_arg2) = m ((c.tc : Thread Cert.IntraBIdeal.nD Cert.IntraBIdeal.τ).loc Cert.IntraBIdeal.main_arg2)
      ∧ r.2.mem ((c.tc : Thread Cert.IntraBIdeal.nD Cert.IntraBIdeal.τ).loc Cert.IntraBIdeal.main_arg3) = m ((c.tc : Thread Cert.IntraBIdeal.nD Cert.IntraBIdeal.τ).loc Cert.IntraBIdeal.main_arg3))
      ∧ r.2.sem = fun _ => 0)

def quiescent_IntraBRefIdeal [hIntraBRefIdeal : Cert.IntraBRefIdeal.Facts] : Prop :=
  ∀ (m : (ℓ : Loc Cert.IntraBRefIdeal.nD Cert.IntraBRefIdeal.τ Cert.IntraBRefIdeal.sig) → Buf (Elt Ideal) ℓ) (g : Dev Cert.IntraBRefIdeal.nD → PrngReg), Pre_IntraBRefIdeal m →
    θ_run (Cert.IntraBRefIdeal.defs (F := Ideal)) (onTc (τ := Cert.IntraBRefIdeal.τ) (Cert.IntraBRefIdeal.main (F := Ideal))) ⟨m, fun _ => 0, g⟩ (fun r => (∀ c : Dev Cert.IntraBRefIdeal.nD,
      r.2.mem ((c.tc : Thread Cert.IntraBRefIdeal.nD Cert.IntraBRefIdeal.τ).loc Cert.IntraBRefIdeal.main_arg0) = m ((c.tc : Thread Cert.IntraBRefIdeal.nD Cert.IntraBRefIdeal.τ).loc Cert.IntraBRefIdeal.main_arg0)
      ∧ r.2.mem ((c.tc : Thread Cert.IntraBRefIdeal.nD Cert.IntraBRefIdeal.τ).loc Cert.IntraBRefIdeal.main_arg1) = m ((c.tc : Thread Cert.IntraBRefIdeal.nD Cert.IntraBRefIdeal.τ).loc Cert.IntraBRefIdeal.main_arg1)
      ∧ r.2.mem ((c.tc : Thread Cert.IntraBRefIdeal.nD Cert.IntraBRefIdeal.τ).loc Cert.IntraBRefIdeal.main_arg2) = m ((c.tc : Thread Cert.IntraBRefIdeal.nD Cert.IntraBRefIdeal.τ).loc Cert.IntraBRefIdeal.main_arg2)
      ∧ r.2.mem ((c.tc : Thread Cert.IntraBRefIdeal.nD Cert.IntraBRefIdeal.τ).loc Cert.IntraBRefIdeal.main_arg3) = m ((c.tc : Thread Cert.IntraBRefIdeal.nD Cert.IntraBRefIdeal.τ).loc Cert.IntraBRefIdeal.main_arg3))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdIdeal_pre_finite_attention [hMlaFwdIdeal : Cert.MlaFwdIdeal.Facts] [hPre_finite_attention : Cert.Pre_finite_attention.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_finite_attention m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_MlaFwdRefIdeal_pre_finite_attention [hMlaFwdRefIdeal : Cert.MlaFwdRefIdeal.Facts] [hPre_finite_attention : Cert.Pre_finite_attention.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_finite_attention m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ r.2.sem = fun _ => 0)

def quiescent_MlaBwdIdeal_pre_finite_attention_bwd [hMlaBwdIdeal : Cert.MlaBwdIdeal.Facts] [hPre_finite_attention_bwd : Cert.Pre_finite_attention_bwd.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_finite_attention_bwd m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ r.2.sem = fun _ => 0)

def quiescent_MlaBwdRefIdeal [hMlaBwdRefIdeal : Cert.MlaBwdRefIdeal.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3))
      ∧ r.2.sem = fun _ => 0)

def quiescent_MlaBwdRefIdeal_pre_finite_attention_bwd [hMlaBwdRefIdeal : Cert.MlaBwdRefIdeal.Facts] [hPre_finite_attention_bwd : Cert.Pre_finite_attention_bwd.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal_finite_attention_bwd m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_GatedNorm [hGatedNorm : Cert.GatedNorm.Facts] : Prop :=
  ∀ (m : (ℓ : Loc Cert.GatedNorm.nD Cert.GatedNorm.τ Cert.GatedNorm.sig) → Buf (Elt Bits) ℓ) (g : Dev Cert.GatedNorm.nD → PrngReg), Pre_GatedNorm m →
    θ_run (Cert.GatedNorm.defs (F := Bits)) (onTc (τ := Cert.GatedNorm.τ) (Cert.GatedNorm.main (F := Bits))) ⟨m, fun _ => 0, g⟩ (fun r => (∀ c : Dev Cert.GatedNorm.nD,
      r.2.mem ((c.tc : Thread Cert.GatedNorm.nD Cert.GatedNorm.τ).loc Cert.GatedNorm.main_arg0) = m ((c.tc : Thread Cert.GatedNorm.nD Cert.GatedNorm.τ).loc Cert.GatedNorm.main_arg0)
      ∧ r.2.mem ((c.tc : Thread Cert.GatedNorm.nD Cert.GatedNorm.τ).loc Cert.GatedNorm.main_arg1) = m ((c.tc : Thread Cert.GatedNorm.nD Cert.GatedNorm.τ).loc Cert.GatedNorm.main_arg1)
      ∧ r.2.mem ((c.tc : Thread Cert.GatedNorm.nD Cert.GatedNorm.τ).loc Cert.GatedNorm.main_arg2) = m ((c.tc : Thread Cert.GatedNorm.nD Cert.GatedNorm.τ).loc Cert.GatedNorm.main_arg2)
      ∧ r.2.mem ((c.tc : Thread Cert.GatedNorm.nD Cert.GatedNorm.τ).loc Cert.GatedNorm.main_arg3) = m ((c.tc : Thread Cert.GatedNorm.nD Cert.GatedNorm.τ).loc Cert.GatedNorm.main_arg3))
      ∧ r.2.sem = fun _ => 0)

def quiescent_GatedNormIdeal [hGatedNormIdeal : Cert.GatedNormIdeal.Facts] : Prop :=
  ∀ (m : (ℓ : Loc Cert.GatedNormIdeal.nD Cert.GatedNormIdeal.τ Cert.GatedNormIdeal.sig) → Buf (Elt Ideal) ℓ) (g : Dev Cert.GatedNormIdeal.nD → PrngReg), Pre_GatedNormIdeal m →
    θ_run (Cert.GatedNormIdeal.defs (F := Ideal)) (onTc (τ := Cert.GatedNormIdeal.τ) (Cert.GatedNormIdeal.main (F := Ideal))) ⟨m, fun _ => 0, g⟩ (fun r => (∀ c : Dev Cert.GatedNormIdeal.nD,
      r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
      ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
      ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
      ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3))
      ∧ r.2.sem = fun _ => 0)

def quiescent_GatedNormIdeal_pre_finite_gated [hGatedNormIdeal : Cert.GatedNormIdeal.Facts] [hPre_finite_gated : Cert.Pre_finite_gated.Facts] : Prop :=
  ∀ (m : (ℓ : Loc Cert.GatedNormIdeal.nD Cert.GatedNormIdeal.τ Cert.GatedNormIdeal.sig) → Buf (Elt Ideal) ℓ) (g : Dev Cert.GatedNormIdeal.nD → PrngReg), Pre_GatedNormIdeal_finite_gated m →
    θ_run (Cert.GatedNormIdeal.defs (F := Ideal)) (onTc (τ := Cert.GatedNormIdeal.τ) (Cert.GatedNormIdeal.main (F := Ideal))) ⟨m, fun _ => 0, g⟩ (fun r => (∀ c : Dev Cert.GatedNormIdeal.nD,
      r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
      ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
      ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
      ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3))
      ∧ r.2.sem = fun _ => 0)

def quiescent_GatedNormRefIdeal [hGatedNormRefIdeal : Cert.GatedNormRefIdeal.Facts] : Prop :=
  ∀ (m : (ℓ : Loc Cert.GatedNormRefIdeal.nD Cert.GatedNormRefIdeal.τ Cert.GatedNormRefIdeal.sig) → Buf (Elt Ideal) ℓ) (g : Dev Cert.GatedNormRefIdeal.nD → PrngReg), Pre_GatedNormRefIdeal m →
    θ_run (Cert.GatedNormRefIdeal.defs (F := Ideal)) (onTc (τ := Cert.GatedNormRefIdeal.τ) (Cert.GatedNormRefIdeal.main (F := Ideal))) ⟨m, fun _ => 0, g⟩ (fun r => (∀ c : Dev Cert.GatedNormRefIdeal.nD,
      r.2.mem ((c.tc : Thread Cert.GatedNormRefIdeal.nD Cert.GatedNormRefIdeal.τ).loc Cert.GatedNormRefIdeal.main_arg0) = m ((c.tc : Thread Cert.GatedNormRefIdeal.nD Cert.GatedNormRefIdeal.τ).loc Cert.GatedNormRefIdeal.main_arg0)
      ∧ r.2.mem ((c.tc : Thread Cert.GatedNormRefIdeal.nD Cert.GatedNormRefIdeal.τ).loc Cert.GatedNormRefIdeal.main_arg1) = m ((c.tc : Thread Cert.GatedNormRefIdeal.nD Cert.GatedNormRefIdeal.τ).loc Cert.GatedNormRefIdeal.main_arg1)
      ∧ r.2.mem ((c.tc : Thread Cert.GatedNormRefIdeal.nD Cert.GatedNormRefIdeal.τ).loc Cert.GatedNormRefIdeal.main_arg2) = m ((c.tc : Thread Cert.GatedNormRefIdeal.nD Cert.GatedNormRefIdeal.τ).loc Cert.GatedNormRefIdeal.main_arg2)
      ∧ r.2.mem ((c.tc : Thread Cert.GatedNormRefIdeal.nD Cert.GatedNormRefIdeal.τ).loc Cert.GatedNormRefIdeal.main_arg3) = m ((c.tc : Thread Cert.GatedNormRefIdeal.nD Cert.GatedNormRefIdeal.τ).loc Cert.GatedNormRefIdeal.main_arg3))
      ∧ r.2.sem = fun _ => 0)

def quiescent_GatedNormRefIdeal_pre_finite_gated [hGatedNormRefIdeal : Cert.GatedNormRefIdeal.Facts] [hPre_finite_gated : Cert.Pre_finite_gated.Facts] : Prop :=
  ∀ (m : (ℓ : Loc Cert.GatedNormRefIdeal.nD Cert.GatedNormRefIdeal.τ Cert.GatedNormRefIdeal.sig) → Buf (Elt Ideal) ℓ) (g : Dev Cert.GatedNormRefIdeal.nD → PrngReg), Pre_GatedNormRefIdeal_finite_gated m →
    θ_run (Cert.GatedNormRefIdeal.defs (F := Ideal)) (onTc (τ := Cert.GatedNormRefIdeal.τ) (Cert.GatedNormRefIdeal.main (F := Ideal))) ⟨m, fun _ => 0, g⟩ (fun r => (∀ c : Dev Cert.GatedNormRefIdeal.nD,
      r.2.mem ((c.tc : Thread Cert.GatedNormRefIdeal.nD Cert.GatedNormRefIdeal.τ).loc Cert.GatedNormRefIdeal.main_arg0) = m ((c.tc : Thread Cert.GatedNormRefIdeal.nD Cert.GatedNormRefIdeal.τ).loc Cert.GatedNormRefIdeal.main_arg0)
      ∧ r.2.mem ((c.tc : Thread Cert.GatedNormRefIdeal.nD Cert.GatedNormRefIdeal.τ).loc Cert.GatedNormRefIdeal.main_arg1) = m ((c.tc : Thread Cert.GatedNormRefIdeal.nD Cert.GatedNormRefIdeal.τ).loc Cert.GatedNormRefIdeal.main_arg1)
      ∧ r.2.mem ((c.tc : Thread Cert.GatedNormRefIdeal.nD Cert.GatedNormRefIdeal.τ).loc Cert.GatedNormRefIdeal.main_arg2) = m ((c.tc : Thread Cert.GatedNormRefIdeal.nD Cert.GatedNormRefIdeal.τ).loc Cert.GatedNormRefIdeal.main_arg2)
      ∧ r.2.mem ((c.tc : Thread Cert.GatedNormRefIdeal.nD Cert.GatedNormRefIdeal.τ).loc Cert.GatedNormRefIdeal.main_arg3) = m ((c.tc : Thread Cert.GatedNormRefIdeal.nD Cert.GatedNormRefIdeal.τ).loc Cert.GatedNormRefIdeal.main_arg3))
      ∧ r.2.sem = fun _ => 0)

def quiescent_NormKeep [hNormKeep : Cert.NormKeep.Facts] : Prop :=
  ∀ (m : (ℓ : Loc Cert.NormKeep.nD Cert.NormKeep.τ Cert.NormKeep.sig) → Buf (Elt Bits) ℓ) (g : Dev Cert.NormKeep.nD → PrngReg), Pre_NormKeep m →
    θ_run (Cert.NormKeep.defs (F := Bits)) (onTc (τ := Cert.NormKeep.τ) (Cert.NormKeep.main (F := Bits))) ⟨m, fun _ => 0, g⟩ (fun r => (∀ c : Dev Cert.NormKeep.nD,
      r.2.mem ((c.tc : Thread Cert.NormKeep.nD Cert.NormKeep.τ).loc Cert.NormKeep.main_arg0) = m ((c.tc : Thread Cert.NormKeep.nD Cert.NormKeep.τ).loc Cert.NormKeep.main_arg0)
      ∧ r.2.mem ((c.tc : Thread Cert.NormKeep.nD Cert.NormKeep.τ).loc Cert.NormKeep.main_arg1) = m ((c.tc : Thread Cert.NormKeep.nD Cert.NormKeep.τ).loc Cert.NormKeep.main_arg1)
      ∧ r.2.mem ((c.tc : Thread Cert.NormKeep.nD Cert.NormKeep.τ).loc Cert.NormKeep.main_arg2) = m ((c.tc : Thread Cert.NormKeep.nD Cert.NormKeep.τ).loc Cert.NormKeep.main_arg2)
      ∧ r.2.mem ((c.tc : Thread Cert.NormKeep.nD Cert.NormKeep.τ).loc Cert.NormKeep.main_arg3) = m ((c.tc : Thread Cert.NormKeep.nD Cert.NormKeep.τ).loc Cert.NormKeep.main_arg3))
      ∧ r.2.sem = fun _ => 0)

def quiescent_NormKeepIdeal [hNormKeepIdeal : Cert.NormKeepIdeal.Facts] : Prop :=
  ∀ (m : (ℓ : Loc Cert.NormKeepIdeal.nD Cert.NormKeepIdeal.τ Cert.NormKeepIdeal.sig) → Buf (Elt Ideal) ℓ) (g : Dev Cert.NormKeepIdeal.nD → PrngReg), Pre_NormKeepIdeal m →
    θ_run (Cert.NormKeepIdeal.defs (F := Ideal)) (onTc (τ := Cert.NormKeepIdeal.τ) (Cert.NormKeepIdeal.main (F := Ideal))) ⟨m, fun _ => 0, g⟩ (fun r => (∀ c : Dev Cert.NormKeepIdeal.nD,
      r.2.mem ((c.tc : Thread Cert.NormKeepIdeal.nD Cert.NormKeepIdeal.τ).loc Cert.NormKeepIdeal.main_arg0) = m ((c.tc : Thread Cert.NormKeepIdeal.nD Cert.NormKeepIdeal.τ).loc Cert.NormKeepIdeal.main_arg0)
      ∧ r.2.mem ((c.tc : Thread Cert.NormKeepIdeal.nD Cert.NormKeepIdeal.τ).loc Cert.NormKeepIdeal.main_arg1) = m ((c.tc : Thread Cert.NormKeepIdeal.nD Cert.NormKeepIdeal.τ).loc Cert.NormKeepIdeal.main_arg1)
      ∧ r.2.mem ((c.tc : Thread Cert.NormKeepIdeal.nD Cert.NormKeepIdeal.τ).loc Cert.NormKeepIdeal.main_arg2) = m ((c.tc : Thread Cert.NormKeepIdeal.nD Cert.NormKeepIdeal.τ).loc Cert.NormKeepIdeal.main_arg2)
      ∧ r.2.mem ((c.tc : Thread Cert.NormKeepIdeal.nD Cert.NormKeepIdeal.τ).loc Cert.NormKeepIdeal.main_arg3) = m ((c.tc : Thread Cert.NormKeepIdeal.nD Cert.NormKeepIdeal.τ).loc Cert.NormKeepIdeal.main_arg3))
      ∧ r.2.sem = fun _ => 0)

def quiescent_NormKeepIdeal_pre_finite_norm_keep [hNormKeepIdeal : Cert.NormKeepIdeal.Facts] [hPre_finite_norm_keep : Cert.Pre_finite_norm_keep.Facts] : Prop :=
  ∀ (m : (ℓ : Loc Cert.NormKeepIdeal.nD Cert.NormKeepIdeal.τ Cert.NormKeepIdeal.sig) → Buf (Elt Ideal) ℓ) (g : Dev Cert.NormKeepIdeal.nD → PrngReg), Pre_NormKeepIdeal_finite_norm_keep m →
    θ_run (Cert.NormKeepIdeal.defs (F := Ideal)) (onTc (τ := Cert.NormKeepIdeal.τ) (Cert.NormKeepIdeal.main (F := Ideal))) ⟨m, fun _ => 0, g⟩ (fun r => (∀ c : Dev Cert.NormKeepIdeal.nD,
      r.2.mem ((c.tc : Thread Cert.NormKeepIdeal.nD Cert.NormKeepIdeal.τ).loc Cert.NormKeepIdeal.main_arg0) = m ((c.tc : Thread Cert.NormKeepIdeal.nD Cert.NormKeepIdeal.τ).loc Cert.NormKeepIdeal.main_arg0)
      ∧ r.2.mem ((c.tc : Thread Cert.NormKeepIdeal.nD Cert.NormKeepIdeal.τ).loc Cert.NormKeepIdeal.main_arg1) = m ((c.tc : Thread Cert.NormKeepIdeal.nD Cert.NormKeepIdeal.τ).loc Cert.NormKeepIdeal.main_arg1)
      ∧ r.2.mem ((c.tc : Thread Cert.NormKeepIdeal.nD Cert.NormKeepIdeal.τ).loc Cert.NormKeepIdeal.main_arg2) = m ((c.tc : Thread Cert.NormKeepIdeal.nD Cert.NormKeepIdeal.τ).loc Cert.NormKeepIdeal.main_arg2)
      ∧ r.2.mem ((c.tc : Thread Cert.NormKeepIdeal.nD Cert.NormKeepIdeal.τ).loc Cert.NormKeepIdeal.main_arg3) = m ((c.tc : Thread Cert.NormKeepIdeal.nD Cert.NormKeepIdeal.τ).loc Cert.NormKeepIdeal.main_arg3))
      ∧ r.2.sem = fun _ => 0)

def quiescent_NormKeepRefIdeal [hNormKeepRefIdeal : Cert.NormKeepRefIdeal.Facts] : Prop :=
  ∀ (m : (ℓ : Loc Cert.NormKeepRefIdeal.nD Cert.NormKeepRefIdeal.τ Cert.NormKeepRefIdeal.sig) → Buf (Elt Ideal) ℓ) (g : Dev Cert.NormKeepRefIdeal.nD → PrngReg), Pre_NormKeepRefIdeal m →
    θ_run (Cert.NormKeepRefIdeal.defs (F := Ideal)) (onTc (τ := Cert.NormKeepRefIdeal.τ) (Cert.NormKeepRefIdeal.main (F := Ideal))) ⟨m, fun _ => 0, g⟩ (fun r => (∀ c : Dev Cert.NormKeepRefIdeal.nD,
      r.2.mem ((c.tc : Thread Cert.NormKeepRefIdeal.nD Cert.NormKeepRefIdeal.τ).loc Cert.NormKeepRefIdeal.main_arg0) = m ((c.tc : Thread Cert.NormKeepRefIdeal.nD Cert.NormKeepRefIdeal.τ).loc Cert.NormKeepRefIdeal.main_arg0)
      ∧ r.2.mem ((c.tc : Thread Cert.NormKeepRefIdeal.nD Cert.NormKeepRefIdeal.τ).loc Cert.NormKeepRefIdeal.main_arg1) = m ((c.tc : Thread Cert.NormKeepRefIdeal.nD Cert.NormKeepRefIdeal.τ).loc Cert.NormKeepRefIdeal.main_arg1)
      ∧ r.2.mem ((c.tc : Thread Cert.NormKeepRefIdeal.nD Cert.NormKeepRefIdeal.τ).loc Cert.NormKeepRefIdeal.main_arg2) = m ((c.tc : Thread Cert.NormKeepRefIdeal.nD Cert.NormKeepRefIdeal.τ).loc Cert.NormKeepRefIdeal.main_arg2)
      ∧ r.2.mem ((c.tc : Thread Cert.NormKeepRefIdeal.nD Cert.NormKeepRefIdeal.τ).loc Cert.NormKeepRefIdeal.main_arg3) = m ((c.tc : Thread Cert.NormKeepRefIdeal.nD Cert.NormKeepRefIdeal.τ).loc Cert.NormKeepRefIdeal.main_arg3))
      ∧ r.2.sem = fun _ => 0)

def quiescent_NormKeepRefIdeal_pre_finite_norm_keep [hNormKeepRefIdeal : Cert.NormKeepRefIdeal.Facts] [hPre_finite_norm_keep : Cert.Pre_finite_norm_keep.Facts] : Prop :=
  ∀ (m : (ℓ : Loc Cert.NormKeepRefIdeal.nD Cert.NormKeepRefIdeal.τ Cert.NormKeepRefIdeal.sig) → Buf (Elt Ideal) ℓ) (g : Dev Cert.NormKeepRefIdeal.nD → PrngReg), Pre_NormKeepRefIdeal_finite_norm_keep m →
    θ_run (Cert.NormKeepRefIdeal.defs (F := Ideal)) (onTc (τ := Cert.NormKeepRefIdeal.τ) (Cert.NormKeepRefIdeal.main (F := Ideal))) ⟨m, fun _ => 0, g⟩ (fun r => (∀ c : Dev Cert.NormKeepRefIdeal.nD,
      r.2.mem ((c.tc : Thread Cert.NormKeepRefIdeal.nD Cert.NormKeepRefIdeal.τ).loc Cert.NormKeepRefIdeal.main_arg0) = m ((c.tc : Thread Cert.NormKeepRefIdeal.nD Cert.NormKeepRefIdeal.τ).loc Cert.NormKeepRefIdeal.main_arg0)
      ∧ r.2.mem ((c.tc : Thread Cert.NormKeepRefIdeal.nD Cert.NormKeepRefIdeal.τ).loc Cert.NormKeepRefIdeal.main_arg1) = m ((c.tc : Thread Cert.NormKeepRefIdeal.nD Cert.NormKeepRefIdeal.τ).loc Cert.NormKeepRefIdeal.main_arg1)
      ∧ r.2.mem ((c.tc : Thread Cert.NormKeepRefIdeal.nD Cert.NormKeepRefIdeal.τ).loc Cert.NormKeepRefIdeal.main_arg2) = m ((c.tc : Thread Cert.NormKeepRefIdeal.nD Cert.NormKeepRefIdeal.τ).loc Cert.NormKeepRefIdeal.main_arg2)
      ∧ r.2.mem ((c.tc : Thread Cert.NormKeepRefIdeal.nD Cert.NormKeepRefIdeal.τ).loc Cert.NormKeepRefIdeal.main_arg3) = m ((c.tc : Thread Cert.NormKeepRefIdeal.nD Cert.NormKeepRefIdeal.τ).loc Cert.NormKeepRefIdeal.main_arg3))
      ∧ r.2.sem = fun _ => 0)

def quiescent_PrepF [hPrepF : Cert.PrepF.Facts] : Prop :=
  ∀ (m : (ℓ : Loc Cert.PrepF.nD Cert.PrepF.τ Cert.PrepF.sig) → Buf (Elt Bits) ℓ) (g : Dev Cert.PrepF.nD → PrngReg), Pre_PrepF m →
    θ_run (Cert.PrepF.defs (F := Bits)) (onTc (τ := Cert.PrepF.τ) (Cert.PrepF.main (F := Bits))) ⟨m, fun _ => 0, g⟩ (fun r => (∀ c : Dev Cert.PrepF.nD,
      r.2.mem ((c.tc : Thread Cert.PrepF.nD Cert.PrepF.τ).loc Cert.PrepF.main_arg0) = m ((c.tc : Thread Cert.PrepF.nD Cert.PrepF.τ).loc Cert.PrepF.main_arg0)
      ∧ r.2.mem ((c.tc : Thread Cert.PrepF.nD Cert.PrepF.τ).loc Cert.PrepF.main_arg1) = m ((c.tc : Thread Cert.PrepF.nD Cert.PrepF.τ).loc Cert.PrepF.main_arg1)
      ∧ r.2.mem ((c.tc : Thread Cert.PrepF.nD Cert.PrepF.τ).loc Cert.PrepF.main_arg2) = m ((c.tc : Thread Cert.PrepF.nD Cert.PrepF.τ).loc Cert.PrepF.main_arg2)
      ∧ r.2.mem ((c.tc : Thread Cert.PrepF.nD Cert.PrepF.τ).loc Cert.PrepF.main_arg3) = m ((c.tc : Thread Cert.PrepF.nD Cert.PrepF.τ).loc Cert.PrepF.main_arg3)
      ∧ r.2.mem ((c.tc : Thread Cert.PrepF.nD Cert.PrepF.τ).loc Cert.PrepF.main_arg4) = m ((c.tc : Thread Cert.PrepF.nD Cert.PrepF.τ).loc Cert.PrepF.main_arg4)
      ∧ r.2.mem ((c.tc : Thread Cert.PrepF.nD Cert.PrepF.τ).loc Cert.PrepF.main_arg5) = m ((c.tc : Thread Cert.PrepF.nD Cert.PrepF.τ).loc Cert.PrepF.main_arg5)
      ∧ r.2.mem ((c.tc : Thread Cert.PrepF.nD Cert.PrepF.τ).loc Cert.PrepF.main_arg6) = m ((c.tc : Thread Cert.PrepF.nD Cert.PrepF.τ).loc Cert.PrepF.main_arg6))
      ∧ r.2.sem = fun _ => 0)

def quiescent_PrepFIdeal [hPrepFIdeal : Cert.PrepFIdeal.Facts] : Prop :=
  ∀ (m : (ℓ : Loc Cert.PrepFIdeal.nD Cert.PrepFIdeal.τ Cert.PrepFIdeal.sig) → Buf (Elt Ideal) ℓ) (g : Dev Cert.PrepFIdeal.nD → PrngReg), Pre_PrepFIdeal m →
    θ_run (Cert.PrepFIdeal.defs (F := Ideal)) (onTc (τ := Cert.PrepFIdeal.τ) (Cert.PrepFIdeal.main (F := Ideal))) ⟨m, fun _ => 0, g⟩ (fun r => (∀ c : Dev Cert.PrepFIdeal.nD,
      r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
      ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
      ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
      ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
      ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4)
      ∧ r.2.mem ((c.tc : Thread Cert.PrepFIdeal.nD Cert.PrepFIdeal.τ).loc Cert.PrepFIdeal.main_arg5) = m ((c.tc : Thread Cert.PrepFIdeal.nD Cert.PrepFIdeal.τ).loc Cert.PrepFIdeal.main_arg5)
      ∧ r.2.mem ((c.tc : Thread Cert.PrepFIdeal.nD Cert.PrepFIdeal.τ).loc Cert.PrepFIdeal.main_arg6) = m ((c.tc : Thread Cert.PrepFIdeal.nD Cert.PrepFIdeal.τ).loc Cert.PrepFIdeal.main_arg6))
      ∧ r.2.sem = fun _ => 0)

def quiescent_PrepFIdeal_pre_smooth_gates [hPrepFIdeal : Cert.PrepFIdeal.Facts] [hPre_smooth_gates : Cert.Pre_smooth_gates.Facts] : Prop :=
  ∀ (m : (ℓ : Loc Cert.PrepFIdeal.nD Cert.PrepFIdeal.τ Cert.PrepFIdeal.sig) → Buf (Elt Ideal) ℓ) (g : Dev Cert.PrepFIdeal.nD → PrngReg), Pre_PrepFIdeal_smooth_gates m →
    θ_run (Cert.PrepFIdeal.defs (F := Ideal)) (onTc (τ := Cert.PrepFIdeal.τ) (Cert.PrepFIdeal.main (F := Ideal))) ⟨m, fun _ => 0, g⟩ (fun r => (∀ c : Dev Cert.PrepFIdeal.nD,
      r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
      ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
      ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
      ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
      ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4)
      ∧ r.2.mem ((c.tc : Thread Cert.PrepFIdeal.nD Cert.PrepFIdeal.τ).loc Cert.PrepFIdeal.main_arg5) = m ((c.tc : Thread Cert.PrepFIdeal.nD Cert.PrepFIdeal.τ).loc Cert.PrepFIdeal.main_arg5)
      ∧ r.2.mem ((c.tc : Thread Cert.PrepFIdeal.nD Cert.PrepFIdeal.τ).loc Cert.PrepFIdeal.main_arg6) = m ((c.tc : Thread Cert.PrepFIdeal.nD Cert.PrepFIdeal.τ).loc Cert.PrepFIdeal.main_arg6))
      ∧ r.2.sem = fun _ => 0)

def quiescent_PrepFRefIdeal [hPrepFRefIdeal : Cert.PrepFRefIdeal.Facts] : Prop :=
  ∀ (m : (ℓ : Loc Cert.PrepFRefIdeal.nD Cert.PrepFRefIdeal.τ Cert.PrepFRefIdeal.sig) → Buf (Elt Ideal) ℓ) (g : Dev Cert.PrepFRefIdeal.nD → PrngReg), Pre_PrepFRefIdeal m →
    θ_run (Cert.PrepFRefIdeal.defs (F := Ideal)) (onTc (τ := Cert.PrepFRefIdeal.τ) (Cert.PrepFRefIdeal.main (F := Ideal))) ⟨m, fun _ => 0, g⟩ (fun r => (∀ c : Dev Cert.PrepFRefIdeal.nD,
      r.2.mem ((c.tc : Thread Cert.PrepFRefIdeal.nD Cert.PrepFRefIdeal.τ).loc Cert.PrepFRefIdeal.main_arg0) = m ((c.tc : Thread Cert.PrepFRefIdeal.nD Cert.PrepFRefIdeal.τ).loc Cert.PrepFRefIdeal.main_arg0)
      ∧ r.2.mem ((c.tc : Thread Cert.PrepFRefIdeal.nD Cert.PrepFRefIdeal.τ).loc Cert.PrepFRefIdeal.main_arg1) = m ((c.tc : Thread Cert.PrepFRefIdeal.nD Cert.PrepFRefIdeal.τ).loc Cert.PrepFRefIdeal.main_arg1)
      ∧ r.2.mem ((c.tc : Thread Cert.PrepFRefIdeal.nD Cert.PrepFRefIdeal.τ).loc Cert.PrepFRefIdeal.main_arg2) = m ((c.tc : Thread Cert.PrepFRefIdeal.nD Cert.PrepFRefIdeal.τ).loc Cert.PrepFRefIdeal.main_arg2)
      ∧ r.2.mem ((c.tc : Thread Cert.PrepFRefIdeal.nD Cert.PrepFRefIdeal.τ).loc Cert.PrepFRefIdeal.main_arg3) = m ((c.tc : Thread Cert.PrepFRefIdeal.nD Cert.PrepFRefIdeal.τ).loc Cert.PrepFRefIdeal.main_arg3)
      ∧ r.2.mem ((c.tc : Thread Cert.PrepFRefIdeal.nD Cert.PrepFRefIdeal.τ).loc Cert.PrepFRefIdeal.main_arg4) = m ((c.tc : Thread Cert.PrepFRefIdeal.nD Cert.PrepFRefIdeal.τ).loc Cert.PrepFRefIdeal.main_arg4)
      ∧ r.2.mem ((c.tc : Thread Cert.PrepFRefIdeal.nD Cert.PrepFRefIdeal.τ).loc Cert.PrepFRefIdeal.main_arg5) = m ((c.tc : Thread Cert.PrepFRefIdeal.nD Cert.PrepFRefIdeal.τ).loc Cert.PrepFRefIdeal.main_arg5)
      ∧ r.2.mem ((c.tc : Thread Cert.PrepFRefIdeal.nD Cert.PrepFRefIdeal.τ).loc Cert.PrepFRefIdeal.main_arg6) = m ((c.tc : Thread Cert.PrepFRefIdeal.nD Cert.PrepFRefIdeal.τ).loc Cert.PrepFRefIdeal.main_arg6))
      ∧ r.2.sem = fun _ => 0)

def quiescent_PrepFRefIdeal_pre_smooth_gates [hPrepFRefIdeal : Cert.PrepFRefIdeal.Facts] [hPre_smooth_gates : Cert.Pre_smooth_gates.Facts] : Prop :=
  ∀ (m : (ℓ : Loc Cert.PrepFRefIdeal.nD Cert.PrepFRefIdeal.τ Cert.PrepFRefIdeal.sig) → Buf (Elt Ideal) ℓ) (g : Dev Cert.PrepFRefIdeal.nD → PrngReg), Pre_PrepFRefIdeal_smooth_gates m →
    θ_run (Cert.PrepFRefIdeal.defs (F := Ideal)) (onTc (τ := Cert.PrepFRefIdeal.τ) (Cert.PrepFRefIdeal.main (F := Ideal))) ⟨m, fun _ => 0, g⟩ (fun r => (∀ c : Dev Cert.PrepFRefIdeal.nD,
      r.2.mem ((c.tc : Thread Cert.PrepFRefIdeal.nD Cert.PrepFRefIdeal.τ).loc Cert.PrepFRefIdeal.main_arg0) = m ((c.tc : Thread Cert.PrepFRefIdeal.nD Cert.PrepFRefIdeal.τ).loc Cert.PrepFRefIdeal.main_arg0)
      ∧ r.2.mem ((c.tc : Thread Cert.PrepFRefIdeal.nD Cert.PrepFRefIdeal.τ).loc Cert.PrepFRefIdeal.main_arg1) = m ((c.tc : Thread Cert.PrepFRefIdeal.nD Cert.PrepFRefIdeal.τ).loc Cert.PrepFRefIdeal.main_arg1)
      ∧ r.2.mem ((c.tc : Thread Cert.PrepFRefIdeal.nD Cert.PrepFRefIdeal.τ).loc Cert.PrepFRefIdeal.main_arg2) = m ((c.tc : Thread Cert.PrepFRefIdeal.nD Cert.PrepFRefIdeal.τ).loc Cert.PrepFRefIdeal.main_arg2)
      ∧ r.2.mem ((c.tc : Thread Cert.PrepFRefIdeal.nD Cert.PrepFRefIdeal.τ).loc Cert.PrepFRefIdeal.main_arg3) = m ((c.tc : Thread Cert.PrepFRefIdeal.nD Cert.PrepFRefIdeal.τ).loc Cert.PrepFRefIdeal.main_arg3)
      ∧ r.2.mem ((c.tc : Thread Cert.PrepFRefIdeal.nD Cert.PrepFRefIdeal.τ).loc Cert.PrepFRefIdeal.main_arg4) = m ((c.tc : Thread Cert.PrepFRefIdeal.nD Cert.PrepFRefIdeal.τ).loc Cert.PrepFRefIdeal.main_arg4)
      ∧ r.2.mem ((c.tc : Thread Cert.PrepFRefIdeal.nD Cert.PrepFRefIdeal.τ).loc Cert.PrepFRefIdeal.main_arg5) = m ((c.tc : Thread Cert.PrepFRefIdeal.nD Cert.PrepFRefIdeal.τ).loc Cert.PrepFRefIdeal.main_arg5)
      ∧ r.2.mem ((c.tc : Thread Cert.PrepFRefIdeal.nD Cert.PrepFRefIdeal.τ).loc Cert.PrepFRefIdeal.main_arg6) = m ((c.tc : Thread Cert.PrepFRefIdeal.nD Cert.PrepFRefIdeal.τ).loc Cert.PrepFRefIdeal.main_arg6))
      ∧ r.2.sem = fun _ => 0)

def quiescent_PrepB [hPrepB : Cert.PrepB.Facts] : Prop :=
  ∀ (m : (ℓ : Loc Cert.PrepB.nD Cert.PrepB.τ Cert.PrepB.sig) → Buf (Elt Bits) ℓ) (g : Dev Cert.PrepB.nD → PrngReg), Pre_PrepB m →
    θ_run (Cert.PrepB.defs (F := Bits)) (onTc (τ := Cert.PrepB.τ) (Cert.PrepB.main (F := Bits))) ⟨m, fun _ => 0, g⟩ (fun r => (∀ c : Dev Cert.PrepB.nD,
      r.2.mem ((c.tc : Thread Cert.PrepB.nD Cert.PrepB.τ).loc Cert.PrepB.main_arg0) = m ((c.tc : Thread Cert.PrepB.nD Cert.PrepB.τ).loc Cert.PrepB.main_arg0)
      ∧ r.2.mem ((c.tc : Thread Cert.PrepB.nD Cert.PrepB.τ).loc Cert.PrepB.main_arg1) = m ((c.tc : Thread Cert.PrepB.nD Cert.PrepB.τ).loc Cert.PrepB.main_arg1)
      ∧ r.2.mem ((c.tc : Thread Cert.PrepB.nD Cert.PrepB.τ).loc Cert.PrepB.main_arg2) = m ((c.tc : Thread Cert.PrepB.nD Cert.PrepB.τ).loc Cert.PrepB.main_arg2)
      ∧ r.2.mem ((c.tc : Thread Cert.PrepB.nD Cert.PrepB.τ).loc Cert.PrepB.main_arg3) = m ((c.tc : Thread Cert.PrepB.nD Cert.PrepB.τ).loc Cert.PrepB.main_arg3)
      ∧ r.2.mem ((c.tc : Thread Cert.PrepB.nD Cert.PrepB.τ).loc Cert.PrepB.main_arg4) = m ((c.tc : Thread Cert.PrepB.nD Cert.PrepB.τ).loc Cert.PrepB.main_arg4)
      ∧ r.2.mem ((c.tc : Thread Cert.PrepB.nD Cert.PrepB.τ).loc Cert.PrepB.main_arg5) = m ((c.tc : Thread Cert.PrepB.nD Cert.PrepB.τ).loc Cert.PrepB.main_arg5)
      ∧ r.2.mem ((c.tc : Thread Cert.PrepB.nD Cert.PrepB.τ).loc Cert.PrepB.main_arg6) = m ((c.tc : Thread Cert.PrepB.nD Cert.PrepB.τ).loc Cert.PrepB.main_arg6))
      ∧ r.2.sem = fun _ => 0)

def quiescent_PrepBIdeal [hPrepBIdeal : Cert.PrepBIdeal.Facts] : Prop :=
  ∀ (m : (ℓ : Loc Cert.PrepBIdeal.nD Cert.PrepBIdeal.τ Cert.PrepBIdeal.sig) → Buf (Elt Ideal) ℓ) (g : Dev Cert.PrepBIdeal.nD → PrngReg), Pre_PrepBIdeal m →
    θ_run (Cert.PrepBIdeal.defs (F := Ideal)) (onTc (τ := Cert.PrepBIdeal.τ) (Cert.PrepBIdeal.main (F := Ideal))) ⟨m, fun _ => 0, g⟩ (fun r => (∀ c : Dev Cert.PrepBIdeal.nD,
      r.2.mem ((c.tc : Thread Cert.PrepBIdeal.nD Cert.PrepBIdeal.τ).loc Cert.PrepBIdeal.main_arg0) = m ((c.tc : Thread Cert.PrepBIdeal.nD Cert.PrepBIdeal.τ).loc Cert.PrepBIdeal.main_arg0)
      ∧ r.2.mem ((c.tc : Thread Cert.PrepBIdeal.nD Cert.PrepBIdeal.τ).loc Cert.PrepBIdeal.main_arg1) = m ((c.tc : Thread Cert.PrepBIdeal.nD Cert.PrepBIdeal.τ).loc Cert.PrepBIdeal.main_arg1)
      ∧ r.2.mem ((c.tc : Thread Cert.PrepBIdeal.nD Cert.PrepBIdeal.τ).loc Cert.PrepBIdeal.main_arg2) = m ((c.tc : Thread Cert.PrepBIdeal.nD Cert.PrepBIdeal.τ).loc Cert.PrepBIdeal.main_arg2)
      ∧ r.2.mem ((c.tc : Thread Cert.PrepBIdeal.nD Cert.PrepBIdeal.τ).loc Cert.PrepBIdeal.main_arg3) = m ((c.tc : Thread Cert.PrepBIdeal.nD Cert.PrepBIdeal.τ).loc Cert.PrepBIdeal.main_arg3)
      ∧ r.2.mem ((c.tc : Thread Cert.PrepBIdeal.nD Cert.PrepBIdeal.τ).loc Cert.PrepBIdeal.main_arg4) = m ((c.tc : Thread Cert.PrepBIdeal.nD Cert.PrepBIdeal.τ).loc Cert.PrepBIdeal.main_arg4)
      ∧ r.2.mem ((c.tc : Thread Cert.PrepBIdeal.nD Cert.PrepBIdeal.τ).loc Cert.PrepBIdeal.main_arg5) = m ((c.tc : Thread Cert.PrepBIdeal.nD Cert.PrepBIdeal.τ).loc Cert.PrepBIdeal.main_arg5)
      ∧ r.2.mem ((c.tc : Thread Cert.PrepBIdeal.nD Cert.PrepBIdeal.τ).loc Cert.PrepBIdeal.main_arg6) = m ((c.tc : Thread Cert.PrepBIdeal.nD Cert.PrepBIdeal.τ).loc Cert.PrepBIdeal.main_arg6))
      ∧ r.2.sem = fun _ => 0)

def quiescent_PrepBIdeal_pre_smooth_gates [hPrepBIdeal : Cert.PrepBIdeal.Facts] [hPre_smooth_gates : Cert.Pre_smooth_gates.Facts] : Prop :=
  ∀ (m : (ℓ : Loc Cert.PrepBIdeal.nD Cert.PrepBIdeal.τ Cert.PrepBIdeal.sig) → Buf (Elt Ideal) ℓ) (g : Dev Cert.PrepBIdeal.nD → PrngReg), Pre_PrepBIdeal_smooth_gates m →
    θ_run (Cert.PrepBIdeal.defs (F := Ideal)) (onTc (τ := Cert.PrepBIdeal.τ) (Cert.PrepBIdeal.main (F := Ideal))) ⟨m, fun _ => 0, g⟩ (fun r => (∀ c : Dev Cert.PrepBIdeal.nD,
      r.2.mem ((c.tc : Thread Cert.PrepBIdeal.nD Cert.PrepBIdeal.τ).loc Cert.PrepBIdeal.main_arg0) = m ((c.tc : Thread Cert.PrepBIdeal.nD Cert.PrepBIdeal.τ).loc Cert.PrepBIdeal.main_arg0)
      ∧ r.2.mem ((c.tc : Thread Cert.PrepBIdeal.nD Cert.PrepBIdeal.τ).loc Cert.PrepBIdeal.main_arg1) = m ((c.tc : Thread Cert.PrepBIdeal.nD Cert.PrepBIdeal.τ).loc Cert.PrepBIdeal.main_arg1)
      ∧ r.2.mem ((c.tc : Thread Cert.PrepBIdeal.nD Cert.PrepBIdeal.τ).loc Cert.PrepBIdeal.main_arg2) = m ((c.tc : Thread Cert.PrepBIdeal.nD Cert.PrepBIdeal.τ).loc Cert.PrepBIdeal.main_arg2)
      ∧ r.2.mem ((c.tc : Thread Cert.PrepBIdeal.nD Cert.PrepBIdeal.τ).loc Cert.PrepBIdeal.main_arg3) = m ((c.tc : Thread Cert.PrepBIdeal.nD Cert.PrepBIdeal.τ).loc Cert.PrepBIdeal.main_arg3)
      ∧ r.2.mem ((c.tc : Thread Cert.PrepBIdeal.nD Cert.PrepBIdeal.τ).loc Cert.PrepBIdeal.main_arg4) = m ((c.tc : Thread Cert.PrepBIdeal.nD Cert.PrepBIdeal.τ).loc Cert.PrepBIdeal.main_arg4)
      ∧ r.2.mem ((c.tc : Thread Cert.PrepBIdeal.nD Cert.PrepBIdeal.τ).loc Cert.PrepBIdeal.main_arg5) = m ((c.tc : Thread Cert.PrepBIdeal.nD Cert.PrepBIdeal.τ).loc Cert.PrepBIdeal.main_arg5)
      ∧ r.2.mem ((c.tc : Thread Cert.PrepBIdeal.nD Cert.PrepBIdeal.τ).loc Cert.PrepBIdeal.main_arg6) = m ((c.tc : Thread Cert.PrepBIdeal.nD Cert.PrepBIdeal.τ).loc Cert.PrepBIdeal.main_arg6))
      ∧ r.2.sem = fun _ => 0)

def quiescent_PrepBRefIdeal [hPrepBRefIdeal : Cert.PrepBRefIdeal.Facts] : Prop :=
  ∀ (m : (ℓ : Loc Cert.PrepBRefIdeal.nD Cert.PrepBRefIdeal.τ Cert.PrepBRefIdeal.sig) → Buf (Elt Ideal) ℓ) (g : Dev Cert.PrepBRefIdeal.nD → PrngReg), Pre_PrepBRefIdeal m →
    θ_run (Cert.PrepBRefIdeal.defs (F := Ideal)) (onTc (τ := Cert.PrepBRefIdeal.τ) (Cert.PrepBRefIdeal.main (F := Ideal))) ⟨m, fun _ => 0, g⟩ (fun r => (∀ c : Dev Cert.PrepBRefIdeal.nD,
      r.2.mem ((c.tc : Thread Cert.PrepBRefIdeal.nD Cert.PrepBRefIdeal.τ).loc Cert.PrepBRefIdeal.main_arg0) = m ((c.tc : Thread Cert.PrepBRefIdeal.nD Cert.PrepBRefIdeal.τ).loc Cert.PrepBRefIdeal.main_arg0)
      ∧ r.2.mem ((c.tc : Thread Cert.PrepBRefIdeal.nD Cert.PrepBRefIdeal.τ).loc Cert.PrepBRefIdeal.main_arg1) = m ((c.tc : Thread Cert.PrepBRefIdeal.nD Cert.PrepBRefIdeal.τ).loc Cert.PrepBRefIdeal.main_arg1)
      ∧ r.2.mem ((c.tc : Thread Cert.PrepBRefIdeal.nD Cert.PrepBRefIdeal.τ).loc Cert.PrepBRefIdeal.main_arg2) = m ((c.tc : Thread Cert.PrepBRefIdeal.nD Cert.PrepBRefIdeal.τ).loc Cert.PrepBRefIdeal.main_arg2)
      ∧ r.2.mem ((c.tc : Thread Cert.PrepBRefIdeal.nD Cert.PrepBRefIdeal.τ).loc Cert.PrepBRefIdeal.main_arg3) = m ((c.tc : Thread Cert.PrepBRefIdeal.nD Cert.PrepBRefIdeal.τ).loc Cert.PrepBRefIdeal.main_arg3)
      ∧ r.2.mem ((c.tc : Thread Cert.PrepBRefIdeal.nD Cert.PrepBRefIdeal.τ).loc Cert.PrepBRefIdeal.main_arg4) = m ((c.tc : Thread Cert.PrepBRefIdeal.nD Cert.PrepBRefIdeal.τ).loc Cert.PrepBRefIdeal.main_arg4)
      ∧ r.2.mem ((c.tc : Thread Cert.PrepBRefIdeal.nD Cert.PrepBRefIdeal.τ).loc Cert.PrepBRefIdeal.main_arg5) = m ((c.tc : Thread Cert.PrepBRefIdeal.nD Cert.PrepBRefIdeal.τ).loc Cert.PrepBRefIdeal.main_arg5)
      ∧ r.2.mem ((c.tc : Thread Cert.PrepBRefIdeal.nD Cert.PrepBRefIdeal.τ).loc Cert.PrepBRefIdeal.main_arg6) = m ((c.tc : Thread Cert.PrepBRefIdeal.nD Cert.PrepBRefIdeal.τ).loc Cert.PrepBRefIdeal.main_arg6))
      ∧ r.2.sem = fun _ => 0)

def quiescent_PrepBRefIdeal_pre_smooth_gates [hPrepBRefIdeal : Cert.PrepBRefIdeal.Facts] [hPre_smooth_gates : Cert.Pre_smooth_gates.Facts] : Prop :=
  ∀ (m : (ℓ : Loc Cert.PrepBRefIdeal.nD Cert.PrepBRefIdeal.τ Cert.PrepBRefIdeal.sig) → Buf (Elt Ideal) ℓ) (g : Dev Cert.PrepBRefIdeal.nD → PrngReg), Pre_PrepBRefIdeal_smooth_gates m →
    θ_run (Cert.PrepBRefIdeal.defs (F := Ideal)) (onTc (τ := Cert.PrepBRefIdeal.τ) (Cert.PrepBRefIdeal.main (F := Ideal))) ⟨m, fun _ => 0, g⟩ (fun r => (∀ c : Dev Cert.PrepBRefIdeal.nD,
      r.2.mem ((c.tc : Thread Cert.PrepBRefIdeal.nD Cert.PrepBRefIdeal.τ).loc Cert.PrepBRefIdeal.main_arg0) = m ((c.tc : Thread Cert.PrepBRefIdeal.nD Cert.PrepBRefIdeal.τ).loc Cert.PrepBRefIdeal.main_arg0)
      ∧ r.2.mem ((c.tc : Thread Cert.PrepBRefIdeal.nD Cert.PrepBRefIdeal.τ).loc Cert.PrepBRefIdeal.main_arg1) = m ((c.tc : Thread Cert.PrepBRefIdeal.nD Cert.PrepBRefIdeal.τ).loc Cert.PrepBRefIdeal.main_arg1)
      ∧ r.2.mem ((c.tc : Thread Cert.PrepBRefIdeal.nD Cert.PrepBRefIdeal.τ).loc Cert.PrepBRefIdeal.main_arg2) = m ((c.tc : Thread Cert.PrepBRefIdeal.nD Cert.PrepBRefIdeal.τ).loc Cert.PrepBRefIdeal.main_arg2)
      ∧ r.2.mem ((c.tc : Thread Cert.PrepBRefIdeal.nD Cert.PrepBRefIdeal.τ).loc Cert.PrepBRefIdeal.main_arg3) = m ((c.tc : Thread Cert.PrepBRefIdeal.nD Cert.PrepBRefIdeal.τ).loc Cert.PrepBRefIdeal.main_arg3)
      ∧ r.2.mem ((c.tc : Thread Cert.PrepBRefIdeal.nD Cert.PrepBRefIdeal.τ).loc Cert.PrepBRefIdeal.main_arg4) = m ((c.tc : Thread Cert.PrepBRefIdeal.nD Cert.PrepBRefIdeal.τ).loc Cert.PrepBRefIdeal.main_arg4)
      ∧ r.2.mem ((c.tc : Thread Cert.PrepBRefIdeal.nD Cert.PrepBRefIdeal.τ).loc Cert.PrepBRefIdeal.main_arg5) = m ((c.tc : Thread Cert.PrepBRefIdeal.nD Cert.PrepBRefIdeal.τ).loc Cert.PrepBRefIdeal.main_arg5)
      ∧ r.2.mem ((c.tc : Thread Cert.PrepBRefIdeal.nD Cert.PrepBRefIdeal.τ).loc Cert.PrepBRefIdeal.main_arg6) = m ((c.tc : Thread Cert.PrepBRefIdeal.nD Cert.PrepBRefIdeal.τ).loc Cert.PrepBRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxIdeal_pre_finite_ffn [hFfnDxIdeal : Cert.FfnDxIdeal.Facts] [hPre_finite_ffn : Cert.Pre_finite_ffn.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_finite_ffn m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_FfnDxRefIdeal_pre_finite_ffn [hFfnDxRefIdeal : Cert.FfnDxRefIdeal.Facts] [hPre_finite_ffn : Cert.Pre_finite_ffn.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal_finite_ffn m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8)
      ∧ r.2.mem ((c.tc : Thread Cert.MergeFwd.nD Cert.MergeFwd.τ).loc Cert.MergeFwd.main_arg9) = m ((c.tc : Thread Cert.MergeFwd.nD Cert.MergeFwd.τ).loc Cert.MergeFwd.main_arg9)
      ∧ r.2.mem ((c.tc : Thread Cert.MergeFwd.nD Cert.MergeFwd.τ).loc Cert.MergeFwd.main_arg10) = m ((c.tc : Thread Cert.MergeFwd.nD Cert.MergeFwd.τ).loc Cert.MergeFwd.main_arg10))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
      ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
      ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8)
      ∧ r.2.mem ((c.tc : Thread Cert.MergeFwdRefIdeal.nD Cert.MergeFwdRefIdeal.τ).loc Cert.MergeFwdRefIdeal.main_arg9) = m ((c.tc : Thread Cert.MergeFwdRefIdeal.nD Cert.MergeFwdRefIdeal.τ).loc Cert.MergeFwdRefIdeal.main_arg9)
      ∧ r.2.mem ((c.tc : Thread Cert.MergeFwdRefIdeal.nD Cert.MergeFwdRefIdeal.τ).loc Cert.MergeFwdRefIdeal.main_arg10) = m ((c.tc : Thread Cert.MergeFwdRefIdeal.nD Cert.MergeFwdRefIdeal.τ).loc Cert.MergeFwdRefIdeal.main_arg10))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_IntraFwdF [hIntraFwdF : Cert.IntraFwdF.Facts] : Prop :=
  ∀ (m : (ℓ : Loc Cert.IntraFwdF.nD Cert.IntraFwdF.τ Cert.IntraFwdF.sig) → Buf (Elt Bits) ℓ) (g : Dev Cert.IntraFwdF.nD → PrngReg), Pre_IntraFwdF m →
    θ_run (Cert.IntraFwdF.defs (F := Bits)) (onTc (τ := Cert.IntraFwdF.τ) (Cert.IntraFwdF.main (F := Bits))) ⟨m, fun _ => 0, g⟩ (fun r => (∀ c : Dev Cert.IntraFwdF.nD,
      r.2.mem ((c.tc : Thread Cert.IntraFwdF.nD Cert.IntraFwdF.τ).loc Cert.IntraFwdF.main_arg0) = m ((c.tc : Thread Cert.IntraFwdF.nD Cert.IntraFwdF.τ).loc Cert.IntraFwdF.main_arg0)
      ∧ r.2.mem ((c.tc : Thread Cert.IntraFwdF.nD Cert.IntraFwdF.τ).loc Cert.IntraFwdF.main_arg1) = m ((c.tc : Thread Cert.IntraFwdF.nD Cert.IntraFwdF.τ).loc Cert.IntraFwdF.main_arg1)
      ∧ r.2.mem ((c.tc : Thread Cert.IntraFwdF.nD Cert.IntraFwdF.τ).loc Cert.IntraFwdF.main_arg2) = m ((c.tc : Thread Cert.IntraFwdF.nD Cert.IntraFwdF.τ).loc Cert.IntraFwdF.main_arg2))
      ∧ r.2.sem = fun _ => 0)

def quiescent_IntraFwdFIdeal [hIntraFwdFIdeal : Cert.IntraFwdFIdeal.Facts] : Prop :=
  ∀ (m : (ℓ : Loc Cert.IntraFwdFIdeal.nD Cert.IntraFwdFIdeal.τ Cert.IntraFwdFIdeal.sig) → Buf (Elt Ideal) ℓ) (g : Dev Cert.IntraFwdFIdeal.nD → PrngReg), Pre_IntraFwdFIdeal m →
    θ_run (Cert.IntraFwdFIdeal.defs (F := Ideal)) (onTc (τ := Cert.IntraFwdFIdeal.τ) (Cert.IntraFwdFIdeal.main (F := Ideal))) ⟨m, fun _ => 0, g⟩ (fun r => (∀ c : Dev Cert.IntraFwdFIdeal.nD,
      r.2.mem ((c.tc : Thread Cert.IntraFwdFIdeal.nD Cert.IntraFwdFIdeal.τ).loc Cert.IntraFwdFIdeal.main_arg0) = m ((c.tc : Thread Cert.IntraFwdFIdeal.nD Cert.IntraFwdFIdeal.τ).loc Cert.IntraFwdFIdeal.main_arg0)
      ∧ r.2.mem ((c.tc : Thread Cert.IntraFwdFIdeal.nD Cert.IntraFwdFIdeal.τ).loc Cert.IntraFwdFIdeal.main_arg1) = m ((c.tc : Thread Cert.IntraFwdFIdeal.nD Cert.IntraFwdFIdeal.τ).loc Cert.IntraFwdFIdeal.main_arg1)
      ∧ r.2.mem ((c.tc : Thread Cert.IntraFwdFIdeal.nD Cert.IntraFwdFIdeal.τ).loc Cert.IntraFwdFIdeal.main_arg2) = m ((c.tc : Thread Cert.IntraFwdFIdeal.nD Cert.IntraFwdFIdeal.τ).loc Cert.IntraFwdFIdeal.main_arg2))
      ∧ r.2.sem = fun _ => 0)

def quiescent_IntraFwdFRefIdeal [hIntraFwdFRefIdeal : Cert.IntraFwdFRefIdeal.Facts] : Prop :=
  ∀ (m : (ℓ : Loc Cert.IntraFwdFRefIdeal.nD Cert.IntraFwdFRefIdeal.τ Cert.IntraFwdFRefIdeal.sig) → Buf (Elt Ideal) ℓ) (g : Dev Cert.IntraFwdFRefIdeal.nD → PrngReg), Pre_IntraFwdFRefIdeal m →
    θ_run (Cert.IntraFwdFRefIdeal.defs (F := Ideal)) (onTc (τ := Cert.IntraFwdFRefIdeal.τ) (Cert.IntraFwdFRefIdeal.main (F := Ideal))) ⟨m, fun _ => 0, g⟩ (fun r => (∀ c : Dev Cert.IntraFwdFRefIdeal.nD,
      r.2.mem ((c.tc : Thread Cert.IntraFwdFRefIdeal.nD Cert.IntraFwdFRefIdeal.τ).loc Cert.IntraFwdFRefIdeal.main_arg0) = m ((c.tc : Thread Cert.IntraFwdFRefIdeal.nD Cert.IntraFwdFRefIdeal.τ).loc Cert.IntraFwdFRefIdeal.main_arg0)
      ∧ r.2.mem ((c.tc : Thread Cert.IntraFwdFRefIdeal.nD Cert.IntraFwdFRefIdeal.τ).loc Cert.IntraFwdFRefIdeal.main_arg1) = m ((c.tc : Thread Cert.IntraFwdFRefIdeal.nD Cert.IntraFwdFRefIdeal.τ).loc Cert.IntraFwdFRefIdeal.main_arg1)
      ∧ r.2.mem ((c.tc : Thread Cert.IntraFwdFRefIdeal.nD Cert.IntraFwdFRefIdeal.τ).loc Cert.IntraFwdFRefIdeal.main_arg2) = m ((c.tc : Thread Cert.IntraFwdFRefIdeal.nD Cert.IntraFwdFRefIdeal.τ).loc Cert.IntraFwdFRefIdeal.main_arg2))
      ∧ r.2.sem = fun _ => 0)

def quiescent_IntraFwdB [hIntraFwdB : Cert.IntraFwdB.Facts] : Prop :=
  ∀ (m : (ℓ : Loc Cert.IntraFwdB.nD Cert.IntraFwdB.τ Cert.IntraFwdB.sig) → Buf (Elt Bits) ℓ) (g : Dev Cert.IntraFwdB.nD → PrngReg), Pre_IntraFwdB m →
    θ_run (Cert.IntraFwdB.defs (F := Bits)) (onTc (τ := Cert.IntraFwdB.τ) (Cert.IntraFwdB.main (F := Bits))) ⟨m, fun _ => 0, g⟩ (fun r => (∀ c : Dev Cert.IntraFwdB.nD,
      r.2.mem ((c.tc : Thread Cert.IntraFwdB.nD Cert.IntraFwdB.τ).loc Cert.IntraFwdB.main_arg0) = m ((c.tc : Thread Cert.IntraFwdB.nD Cert.IntraFwdB.τ).loc Cert.IntraFwdB.main_arg0)
      ∧ r.2.mem ((c.tc : Thread Cert.IntraFwdB.nD Cert.IntraFwdB.τ).loc Cert.IntraFwdB.main_arg1) = m ((c.tc : Thread Cert.IntraFwdB.nD Cert.IntraFwdB.τ).loc Cert.IntraFwdB.main_arg1)
      ∧ r.2.mem ((c.tc : Thread Cert.IntraFwdB.nD Cert.IntraFwdB.τ).loc Cert.IntraFwdB.main_arg2) = m ((c.tc : Thread Cert.IntraFwdB.nD Cert.IntraFwdB.τ).loc Cert.IntraFwdB.main_arg2))
      ∧ r.2.sem = fun _ => 0)

def quiescent_IntraFwdBIdeal [hIntraFwdBIdeal : Cert.IntraFwdBIdeal.Facts] : Prop :=
  ∀ (m : (ℓ : Loc Cert.IntraFwdBIdeal.nD Cert.IntraFwdBIdeal.τ Cert.IntraFwdBIdeal.sig) → Buf (Elt Ideal) ℓ) (g : Dev Cert.IntraFwdBIdeal.nD → PrngReg), Pre_IntraFwdBIdeal m →
    θ_run (Cert.IntraFwdBIdeal.defs (F := Ideal)) (onTc (τ := Cert.IntraFwdBIdeal.τ) (Cert.IntraFwdBIdeal.main (F := Ideal))) ⟨m, fun _ => 0, g⟩ (fun r => (∀ c : Dev Cert.IntraFwdBIdeal.nD,
      r.2.mem ((c.tc : Thread Cert.IntraFwdBIdeal.nD Cert.IntraFwdBIdeal.τ).loc Cert.IntraFwdBIdeal.main_arg0) = m ((c.tc : Thread Cert.IntraFwdBIdeal.nD Cert.IntraFwdBIdeal.τ).loc Cert.IntraFwdBIdeal.main_arg0)
      ∧ r.2.mem ((c.tc : Thread Cert.IntraFwdBIdeal.nD Cert.IntraFwdBIdeal.τ).loc Cert.IntraFwdBIdeal.main_arg1) = m ((c.tc : Thread Cert.IntraFwdBIdeal.nD Cert.IntraFwdBIdeal.τ).loc Cert.IntraFwdBIdeal.main_arg1)
      ∧ r.2.mem ((c.tc : Thread Cert.IntraFwdBIdeal.nD Cert.IntraFwdBIdeal.τ).loc Cert.IntraFwdBIdeal.main_arg2) = m ((c.tc : Thread Cert.IntraFwdBIdeal.nD Cert.IntraFwdBIdeal.τ).loc Cert.IntraFwdBIdeal.main_arg2))
      ∧ r.2.sem = fun _ => 0)

def quiescent_IntraFwdBRefIdeal [hIntraFwdBRefIdeal : Cert.IntraFwdBRefIdeal.Facts] : Prop :=
  ∀ (m : (ℓ : Loc Cert.IntraFwdBRefIdeal.nD Cert.IntraFwdBRefIdeal.τ Cert.IntraFwdBRefIdeal.sig) → Buf (Elt Ideal) ℓ) (g : Dev Cert.IntraFwdBRefIdeal.nD → PrngReg), Pre_IntraFwdBRefIdeal m →
    θ_run (Cert.IntraFwdBRefIdeal.defs (F := Ideal)) (onTc (τ := Cert.IntraFwdBRefIdeal.τ) (Cert.IntraFwdBRefIdeal.main (F := Ideal))) ⟨m, fun _ => 0, g⟩ (fun r => (∀ c : Dev Cert.IntraFwdBRefIdeal.nD,
      r.2.mem ((c.tc : Thread Cert.IntraFwdBRefIdeal.nD Cert.IntraFwdBRefIdeal.τ).loc Cert.IntraFwdBRefIdeal.main_arg0) = m ((c.tc : Thread Cert.IntraFwdBRefIdeal.nD Cert.IntraFwdBRefIdeal.τ).loc Cert.IntraFwdBRefIdeal.main_arg0)
      ∧ r.2.mem ((c.tc : Thread Cert.IntraFwdBRefIdeal.nD Cert.IntraFwdBRefIdeal.τ).loc Cert.IntraFwdBRefIdeal.main_arg1) = m ((c.tc : Thread Cert.IntraFwdBRefIdeal.nD Cert.IntraFwdBRefIdeal.τ).loc Cert.IntraFwdBRefIdeal.main_arg1)
      ∧ r.2.mem ((c.tc : Thread Cert.IntraFwdBRefIdeal.nD Cert.IntraFwdBRefIdeal.τ).loc Cert.IntraFwdBRefIdeal.main_arg2) = m ((c.tc : Thread Cert.IntraFwdBRefIdeal.nD Cert.IntraFwdBRefIdeal.τ).loc Cert.IntraFwdBRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_GatedNormFwd [hGatedNormFwd : Cert.GatedNormFwd.Facts] : Prop :=
  ∀ (m : (ℓ : Loc Cert.GatedNormFwd.nD Cert.GatedNormFwd.τ Cert.GatedNormFwd.sig) → Buf (Elt Bits) ℓ) (g : Dev Cert.GatedNormFwd.nD → PrngReg), Pre_GatedNormFwd m →
    θ_run (Cert.GatedNormFwd.defs (F := Bits)) (onTc (τ := Cert.GatedNormFwd.τ) (Cert.GatedNormFwd.main (F := Bits))) ⟨m, fun _ => 0, g⟩ (fun r => (∀ c : Dev Cert.GatedNormFwd.nD,
      r.2.mem ((c.tc : Thread Cert.GatedNormFwd.nD Cert.GatedNormFwd.τ).loc Cert.GatedNormFwd.main_arg0) = m ((c.tc : Thread Cert.GatedNormFwd.nD Cert.GatedNormFwd.τ).loc Cert.GatedNormFwd.main_arg0)
      ∧ r.2.mem ((c.tc : Thread Cert.GatedNormFwd.nD Cert.GatedNormFwd.τ).loc Cert.GatedNormFwd.main_arg1) = m ((c.tc : Thread Cert.GatedNormFwd.nD Cert.GatedNormFwd.τ).loc Cert.GatedNormFwd.main_arg1)
      ∧ r.2.mem ((c.tc : Thread Cert.GatedNormFwd.nD Cert.GatedNormFwd.τ).loc Cert.GatedNormFwd.main_arg2) = m ((c.tc : Thread Cert.GatedNormFwd.nD Cert.GatedNormFwd.τ).loc Cert.GatedNormFwd.main_arg2))
      ∧ r.2.sem = fun _ => 0)

def quiescent_GatedNormFwdIdeal [hGatedNormFwdIdeal : Cert.GatedNormFwdIdeal.Facts] : Prop :=
  ∀ (m : (ℓ : Loc Cert.GatedNormFwdIdeal.nD Cert.GatedNormFwdIdeal.τ Cert.GatedNormFwdIdeal.sig) → Buf (Elt Ideal) ℓ) (g : Dev Cert.GatedNormFwdIdeal.nD → PrngReg), Pre_GatedNormFwdIdeal m →
    θ_run (Cert.GatedNormFwdIdeal.defs (F := Ideal)) (onTc (τ := Cert.GatedNormFwdIdeal.τ) (Cert.GatedNormFwdIdeal.main (F := Ideal))) ⟨m, fun _ => 0, g⟩ (fun r => (∀ c : Dev Cert.GatedNormFwdIdeal.nD,
      r.2.mem ((c.tc : Thread Cert.GatedNormFwdIdeal.nD Cert.GatedNormFwdIdeal.τ).loc Cert.GatedNormFwdIdeal.main_arg0) = m ((c.tc : Thread Cert.GatedNormFwdIdeal.nD Cert.GatedNormFwdIdeal.τ).loc Cert.GatedNormFwdIdeal.main_arg0)
      ∧ r.2.mem ((c.tc : Thread Cert.GatedNormFwdIdeal.nD Cert.GatedNormFwdIdeal.τ).loc Cert.GatedNormFwdIdeal.main_arg1) = m ((c.tc : Thread Cert.GatedNormFwdIdeal.nD Cert.GatedNormFwdIdeal.τ).loc Cert.GatedNormFwdIdeal.main_arg1)
      ∧ r.2.mem ((c.tc : Thread Cert.GatedNormFwdIdeal.nD Cert.GatedNormFwdIdeal.τ).loc Cert.GatedNormFwdIdeal.main_arg2) = m ((c.tc : Thread Cert.GatedNormFwdIdeal.nD Cert.GatedNormFwdIdeal.τ).loc Cert.GatedNormFwdIdeal.main_arg2))
      ∧ r.2.sem = fun _ => 0)

def quiescent_GatedNormFwdIdeal_pre_finite_gated_fwd [hGatedNormFwdIdeal : Cert.GatedNormFwdIdeal.Facts] [hPre_finite_gated_fwd : Cert.Pre_finite_gated_fwd.Facts] : Prop :=
  ∀ (m : (ℓ : Loc Cert.GatedNormFwdIdeal.nD Cert.GatedNormFwdIdeal.τ Cert.GatedNormFwdIdeal.sig) → Buf (Elt Ideal) ℓ) (g : Dev Cert.GatedNormFwdIdeal.nD → PrngReg), Pre_GatedNormFwdIdeal_finite_gated_fwd m →
    θ_run (Cert.GatedNormFwdIdeal.defs (F := Ideal)) (onTc (τ := Cert.GatedNormFwdIdeal.τ) (Cert.GatedNormFwdIdeal.main (F := Ideal))) ⟨m, fun _ => 0, g⟩ (fun r => (∀ c : Dev Cert.GatedNormFwdIdeal.nD,
      r.2.mem ((c.tc : Thread Cert.GatedNormFwdIdeal.nD Cert.GatedNormFwdIdeal.τ).loc Cert.GatedNormFwdIdeal.main_arg0) = m ((c.tc : Thread Cert.GatedNormFwdIdeal.nD Cert.GatedNormFwdIdeal.τ).loc Cert.GatedNormFwdIdeal.main_arg0)
      ∧ r.2.mem ((c.tc : Thread Cert.GatedNormFwdIdeal.nD Cert.GatedNormFwdIdeal.τ).loc Cert.GatedNormFwdIdeal.main_arg1) = m ((c.tc : Thread Cert.GatedNormFwdIdeal.nD Cert.GatedNormFwdIdeal.τ).loc Cert.GatedNormFwdIdeal.main_arg1)
      ∧ r.2.mem ((c.tc : Thread Cert.GatedNormFwdIdeal.nD Cert.GatedNormFwdIdeal.τ).loc Cert.GatedNormFwdIdeal.main_arg2) = m ((c.tc : Thread Cert.GatedNormFwdIdeal.nD Cert.GatedNormFwdIdeal.τ).loc Cert.GatedNormFwdIdeal.main_arg2))
      ∧ r.2.sem = fun _ => 0)

def quiescent_GatedNormFwdRefIdeal [hGatedNormFwdRefIdeal : Cert.GatedNormFwdRefIdeal.Facts] : Prop :=
  ∀ (m : (ℓ : Loc Cert.GatedNormFwdRefIdeal.nD Cert.GatedNormFwdRefIdeal.τ Cert.GatedNormFwdRefIdeal.sig) → Buf (Elt Ideal) ℓ) (g : Dev Cert.GatedNormFwdRefIdeal.nD → PrngReg), Pre_GatedNormFwdRefIdeal m →
    θ_run (Cert.GatedNormFwdRefIdeal.defs (F := Ideal)) (onTc (τ := Cert.GatedNormFwdRefIdeal.τ) (Cert.GatedNormFwdRefIdeal.main (F := Ideal))) ⟨m, fun _ => 0, g⟩ (fun r => (∀ c : Dev Cert.GatedNormFwdRefIdeal.nD,
      r.2.mem ((c.tc : Thread Cert.GatedNormFwdRefIdeal.nD Cert.GatedNormFwdRefIdeal.τ).loc Cert.GatedNormFwdRefIdeal.main_arg0) = m ((c.tc : Thread Cert.GatedNormFwdRefIdeal.nD Cert.GatedNormFwdRefIdeal.τ).loc Cert.GatedNormFwdRefIdeal.main_arg0)
      ∧ r.2.mem ((c.tc : Thread Cert.GatedNormFwdRefIdeal.nD Cert.GatedNormFwdRefIdeal.τ).loc Cert.GatedNormFwdRefIdeal.main_arg1) = m ((c.tc : Thread Cert.GatedNormFwdRefIdeal.nD Cert.GatedNormFwdRefIdeal.τ).loc Cert.GatedNormFwdRefIdeal.main_arg1)
      ∧ r.2.mem ((c.tc : Thread Cert.GatedNormFwdRefIdeal.nD Cert.GatedNormFwdRefIdeal.τ).loc Cert.GatedNormFwdRefIdeal.main_arg2) = m ((c.tc : Thread Cert.GatedNormFwdRefIdeal.nD Cert.GatedNormFwdRefIdeal.τ).loc Cert.GatedNormFwdRefIdeal.main_arg2))
      ∧ r.2.sem = fun _ => 0)

def quiescent_GatedNormFwdRefIdeal_pre_finite_gated_fwd [hGatedNormFwdRefIdeal : Cert.GatedNormFwdRefIdeal.Facts] [hPre_finite_gated_fwd : Cert.Pre_finite_gated_fwd.Facts] : Prop :=
  ∀ (m : (ℓ : Loc Cert.GatedNormFwdRefIdeal.nD Cert.GatedNormFwdRefIdeal.τ Cert.GatedNormFwdRefIdeal.sig) → Buf (Elt Ideal) ℓ) (g : Dev Cert.GatedNormFwdRefIdeal.nD → PrngReg), Pre_GatedNormFwdRefIdeal_finite_gated_fwd m →
    θ_run (Cert.GatedNormFwdRefIdeal.defs (F := Ideal)) (onTc (τ := Cert.GatedNormFwdRefIdeal.τ) (Cert.GatedNormFwdRefIdeal.main (F := Ideal))) ⟨m, fun _ => 0, g⟩ (fun r => (∀ c : Dev Cert.GatedNormFwdRefIdeal.nD,
      r.2.mem ((c.tc : Thread Cert.GatedNormFwdRefIdeal.nD Cert.GatedNormFwdRefIdeal.τ).loc Cert.GatedNormFwdRefIdeal.main_arg0) = m ((c.tc : Thread Cert.GatedNormFwdRefIdeal.nD Cert.GatedNormFwdRefIdeal.τ).loc Cert.GatedNormFwdRefIdeal.main_arg0)
      ∧ r.2.mem ((c.tc : Thread Cert.GatedNormFwdRefIdeal.nD Cert.GatedNormFwdRefIdeal.τ).loc Cert.GatedNormFwdRefIdeal.main_arg1) = m ((c.tc : Thread Cert.GatedNormFwdRefIdeal.nD Cert.GatedNormFwdRefIdeal.τ).loc Cert.GatedNormFwdRefIdeal.main_arg1)
      ∧ r.2.mem ((c.tc : Thread Cert.GatedNormFwdRefIdeal.nD Cert.GatedNormFwdRefIdeal.τ).loc Cert.GatedNormFwdRefIdeal.main_arg2) = m ((c.tc : Thread Cert.GatedNormFwdRefIdeal.nD Cert.GatedNormFwdRefIdeal.τ).loc Cert.GatedNormFwdRefIdeal.main_arg2))
      ∧ r.2.sem = fun _ => 0)

def quiescent_PrepFwdF [hPrepFwdF : Cert.PrepFwdF.Facts] : Prop :=
  ∀ (m : (ℓ : Loc Cert.PrepFwdF.nD Cert.PrepFwdF.τ Cert.PrepFwdF.sig) → Buf (Elt Bits) ℓ) (g : Dev Cert.PrepFwdF.nD → PrngReg), Pre_PrepFwdF m →
    θ_run (Cert.PrepFwdF.defs (F := Bits)) (onTc (τ := Cert.PrepFwdF.τ) (Cert.PrepFwdF.main (F := Bits))) ⟨m, fun _ => 0, g⟩ (fun r => (∀ c : Dev Cert.PrepFwdF.nD,
      r.2.mem ((c.tc : Thread Cert.PrepFwdF.nD Cert.PrepFwdF.τ).loc Cert.PrepFwdF.main_arg0) = m ((c.tc : Thread Cert.PrepFwdF.nD Cert.PrepFwdF.τ).loc Cert.PrepFwdF.main_arg0)
      ∧ r.2.mem ((c.tc : Thread Cert.PrepFwdF.nD Cert.PrepFwdF.τ).loc Cert.PrepFwdF.main_arg1) = m ((c.tc : Thread Cert.PrepFwdF.nD Cert.PrepFwdF.τ).loc Cert.PrepFwdF.main_arg1)
      ∧ r.2.mem ((c.tc : Thread Cert.PrepFwdF.nD Cert.PrepFwdF.τ).loc Cert.PrepFwdF.main_arg2) = m ((c.tc : Thread Cert.PrepFwdF.nD Cert.PrepFwdF.τ).loc Cert.PrepFwdF.main_arg2))
      ∧ r.2.sem = fun _ => 0)

def quiescent_PrepFwdFIdeal [hPrepFwdFIdeal : Cert.PrepFwdFIdeal.Facts] : Prop :=
  ∀ (m : (ℓ : Loc Cert.PrepFwdFIdeal.nD Cert.PrepFwdFIdeal.τ Cert.PrepFwdFIdeal.sig) → Buf (Elt Ideal) ℓ) (g : Dev Cert.PrepFwdFIdeal.nD → PrngReg), Pre_PrepFwdFIdeal m →
    θ_run (Cert.PrepFwdFIdeal.defs (F := Ideal)) (onTc (τ := Cert.PrepFwdFIdeal.τ) (Cert.PrepFwdFIdeal.main (F := Ideal))) ⟨m, fun _ => 0, g⟩ (fun r => (∀ c : Dev Cert.PrepFwdFIdeal.nD,
      r.2.mem ((c.tc : Thread Cert.PrepFwdFIdeal.nD Cert.PrepFwdFIdeal.τ).loc Cert.PrepFwdFIdeal.main_arg0) = m ((c.tc : Thread Cert.PrepFwdFIdeal.nD Cert.PrepFwdFIdeal.τ).loc Cert.PrepFwdFIdeal.main_arg0)
      ∧ r.2.mem ((c.tc : Thread Cert.PrepFwdFIdeal.nD Cert.PrepFwdFIdeal.τ).loc Cert.PrepFwdFIdeal.main_arg1) = m ((c.tc : Thread Cert.PrepFwdFIdeal.nD Cert.PrepFwdFIdeal.τ).loc Cert.PrepFwdFIdeal.main_arg1)
      ∧ r.2.mem ((c.tc : Thread Cert.PrepFwdFIdeal.nD Cert.PrepFwdFIdeal.τ).loc Cert.PrepFwdFIdeal.main_arg2) = m ((c.tc : Thread Cert.PrepFwdFIdeal.nD Cert.PrepFwdFIdeal.τ).loc Cert.PrepFwdFIdeal.main_arg2))
      ∧ r.2.sem = fun _ => 0)

def quiescent_PrepFwdFIdeal_pre_finite_gates [hPrepFwdFIdeal : Cert.PrepFwdFIdeal.Facts] [hPre_finite_gates : Cert.Pre_finite_gates.Facts] : Prop :=
  ∀ (m : (ℓ : Loc Cert.PrepFwdFIdeal.nD Cert.PrepFwdFIdeal.τ Cert.PrepFwdFIdeal.sig) → Buf (Elt Ideal) ℓ) (g : Dev Cert.PrepFwdFIdeal.nD → PrngReg), Pre_PrepFwdFIdeal_finite_gates m →
    θ_run (Cert.PrepFwdFIdeal.defs (F := Ideal)) (onTc (τ := Cert.PrepFwdFIdeal.τ) (Cert.PrepFwdFIdeal.main (F := Ideal))) ⟨m, fun _ => 0, g⟩ (fun r => (∀ c : Dev Cert.PrepFwdFIdeal.nD,
      r.2.mem ((c.tc : Thread Cert.PrepFwdFIdeal.nD Cert.PrepFwdFIdeal.τ).loc Cert.PrepFwdFIdeal.main_arg0) = m ((c.tc : Thread Cert.PrepFwdFIdeal.nD Cert.PrepFwdFIdeal.τ).loc Cert.PrepFwdFIdeal.main_arg0)
      ∧ r.2.mem ((c.tc : Thread Cert.PrepFwdFIdeal.nD Cert.PrepFwdFIdeal.τ).loc Cert.PrepFwdFIdeal.main_arg1) = m ((c.tc : Thread Cert.PrepFwdFIdeal.nD Cert.PrepFwdFIdeal.τ).loc Cert.PrepFwdFIdeal.main_arg1)
      ∧ r.2.mem ((c.tc : Thread Cert.PrepFwdFIdeal.nD Cert.PrepFwdFIdeal.τ).loc Cert.PrepFwdFIdeal.main_arg2) = m ((c.tc : Thread Cert.PrepFwdFIdeal.nD Cert.PrepFwdFIdeal.τ).loc Cert.PrepFwdFIdeal.main_arg2))
      ∧ r.2.sem = fun _ => 0)

def quiescent_PrepFwdFRefIdeal [hPrepFwdFRefIdeal : Cert.PrepFwdFRefIdeal.Facts] : Prop :=
  ∀ (m : (ℓ : Loc Cert.PrepFwdFRefIdeal.nD Cert.PrepFwdFRefIdeal.τ Cert.PrepFwdFRefIdeal.sig) → Buf (Elt Ideal) ℓ) (g : Dev Cert.PrepFwdFRefIdeal.nD → PrngReg), Pre_PrepFwdFRefIdeal m →
    θ_run (Cert.PrepFwdFRefIdeal.defs (F := Ideal)) (onTc (τ := Cert.PrepFwdFRefIdeal.τ) (Cert.PrepFwdFRefIdeal.main (F := Ideal))) ⟨m, fun _ => 0, g⟩ (fun r => (∀ c : Dev Cert.PrepFwdFRefIdeal.nD,
      r.2.mem ((c.tc : Thread Cert.PrepFwdFRefIdeal.nD Cert.PrepFwdFRefIdeal.τ).loc Cert.PrepFwdFRefIdeal.main_arg0) = m ((c.tc : Thread Cert.PrepFwdFRefIdeal.nD Cert.PrepFwdFRefIdeal.τ).loc Cert.PrepFwdFRefIdeal.main_arg0)
      ∧ r.2.mem ((c.tc : Thread Cert.PrepFwdFRefIdeal.nD Cert.PrepFwdFRefIdeal.τ).loc Cert.PrepFwdFRefIdeal.main_arg1) = m ((c.tc : Thread Cert.PrepFwdFRefIdeal.nD Cert.PrepFwdFRefIdeal.τ).loc Cert.PrepFwdFRefIdeal.main_arg1)
      ∧ r.2.mem ((c.tc : Thread Cert.PrepFwdFRefIdeal.nD Cert.PrepFwdFRefIdeal.τ).loc Cert.PrepFwdFRefIdeal.main_arg2) = m ((c.tc : Thread Cert.PrepFwdFRefIdeal.nD Cert.PrepFwdFRefIdeal.τ).loc Cert.PrepFwdFRefIdeal.main_arg2))
      ∧ r.2.sem = fun _ => 0)

def quiescent_PrepFwdFRefIdeal_pre_finite_gates [hPrepFwdFRefIdeal : Cert.PrepFwdFRefIdeal.Facts] [hPre_finite_gates : Cert.Pre_finite_gates.Facts] : Prop :=
  ∀ (m : (ℓ : Loc Cert.PrepFwdFRefIdeal.nD Cert.PrepFwdFRefIdeal.τ Cert.PrepFwdFRefIdeal.sig) → Buf (Elt Ideal) ℓ) (g : Dev Cert.PrepFwdFRefIdeal.nD → PrngReg), Pre_PrepFwdFRefIdeal_finite_gates m →
    θ_run (Cert.PrepFwdFRefIdeal.defs (F := Ideal)) (onTc (τ := Cert.PrepFwdFRefIdeal.τ) (Cert.PrepFwdFRefIdeal.main (F := Ideal))) ⟨m, fun _ => 0, g⟩ (fun r => (∀ c : Dev Cert.PrepFwdFRefIdeal.nD,
      r.2.mem ((c.tc : Thread Cert.PrepFwdFRefIdeal.nD Cert.PrepFwdFRefIdeal.τ).loc Cert.PrepFwdFRefIdeal.main_arg0) = m ((c.tc : Thread Cert.PrepFwdFRefIdeal.nD Cert.PrepFwdFRefIdeal.τ).loc Cert.PrepFwdFRefIdeal.main_arg0)
      ∧ r.2.mem ((c.tc : Thread Cert.PrepFwdFRefIdeal.nD Cert.PrepFwdFRefIdeal.τ).loc Cert.PrepFwdFRefIdeal.main_arg1) = m ((c.tc : Thread Cert.PrepFwdFRefIdeal.nD Cert.PrepFwdFRefIdeal.τ).loc Cert.PrepFwdFRefIdeal.main_arg1)
      ∧ r.2.mem ((c.tc : Thread Cert.PrepFwdFRefIdeal.nD Cert.PrepFwdFRefIdeal.τ).loc Cert.PrepFwdFRefIdeal.main_arg2) = m ((c.tc : Thread Cert.PrepFwdFRefIdeal.nD Cert.PrepFwdFRefIdeal.τ).loc Cert.PrepFwdFRefIdeal.main_arg2))
      ∧ r.2.sem = fun _ => 0)

def quiescent_PrepFwdB [hPrepFwdB : Cert.PrepFwdB.Facts] : Prop :=
  ∀ (m : (ℓ : Loc Cert.PrepFwdB.nD Cert.PrepFwdB.τ Cert.PrepFwdB.sig) → Buf (Elt Bits) ℓ) (g : Dev Cert.PrepFwdB.nD → PrngReg), Pre_PrepFwdB m →
    θ_run (Cert.PrepFwdB.defs (F := Bits)) (onTc (τ := Cert.PrepFwdB.τ) (Cert.PrepFwdB.main (F := Bits))) ⟨m, fun _ => 0, g⟩ (fun r => (∀ c : Dev Cert.PrepFwdB.nD,
      r.2.mem ((c.tc : Thread Cert.PrepFwdB.nD Cert.PrepFwdB.τ).loc Cert.PrepFwdB.main_arg0) = m ((c.tc : Thread Cert.PrepFwdB.nD Cert.PrepFwdB.τ).loc Cert.PrepFwdB.main_arg0)
      ∧ r.2.mem ((c.tc : Thread Cert.PrepFwdB.nD Cert.PrepFwdB.τ).loc Cert.PrepFwdB.main_arg1) = m ((c.tc : Thread Cert.PrepFwdB.nD Cert.PrepFwdB.τ).loc Cert.PrepFwdB.main_arg1)
      ∧ r.2.mem ((c.tc : Thread Cert.PrepFwdB.nD Cert.PrepFwdB.τ).loc Cert.PrepFwdB.main_arg2) = m ((c.tc : Thread Cert.PrepFwdB.nD Cert.PrepFwdB.τ).loc Cert.PrepFwdB.main_arg2))
      ∧ r.2.sem = fun _ => 0)

def quiescent_PrepFwdBIdeal [hPrepFwdBIdeal : Cert.PrepFwdBIdeal.Facts] : Prop :=
  ∀ (m : (ℓ : Loc Cert.PrepFwdBIdeal.nD Cert.PrepFwdBIdeal.τ Cert.PrepFwdBIdeal.sig) → Buf (Elt Ideal) ℓ) (g : Dev Cert.PrepFwdBIdeal.nD → PrngReg), Pre_PrepFwdBIdeal m →
    θ_run (Cert.PrepFwdBIdeal.defs (F := Ideal)) (onTc (τ := Cert.PrepFwdBIdeal.τ) (Cert.PrepFwdBIdeal.main (F := Ideal))) ⟨m, fun _ => 0, g⟩ (fun r => (∀ c : Dev Cert.PrepFwdBIdeal.nD,
      r.2.mem ((c.tc : Thread Cert.PrepFwdBIdeal.nD Cert.PrepFwdBIdeal.τ).loc Cert.PrepFwdBIdeal.main_arg0) = m ((c.tc : Thread Cert.PrepFwdBIdeal.nD Cert.PrepFwdBIdeal.τ).loc Cert.PrepFwdBIdeal.main_arg0)
      ∧ r.2.mem ((c.tc : Thread Cert.PrepFwdBIdeal.nD Cert.PrepFwdBIdeal.τ).loc Cert.PrepFwdBIdeal.main_arg1) = m ((c.tc : Thread Cert.PrepFwdBIdeal.nD Cert.PrepFwdBIdeal.τ).loc Cert.PrepFwdBIdeal.main_arg1)
      ∧ r.2.mem ((c.tc : Thread Cert.PrepFwdBIdeal.nD Cert.PrepFwdBIdeal.τ).loc Cert.PrepFwdBIdeal.main_arg2) = m ((c.tc : Thread Cert.PrepFwdBIdeal.nD Cert.PrepFwdBIdeal.τ).loc Cert.PrepFwdBIdeal.main_arg2))
      ∧ r.2.sem = fun _ => 0)

def quiescent_PrepFwdBIdeal_pre_finite_gates [hPrepFwdBIdeal : Cert.PrepFwdBIdeal.Facts] [hPre_finite_gates : Cert.Pre_finite_gates.Facts] : Prop :=
  ∀ (m : (ℓ : Loc Cert.PrepFwdBIdeal.nD Cert.PrepFwdBIdeal.τ Cert.PrepFwdBIdeal.sig) → Buf (Elt Ideal) ℓ) (g : Dev Cert.PrepFwdBIdeal.nD → PrngReg), Pre_PrepFwdBIdeal_finite_gates m →
    θ_run (Cert.PrepFwdBIdeal.defs (F := Ideal)) (onTc (τ := Cert.PrepFwdBIdeal.τ) (Cert.PrepFwdBIdeal.main (F := Ideal))) ⟨m, fun _ => 0, g⟩ (fun r => (∀ c : Dev Cert.PrepFwdBIdeal.nD,
      r.2.mem ((c.tc : Thread Cert.PrepFwdBIdeal.nD Cert.PrepFwdBIdeal.τ).loc Cert.PrepFwdBIdeal.main_arg0) = m ((c.tc : Thread Cert.PrepFwdBIdeal.nD Cert.PrepFwdBIdeal.τ).loc Cert.PrepFwdBIdeal.main_arg0)
      ∧ r.2.mem ((c.tc : Thread Cert.PrepFwdBIdeal.nD Cert.PrepFwdBIdeal.τ).loc Cert.PrepFwdBIdeal.main_arg1) = m ((c.tc : Thread Cert.PrepFwdBIdeal.nD Cert.PrepFwdBIdeal.τ).loc Cert.PrepFwdBIdeal.main_arg1)
      ∧ r.2.mem ((c.tc : Thread Cert.PrepFwdBIdeal.nD Cert.PrepFwdBIdeal.τ).loc Cert.PrepFwdBIdeal.main_arg2) = m ((c.tc : Thread Cert.PrepFwdBIdeal.nD Cert.PrepFwdBIdeal.τ).loc Cert.PrepFwdBIdeal.main_arg2))
      ∧ r.2.sem = fun _ => 0)

def quiescent_PrepFwdBRefIdeal [hPrepFwdBRefIdeal : Cert.PrepFwdBRefIdeal.Facts] : Prop :=
  ∀ (m : (ℓ : Loc Cert.PrepFwdBRefIdeal.nD Cert.PrepFwdBRefIdeal.τ Cert.PrepFwdBRefIdeal.sig) → Buf (Elt Ideal) ℓ) (g : Dev Cert.PrepFwdBRefIdeal.nD → PrngReg), Pre_PrepFwdBRefIdeal m →
    θ_run (Cert.PrepFwdBRefIdeal.defs (F := Ideal)) (onTc (τ := Cert.PrepFwdBRefIdeal.τ) (Cert.PrepFwdBRefIdeal.main (F := Ideal))) ⟨m, fun _ => 0, g⟩ (fun r => (∀ c : Dev Cert.PrepFwdBRefIdeal.nD,
      r.2.mem ((c.tc : Thread Cert.PrepFwdBRefIdeal.nD Cert.PrepFwdBRefIdeal.τ).loc Cert.PrepFwdBRefIdeal.main_arg0) = m ((c.tc : Thread Cert.PrepFwdBRefIdeal.nD Cert.PrepFwdBRefIdeal.τ).loc Cert.PrepFwdBRefIdeal.main_arg0)
      ∧ r.2.mem ((c.tc : Thread Cert.PrepFwdBRefIdeal.nD Cert.PrepFwdBRefIdeal.τ).loc Cert.PrepFwdBRefIdeal.main_arg1) = m ((c.tc : Thread Cert.PrepFwdBRefIdeal.nD Cert.PrepFwdBRefIdeal.τ).loc Cert.PrepFwdBRefIdeal.main_arg1)
      ∧ r.2.mem ((c.tc : Thread Cert.PrepFwdBRefIdeal.nD Cert.PrepFwdBRefIdeal.τ).loc Cert.PrepFwdBRefIdeal.main_arg2) = m ((c.tc : Thread Cert.PrepFwdBRefIdeal.nD Cert.PrepFwdBRefIdeal.τ).loc Cert.PrepFwdBRefIdeal.main_arg2))
      ∧ r.2.sem = fun _ => 0)

def quiescent_PrepFwdBRefIdeal_pre_finite_gates [hPrepFwdBRefIdeal : Cert.PrepFwdBRefIdeal.Facts] [hPre_finite_gates : Cert.Pre_finite_gates.Facts] : Prop :=
  ∀ (m : (ℓ : Loc Cert.PrepFwdBRefIdeal.nD Cert.PrepFwdBRefIdeal.τ Cert.PrepFwdBRefIdeal.sig) → Buf (Elt Ideal) ℓ) (g : Dev Cert.PrepFwdBRefIdeal.nD → PrngReg), Pre_PrepFwdBRefIdeal_finite_gates m →
    θ_run (Cert.PrepFwdBRefIdeal.defs (F := Ideal)) (onTc (τ := Cert.PrepFwdBRefIdeal.τ) (Cert.PrepFwdBRefIdeal.main (F := Ideal))) ⟨m, fun _ => 0, g⟩ (fun r => (∀ c : Dev Cert.PrepFwdBRefIdeal.nD,
      r.2.mem ((c.tc : Thread Cert.PrepFwdBRefIdeal.nD Cert.PrepFwdBRefIdeal.τ).loc Cert.PrepFwdBRefIdeal.main_arg0) = m ((c.tc : Thread Cert.PrepFwdBRefIdeal.nD Cert.PrepFwdBRefIdeal.τ).loc Cert.PrepFwdBRefIdeal.main_arg0)
      ∧ r.2.mem ((c.tc : Thread Cert.PrepFwdBRefIdeal.nD Cert.PrepFwdBRefIdeal.τ).loc Cert.PrepFwdBRefIdeal.main_arg1) = m ((c.tc : Thread Cert.PrepFwdBRefIdeal.nD Cert.PrepFwdBRefIdeal.τ).loc Cert.PrepFwdBRefIdeal.main_arg1)
      ∧ r.2.mem ((c.tc : Thread Cert.PrepFwdBRefIdeal.nD Cert.PrepFwdBRefIdeal.τ).loc Cert.PrepFwdBRefIdeal.main_arg2) = m ((c.tc : Thread Cert.PrepFwdBRefIdeal.nD Cert.PrepFwdBRefIdeal.τ).loc Cert.PrepFwdBRefIdeal.main_arg2))
      ∧ r.2.sem = fun _ => 0)

def quiescent_MlaDelta [hMlaDelta : Cert.MlaDelta.Facts] : Prop :=
  ∀ (m : (ℓ : Loc Cert.MlaDelta.nD Cert.MlaDelta.τ Cert.MlaDelta.sig) → Buf (Elt Bits) ℓ) (g : Dev Cert.MlaDelta.nD → PrngReg), Pre_MlaDelta m →
    θ_run (Cert.MlaDelta.defs (F := Bits)) (onTc (τ := Cert.MlaDelta.τ) (Cert.MlaDelta.main (F := Bits))) ⟨m, fun _ => 0, g⟩ (fun r => (∀ c : Dev Cert.MlaDelta.nD,
      r.2.mem ((c.tc : Thread Cert.MlaDelta.nD Cert.MlaDelta.τ).loc Cert.MlaDelta.main_arg0) = m ((c.tc : Thread Cert.MlaDelta.nD Cert.MlaDelta.τ).loc Cert.MlaDelta.main_arg0)
      ∧ r.2.mem ((c.tc : Thread Cert.MlaDelta.nD Cert.MlaDelta.τ).loc Cert.MlaDelta.main_arg1) = m ((c.tc : Thread Cert.MlaDelta.nD Cert.MlaDelta.τ).loc Cert.MlaDelta.main_arg1)
      ∧ r.2.mem ((c.tc : Thread Cert.MlaDelta.nD Cert.MlaDelta.τ).loc Cert.MlaDelta.main_arg2) = m ((c.tc : Thread Cert.MlaDelta.nD Cert.MlaDelta.τ).loc Cert.MlaDelta.main_arg2)
      ∧ r.2.mem ((c.tc : Thread Cert.MlaDelta.nD Cert.MlaDelta.τ).loc Cert.MlaDelta.main_arg3) = m ((c.tc : Thread Cert.MlaDelta.nD Cert.MlaDelta.τ).loc Cert.MlaDelta.main_arg3))
      ∧ r.2.sem = fun _ => 0)

def quiescent_MlaDeltaIdeal [hMlaDeltaIdeal : Cert.MlaDeltaIdeal.Facts] : Prop :=
  ∀ (m : (ℓ : Loc Cert.MlaDeltaIdeal.nD Cert.MlaDeltaIdeal.τ Cert.MlaDeltaIdeal.sig) → Buf (Elt Ideal) ℓ) (g : Dev Cert.MlaDeltaIdeal.nD → PrngReg), Pre_MlaDeltaIdeal m →
    θ_run (Cert.MlaDeltaIdeal.defs (F := Ideal)) (onTc (τ := Cert.MlaDeltaIdeal.τ) (Cert.MlaDeltaIdeal.main (F := Ideal))) ⟨m, fun _ => 0, g⟩ (fun r => (∀ c : Dev Cert.MlaDeltaIdeal.nD,
      r.2.mem ((c.tc : Thread Cert.MlaDeltaIdeal.nD Cert.MlaDeltaIdeal.τ).loc Cert.MlaDeltaIdeal.main_arg0) = m ((c.tc : Thread Cert.MlaDeltaIdeal.nD Cert.MlaDeltaIdeal.τ).loc Cert.MlaDeltaIdeal.main_arg0)
      ∧ r.2.mem ((c.tc : Thread Cert.MlaDeltaIdeal.nD Cert.MlaDeltaIdeal.τ).loc Cert.MlaDeltaIdeal.main_arg1) = m ((c.tc : Thread Cert.MlaDeltaIdeal.nD Cert.MlaDeltaIdeal.τ).loc Cert.MlaDeltaIdeal.main_arg1)
      ∧ r.2.mem ((c.tc : Thread Cert.MlaDeltaIdeal.nD Cert.MlaDeltaIdeal.τ).loc Cert.MlaDeltaIdeal.main_arg2) = m ((c.tc : Thread Cert.MlaDeltaIdeal.nD Cert.MlaDeltaIdeal.τ).loc Cert.MlaDeltaIdeal.main_arg2)
      ∧ r.2.mem ((c.tc : Thread Cert.MlaDeltaIdeal.nD Cert.MlaDeltaIdeal.τ).loc Cert.MlaDeltaIdeal.main_arg3) = m ((c.tc : Thread Cert.MlaDeltaIdeal.nD Cert.MlaDeltaIdeal.τ).loc Cert.MlaDeltaIdeal.main_arg3))
      ∧ r.2.sem = fun _ => 0)

def quiescent_MlaDeltaRefIdeal [hMlaDeltaRefIdeal : Cert.MlaDeltaRefIdeal.Facts] : Prop :=
  ∀ (m : (ℓ : Loc Cert.MlaDeltaRefIdeal.nD Cert.MlaDeltaRefIdeal.τ Cert.MlaDeltaRefIdeal.sig) → Buf (Elt Ideal) ℓ) (g : Dev Cert.MlaDeltaRefIdeal.nD → PrngReg), Pre_MlaDeltaRefIdeal m →
    θ_run (Cert.MlaDeltaRefIdeal.defs (F := Ideal)) (onTc (τ := Cert.MlaDeltaRefIdeal.τ) (Cert.MlaDeltaRefIdeal.main (F := Ideal))) ⟨m, fun _ => 0, g⟩ (fun r => (∀ c : Dev Cert.MlaDeltaRefIdeal.nD,
      r.2.mem ((c.tc : Thread Cert.MlaDeltaRefIdeal.nD Cert.MlaDeltaRefIdeal.τ).loc Cert.MlaDeltaRefIdeal.main_arg0) = m ((c.tc : Thread Cert.MlaDeltaRefIdeal.nD Cert.MlaDeltaRefIdeal.τ).loc Cert.MlaDeltaRefIdeal.main_arg0)
      ∧ r.2.mem ((c.tc : Thread Cert.MlaDeltaRefIdeal.nD Cert.MlaDeltaRefIdeal.τ).loc Cert.MlaDeltaRefIdeal.main_arg1) = m ((c.tc : Thread Cert.MlaDeltaRefIdeal.nD Cert.MlaDeltaRefIdeal.τ).loc Cert.MlaDeltaRefIdeal.main_arg1)
      ∧ r.2.mem ((c.tc : Thread Cert.MlaDeltaRefIdeal.nD Cert.MlaDeltaRefIdeal.τ).loc Cert.MlaDeltaRefIdeal.main_arg2) = m ((c.tc : Thread Cert.MlaDeltaRefIdeal.nD Cert.MlaDeltaRefIdeal.τ).loc Cert.MlaDeltaRefIdeal.main_arg2)
      ∧ r.2.mem ((c.tc : Thread Cert.MlaDeltaRefIdeal.nD Cert.MlaDeltaRefIdeal.τ).loc Cert.MlaDeltaRefIdeal.main_arg3) = m ((c.tc : Thread Cert.MlaDeltaRefIdeal.nD Cert.MlaDeltaRefIdeal.τ).loc Cert.MlaDeltaRefIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_ProjectDw [hProjectDw : Cert.ProjectDw.Facts] : Prop :=
  ∀ (m : (ℓ : Loc Cert.ProjectDw.nD Cert.ProjectDw.τ Cert.ProjectDw.sig) → Buf (Elt Bits) ℓ) (g : Dev Cert.ProjectDw.nD → PrngReg), Pre_ProjectDw m →
    θ_run (Cert.ProjectDw.defs (F := Bits)) (onTc (τ := Cert.ProjectDw.τ) (Cert.ProjectDw.main (F := Bits))) ⟨m, fun _ => 0, g⟩ (fun r => (∀ c : Dev Cert.ProjectDw.nD,
      r.2.mem ((c.tc : Thread Cert.ProjectDw.nD Cert.ProjectDw.τ).loc Cert.ProjectDw.main_arg0) = m ((c.tc : Thread Cert.ProjectDw.nD Cert.ProjectDw.τ).loc Cert.ProjectDw.main_arg0)
      ∧ r.2.mem ((c.tc : Thread Cert.ProjectDw.nD Cert.ProjectDw.τ).loc Cert.ProjectDw.main_arg1) = m ((c.tc : Thread Cert.ProjectDw.nD Cert.ProjectDw.τ).loc Cert.ProjectDw.main_arg1)
      ∧ r.2.mem ((c.tc : Thread Cert.ProjectDw.nD Cert.ProjectDw.τ).loc Cert.ProjectDw.main_arg2) = m ((c.tc : Thread Cert.ProjectDw.nD Cert.ProjectDw.τ).loc Cert.ProjectDw.main_arg2))
      ∧ r.2.sem = fun _ => 0)

def quiescent_ProjectDwIdeal [hProjectDwIdeal : Cert.ProjectDwIdeal.Facts] : Prop :=
  ∀ (m : (ℓ : Loc Cert.ProjectDwIdeal.nD Cert.ProjectDwIdeal.τ Cert.ProjectDwIdeal.sig) → Buf (Elt Ideal) ℓ) (g : Dev Cert.ProjectDwIdeal.nD → PrngReg), Pre_ProjectDwIdeal m →
    θ_run (Cert.ProjectDwIdeal.defs (F := Ideal)) (onTc (τ := Cert.ProjectDwIdeal.τ) (Cert.ProjectDwIdeal.main (F := Ideal))) ⟨m, fun _ => 0, g⟩ (fun r => (∀ c : Dev Cert.ProjectDwIdeal.nD,
      r.2.mem ((c.tc : Thread Cert.ProjectDwIdeal.nD Cert.ProjectDwIdeal.τ).loc Cert.ProjectDwIdeal.main_arg0) = m ((c.tc : Thread Cert.ProjectDwIdeal.nD Cert.ProjectDwIdeal.τ).loc Cert.ProjectDwIdeal.main_arg0)
      ∧ r.2.mem ((c.tc : Thread Cert.ProjectDwIdeal.nD Cert.ProjectDwIdeal.τ).loc Cert.ProjectDwIdeal.main_arg1) = m ((c.tc : Thread Cert.ProjectDwIdeal.nD Cert.ProjectDwIdeal.τ).loc Cert.ProjectDwIdeal.main_arg1)
      ∧ r.2.mem ((c.tc : Thread Cert.ProjectDwIdeal.nD Cert.ProjectDwIdeal.τ).loc Cert.ProjectDwIdeal.main_arg2) = m ((c.tc : Thread Cert.ProjectDwIdeal.nD Cert.ProjectDwIdeal.τ).loc Cert.ProjectDwIdeal.main_arg2))
      ∧ r.2.sem = fun _ => 0)

def quiescent_ProjectDwRefIdeal [hProjectDwRefIdeal : Cert.ProjectDwRefIdeal.Facts] : Prop :=
  ∀ (m : (ℓ : Loc Cert.ProjectDwRefIdeal.nD Cert.ProjectDwRefIdeal.τ Cert.ProjectDwRefIdeal.sig) → Buf (Elt Ideal) ℓ) (g : Dev Cert.ProjectDwRefIdeal.nD → PrngReg), Pre_ProjectDwRefIdeal m →
    θ_run (Cert.ProjectDwRefIdeal.defs (F := Ideal)) (onTc (τ := Cert.ProjectDwRefIdeal.τ) (Cert.ProjectDwRefIdeal.main (F := Ideal))) ⟨m, fun _ => 0, g⟩ (fun r => (∀ c : Dev Cert.ProjectDwRefIdeal.nD,
      r.2.mem ((c.tc : Thread Cert.ProjectDwRefIdeal.nD Cert.ProjectDwRefIdeal.τ).loc Cert.ProjectDwRefIdeal.main_arg0) = m ((c.tc : Thread Cert.ProjectDwRefIdeal.nD Cert.ProjectDwRefIdeal.τ).loc Cert.ProjectDwRefIdeal.main_arg0)
      ∧ r.2.mem ((c.tc : Thread Cert.ProjectDwRefIdeal.nD Cert.ProjectDwRefIdeal.τ).loc Cert.ProjectDwRefIdeal.main_arg1) = m ((c.tc : Thread Cert.ProjectDwRefIdeal.nD Cert.ProjectDwRefIdeal.τ).loc Cert.ProjectDwRefIdeal.main_arg1)
      ∧ r.2.mem ((c.tc : Thread Cert.ProjectDwRefIdeal.nD Cert.ProjectDwRefIdeal.τ).loc Cert.ProjectDwRefIdeal.main_arg2) = m ((c.tc : Thread Cert.ProjectDwRefIdeal.nD Cert.ProjectDwRefIdeal.τ).loc Cert.ProjectDwRefIdeal.main_arg2))
      ∧ r.2.sem = fun _ => 0)

def preserves_IntraF_IntraFIdeal : Prop :=
  True

def algebraic_IntraFIdeal_IntraFRefIdeal [hIntraFIdeal : Cert.IntraFIdeal.Facts] [hIntraFRefIdeal : Cert.IntraFRefIdeal.Facts] : Prop :=
  ∀ (m : (ℓ : Loc Cert.IntraFIdeal.nD Cert.IntraFIdeal.τ Cert.IntraFIdeal.sig) → Buf (Elt Ideal) ℓ) (g : Dev Cert.IntraFIdeal.nD → PrngReg)
    (m' : (ℓ : Loc Cert.IntraFRefIdeal.nD Cert.IntraFRefIdeal.τ Cert.IntraFRefIdeal.sig) → Buf (Elt Ideal) ℓ) (g' : Dev Cert.IntraFRefIdeal.nD → PrngReg), Pre_IntraFIdeal m →
    (∀ c : Dev Cert.IntraFIdeal.nD,
      m' ((c.tc : Thread Cert.IntraFRefIdeal.nD Cert.IntraFRefIdeal.τ).loc Cert.IntraFRefIdeal.main_arg0) = m ((c.tc : Thread Cert.IntraFIdeal.nD Cert.IntraFIdeal.τ).loc Cert.IntraFIdeal.main_arg0)
      ∧ m' ((c.tc : Thread Cert.IntraFRefIdeal.nD Cert.IntraFRefIdeal.τ).loc Cert.IntraFRefIdeal.main_arg1) = m ((c.tc : Thread Cert.IntraFIdeal.nD Cert.IntraFIdeal.τ).loc Cert.IntraFIdeal.main_arg1)
      ∧ m' ((c.tc : Thread Cert.IntraFRefIdeal.nD Cert.IntraFRefIdeal.τ).loc Cert.IntraFRefIdeal.main_arg2) = m ((c.tc : Thread Cert.IntraFIdeal.nD Cert.IntraFIdeal.τ).loc Cert.IntraFIdeal.main_arg2)
      ∧ m' ((c.tc : Thread Cert.IntraFRefIdeal.nD Cert.IntraFRefIdeal.τ).loc Cert.IntraFRefIdeal.main_arg3) = m ((c.tc : Thread Cert.IntraFIdeal.nD Cert.IntraFIdeal.τ).loc Cert.IntraFIdeal.main_arg3)) →
    ∃ (v0 : (c : Dev Cert.IntraFIdeal.nD) → Buf (Elt Ideal) ((c.tc : Thread Cert.IntraFIdeal.nD Cert.IntraFIdeal.τ).loc Cert.IntraFIdeal.main_v4_0)) (v1 : (c : Dev Cert.IntraFIdeal.nD) → Buf (Elt Ideal) ((c.tc : Thread Cert.IntraFIdeal.nD Cert.IntraFIdeal.τ).loc Cert.IntraFIdeal.main_v4_1)) (v2 : (c : Dev Cert.IntraFIdeal.nD) → Buf (Elt Ideal) ((c.tc : Thread Cert.IntraFIdeal.nD Cert.IntraFIdeal.τ).loc Cert.IntraFIdeal.main_v4_2)),
      θ_run (Cert.IntraFIdeal.defs (F := Ideal)) (onTc (τ := Cert.IntraFIdeal.τ) (Cert.IntraFIdeal.main (F := Ideal))) ⟨m, fun _ => 0, g⟩ (fun r => ∀ c : Dev Cert.IntraFIdeal.nD,
          r.2.mem ((c.tc : Thread Cert.IntraFIdeal.nD Cert.IntraFIdeal.τ).loc Cert.IntraFIdeal.main_v4_0) = v0 c
          ∧ r.2.mem ((c.tc : Thread Cert.IntraFIdeal.nD Cert.IntraFIdeal.τ).loc Cert.IntraFIdeal.main_v4_1) = v1 c
          ∧ r.2.mem ((c.tc : Thread Cert.IntraFIdeal.nD Cert.IntraFIdeal.τ).loc Cert.IntraFIdeal.main_v4_2) = v2 c
          ∧ r.2.mem ((c.tc : Thread Cert.IntraFIdeal.nD Cert.IntraFIdeal.τ).loc Cert.IntraFIdeal.main_arg0) = m ((c.tc : Thread Cert.IntraFIdeal.nD Cert.IntraFIdeal.τ).loc Cert.IntraFIdeal.main_arg0)
          ∧ r.2.mem ((c.tc : Thread Cert.IntraFIdeal.nD Cert.IntraFIdeal.τ).loc Cert.IntraFIdeal.main_arg1) = m ((c.tc : Thread Cert.IntraFIdeal.nD Cert.IntraFIdeal.τ).loc Cert.IntraFIdeal.main_arg1)
          ∧ r.2.mem ((c.tc : Thread Cert.IntraFIdeal.nD Cert.IntraFIdeal.τ).loc Cert.IntraFIdeal.main_arg2) = m ((c.tc : Thread Cert.IntraFIdeal.nD Cert.IntraFIdeal.τ).loc Cert.IntraFIdeal.main_arg2)
          ∧ r.2.mem ((c.tc : Thread Cert.IntraFIdeal.nD Cert.IntraFIdeal.τ).loc Cert.IntraFIdeal.main_arg3) = m ((c.tc : Thread Cert.IntraFIdeal.nD Cert.IntraFIdeal.τ).loc Cert.IntraFIdeal.main_arg3))
      ∧ θ_run (Cert.IntraFRefIdeal.defs (F := Ideal)) (onTc (τ := Cert.IntraFRefIdeal.τ) (Cert.IntraFRefIdeal.main (F := Ideal))) ⟨m', fun _ => 0, g'⟩ (fun r => ∀ c : Dev Cert.IntraFRefIdeal.nD,
          r.2.mem ((c.tc : Thread Cert.IntraFRefIdeal.nD Cert.IntraFRefIdeal.τ).loc Cert.IntraFRefIdeal.main_v23) = v0 c
          ∧ r.2.mem ((c.tc : Thread Cert.IntraFRefIdeal.nD Cert.IntraFRefIdeal.τ).loc Cert.IntraFRefIdeal.main_v24) = v1 c
          ∧ r.2.mem ((c.tc : Thread Cert.IntraFRefIdeal.nD Cert.IntraFRefIdeal.τ).loc Cert.IntraFRefIdeal.main_v25) = v2 c
          ∧ r.2.mem ((c.tc : Thread Cert.IntraFRefIdeal.nD Cert.IntraFRefIdeal.τ).loc Cert.IntraFRefIdeal.main_arg0) = m' ((c.tc : Thread Cert.IntraFRefIdeal.nD Cert.IntraFRefIdeal.τ).loc Cert.IntraFRefIdeal.main_arg0)
          ∧ r.2.mem ((c.tc : Thread Cert.IntraFRefIdeal.nD Cert.IntraFRefIdeal.τ).loc Cert.IntraFRefIdeal.main_arg1) = m' ((c.tc : Thread Cert.IntraFRefIdeal.nD Cert.IntraFRefIdeal.τ).loc Cert.IntraFRefIdeal.main_arg1)
          ∧ r.2.mem ((c.tc : Thread Cert.IntraFRefIdeal.nD Cert.IntraFRefIdeal.τ).loc Cert.IntraFRefIdeal.main_arg2) = m' ((c.tc : Thread Cert.IntraFRefIdeal.nD Cert.IntraFRefIdeal.τ).loc Cert.IntraFRefIdeal.main_arg2)
          ∧ r.2.mem ((c.tc : Thread Cert.IntraFRefIdeal.nD Cert.IntraFRefIdeal.τ).loc Cert.IntraFRefIdeal.main_arg3) = m' ((c.tc : Thread Cert.IntraFRefIdeal.nD Cert.IntraFRefIdeal.τ).loc Cert.IntraFRefIdeal.main_arg3))

def preserves_IntraB_IntraBIdeal : Prop :=
  True

def algebraic_IntraBIdeal_IntraBRefIdeal [hIntraBIdeal : Cert.IntraBIdeal.Facts] [hIntraBRefIdeal : Cert.IntraBRefIdeal.Facts] : Prop :=
  ∀ (m : (ℓ : Loc Cert.IntraBIdeal.nD Cert.IntraBIdeal.τ Cert.IntraBIdeal.sig) → Buf (Elt Ideal) ℓ) (g : Dev Cert.IntraBIdeal.nD → PrngReg)
    (m' : (ℓ : Loc Cert.IntraBRefIdeal.nD Cert.IntraBRefIdeal.τ Cert.IntraBRefIdeal.sig) → Buf (Elt Ideal) ℓ) (g' : Dev Cert.IntraBRefIdeal.nD → PrngReg), Pre_IntraBIdeal m →
    (∀ c : Dev Cert.IntraBIdeal.nD,
      m' ((c.tc : Thread Cert.IntraBRefIdeal.nD Cert.IntraBRefIdeal.τ).loc Cert.IntraBRefIdeal.main_arg0) = m ((c.tc : Thread Cert.IntraBIdeal.nD Cert.IntraBIdeal.τ).loc Cert.IntraBIdeal.main_arg0)
      ∧ m' ((c.tc : Thread Cert.IntraBRefIdeal.nD Cert.IntraBRefIdeal.τ).loc Cert.IntraBRefIdeal.main_arg1) = m ((c.tc : Thread Cert.IntraBIdeal.nD Cert.IntraBIdeal.τ).loc Cert.IntraBIdeal.main_arg1)
      ∧ m' ((c.tc : Thread Cert.IntraBRefIdeal.nD Cert.IntraBRefIdeal.τ).loc Cert.IntraBRefIdeal.main_arg2) = m ((c.tc : Thread Cert.IntraBIdeal.nD Cert.IntraBIdeal.τ).loc Cert.IntraBIdeal.main_arg2)
      ∧ m' ((c.tc : Thread Cert.IntraBRefIdeal.nD Cert.IntraBRefIdeal.τ).loc Cert.IntraBRefIdeal.main_arg3) = m ((c.tc : Thread Cert.IntraBIdeal.nD Cert.IntraBIdeal.τ).loc Cert.IntraBIdeal.main_arg3)) →
    ∃ (v0 : (c : Dev Cert.IntraBIdeal.nD) → Buf (Elt Ideal) ((c.tc : Thread Cert.IntraBIdeal.nD Cert.IntraBIdeal.τ).loc Cert.IntraBIdeal.main_v4_0)) (v1 : (c : Dev Cert.IntraBIdeal.nD) → Buf (Elt Ideal) ((c.tc : Thread Cert.IntraBIdeal.nD Cert.IntraBIdeal.τ).loc Cert.IntraBIdeal.main_v4_1)) (v2 : (c : Dev Cert.IntraBIdeal.nD) → Buf (Elt Ideal) ((c.tc : Thread Cert.IntraBIdeal.nD Cert.IntraBIdeal.τ).loc Cert.IntraBIdeal.main_v4_2)),
      θ_run (Cert.IntraBIdeal.defs (F := Ideal)) (onTc (τ := Cert.IntraBIdeal.τ) (Cert.IntraBIdeal.main (F := Ideal))) ⟨m, fun _ => 0, g⟩ (fun r => ∀ c : Dev Cert.IntraBIdeal.nD,
          r.2.mem ((c.tc : Thread Cert.IntraBIdeal.nD Cert.IntraBIdeal.τ).loc Cert.IntraBIdeal.main_v4_0) = v0 c
          ∧ r.2.mem ((c.tc : Thread Cert.IntraBIdeal.nD Cert.IntraBIdeal.τ).loc Cert.IntraBIdeal.main_v4_1) = v1 c
          ∧ r.2.mem ((c.tc : Thread Cert.IntraBIdeal.nD Cert.IntraBIdeal.τ).loc Cert.IntraBIdeal.main_v4_2) = v2 c
          ∧ r.2.mem ((c.tc : Thread Cert.IntraBIdeal.nD Cert.IntraBIdeal.τ).loc Cert.IntraBIdeal.main_arg0) = m ((c.tc : Thread Cert.IntraBIdeal.nD Cert.IntraBIdeal.τ).loc Cert.IntraBIdeal.main_arg0)
          ∧ r.2.mem ((c.tc : Thread Cert.IntraBIdeal.nD Cert.IntraBIdeal.τ).loc Cert.IntraBIdeal.main_arg1) = m ((c.tc : Thread Cert.IntraBIdeal.nD Cert.IntraBIdeal.τ).loc Cert.IntraBIdeal.main_arg1)
          ∧ r.2.mem ((c.tc : Thread Cert.IntraBIdeal.nD Cert.IntraBIdeal.τ).loc Cert.IntraBIdeal.main_arg2) = m ((c.tc : Thread Cert.IntraBIdeal.nD Cert.IntraBIdeal.τ).loc Cert.IntraBIdeal.main_arg2)
          ∧ r.2.mem ((c.tc : Thread Cert.IntraBIdeal.nD Cert.IntraBIdeal.τ).loc Cert.IntraBIdeal.main_arg3) = m ((c.tc : Thread Cert.IntraBIdeal.nD Cert.IntraBIdeal.τ).loc Cert.IntraBIdeal.main_arg3))
      ∧ θ_run (Cert.IntraBRefIdeal.defs (F := Ideal)) (onTc (τ := Cert.IntraBRefIdeal.τ) (Cert.IntraBRefIdeal.main (F := Ideal))) ⟨m', fun _ => 0, g'⟩ (fun r => ∀ c : Dev Cert.IntraBRefIdeal.nD,
          r.2.mem ((c.tc : Thread Cert.IntraBRefIdeal.nD Cert.IntraBRefIdeal.τ).loc Cert.IntraBRefIdeal.main_v31) = v0 c
          ∧ r.2.mem ((c.tc : Thread Cert.IntraBRefIdeal.nD Cert.IntraBRefIdeal.τ).loc Cert.IntraBRefIdeal.main_v32) = v1 c
          ∧ r.2.mem ((c.tc : Thread Cert.IntraBRefIdeal.nD Cert.IntraBRefIdeal.τ).loc Cert.IntraBRefIdeal.main_v33) = v2 c
          ∧ r.2.mem ((c.tc : Thread Cert.IntraBRefIdeal.nD Cert.IntraBRefIdeal.τ).loc Cert.IntraBRefIdeal.main_arg0) = m' ((c.tc : Thread Cert.IntraBRefIdeal.nD Cert.IntraBRefIdeal.τ).loc Cert.IntraBRefIdeal.main_arg0)
          ∧ r.2.mem ((c.tc : Thread Cert.IntraBRefIdeal.nD Cert.IntraBRefIdeal.τ).loc Cert.IntraBRefIdeal.main_arg1) = m' ((c.tc : Thread Cert.IntraBRefIdeal.nD Cert.IntraBRefIdeal.τ).loc Cert.IntraBRefIdeal.main_arg1)
          ∧ r.2.mem ((c.tc : Thread Cert.IntraBRefIdeal.nD Cert.IntraBRefIdeal.τ).loc Cert.IntraBRefIdeal.main_arg2) = m' ((c.tc : Thread Cert.IntraBRefIdeal.nD Cert.IntraBRefIdeal.τ).loc Cert.IntraBRefIdeal.main_arg2)
          ∧ r.2.mem ((c.tc : Thread Cert.IntraBRefIdeal.nD Cert.IntraBRefIdeal.τ).loc Cert.IntraBRefIdeal.main_arg3) = m' ((c.tc : Thread Cert.IntraBRefIdeal.nD Cert.IntraBRefIdeal.τ).loc Cert.IntraBRefIdeal.main_arg3))

def preserves_MlaFwd_MlaFwdIdeal : Prop :=
  IdealRules.named_const.Statement Cert.MlaFwdIdeal.κ "scale_log2e" .f32 0x3E16C740#32 (((Real.sqrt 96)⁻¹ * (Real.log 2)⁻¹ : ℝ) : EReal)
  ∧ IdealRules.named_const.Statement Cert.MlaFwdIdeal.κ "inv_ln2" .f32 0x3FB8AA3B#32 (((Real.log 2)⁻¹ : ℝ) : EReal)

def algebraic_MlaFwdIdeal_MlaFwdRefIdeal_pre_finite_attention [hMlaFwdIdeal : Cert.MlaFwdIdeal.Facts] [hMlaFwdRefIdeal : Cert.MlaFwdRefIdeal.Facts] [hPre_finite_attention : Cert.Pre_finite_attention.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_finite_attention m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)) →
    ∃ (v0 : (c : Dev Cert.MlaFwdIdeal.nD) → Buf (Elt Ideal) ((c.tc : Thread Cert.MlaFwdIdeal.nD Cert.MlaFwdIdeal.τ).loc Cert.MlaFwdIdeal.main_v11_0)) (v1 : (c : Dev Cert.MlaFwdIdeal.nD) → Buf (Elt Ideal) ((c.tc : Thread Cert.MlaFwdIdeal.nD Cert.MlaFwdIdeal.τ).loc Cert.MlaFwdIdeal.main_v11_1)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v11_0) = v0 c
          ∧ r.2.mem ((c.tc : Thread Cert.MlaFwdIdeal.nD Cert.MlaFwdIdeal.τ).loc Cert.MlaFwdIdeal.main_v11_1) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v29) = v0 c
          ∧ r.2.mem ((c.tc : Thread Cert.MlaFwdRefIdeal.nD Cert.MlaFwdRefIdeal.τ).loc Cert.MlaFwdRefIdeal.main_v30) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2))

def preserves_MlaBwd_MlaBwdIdeal : Prop :=
  IdealRules.named_const.Statement Cert.MlaBwdIdeal.κ "scale_log2e" .f32 0x3E16C740#32 (((Real.sqrt 96)⁻¹ * (Real.log 2)⁻¹ : ℝ) : EReal)
  ∧ IdealRules.named_const.Statement Cert.MlaBwdIdeal.κ "scale" .f32 0x3DD105EC#32 (((Real.sqrt 96)⁻¹ : ℝ) : EReal)

def algebraic_MlaBwdIdeal_MlaBwdRefIdeal_pre_finite_attention_bwd [hMlaBwdIdeal : Cert.MlaBwdIdeal.Facts] [hMlaBwdRefIdeal : Cert.MlaBwdRefIdeal.Facts] [hPre_finite_attention_bwd : Cert.Pre_finite_attention_bwd.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaBwdRefIdeal.nD Cert.MlaBwdRefIdeal.τ Cert.MlaBwdRefIdeal.sig) → Buf (Elt Ideal) ℓ) (g' : Dev Cert.MlaBwdRefIdeal.nD → PrngReg), Pre_MlaBwdIdeal_finite_attention_bwd m →
    (∀ c : Dev Cert.MlaBwdIdeal.nD,
      m' ((c.tc : Thread Cert.MlaBwdRefIdeal.nD Cert.MlaBwdRefIdeal.τ).loc Cert.MlaBwdRefIdeal.main_arg0) = m ((c.tc : Thread Cert.MlaBwdIdeal.nD Cert.MlaBwdIdeal.τ).loc Cert.MlaBwdIdeal.main_arg0)
      ∧ m' ((c.tc : Thread Cert.MlaBwdRefIdeal.nD Cert.MlaBwdRefIdeal.τ).loc Cert.MlaBwdRefIdeal.main_arg1) = m ((c.tc : Thread Cert.MlaBwdIdeal.nD Cert.MlaBwdIdeal.τ).loc Cert.MlaBwdIdeal.main_arg1)
      ∧ m' ((c.tc : Thread Cert.MlaBwdRefIdeal.nD Cert.MlaBwdRefIdeal.τ).loc Cert.MlaBwdRefIdeal.main_arg2) = m ((c.tc : Thread Cert.MlaBwdIdeal.nD Cert.MlaBwdIdeal.τ).loc Cert.MlaBwdIdeal.main_arg2)
      ∧ m' ((c.tc : Thread Cert.MlaBwdRefIdeal.nD Cert.MlaBwdRefIdeal.τ).loc Cert.MlaBwdRefIdeal.main_arg3) = m ((c.tc : Thread Cert.MlaBwdIdeal.nD Cert.MlaBwdIdeal.τ).loc Cert.MlaBwdIdeal.main_arg3)) →
    ∃ (v0 : (c : Dev Cert.MlaBwdIdeal.nD) → Buf (Elt Ideal) ((c.tc : Thread Cert.MlaBwdIdeal.nD Cert.MlaBwdIdeal.τ).loc Cert.MlaBwdIdeal.main_v51_0)) (v1 : (c : Dev Cert.MlaBwdIdeal.nD) → Buf (Elt Ideal) ((c.tc : Thread Cert.MlaBwdIdeal.nD Cert.MlaBwdIdeal.τ).loc Cert.MlaBwdIdeal.main_v51_1)) (v2 : (c : Dev Cert.MlaBwdIdeal.nD) → Buf (Elt Ideal) ((c.tc : Thread Cert.MlaBwdIdeal.nD Cert.MlaBwdIdeal.τ).loc Cert.MlaBwdIdeal.main_v51_2)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v51_0) = v0 c
          ∧ r.2.mem ((c.tc : Thread Cert.MlaBwdIdeal.nD Cert.MlaBwdIdeal.τ).loc Cert.MlaBwdIdeal.main_v51_1) = v1 c
          ∧ r.2.mem ((c.tc : Thread Cert.MlaBwdIdeal.nD Cert.MlaBwdIdeal.τ).loc Cert.MlaBwdIdeal.main_v51_2) = v2 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ θ_run (Cert.MlaBwdRefIdeal.defs (F := Ideal)) (onTc (τ := Cert.MlaBwdRefIdeal.τ) (Cert.MlaBwdRefIdeal.main (F := Ideal))) ⟨m', fun _ => 0, g'⟩ (fun r => ∀ c : Dev Cert.MlaBwdRefIdeal.nD,
          r.2.mem ((c.tc : Thread Cert.MlaBwdRefIdeal.nD Cert.MlaBwdRefIdeal.τ).loc Cert.MlaBwdRefIdeal.main_v60) = v0 c
          ∧ r.2.mem ((c.tc : Thread Cert.MlaBwdRefIdeal.nD Cert.MlaBwdRefIdeal.τ).loc Cert.MlaBwdRefIdeal.main_v62) = v1 c
          ∧ r.2.mem ((c.tc : Thread Cert.MlaBwdRefIdeal.nD Cert.MlaBwdRefIdeal.τ).loc Cert.MlaBwdRefIdeal.main_v64) = v2 c
          ∧ r.2.mem ((c.tc : Thread Cert.MlaBwdRefIdeal.nD Cert.MlaBwdRefIdeal.τ).loc Cert.MlaBwdRefIdeal.main_arg0) = m' ((c.tc : Thread Cert.MlaBwdRefIdeal.nD Cert.MlaBwdRefIdeal.τ).loc Cert.MlaBwdRefIdeal.main_arg0)
          ∧ r.2.mem ((c.tc : Thread Cert.MlaBwdRefIdeal.nD Cert.MlaBwdRefIdeal.τ).loc Cert.MlaBwdRefIdeal.main_arg1) = m' ((c.tc : Thread Cert.MlaBwdRefIdeal.nD Cert.MlaBwdRefIdeal.τ).loc Cert.MlaBwdRefIdeal.main_arg1)
          ∧ r.2.mem ((c.tc : Thread Cert.MlaBwdRefIdeal.nD Cert.MlaBwdRefIdeal.τ).loc Cert.MlaBwdRefIdeal.main_arg2) = m' ((c.tc : Thread Cert.MlaBwdRefIdeal.nD Cert.MlaBwdRefIdeal.τ).loc Cert.MlaBwdRefIdeal.main_arg2)
          ∧ r.2.mem ((c.tc : Thread Cert.MlaBwdRefIdeal.nD Cert.MlaBwdRefIdeal.τ).loc Cert.MlaBwdRefIdeal.main_arg3) = m' ((c.tc : Thread Cert.MlaBwdRefIdeal.nD Cert.MlaBwdRefIdeal.τ).loc Cert.MlaBwdRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v16_2)) (v3 : (c : Dev Cert.MergeIdeal.nD) → Buf (Elt Ideal) ((c.tc : Thread Cert.MergeIdeal.nD Cert.MergeIdeal.τ).loc Cert.MergeIdeal.main_v16_3)) (v4 : (c : Dev Cert.MergeIdeal.nD) → Buf (Elt Ideal) ((c.tc : Thread Cert.MergeIdeal.nD Cert.MergeIdeal.τ).loc Cert.MergeIdeal.main_v16_4)) (v5 : (c : Dev Cert.MergeIdeal.nD) → Buf (Elt Ideal) ((c.tc : Thread Cert.MergeIdeal.nD Cert.MergeIdeal.τ).loc Cert.MergeIdeal.main_v16_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v16_2) = v2 c
          ∧ r.2.mem ((c.tc : Thread Cert.MergeIdeal.nD Cert.MergeIdeal.τ).loc Cert.MergeIdeal.main_v16_3) = v3 c
          ∧ r.2.mem ((c.tc : Thread Cert.MergeIdeal.nD Cert.MergeIdeal.τ).loc Cert.MergeIdeal.main_v16_4) = v4 c
          ∧ r.2.mem ((c.tc : Thread Cert.MergeIdeal.nD Cert.MergeIdeal.τ).loc Cert.MergeIdeal.main_v16_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v50) = v3 c
          ∧ r.2.mem ((c.tc : Thread Cert.MergeRefIdeal.nD Cert.MergeRefIdeal.τ).loc Cert.MergeRefIdeal.main_v52) = v4 c
          ∧ r.2.mem ((c.tc : Thread Cert.MergeRefIdeal.nD Cert.MergeRefIdeal.τ).loc Cert.MergeRefIdeal.main_v54) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v4_0)) (v1 : (c : Dev Cert.NormIdeal.nD) → Buf (Elt Ideal) ((c.tc : Thread Cert.NormIdeal.nD Cert.NormIdeal.τ).loc Cert.NormIdeal.main_v4_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_v4_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v37) = v0 c
          ∧ r.2.mem ((c.tc : Thread Cert.NormRefIdeal.nD Cert.NormRefIdeal.τ).loc Cert.NormRefIdeal.main_v38) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_GatedNorm_GatedNormIdeal : Prop :=
  True

def algebraic_GatedNormIdeal_GatedNormRefIdeal_pre_finite_gated [hGatedNormIdeal : Cert.GatedNormIdeal.Facts] [hGatedNormRefIdeal : Cert.GatedNormRefIdeal.Facts] [hPre_finite_gated : Cert.Pre_finite_gated.Facts] : Prop :=
  ∀ (m : (ℓ : Loc Cert.GatedNormIdeal.nD Cert.GatedNormIdeal.τ Cert.GatedNormIdeal.sig) → Buf (Elt Ideal) ℓ) (g : Dev Cert.GatedNormIdeal.nD → PrngReg)
    (m' : (ℓ : Loc Cert.GatedNormRefIdeal.nD Cert.GatedNormRefIdeal.τ Cert.GatedNormRefIdeal.sig) → Buf (Elt Ideal) ℓ) (g' : Dev Cert.GatedNormRefIdeal.nD → PrngReg), Pre_GatedNormIdeal_finite_gated m →
    (∀ c : Dev Cert.GatedNormIdeal.nD,
      m' ((c.tc : Thread Cert.GatedNormRefIdeal.nD Cert.GatedNormRefIdeal.τ).loc Cert.GatedNormRefIdeal.main_arg0) = m ((c.tc : Thread Cert.GatedNormIdeal.nD Cert.GatedNormIdeal.τ).loc Cert.GatedNormIdeal.main_arg0)
      ∧ m' ((c.tc : Thread Cert.GatedNormRefIdeal.nD Cert.GatedNormRefIdeal.τ).loc Cert.GatedNormRefIdeal.main_arg1) = m ((c.tc : Thread Cert.GatedNormIdeal.nD Cert.GatedNormIdeal.τ).loc Cert.GatedNormIdeal.main_arg1)
      ∧ m' ((c.tc : Thread Cert.GatedNormRefIdeal.nD Cert.GatedNormRefIdeal.τ).loc Cert.GatedNormRefIdeal.main_arg2) = m ((c.tc : Thread Cert.GatedNormIdeal.nD Cert.GatedNormIdeal.τ).loc Cert.GatedNormIdeal.main_arg2)
      ∧ m' ((c.tc : Thread Cert.GatedNormRefIdeal.nD Cert.GatedNormRefIdeal.τ).loc Cert.GatedNormRefIdeal.main_arg3) = m ((c.tc : Thread Cert.GatedNormIdeal.nD Cert.GatedNormIdeal.τ).loc Cert.GatedNormIdeal.main_arg3)) →
    ∃ (v0 : (c : Dev Cert.GatedNormIdeal.nD) → Buf (Elt Ideal) ((c.tc : Thread Cert.GatedNormIdeal.nD Cert.GatedNormIdeal.τ).loc Cert.GatedNormIdeal.main_v7_0)) (v1 : (c : Dev Cert.GatedNormIdeal.nD) → Buf (Elt Ideal) ((c.tc : Thread Cert.GatedNormIdeal.nD Cert.GatedNormIdeal.τ).loc Cert.GatedNormIdeal.main_v7_1)) (v2 : (c : Dev Cert.GatedNormIdeal.nD) → Buf (Elt Ideal) ((c.tc : Thread Cert.GatedNormIdeal.nD Cert.GatedNormIdeal.τ).loc Cert.GatedNormIdeal.main_v7_2)),
      θ_run (Cert.GatedNormIdeal.defs (F := Ideal)) (onTc (τ := Cert.GatedNormIdeal.τ) (Cert.GatedNormIdeal.main (F := Ideal))) ⟨m, fun _ => 0, g⟩ (fun r => ∀ c : Dev Cert.GatedNormIdeal.nD,
          r.2.mem ((c.tc : Thread Cert.GatedNormIdeal.nD Cert.GatedNormIdeal.τ).loc Cert.GatedNormIdeal.main_v7_0) = v0 c
          ∧ r.2.mem ((c.tc : Thread Cert.GatedNormIdeal.nD Cert.GatedNormIdeal.τ).loc Cert.GatedNormIdeal.main_v7_1) = v1 c
          ∧ r.2.mem ((c.tc : Thread Cert.GatedNormIdeal.nD Cert.GatedNormIdeal.τ).loc Cert.GatedNormIdeal.main_v7_2) = v2 c
          ∧ r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
          ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
          ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
          ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3))
      ∧ θ_run (Cert.GatedNormRefIdeal.defs (F := Ideal)) (onTc (τ := Cert.GatedNormRefIdeal.τ) (Cert.GatedNormRefIdeal.main (F := Ideal))) ⟨m', fun _ => 0, g'⟩ (fun r => ∀ c : Dev Cert.GatedNormRefIdeal.nD,
          r.2.mem ((c.tc : Thread Cert.GatedNormRefIdeal.nD Cert.GatedNormRefIdeal.τ).loc Cert.GatedNormRefIdeal.main_v47) = v0 c
          ∧ r.2.mem ((c.tc : Thread Cert.GatedNormRefIdeal.nD Cert.GatedNormRefIdeal.τ).loc Cert.GatedNormRefIdeal.main_v48) = v1 c
          ∧ r.2.mem ((c.tc : Thread Cert.GatedNormRefIdeal.nD Cert.GatedNormRefIdeal.τ).loc Cert.GatedNormRefIdeal.main_v49) = v2 c
          ∧ r.2.mem ((c.tc : Thread Cert.GatedNormRefIdeal.nD Cert.GatedNormRefIdeal.τ).loc Cert.GatedNormRefIdeal.main_arg0) = m' ((c.tc : Thread Cert.GatedNormRefIdeal.nD Cert.GatedNormRefIdeal.τ).loc Cert.GatedNormRefIdeal.main_arg0)
          ∧ r.2.mem ((c.tc : Thread Cert.GatedNormRefIdeal.nD Cert.GatedNormRefIdeal.τ).loc Cert.GatedNormRefIdeal.main_arg1) = m' ((c.tc : Thread Cert.GatedNormRefIdeal.nD Cert.GatedNormRefIdeal.τ).loc Cert.GatedNormRefIdeal.main_arg1)
          ∧ r.2.mem ((c.tc : Thread Cert.GatedNormRefIdeal.nD Cert.GatedNormRefIdeal.τ).loc Cert.GatedNormRefIdeal.main_arg2) = m' ((c.tc : Thread Cert.GatedNormRefIdeal.nD Cert.GatedNormRefIdeal.τ).loc Cert.GatedNormRefIdeal.main_arg2)
          ∧ r.2.mem ((c.tc : Thread Cert.GatedNormRefIdeal.nD Cert.GatedNormRefIdeal.τ).loc Cert.GatedNormRefIdeal.main_arg3) = m' ((c.tc : Thread Cert.GatedNormRefIdeal.nD Cert.GatedNormRefIdeal.τ).loc Cert.GatedNormRefIdeal.main_arg3))

def preserves_NormKeep_NormKeepIdeal : Prop :=
  True

def algebraic_NormKeepIdeal_NormKeepRefIdeal_pre_finite_norm_keep [hNormKeepIdeal : Cert.NormKeepIdeal.Facts] [hNormKeepRefIdeal : Cert.NormKeepRefIdeal.Facts] [hPre_finite_norm_keep : Cert.Pre_finite_norm_keep.Facts] : Prop :=
  ∀ (m : (ℓ : Loc Cert.NormKeepIdeal.nD Cert.NormKeepIdeal.τ Cert.NormKeepIdeal.sig) → Buf (Elt Ideal) ℓ) (g : Dev Cert.NormKeepIdeal.nD → PrngReg)
    (m' : (ℓ : Loc Cert.NormKeepRefIdeal.nD Cert.NormKeepRefIdeal.τ Cert.NormKeepRefIdeal.sig) → Buf (Elt Ideal) ℓ) (g' : Dev Cert.NormKeepRefIdeal.nD → PrngReg), Pre_NormKeepIdeal_finite_norm_keep m →
    (∀ c : Dev Cert.NormKeepIdeal.nD,
      m' ((c.tc : Thread Cert.NormKeepRefIdeal.nD Cert.NormKeepRefIdeal.τ).loc Cert.NormKeepRefIdeal.main_arg0) = m ((c.tc : Thread Cert.NormKeepIdeal.nD Cert.NormKeepIdeal.τ).loc Cert.NormKeepIdeal.main_arg0)
      ∧ m' ((c.tc : Thread Cert.NormKeepRefIdeal.nD Cert.NormKeepRefIdeal.τ).loc Cert.NormKeepRefIdeal.main_arg1) = m ((c.tc : Thread Cert.NormKeepIdeal.nD Cert.NormKeepIdeal.τ).loc Cert.NormKeepIdeal.main_arg1)
      ∧ m' ((c.tc : Thread Cert.NormKeepRefIdeal.nD Cert.NormKeepRefIdeal.τ).loc Cert.NormKeepRefIdeal.main_arg2) = m ((c.tc : Thread Cert.NormKeepIdeal.nD Cert.NormKeepIdeal.τ).loc Cert.NormKeepIdeal.main_arg2)
      ∧ m' ((c.tc : Thread Cert.NormKeepRefIdeal.nD Cert.NormKeepRefIdeal.τ).loc Cert.NormKeepRefIdeal.main_arg3) = m ((c.tc : Thread Cert.NormKeepIdeal.nD Cert.NormKeepIdeal.τ).loc Cert.NormKeepIdeal.main_arg3)) →
    ∃ (v0 : (c : Dev Cert.NormKeepIdeal.nD) → Buf (Elt Ideal) ((c.tc : Thread Cert.NormKeepIdeal.nD Cert.NormKeepIdeal.τ).loc Cert.NormKeepIdeal.main_v5_0)) (v1 : (c : Dev Cert.NormKeepIdeal.nD) → Buf (Elt Ideal) ((c.tc : Thread Cert.NormKeepIdeal.nD Cert.NormKeepIdeal.τ).loc Cert.NormKeepIdeal.main_v5_1)),
      θ_run (Cert.NormKeepIdeal.defs (F := Ideal)) (onTc (τ := Cert.NormKeepIdeal.τ) (Cert.NormKeepIdeal.main (F := Ideal))) ⟨m, fun _ => 0, g⟩ (fun r => ∀ c : Dev Cert.NormKeepIdeal.nD,
          r.2.mem ((c.tc : Thread Cert.NormKeepIdeal.nD Cert.NormKeepIdeal.τ).loc Cert.NormKeepIdeal.main_v5_0) = v0 c
          ∧ r.2.mem ((c.tc : Thread Cert.NormKeepIdeal.nD Cert.NormKeepIdeal.τ).loc Cert.NormKeepIdeal.main_v5_1) = v1 c
          ∧ r.2.mem ((c.tc : Thread Cert.NormKeepIdeal.nD Cert.NormKeepIdeal.τ).loc Cert.NormKeepIdeal.main_arg0) = m ((c.tc : Thread Cert.NormKeepIdeal.nD Cert.NormKeepIdeal.τ).loc Cert.NormKeepIdeal.main_arg0)
          ∧ r.2.mem ((c.tc : Thread Cert.NormKeepIdeal.nD Cert.NormKeepIdeal.τ).loc Cert.NormKeepIdeal.main_arg1) = m ((c.tc : Thread Cert.NormKeepIdeal.nD Cert.NormKeepIdeal.τ).loc Cert.NormKeepIdeal.main_arg1)
          ∧ r.2.mem ((c.tc : Thread Cert.NormKeepIdeal.nD Cert.NormKeepIdeal.τ).loc Cert.NormKeepIdeal.main_arg2) = m ((c.tc : Thread Cert.NormKeepIdeal.nD Cert.NormKeepIdeal.τ).loc Cert.NormKeepIdeal.main_arg2)
          ∧ r.2.mem ((c.tc : Thread Cert.NormKeepIdeal.nD Cert.NormKeepIdeal.τ).loc Cert.NormKeepIdeal.main_arg3) = m ((c.tc : Thread Cert.NormKeepIdeal.nD Cert.NormKeepIdeal.τ).loc Cert.NormKeepIdeal.main_arg3))
      ∧ θ_run (Cert.NormKeepRefIdeal.defs (F := Ideal)) (onTc (τ := Cert.NormKeepRefIdeal.τ) (Cert.NormKeepRefIdeal.main (F := Ideal))) ⟨m', fun _ => 0, g'⟩ (fun r => ∀ c : Dev Cert.NormKeepRefIdeal.nD,
          r.2.mem ((c.tc : Thread Cert.NormKeepRefIdeal.nD Cert.NormKeepRefIdeal.τ).loc Cert.NormKeepRefIdeal.main_v38) = v0 c
          ∧ r.2.mem ((c.tc : Thread Cert.NormKeepRefIdeal.nD Cert.NormKeepRefIdeal.τ).loc Cert.NormKeepRefIdeal.main_v39) = v1 c
          ∧ r.2.mem ((c.tc : Thread Cert.NormKeepRefIdeal.nD Cert.NormKeepRefIdeal.τ).loc Cert.NormKeepRefIdeal.main_arg0) = m' ((c.tc : Thread Cert.NormKeepRefIdeal.nD Cert.NormKeepRefIdeal.τ).loc Cert.NormKeepRefIdeal.main_arg0)
          ∧ r.2.mem ((c.tc : Thread Cert.NormKeepRefIdeal.nD Cert.NormKeepRefIdeal.τ).loc Cert.NormKeepRefIdeal.main_arg1) = m' ((c.tc : Thread Cert.NormKeepRefIdeal.nD Cert.NormKeepRefIdeal.τ).loc Cert.NormKeepRefIdeal.main_arg1)
          ∧ r.2.mem ((c.tc : Thread Cert.NormKeepRefIdeal.nD Cert.NormKeepRefIdeal.τ).loc Cert.NormKeepRefIdeal.main_arg2) = m' ((c.tc : Thread Cert.NormKeepRefIdeal.nD Cert.NormKeepRefIdeal.τ).loc Cert.NormKeepRefIdeal.main_arg2)
          ∧ r.2.mem ((c.tc : Thread Cert.NormKeepRefIdeal.nD Cert.NormKeepRefIdeal.τ).loc Cert.NormKeepRefIdeal.main_arg3) = m' ((c.tc : Thread Cert.NormKeepRefIdeal.nD Cert.NormKeepRefIdeal.τ).loc Cert.NormKeepRefIdeal.main_arg3))

def preserves_PrepF_PrepFIdeal : Prop :=
  True

def algebraic_PrepFIdeal_PrepFRefIdeal_pre_smooth_gates [hPrepFIdeal : Cert.PrepFIdeal.Facts] [hPrepFRefIdeal : Cert.PrepFRefIdeal.Facts] [hPre_smooth_gates : Cert.Pre_smooth_gates.Facts] : Prop :=
  ∀ (m : (ℓ : Loc Cert.PrepFIdeal.nD Cert.PrepFIdeal.τ Cert.PrepFIdeal.sig) → Buf (Elt Ideal) ℓ) (g : Dev Cert.PrepFIdeal.nD → PrngReg)
    (m' : (ℓ : Loc Cert.PrepFRefIdeal.nD Cert.PrepFRefIdeal.τ Cert.PrepFRefIdeal.sig) → Buf (Elt Ideal) ℓ) (g' : Dev Cert.PrepFRefIdeal.nD → PrngReg), Pre_PrepFIdeal_smooth_gates m →
    (∀ c : Dev Cert.PrepFIdeal.nD,
      m' ((c.tc : Thread Cert.PrepFRefIdeal.nD Cert.PrepFRefIdeal.τ).loc Cert.PrepFRefIdeal.main_arg0) = m ((c.tc : Thread Cert.PrepFIdeal.nD Cert.PrepFIdeal.τ).loc Cert.PrepFIdeal.main_arg0)
      ∧ m' ((c.tc : Thread Cert.PrepFRefIdeal.nD Cert.PrepFRefIdeal.τ).loc Cert.PrepFRefIdeal.main_arg1) = m ((c.tc : Thread Cert.PrepFIdeal.nD Cert.PrepFIdeal.τ).loc Cert.PrepFIdeal.main_arg1)
      ∧ m' ((c.tc : Thread Cert.PrepFRefIdeal.nD Cert.PrepFRefIdeal.τ).loc Cert.PrepFRefIdeal.main_arg2) = m ((c.tc : Thread Cert.PrepFIdeal.nD Cert.PrepFIdeal.τ).loc Cert.PrepFIdeal.main_arg2)
      ∧ m' ((c.tc : Thread Cert.PrepFRefIdeal.nD Cert.PrepFRefIdeal.τ).loc Cert.PrepFRefIdeal.main_arg3) = m ((c.tc : Thread Cert.PrepFIdeal.nD Cert.PrepFIdeal.τ).loc Cert.PrepFIdeal.main_arg3)
      ∧ m' ((c.tc : Thread Cert.PrepFRefIdeal.nD Cert.PrepFRefIdeal.τ).loc Cert.PrepFRefIdeal.main_arg4) = m ((c.tc : Thread Cert.PrepFIdeal.nD Cert.PrepFIdeal.τ).loc Cert.PrepFIdeal.main_arg4)
      ∧ m' ((c.tc : Thread Cert.PrepFRefIdeal.nD Cert.PrepFRefIdeal.τ).loc Cert.PrepFRefIdeal.main_arg5) = m ((c.tc : Thread Cert.PrepFIdeal.nD Cert.PrepFIdeal.τ).loc Cert.PrepFIdeal.main_arg5)
      ∧ m' ((c.tc : Thread Cert.PrepFRefIdeal.nD Cert.PrepFRefIdeal.τ).loc Cert.PrepFRefIdeal.main_arg6) = m ((c.tc : Thread Cert.PrepFIdeal.nD Cert.PrepFIdeal.τ).loc Cert.PrepFIdeal.main_arg6)) →
    ∃ (v0 : (c : Dev Cert.PrepFIdeal.nD) → Buf (Elt Ideal) ((c.tc : Thread Cert.PrepFIdeal.nD Cert.PrepFIdeal.τ).loc Cert.PrepFIdeal.main_v5_0)) (v1 : (c : Dev Cert.PrepFIdeal.nD) → Buf (Elt Ideal) ((c.tc : Thread Cert.PrepFIdeal.nD Cert.PrepFIdeal.τ).loc Cert.PrepFIdeal.main_v5_1)) (v2 : (c : Dev Cert.PrepFIdeal.nD) → Buf (Elt Ideal) ((c.tc : Thread Cert.PrepFIdeal.nD Cert.PrepFIdeal.τ).loc Cert.PrepFIdeal.main_v5_2)),
      θ_run (Cert.PrepFIdeal.defs (F := Ideal)) (onTc (τ := Cert.PrepFIdeal.τ) (Cert.PrepFIdeal.main (F := Ideal))) ⟨m, fun _ => 0, g⟩ (fun r => ∀ c : Dev Cert.PrepFIdeal.nD,
          r.2.mem ((c.tc : Thread Cert.PrepFIdeal.nD Cert.PrepFIdeal.τ).loc Cert.PrepFIdeal.main_v5_0) = v0 c
          ∧ r.2.mem ((c.tc : Thread Cert.PrepFIdeal.nD Cert.PrepFIdeal.τ).loc Cert.PrepFIdeal.main_v5_1) = v1 c
          ∧ r.2.mem ((c.tc : Thread Cert.PrepFIdeal.nD Cert.PrepFIdeal.τ).loc Cert.PrepFIdeal.main_v5_2) = v2 c
          ∧ r.2.mem ((c.tc : Thread Cert.PrepFIdeal.nD Cert.PrepFIdeal.τ).loc Cert.PrepFIdeal.main_arg0) = m ((c.tc : Thread Cert.PrepFIdeal.nD Cert.PrepFIdeal.τ).loc Cert.PrepFIdeal.main_arg0)
          ∧ r.2.mem ((c.tc : Thread Cert.PrepFIdeal.nD Cert.PrepFIdeal.τ).loc Cert.PrepFIdeal.main_arg1) = m ((c.tc : Thread Cert.PrepFIdeal.nD Cert.PrepFIdeal.τ).loc Cert.PrepFIdeal.main_arg1)
          ∧ r.2.mem ((c.tc : Thread Cert.PrepFIdeal.nD Cert.PrepFIdeal.τ).loc Cert.PrepFIdeal.main_arg2) = m ((c.tc : Thread Cert.PrepFIdeal.nD Cert.PrepFIdeal.τ).loc Cert.PrepFIdeal.main_arg2)
          ∧ r.2.mem ((c.tc : Thread Cert.PrepFIdeal.nD Cert.PrepFIdeal.τ).loc Cert.PrepFIdeal.main_arg3) = m ((c.tc : Thread Cert.PrepFIdeal.nD Cert.PrepFIdeal.τ).loc Cert.PrepFIdeal.main_arg3)
          ∧ r.2.mem ((c.tc : Thread Cert.PrepFIdeal.nD Cert.PrepFIdeal.τ).loc Cert.PrepFIdeal.main_arg4) = m ((c.tc : Thread Cert.PrepFIdeal.nD Cert.PrepFIdeal.τ).loc Cert.PrepFIdeal.main_arg4)
          ∧ r.2.mem ((c.tc : Thread Cert.PrepFIdeal.nD Cert.PrepFIdeal.τ).loc Cert.PrepFIdeal.main_arg5) = m ((c.tc : Thread Cert.PrepFIdeal.nD Cert.PrepFIdeal.τ).loc Cert.PrepFIdeal.main_arg5)
          ∧ r.2.mem ((c.tc : Thread Cert.PrepFIdeal.nD Cert.PrepFIdeal.τ).loc Cert.PrepFIdeal.main_arg6) = m ((c.tc : Thread Cert.PrepFIdeal.nD Cert.PrepFIdeal.τ).loc Cert.PrepFIdeal.main_arg6))
      ∧ θ_run (Cert.PrepFRefIdeal.defs (F := Ideal)) (onTc (τ := Cert.PrepFRefIdeal.τ) (Cert.PrepFRefIdeal.main (F := Ideal))) ⟨m', fun _ => 0, g'⟩ (fun r => ∀ c : Dev Cert.PrepFRefIdeal.nD,
          r.2.mem ((c.tc : Thread Cert.PrepFRefIdeal.nD Cert.PrepFRefIdeal.τ).loc Cert.PrepFRefIdeal.main_v94) = v0 c
          ∧ r.2.mem ((c.tc : Thread Cert.PrepFRefIdeal.nD Cert.PrepFRefIdeal.τ).loc Cert.PrepFRefIdeal.main_v120) = v1 c
          ∧ r.2.mem ((c.tc : Thread Cert.PrepFRefIdeal.nD Cert.PrepFRefIdeal.τ).loc Cert.PrepFRefIdeal.main_v122) = v2 c
          ∧ r.2.mem ((c.tc : Thread Cert.PrepFRefIdeal.nD Cert.PrepFRefIdeal.τ).loc Cert.PrepFRefIdeal.main_arg0) = m' ((c.tc : Thread Cert.PrepFRefIdeal.nD Cert.PrepFRefIdeal.τ).loc Cert.PrepFRefIdeal.main_arg0)
          ∧ r.2.mem ((c.tc : Thread Cert.PrepFRefIdeal.nD Cert.PrepFRefIdeal.τ).loc Cert.PrepFRefIdeal.main_arg1) = m' ((c.tc : Thread Cert.PrepFRefIdeal.nD Cert.PrepFRefIdeal.τ).loc Cert.PrepFRefIdeal.main_arg1)
          ∧ r.2.mem ((c.tc : Thread Cert.PrepFRefIdeal.nD Cert.PrepFRefIdeal.τ).loc Cert.PrepFRefIdeal.main_arg2) = m' ((c.tc : Thread Cert.PrepFRefIdeal.nD Cert.PrepFRefIdeal.τ).loc Cert.PrepFRefIdeal.main_arg2)
          ∧ r.2.mem ((c.tc : Thread Cert.PrepFRefIdeal.nD Cert.PrepFRefIdeal.τ).loc Cert.PrepFRefIdeal.main_arg3) = m' ((c.tc : Thread Cert.PrepFRefIdeal.nD Cert.PrepFRefIdeal.τ).loc Cert.PrepFRefIdeal.main_arg3)
          ∧ r.2.mem ((c.tc : Thread Cert.PrepFRefIdeal.nD Cert.PrepFRefIdeal.τ).loc Cert.PrepFRefIdeal.main_arg4) = m' ((c.tc : Thread Cert.PrepFRefIdeal.nD Cert.PrepFRefIdeal.τ).loc Cert.PrepFRefIdeal.main_arg4)
          ∧ r.2.mem ((c.tc : Thread Cert.PrepFRefIdeal.nD Cert.PrepFRefIdeal.τ).loc Cert.PrepFRefIdeal.main_arg5) = m' ((c.tc : Thread Cert.PrepFRefIdeal.nD Cert.PrepFRefIdeal.τ).loc Cert.PrepFRefIdeal.main_arg5)
          ∧ r.2.mem ((c.tc : Thread Cert.PrepFRefIdeal.nD Cert.PrepFRefIdeal.τ).loc Cert.PrepFRefIdeal.main_arg6) = m' ((c.tc : Thread Cert.PrepFRefIdeal.nD Cert.PrepFRefIdeal.τ).loc Cert.PrepFRefIdeal.main_arg6))

def preserves_PrepB_PrepBIdeal : Prop :=
  True

def algebraic_PrepBIdeal_PrepBRefIdeal_pre_smooth_gates [hPrepBIdeal : Cert.PrepBIdeal.Facts] [hPrepBRefIdeal : Cert.PrepBRefIdeal.Facts] [hPre_smooth_gates : Cert.Pre_smooth_gates.Facts] : Prop :=
  ∀ (m : (ℓ : Loc Cert.PrepBIdeal.nD Cert.PrepBIdeal.τ Cert.PrepBIdeal.sig) → Buf (Elt Ideal) ℓ) (g : Dev Cert.PrepBIdeal.nD → PrngReg)
    (m' : (ℓ : Loc Cert.PrepBRefIdeal.nD Cert.PrepBRefIdeal.τ Cert.PrepBRefIdeal.sig) → Buf (Elt Ideal) ℓ) (g' : Dev Cert.PrepBRefIdeal.nD → PrngReg), Pre_PrepBIdeal_smooth_gates m →
    (∀ c : Dev Cert.PrepBIdeal.nD,
      m' ((c.tc : Thread Cert.PrepBRefIdeal.nD Cert.PrepBRefIdeal.τ).loc Cert.PrepBRefIdeal.main_arg0) = m ((c.tc : Thread Cert.PrepBIdeal.nD Cert.PrepBIdeal.τ).loc Cert.PrepBIdeal.main_arg0)
      ∧ m' ((c.tc : Thread Cert.PrepBRefIdeal.nD Cert.PrepBRefIdeal.τ).loc Cert.PrepBRefIdeal.main_arg1) = m ((c.tc : Thread Cert.PrepBIdeal.nD Cert.PrepBIdeal.τ).loc Cert.PrepBIdeal.main_arg1)
      ∧ m' ((c.tc : Thread Cert.PrepBRefIdeal.nD Cert.PrepBRefIdeal.τ).loc Cert.PrepBRefIdeal.main_arg2) = m ((c.tc : Thread Cert.PrepBIdeal.nD Cert.PrepBIdeal.τ).loc Cert.PrepBIdeal.main_arg2)
      ∧ m' ((c.tc : Thread Cert.PrepBRefIdeal.nD Cert.PrepBRefIdeal.τ).loc Cert.PrepBRefIdeal.main_arg3) = m ((c.tc : Thread Cert.PrepBIdeal.nD Cert.PrepBIdeal.τ).loc Cert.PrepBIdeal.main_arg3)
      ∧ m' ((c.tc : Thread Cert.PrepBRefIdeal.nD Cert.PrepBRefIdeal.τ).loc Cert.PrepBRefIdeal.main_arg4) = m ((c.tc : Thread Cert.PrepBIdeal.nD Cert.PrepBIdeal.τ).loc Cert.PrepBIdeal.main_arg4)
      ∧ m' ((c.tc : Thread Cert.PrepBRefIdeal.nD Cert.PrepBRefIdeal.τ).loc Cert.PrepBRefIdeal.main_arg5) = m ((c.tc : Thread Cert.PrepBIdeal.nD Cert.PrepBIdeal.τ).loc Cert.PrepBIdeal.main_arg5)
      ∧ m' ((c.tc : Thread Cert.PrepBRefIdeal.nD Cert.PrepBRefIdeal.τ).loc Cert.PrepBRefIdeal.main_arg6) = m ((c.tc : Thread Cert.PrepBIdeal.nD Cert.PrepBIdeal.τ).loc Cert.PrepBIdeal.main_arg6)) →
    ∃ (v0 : (c : Dev Cert.PrepBIdeal.nD) → Buf (Elt Ideal) ((c.tc : Thread Cert.PrepBIdeal.nD Cert.PrepBIdeal.τ).loc Cert.PrepBIdeal.main_v5_0)) (v1 : (c : Dev Cert.PrepBIdeal.nD) → Buf (Elt Ideal) ((c.tc : Thread Cert.PrepBIdeal.nD Cert.PrepBIdeal.τ).loc Cert.PrepBIdeal.main_v5_1)) (v2 : (c : Dev Cert.PrepBIdeal.nD) → Buf (Elt Ideal) ((c.tc : Thread Cert.PrepBIdeal.nD Cert.PrepBIdeal.τ).loc Cert.PrepBIdeal.main_v5_2)),
      θ_run (Cert.PrepBIdeal.defs (F := Ideal)) (onTc (τ := Cert.PrepBIdeal.τ) (Cert.PrepBIdeal.main (F := Ideal))) ⟨m, fun _ => 0, g⟩ (fun r => ∀ c : Dev Cert.PrepBIdeal.nD,
          r.2.mem ((c.tc : Thread Cert.PrepBIdeal.nD Cert.PrepBIdeal.τ).loc Cert.PrepBIdeal.main_v5_0) = v0 c
          ∧ r.2.mem ((c.tc : Thread Cert.PrepBIdeal.nD Cert.PrepBIdeal.τ).loc Cert.PrepBIdeal.main_v5_1) = v1 c
          ∧ r.2.mem ((c.tc : Thread Cert.PrepBIdeal.nD Cert.PrepBIdeal.τ).loc Cert.PrepBIdeal.main_v5_2) = v2 c
          ∧ r.2.mem ((c.tc : Thread Cert.PrepBIdeal.nD Cert.PrepBIdeal.τ).loc Cert.PrepBIdeal.main_arg0) = m ((c.tc : Thread Cert.PrepBIdeal.nD Cert.PrepBIdeal.τ).loc Cert.PrepBIdeal.main_arg0)
          ∧ r.2.mem ((c.tc : Thread Cert.PrepBIdeal.nD Cert.PrepBIdeal.τ).loc Cert.PrepBIdeal.main_arg1) = m ((c.tc : Thread Cert.PrepBIdeal.nD Cert.PrepBIdeal.τ).loc Cert.PrepBIdeal.main_arg1)
          ∧ r.2.mem ((c.tc : Thread Cert.PrepBIdeal.nD Cert.PrepBIdeal.τ).loc Cert.PrepBIdeal.main_arg2) = m ((c.tc : Thread Cert.PrepBIdeal.nD Cert.PrepBIdeal.τ).loc Cert.PrepBIdeal.main_arg2)
          ∧ r.2.mem ((c.tc : Thread Cert.PrepBIdeal.nD Cert.PrepBIdeal.τ).loc Cert.PrepBIdeal.main_arg3) = m ((c.tc : Thread Cert.PrepBIdeal.nD Cert.PrepBIdeal.τ).loc Cert.PrepBIdeal.main_arg3)
          ∧ r.2.mem ((c.tc : Thread Cert.PrepBIdeal.nD Cert.PrepBIdeal.τ).loc Cert.PrepBIdeal.main_arg4) = m ((c.tc : Thread Cert.PrepBIdeal.nD Cert.PrepBIdeal.τ).loc Cert.PrepBIdeal.main_arg4)
          ∧ r.2.mem ((c.tc : Thread Cert.PrepBIdeal.nD Cert.PrepBIdeal.τ).loc Cert.PrepBIdeal.main_arg5) = m ((c.tc : Thread Cert.PrepBIdeal.nD Cert.PrepBIdeal.τ).loc Cert.PrepBIdeal.main_arg5)
          ∧ r.2.mem ((c.tc : Thread Cert.PrepBIdeal.nD Cert.PrepBIdeal.τ).loc Cert.PrepBIdeal.main_arg6) = m ((c.tc : Thread Cert.PrepBIdeal.nD Cert.PrepBIdeal.τ).loc Cert.PrepBIdeal.main_arg6))
      ∧ θ_run (Cert.PrepBRefIdeal.defs (F := Ideal)) (onTc (τ := Cert.PrepBRefIdeal.τ) (Cert.PrepBRefIdeal.main (F := Ideal))) ⟨m', fun _ => 0, g'⟩ (fun r => ∀ c : Dev Cert.PrepBRefIdeal.nD,
          r.2.mem ((c.tc : Thread Cert.PrepBRefIdeal.nD Cert.PrepBRefIdeal.τ).loc Cert.PrepBRefIdeal.main_v108) = v0 c
          ∧ r.2.mem ((c.tc : Thread Cert.PrepBRefIdeal.nD Cert.PrepBRefIdeal.τ).loc Cert.PrepBRefIdeal.main_v134) = v1 c
          ∧ r.2.mem ((c.tc : Thread Cert.PrepBRefIdeal.nD Cert.PrepBRefIdeal.τ).loc Cert.PrepBRefIdeal.main_v136) = v2 c
          ∧ r.2.mem ((c.tc : Thread Cert.PrepBRefIdeal.nD Cert.PrepBRefIdeal.τ).loc Cert.PrepBRefIdeal.main_arg0) = m' ((c.tc : Thread Cert.PrepBRefIdeal.nD Cert.PrepBRefIdeal.τ).loc Cert.PrepBRefIdeal.main_arg0)
          ∧ r.2.mem ((c.tc : Thread Cert.PrepBRefIdeal.nD Cert.PrepBRefIdeal.τ).loc Cert.PrepBRefIdeal.main_arg1) = m' ((c.tc : Thread Cert.PrepBRefIdeal.nD Cert.PrepBRefIdeal.τ).loc Cert.PrepBRefIdeal.main_arg1)
          ∧ r.2.mem ((c.tc : Thread Cert.PrepBRefIdeal.nD Cert.PrepBRefIdeal.τ).loc Cert.PrepBRefIdeal.main_arg2) = m' ((c.tc : Thread Cert.PrepBRefIdeal.nD Cert.PrepBRefIdeal.τ).loc Cert.PrepBRefIdeal.main_arg2)
          ∧ r.2.mem ((c.tc : Thread Cert.PrepBRefIdeal.nD Cert.PrepBRefIdeal.τ).loc Cert.PrepBRefIdeal.main_arg3) = m' ((c.tc : Thread Cert.PrepBRefIdeal.nD Cert.PrepBRefIdeal.τ).loc Cert.PrepBRefIdeal.main_arg3)
          ∧ r.2.mem ((c.tc : Thread Cert.PrepBRefIdeal.nD Cert.PrepBRefIdeal.τ).loc Cert.PrepBRefIdeal.main_arg4) = m' ((c.tc : Thread Cert.PrepBRefIdeal.nD Cert.PrepBRefIdeal.τ).loc Cert.PrepBRefIdeal.main_arg4)
          ∧ r.2.mem ((c.tc : Thread Cert.PrepBRefIdeal.nD Cert.PrepBRefIdeal.τ).loc Cert.PrepBRefIdeal.main_arg5) = m' ((c.tc : Thread Cert.PrepBRefIdeal.nD Cert.PrepBRefIdeal.τ).loc Cert.PrepBRefIdeal.main_arg5)
          ∧ r.2.mem ((c.tc : Thread Cert.PrepBRefIdeal.nD Cert.PrepBRefIdeal.τ).loc Cert.PrepBRefIdeal.main_arg6) = m' ((c.tc : Thread Cert.PrepBRefIdeal.nD Cert.PrepBRefIdeal.τ).loc Cert.PrepBRefIdeal.main_arg6))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v10) = v0 c
          ∧ r.2.mem ((c.tc : Thread Cert.FfnRefIdeal.nD Cert.FfnRefIdeal.τ).loc Cert.FfnRefIdeal.main_v12) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnDx_FfnDxIdeal : Prop :=
  True

def algebraic_FfnDxIdeal_FfnDxRefIdeal_pre_finite_ffn [hFfnDxIdeal : Cert.FfnDxIdeal.Facts] [hFfnDxRefIdeal : Cert.FfnDxRefIdeal.Facts] [hPre_finite_ffn : Cert.Pre_finite_ffn.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal_finite_ffn m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)) →
    ∃ (v0 : (c : Dev Cert.FfnDxIdeal.nD) → Buf (Elt Ideal) ((c.tc : Thread Cert.FfnDxIdeal.nD Cert.FfnDxIdeal.τ).loc Cert.FfnDxIdeal.main_v9)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v9) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v12) = v0 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)
      ∧ m' ((c.tc : Thread Cert.MergeFwdRefIdeal.nD Cert.MergeFwdRefIdeal.τ).loc Cert.MergeFwdRefIdeal.main_arg9) = m ((c.tc : Thread Cert.MergeFwdIdeal.nD Cert.MergeFwdIdeal.τ).loc Cert.MergeFwdIdeal.main_arg9)
      ∧ m' ((c.tc : Thread Cert.MergeFwdRefIdeal.nD Cert.MergeFwdRefIdeal.τ).loc Cert.MergeFwdRefIdeal.main_arg10) = m ((c.tc : Thread Cert.MergeFwdIdeal.nD Cert.MergeFwdIdeal.τ).loc Cert.MergeFwdIdeal.main_arg10)) →
    ∃ (v0 : (c : Dev Cert.MergeFwdIdeal.nD) → Buf (Elt Ideal) ((c.tc : Thread Cert.MergeFwdIdeal.nD Cert.MergeFwdIdeal.τ).loc Cert.MergeFwdIdeal.main_v15_0)) (v1 : (c : Dev Cert.MergeFwdIdeal.nD) → Buf (Elt Ideal) ((c.tc : Thread Cert.MergeFwdIdeal.nD Cert.MergeFwdIdeal.τ).loc Cert.MergeFwdIdeal.main_v15_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v15_0) = v0 c
          ∧ r.2.mem ((c.tc : Thread Cert.MergeFwdIdeal.nD Cert.MergeFwdIdeal.τ).loc Cert.MergeFwdIdeal.main_v15_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
          ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
          ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v28) = v0 c
          ∧ r.2.mem ((c.tc : Thread Cert.MergeFwdRefIdeal.nD Cert.MergeFwdRefIdeal.τ).loc Cert.MergeFwdRefIdeal.main_v30) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8)
          ∧ r.2.mem ((c.tc : Thread Cert.MergeFwdRefIdeal.nD Cert.MergeFwdRefIdeal.τ).loc Cert.MergeFwdRefIdeal.main_arg9) = m' ((c.tc : Thread Cert.MergeFwdRefIdeal.nD Cert.MergeFwdRefIdeal.τ).loc Cert.MergeFwdRefIdeal.main_arg9)
          ∧ r.2.mem ((c.tc : Thread Cert.MergeFwdRefIdeal.nD Cert.MergeFwdRefIdeal.τ).loc Cert.MergeFwdRefIdeal.main_arg10) = m' ((c.tc : Thread Cert.MergeFwdRefIdeal.nD Cert.MergeFwdRefIdeal.τ).loc Cert.MergeFwdRefIdeal.main_arg10))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_IntraFwdF_IntraFwdFIdeal : Prop :=
  True

def algebraic_IntraFwdFIdeal_IntraFwdFRefIdeal [hIntraFwdFIdeal : Cert.IntraFwdFIdeal.Facts] [hIntraFwdFRefIdeal : Cert.IntraFwdFRefIdeal.Facts] : Prop :=
  ∀ (m : (ℓ : Loc Cert.IntraFwdFIdeal.nD Cert.IntraFwdFIdeal.τ Cert.IntraFwdFIdeal.sig) → Buf (Elt Ideal) ℓ) (g : Dev Cert.IntraFwdFIdeal.nD → PrngReg)
    (m' : (ℓ : Loc Cert.IntraFwdFRefIdeal.nD Cert.IntraFwdFRefIdeal.τ Cert.IntraFwdFRefIdeal.sig) → Buf (Elt Ideal) ℓ) (g' : Dev Cert.IntraFwdFRefIdeal.nD → PrngReg), Pre_IntraFwdFIdeal m →
    (∀ c : Dev Cert.IntraFwdFIdeal.nD,
      m' ((c.tc : Thread Cert.IntraFwdFRefIdeal.nD Cert.IntraFwdFRefIdeal.τ).loc Cert.IntraFwdFRefIdeal.main_arg0) = m ((c.tc : Thread Cert.IntraFwdFIdeal.nD Cert.IntraFwdFIdeal.τ).loc Cert.IntraFwdFIdeal.main_arg0)
      ∧ m' ((c.tc : Thread Cert.IntraFwdFRefIdeal.nD Cert.IntraFwdFRefIdeal.τ).loc Cert.IntraFwdFRefIdeal.main_arg1) = m ((c.tc : Thread Cert.IntraFwdFIdeal.nD Cert.IntraFwdFIdeal.τ).loc Cert.IntraFwdFIdeal.main_arg1)
      ∧ m' ((c.tc : Thread Cert.IntraFwdFRefIdeal.nD Cert.IntraFwdFRefIdeal.τ).loc Cert.IntraFwdFRefIdeal.main_arg2) = m ((c.tc : Thread Cert.IntraFwdFIdeal.nD Cert.IntraFwdFIdeal.τ).loc Cert.IntraFwdFIdeal.main_arg2)) →
    ∃ (v0 : (c : Dev Cert.IntraFwdFIdeal.nD) → Buf (Elt Ideal) ((c.tc : Thread Cert.IntraFwdFIdeal.nD Cert.IntraFwdFIdeal.τ).loc Cert.IntraFwdFIdeal.main_v3)),
      θ_run (Cert.IntraFwdFIdeal.defs (F := Ideal)) (onTc (τ := Cert.IntraFwdFIdeal.τ) (Cert.IntraFwdFIdeal.main (F := Ideal))) ⟨m, fun _ => 0, g⟩ (fun r => ∀ c : Dev Cert.IntraFwdFIdeal.nD,
          r.2.mem ((c.tc : Thread Cert.IntraFwdFIdeal.nD Cert.IntraFwdFIdeal.τ).loc Cert.IntraFwdFIdeal.main_v3) = v0 c
          ∧ r.2.mem ((c.tc : Thread Cert.IntraFwdFIdeal.nD Cert.IntraFwdFIdeal.τ).loc Cert.IntraFwdFIdeal.main_arg0) = m ((c.tc : Thread Cert.IntraFwdFIdeal.nD Cert.IntraFwdFIdeal.τ).loc Cert.IntraFwdFIdeal.main_arg0)
          ∧ r.2.mem ((c.tc : Thread Cert.IntraFwdFIdeal.nD Cert.IntraFwdFIdeal.τ).loc Cert.IntraFwdFIdeal.main_arg1) = m ((c.tc : Thread Cert.IntraFwdFIdeal.nD Cert.IntraFwdFIdeal.τ).loc Cert.IntraFwdFIdeal.main_arg1)
          ∧ r.2.mem ((c.tc : Thread Cert.IntraFwdFIdeal.nD Cert.IntraFwdFIdeal.τ).loc Cert.IntraFwdFIdeal.main_arg2) = m ((c.tc : Thread Cert.IntraFwdFIdeal.nD Cert.IntraFwdFIdeal.τ).loc Cert.IntraFwdFIdeal.main_arg2))
      ∧ θ_run (Cert.IntraFwdFRefIdeal.defs (F := Ideal)) (onTc (τ := Cert.IntraFwdFRefIdeal.τ) (Cert.IntraFwdFRefIdeal.main (F := Ideal))) ⟨m', fun _ => 0, g'⟩ (fun r => ∀ c : Dev Cert.IntraFwdFRefIdeal.nD,
          r.2.mem ((c.tc : Thread Cert.IntraFwdFRefIdeal.nD Cert.IntraFwdFRefIdeal.τ).loc Cert.IntraFwdFRefIdeal.main_v10) = v0 c
          ∧ r.2.mem ((c.tc : Thread Cert.IntraFwdFRefIdeal.nD Cert.IntraFwdFRefIdeal.τ).loc Cert.IntraFwdFRefIdeal.main_arg0) = m' ((c.tc : Thread Cert.IntraFwdFRefIdeal.nD Cert.IntraFwdFRefIdeal.τ).loc Cert.IntraFwdFRefIdeal.main_arg0)
          ∧ r.2.mem ((c.tc : Thread Cert.IntraFwdFRefIdeal.nD Cert.IntraFwdFRefIdeal.τ).loc Cert.IntraFwdFRefIdeal.main_arg1) = m' ((c.tc : Thread Cert.IntraFwdFRefIdeal.nD Cert.IntraFwdFRefIdeal.τ).loc Cert.IntraFwdFRefIdeal.main_arg1)
          ∧ r.2.mem ((c.tc : Thread Cert.IntraFwdFRefIdeal.nD Cert.IntraFwdFRefIdeal.τ).loc Cert.IntraFwdFRefIdeal.main_arg2) = m' ((c.tc : Thread Cert.IntraFwdFRefIdeal.nD Cert.IntraFwdFRefIdeal.τ).loc Cert.IntraFwdFRefIdeal.main_arg2))

def preserves_IntraFwdB_IntraFwdBIdeal : Prop :=
  True

def algebraic_IntraFwdBIdeal_IntraFwdBRefIdeal [hIntraFwdBIdeal : Cert.IntraFwdBIdeal.Facts] [hIntraFwdBRefIdeal : Cert.IntraFwdBRefIdeal.Facts] : Prop :=
  ∀ (m : (ℓ : Loc Cert.IntraFwdBIdeal.nD Cert.IntraFwdBIdeal.τ Cert.IntraFwdBIdeal.sig) → Buf (Elt Ideal) ℓ) (g : Dev Cert.IntraFwdBIdeal.nD → PrngReg)
    (m' : (ℓ : Loc Cert.IntraFwdBRefIdeal.nD Cert.IntraFwdBRefIdeal.τ Cert.IntraFwdBRefIdeal.sig) → Buf (Elt Ideal) ℓ) (g' : Dev Cert.IntraFwdBRefIdeal.nD → PrngReg), Pre_IntraFwdBIdeal m →
    (∀ c : Dev Cert.IntraFwdBIdeal.nD,
      m' ((c.tc : Thread Cert.IntraFwdBRefIdeal.nD Cert.IntraFwdBRefIdeal.τ).loc Cert.IntraFwdBRefIdeal.main_arg0) = m ((c.tc : Thread Cert.IntraFwdBIdeal.nD Cert.IntraFwdBIdeal.τ).loc Cert.IntraFwdBIdeal.main_arg0)
      ∧ m' ((c.tc : Thread Cert.IntraFwdBRefIdeal.nD Cert.IntraFwdBRefIdeal.τ).loc Cert.IntraFwdBRefIdeal.main_arg1) = m ((c.tc : Thread Cert.IntraFwdBIdeal.nD Cert.IntraFwdBIdeal.τ).loc Cert.IntraFwdBIdeal.main_arg1)
      ∧ m' ((c.tc : Thread Cert.IntraFwdBRefIdeal.nD Cert.IntraFwdBRefIdeal.τ).loc Cert.IntraFwdBRefIdeal.main_arg2) = m ((c.tc : Thread Cert.IntraFwdBIdeal.nD Cert.IntraFwdBIdeal.τ).loc Cert.IntraFwdBIdeal.main_arg2)) →
    ∃ (v0 : (c : Dev Cert.IntraFwdBIdeal.nD) → Buf (Elt Ideal) ((c.tc : Thread Cert.IntraFwdBIdeal.nD Cert.IntraFwdBIdeal.τ).loc Cert.IntraFwdBIdeal.main_v3)),
      θ_run (Cert.IntraFwdBIdeal.defs (F := Ideal)) (onTc (τ := Cert.IntraFwdBIdeal.τ) (Cert.IntraFwdBIdeal.main (F := Ideal))) ⟨m, fun _ => 0, g⟩ (fun r => ∀ c : Dev Cert.IntraFwdBIdeal.nD,
          r.2.mem ((c.tc : Thread Cert.IntraFwdBIdeal.nD Cert.IntraFwdBIdeal.τ).loc Cert.IntraFwdBIdeal.main_v3) = v0 c
          ∧ r.2.mem ((c.tc : Thread Cert.IntraFwdBIdeal.nD Cert.IntraFwdBIdeal.τ).loc Cert.IntraFwdBIdeal.main_arg0) = m ((c.tc : Thread Cert.IntraFwdBIdeal.nD Cert.IntraFwdBIdeal.τ).loc Cert.IntraFwdBIdeal.main_arg0)
          ∧ r.2.mem ((c.tc : Thread Cert.IntraFwdBIdeal.nD Cert.IntraFwdBIdeal.τ).loc Cert.IntraFwdBIdeal.main_arg1) = m ((c.tc : Thread Cert.IntraFwdBIdeal.nD Cert.IntraFwdBIdeal.τ).loc Cert.IntraFwdBIdeal.main_arg1)
          ∧ r.2.mem ((c.tc : Thread Cert.IntraFwdBIdeal.nD Cert.IntraFwdBIdeal.τ).loc Cert.IntraFwdBIdeal.main_arg2) = m ((c.tc : Thread Cert.IntraFwdBIdeal.nD Cert.IntraFwdBIdeal.τ).loc Cert.IntraFwdBIdeal.main_arg2))
      ∧ θ_run (Cert.IntraFwdBRefIdeal.defs (F := Ideal)) (onTc (τ := Cert.IntraFwdBRefIdeal.τ) (Cert.IntraFwdBRefIdeal.main (F := Ideal))) ⟨m', fun _ => 0, g'⟩ (fun r => ∀ c : Dev Cert.IntraFwdBRefIdeal.nD,
          r.2.mem ((c.tc : Thread Cert.IntraFwdBRefIdeal.nD Cert.IntraFwdBRefIdeal.τ).loc Cert.IntraFwdBRefIdeal.main_v14) = v0 c
          ∧ r.2.mem ((c.tc : Thread Cert.IntraFwdBRefIdeal.nD Cert.IntraFwdBRefIdeal.τ).loc Cert.IntraFwdBRefIdeal.main_arg0) = m' ((c.tc : Thread Cert.IntraFwdBRefIdeal.nD Cert.IntraFwdBRefIdeal.τ).loc Cert.IntraFwdBRefIdeal.main_arg0)
          ∧ r.2.mem ((c.tc : Thread Cert.IntraFwdBRefIdeal.nD Cert.IntraFwdBRefIdeal.τ).loc Cert.IntraFwdBRefIdeal.main_arg1) = m' ((c.tc : Thread Cert.IntraFwdBRefIdeal.nD Cert.IntraFwdBRefIdeal.τ).loc Cert.IntraFwdBRefIdeal.main_arg1)
          ∧ r.2.mem ((c.tc : Thread Cert.IntraFwdBRefIdeal.nD Cert.IntraFwdBRefIdeal.τ).loc Cert.IntraFwdBRefIdeal.main_arg2) = m' ((c.tc : Thread Cert.IntraFwdBRefIdeal.nD Cert.IntraFwdBRefIdeal.τ).loc Cert.IntraFwdBRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_v7) = v1 c
          ∧ r.2.mem ((c.tc : Thread Cert.FfnUpRefIdeal.nD Cert.FfnUpRefIdeal.τ).loc Cert.FfnUpRefIdeal.main_v9) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v7) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_GatedNormFwd_GatedNormFwdIdeal : Prop :=
  True

def algebraic_GatedNormFwdIdeal_GatedNormFwdRefIdeal_pre_finite_gated_fwd [hGatedNormFwdIdeal : Cert.GatedNormFwdIdeal.Facts] [hGatedNormFwdRefIdeal : Cert.GatedNormFwdRefIdeal.Facts] [hPre_finite_gated_fwd : Cert.Pre_finite_gated_fwd.Facts] : Prop :=
  ∀ (m : (ℓ : Loc Cert.GatedNormFwdIdeal.nD Cert.GatedNormFwdIdeal.τ Cert.GatedNormFwdIdeal.sig) → Buf (Elt Ideal) ℓ) (g : Dev Cert.GatedNormFwdIdeal.nD → PrngReg)
    (m' : (ℓ : Loc Cert.GatedNormFwdRefIdeal.nD Cert.GatedNormFwdRefIdeal.τ Cert.GatedNormFwdRefIdeal.sig) → Buf (Elt Ideal) ℓ) (g' : Dev Cert.GatedNormFwdRefIdeal.nD → PrngReg), Pre_GatedNormFwdIdeal_finite_gated_fwd m →
    (∀ c : Dev Cert.GatedNormFwdIdeal.nD,
      m' ((c.tc : Thread Cert.GatedNormFwdRefIdeal.nD Cert.GatedNormFwdRefIdeal.τ).loc Cert.GatedNormFwdRefIdeal.main_arg0) = m ((c.tc : Thread Cert.GatedNormFwdIdeal.nD Cert.GatedNormFwdIdeal.τ).loc Cert.GatedNormFwdIdeal.main_arg0)
      ∧ m' ((c.tc : Thread Cert.GatedNormFwdRefIdeal.nD Cert.GatedNormFwdRefIdeal.τ).loc Cert.GatedNormFwdRefIdeal.main_arg1) = m ((c.tc : Thread Cert.GatedNormFwdIdeal.nD Cert.GatedNormFwdIdeal.τ).loc Cert.GatedNormFwdIdeal.main_arg1)
      ∧ m' ((c.tc : Thread Cert.GatedNormFwdRefIdeal.nD Cert.GatedNormFwdRefIdeal.τ).loc Cert.GatedNormFwdRefIdeal.main_arg2) = m ((c.tc : Thread Cert.GatedNormFwdIdeal.nD Cert.GatedNormFwdIdeal.τ).loc Cert.GatedNormFwdIdeal.main_arg2)) →
    ∃ (v0 : (c : Dev Cert.GatedNormFwdIdeal.nD) → Buf (Elt Ideal) ((c.tc : Thread Cert.GatedNormFwdIdeal.nD Cert.GatedNormFwdIdeal.τ).loc Cert.GatedNormFwdIdeal.main_v6)),
      θ_run (Cert.GatedNormFwdIdeal.defs (F := Ideal)) (onTc (τ := Cert.GatedNormFwdIdeal.τ) (Cert.GatedNormFwdIdeal.main (F := Ideal))) ⟨m, fun _ => 0, g⟩ (fun r => ∀ c : Dev Cert.GatedNormFwdIdeal.nD,
          r.2.mem ((c.tc : Thread Cert.GatedNormFwdIdeal.nD Cert.GatedNormFwdIdeal.τ).loc Cert.GatedNormFwdIdeal.main_v6) = v0 c
          ∧ r.2.mem ((c.tc : Thread Cert.GatedNormFwdIdeal.nD Cert.GatedNormFwdIdeal.τ).loc Cert.GatedNormFwdIdeal.main_arg0) = m ((c.tc : Thread Cert.GatedNormFwdIdeal.nD Cert.GatedNormFwdIdeal.τ).loc Cert.GatedNormFwdIdeal.main_arg0)
          ∧ r.2.mem ((c.tc : Thread Cert.GatedNormFwdIdeal.nD Cert.GatedNormFwdIdeal.τ).loc Cert.GatedNormFwdIdeal.main_arg1) = m ((c.tc : Thread Cert.GatedNormFwdIdeal.nD Cert.GatedNormFwdIdeal.τ).loc Cert.GatedNormFwdIdeal.main_arg1)
          ∧ r.2.mem ((c.tc : Thread Cert.GatedNormFwdIdeal.nD Cert.GatedNormFwdIdeal.τ).loc Cert.GatedNormFwdIdeal.main_arg2) = m ((c.tc : Thread Cert.GatedNormFwdIdeal.nD Cert.GatedNormFwdIdeal.τ).loc Cert.GatedNormFwdIdeal.main_arg2))
      ∧ θ_run (Cert.GatedNormFwdRefIdeal.defs (F := Ideal)) (onTc (τ := Cert.GatedNormFwdRefIdeal.τ) (Cert.GatedNormFwdRefIdeal.main (F := Ideal))) ⟨m', fun _ => 0, g'⟩ (fun r => ∀ c : Dev Cert.GatedNormFwdRefIdeal.nD,
          r.2.mem ((c.tc : Thread Cert.GatedNormFwdRefIdeal.nD Cert.GatedNormFwdRefIdeal.τ).loc Cert.GatedNormFwdRefIdeal.main_v17) = v0 c
          ∧ r.2.mem ((c.tc : Thread Cert.GatedNormFwdRefIdeal.nD Cert.GatedNormFwdRefIdeal.τ).loc Cert.GatedNormFwdRefIdeal.main_arg0) = m' ((c.tc : Thread Cert.GatedNormFwdRefIdeal.nD Cert.GatedNormFwdRefIdeal.τ).loc Cert.GatedNormFwdRefIdeal.main_arg0)
          ∧ r.2.mem ((c.tc : Thread Cert.GatedNormFwdRefIdeal.nD Cert.GatedNormFwdRefIdeal.τ).loc Cert.GatedNormFwdRefIdeal.main_arg1) = m' ((c.tc : Thread Cert.GatedNormFwdRefIdeal.nD Cert.GatedNormFwdRefIdeal.τ).loc Cert.GatedNormFwdRefIdeal.main_arg1)
          ∧ r.2.mem ((c.tc : Thread Cert.GatedNormFwdRefIdeal.nD Cert.GatedNormFwdRefIdeal.τ).loc Cert.GatedNormFwdRefIdeal.main_arg2) = m' ((c.tc : Thread Cert.GatedNormFwdRefIdeal.nD Cert.GatedNormFwdRefIdeal.τ).loc Cert.GatedNormFwdRefIdeal.main_arg2))

def preserves_PrepFwdF_PrepFwdFIdeal : Prop :=
  True

def algebraic_PrepFwdFIdeal_PrepFwdFRefIdeal_pre_finite_gates [hPrepFwdFIdeal : Cert.PrepFwdFIdeal.Facts] [hPrepFwdFRefIdeal : Cert.PrepFwdFRefIdeal.Facts] [hPre_finite_gates : Cert.Pre_finite_gates.Facts] : Prop :=
  ∀ (m : (ℓ : Loc Cert.PrepFwdFIdeal.nD Cert.PrepFwdFIdeal.τ Cert.PrepFwdFIdeal.sig) → Buf (Elt Ideal) ℓ) (g : Dev Cert.PrepFwdFIdeal.nD → PrngReg)
    (m' : (ℓ : Loc Cert.PrepFwdFRefIdeal.nD Cert.PrepFwdFRefIdeal.τ Cert.PrepFwdFRefIdeal.sig) → Buf (Elt Ideal) ℓ) (g' : Dev Cert.PrepFwdFRefIdeal.nD → PrngReg), Pre_PrepFwdFIdeal_finite_gates m →
    (∀ c : Dev Cert.PrepFwdFIdeal.nD,
      m' ((c.tc : Thread Cert.PrepFwdFRefIdeal.nD Cert.PrepFwdFRefIdeal.τ).loc Cert.PrepFwdFRefIdeal.main_arg0) = m ((c.tc : Thread Cert.PrepFwdFIdeal.nD Cert.PrepFwdFIdeal.τ).loc Cert.PrepFwdFIdeal.main_arg0)
      ∧ m' ((c.tc : Thread Cert.PrepFwdFRefIdeal.nD Cert.PrepFwdFRefIdeal.τ).loc Cert.PrepFwdFRefIdeal.main_arg1) = m ((c.tc : Thread Cert.PrepFwdFIdeal.nD Cert.PrepFwdFIdeal.τ).loc Cert.PrepFwdFIdeal.main_arg1)
      ∧ m' ((c.tc : Thread Cert.PrepFwdFRefIdeal.nD Cert.PrepFwdFRefIdeal.τ).loc Cert.PrepFwdFRefIdeal.main_arg2) = m ((c.tc : Thread Cert.PrepFwdFIdeal.nD Cert.PrepFwdFIdeal.τ).loc Cert.PrepFwdFIdeal.main_arg2)) →
    ∃ (v0 : (c : Dev Cert.PrepFwdFIdeal.nD) → Buf (Elt Ideal) ((c.tc : Thread Cert.PrepFwdFIdeal.nD Cert.PrepFwdFIdeal.τ).loc Cert.PrepFwdFIdeal.main_v1_0)) (v1 : (c : Dev Cert.PrepFwdFIdeal.nD) → Buf (Elt Ideal) ((c.tc : Thread Cert.PrepFwdFIdeal.nD Cert.PrepFwdFIdeal.τ).loc Cert.PrepFwdFIdeal.main_v1_1)) (v2 : (c : Dev Cert.PrepFwdFIdeal.nD) → Buf (Elt Ideal) ((c.tc : Thread Cert.PrepFwdFIdeal.nD Cert.PrepFwdFIdeal.τ).loc Cert.PrepFwdFIdeal.main_v1_2)) (v3 : (c : Dev Cert.PrepFwdFIdeal.nD) → Buf (Elt Ideal) ((c.tc : Thread Cert.PrepFwdFIdeal.nD Cert.PrepFwdFIdeal.τ).loc Cert.PrepFwdFIdeal.main_v1_3)),
      θ_run (Cert.PrepFwdFIdeal.defs (F := Ideal)) (onTc (τ := Cert.PrepFwdFIdeal.τ) (Cert.PrepFwdFIdeal.main (F := Ideal))) ⟨m, fun _ => 0, g⟩ (fun r => ∀ c : Dev Cert.PrepFwdFIdeal.nD,
          r.2.mem ((c.tc : Thread Cert.PrepFwdFIdeal.nD Cert.PrepFwdFIdeal.τ).loc Cert.PrepFwdFIdeal.main_v1_0) = v0 c
          ∧ r.2.mem ((c.tc : Thread Cert.PrepFwdFIdeal.nD Cert.PrepFwdFIdeal.τ).loc Cert.PrepFwdFIdeal.main_v1_1) = v1 c
          ∧ r.2.mem ((c.tc : Thread Cert.PrepFwdFIdeal.nD Cert.PrepFwdFIdeal.τ).loc Cert.PrepFwdFIdeal.main_v1_2) = v2 c
          ∧ r.2.mem ((c.tc : Thread Cert.PrepFwdFIdeal.nD Cert.PrepFwdFIdeal.τ).loc Cert.PrepFwdFIdeal.main_v1_3) = v3 c
          ∧ r.2.mem ((c.tc : Thread Cert.PrepFwdFIdeal.nD Cert.PrepFwdFIdeal.τ).loc Cert.PrepFwdFIdeal.main_arg0) = m ((c.tc : Thread Cert.PrepFwdFIdeal.nD Cert.PrepFwdFIdeal.τ).loc Cert.PrepFwdFIdeal.main_arg0)
          ∧ r.2.mem ((c.tc : Thread Cert.PrepFwdFIdeal.nD Cert.PrepFwdFIdeal.τ).loc Cert.PrepFwdFIdeal.main_arg1) = m ((c.tc : Thread Cert.PrepFwdFIdeal.nD Cert.PrepFwdFIdeal.τ).loc Cert.PrepFwdFIdeal.main_arg1)
          ∧ r.2.mem ((c.tc : Thread Cert.PrepFwdFIdeal.nD Cert.PrepFwdFIdeal.τ).loc Cert.PrepFwdFIdeal.main_arg2) = m ((c.tc : Thread Cert.PrepFwdFIdeal.nD Cert.PrepFwdFIdeal.τ).loc Cert.PrepFwdFIdeal.main_arg2))
      ∧ θ_run (Cert.PrepFwdFRefIdeal.defs (F := Ideal)) (onTc (τ := Cert.PrepFwdFRefIdeal.τ) (Cert.PrepFwdFRefIdeal.main (F := Ideal))) ⟨m', fun _ => 0, g'⟩ (fun r => ∀ c : Dev Cert.PrepFwdFRefIdeal.nD,
          r.2.mem ((c.tc : Thread Cert.PrepFwdFRefIdeal.nD Cert.PrepFwdFRefIdeal.τ).loc Cert.PrepFwdFRefIdeal.main_v51) = v0 c
          ∧ r.2.mem ((c.tc : Thread Cert.PrepFwdFRefIdeal.nD Cert.PrepFwdFRefIdeal.τ).loc Cert.PrepFwdFRefIdeal.main_v52) = v1 c
          ∧ r.2.mem ((c.tc : Thread Cert.PrepFwdFRefIdeal.nD Cert.PrepFwdFRefIdeal.τ).loc Cert.PrepFwdFRefIdeal.main_v53) = v2 c
          ∧ r.2.mem ((c.tc : Thread Cert.PrepFwdFRefIdeal.nD Cert.PrepFwdFRefIdeal.τ).loc Cert.PrepFwdFRefIdeal.main_v54) = v3 c
          ∧ r.2.mem ((c.tc : Thread Cert.PrepFwdFRefIdeal.nD Cert.PrepFwdFRefIdeal.τ).loc Cert.PrepFwdFRefIdeal.main_arg0) = m' ((c.tc : Thread Cert.PrepFwdFRefIdeal.nD Cert.PrepFwdFRefIdeal.τ).loc Cert.PrepFwdFRefIdeal.main_arg0)
          ∧ r.2.mem ((c.tc : Thread Cert.PrepFwdFRefIdeal.nD Cert.PrepFwdFRefIdeal.τ).loc Cert.PrepFwdFRefIdeal.main_arg1) = m' ((c.tc : Thread Cert.PrepFwdFRefIdeal.nD Cert.PrepFwdFRefIdeal.τ).loc Cert.PrepFwdFRefIdeal.main_arg1)
          ∧ r.2.mem ((c.tc : Thread Cert.PrepFwdFRefIdeal.nD Cert.PrepFwdFRefIdeal.τ).loc Cert.PrepFwdFRefIdeal.main_arg2) = m' ((c.tc : Thread Cert.PrepFwdFRefIdeal.nD Cert.PrepFwdFRefIdeal.τ).loc Cert.PrepFwdFRefIdeal.main_arg2))

def preserves_PrepFwdB_PrepFwdBIdeal : Prop :=
  True

def algebraic_PrepFwdBIdeal_PrepFwdBRefIdeal_pre_finite_gates [hPrepFwdBIdeal : Cert.PrepFwdBIdeal.Facts] [hPrepFwdBRefIdeal : Cert.PrepFwdBRefIdeal.Facts] [hPre_finite_gates : Cert.Pre_finite_gates.Facts] : Prop :=
  ∀ (m : (ℓ : Loc Cert.PrepFwdBIdeal.nD Cert.PrepFwdBIdeal.τ Cert.PrepFwdBIdeal.sig) → Buf (Elt Ideal) ℓ) (g : Dev Cert.PrepFwdBIdeal.nD → PrngReg)
    (m' : (ℓ : Loc Cert.PrepFwdBRefIdeal.nD Cert.PrepFwdBRefIdeal.τ Cert.PrepFwdBRefIdeal.sig) → Buf (Elt Ideal) ℓ) (g' : Dev Cert.PrepFwdBRefIdeal.nD → PrngReg), Pre_PrepFwdBIdeal_finite_gates m →
    (∀ c : Dev Cert.PrepFwdBIdeal.nD,
      m' ((c.tc : Thread Cert.PrepFwdBRefIdeal.nD Cert.PrepFwdBRefIdeal.τ).loc Cert.PrepFwdBRefIdeal.main_arg0) = m ((c.tc : Thread Cert.PrepFwdBIdeal.nD Cert.PrepFwdBIdeal.τ).loc Cert.PrepFwdBIdeal.main_arg0)
      ∧ m' ((c.tc : Thread Cert.PrepFwdBRefIdeal.nD Cert.PrepFwdBRefIdeal.τ).loc Cert.PrepFwdBRefIdeal.main_arg1) = m ((c.tc : Thread Cert.PrepFwdBIdeal.nD Cert.PrepFwdBIdeal.τ).loc Cert.PrepFwdBIdeal.main_arg1)
      ∧ m' ((c.tc : Thread Cert.PrepFwdBRefIdeal.nD Cert.PrepFwdBRefIdeal.τ).loc Cert.PrepFwdBRefIdeal.main_arg2) = m ((c.tc : Thread Cert.PrepFwdBIdeal.nD Cert.PrepFwdBIdeal.τ).loc Cert.PrepFwdBIdeal.main_arg2)) →
    ∃ (v0 : (c : Dev Cert.PrepFwdBIdeal.nD) → Buf (Elt Ideal) ((c.tc : Thread Cert.PrepFwdBIdeal.nD Cert.PrepFwdBIdeal.τ).loc Cert.PrepFwdBIdeal.main_v1_0)) (v1 : (c : Dev Cert.PrepFwdBIdeal.nD) → Buf (Elt Ideal) ((c.tc : Thread Cert.PrepFwdBIdeal.nD Cert.PrepFwdBIdeal.τ).loc Cert.PrepFwdBIdeal.main_v1_1)) (v2 : (c : Dev Cert.PrepFwdBIdeal.nD) → Buf (Elt Ideal) ((c.tc : Thread Cert.PrepFwdBIdeal.nD Cert.PrepFwdBIdeal.τ).loc Cert.PrepFwdBIdeal.main_v1_2)) (v3 : (c : Dev Cert.PrepFwdBIdeal.nD) → Buf (Elt Ideal) ((c.tc : Thread Cert.PrepFwdBIdeal.nD Cert.PrepFwdBIdeal.τ).loc Cert.PrepFwdBIdeal.main_v1_3)),
      θ_run (Cert.PrepFwdBIdeal.defs (F := Ideal)) (onTc (τ := Cert.PrepFwdBIdeal.τ) (Cert.PrepFwdBIdeal.main (F := Ideal))) ⟨m, fun _ => 0, g⟩ (fun r => ∀ c : Dev Cert.PrepFwdBIdeal.nD,
          r.2.mem ((c.tc : Thread Cert.PrepFwdBIdeal.nD Cert.PrepFwdBIdeal.τ).loc Cert.PrepFwdBIdeal.main_v1_0) = v0 c
          ∧ r.2.mem ((c.tc : Thread Cert.PrepFwdBIdeal.nD Cert.PrepFwdBIdeal.τ).loc Cert.PrepFwdBIdeal.main_v1_1) = v1 c
          ∧ r.2.mem ((c.tc : Thread Cert.PrepFwdBIdeal.nD Cert.PrepFwdBIdeal.τ).loc Cert.PrepFwdBIdeal.main_v1_2) = v2 c
          ∧ r.2.mem ((c.tc : Thread Cert.PrepFwdBIdeal.nD Cert.PrepFwdBIdeal.τ).loc Cert.PrepFwdBIdeal.main_v1_3) = v3 c
          ∧ r.2.mem ((c.tc : Thread Cert.PrepFwdBIdeal.nD Cert.PrepFwdBIdeal.τ).loc Cert.PrepFwdBIdeal.main_arg0) = m ((c.tc : Thread Cert.PrepFwdBIdeal.nD Cert.PrepFwdBIdeal.τ).loc Cert.PrepFwdBIdeal.main_arg0)
          ∧ r.2.mem ((c.tc : Thread Cert.PrepFwdBIdeal.nD Cert.PrepFwdBIdeal.τ).loc Cert.PrepFwdBIdeal.main_arg1) = m ((c.tc : Thread Cert.PrepFwdBIdeal.nD Cert.PrepFwdBIdeal.τ).loc Cert.PrepFwdBIdeal.main_arg1)
          ∧ r.2.mem ((c.tc : Thread Cert.PrepFwdBIdeal.nD Cert.PrepFwdBIdeal.τ).loc Cert.PrepFwdBIdeal.main_arg2) = m ((c.tc : Thread Cert.PrepFwdBIdeal.nD Cert.PrepFwdBIdeal.τ).loc Cert.PrepFwdBIdeal.main_arg2))
      ∧ θ_run (Cert.PrepFwdBRefIdeal.defs (F := Ideal)) (onTc (τ := Cert.PrepFwdBRefIdeal.τ) (Cert.PrepFwdBRefIdeal.main (F := Ideal))) ⟨m', fun _ => 0, g'⟩ (fun r => ∀ c : Dev Cert.PrepFwdBRefIdeal.nD,
          r.2.mem ((c.tc : Thread Cert.PrepFwdBRefIdeal.nD Cert.PrepFwdBRefIdeal.τ).loc Cert.PrepFwdBRefIdeal.main_v58) = v0 c
          ∧ r.2.mem ((c.tc : Thread Cert.PrepFwdBRefIdeal.nD Cert.PrepFwdBRefIdeal.τ).loc Cert.PrepFwdBRefIdeal.main_v59) = v1 c
          ∧ r.2.mem ((c.tc : Thread Cert.PrepFwdBRefIdeal.nD Cert.PrepFwdBRefIdeal.τ).loc Cert.PrepFwdBRefIdeal.main_v60) = v2 c
          ∧ r.2.mem ((c.tc : Thread Cert.PrepFwdBRefIdeal.nD Cert.PrepFwdBRefIdeal.τ).loc Cert.PrepFwdBRefIdeal.main_v61) = v3 c
          ∧ r.2.mem ((c.tc : Thread Cert.PrepFwdBRefIdeal.nD Cert.PrepFwdBRefIdeal.τ).loc Cert.PrepFwdBRefIdeal.main_arg0) = m' ((c.tc : Thread Cert.PrepFwdBRefIdeal.nD Cert.PrepFwdBRefIdeal.τ).loc Cert.PrepFwdBRefIdeal.main_arg0)
          ∧ r.2.mem ((c.tc : Thread Cert.PrepFwdBRefIdeal.nD Cert.PrepFwdBRefIdeal.τ).loc Cert.PrepFwdBRefIdeal.main_arg1) = m' ((c.tc : Thread Cert.PrepFwdBRefIdeal.nD Cert.PrepFwdBRefIdeal.τ).loc Cert.PrepFwdBRefIdeal.main_arg1)
          ∧ r.2.mem ((c.tc : Thread Cert.PrepFwdBRefIdeal.nD Cert.PrepFwdBRefIdeal.τ).loc Cert.PrepFwdBRefIdeal.main_arg2) = m' ((c.tc : Thread Cert.PrepFwdBRefIdeal.nD Cert.PrepFwdBRefIdeal.τ).loc Cert.PrepFwdBRefIdeal.main_arg2))

def preserves_MlaDelta_MlaDeltaIdeal : Prop :=
  True

def algebraic_MlaDeltaIdeal_MlaDeltaRefIdeal [hMlaDeltaIdeal : Cert.MlaDeltaIdeal.Facts] [hMlaDeltaRefIdeal : Cert.MlaDeltaRefIdeal.Facts] : Prop :=
  ∀ (m : (ℓ : Loc Cert.MlaDeltaIdeal.nD Cert.MlaDeltaIdeal.τ Cert.MlaDeltaIdeal.sig) → Buf (Elt Ideal) ℓ) (g : Dev Cert.MlaDeltaIdeal.nD → PrngReg)
    (m' : (ℓ : Loc Cert.MlaDeltaRefIdeal.nD Cert.MlaDeltaRefIdeal.τ Cert.MlaDeltaRefIdeal.sig) → Buf (Elt Ideal) ℓ) (g' : Dev Cert.MlaDeltaRefIdeal.nD → PrngReg), Pre_MlaDeltaIdeal m →
    (∀ c : Dev Cert.MlaDeltaIdeal.nD,
      m' ((c.tc : Thread Cert.MlaDeltaRefIdeal.nD Cert.MlaDeltaRefIdeal.τ).loc Cert.MlaDeltaRefIdeal.main_arg0) = m ((c.tc : Thread Cert.MlaDeltaIdeal.nD Cert.MlaDeltaIdeal.τ).loc Cert.MlaDeltaIdeal.main_arg0)
      ∧ m' ((c.tc : Thread Cert.MlaDeltaRefIdeal.nD Cert.MlaDeltaRefIdeal.τ).loc Cert.MlaDeltaRefIdeal.main_arg1) = m ((c.tc : Thread Cert.MlaDeltaIdeal.nD Cert.MlaDeltaIdeal.τ).loc Cert.MlaDeltaIdeal.main_arg1)
      ∧ m' ((c.tc : Thread Cert.MlaDeltaRefIdeal.nD Cert.MlaDeltaRefIdeal.τ).loc Cert.MlaDeltaRefIdeal.main_arg2) = m ((c.tc : Thread Cert.MlaDeltaIdeal.nD Cert.MlaDeltaIdeal.τ).loc Cert.MlaDeltaIdeal.main_arg2)
      ∧ m' ((c.tc : Thread Cert.MlaDeltaRefIdeal.nD Cert.MlaDeltaRefIdeal.τ).loc Cert.MlaDeltaRefIdeal.main_arg3) = m ((c.tc : Thread Cert.MlaDeltaIdeal.nD Cert.MlaDeltaIdeal.τ).loc Cert.MlaDeltaIdeal.main_arg3)) →
    ∃ (v0 : (c : Dev Cert.MlaDeltaIdeal.nD) → Buf (Elt Ideal) ((c.tc : Thread Cert.MlaDeltaIdeal.nD Cert.MlaDeltaIdeal.τ).loc Cert.MlaDeltaIdeal.main_v35)),
      θ_run (Cert.MlaDeltaIdeal.defs (F := Ideal)) (onTc (τ := Cert.MlaDeltaIdeal.τ) (Cert.MlaDeltaIdeal.main (F := Ideal))) ⟨m, fun _ => 0, g⟩ (fun r => ∀ c : Dev Cert.MlaDeltaIdeal.nD,
          r.2.mem ((c.tc : Thread Cert.MlaDeltaIdeal.nD Cert.MlaDeltaIdeal.τ).loc Cert.MlaDeltaIdeal.main_v35) = v0 c
          ∧ r.2.mem ((c.tc : Thread Cert.MlaDeltaIdeal.nD Cert.MlaDeltaIdeal.τ).loc Cert.MlaDeltaIdeal.main_arg0) = m ((c.tc : Thread Cert.MlaDeltaIdeal.nD Cert.MlaDeltaIdeal.τ).loc Cert.MlaDeltaIdeal.main_arg0)
          ∧ r.2.mem ((c.tc : Thread Cert.MlaDeltaIdeal.nD Cert.MlaDeltaIdeal.τ).loc Cert.MlaDeltaIdeal.main_arg1) = m ((c.tc : Thread Cert.MlaDeltaIdeal.nD Cert.MlaDeltaIdeal.τ).loc Cert.MlaDeltaIdeal.main_arg1)
          ∧ r.2.mem ((c.tc : Thread Cert.MlaDeltaIdeal.nD Cert.MlaDeltaIdeal.τ).loc Cert.MlaDeltaIdeal.main_arg2) = m ((c.tc : Thread Cert.MlaDeltaIdeal.nD Cert.MlaDeltaIdeal.τ).loc Cert.MlaDeltaIdeal.main_arg2)
          ∧ r.2.mem ((c.tc : Thread Cert.MlaDeltaIdeal.nD Cert.MlaDeltaIdeal.τ).loc Cert.MlaDeltaIdeal.main_arg3) = m ((c.tc : Thread Cert.MlaDeltaIdeal.nD Cert.MlaDeltaIdeal.τ).loc Cert.MlaDeltaIdeal.main_arg3))
      ∧ θ_run (Cert.MlaDeltaRefIdeal.defs (F := Ideal)) (onTc (τ := Cert.MlaDeltaRefIdeal.τ) (Cert.MlaDeltaRefIdeal.main (F := Ideal))) ⟨m', fun _ => 0, g'⟩ (fun r => ∀ c : Dev Cert.MlaDeltaRefIdeal.nD,
          r.2.mem ((c.tc : Thread Cert.MlaDeltaRefIdeal.nD Cert.MlaDeltaRefIdeal.τ).loc Cert.MlaDeltaRefIdeal.main_v20) = v0 c
          ∧ r.2.mem ((c.tc : Thread Cert.MlaDeltaRefIdeal.nD Cert.MlaDeltaRefIdeal.τ).loc Cert.MlaDeltaRefIdeal.main_arg0) = m' ((c.tc : Thread Cert.MlaDeltaRefIdeal.nD Cert.MlaDeltaRefIdeal.τ).loc Cert.MlaDeltaRefIdeal.main_arg0)
          ∧ r.2.mem ((c.tc : Thread Cert.MlaDeltaRefIdeal.nD Cert.MlaDeltaRefIdeal.τ).loc Cert.MlaDeltaRefIdeal.main_arg1) = m' ((c.tc : Thread Cert.MlaDeltaRefIdeal.nD Cert.MlaDeltaRefIdeal.τ).loc Cert.MlaDeltaRefIdeal.main_arg1)
          ∧ r.2.mem ((c.tc : Thread Cert.MlaDeltaRefIdeal.nD Cert.MlaDeltaRefIdeal.τ).loc Cert.MlaDeltaRefIdeal.main_arg2) = m' ((c.tc : Thread Cert.MlaDeltaRefIdeal.nD Cert.MlaDeltaRefIdeal.τ).loc Cert.MlaDeltaRefIdeal.main_arg2)
          ∧ r.2.mem ((c.tc : Thread Cert.MlaDeltaRefIdeal.nD Cert.MlaDeltaRefIdeal.τ).loc Cert.MlaDeltaRefIdeal.main_arg3) = m' ((c.tc : Thread Cert.MlaDeltaRefIdeal.nD Cert.MlaDeltaRefIdeal.τ).loc Cert.MlaDeltaRefIdeal.main_arg3))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v1) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_ProjectDw_ProjectDwIdeal : Prop :=
  True

def algebraic_ProjectDwIdeal_ProjectDwRefIdeal [hProjectDwIdeal : Cert.ProjectDwIdeal.Facts] [hProjectDwRefIdeal : Cert.ProjectDwRefIdeal.Facts] : Prop :=
  ∀ (m : (ℓ : Loc Cert.ProjectDwIdeal.nD Cert.ProjectDwIdeal.τ Cert.ProjectDwIdeal.sig) → Buf (Elt Ideal) ℓ) (g : Dev Cert.ProjectDwIdeal.nD → PrngReg)
    (m' : (ℓ : Loc Cert.ProjectDwRefIdeal.nD Cert.ProjectDwRefIdeal.τ Cert.ProjectDwRefIdeal.sig) → Buf (Elt Ideal) ℓ) (g' : Dev Cert.ProjectDwRefIdeal.nD → PrngReg), Pre_ProjectDwIdeal m →
    (∀ c : Dev Cert.ProjectDwIdeal.nD,
      m' ((c.tc : Thread Cert.ProjectDwRefIdeal.nD Cert.ProjectDwRefIdeal.τ).loc Cert.ProjectDwRefIdeal.main_arg0) = m ((c.tc : Thread Cert.ProjectDwIdeal.nD Cert.ProjectDwIdeal.τ).loc Cert.ProjectDwIdeal.main_arg0)
      ∧ m' ((c.tc : Thread Cert.ProjectDwRefIdeal.nD Cert.ProjectDwRefIdeal.τ).loc Cert.ProjectDwRefIdeal.main_arg1) = m ((c.tc : Thread Cert.ProjectDwIdeal.nD Cert.ProjectDwIdeal.τ).loc Cert.ProjectDwIdeal.main_arg1)
      ∧ m' ((c.tc : Thread Cert.ProjectDwRefIdeal.nD Cert.ProjectDwRefIdeal.τ).loc Cert.ProjectDwRefIdeal.main_arg2) = m ((c.tc : Thread Cert.ProjectDwIdeal.nD Cert.ProjectDwIdeal.τ).loc Cert.ProjectDwIdeal.main_arg2)) →
    ∃ (v0 : (c : Dev Cert.ProjectDwIdeal.nD) → Buf (Elt Ideal) ((c.tc : Thread Cert.ProjectDwIdeal.nD Cert.ProjectDwIdeal.τ).loc Cert.ProjectDwIdeal.main_v4)),
      θ_run (Cert.ProjectDwIdeal.defs (F := Ideal)) (onTc (τ := Cert.ProjectDwIdeal.τ) (Cert.ProjectDwIdeal.main (F := Ideal))) ⟨m, fun _ => 0, g⟩ (fun r => ∀ c : Dev Cert.ProjectDwIdeal.nD,
          r.2.mem ((c.tc : Thread Cert.ProjectDwIdeal.nD Cert.ProjectDwIdeal.τ).loc Cert.ProjectDwIdeal.main_v4) = v0 c
          ∧ r.2.mem ((c.tc : Thread Cert.ProjectDwIdeal.nD Cert.ProjectDwIdeal.τ).loc Cert.ProjectDwIdeal.main_arg0) = m ((c.tc : Thread Cert.ProjectDwIdeal.nD Cert.ProjectDwIdeal.τ).loc Cert.ProjectDwIdeal.main_arg0)
          ∧ r.2.mem ((c.tc : Thread Cert.ProjectDwIdeal.nD Cert.ProjectDwIdeal.τ).loc Cert.ProjectDwIdeal.main_arg1) = m ((c.tc : Thread Cert.ProjectDwIdeal.nD Cert.ProjectDwIdeal.τ).loc Cert.ProjectDwIdeal.main_arg1)
          ∧ r.2.mem ((c.tc : Thread Cert.ProjectDwIdeal.nD Cert.ProjectDwIdeal.τ).loc Cert.ProjectDwIdeal.main_arg2) = m ((c.tc : Thread Cert.ProjectDwIdeal.nD Cert.ProjectDwIdeal.τ).loc Cert.ProjectDwIdeal.main_arg2))
      ∧ θ_run (Cert.ProjectDwRefIdeal.defs (F := Ideal)) (onTc (τ := Cert.ProjectDwRefIdeal.τ) (Cert.ProjectDwRefIdeal.main (F := Ideal))) ⟨m', fun _ => 0, g'⟩ (fun r => ∀ c : Dev Cert.ProjectDwRefIdeal.nD,
          r.2.mem ((c.tc : Thread Cert.ProjectDwRefIdeal.nD Cert.ProjectDwRefIdeal.τ).loc Cert.ProjectDwRefIdeal.main_v2) = v0 c
          ∧ r.2.mem ((c.tc : Thread Cert.ProjectDwRefIdeal.nD Cert.ProjectDwRefIdeal.τ).loc Cert.ProjectDwRefIdeal.main_arg0) = m' ((c.tc : Thread Cert.ProjectDwRefIdeal.nD Cert.ProjectDwRefIdeal.τ).loc Cert.ProjectDwRefIdeal.main_arg0)
          ∧ r.2.mem ((c.tc : Thread Cert.ProjectDwRefIdeal.nD Cert.ProjectDwRefIdeal.τ).loc Cert.ProjectDwRefIdeal.main_arg1) = m' ((c.tc : Thread Cert.ProjectDwRefIdeal.nD Cert.ProjectDwRefIdeal.τ).loc Cert.ProjectDwRefIdeal.main_arg1)
          ∧ r.2.mem ((c.tc : Thread Cert.ProjectDwRefIdeal.nD Cert.ProjectDwRefIdeal.τ).loc Cert.ProjectDwRefIdeal.main_arg2) = m' ((c.tc : Thread Cert.ProjectDwRefIdeal.nD Cert.ProjectDwRefIdeal.τ).loc Cert.ProjectDwRefIdeal.main_arg2))

def Claim : Prop :=
  ∃ (hIntraF : Cert.IntraF.Facts) (hIntraFIdeal : Cert.IntraFIdeal.Facts) (hIntraFRefIdeal : Cert.IntraFRefIdeal.Facts) (hIntraB : Cert.IntraB.Facts) (hIntraBIdeal : Cert.IntraBIdeal.Facts) (hIntraBRefIdeal : Cert.IntraBRefIdeal.Facts) (hMlaFwd : Cert.MlaFwd.Facts) (hMlaFwdIdeal : Cert.MlaFwdIdeal.Facts) (hMlaFwdRefIdeal : Cert.MlaFwdRefIdeal.Facts) (hMlaBwd : Cert.MlaBwd.Facts) (hMlaBwdIdeal : Cert.MlaBwdIdeal.Facts) (hMlaBwdRefIdeal : Cert.MlaBwdRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hGatedNorm : Cert.GatedNorm.Facts) (hGatedNormIdeal : Cert.GatedNormIdeal.Facts) (hGatedNormRefIdeal : Cert.GatedNormRefIdeal.Facts) (hNormKeep : Cert.NormKeep.Facts) (hNormKeepIdeal : Cert.NormKeepIdeal.Facts) (hNormKeepRefIdeal : Cert.NormKeepRefIdeal.Facts) (hPrepF : Cert.PrepF.Facts) (hPrepFIdeal : Cert.PrepFIdeal.Facts) (hPrepFRefIdeal : Cert.PrepFRefIdeal.Facts) (hPrepB : Cert.PrepB.Facts) (hPrepBIdeal : Cert.PrepBIdeal.Facts) (hPrepBRefIdeal : Cert.PrepBRefIdeal.Facts) (hFfn : Cert.Ffn.Facts) (hFfnIdeal : Cert.FfnIdeal.Facts) (hFfnRefIdeal : Cert.FfnRefIdeal.Facts) (hFfnDx : Cert.FfnDx.Facts) (hFfnDxIdeal : Cert.FfnDxIdeal.Facts) (hFfnDxRefIdeal : Cert.FfnDxRefIdeal.Facts) (hMergeFwd : Cert.MergeFwd.Facts) (hMergeFwdIdeal : Cert.MergeFwdIdeal.Facts) (hMergeFwdRefIdeal : Cert.MergeFwdRefIdeal.Facts) (hNormFwd : Cert.NormFwd.Facts) (hNormFwdIdeal : Cert.NormFwdIdeal.Facts) (hNormFwdRefIdeal : Cert.NormFwdRefIdeal.Facts) (hIntraFwdF : Cert.IntraFwdF.Facts) (hIntraFwdFIdeal : Cert.IntraFwdFIdeal.Facts) (hIntraFwdFRefIdeal : Cert.IntraFwdFRefIdeal.Facts) (hIntraFwdB : Cert.IntraFwdB.Facts) (hIntraFwdBIdeal : Cert.IntraFwdBIdeal.Facts) (hIntraFwdBRefIdeal : Cert.IntraFwdBRefIdeal.Facts) (hFfnUp : Cert.FfnUp.Facts) (hFfnUpIdeal : Cert.FfnUpIdeal.Facts) (hFfnUpRefIdeal : Cert.FfnUpRefIdeal.Facts) (hLoss : Cert.Loss.Facts) (hLossIdeal : Cert.LossIdeal.Facts) (hLossRefIdeal : Cert.LossRefIdeal.Facts) (hGatedNormFwd : Cert.GatedNormFwd.Facts) (hGatedNormFwdIdeal : Cert.GatedNormFwdIdeal.Facts) (hGatedNormFwdRefIdeal : Cert.GatedNormFwdRefIdeal.Facts) (hPrepFwdF : Cert.PrepFwdF.Facts) (hPrepFwdFIdeal : Cert.PrepFwdFIdeal.Facts) (hPrepFwdFRefIdeal : Cert.PrepFwdFRefIdeal.Facts) (hPrepFwdB : Cert.PrepFwdB.Facts) (hPrepFwdBIdeal : Cert.PrepFwdBIdeal.Facts) (hPrepFwdBRefIdeal : Cert.PrepFwdBRefIdeal.Facts) (hMlaDelta : Cert.MlaDelta.Facts) (hMlaDeltaIdeal : Cert.MlaDeltaIdeal.Facts) (hMlaDeltaRefIdeal : Cert.MlaDeltaRefIdeal.Facts) (hProject : Cert.Project.Facts) (hProjectIdeal : Cert.ProjectIdeal.Facts) (hProjectRefIdeal : Cert.ProjectRefIdeal.Facts) (hProjectDw : Cert.ProjectDw.Facts) (hProjectDwIdeal : Cert.ProjectDwIdeal.Facts) (hProjectDwRefIdeal : Cert.ProjectDwRefIdeal.Facts) (hPre_finite_attention : Cert.Pre_finite_attention.Facts) (hPre_finite_attention_bwd : Cert.Pre_finite_attention_bwd.Facts) (hPre_finite_norm : Cert.Pre_finite_norm.Facts) (hPre_finite_gated : Cert.Pre_finite_gated.Facts) (hPre_finite_norm_keep : Cert.Pre_finite_norm_keep.Facts) (hPre_smooth_gates : Cert.Pre_smooth_gates.Facts) (hPre_finite_ffn : Cert.Pre_finite_ffn.Facts) (hPre_finite_gated_fwd : Cert.Pre_finite_gated_fwd.Facts) (hPre_finite_gates : Cert.Pre_finite_gates.Facts),
    quiescent_IntraF (hIntraF := hIntraF)
    ∧ quiescent_IntraFIdeal (hIntraFIdeal := hIntraFIdeal)
    ∧ quiescent_IntraFRefIdeal (hIntraFRefIdeal := hIntraFRefIdeal)
    ∧ quiescent_IntraB (hIntraB := hIntraB)
    ∧ quiescent_IntraBIdeal (hIntraBIdeal := hIntraBIdeal)
    ∧ quiescent_IntraBRefIdeal (hIntraBRefIdeal := hIntraBRefIdeal)
    ∧ quiescent_MlaFwd (hMlaFwd := hMlaFwd)
    ∧ quiescent_MlaFwdIdeal (hMlaFwdIdeal := hMlaFwdIdeal)
    ∧ quiescent_MlaFwdIdeal_pre_finite_attention (hMlaFwdIdeal := hMlaFwdIdeal) (hPre_finite_attention := hPre_finite_attention)
    ∧ quiescent_MlaFwdRefIdeal (hMlaFwdRefIdeal := hMlaFwdRefIdeal)
    ∧ quiescent_MlaFwdRefIdeal_pre_finite_attention (hMlaFwdRefIdeal := hMlaFwdRefIdeal) (hPre_finite_attention := hPre_finite_attention)
    ∧ quiescent_MlaBwd (hMlaBwd := hMlaBwd)
    ∧ quiescent_MlaBwdIdeal (hMlaBwdIdeal := hMlaBwdIdeal)
    ∧ quiescent_MlaBwdIdeal_pre_finite_attention_bwd (hMlaBwdIdeal := hMlaBwdIdeal) (hPre_finite_attention_bwd := hPre_finite_attention_bwd)
    ∧ quiescent_MlaBwdRefIdeal (hMlaBwdRefIdeal := hMlaBwdRefIdeal)
    ∧ quiescent_MlaBwdRefIdeal_pre_finite_attention_bwd (hMlaBwdRefIdeal := hMlaBwdRefIdeal) (hPre_finite_attention_bwd := hPre_finite_attention_bwd)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_GatedNorm (hGatedNorm := hGatedNorm)
    ∧ quiescent_GatedNormIdeal (hGatedNormIdeal := hGatedNormIdeal)
    ∧ quiescent_GatedNormIdeal_pre_finite_gated (hGatedNormIdeal := hGatedNormIdeal) (hPre_finite_gated := hPre_finite_gated)
    ∧ quiescent_GatedNormRefIdeal (hGatedNormRefIdeal := hGatedNormRefIdeal)
    ∧ quiescent_GatedNormRefIdeal_pre_finite_gated (hGatedNormRefIdeal := hGatedNormRefIdeal) (hPre_finite_gated := hPre_finite_gated)
    ∧ quiescent_NormKeep (hNormKeep := hNormKeep)
    ∧ quiescent_NormKeepIdeal (hNormKeepIdeal := hNormKeepIdeal)
    ∧ quiescent_NormKeepIdeal_pre_finite_norm_keep (hNormKeepIdeal := hNormKeepIdeal) (hPre_finite_norm_keep := hPre_finite_norm_keep)
    ∧ quiescent_NormKeepRefIdeal (hNormKeepRefIdeal := hNormKeepRefIdeal)
    ∧ quiescent_NormKeepRefIdeal_pre_finite_norm_keep (hNormKeepRefIdeal := hNormKeepRefIdeal) (hPre_finite_norm_keep := hPre_finite_norm_keep)
    ∧ quiescent_PrepF (hPrepF := hPrepF)
    ∧ quiescent_PrepFIdeal (hPrepFIdeal := hPrepFIdeal)
    ∧ quiescent_PrepFIdeal_pre_smooth_gates (hPrepFIdeal := hPrepFIdeal) (hPre_smooth_gates := hPre_smooth_gates)
    ∧ quiescent_PrepFRefIdeal (hPrepFRefIdeal := hPrepFRefIdeal)
    ∧ quiescent_PrepFRefIdeal_pre_smooth_gates (hPrepFRefIdeal := hPrepFRefIdeal) (hPre_smooth_gates := hPre_smooth_gates)
    ∧ quiescent_PrepB (hPrepB := hPrepB)
    ∧ quiescent_PrepBIdeal (hPrepBIdeal := hPrepBIdeal)
    ∧ quiescent_PrepBIdeal_pre_smooth_gates (hPrepBIdeal := hPrepBIdeal) (hPre_smooth_gates := hPre_smooth_gates)
    ∧ quiescent_PrepBRefIdeal (hPrepBRefIdeal := hPrepBRefIdeal)
    ∧ quiescent_PrepBRefIdeal_pre_smooth_gates (hPrepBRefIdeal := hPrepBRefIdeal) (hPre_smooth_gates := hPre_smooth_gates)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_FfnDx (hFfnDx := hFfnDx)
    ∧ quiescent_FfnDxIdeal (hFfnDxIdeal := hFfnDxIdeal)
    ∧ quiescent_FfnDxIdeal_pre_finite_ffn (hFfnDxIdeal := hFfnDxIdeal) (hPre_finite_ffn := hPre_finite_ffn)
    ∧ quiescent_FfnDxRefIdeal (hFfnDxRefIdeal := hFfnDxRefIdeal)
    ∧ quiescent_FfnDxRefIdeal_pre_finite_ffn (hFfnDxRefIdeal := hFfnDxRefIdeal) (hPre_finite_ffn := hPre_finite_ffn)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_IntraFwdF (hIntraFwdF := hIntraFwdF)
    ∧ quiescent_IntraFwdFIdeal (hIntraFwdFIdeal := hIntraFwdFIdeal)
    ∧ quiescent_IntraFwdFRefIdeal (hIntraFwdFRefIdeal := hIntraFwdFRefIdeal)
    ∧ quiescent_IntraFwdB (hIntraFwdB := hIntraFwdB)
    ∧ quiescent_IntraFwdBIdeal (hIntraFwdBIdeal := hIntraFwdBIdeal)
    ∧ quiescent_IntraFwdBRefIdeal (hIntraFwdBRefIdeal := hIntraFwdBRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Loss (hLoss := hLoss)
    ∧ quiescent_LossIdeal (hLossIdeal := hLossIdeal)
    ∧ quiescent_LossRefIdeal (hLossRefIdeal := hLossRefIdeal)
    ∧ quiescent_GatedNormFwd (hGatedNormFwd := hGatedNormFwd)
    ∧ quiescent_GatedNormFwdIdeal (hGatedNormFwdIdeal := hGatedNormFwdIdeal)
    ∧ quiescent_GatedNormFwdIdeal_pre_finite_gated_fwd (hGatedNormFwdIdeal := hGatedNormFwdIdeal) (hPre_finite_gated_fwd := hPre_finite_gated_fwd)
    ∧ quiescent_GatedNormFwdRefIdeal (hGatedNormFwdRefIdeal := hGatedNormFwdRefIdeal)
    ∧ quiescent_GatedNormFwdRefIdeal_pre_finite_gated_fwd (hGatedNormFwdRefIdeal := hGatedNormFwdRefIdeal) (hPre_finite_gated_fwd := hPre_finite_gated_fwd)
    ∧ quiescent_PrepFwdF (hPrepFwdF := hPrepFwdF)
    ∧ quiescent_PrepFwdFIdeal (hPrepFwdFIdeal := hPrepFwdFIdeal)
    ∧ quiescent_PrepFwdFIdeal_pre_finite_gates (hPrepFwdFIdeal := hPrepFwdFIdeal) (hPre_finite_gates := hPre_finite_gates)
    ∧ quiescent_PrepFwdFRefIdeal (hPrepFwdFRefIdeal := hPrepFwdFRefIdeal)
    ∧ quiescent_PrepFwdFRefIdeal_pre_finite_gates (hPrepFwdFRefIdeal := hPrepFwdFRefIdeal) (hPre_finite_gates := hPre_finite_gates)
    ∧ quiescent_PrepFwdB (hPrepFwdB := hPrepFwdB)
    ∧ quiescent_PrepFwdBIdeal (hPrepFwdBIdeal := hPrepFwdBIdeal)
    ∧ quiescent_PrepFwdBIdeal_pre_finite_gates (hPrepFwdBIdeal := hPrepFwdBIdeal) (hPre_finite_gates := hPre_finite_gates)
    ∧ quiescent_PrepFwdBRefIdeal (hPrepFwdBRefIdeal := hPrepFwdBRefIdeal)
    ∧ quiescent_PrepFwdBRefIdeal_pre_finite_gates (hPrepFwdBRefIdeal := hPrepFwdBRefIdeal) (hPre_finite_gates := hPre_finite_gates)
    ∧ quiescent_MlaDelta (hMlaDelta := hMlaDelta)
    ∧ quiescent_MlaDeltaIdeal (hMlaDeltaIdeal := hMlaDeltaIdeal)
    ∧ quiescent_MlaDeltaRefIdeal (hMlaDeltaRefIdeal := hMlaDeltaRefIdeal)
    ∧ quiescent_Project (hProject := hProject)
    ∧ quiescent_ProjectIdeal (hProjectIdeal := hProjectIdeal)
    ∧ quiescent_ProjectRefIdeal (hProjectRefIdeal := hProjectRefIdeal)
    ∧ quiescent_ProjectDw (hProjectDw := hProjectDw)
    ∧ quiescent_ProjectDwIdeal (hProjectDwIdeal := hProjectDwIdeal)
    ∧ quiescent_ProjectDwRefIdeal (hProjectDwRefIdeal := hProjectDwRefIdeal)
    ∧ preserves_IntraF_IntraFIdeal
    ∧ algebraic_IntraFIdeal_IntraFRefIdeal (hIntraFIdeal := hIntraFIdeal) (hIntraFRefIdeal := hIntraFRefIdeal)
    ∧ preserves_IntraB_IntraBIdeal
    ∧ algebraic_IntraBIdeal_IntraBRefIdeal (hIntraBIdeal := hIntraBIdeal) (hIntraBRefIdeal := hIntraBRefIdeal)
    ∧ preserves_MlaFwd_MlaFwdIdeal
    ∧ algebraic_MlaFwdIdeal_MlaFwdRefIdeal_pre_finite_attention (hMlaFwdIdeal := hMlaFwdIdeal) (hMlaFwdRefIdeal := hMlaFwdRefIdeal) (hPre_finite_attention := hPre_finite_attention)
    ∧ preserves_MlaBwd_MlaBwdIdeal
    ∧ algebraic_MlaBwdIdeal_MlaBwdRefIdeal_pre_finite_attention_bwd (hMlaBwdIdeal := hMlaBwdIdeal) (hMlaBwdRefIdeal := hMlaBwdRefIdeal) (hPre_finite_attention_bwd := hPre_finite_attention_bwd)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_GatedNorm_GatedNormIdeal
    ∧ algebraic_GatedNormIdeal_GatedNormRefIdeal_pre_finite_gated (hGatedNormIdeal := hGatedNormIdeal) (hGatedNormRefIdeal := hGatedNormRefIdeal) (hPre_finite_gated := hPre_finite_gated)
    ∧ preserves_NormKeep_NormKeepIdeal
    ∧ algebraic_NormKeepIdeal_NormKeepRefIdeal_pre_finite_norm_keep (hNormKeepIdeal := hNormKeepIdeal) (hNormKeepRefIdeal := hNormKeepRefIdeal) (hPre_finite_norm_keep := hPre_finite_norm_keep)
    ∧ preserves_PrepF_PrepFIdeal
    ∧ algebraic_PrepFIdeal_PrepFRefIdeal_pre_smooth_gates (hPrepFIdeal := hPrepFIdeal) (hPrepFRefIdeal := hPrepFRefIdeal) (hPre_smooth_gates := hPre_smooth_gates)
    ∧ preserves_PrepB_PrepBIdeal
    ∧ algebraic_PrepBIdeal_PrepBRefIdeal_pre_smooth_gates (hPrepBIdeal := hPrepBIdeal) (hPrepBRefIdeal := hPrepBRefIdeal) (hPre_smooth_gates := hPre_smooth_gates)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_FfnDx_FfnDxIdeal
    ∧ algebraic_FfnDxIdeal_FfnDxRefIdeal_pre_finite_ffn (hFfnDxIdeal := hFfnDxIdeal) (hFfnDxRefIdeal := hFfnDxRefIdeal) (hPre_finite_ffn := hPre_finite_ffn)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_IntraFwdF_IntraFwdFIdeal
    ∧ algebraic_IntraFwdFIdeal_IntraFwdFRefIdeal (hIntraFwdFIdeal := hIntraFwdFIdeal) (hIntraFwdFRefIdeal := hIntraFwdFRefIdeal)
    ∧ preserves_IntraFwdB_IntraFwdBIdeal
    ∧ algebraic_IntraFwdBIdeal_IntraFwdBRefIdeal (hIntraFwdBIdeal := hIntraFwdBIdeal) (hIntraFwdBRefIdeal := hIntraFwdBRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Loss_LossIdeal
    ∧ algebraic_LossIdeal_LossRefIdeal (hLossIdeal := hLossIdeal) (hLossRefIdeal := hLossRefIdeal)
    ∧ preserves_GatedNormFwd_GatedNormFwdIdeal
    ∧ algebraic_GatedNormFwdIdeal_GatedNormFwdRefIdeal_pre_finite_gated_fwd (hGatedNormFwdIdeal := hGatedNormFwdIdeal) (hGatedNormFwdRefIdeal := hGatedNormFwdRefIdeal) (hPre_finite_gated_fwd := hPre_finite_gated_fwd)
    ∧ preserves_PrepFwdF_PrepFwdFIdeal
    ∧ algebraic_PrepFwdFIdeal_PrepFwdFRefIdeal_pre_finite_gates (hPrepFwdFIdeal := hPrepFwdFIdeal) (hPrepFwdFRefIdeal := hPrepFwdFRefIdeal) (hPre_finite_gates := hPre_finite_gates)
    ∧ preserves_PrepFwdB_PrepFwdBIdeal
    ∧ algebraic_PrepFwdBIdeal_PrepFwdBRefIdeal_pre_finite_gates (hPrepFwdBIdeal := hPrepFwdBIdeal) (hPrepFwdBRefIdeal := hPrepFwdBRefIdeal) (hPre_finite_gates := hPre_finite_gates)
    ∧ preserves_MlaDelta_MlaDeltaIdeal
    ∧ algebraic_MlaDeltaIdeal_MlaDeltaRefIdeal (hMlaDeltaIdeal := hMlaDeltaIdeal) (hMlaDeltaRefIdeal := hMlaDeltaRefIdeal)
    ∧ preserves_Project_ProjectIdeal
    ∧ algebraic_ProjectIdeal_ProjectRefIdeal (hProjectIdeal := hProjectIdeal) (hProjectRefIdeal := hProjectRefIdeal)
    ∧ preserves_ProjectDw_ProjectDwIdeal
    ∧ algebraic_ProjectDwIdeal_ProjectDwRefIdeal (hProjectDwIdeal := hProjectDwIdeal) (hProjectDwRefIdeal := hProjectDwRefIdeal)
-- ==== Pre_finite_attention.lean ====
abbrev S1x16384x8x96 : Shape := ⟨4, ![1, 16384, 8, 96]⟩
abbrev S1x16384x8x64 : Shape := ⟨4, ![1, 16384, 8, 64]⟩
abbrev S_ : Shape := ⟨0, ![]⟩

class Facts : Prop where
  bcast_S_S1x16384x8x96 : S_.BroadcastsInDim S1x16384x8x96 (![] : Fin 0 → Fin S1x16384x8x96.rank)
  reducesTo_S1x16384x8x96_S_d0_1_2_3 : S1x16384x8x96.ReducesTo [0, 1, 2, 3] S_
  h_S_ : 0 < S_.numel
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_

variable [Facts]

def fn {F : FTy → Type} [FloatOps F] (main_arg0 : FVec F S1x16384x8x96 .f32) (main_arg1 : FVec F S1x16384x8x96 .f32) (main_arg2 : FVec F S1x16384x8x64 .f32) : IVec S_ 1 :=
  let main_v0 : FVec F S1x16384x8x96 .f32 := Host.absf main_arg0
  let main_cst : FVec F S_ .f32 := constant S_ .f32 0x7F800000#32
  let main_v1 : FVec F S1x16384x8x96 .f32 := broadcastInDim S1x16384x8x96 ![] bcast_S_S1x16384x8x96 main_cst
  let main_v2 : IVec S1x16384x8x96 1 := cmpf .olt main_v0 main_v1
  let main_c : IVec S_ 1 := constantI S_ 1 1#1
  let main_v3 : IVec S_ 1 := (fun x v => Host.reduce IntOp.andi x v reducesTo_S1x16384x8x96_S_d0_1_2_3 h_S_) main_v2 main_c
  let main_v4 : FVec F S1x16384x8x96 .f32 := Host.absf main_arg1
  let main_cst_0 : FVec F S_ .f32 := constant S_ .f32 0x7F800000#32
  let main_v5 : FVec F S1x16384x8x96 .f32 := broadcastInDim S1x16384x8x96 ![] bcast_S_S1x16384x8x96 main_cst_0
  let main_v6 : IVec S1x16384x8x96 1 := cmpf .olt main_v4 main_v5
  let main_c_1 : IVec S_ 1 := constantI S_ 1 1#1
  let main_v7 : IVec S_ 1 := (fun x v => Host.reduce IntOp.andi x v reducesTo_S1x16384x8x96_S_d0_1_2_3 h_S_) main_v6 main_c_1
  let main_v8 : IVec S_ 1 := andi main_v3 main_v7
  let main_v9 : FVec F S1x16384x8x64 .f32 := Host.absf main_arg2
  let main_cst_2 : FVec F S_ .f32 := constant S_ .f32 0x7F800000#32
  let main_v10 : FVec F S1x16384x8x64 .f32 := broadcastInDim S1x16384x8x64 ![] bcast_S_S1x16384x8x64 main_cst_2
  let main_v11 : IVec S1x16384x8x64 1 := cmpf .olt main_v9 main_v10
  let main_c_3 : IVec S_ 1 := constantI S_ 1 1#1
  let main_v12 : IVec S_ 1 := (fun x v => Host.reduce IntOp.andi x v reducesTo_S1x16384x8x64_S_d0_1_2_3 h_S_) main_v11 main_c_3
  let main_v13 : IVec S_ 1 := andi main_v8 main_v12
  main_v13
-- ==== Pre_finite_attention_bwd.lean ====
abbrev S1x16384x8x96 : Shape := ⟨4, ![1, 16384, 8, 96]⟩
abbrev S1x16384x8x64 : Shape := ⟨4, ![1, 16384, 8, 64]⟩
abbrev S1x16384x512 : Shape := ⟨3, ![1, 16384, 512]⟩
abbrev S_ : Shape := ⟨0, ![]⟩

class Facts : Prop where
  bcast_S_S1x16384x8x96 : S_.BroadcastsInDim S1x16384x8x96 (![] : Fin 0 → Fin S1x16384x8x96.rank)
  reducesTo_S1x16384x8x96_S_d0_1_2_3 : S1x16384x8x96.ReducesTo [0, 1, 2, 3] S_
  h_S_ : 0 < S_.numel
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  bcast_S_S1x16384x512 : S_.BroadcastsInDim S1x16384x512 (![] : Fin 0 → Fin S1x16384x512.rank)
  reducesTo_S1x16384x512_S_d0_1_2 : S1x16384x512.ReducesTo [0, 1, 2] S_

variable [Facts]

def fn_part1 {F : FTy → Type} [FloatOps F] (main_v13 : IVec S_ 1) (main_v16 : IVec S1x16384x512 1) : IVec S_ 1 :=
  let main_c_5 : IVec S_ 1 := constantI S_ 1 1#1
  let main_v17 : IVec S_ 1 := (fun x v => Host.reduce IntOp.andi x v reducesTo_S1x16384x512_S_d0_1_2 h_S_) main_v16 main_c_5
  let main_v18 : IVec S_ 1 := andi main_v13 main_v17
  main_v18

def fn {F : FTy → Type} [FloatOps F] (main_arg0 : FVec F S1x16384x8x96 .f32) (main_arg1 : FVec F S1x16384x8x96 .f32) (main_arg2 : FVec F S1x16384x8x64 .f32) (main_arg3 : FVec F S1x16384x512 .f32) : IVec S_ 1 :=
  let main_v0 : FVec F S1x16384x8x96 .f32 := Host.absf main_arg0
  let main_cst : FVec F S_ .f32 := constant S_ .f32 0x7F800000#32
  let main_v1 : FVec F S1x16384x8x96 .f32 := broadcastInDim S1x16384x8x96 ![] bcast_S_S1x16384x8x96 main_cst
  let main_v2 : IVec S1x16384x8x96 1 := cmpf .olt main_v0 main_v1
  let main_c : IVec S_ 1 := constantI S_ 1 1#1
  let main_v3 : IVec S_ 1 := (fun x v => Host.reduce IntOp.andi x v reducesTo_S1x16384x8x96_S_d0_1_2_3 h_S_) main_v2 main_c
  let main_v4 : FVec F S1x16384x8x96 .f32 := Host.absf main_arg1
  let main_cst_0 : FVec F S_ .f32 := constant S_ .f32 0x7F800000#32
  let main_v5 : FVec F S1x16384x8x96 .f32 := broadcastInDim S1x16384x8x96 ![] bcast_S_S1x16384x8x96 main_cst_0
  let main_v6 : IVec S1x16384x8x96 1 := cmpf .olt main_v4 main_v5
  let main_c_1 : IVec S_ 1 := constantI S_ 1 1#1
  let main_v7 : IVec S_ 1 := (fun x v => Host.reduce IntOp.andi x v reducesTo_S1x16384x8x96_S_d0_1_2_3 h_S_) main_v6 main_c_1
  let main_v8 : IVec S_ 1 := andi main_v3 main_v7
  let main_v9 : FVec F S1x16384x8x64 .f32 := Host.absf main_arg2
  let main_cst_2 : FVec F S_ .f32 := constant S_ .f32 0x7F800000#32
  let main_v10 : FVec F S1x16384x8x64 .f32 := broadcastInDim S1x16384x8x64 ![] bcast_S_S1x16384x8x64 main_cst_2
  let main_v11 : IVec S1x16384x8x64 1 := cmpf .olt main_v9 main_v10
  let main_c_3 : IVec S_ 1 := constantI S_ 1 1#1
  let main_v12 : IVec S_ 1 := (fun x v => Host.reduce IntOp.andi x v reducesTo_S1x16384x8x64_S_d0_1_2_3 h_S_) main_v11 main_c_3
  let main_v13 : IVec S_ 1 := andi main_v8 main_v12
  let main_v14 : FVec F S1x16384x512 .f32 := Host.absf main_arg3
  let main_cst_4 : FVec F S_ .f32 := constant S_ .f32 0x7F800000#32
  let main_v15 : FVec F S1x16384x512 .f32 := broadcastInDim S1x16384x512 ![] bcast_S_S1x16384x512 main_cst_4
  let main_v16 : IVec S1x16384x512 1 := cmpf .olt main_v14 main_v15
  fn_part1 (F := F) main_v13 main_v16
-- ==== Pre_finite_ffn.lean ====
abbrev S1x16384x1024 : Shape := ⟨3, ![1, 16384, 1024]⟩
abbrev S1024x2816 : Shape := ⟨2, ![1024, 2816]⟩
abbrev S2816x1024 : Shape := ⟨2, ![2816, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x16384x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x16384x1024 .f32 := Host.absf main_arg4
  let main_cst_6 : FVec F S_ .f32 := constant S_ .f32 0x7F800000#32
  let main_v20 : FVec F S1x16384x1024 .f32 := broadcastInDim S1x16384x1024 ![] bcast_S_S1x16384x1024 main_cst_6
  let main_v21 : IVec S1x16384x1024 1 := cmpf .olt main_v19 main_v20
  let main_c_7 : IVec S_ 1 := constantI S_ 1 1#1
  let main_v22 : IVec S_ 1 := (fun x v => Host.reduce IntOp.andi x v reducesTo_S1x16384x1024_S_d0_1_2 h_S_) main_v21 main_c_7
  let main_v23 : IVec S_ 1 := andi main_v18 main_v22
  main_v23

def fn {F : FTy → Type} [FloatOps F] (main_arg0 : FVec F S1x16384x1024 .f32) (main_arg1 : FVec F S1024x2816 .f32) (main_arg2 : FVec F S1024x2816 .f32) (main_arg3 : FVec F S2816x1024 .f32) (main_arg4 : FVec F S1x16384x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite_gated.lean ====
abbrev S1x16384x8x64 : Shape := ⟨4, ![1, 16384, 8, 64]⟩
abbrev S1x16384x512 : Shape := ⟨3, ![1, 16384, 512]⟩
abbrev S64 : Shape := ⟨1, ![64]⟩
abbrev S_ : Shape := ⟨0, ![]⟩

class Facts : Prop where
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  h_S_ : 0 < S_.numel
  bcast_S_S1x16384x512 : S_.BroadcastsInDim S1x16384x512 (![] : Fin 0 → Fin S1x16384x512.rank)
  reducesTo_S1x16384x512_S_d0_1_2 : S1x16384x512.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S1x16384x512 1) : IVec S_ 1 :=
  let main_c_5 : IVec S_ 1 := constantI S_ 1 1#1
  let main_v17 : IVec S_ 1 := (fun x v => Host.reduce IntOp.andi x v reducesTo_S1x16384x512_S_d0_1_2 h_S_) main_v16 main_c_5
  let main_v18 : IVec S_ 1 := andi main_v13 main_v17
  main_v18

def fn {F : FTy → Type} [FloatOps F] (main_arg0 : FVec F S1x16384x8x64 .f32) (main_arg1 : FVec F S1x16384x512 .f32) (main_arg2 : FVec F S64 .f32) (main_arg3 : FVec F S1x16384x512 .f32) : IVec S_ 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_c : IVec S_ 1 := constantI S_ 1 1#1
  let main_v3 : IVec S_ 1 := (fun x v => Host.reduce IntOp.andi x v reducesTo_S1x16384x8x64_S_d0_1_2_3 h_S_) main_v2 main_c
  let main_v4 : FVec F S1x16384x512 .f32 := Host.absf main_arg1
  let main_cst_0 : FVec F S_ .f32 := constant S_ .f32 0x7F800000#32
  let main_v5 : FVec F S1x16384x512 .f32 := broadcastInDim S1x16384x512 ![] bcast_S_S1x16384x512 main_cst_0
  let main_v6 : IVec S1x16384x512 1 := cmpf .olt main_v4 main_v5
  let main_c_1 : IVec S_ 1 := constantI S_ 1 1#1
  let main_v7 : IVec S_ 1 := (fun x v => Host.reduce IntOp.andi x v reducesTo_S1x16384x512_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x16384x512 .f32 := Host.absf main_arg3
  let main_cst_4 : FVec F S_ .f32 := constant S_ .f32 0x7F800000#32
  let main_v15 : FVec F S1x16384x512 .f32 := broadcastInDim S1x16384x512 ![] bcast_S_S1x16384x512 main_cst_4
  let main_v16 : IVec S1x16384x512 1 := cmpf .olt main_v14 main_v15
  fn_part1 (F := F) main_v13 main_v16
-- ==== Pre_finite_gated_fwd.lean ====
abbrev S1x16384x8x64 : Shape := ⟨4, ![1, 16384, 8, 64]⟩
abbrev S1x16384x512 : Shape := ⟨3, ![1, 16384, 512]⟩
abbrev S64 : Shape := ⟨1, ![64]⟩
abbrev S_ : Shape := ⟨0, ![]⟩

class Facts : Prop where
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  h_S_ : 0 < S_.numel
  bcast_S_S1x16384x512 : S_.BroadcastsInDim S1x16384x512 (![] : Fin 0 → Fin S1x16384x512.rank)
  reducesTo_S1x16384x512_S_d0_1_2 : S1x16384x512.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1x16384x8x64 .f32) (main_arg1 : FVec F S1x16384x512 .f32) (main_arg2 : FVec F S64 .f32) : IVec S_ 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_c : IVec S_ 1 := constantI S_ 1 1#1
  let main_v3 : IVec S_ 1 := (fun x v => Host.reduce IntOp.andi x v reducesTo_S1x16384x8x64_S_d0_1_2_3 h_S_) main_v2 main_c
  let main_v4 : FVec F S1x16384x512 .f32 := Host.absf main_arg1
  let main_cst_0 : FVec F S_ .f32 := constant S_ .f32 0x7F800000#32
  let main_v5 : FVec F S1x16384x512 .f32 := broadcastInDim S1x16384x512 ![] bcast_S_S1x16384x512 main_cst_0
  let main_v6 : IVec S1x16384x512 1 := cmpf .olt main_v4 main_v5
  let main_c_1 : IVec S_ 1 := constantI S_ 1 1#1
  let main_v7 : IVec S_ 1 := (fun x v => Host.reduce IntOp.andi x v reducesTo_S1x16384x512_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Pre_finite_gates.lean ====
abbrev S1x16384x1024 : Shape := ⟨3, ![1, 16384, 1024]⟩
abbrev S1024 : Shape := ⟨1, ![1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x16384x1024 .f32) (main_arg1 : FVec F S1x16384x1024 .f32) (main_arg2 : FVec F S1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x16384x1024 .f32 := Host.absf main_arg1
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_finite_norm.lean ====
abbrev S1x16384x384 : Shape := ⟨3, ![1, 16384, 384]⟩
abbrev S384 : Shape := ⟨1, ![384]⟩
abbrev S_ : Shape := ⟨0, ![]⟩

class Facts : Prop where
  bcast_S_S1x16384x384 : S_.BroadcastsInDim S1x16384x384 (![] : Fin 0 → Fin S1x16384x384.rank)
  reducesTo_S1x16384x384_S_d0_1_2 : S1x16384x384.ReducesTo [0, 1, 2] S_
  h_S_ : 0 < S_.numel
  bcast_S_S384 : S_.BroadcastsInDim S384 (![] : Fin 0 → Fin S384.rank)
  reducesTo_S384_S_d0 : S384.ReducesTo [0] S_

variable [Facts]

def fn {F : FTy → Type} [FloatOps F] (main_arg0 : FVec F S1x16384x384 .f32) (main_arg1 : FVec F S384 .f32) (main_arg2 : FVec F S1x16384x384 .f32) : IVec S_ 1 :=
  let main_v0 : FVec F S1x16384x384 .f32 := Host.absf main_arg0
  let main_cst : FVec F S_ .f32 := constant S_ .f32 0x7F800000#32
  let main_v1 : FVec F S1x16384x384 .f32 := broadcastInDim S1x16384x384 ![] bcast_S_S1x16384x384 main_cst
  let main_v2 : IVec S1x16384x384 1 := cmpf .olt main_v0 main_v1
  let main_c : IVec S_ 1 := constantI S_ 1 1#1
  let main_v3 : IVec S_ 1 := (fun x v => Host.reduce IntOp.andi x v reducesTo_S1x16384x384_S_d0_1_2 h_S_) main_v2 main_c
  let main_v4 : FVec F S384 .f32 := Host.absf main_arg1
  let main_cst_0 : FVec F S_ .f32 := constant S_ .f32 0x7F800000#32
  let main_v5 : FVec F S384 .f32 := broadcastInDim S384 ![] bcast_S_S384 main_cst_0
  let main_v6 : IVec S384 1 := cmpf .olt main_v4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v3 main_v7
  let main_v9 : FVec F S1x16384x384 .f32 := Host.absf main_arg2
  let main_cst_2 : FVec F S_ .f32 := constant S_ .f32 0x7F800000#32
  let main_v10 : FVec F S1x16384x384 .f32 := broadcastInDim S1x16384x384 ![] bcast_S_S1x16384x384 main_cst_2
  let main_v11 : IVec S1x16384x384 1 := cmpf .olt main_v9 main_v10
  let main_c_3 : IVec S_ 1 := constantI S_ 1 1#1
  let main_v12 : IVec S_ 1 := (fun x v => Host.reduce IntOp.andi x v reducesTo_S1x16384x384_S_d0_1_2 h_S_) main_v11 main_c_3
  let main_v13 : IVec S_ 1 := andi main_v8 main_v12
  main_v13
-- ==== Pre_finite_norm_keep.lean ====
abbrev S1x16384x1024 : Shape := ⟨3, ![1, 16384, 1024]⟩
abbrev S1024 : Shape := ⟨1, ![1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1x16384x1024 1) : IVec S_ 1 :=
  let main_c_5 : IVec S_ 1 := constantI S_ 1 1#1
  let main_v17 : IVec S_ 1 := (fun x v => Host.reduce IntOp.andi x v reducesTo_S1x16384x1024_S_d0_1_2 h_S_) main_v16 main_c_5
  let main_v18 : IVec S_ 1 := andi main_v13 main_v17
  main_v18

def fn {F : FTy → Type} [FloatOps F] (main_arg0 : FVec F S1x16384x1024 .f32) (main_arg1 : FVec F S1024 .f32) (main_arg2 : FVec F S1x16384x1024 .f32) (main_arg3 : FVec F S1x16384x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x16384x1024 .f32 := Host.absf main_arg2
  let main_cst_2 : FVec F S_ .f32 := constant S_ .f32 0x7F800000#32
  let main_v10 : FVec F S1x16384x1024 .f32 := broadcastInDim S1x16384x1024 ![] bcast_S_S1x16384x1024 main_cst_2
  let main_v11 : IVec S1x16384x1024 1 := cmpf .olt main_v9 main_v10
  let main_c_3 : IVec S_ 1 := constantI S_ 1 1#1
  let main_v12 : IVec S_ 1 := (fun x v => Host.reduce IntOp.andi x v reducesTo_S1x16384x1024_S_d0_1_2 h_S_) main_v11 main_c_3
  let main_v13 : IVec S_ 1 := andi main_v8 main_v12
  let main_v14 : FVec F S1x16384x1024 .f32 := Host.absf main_arg3
  let main_cst_4 : FVec F S_ .f32 := constant S_ .f32 0x7F800000#32
  let main_v15 : FVec F S1x16384x1024 .f32 := broadcastInDim S1x16384x1024 ![] bcast_S_S1x16384x1024 main_cst_4
  let main_v16 : IVec S1x16384x1024 1 := cmpf .olt main_v14 main_v15
  fn_part1 (F := F) main_v13 main_v16
-- ==== Pre_smooth_gates.lean ====
abbrev S1x16384x1024 : Shape := ⟨3, ![1, 16384, 1024]⟩
abbrev S1024 : Shape := ⟨1, ![1024]⟩
abbrev S1x16384x8x128 : Shape := ⟨4, ![1, 16384, 8, 128]⟩
abbrev S1x1024x8x128 : Shape := ⟨4, ![1, 1024, 8, 128]⟩
abbrev S_ : Shape := ⟨0, ![]⟩
abbrev S1x1x1024 : Shape := ⟨3, ![1, 1, 1024]⟩

class Facts : Prop where
  bcast_S_S1024 : S_.BroadcastsInDim S1024 (![] : Fin 0 → Fin S1024.rank)
  bcast_S_S1x16384x1024 : S_.BroadcastsInDim S1x16384x1024 (![] : Fin 0 → Fin S1x16384x1024.rank)
  bcast_S1024_S1x1x1024_2 : S1024.BroadcastsInDim S1x1x1024 (![2] : Fin 1 → Fin S1x1x1024.rank)
  bcast_S1x1x1024_S1x16384x1024_0_1_2 : S1x1x1024.BroadcastsInDim S1x16384x1024 (![0, 1, 2] : Fin 3 → Fin S1x16384x1024.rank)
  reducesTo_S1x16384x1024_S_d0_1_2 : S1x16384x1024.ReducesTo [0, 1, 2] S_
  h_S_ : 0 < S_.numel
  reducesTo_S1024_S_d0 : S1024.ReducesTo [0] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn_part2 {F : FTy → Type} [FloatOps F] (main_arg5 : FVec F S1x16384x8x128 .f32) (main_arg6 : FVec F S1x1024x8x128 .f32) (main_v13 : FVec F S1x16384x1024 .f32) (main_v32 : IVec S_ 1) (main_v35 : IVec S1x16384x8x128 1) : IVec S_ 1 :=
  let main_c_10 : IVec S_ 1 := constantI S_ 1 1#1
  let main_v36 : IVec S_ 1 := (fun x v => Host.reduce IntOp.andi x v reducesTo_S1x16384x8x128_S_d0_1_2_3 h_S_) main_v35 main_c_10
  let main_v37 : IVec S_ 1 := andi main_v32 main_v36
  let main_v38 : FVec F S1x16384x8x128 .f32 := Host.absf main_arg5
  let main_cst_11 : FVec F S_ .f32 := constant S_ .f32 0x7F800000#32
  let main_v39 : FVec F S1x16384x8x128 .f32 := broadcastInDim S1x16384x8x128 ![] bcast_S_S1x16384x8x128 main_cst_11
  let main_v40 : IVec S1x16384x8x128 1 := cmpf .olt main_v38 main_v39
  let main_c_12 : IVec S_ 1 := constantI S_ 1 1#1
  let main_v41 : IVec S_ 1 := (fun x v => Host.reduce IntOp.andi x v reducesTo_S1x16384x8x128_S_d0_1_2_3 h_S_) main_v40 main_c_12
  let main_v42 : IVec S_ 1 := andi main_v37 main_v41
  let main_v43 : FVec F S1x1024x8x128 .f32 := Host.absf main_arg6
  let main_cst_13 : FVec F S_ .f32 := constant S_ .f32 0x7F800000#32
  let main_v44 : FVec F S1x1024x8x128 .f32 := broadcastInDim S1x1024x8x128 ![] bcast_S_S1x1024x8x128 main_cst_13
  let main_v45 : IVec S1x1024x8x128 1 := cmpf .olt main_v43 main_v44
  let main_c_14 : IVec S_ 1 := constantI S_ 1 1#1
  let main_v46 : IVec S_ 1 := (fun x v => Host.reduce IntOp.andi x v reducesTo_S1x1024x8x128_S_d0_1_2_3 h_S_) main_v45 main_c_14
  let main_v47 : IVec S_ 1 := andi main_v42 main_v46
  let main_cst_15 : FVec F S_ .f32 := constant S_ .f32 0x0DA24260#32
  let main_v48 : FVec F S1x16384x1024 .f32 := broadcastInDim S1x16384x1024 ![] bcast_S_S1x16384x1024 main_cst_15
  let main_v49 : IVec S1x16384x1024 1 := cmpf .une main_v13 main_v48
  let main_c_16 : IVec S_ 1 := constantI S_ 1 1#1
  let main_v50 : IVec S_ 1 := (fun x v => Host.reduce IntOp.andi x v reducesTo_S1x16384x1024_S_d0_1_2 h_S_) main_v49 main_c_16
  let main_v51 : IVec S_ 1 := andi main_v47 main_v50
  main_v51

def fn_part1 {F : FTy → Type} [FloatOps F] (main_arg2 : FVec F S1024 .f32) (main_arg3 : FVec F S1x16384x8x128 .f32) (main_arg4 : FVec F S1x16384x8x128 .f32) (main_arg5 : FVec F S1x16384x8x128 .f32) (main_arg6 : FVec F S1x1024x8x128 .f32) (main_v13 : FVec F S1x16384x1024 .f32) (main_v17 : IVec S_ 1) (main_v18 : FVec F S1x16384x1024 .f32) : IVec S_ 1 :=
  let main_cst_3 : FVec F S_ .f32 := constant S_ .f32 0x7F800000#32
  let main_v19 : FVec F S1x16384x1024 .f32 := broadcastInDim S1x16384x1024 ![] bcast_S_S1x16384x1024 main_cst_3
  let main_v20 : IVec S1x16384x1024 1 := cmpf .olt main_v18 main_v19
  let main_c_4 : IVec S_ 1 := constantI S_ 1 1#1
  let main_v21 : IVec S_ 1 := (fun x v => Host.reduce IntOp.andi x v reducesTo_S1x16384x1024_S_d0_1_2 h_S_) main_v20 main_c_4
  let main_v22 : IVec S_ 1 := andi main_v17 main_v21
  let main_v23 : FVec F S1024 .f32 := Host.absf main_arg2
  let main_cst_5 : FVec F S_ .f32 := constant S_ .f32 0x7F800000#32
  let main_v24 : FVec F S1024 .f32 := broadcastInDim S1024 ![] bcast_S_S1024 main_cst_5
  let main_v25 : IVec S1024 1 := cmpf .olt main_v23 main_v24
  let main_c_6 : IVec S_ 1 := constantI S_ 1 1#1
  let main_v26 : IVec S_ 1 := (fun x v => Host.reduce IntOp.andi x v reducesTo_S1024_S_d0 h_S_) main_v25 main_c_6
  let main_v27 : IVec S_ 1 := andi main_v22 main_v26
  let main_v28 : FVec F S1x16384x8x128 .f32 := Host.absf main_arg3
  let main_cst_7 : FVec F S_ .f32 := constant S_ .f32 0x7F800000#32
  let main_v29 : FVec F S1x16384x8x128 .f32 := broadcastInDim S1x16384x8x128 ![] bcast_S_S1x16384x8x128 main_cst_7
  let main_v30 : IVec S1x16384x8x128 1 := cmpf .olt main_v28 main_v29
  let main_c_8 : IVec S_ 1 := constantI S_ 1 1#1
  let main_v31 : IVec S_ 1 := (fun x v => Host.reduce IntOp.andi x v reducesTo_S1x16384x8x128_S_d0_1_2_3 h_S_) main_v30 main_c_8
  let main_v32 : IVec S_ 1 := andi main_v27 main_v31
  let main_v33 : FVec F S1x16384x8x128 .f32 := Host.absf main_arg4
  let main_cst_9 : FVec F S_ .f32 := constant S_ .f32 0x7F800000#32
  let main_v34 : FVec F S1x16384x8x128 .f32 := broadcastInDim S1x16384x8x128 ![] bcast_S_S1x16384x8x128 main_cst_9
  let main_v35 : IVec S1x16384x8x128 1 := cmpf .olt main_v33 main_v34
  fn_part2 (F := F) main_arg5 main_arg6 main_v13 main_v32 main_v35

def fn {F : FTy → Type} [FloatOps F] (main_arg0 : FVec F S1x16384x1024 .f32) (main_arg1 : FVec F S1x16384x1024 .f32) (main_arg2 : FVec F S1024 .f32) (main_arg3 : FVec F S1x16384x8x128 .f32) (main_arg4 : FVec F S1x16384x8x128 .f32) (main_arg5 : FVec F S1x16384x8x128 .f32) (main_arg6 : FVec F S1x1024x8x128 .f32) : IVec S_ 1 :=
  let main_cst : FVec F S_ .f32 := constant S_ .f32 0x3F800000#32
  let main_v0 : FVec F S1024 .f32 := broadcastInDim S1024 ![] bcast_S_S1024 main_cst
  let main_v1 : FVec F S1024 .f32 := subf main_v0 main_arg2
  let main_v2 : FVec F S1x16384x1024 .f32 := Host.negf main_arg1
  let main_v3 : FVec F S1x16384x1024 .f32 := Host.exp main_v2
  let main_cst_0 : FVec F S_ .f32 := constant S_ .f32 0x3F800000#32
  let main_v4 : FVec F S1x16384x1024 .f32 := broadcastInDim S1x16384x1024 ![] bcast_S_S1x16384x1024 main_cst_0
  let main_v5 : FVec F S1x16384x1024 .f32 := addf main_v4 main_v3
  let main_cst_1 : FVec F S_ .f32 := constant S_ .f32 0x3F800000#32
  let main_v6 : FVec F S1x16384x1024 .f32 := broadcastInDim S1x16384x1024 ![] bcast_S_S1x16384x1024 main_cst_1
  let main_v7 : FVec F S1x16384x1024 .f32 := Host.divf main_v6 main_v5
  let main_v8 : FVec F S1x1x1024 .f32 := broadcastInDim S1x1x1024 ![2] bcast_S1024_S1x1x1024_2 main_v1
  let main_v9 : FVec F S1x16384x1024 .f32 := broadcastInDim S1x16384x1024 ![0, 1, 2] bcast_S1x1x1024_S1x16384x1024_0_1_2 main_v8
  let main_v10 : FVec F S1x16384x1024 .f32 := mulf main_v9 main_v7
  let main_v11 : FVec F S1x1x1024 .f32 := broadcastInDim S1x1x1024 ![2] bcast_S1024_S1x1x1024_2 main_arg2
  let main_v12 : FVec F S1x16384x1024 .f32 := broadcastInDim S1x16384x1024 ![0, 1, 2] bcast_S1x1x1024_S1x16384x1024_0_1_2 main_v11
  let main_v13 : FVec F S1x16384x1024 .f32 := addf main_v12 main_v10
  let main_v14 : FVec F S1x16384x1024 .f32 := Host.absf main_arg0
  let main_cst_2 : FVec F S_ .f32 := constant S_ .f32 0x7F800000#32
  let main_v15 : FVec F S1x16384x1024 .f32 := broadcastInDim S1x16384x1024 ![] bcast_S_S1x16384x1024 main_cst_2
  let main_v16 : IVec S1x16384x1024 1 := cmpf .olt main_v14 main_v15
  let main_c : IVec S_ 1 := constantI S_ 1 1#1
  let main_v17 : IVec S_ 1 := (fun x v => Host.reduce IntOp.andi x v reducesTo_S1x16384x1024_S_d0_1_2 h_S_) main_v16 main_c
  let main_v18 : FVec F S1x16384x1024 .f32 := Host.absf main_arg1
  fn_part1 (F := F) main_arg2 main_arg3 main_arg4 main_arg5 main_arg6 main_v13 main_v17 main_v18
-- ==== IntraF.lean ====
abbrev S1x16384x8x128 : Shape := ⟨4, ![1, 16384, 8, 128]⟩
abbrev S1x16384x8x64 : Shape := ⟨4, ![1, 16384, 8, 64]⟩
abbrev S1x16384x1024 : Shape := ⟨3, ![1, 16384, 1024]⟩
abbrev S1x16384x512 : Shape := ⟨3, ![1, 16384, 512]⟩
abbrev S1x256x1024 : Shape := ⟨3, ![1, 256, 1024]⟩
abbrev S1x256x512 : Shape := ⟨3, ![1, 256, 512]⟩
abbrev S256x256 : Shape := ⟨2, ![256, 256]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩

abbrev nBuf : Space → Nat
  | .hbm => 11
  | .vmem => 14
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x8x64, .f32⟩
  | .hbm, ⟨4, _⟩ => ⟨S1x16384x1024, .f32⟩
  | .hbm, ⟨5, _⟩ => ⟨S1x16384x1024, .f32⟩
  | .hbm, ⟨6, _⟩ => ⟨S1x16384x512, .f32⟩
  | .hbm, ⟨7, _⟩ => ⟨S1x16384x512, .f32⟩
  | .hbm, ⟨8, _⟩ => ⟨S1x16384x1024, .f32⟩
  | .hbm, ⟨9, _⟩ => ⟨S1x16384x1024, .f32⟩
  | .hbm, ⟨10, _⟩ => ⟨S1x16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x512, .f32⟩
  | .local _ .vmem, ⟨13, _⟩ => ⟨S1x256x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== IntraFIdeal.lean ====
abbrev S1x16384x8x128 : Shape := ⟨4, ![1, 16384, 8, 128]⟩
abbrev S1x16384x8x64 : Shape := ⟨4, ![1, 16384, 8, 64]⟩
abbrev S1x16384x1024 : Shape := ⟨3, ![1, 16384, 1024]⟩
abbrev S1x16384x512 : Shape := ⟨3, ![1, 16384, 512]⟩
abbrev S1x256x1024 : Shape := ⟨3, ![1, 256, 1024]⟩
abbrev S1x256x512 : Shape := ⟨3, ![1, 256, 512]⟩
abbrev S256x256 : Shape := ⟨2, ![256, 256]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩

abbrev nBuf : Space → Nat
  | .hbm => 11
  | .vmem => 14
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x8x64, .f32⟩
  | .hbm, ⟨4, _⟩ => ⟨S1x16384x1024, .f32⟩
  | .hbm, ⟨5, _⟩ => ⟨S1x16384x1024, .f32⟩
  | .hbm, ⟨6, _⟩ => ⟨S1x16384x512, .f32⟩
  | .hbm, ⟨7, _⟩ => ⟨S1x16384x512, .f32⟩
  | .hbm, ⟨8, _⟩ => ⟨S1x16384x1024, .f32⟩
  | .hbm, ⟨9, _⟩ => ⟨S1x16384x1024, .f32⟩
  | .hbm, ⟨10, _⟩ => ⟨S1x16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x512, .f32⟩
  | .local _ .vmem, ⟨13, _⟩ => ⟨S1x256x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== IntraFRefIdeal.lean ====
abbrev S1x16384x8x128 : Shape := ⟨4, ![1, 16384, 8, 128]⟩
abbrev S1x16384x8x64 : Shape := ⟨4, ![1, 16384, 8, 64]⟩
abbrev S1x1024x16x8x128 : Shape := ⟨5, ![1, 1024, 16, 8, 128]⟩
abbrev S1x1024x16x8x64 : Shape := ⟨5, ![1, 1024, 16, 8, 64]⟩
abbrev S1x1024x8x16x16 : Shape := ⟨5, ![1, 1024, 8, 16, 16]⟩
abbrev S_ : Shape := ⟨0, ![]⟩
abbrev S16x16 : Shape := ⟨2, ![16, 16]⟩
abbrev S1x1024x8x64x16 : Shape := ⟨5, ![1, 1024, 8, 64, 16]⟩
abbrev S1x1024x8x16x128 : Shape := ⟨5, ![1, 1024, 8, 16, 128]⟩
abbrev S1x16384x1024 : Shape := ⟨3, ![1, 16384, 1024]⟩
abbrev S1x16384x512 : Shape := ⟨3, ![1, 16384, 512]⟩

abbrev nBuf : Space → Nat
  | .hbm => 47
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x8x64, .f32⟩
  | .hbm, ⟨4, _⟩ => ⟨S1x1024x16x8x128, .f32⟩
  | .hbm, ⟨5, _⟩ => ⟨S1x1024x16x8x128, .f32⟩
  | .hbm, ⟨6, _⟩ => ⟨S1x1024x16x8x64, .f32⟩
  | .hbm, ⟨7, _⟩ => ⟨S1x1024x8x16x16, .f32⟩
  | .hbm, ⟨8, _⟩ => ⟨S_, .i1⟩
  | .hbm, ⟨9, _⟩ => ⟨S16x16, .i1⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i32⟩
  | .hbm, ⟨15, _⟩ => ⟨S16x16, .i1⟩
  | .hbm, ⟨16, _⟩ => ⟨S_, .i1⟩
  | .hbm, ⟨17, _⟩ => ⟨S16x16, .i1⟩
  | .hbm, ⟨18, _⟩ => ⟨S16x16, .i1⟩
  | .hbm, ⟨19, _⟩ => ⟨S_, .f32⟩
  | .hbm, ⟨20, _⟩ => ⟨S_, .f32⟩
  | .hbm, ⟨21, _⟩ => ⟨S1x1024x8x16x16, .i1⟩
  | .hbm, ⟨22, _⟩ => ⟨S1x1024x8x16x16, .f32⟩
  | .hbm, ⟨23, _⟩ => ⟨S1x1024x8x16x16, .f32⟩
  | .hbm, ⟨24, _⟩ => ⟨S_, .f32⟩
  | .hbm, ⟨25, _⟩ => ⟨S1x1024x8x16x16, .f32⟩
  | .hbm, ⟨26, _⟩ => ⟨S1x1024x8x64x16, .f32⟩
  | .hbm, ⟨27, _⟩ => ⟨S1x1024x16x8x64, .f32⟩
  | .hbm, ⟨28, _⟩ => ⟨S1x16384x8x64, .f32⟩
  | .hbm, ⟨29, _⟩ => ⟨S1x1024x16x8x64, .f32⟩
  | .hbm, ⟨30, _⟩ => ⟨S1x1024x8x64x16, .f32⟩
  | .hbm, ⟨31, _⟩ => ⟨S1x1024x8x16x16, .f32⟩
  | .hbm, ⟨32, _⟩ => ⟨S1x1024x8x64x16, .f32⟩
  | .hbm, ⟨33, _⟩ => ⟨S1x1024x16x8x64, .f32⟩
  | .hbm, ⟨34, _⟩ => ⟨S_, .f32⟩
  | .hbm, ⟨35, _⟩ => ⟨S1x1024x8x16x16, .f32⟩
  | .hbm, ⟨36, _⟩ => ⟨S1x1024x8x16x16, .f32⟩
  | .hbm, ⟨37, _⟩ => ⟨S1x1024x8x16x128, .f32⟩
  | .hbm, ⟨38, _⟩ => ⟨S1x1024x16x8x128, .f32⟩
  | .hbm, ⟨39, _⟩ => ⟨S1x1024x8x16x128, .f32⟩
  | .hbm, ⟨40, _⟩ => ⟨S1x1024x16x8x128, .f32⟩
  | .hbm, ⟨41, _⟩ => ⟨S1x16384x8x64, .f32⟩
  | .hbm, ⟨42, _⟩ => ⟨S1x16384x8x128, .f32⟩
  | .hbm, ⟨43, _⟩ => ⟨S1x16384x8x128, .f32⟩
  | .hbm, ⟨44, _⟩ => ⟨S1x16384x1024, .f32⟩
  | .hbm, ⟨45, _⟩ => ⟨S1x16384x1024, .f32⟩
  | .hbm, ⟨46, _⟩ => ⟨S1x16384x512, .f32⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_v6_1 : Ref sig .tc := ⟨.hbm, 21, rfl⟩
abbrev main_call1_v2 : Ref sig .tc := ⟨.hbm, 22, rfl⟩
abbrev main_v6_0 : Ref sig .tc := ⟨.hbm, 23, rfl⟩
abbrev main_call1_cst : Ref sig .tc := ⟨.hbm, 24, rfl⟩
abbrev main_v6_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call2_cst : Ref sig .tc := ⟨.hbm, 34, rfl⟩
abbrev main_call2_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== IntraB.lean ====
abbrev S1x16384x8x128 : Shape := ⟨4, ![1, 16384, 8, 128]⟩
abbrev S1x16384x8x64 : Shape := ⟨4, ![1, 16384, 8, 64]⟩
abbrev S1x16384x1024 : Shape := ⟨3, ![1, 16384, 1024]⟩
abbrev S1x16384x512 : Shape := ⟨3, ![1, 16384, 512]⟩
abbrev S1x256x1024 : Shape := ⟨3, ![1, 256, 1024]⟩
abbrev S1x256x512 : Shape := ⟨3, ![1, 256, 512]⟩
abbrev S256x256 : Shape := ⟨2, ![256, 256]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩

abbrev nBuf : Space → Nat
  | .hbm => 11
  | .vmem => 14
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x8x64, .f32⟩
  | .hbm, ⟨4, _⟩ => ⟨S1x16384x1024, .f32⟩
  | .hbm, ⟨5, _⟩ => ⟨S1x16384x1024, .f32⟩
  | .hbm, ⟨6, _⟩ => ⟨S1x16384x512, .f32⟩
  | .hbm, ⟨7, _⟩ => ⟨S1x16384x512, .f32⟩
  | .hbm, ⟨8, _⟩ => ⟨S1x16384x1024, .f32⟩
  | .hbm, ⟨9, _⟩ => ⟨S1x16384x1024, .f32⟩
  | .hbm, ⟨10, _⟩ => ⟨S1x16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x512, .f32⟩
  | .local _ .vmem, ⟨13, _⟩ => ⟨S1x256x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== IntraBIdeal.lean ====
abbrev S1x16384x8x128 : Shape := ⟨4, ![1, 16384, 8, 128]⟩
abbrev S1x16384x8x64 : Shape := ⟨4, ![1, 16384, 8, 64]⟩
abbrev S1x16384x1024 : Shape := ⟨3, ![1, 16384, 1024]⟩
abbrev S1x16384x512 : Shape := ⟨3, ![1, 16384, 512]⟩
abbrev S1x256x1024 : Shape := ⟨3, ![1, 256, 1024]⟩
abbrev S1x256x512 : Shape := ⟨3, ![1, 256, 512]⟩
abbrev S256x256 : Shape := ⟨2, ![256, 256]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩

abbrev nBuf : Space → Nat
  | .hbm => 11
  | .vmem => 14
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x8x64, .f32⟩
  | .hbm, ⟨4, _⟩ => ⟨S1x16384x1024, .f32⟩
  | .hbm, ⟨5, _⟩ => ⟨S1x16384x1024, .f32⟩
  | .hbm, ⟨6, _⟩ => ⟨S1x16384x512, .f32⟩
  | .hbm, ⟨7, _⟩ => ⟨S1x16384x512, .f32⟩
  | .hbm, ⟨8, _⟩ => ⟨S1x16384x1024, .f32⟩
  | .hbm, ⟨9, _⟩ => ⟨S1x16384x1024, .f32⟩
  | .hbm, ⟨10, _⟩ => ⟨S1x16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x512, .f32⟩
  | .local _ .vmem, ⟨13, _⟩ => ⟨S1x256x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== IntraBRefIdeal.lean ====
abbrev S1x16384x8x128 : Shape := ⟨4, ![1, 16384, 8, 128]⟩
abbrev S1x16384x8x64 : Shape := ⟨4, ![1, 16384, 8, 64]⟩
abbrev S1x1024x16x8x128 : Shape := ⟨5, ![1, 1024, 16, 8, 128]⟩
abbrev S1x1024x16x8x64 : Shape := ⟨5, ![1, 1024, 16, 8, 64]⟩
abbrev S1x1024x8x16x16 : Shape := ⟨5, ![1, 1024, 8, 16, 16]⟩
abbrev S_ : Shape := ⟨0, ![]⟩
abbrev S16x16 : Shape := ⟨2, ![16, 16]⟩
abbrev S1x1024x8x64x16 : Shape := ⟨5, ![1, 1024, 8, 64, 16]⟩
abbrev S1x1024x8x16x128 : Shape := ⟨5, ![1, 1024, 8, 16, 128]⟩
abbrev S1x16384x1024 : Shape := ⟨3, ![1, 16384, 1024]⟩
abbrev S1x16384x512 : Shape := ⟨3, ![1, 16384, 512]⟩

abbrev nBuf : Space → Nat
  | .hbm => 55
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x8x64, .f32⟩
  | .hbm, ⟨4, _⟩ => ⟨S1x16384x8x128, .f32⟩
  | .hbm, ⟨5, _⟩ => ⟨S1x16384x8x128, .f32⟩
  | .hbm, ⟨6, _⟩ => ⟨S1x16384x8x64, .f32⟩
  | .hbm, ⟨7, _⟩ => ⟨S1x1024x16x8x128, .f32⟩
  | .hbm, ⟨8, _⟩ => ⟨S1x1024x16x8x128, .f32⟩
  | .hbm, ⟨9, _⟩ => ⟨S1x1024x16x8x64, .f32⟩
  | .hbm, ⟨10, _⟩ => ⟨S1x1024x8x16x16, .f32⟩
  | .hbm, ⟨11, _⟩ => ⟨S_, .i1⟩
  | .hbm, ⟨12, _⟩ => ⟨S16x16, .i1⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S16x16, .i32⟩
  | .hbm, ⟨18, _⟩ => ⟨S16x16, .i1⟩
  | .hbm, ⟨19, _⟩ => ⟨S_, .i1⟩
  | .hbm, ⟨20, _⟩ => ⟨S16x16, .i1⟩
  | .hbm, ⟨21, _⟩ => ⟨S16x16, .i1⟩
  | .hbm, ⟨22, _⟩ => ⟨S_, .f32⟩
  | .hbm, ⟨23, _⟩ => ⟨S_, .f32⟩
  | .hbm, ⟨24, _⟩ => ⟨S1x1024x8x16x16, .i1⟩
  | .hbm, ⟨25, _⟩ => ⟨S1x1024x8x16x16, .f32⟩
  | .hbm, ⟨26, _⟩ => ⟨S1x1024x8x16x16, .f32⟩
  | .hbm, ⟨27, _⟩ => ⟨S_, .f32⟩
  | .hbm, ⟨28, _⟩ => ⟨S1x1024x8x16x16, .f32⟩
  | .hbm, ⟨29, _⟩ => ⟨S1x1024x8x64x16, .f32⟩
  | .hbm, ⟨30, _⟩ => ⟨S1x1024x16x8x64, .f32⟩
  | .hbm, ⟨31, _⟩ => ⟨S1x16384x8x64, .f32⟩
  | .hbm, ⟨32, _⟩ => ⟨S1x16384x8x64, .f32⟩
  | .hbm, ⟨33, _⟩ => ⟨S1x16384x8x64, .f32⟩
  | .hbm, ⟨34, _⟩ => ⟨S1x1024x16x8x64, .f32⟩
  | .hbm, ⟨35, _⟩ => ⟨S1x1024x8x64x16, .f32⟩
  | .hbm, ⟨36, _⟩ => ⟨S1x1024x8x16x16, .f32⟩
  | .hbm, ⟨37, _⟩ => ⟨S1x1024x8x64x16, .f32⟩
  | .hbm, ⟨38, _⟩ => ⟨S1x1024x16x8x64, .f32⟩
  | .hbm, ⟨39, _⟩ => ⟨S_, .f32⟩
  | .hbm, ⟨40, _⟩ => ⟨S1x1024x8x16x16, .f32⟩
  | .hbm, ⟨41, _⟩ => ⟨S1x1024x8x16x16, .f32⟩
  | .hbm, ⟨42, _⟩ => ⟨S1x1024x8x16x128, .f32⟩
  | .hbm, ⟨43, _⟩ => ⟨S1x1024x16x8x128, .f32⟩
  | .hbm, ⟨44, _⟩ => ⟨S1x1024x8x16x128, .f32⟩
  | .hbm, ⟨45, _⟩ => ⟨S1x1024x16x8x128, .f32⟩
  | .hbm, ⟨46, _⟩ => ⟨S1x16384x8x64, .f32⟩
  | .hbm, ⟨47, _⟩ => ⟨S1x16384x8x128, .f32⟩
  | .hbm, ⟨48, _⟩ => ⟨S1x16384x8x128, .f32⟩
  | .hbm, ⟨49, _⟩ => ⟨S1x16384x8x64, .f32⟩
  | .hbm, ⟨50, _⟩ => ⟨S1x16384x8x128, .f32⟩
  | .hbm, ⟨51, _⟩ => ⟨S1x16384x8x128, .f32⟩
  | .hbm, ⟨52, _⟩ => ⟨S1x16384x1024, .f32⟩
  | .hbm, ⟨53, _⟩ => ⟨S1x16384x1024, .f32⟩
  | .hbm, ⟨54, _⟩ => ⟨S1x16384x512, .f32⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_call3_v0 : Ref sig .tc := ⟨.hbm, 13, rfl⟩
abbrev main_call3_c : Ref sig .tc := ⟨.hbm, 14, rfl⟩
abbrev main_call3_v1 : Ref sig .tc := ⟨.hbm, 15, rfl⟩
abbrev main_call3_v2 : Ref sig .tc := ⟨.hbm, 16, rfl⟩
abbrev main_call3_v3 : Ref sig .tc := ⟨.hbm, 17, rfl⟩
abbrev main_call3_v4 : Ref sig .tc := ⟨.hbm, 18, rfl⟩
abbrev main_call3_c_0 : Ref sig .tc := ⟨.hbm, 19, rfl⟩
abbrev main_call3_v5 : Ref sig .tc := ⟨.hbm, 20, rfl⟩
abbrev main_v8 : Ref sig .tc := ⟨.hbm, 21, rfl⟩
abbrev main_cst : Ref sig .tc := ⟨.hbm, 22, rfl⟩
abbrev main_call4_v0 : Ref sig .tc := ⟨.hbm, 23, rfl⟩
abbrev main_v9_1 : Ref sig .tc := ⟨.hbm, 24, rfl⟩
abbrev main_call4_v2 : Ref sig .tc := ⟨.hbm, 25, rfl⟩
abbrev main_v9_0 : Ref sig .tc := ⟨.hbm, 26, rfl⟩
abbrev main_call4_cst : Ref sig .tc := ⟨.hbm, 27, rfl⟩
abbrev main_v9_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call7_cst : Ref sig .tc := ⟨.hbm, 39, rfl⟩
abbrev main_call7_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== MlaFwd.lean ====
abbrev S1x16384x8x96 : Shape := ⟨4, ![1, 16384, 8, 96]⟩
abbrev S1x16384x8x64 : Shape := ⟨4, ![1, 16384, 8, 64]⟩
abbrev S16384x8x96 : Shape := ⟨3, ![16384, 8, 96]⟩
abbrev S16384x8x64 : Shape := ⟨3, ![16384, 8, 64]⟩
abbrev S8x96x16384 : Shape := ⟨3, ![8, 96, 16384]⟩
abbrev S8x16384x96 : Shape := ⟨3, ![8, 16384, 96]⟩
abbrev S8x64x16384 : Shape := ⟨3, ![8, 64, 16384]⟩
abbrev S_ : Shape := ⟨0, ![]⟩
abbrev S8x16x16384 : Shape := ⟨3, ![8, 16, 16384]⟩
abbrev S8x80x16384 : Shape := ⟨3, ![8, 80, 16384]⟩
abbrev S8x1x16384 : Shape := ⟨3, ![8, 1, 16384]⟩
abbrev S1x96x2048 : Shape := ⟨3, ![1, 96, 2048]⟩
abbrev S1x2048x96 : Shape := ⟨3, ![1, 2048, 96]⟩
abbrev S1x80x2048 : Shape := ⟨3, ![1, 80, 2048]⟩
abbrev S1x64x2048 : Shape := ⟨3, ![1, 64, 2048]⟩
abbrev S1x1x2048 : Shape := ⟨3, ![1, 1, 2048]⟩
abbrev S1x2048 : Shape := ⟨2, ![1, 2048]⟩
abbrev S80x2048 : Shape := ⟨2, ![80, 2048]⟩
abbrev S2048x96 : Shape := ⟨2, ![2048, 96]⟩
abbrev S96x2048 : Shape := ⟨2, ![96, 2048]⟩
abbrev S2048x2048 : Shape := ⟨2, ![2048, 2048]⟩
abbrev S2048 : Shape := ⟨1, ![2048]⟩
abbrev S64x2048 : Shape := ⟨2, ![64, 2048]⟩

abbrev nBuf : Space → Nat
  | .hbm => 17
  | .vmem => 12
  | .smem => 0
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S16384x8x96, .f32⟩
  | .hbm, ⟨4, _⟩ => ⟨S16384x8x96, .f32⟩
  | .hbm, ⟨5, _⟩ => ⟨S16384x8x64, .f32⟩
  | .hbm, ⟨6, _⟩ => ⟨S8x96x16384, .f32⟩
  | .hbm, ⟨7, _⟩ => ⟨S8x96x16384, .bf16⟩
  | .hbm, ⟨8, _⟩ => ⟨S8x16384x96, .f32⟩
  | .hbm, ⟨9, _⟩ => ⟨S8x16384x96, .bf16⟩
  | .hbm, ⟨10, _⟩ => ⟨S8x64x16384, .f32⟩
  | .hbm, ⟨11, _⟩ => ⟨S8x64x16384, .bf16⟩
  | .hbm, ⟨12, _⟩ => ⟨S_, .bf16⟩
  | .hbm, ⟨13, _⟩ => ⟨S8x16x16384, .bf16⟩
  | .hbm, ⟨14, _⟩ => ⟨S8x80x16384, .bf16⟩
  | .hbm, ⟨15, _⟩ => ⟨S8x64x16384, .bf16⟩
  | .hbm, ⟨16, _⟩ => ⟨S8x1x16384, .f32⟩
  | .local _ .vmem, ⟨0, _⟩ => ⟨S1x96x2048, .bf16⟩
  | .local _ .vmem, ⟨1, _⟩ => ⟨S1x96x2048, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x80x2048, .bf16⟩
  | .local _ .vmem, ⟨5, _⟩ => ⟨S1x80x2048, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S80x2048, .f32⟩
  | _, _ => ⟨S1x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v35 : BitVec 1 := Scalar.cmpi .eq arg2 c7_i32
  let v36 : BitVec 32 := Scalar.extui v35
  let c0_i32_21 : BitVec 32 := 0#32
  let v37 : BitVec 1 := Scalar.cmpi .ne v36 c0_i32_21
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x96x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x80x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlaFwdIdeal.lean ====
abbrev S1x16384x8x96 : Shape := ⟨4, ![1, 16384, 8, 96]⟩
abbrev S1x16384x8x64 : Shape := ⟨4, ![1, 16384, 8, 64]⟩
abbrev S16384x8x96 : Shape := ⟨3, ![16384, 8, 96]⟩
abbrev S16384x8x64 : Shape := ⟨3, ![16384, 8, 64]⟩
abbrev S8x96x16384 : Shape := ⟨3, ![8, 96, 16384]⟩
abbrev S8x16384x96 : Shape := ⟨3, ![8, 16384, 96]⟩
abbrev S8x64x16384 : Shape := ⟨3, ![8, 64, 16384]⟩
abbrev S_ : Shape := ⟨0, ![]⟩
abbrev S8x16x16384 : Shape := ⟨3, ![8, 16, 16384]⟩
abbrev S8x80x16384 : Shape := ⟨3, ![8, 80, 16384]⟩
abbrev S8x1x16384 : Shape := ⟨3, ![8, 1, 16384]⟩
abbrev S1x96x2048 : Shape := ⟨3, ![1, 96, 2048]⟩
abbrev S1x2048x96 : Shape := ⟨3, ![1, 2048, 96]⟩
abbrev S1x80x2048 : Shape := ⟨3, ![1, 80, 2048]⟩
abbrev S1x64x2048 : Shape := ⟨3, ![1, 64, 2048]⟩
abbrev S1x1x2048 : Shape := ⟨3, ![1, 1, 2048]⟩
abbrev S1x2048 : Shape := ⟨2, ![1, 2048]⟩
abbrev S80x2048 : Shape := ⟨2, ![80, 2048]⟩
abbrev S2048x96 : Shape := ⟨2, ![2048, 96]⟩
abbrev S96x2048 : Shape := ⟨2, ![96, 2048]⟩
abbrev S2048x2048 : Shape := ⟨2, ![2048, 2048]⟩
abbrev S2048 : Shape := ⟨1, ![2048]⟩
abbrev S64x2048 : Shape := ⟨2, ![64, 2048]⟩

abbrev nBuf : Space → Nat
  | .hbm => 17
  | .vmem => 12
  | .smem => 0
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S16384x8x96, .f32⟩
  | .hbm, ⟨4, _⟩ => ⟨S16384x8x96, .f32⟩
  | .hbm, ⟨5, _⟩ => ⟨S16384x8x64, .f32⟩
  | .hbm, ⟨6, _⟩ => ⟨S8x96x16384, .f32⟩
  | .hbm, ⟨7, _⟩ => ⟨S8x96x16384, .bf16⟩
  | .hbm, ⟨8, _⟩ => ⟨S8x16384x96, .f32⟩
  | .hbm, ⟨9, _⟩ => ⟨S8x16384x96, .bf16⟩
  | .hbm, ⟨10, _⟩ => ⟨S8x64x16384, .f32⟩
  | .hbm, ⟨11, _⟩ => ⟨S8x64x16384, .bf16⟩
  | .hbm, ⟨12, _⟩ => ⟨S_, .bf16⟩
  | .hbm, ⟨13, _⟩ => ⟨S8x16x16384, .bf16⟩
  | .hbm, ⟨14, _⟩ => ⟨S8x80x16384, .bf16⟩
  | .hbm, ⟨15, _⟩ => ⟨S8x64x16384, .bf16⟩
  | .hbm, ⟨16, _⟩ => ⟨S8x1x16384, .f32⟩
  | .local _ .vmem, ⟨0, _⟩ => ⟨S1x96x2048, .bf16⟩
  | .local _ .vmem, ⟨1, _⟩ => ⟨S1x96x2048, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x80x2048, .bf16⟩
  | .local _ .vmem, ⟨5, _⟩ => ⟨S1x80x2048, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S80x2048, .f32⟩
  | _, _ => ⟨S1x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F] [Named F]

def κ : String → Option EReal := fun
  | "inv_ln2" => some (((Real.log 2)⁻¹ : ℝ) : EReal)
  | "scale_log2e" => some (((Real.sqrt 96)⁻¹ * (Real.log 2)⁻¹ : ℝ) : EReal)
  | _ => none

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v35 : BitVec 1 := Scalar.cmpi .eq arg2 c7_i32
  let v36 : BitVec 32 := Scalar.extui v35
  let c0_i32_21 : BitVec 32 := 0#32
  let v37 : BitVec 1 := Scalar.cmpi .ne v36 c0_i32_21
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x96x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x80x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlaFwdRefIdeal.lean ====
abbrev S1x16384x8x96 : Shape := ⟨4, ![1, 16384, 8, 96]⟩
abbrev S1x16384x8x64 : Shape := ⟨4, ![1, 16384, 8, 64]⟩
abbrev S1x8x16384x16384 : Shape := ⟨4, ![1, 8, 16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S16384x8x64 : Shape := ⟨3, ![16384, 8, 64]⟩
abbrev S8x64x16384 : Shape := ⟨3, ![8, 64, 16384]⟩
abbrev S8x1x16384 : Shape := ⟨3, ![8, 1, 16384]⟩

abbrev nBuf : Space → Nat
  | .hbm => 41
  | .vmem => 0
  | .smem => 0
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S1x8x16384x16384, .f32⟩
  | .hbm, ⟨4, _⟩ => ⟨S_, .f32⟩
  | .hbm, ⟨5, _⟩ => ⟨S_, .f32⟩
  | .hbm, ⟨6, _⟩ => ⟨S1x8x16384x16384, .f32⟩
  | .hbm, ⟨7, _⟩ => ⟨S1x8x16384x16384, .f32⟩
  | .hbm, ⟨8, _⟩ => ⟨S1x8x16384x16384, .f32⟩
  | .hbm, ⟨9, _⟩ => ⟨S_, .f32⟩
  | .hbm, ⟨10, _⟩ => ⟨S1x8x16384, .f32⟩
  | .hbm, ⟨11, _⟩ => ⟨S1x8x16384, .f32⟩
  | .hbm, ⟨12, _⟩ => ⟨S_, .f32⟩
  | .hbm, ⟨13, _⟩ => ⟨S_, .f32⟩
  | .hbm, ⟨14, _⟩ => ⟨S1x8x16384, .f32⟩
  | .hbm, ⟨15, _⟩ => ⟨S1x8x16384, .f32⟩
  | .hbm, ⟨16, _⟩ => ⟨S1x8x16384x16384, .f32⟩
  | .hbm, ⟨17, _⟩ => ⟨S_, .f32⟩
  | .hbm, ⟨18, _⟩ => ⟨S_, .f32⟩
  | .hbm, ⟨19, _⟩ => ⟨S1x8x16384x16384, .f32⟩
  | .hbm, ⟨20, _⟩ => ⟨S1x8x16384x16384, .f32⟩
  | .hbm, ⟨21, _⟩ => ⟨S_, .f32⟩
  | .hbm, ⟨22, _⟩ => ⟨S1x8x16384, .f32⟩
  | .hbm, ⟨23, _⟩ => ⟨S_, .f32⟩
  | .hbm, ⟨24, _⟩ => ⟨S1x8x16384, .f32⟩
  | .hbm, ⟨25, _⟩ => ⟨S1x8x16384, .f32⟩
  | .hbm, ⟨26, _⟩ => ⟨S1x8x16384x1, .f32⟩
  | .hbm, ⟨27, _⟩ => ⟨S1x8x16384x16384, .f32⟩
  | .hbm, ⟨28, _⟩ => ⟨S1x8x16384x16384, .f32⟩
  | .hbm, ⟨29, _⟩ => ⟨S1x8x16384x16384, .f32⟩
  | .hbm, ⟨30, _⟩ => ⟨S_, .f32⟩
  | .hbm, ⟨31, _⟩ => ⟨S1x8x16384, .f32⟩
  | .hbm, ⟨32, _⟩ => ⟨S1x8x16384x1, .f32⟩
  | .hbm, ⟨33, _⟩ => ⟨S1x8x16384x16384, .f32⟩
  | .hbm, ⟨34, _⟩ => ⟨S1x8x16384x16384, .f32⟩
  | .hbm, ⟨35, _⟩ => ⟨S1x8x64x16384, .f32⟩
  | .hbm, ⟨36, _⟩ => ⟨S1x16384x8x64, .f32⟩
  | .hbm, ⟨37, _⟩ => ⟨S16384x8x64, .f32⟩
  | .hbm, ⟨38, _⟩ => ⟨S8x64x16384, .f32⟩
  | .hbm, ⟨39, _⟩ => ⟨S8x64x16384, .bf16⟩
  | .hbm, ⟨40, _⟩ => ⟨S8x1x16384, .f32⟩
  | _, _ => ⟨S1x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== MlaBwd.lean ====
abbrev S1x16384x8x96 : Shape := ⟨4, ![1, 16384, 8, 96]⟩
abbrev S1x16384x8x64 : Shape := ⟨4, ![1, 16384, 8, 64]⟩
abbrev S1x16384x512 : Shape := ⟨3, ![1, 16384, 512]⟩
abbrev S16384x8x96 : Shape := ⟨3, ![16384, 8, 96]⟩
abbrev S16384x8x64 : Shape := ⟨3, ![16384, 8, 64]⟩
abbrev S8x96x16384 : Shape := ⟨3, ![8, 96, 16384]⟩
abbrev S8x16384x96 : Shape := ⟨3, ![8, 16384, 96]⟩
abbrev S8x16384x64 : Shape := ⟨3, ![8, 16384, 64]⟩
abbrev S8x64x16384 : Shape := ⟨3, ![8, 64, 16384]⟩
abbrev S_ : Shape := ⟨0, ![]⟩
abbrev S8x16x16384 : Shape := ⟨3, ![8, 16, 16384]⟩
abbrev S8x80x16384 : Shape := ⟨3, ![8, 80, 16384]⟩
abbrev S1x8x16384x16384 : Shape := ⟨4, ![1, 8, 16384, 16384]⟩
abbrev S1x8x16384 : Shape := ⟨3, ![1, 8, 16384]⟩
abbrev S8x1x16384 : Shape := ⟨3, ![8, 1, 16384]⟩
abbrev S16384x512 : Shape := ⟨2, ![16384, 512]⟩
abbrev S512x16384 : Shape := ⟨2, ![512, 16384]⟩
abbrev S1x8x16384x1 : Shape := ⟨4, ![1, 8, 16384, 1]⟩
abbrev S1x8x64x16384 : Shape := ⟨4, ![1, 8, 64, 16384]⟩
abbrev S1x16384x8 : Shape := ⟨3, ![1, 16384, 8]⟩
abbrev S8x16x96x1024 : Shape := ⟨4, ![8, 16, 96, 1024]⟩
abbrev S8x16x64x1024 : Shape := ⟨4, ![8, 16, 64, 1024]⟩
abbrev S1x96x2048 : Shape := ⟨3, ![1, 96, 2048]⟩
abbrev S1x1024x96 : Shape := ⟨3, ![1, 1024, 96]⟩
abbrev S1x96x1024 : Shape := ⟨3, ![1, 96, 1024]⟩
abbrev S1x1024x64 : Shape := ⟨3, ![1, 1024, 64]⟩
abbrev S1x64x2048 : Shape := ⟨3, ![1, 64, 2048]⟩
abbrev S1x1x2048 : Shape := ⟨3, ![1, 1, 2048]⟩
abbrev S96x2048 : Shape := ⟨2, ![96, 2048]⟩
abbrev S16x96x1024 : Shape := ⟨3, ![16, 96, 1024]⟩
abbrev S16x64x1024 : Shape := ⟨3, ![16, 64, 1024]⟩
abbrev S96x1024 : Shape := ⟨2, ![96, 1024]⟩
abbrev S64x1024 : Shape := ⟨2, ![64, 1024]⟩
abbrev S1x64x1024 : Shape := ⟨3, ![1, 64, 1024]⟩
abbrev S64x2048 : Shape := ⟨2, ![64, 2048]⟩
abbrev S1024x96 : Shape := ⟨2, ![1024, 96]⟩
abbrev S1024x2048 : Shape := ⟨2, ![1024, 2048]⟩
abbrev S1x2048 : Shape := ⟨2, ![1, 2048]⟩
abbrev S1024x64 : Shape := ⟨2, ![1024, 64]⟩
abbrev S1x1x96x1024 : Shape := ⟨4, ![1, 1, 96, 1024]⟩
abbrev S1x1x64x1024 : Shape := ⟨4, ![1, 1, 64, 1024]⟩

abbrev nBuf : Space → Nat
  | .hbm => 67
  | .vmem => 19
  | .smem => 0
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S1x16384x512, .f32⟩
  | .hbm, ⟨4, _⟩ => ⟨S16384x8x96, .f32⟩
  | .hbm, ⟨5, _⟩ => ⟨S16384x8x96, .f32⟩
  | .hbm, ⟨6, _⟩ => ⟨S16384x8x64, .f32⟩
  | .hbm, ⟨7, _⟩ => ⟨S8x96x16384, .f32⟩
  | .hbm, ⟨8, _⟩ => ⟨S8x96x16384, .bf16⟩
  | .hbm, ⟨9, _⟩ => ⟨S8x16384x96, .f32⟩
  | .hbm, ⟨10, _⟩ => ⟨S8x16384x96, .bf16⟩
  | .hbm, ⟨11, _⟩ => ⟨S8x96x16384, .f32⟩
  | .hbm, ⟨12, _⟩ => ⟨S8x96x16384, .bf16⟩
  | .hbm, ⟨13, _⟩ => ⟨S8x16384x64, .f32⟩
  | .hbm, ⟨14, _⟩ => ⟨S8x16384x64, .bf16⟩
  | .hbm, ⟨15, _⟩ => ⟨S8x64x16384, .f32⟩
  | .hbm, ⟨16, _⟩ => ⟨S8x64x16384, .bf16⟩
  | .hbm, ⟨17, _⟩ => ⟨S_, .bf16⟩
  | .hbm, ⟨18, _⟩ => ⟨S8x16x16384, .bf16⟩
  | .hbm, ⟨19, _⟩ => ⟨S8x80x16384, .bf16⟩
  | .hbm, ⟨20, _⟩ => ⟨S1x8x16384x16384, .f32⟩
  | .hbm, ⟨21, _⟩ => ⟨S_, .f32⟩
  | .hbm, ⟨22, _⟩ => ⟨S_, .f32⟩
  | .hbm, ⟨23, _⟩ => ⟨S1x8x16384x16384, .f32⟩
  | .hbm, ⟨24, _⟩ => ⟨S1x8x16384x16384, .f32⟩
  | .hbm, ⟨25, _⟩ => ⟨S1x8x16384x16384, .f32⟩
  | .hbm, ⟨26, _⟩ => ⟨S_, .f32⟩
  | .hbm, ⟨27, _⟩ => ⟨S1x8x16384, .f32⟩
  | .hbm, ⟨28, _⟩ => ⟨S1x8x16384, .f32⟩
  | .hbm, ⟨29, _⟩ => ⟨S_, .f32⟩
  | .hbm, ⟨30, _⟩ => ⟨S_, .f32⟩
  | .hbm, ⟨31, _⟩ => ⟨S1x8x16384, .f32⟩
  | .hbm, ⟨32, _⟩ => ⟨S1x8x16384, .f32⟩
  | .hbm, ⟨33, _⟩ => ⟨S8x1x16384, .f32⟩
  | .hbm, ⟨34, _⟩ => ⟨S16384x512, .f32⟩
  | .hbm, ⟨35, _⟩ => ⟨S512x16384, .f32⟩
  | .hbm, ⟨36, _⟩ => ⟨S512x16384, .bf16⟩
  | .hbm, ⟨37, _⟩ => ⟨S8x64x16384, .bf16⟩
  | .hbm, ⟨38, _⟩ => ⟨S1x8x16384x16384, .f32⟩
  | .hbm, ⟨39, _⟩ => ⟨S_, .f32⟩
  | .hbm, ⟨40, _⟩ => ⟨S_, .f32⟩
  | .hbm, ⟨41, _⟩ => ⟨S1x8x16384x16384, .f32⟩
  | .hbm, ⟨42, _⟩ => ⟨S1x8x16384x16384, .f32⟩
  | .hbm, ⟨43, _⟩ => ⟨S_, .f32⟩
  | .hbm, ⟨44, _⟩ => ⟨S1x8x16384, .f32⟩
  | .hbm, ⟨45, _⟩ => ⟨S_, .f32⟩
  | .hbm, ⟨46, _⟩ => ⟨S1x8x16384, .f32⟩
  | .hbm, ⟨47, _⟩ => ⟨S1x8x16384, .f32⟩
  | .hbm, ⟨48, _⟩ => ⟨S1x8x16384x1, .f32⟩
  | .hbm, ⟨49, _⟩ => ⟨S1x8x16384x16384, .f32⟩
  | .hbm, ⟨50, _⟩ => ⟨S1x8x16384x16384, .f32⟩
  | .hbm, ⟨51, _⟩ => ⟨S1x8x16384x16384, .f32⟩
  | .hbm, ⟨52, _⟩ => ⟨S_, .f32⟩
  | .hbm, ⟨53, _⟩ => ⟨S1x8x16384, .f32⟩
  | .hbm, ⟨54, _⟩ => ⟨S1x8x16384x1, .f32⟩
  | .hbm, ⟨55, _⟩ => ⟨S1x8x16384x16384, .f32⟩
  | .hbm, ⟨56, _⟩ => ⟨S1x8x16384x16384, .f32⟩
  | .hbm, ⟨57, _⟩ => ⟨S1x8x64x16384, .f32⟩
  | .hbm, ⟨58, _⟩ => ⟨S1x16384x8x64, .f32⟩
  | .hbm, ⟨59, _⟩ => ⟨S1x16384x8x64, .f32⟩
  | .hbm, ⟨60, _⟩ => ⟨S1x16384x8x64, .f32⟩
  | .hbm, ⟨61, _⟩ => ⟨S_, .f32⟩
  | .hbm, ⟨62, _⟩ => ⟨S1x16384x8, .f32⟩
  | .hbm, ⟨63, _⟩ => ⟨S8x1x16384, .f32⟩
  | .hbm, ⟨64, _⟩ => ⟨S8x96x16384, .f32⟩
  | .hbm, ⟨65, _⟩ => ⟨S8x16x96x1024, .f32⟩
  | .hbm, ⟨66, _⟩ => ⟨S8x16x64x1024, .f32⟩
  | .local _ .vmem, ⟨0, _⟩ => ⟨S1x96x2048, .bf16⟩
  | .local _ .vmem, ⟨1, _⟩ => ⟨S1x96x2048, .bf16⟩
  | .local _ .vmem, ⟨2, _⟩ => ⟨S1x1024x96, .bf16⟩
  | .local _ .vmem, ⟨3, _⟩ => ⟨S1x1024x96, .bf16⟩
  | .local _ .vmem, ⟨4, _⟩ => ⟨S1x96x1024, .bf16⟩
  | .local _ .vmem, ⟨5, _⟩ => ⟨S1x96x1024, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x64x2048, .bf16⟩
  | .local _ .vmem, ⟨9, _⟩ => ⟨S1x64x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x96x2048, .f32⟩
  | .local _ .vmem, ⟨15, _⟩ => ⟨S1x96x2048, .f32⟩
  | .local _ .vmem, ⟨16, _⟩ => ⟨S96x2048, .f32⟩
  | .local _ .vmem, ⟨17, _⟩ => ⟨S16x96x1024, .f32⟩
  | .local _ .vmem, ⟨18, _⟩ => ⟨S16x64x1024, .f32⟩
  | _, _ => ⟨S1x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 8, 16], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v63 : Index := Scalar.indexCast arg2
  let c0_43 : Index := 0#32
  let c0_44 : Index := 0#32
  ![v63.toNat, 0, 0]
def k0_off2 (i : grid0.Coords) : Fin 3 → Nat :=
  let arg2 : BitVec 32 := BitVec.ofNat 32 (i 2).val
  let v68 : Index := Scalar.indexCast arg2
  let c0_46 : Index := 0#32
  let c0_47 : Index := 0#32
  ![v68.toNat, 0, 0]
def k0_off3 (i : grid0.Coords) : Fin 3 → Nat :=
  let arg2 : BitVec 32 := BitVec.ofNat 32 (i 2).val
  let v29 : Index := Scalar.indexCast arg2
  let c0_22 : Index := 0#32
  let c0_23 : Index := 0#32
  ![v29.toNat, 0, 0]
def k0_off4 (i : grid0.Coords) : Fin 3 → Nat :=
  let arg2 : BitVec 32 := BitVec.ofNat 32 (i 2).val
  let v39 : Index := Scalar.indexCast arg2
  let c0_27 : Index := 0#32
  let c0_28 : Index := 0#32
  ![v39.toNat, 0, 0]
def k0_cond4 (i : grid0.Coords) : BitVec 1 :=
  let arg1 : BitVec 32 := BitVec.ofNat 32 (i 1).val
  let c7_i32 : BitVec 32 := 7#32
  let v59 : BitVec 1 := Scalar.cmpi .eq arg1 c7_i32
  let v60 : BitVec 32 := Scalar.extui v59
  let c0_i32_41 : BitVec 32 := 0#32
  let v61 : BitVec 1 := Scalar.cmpi .ne v60 c0_i32_41
  v61

def k0_off5 (i : grid0.Coords) : Fin 3 → Nat :=
  let arg2 : BitVec 32 := BitVec.ofNat 32 (i 2).val
  let v62 : Index := Scalar.indexCast arg2
  let c0_42 : Index := 0#32
  let c0_43 : Index := 0#32
  ![v62.toNat, 0, 0]
def k0_off6 (i : grid0.Coords) : Fin 4 → Nat :=
  let arg0 : BitVec 32 := BitVec.ofNat 32 (i 0).val
  let arg2 : BitVec 32 := BitVec.ofNat 32 (i 2).val
  let c0_i32_47_r0 : BitVec 32 := 0#32
  let c0_i32_48_r0 : BitVec 32 := 0#32
  ![arg0.toNat, arg2.toNat, 0, 0]
def k0_off7 (i : grid0.Coords) : Fin 3 → Nat :=
  let arg2 : BitVec 32 := BitVec.ofNat 32 (i 2).val
  let c0_i32_49_r0 : BitVec 32 := 0#32
  let c0_i32_50_r0 : BitVec 32 := 0#32
  ![arg2.toNat, 0, 0]
def k0_off8 (i : grid0.Coords) : Fin 4 → Nat :=
  let arg0 : BitVec 32 := BitVec.ofNat 32 (i 0).val
  let arg2 : BitVec 32 := BitVec.ofNat 32 (i 2).val
  let c0_i32_47_r1 : BitVec 32 := 0#32
  let c0_i32_48_r1 : BitVec 32 := 0#32
  ![arg0.toNat, arg2.toNat, 0, 0]
def k0_off9 (i : grid0.Coords) : Fin 3 → Nat :=
  let arg2 : BitVec 32 := BitVec.ofNat 32 (i 2).val
  let c0_i32_49_r1 : BitVec 32 := 0#32
  let c0_i32_50_r1 : BitVec 32 := 0#32
  ![arg2.toNat, 0, 0]
def k0_cond3 (i : grid0.Coords) : BitVec 1 :=
  let arg2 : BitVec 32 := BitVec.ofNat 32 (i 2).val
  let c15_i32 : BitVec 32 := 15#32
  let v56 : BitVec 1 := Scalar.cmpi .eq arg2 c15_i32
  let v57 : BitVec 32 := Scalar.extui v56
  let c0_i32_40 : BitVec 32 := 0#32
  let v58 : BitVec 1 := Scalar.cmpi .ne v57 c0_i32_40
  v58

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x96x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x96x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x96x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MlaBwdIdeal.lean ====
variable {F : FTy → Type} [FloatOps F] [Named F]
def κ : String → Option EReal := fun
  | "scale" => some (((Real.sqrt 96)⁻¹ : ℝ) : EReal)
  | "scale_log2e" => some (((Real.sqrt 96)⁻¹ * (Real.log 2)⁻¹ : ℝ) : EReal)
  | _ => none
-- ==== MlaBwdRefIdeal.lean ====
abbrev S1x16384x8x96 : Shape := ⟨4, ![1, 16384, 8, 96]⟩
abbrev S1x16384x8x64 : Shape := ⟨4, ![1, 16384, 8, 64]⟩
abbrev S1x16384x512 : Shape := ⟨3, ![1, 16384, 512]⟩
abbrev S1x8x16384x16384 : Shape := ⟨4, ![1, 8, 16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S8x16384 : Shape := ⟨2, ![8, 16384]⟩
abbrev S1x8x16384x96 : Shape := ⟨4, ![1, 8, 16384, 96]⟩
abbrev S16384x8x96 : Shape := ⟨3, ![16384, 8, 96]⟩
abbrev S8x96x16384 : Shape := ⟨3, ![8, 96, 16384]⟩
abbrev S16x1024x8x96 : Shape := ⟨4, ![16, 1024, 8, 96]⟩
abbrev S8x16x96x1024 : Shape := ⟨4, ![8, 16, 96, 1024]⟩
abbrev S16x1024x8x64 : Shape := ⟨4, ![16, 1024, 8, 64]⟩
abbrev S8x16x64x1024 : Shape := ⟨4, ![8, 16, 64, 1024]⟩

abbrev nBuf : Space → Nat
  | .hbm => 82
  | .vmem => 0
  | .smem => 0
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S1x16384x512, .f32⟩
  | .hbm, ⟨4, _⟩ => ⟨S1x8x16384x16384, .f32⟩
  | .hbm, ⟨5, _⟩ => ⟨S_, .f32⟩
  | .hbm, ⟨6, _⟩ => ⟨S_, .f32⟩
  | .hbm, ⟨7, _⟩ => ⟨S1x8x16384x16384, .f32⟩
  | .hbm, ⟨8, _⟩ => ⟨S1x8x16384x16384, .f32⟩
  | .hbm, ⟨9, _⟩ => ⟨S_, .f32⟩
  | .hbm, ⟨10, _⟩ => ⟨S1x8x16384, .f32⟩
  | .hbm, ⟨11, _⟩ => ⟨S1x8x16384x1, .f32⟩
  | .hbm, ⟨12, _⟩ => ⟨S1x8x16384x16384, .f32⟩
  | .hbm, ⟨13, _⟩ => ⟨S1x8x16384x16384, .i1⟩
  | .hbm, ⟨14, _⟩ => ⟨S1x8x16384x16384, .f32⟩
  | .hbm, ⟨15, _⟩ => ⟨S_, .f32⟩
  | .hbm, ⟨16, _⟩ => ⟨S1x8x16384, .f32⟩
  | .hbm, ⟨17, _⟩ => ⟨S_, .f32⟩
  | .hbm, ⟨18, _⟩ => ⟨S1x8x16384, .f32⟩
  | .hbm, ⟨19, _⟩ => ⟨S1x8x16384, .f32⟩
  | .hbm, ⟨20, _⟩ => ⟨S_, .f32⟩
  | .hbm, ⟨21, _⟩ => ⟨S1x8x16384, .f32⟩
  | .hbm, ⟨22, _⟩ => ⟨S1x8x16384, .i1⟩
  | .hbm, ⟨23, _⟩ => ⟨S_, .f32⟩
  | .hbm, ⟨24, _⟩ => ⟨S1x8x16384, .f32⟩
  | .hbm, ⟨25, _⟩ => ⟨S1x8x16384, .i1⟩
  | .hbm, ⟨26, _⟩ => ⟨S_, .f32⟩
  | .hbm, ⟨27, _⟩ => ⟨S1x8x16384, .f32⟩
  | .hbm, ⟨28, _⟩ => ⟨S_, .f32⟩
  | .hbm, ⟨29, _⟩ => ⟨S1x8x16384, .f32⟩
  | .hbm, ⟨30, _⟩ => ⟨S_, .f32⟩
  | .hbm, ⟨31, _⟩ => ⟨S1x8x16384, .f32⟩
  | .hbm, ⟨32, _⟩ => ⟨S1x8x16384, .f32⟩
  | .hbm, ⟨33, _⟩ => ⟨S1x8x16384, .f32⟩
  | .hbm, ⟨34, _⟩ => ⟨S1x8x16384x1, .f32⟩
  | .hbm, ⟨35, _⟩ => ⟨S1x8x16384x16384, .f32⟩
  | .hbm, ⟨36, _⟩ => ⟨S1x8x16384x16384, .f32⟩
  | .hbm, ⟨37, _⟩ => ⟨S1x8x16384x16384, .f32⟩
  | .hbm, ⟨38, _⟩ => ⟨S_, .f32⟩
  | .hbm, ⟨39, _⟩ => ⟨S1x8x16384, .f32⟩
  | .hbm, ⟨40, _⟩ => ⟨S1x8x16384x1, .f32⟩
  | .hbm, ⟨41, _⟩ => ⟨S1x8x16384x16384, .f32⟩
  | .hbm, ⟨42, _⟩ => ⟨S1x8x16384x16384, .f32⟩
  | .hbm, ⟨43, _⟩ => ⟨S1x8x16384x1, .f32⟩
  | .hbm, ⟨44, _⟩ => ⟨S_, .f32⟩
  | .hbm, ⟨45, _⟩ => ⟨S1x8x16384x1, .f32⟩
  | .hbm, ⟨46, _⟩ => ⟨S1x8x16384x1, .f32⟩
  | .hbm, ⟨47, _⟩ => ⟨S1x8x64x16384, .f32⟩
  | .hbm, ⟨48, _⟩ => ⟨S1x16384x8x64, .f32⟩
  | .hbm, ⟨49, _⟩ => ⟨S1x16384x512, .f32⟩
  | .hbm, ⟨50, _⟩ => ⟨S1x16384x8x64, .f32⟩
  | .hbm, ⟨51, _⟩ => ⟨S1x8x64x16384, .f32⟩
  | .hbm, ⟨52, _⟩ => ⟨S1x8x16384x16384, .f32⟩
  | .hbm, ⟨53, _⟩ => ⟨S1x8x64x16384, .f32⟩
  | .hbm, ⟨54, _⟩ => ⟨S1x16384x8x64, .f32⟩
  | .hbm, ⟨55, _⟩ => ⟨S1x8x16384x16384, .f32⟩
  | .hbm, ⟨56, _⟩ => ⟨S1x8x16384x16384, .f32⟩
  | .hbm, ⟨57, _⟩ => ⟨S1x8x16384x16384, .f32⟩
  | .hbm, ⟨58, _⟩ => ⟨S_, .f32⟩
  | .hbm, ⟨59, _⟩ => ⟨S1x8x16384, .f32⟩
  | .hbm, ⟨60, _⟩ => ⟨S1x8x16384x1, .f32⟩
  | .hbm, ⟨61, _⟩ => ⟨S1x8x16384x1, .f32⟩
  | .hbm, ⟨62, _⟩ => ⟨S1x8x16384x16384, .f32⟩
  | .hbm, ⟨63, _⟩ => ⟨S1x8x16384x16384, .f32⟩
  | .hbm, ⟨64, _⟩ => ⟨S_, .f32⟩
  | .hbm, ⟨65, _⟩ => ⟨S8x16384, .f32⟩
  | .hbm, ⟨66, _⟩ => ⟨S1x8x16384, .f32⟩
  | .hbm, ⟨67, _⟩ => ⟨S1x8x16384x16384, .f32⟩
  | .hbm, ⟨68, _⟩ => ⟨S1x8x16384x16384, .f32⟩
  | .hbm, ⟨69, _⟩ => ⟨S1x8x16384x16384, .f32⟩
  | .hbm, ⟨70, _⟩ => ⟨S1x8x16384x16384, .f32⟩
  | .hbm, ⟨71, _⟩ => ⟨S1x8x16384x16384, .f32⟩
  | .hbm, ⟨72, _⟩ => ⟨S1x8x16384x96, .f32⟩
  | .hbm, ⟨73, _⟩ => ⟨S1x16384x8x96, .f32⟩
  | .hbm, ⟨74, _⟩ => ⟨S1x8x16384x96, .f32⟩
  | .hbm, ⟨75, _⟩ => ⟨S1x16384x8x96, .f32⟩
  | .hbm, ⟨76, _⟩ => ⟨S16384x8x96, .f32⟩
  | .hbm, ⟨77, _⟩ => ⟨S8x96x16384, .f32⟩
  | .hbm, ⟨78, _⟩ => ⟨S16x1024x8x96, .f32⟩
  | .hbm, ⟨79, _⟩ => ⟨S8x16x96x1024, .f32⟩
  | .hbm, ⟨80, _⟩ => ⟨S16x1024x8x64, .f32⟩
  | .hbm, ⟨81, _⟩ => ⟨S8x16x64x1024, .f32⟩
  | _, _ => ⟨S1x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Merge.lean ====
abbrev S1x16384x512 : Shape := ⟨3, ![1, 16384, 512]⟩
abbrev S1x16384x1024 : Shape := ⟨3, ![1, 16384, 1024]⟩
abbrev S512x1024 : Shape := ⟨2, ![512, 1024]⟩
abbrev S1024x1024 : Shape := ⟨2, ![1024, 1024]⟩
abbrev S16384x512 : Shape := ⟨2, ![16384, 512]⟩
abbrev S512x16384 : Shape := ⟨2, ![512, 16384]⟩
abbrev S16384x1024 : Shape := ⟨2, ![16384, 1024]⟩
abbrev S512x512 : Shape := ⟨2, ![512, 512]⟩

abbrev nBuf : Space → Nat
  | .hbm => 33
  | .vmem => 30
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x1024, .f32⟩
  | .hbm, ⟨4, _⟩ => ⟨S1x16384x1024, .f32⟩
  | .hbm, ⟨5, _⟩ => ⟨S1x16384x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x16384x1024, .f32⟩
  | .hbm, ⟨11, _⟩ => ⟨S16384x512, .f32⟩
  | .hbm, ⟨12, _⟩ => ⟨S512x16384, .f32⟩
  | .hbm, ⟨13, _⟩ => ⟨S16384x512, .f32⟩
  | .hbm, ⟨14, _⟩ => ⟨S16384x512, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S512x16384, .bf16⟩
  | .hbm, ⟨19, _⟩ => ⟨S16384x512, .bf16⟩
  | .hbm, ⟨20, _⟩ => ⟨S16384x512, .bf16⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S16384x1024, .f32⟩
  | .hbm, ⟨26, _⟩ => ⟨S16384x1024, .bf16⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .bf16⟩
  | .hbm, ⟨31, _⟩ => ⟨S16384x1024, .bf16⟩
  | .hbm, ⟨32, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeIdeal.lean ====
abbrev S1x16384x512 : Shape := ⟨3, ![1, 16384, 512]⟩
abbrev S1x16384x1024 : Shape := ⟨3, ![1, 16384, 1024]⟩
abbrev S512x1024 : Shape := ⟨2, ![512, 1024]⟩
abbrev S1024x1024 : Shape := ⟨2, ![1024, 1024]⟩
abbrev S16384x512 : Shape := ⟨2, ![16384, 512]⟩
abbrev S512x16384 : Shape := ⟨2, ![512, 16384]⟩
abbrev S16384x1024 : Shape := ⟨2, ![16384, 1024]⟩
abbrev S512x512 : Shape := ⟨2, ![512, 512]⟩

abbrev nBuf : Space → Nat
  | .hbm => 33
  | .vmem => 30
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x1024, .f32⟩
  | .hbm, ⟨4, _⟩ => ⟨S1x16384x1024, .f32⟩
  | .hbm, ⟨5, _⟩ => ⟨S1x16384x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x16384x1024, .f32⟩
  | .hbm, ⟨11, _⟩ => ⟨S16384x512, .f32⟩
  | .hbm, ⟨12, _⟩ => ⟨S512x16384, .f32⟩
  | .hbm, ⟨13, _⟩ => ⟨S16384x512, .f32⟩
  | .hbm, ⟨14, _⟩ => ⟨S16384x512, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S512x16384, .bf16⟩
  | .hbm, ⟨19, _⟩ => ⟨S16384x512, .bf16⟩
  | .hbm, ⟨20, _⟩ => ⟨S16384x512, .bf16⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S16384x1024, .f32⟩
  | .hbm, ⟨26, _⟩ => ⟨S16384x1024, .bf16⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .bf16⟩
  | .hbm, ⟨31, _⟩ => ⟨S16384x1024, .bf16⟩
  | .hbm, ⟨32, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S1x16384x512 : Shape := ⟨3, ![1, 16384, 512]⟩
abbrev S1x16384x1024 : Shape := ⟨3, ![1, 16384, 1024]⟩
abbrev S512x1024 : Shape := ⟨2, ![512, 1024]⟩
abbrev S1024x1024 : Shape := ⟨2, ![1024, 1024]⟩
abbrev S_ : Shape := ⟨0, ![]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x1024, .f32⟩
  | .hbm, ⟨4, _⟩ => ⟨S1x16384x1024, .f32⟩
  | .hbm, ⟨5, _⟩ => ⟨S1x16384x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x16384x1024, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S1x16384x1024, .f32⟩
  | .hbm, ⟨15, _⟩ => ⟨S1x16384x1024, .f32⟩
  | .hbm, ⟨16, _⟩ => ⟨S_, .f32⟩
  | .hbm, ⟨17, _⟩ => ⟨S1x16384x1024, .f32⟩
  | .hbm, ⟨18, _⟩ => ⟨S1x16384x1024, .f32⟩
  | .hbm, ⟨19, _⟩ => ⟨S_, .f32⟩
  | .hbm, ⟨20, _⟩ => ⟨S1x16384x1024, .f32⟩
  | .hbm, ⟨21, _⟩ => ⟨S1x16384x1024, .f32⟩
  | .hbm, ⟨22, _⟩ => ⟨S_, .f32⟩
  | .hbm, ⟨23, _⟩ => ⟨S1x16384x1024, .f32⟩
  | .hbm, ⟨24, _⟩ => ⟨S1x16384x1024, .f32⟩
  | .hbm, ⟨25, _⟩ => ⟨S1x16384x1024, .f32⟩
  | .hbm, ⟨26, _⟩ => ⟨S1x16384x1024, .f32⟩
  | .hbm, ⟨27, _⟩ => ⟨S1x16384x1024, .f32⟩
  | .hbm, ⟨28, _⟩ => ⟨S1x16384x1024, .f32⟩
  | .hbm, ⟨29, _⟩ => ⟨S_, .f32⟩
  | .hbm, ⟨30, _⟩ => ⟨S1x16384x1024, .f32⟩
  | .hbm, ⟨31, _⟩ => ⟨S1x16384x1024, .f32⟩
  | .hbm, ⟨32, _⟩ => ⟨S_, .f32⟩
  | .hbm, ⟨33, _⟩ => ⟨S1x16384x1024, .f32⟩
  | .hbm, ⟨34, _⟩ => ⟨S1x16384x1024, .f32⟩
  | .hbm, ⟨35, _⟩ => ⟨S_, .f32⟩
  | .hbm, ⟨36, _⟩ => ⟨S1x16384x1024, .f32⟩
  | .hbm, ⟨37, _⟩ => ⟨S1x16384x1024, .f32⟩
  | .hbm, ⟨38, _⟩ => ⟨S1x16384x1024, .f32⟩
  | .hbm, ⟨39, _⟩ => ⟨S1x16384x1024, .f32⟩
  | .hbm, ⟨40, _⟩ => ⟨S1x16384x1024, .f32⟩
  | .hbm, ⟨41, _⟩ => ⟨S1x16384x1024, .f32⟩
  | .hbm, ⟨42, _⟩ => ⟨S1x16384x1024, .f32⟩
  | .hbm, ⟨43, _⟩ => ⟨S_, .f32⟩
  | .hbm, ⟨44, _⟩ => ⟨S1x16384x1024, .f32⟩
  | .hbm, ⟨45, _⟩ => ⟨S1x16384x1024, .f32⟩
  | .hbm, ⟨46, _⟩ => ⟨S_, .f32⟩
  | .hbm, ⟨47, _⟩ => ⟨S1x16384x1024, .f32⟩
  | .hbm, ⟨48, _⟩ => ⟨S1x16384x1024, .f32⟩
  | .hbm, ⟨49, _⟩ => ⟨S_, .f32⟩
  | .hbm, ⟨50, _⟩ => ⟨S1x16384x1024, .f32⟩
  | .hbm, ⟨51, _⟩ => ⟨S1x16384x1024, .f32⟩
  | .hbm, ⟨52, _⟩ => ⟨S1x16384x1024, .f32⟩
  | .hbm, ⟨53, _⟩ => ⟨S1x16384x1024, .f32⟩
  | .hbm, ⟨54, _⟩ => ⟨S1x16384x1024, .f32⟩
  | .hbm, ⟨55, _⟩ => ⟨S1x16384x1024, .f32⟩
  | .hbm, ⟨56, _⟩ => ⟨S1x16384x1024, .f32⟩
  | .hbm, ⟨57, _⟩ => ⟨S1x16384x1024, .f32⟩
  | .hbm, ⟨58, _⟩ => ⟨S1x16384x1024, .f32⟩
  | .hbm, ⟨59, _⟩ => ⟨S1x16384x1024, .f32⟩
  | .hbm, ⟨60, _⟩ => ⟨S1x16384x1024, .f32⟩
  | .hbm, ⟨61, _⟩ => ⟨S1x16384x1024, .f32⟩
  | .hbm, ⟨62, _⟩ => ⟨S1x16384x1024, .f32⟩
  | .hbm, ⟨63, _⟩ => ⟨S1x16384x1024, .f32⟩
  | .hbm, ⟨64, _⟩ => ⟨S1x16384x1024, .f32⟩
  | .hbm, ⟨65, _⟩ => ⟨S1x16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .bf16⟩
  | .hbm, ⟨71, _⟩ => ⟨S16384x1024, .f32⟩
  | .hbm, ⟨72, _⟩ => ⟨S16384x1024, .bf16⟩
  | .hbm, ⟨73, _⟩ => ⟨S16384x1024, .f32⟩
  | .hbm, ⟨74, _⟩ => ⟨S16384x1024, .bf16⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Norm.lean ====
abbrev S1x16384x384 : Shape := ⟨3, ![1, 16384, 384]⟩
abbrev S384 : Shape := ⟨1, ![384]⟩
abbrev S16384x384 : Shape := ⟨2, ![16384, 384]⟩
abbrev S1x384 : Shape := ⟨2, ![1, 384]⟩
abbrev S1024x384 : Shape := ⟨2, ![1024, 384]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x16384x384, .f32⟩
  | .hbm, ⟨1, _⟩ => ⟨S384, .f32⟩
  | .hbm, ⟨2, _⟩ => ⟨S1x16384x384, .f32⟩
  | .hbm, ⟨3, _⟩ => ⟨S16384x384, .f32⟩
  | .hbm, ⟨4, _⟩ => ⟨S16384x384, .f32⟩
  | .hbm, ⟨5, _⟩ => ⟨S16384x384, .bf16⟩
  | .hbm, ⟨6, _⟩ => ⟨S1x384, .f32⟩
  | .hbm, ⟨7, _⟩ => ⟨S16384x384, .f32⟩
  | .hbm, ⟨8, _⟩ => ⟨S1x384, .f32⟩
  | .local _ .vmem, ⟨0, _⟩ => ⟨S1024x384, .f32⟩
  | .local _ .vmem, ⟨1, _⟩ => ⟨S1024x384, .f32⟩
  | .local _ .vmem, ⟨2, _⟩ => ⟨S1x384, .f32⟩
  | .local _ .vmem, ⟨3, _⟩ => ⟨S1024x384, .bf16⟩
  | .local _ .vmem, ⟨4, _⟩ => ⟨S1024x384, .bf16⟩
  | .local _ .vmem, ⟨5, _⟩ => ⟨S1024x384, .f32⟩
  | .local _ .vmem, ⟨6, _⟩ => ⟨S1024x384, .f32⟩
  | .local _ .vmem, ⟨7, _⟩ => ⟨S1x384, .f32⟩
  | _, _ => ⟨S1x16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormIdeal.lean ====
abbrev S1x16384x384 : Shape := ⟨3, ![1, 16384, 384]⟩
abbrev S384 : Shape := ⟨1, ![384]⟩
abbrev S16384x384 : Shape := ⟨2, ![16384, 384]⟩
abbrev S1x384 : Shape := ⟨2, ![1, 384]⟩
abbrev S1024x384 : Shape := ⟨2, ![1024, 384]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x16384x384, .f32⟩
  | .hbm, ⟨1, _⟩ => ⟨S384, .f32⟩
  | .hbm, ⟨2, _⟩ => ⟨S1x16384x384, .f32⟩
  | .hbm, ⟨3, _⟩ => ⟨S16384x384, .f32⟩
  | .hbm, ⟨4, _⟩ => ⟨S16384x384, .f32⟩
  | .hbm, ⟨5, _⟩ => ⟨S16384x384, .bf16⟩
  | .hbm, ⟨6, _⟩ => ⟨S1x384, .f32⟩
  | .hbm, ⟨7, _⟩ => ⟨S16384x384, .f32⟩
  | .hbm, ⟨8, _⟩ => ⟨S1x384, .f32⟩
  | .local _ .vmem, ⟨0, _⟩ => ⟨S1024x384, .f32⟩
  | .local _ .vmem, ⟨1, _⟩ => ⟨S1024x384, .f32⟩
  | .local _ .vmem, ⟨2, _⟩ => ⟨S1x384, .f32⟩
  | .local _ .vmem, ⟨3, _⟩ => ⟨S1024x384, .bf16⟩
  | .local _ .vmem, ⟨4, _⟩ => ⟨S1024x384, .bf16⟩
  | .local _ .vmem, ⟨5, _⟩ => ⟨S1024x384, .f32⟩
  | .local _ .vmem, ⟨6, _⟩ => ⟨S1024x384, .f32⟩
  | .local _ .vmem, ⟨7, _⟩ => ⟨S1x384, .f32⟩
  | _, _ => ⟨S1x16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormRefIdeal.lean ====
abbrev S1x16384x384 : Shape := ⟨3, ![1, 16384, 384]⟩
abbrev S384 : Shape := ⟨1, ![384]⟩
abbrev S_ : Shape := ⟨0, ![]⟩
abbrev S1x16384 : Shape := ⟨2, ![1, 16384]⟩
abbrev S1x16384x1 : Shape := ⟨3, ![1, 16384, 1]⟩
abbrev S1x1x384 : Shape := ⟨3, ![1, 1, 384]⟩
abbrev S1x384 : Shape := ⟨2, ![1, 384]⟩
abbrev S16384 : Shape := ⟨1, ![16384]⟩
abbrev S16384x384 : Shape := ⟨2, ![16384, 384]⟩

abbrev nBuf : Space → Nat
  | .hbm => 51
  | .vmem => 0
  | .smem => 0
  | _ => 0

abbrev bufTy : (tb : Table) → Fin (tcTables nBuf tb) → BufTy
  | .hbm, ⟨0, _⟩ => ⟨S1x16384x384, .f32⟩
  | .hbm, ⟨1, _⟩ => ⟨S384, .f32⟩
  | .hbm, ⟨2, _⟩ => ⟨S1x16384x384, .f32⟩
  | .hbm, ⟨3, _⟩ => ⟨S1x16384x384, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x384, .f32⟩
  | .hbm, ⟨19, _⟩ => ⟨S1x16384x384, .f32⟩
  | .hbm, ⟨20, _⟩ => ⟨S1x1x384, .f32⟩
  | .hbm, ⟨21, _⟩ => ⟨S1x16384x384, .f32⟩
  | .hbm, ⟨22, _⟩ => ⟨S1x16384x384, .f32⟩
  | .hbm, ⟨23, _⟩ => ⟨S1x16384x384, .f32⟩
  | .hbm, ⟨24, _⟩ => ⟨S_, .f32⟩
  | .hbm, ⟨25, _⟩ => ⟨S1x384, .f32⟩
  | .hbm, ⟨26, _⟩ => ⟨S1x1x384, .f32⟩
  | .hbm, ⟨27, _⟩ => ⟨S1x16384x384, .f32⟩
  | .hbm, ⟨28, _⟩ => ⟨S1x16384x384, .f32⟩
  | .hbm, ⟨29, _⟩ => ⟨S_, .f32⟩
  | .hbm, ⟨30, _⟩ => ⟨S384, .f32⟩
  | .hbm, ⟨31, _⟩ => ⟨S1x16384x384, .f32⟩
  | .hbm, ⟨32, _⟩ => ⟨S_, .f32⟩
  | .hbm, ⟨33, _⟩ => ⟨S1x16384, .f32⟩
  | .hbm, ⟨34, _⟩ => ⟨S1x16384x1, .f32⟩
  | .hbm, ⟨35, _⟩ => ⟨S1x16384x384, .f32⟩
  | .hbm, ⟨36, _⟩ => ⟨S1x16384x384, .f32⟩
  | .hbm, ⟨37, _⟩ => ⟨S1x16384x1, .f32⟩
  | .hbm, ⟨38, _⟩ => ⟨S_, .f32⟩
  | .hbm, ⟨39, _⟩ => ⟨S1x16384x1, .f32⟩
  | .hbm, ⟨40, _⟩ => ⟨S1x16384x1, .f32⟩
  | .hbm, ⟨41, _⟩ => ⟨S_, .f32⟩
  | .hbm, ⟨42, _⟩ => ⟨S16384, .f32⟩
  | .hbm, ⟨43, _⟩ => ⟨S1x16384, .f32⟩
  | .hbm, ⟨44, _⟩ => ⟨S1x16384x384, .f32⟩
  | .hbm, ⟨45, _⟩ => ⟨S1x16384x384, .f32⟩
  | .hbm, ⟨46, _⟩ => ⟨S1x16384x384, .f32⟩
  | .hbm, ⟨47, _⟩ => ⟨S1x16384x384, .f32⟩
  | .hbm, ⟨48, _⟩ => ⟨S1x16384x384, .f32⟩
  | .hbm, ⟨49, _⟩ => ⟨S16384x384, .f32⟩
  | .hbm, ⟨50, _⟩ => ⟨S1x384, .f32⟩
  | _, _ => ⟨S1x16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== GatedNorm.lean ====
abbrev S1x16384x8x64 : Shape := ⟨4, ![1, 16384, 8, 64]⟩
abbrev S1x16384x512 : Shape := ⟨3, ![1, 16384, 512]⟩
abbrev S64 : Shape := ⟨1, ![64]⟩
abbrev S16384x512 : Shape := ⟨2, ![16384, 512]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S256x512 : Shape := ⟨2, ![256, 512]⟩
abbrev S512x512 : Shape := ⟨2, ![512, 512]⟩
abbrev S512 : Shape := ⟨1, ![512]⟩

abbrev nBuf : Space → Nat
  | .hbm => 14
  | .vmem => 12
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x512, .f32⟩
  | .hbm, ⟨2, _⟩ => ⟨S64, .f32⟩
  | .hbm, ⟨3, _⟩ => ⟨S1x16384x512, .f32⟩
  | .hbm, ⟨4, _⟩ => ⟨S16384x512, .f32⟩
  | .hbm, ⟨5, _⟩ => ⟨S16384x512, .f32⟩
  | .hbm, ⟨6, _⟩ => ⟨S1x64, .f32⟩
  | .hbm, ⟨7, _⟩ => ⟨S1x1x1x64, .f32⟩
  | .hbm, ⟨8, _⟩ => ⟨S1x1x8x64, .f32⟩
  | .hbm, ⟨9, _⟩ => ⟨S1x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S1x512, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatedNormIdeal.lean ====
abbrev S1x16384x8x64 : Shape := ⟨4, ![1, 16384, 8, 64]⟩
abbrev S1x16384x512 : Shape := ⟨3, ![1, 16384, 512]⟩
abbrev S64 : Shape := ⟨1, ![64]⟩
abbrev S16384x512 : Shape := ⟨2, ![16384, 512]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S256x512 : Shape := ⟨2, ![256, 512]⟩
abbrev S512x512 : Shape := ⟨2, ![512, 512]⟩
abbrev S512 : Shape := ⟨1, ![512]⟩

abbrev nBuf : Space → Nat
  | .hbm => 14
  | .vmem => 12
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x512, .f32⟩
  | .hbm, ⟨2, _⟩ => ⟨S64, .f32⟩
  | .hbm, ⟨3, _⟩ => ⟨S1x16384x512, .f32⟩
  | .hbm, ⟨4, _⟩ => ⟨S16384x512, .f32⟩
  | .hbm, ⟨5, _⟩ => ⟨S16384x512, .f32⟩
  | .hbm, ⟨6, _⟩ => ⟨S1x64, .f32⟩
  | .hbm, ⟨7, _⟩ => ⟨S1x1x1x64, .f32⟩
  | .hbm, ⟨8, _⟩ => ⟨S1x1x8x64, .f32⟩
  | .hbm, ⟨9, _⟩ => ⟨S1x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S1x512, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatedNormRefIdeal.lean ====
abbrev S1x16384x8x64 : Shape := ⟨4, ![1, 16384, 8, 64]⟩
abbrev S1x16384x512 : Shape := ⟨3, ![1, 16384, 512]⟩
abbrev S64 : Shape := ⟨1, ![64]⟩
abbrev S8x64 : Shape := ⟨2, ![8, 64]⟩
abbrev S_ : Shape := ⟨0, ![]⟩
abbrev S1x16384x8 : Shape := ⟨3, ![1, 16384, 8]⟩
abbrev S1x16384x8x1 : Shape := ⟨4, ![1, 16384, 8, 1]⟩
abbrev S1x1x8x64 : Shape := ⟨4, ![1, 1, 8, 64]⟩
abbrev S1x8x64 : Shape := ⟨3, ![1, 8, 64]⟩
abbrev S16384x8 : Shape := ⟨2, ![16384, 8]⟩
abbrev S16384x512 : Shape := ⟨2, ![16384, 512]⟩
abbrev S1x512 : Shape := ⟨2, ![1, 512]⟩

abbrev nBuf : Space → Nat
  | .hbm => 78
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x512, .f32⟩
  | .hbm, ⟨2, _⟩ => ⟨S64, .f32⟩
  | .hbm, ⟨3, _⟩ => ⟨S1x16384x512, .f32⟩
  | .hbm, ⟨4, _⟩ => ⟨S8x64, .f32⟩
  | .hbm, ⟨5, _⟩ => ⟨S1x16384x8x64, .f32⟩
  | .hbm, ⟨6, _⟩ => ⟨S_, .f32⟩
  | .hbm, ⟨7, _⟩ => ⟨S1x16384x8, .f32⟩
  | .hbm, ⟨8, _⟩ => ⟨S1x16384x8x1, .f32⟩
  | .hbm, ⟨9, _⟩ => ⟨S_, .f32⟩
  | .hbm, ⟨10, _⟩ => ⟨S1x16384x8x1, .f32⟩
  | .hbm, ⟨11, _⟩ => ⟨S1x16384x8x1, .f32⟩
  | .hbm, ⟨12, _⟩ => ⟨S_, .f32⟩
  | .hbm, ⟨13, _⟩ => ⟨S1x16384x8x1, .f32⟩
  | .hbm, ⟨14, _⟩ => ⟨S1x16384x8x1, .f32⟩
  | .hbm, ⟨15, _⟩ => ⟨S1x16384x8x1, .f32⟩
  | .hbm, ⟨16, _⟩ => ⟨S1x16384x8x1, .f32⟩
  | .hbm, ⟨17, _⟩ => ⟨S_, .f32⟩
  | .hbm, ⟨18, _⟩ => ⟨S1x16384x8x1, .f32⟩
  | .hbm, ⟨19, _⟩ => ⟨S1x16384x8x1, .f32⟩
  | .hbm, ⟨20, _⟩ => ⟨S1x16384x8x64, .f32⟩
  | .hbm, ⟨21, _⟩ => ⟨S1x16384x8x64, .f32⟩
  | .hbm, ⟨22, _⟩ => ⟨S1x1x8x64, .f32⟩
  | .hbm, ⟨23, _⟩ => ⟨S1x16384x8x64, .f32⟩
  | .hbm, ⟨24, _⟩ => ⟨S1x16384x8x64, .f32⟩
  | .hbm, ⟨25, _⟩ => ⟨S1x16384x8x64, .f32⟩
  | .hbm, ⟨26, _⟩ => ⟨S1x16384x8x64, .f32⟩
  | .hbm, ⟨27, _⟩ => ⟨S1x16384x8x64, .f32⟩
  | .hbm, ⟨28, _⟩ => ⟨S_, .f32⟩
  | .hbm, ⟨29, _⟩ => ⟨S1x16384x8x64, .f32⟩
  | .hbm, ⟨30, _⟩ => ⟨S1x16384x8x64, .f32⟩
  | .hbm, ⟨31, _⟩ => ⟨S_, .f32⟩
  | .hbm, ⟨32, _⟩ => ⟨S1x16384x8x64, .f32⟩
  | .hbm, ⟨33, _⟩ => ⟨S1x16384x8x64, .f32⟩
  | .hbm, ⟨34, _⟩ => ⟨S_, .f32⟩
  | .hbm, ⟨35, _⟩ => ⟨S1x16384x8x64, .f32⟩
  | .hbm, ⟨36, _⟩ => ⟨S1x16384x8x64, .f32⟩
  | .hbm, ⟨37, _⟩ => ⟨S1x16384x8x64, .f32⟩
  | .hbm, ⟨38, _⟩ => ⟨S1x16384x8x64, .f32⟩
  | .hbm, ⟨39, _⟩ => ⟨S1x16384x8x64, .f32⟩
  | .hbm, ⟨40, _⟩ => ⟨S1x16384x512, .f32⟩
  | .hbm, ⟨41, _⟩ => ⟨S1x16384x8x64, .f32⟩
  | .hbm, ⟨42, _⟩ => ⟨S1x16384x8x64, .f32⟩
  | .hbm, ⟨43, _⟩ => ⟨S1x16384x8x64, .f32⟩
  | .hbm, ⟨44, _⟩ => ⟨S1x16384x8x64, .f32⟩
  | .hbm, ⟨45, _⟩ => ⟨S1x16384x8x64, .f32⟩
  | .hbm, ⟨46, _⟩ => ⟨S1x16384x8x64, .f32⟩
  | .hbm, ⟨47, _⟩ => ⟨S1x16384x8x64, .f32⟩
  | .hbm, ⟨48, _⟩ => ⟨S1x16384x512, .f32⟩
  | .hbm, ⟨49, _⟩ => ⟨S1x16384x8x64, .f32⟩
  | .hbm, ⟨50, _⟩ => ⟨S_, .f32⟩
  | .hbm, ⟨51, _⟩ => ⟨S1x8x64, .f32⟩
  | .hbm, ⟨52, _⟩ => ⟨S1x1x8x64, .f32⟩
  | .hbm, ⟨53, _⟩ => ⟨S1x16384x8x64, .f32⟩
  | .hbm, ⟨54, _⟩ => ⟨S1x16384x8x64, .f32⟩
  | .hbm, ⟨55, _⟩ => ⟨S_, .f32⟩
  | .hbm, ⟨56, _⟩ => ⟨S8x64, .f32⟩
  | .hbm, ⟨57, _⟩ => ⟨S1x16384x8x64, .f32⟩
  | .hbm, ⟨58, _⟩ => ⟨S_, .f32⟩
  | .hbm, ⟨59, _⟩ => ⟨S1x16384x8, .f32⟩
  | .hbm, ⟨60, _⟩ => ⟨S1x16384x8x1, .f32⟩
  | .hbm, ⟨61, _⟩ => ⟨S1x16384x8x64, .f32⟩
  | .hbm, ⟨62, _⟩ => ⟨S1x16384x8x64, .f32⟩
  | .hbm, ⟨63, _⟩ => ⟨S1x16384x8x1, .f32⟩
  | .hbm, ⟨64, _⟩ => ⟨S_, .f32⟩
  | .hbm, ⟨65, _⟩ => ⟨S1x16384x8x1, .f32⟩
  | .hbm, ⟨66, _⟩ => ⟨S1x16384x8x1, .f32⟩
  | .hbm, ⟨67, _⟩ => ⟨S_, .f32⟩
  | .hbm, ⟨68, _⟩ => ⟨S16384x8, .f32⟩
  | .hbm, ⟨69, _⟩ => ⟨S1x16384x8, .f32⟩
  | .hbm, ⟨70, _⟩ => ⟨S1x16384x8x64, .f32⟩
  | .hbm, ⟨71, _⟩ => ⟨S1x16384x8x64, .f32⟩
  | .hbm, ⟨72, _⟩ => ⟨S1x16384x8x64, .f32⟩
  | .hbm, ⟨73, _⟩ => ⟨S1x16384x8x64, .f32⟩
  | .hbm, ⟨74, _⟩ => ⟨S1x16384x8x64, .f32⟩
  | .hbm, ⟨75, _⟩ => ⟨S16384x512, .f32⟩
  | .hbm, ⟨76, _⟩ => ⟨S16384x512, .f32⟩
  | .hbm, ⟨77, _⟩ => ⟨S1x512, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== NormKeep.lean ====
abbrev S1x16384x1024 : Shape := ⟨3, ![1, 16384, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x16384x1024, .f32⟩
  | .hbm, ⟨3, _⟩ => ⟨S1x16384x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormKeepIdeal.lean ====
abbrev S1x16384x1024 : Shape := ⟨3, ![1, 16384, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x16384x1024, .f32⟩
  | .hbm, ⟨3, _⟩ => ⟨S1x16384x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormKeepRefIdeal.lean ====
abbrev S1x16384x1024 : Shape := ⟨3, ![1, 16384, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x1024 : Shape := ⟨2, ![1, 1024]⟩
abbrev S16384 : Shape := ⟨1, ![16384]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x16384x1024, .f32⟩
  | .hbm, ⟨3, _⟩ => ⟨S1x16384x1024, .f32⟩
  | .hbm, ⟨4, _⟩ => ⟨S1x16384x1024, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S1x16384x1024, .f32⟩
  | .hbm, ⟨23, _⟩ => ⟨S1x16384x1024, .f32⟩
  | .hbm, ⟨24, _⟩ => ⟨S1x16384x1024, .f32⟩
  | .hbm, ⟨25, _⟩ => ⟨S_, .f32⟩
  | .hbm, ⟨26, _⟩ => ⟨S1x1024, .f32⟩
  | .hbm, ⟨27, _⟩ => ⟨S1x1x1024, .f32⟩
  | .hbm, ⟨28, _⟩ => ⟨S1x16384x1024, .f32⟩
  | .hbm, ⟨29, _⟩ => ⟨S1x16384x1024, .f32⟩
  | .hbm, ⟨30, _⟩ => ⟨S_, .f32⟩
  | .hbm, ⟨31, _⟩ => ⟨S1024, .f32⟩
  | .hbm, ⟨32, _⟩ => ⟨S1x16384x1024, .f32⟩
  | .hbm, ⟨33, _⟩ => ⟨S_, .f32⟩
  | .hbm, ⟨34, _⟩ => ⟨S1x16384, .f32⟩
  | .hbm, ⟨35, _⟩ => ⟨S1x16384x1, .f32⟩
  | .hbm, ⟨36, _⟩ => ⟨S1x16384x1024, .f32⟩
  | .hbm, ⟨37, _⟩ => ⟨S1x16384x1024, .f32⟩
  | .hbm, ⟨38, _⟩ => ⟨S1x16384x1024, .f32⟩
  | .hbm, ⟨39, _⟩ => ⟨S1x16384x1, .f32⟩
  | .hbm, ⟨40, _⟩ => ⟨S_, .f32⟩
  | .hbm, ⟨41, _⟩ => ⟨S1x16384x1, .f32⟩
  | .hbm, ⟨42, _⟩ => ⟨S1x16384x1, .f32⟩
  | .hbm, ⟨43, _⟩ => ⟨S_, .f32⟩
  | .hbm, ⟨44, _⟩ => ⟨S16384, .f32⟩
  | .hbm, ⟨45, _⟩ => ⟨S1x16384, .f32⟩
  | .hbm, ⟨46, _⟩ => ⟨S1x16384x1024, .f32⟩
  | .hbm, ⟨47, _⟩ => ⟨S1x16384x1024, .f32⟩
  | .hbm, ⟨48, _⟩ => ⟨S1x16384x1024, .f32⟩
  | .hbm, ⟨49, _⟩ => ⟨S1x16384x1024, .f32⟩
  | .hbm, ⟨50, _⟩ => ⟨S1x16384x1024, .f32⟩
  | .hbm, ⟨51, _⟩ => ⟨S16384x1024, .f32⟩
  | .hbm, ⟨52, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== PrepF.lean ====
abbrev S1x16384x1024 : Shape := ⟨3, ![1, 16384, 1024]⟩
abbrev S1024 : Shape := ⟨1, ![1024]⟩
abbrev S1x16384x8x128 : Shape := ⟨4, ![1, 16384, 8, 128]⟩
abbrev S1x1024x8x128 : Shape := ⟨4, ![1, 1024, 8, 128]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1x16x1024 : Shape := ⟨3, ![1, 16, 1024]⟩
abbrev S256x256 : Shape := ⟨2, ![256, 256]⟩
abbrev S16x256 : Shape := ⟨2, ![16, 256]⟩
abbrev S1x1024 : Shape := ⟨2, ![1, 1024]⟩
abbrev S256x1024 : Shape := ⟨2, ![256, 1024]⟩
abbrev S16x1024 : Shape := ⟨2, ![16, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1x16384x8x128, .f32⟩
  | .hbm, ⟨4, _⟩ => ⟨S1x16384x8x128, .f32⟩
  | .hbm, ⟨5, _⟩ => ⟨S1x16384x8x128, .f32⟩
  | .hbm, ⟨6, _⟩ => ⟨S1x1024x8x128, .f32⟩
  | .hbm, ⟨7, _⟩ => ⟨S1x1x1024, .f32⟩
  | .hbm, ⟨8, _⟩ => ⟨S1x16384x1024, .f32⟩
  | .hbm, ⟨9, _⟩ => ⟨S1x16384x1024, .f32⟩
  | .hbm, ⟨10, _⟩ => ⟨S1x16384x1024, .f32⟩
  | .hbm, ⟨11, _⟩ => ⟨S1x1024x1024, .f32⟩
  | .hbm, ⟨12, _⟩ => ⟨S1x16384x1024, .f32⟩
  | .hbm, ⟨13, _⟩ => ⟨S1x16384x1024, .f32⟩
  | .hbm, ⟨14, _⟩ => ⟨S1x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x16x1024, .f32⟩
  | .local _ .vmem, ⟨12, _⟩ => ⟨S1x16x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== PrepFIdeal.lean ====
abbrev S1x16384x1024 : Shape := ⟨3, ![1, 16384, 1024]⟩
abbrev S1024 : Shape := ⟨1, ![1024]⟩
abbrev S1x16384x8x128 : Shape := ⟨4, ![1, 16384, 8, 128]⟩
abbrev S1x1024x8x128 : Shape := ⟨4, ![1, 1024, 8, 128]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1x16x1024 : Shape := ⟨3, ![1, 16, 1024]⟩
abbrev S256x256 : Shape := ⟨2, ![256, 256]⟩
abbrev S16x256 : Shape := ⟨2, ![16, 256]⟩
abbrev S1x1024 : Shape := ⟨2, ![1, 1024]⟩
abbrev S256x1024 : Shape := ⟨2, ![256, 1024]⟩
abbrev S16x1024 : Shape := ⟨2, ![16, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1x16384x8x128, .f32⟩
  | .hbm, ⟨4, _⟩ => ⟨S1x16384x8x128, .f32⟩
  | .hbm, ⟨5, _⟩ => ⟨S1x16384x8x128, .f32⟩
  | .hbm, ⟨6, _⟩ => ⟨S1x1024x8x128, .f32⟩
  | .hbm, ⟨7, _⟩ => ⟨S1x1x1024, .f32⟩
  | .hbm, ⟨8, _⟩ => ⟨S1x16384x1024, .f32⟩
  | .hbm, ⟨9, _⟩ => ⟨S1x16384x1024, .f32⟩
  | .hbm, ⟨10, _⟩ => ⟨S1x16384x1024, .f32⟩
  | .hbm, ⟨11, _⟩ => ⟨S1x1024x1024, .f32⟩
  | .hbm, ⟨12, _⟩ => ⟨S1x16384x1024, .f32⟩
  | .hbm, ⟨13, _⟩ => ⟨S1x16384x1024, .f32⟩
  | .hbm, ⟨14, _⟩ => ⟨S1x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x16x1024, .f32⟩
  | .local _ .vmem, ⟨12, _⟩ => ⟨S1x16x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== PrepFRefIdeal.lean ====
abbrev S1x16384x1024 : Shape := ⟨3, ![1, 16384, 1024]⟩
abbrev S1024 : Shape := ⟨1, ![1024]⟩
abbrev S1x16384x8x128 : Shape := ⟨4, ![1, 16384, 8, 128]⟩
abbrev S1x1024x8x128 : Shape := ⟨4, ![1, 1024, 8, 128]⟩
abbrev S8x128 : Shape := ⟨2, ![8, 128]⟩
abbrev S_ : Shape := ⟨0, ![]⟩
abbrev S1x1x8x128 : Shape := ⟨4, ![1, 1, 8, 128]⟩
abbrev S1x1024x16x8x128 : Shape := ⟨5, ![1, 1024, 16, 8, 128]⟩
abbrev S1x1024x1x8x128 : Shape := ⟨5, ![1, 1024, 1, 8, 128]⟩
abbrev S1x8x128 : Shape := ⟨3, ![1, 8, 128]⟩
abbrev S1x1x1024 : Shape := ⟨3, ![1, 1, 1024]⟩

abbrev nBuf : Space → Nat
  | .hbm => 156
  | .vmem => 0
  | .smem => 0
  | _ => 0

abbrev hbmTy0_0 (i : Nat) : BufTy := match i % 128 with
  | 0 => ⟨S1x16384x1024, .f32⟩
  | 1 => ⟨S1x16384x1024, .f32⟩
  | 2 => ⟨S1024, .f32⟩
  | 3 => ⟨S1x16384x8x128, .f32⟩
  | 4 => ⟨S1x16384x8x128, .f32⟩
  | 5 => ⟨S1x16384x8x128, .f32⟩
  | 6 => ⟨S1x1024x8x128, .f32⟩
  | 7 => ⟨S8x128, .f32⟩
  | 8 => ⟨S1x16384x8x128, .f32⟩
  | 9 => ⟨S_, .f32⟩
  | 10 => ⟨S8x128, .f32⟩
  | 11 => ⟨S8x128, .f32⟩
  | 12 => ⟨S1x16384x8x128, .f32⟩
  | 13 => ⟨S1x16384x8x128, .f32⟩
  | 14 => ⟨S_, .f32⟩
  | 15 => ⟨S1x16384x8x128, .f32⟩
  | 16 => ⟨S1x16384x8x128, .f32⟩
  | 17 => ⟨S_, .f32⟩
  | 18 => ⟨S1x16384x8x128, .f32⟩
  | 19 => ⟨S1x16384x8x128, .f32⟩
  | 20 => ⟨S_, .f32⟩
  | 21 => ⟨S1x16384x8x128, .f32⟩
  | 22 => ⟨S1x16384x8x128, .f32⟩
  | 23 => ⟨S1x16384x8x128, .f32⟩
  | 24 => ⟨S1x1x8x128, .f32⟩
  | 25 => ⟨S1x16384x8x128, .f32⟩
  | 26 => ⟨S1x16384x8x128, .f32⟩
  | 27 => ⟨S1x1x8x128, .f32⟩
  | 28 => ⟨S1x16384x8x128, .f32⟩
  | 29 => ⟨S1x16384x8x128, .f32⟩
  | 30 => ⟨S_, .f32⟩
  | 31 => ⟨S1x16384x8x128, .f32⟩
  | 32 => ⟨S1x16384x8x128, .f32⟩
  | 33 => ⟨S_, .f32⟩
  | 34 => ⟨S1x16384x8x128, .f32⟩
  | 35 => ⟨S1x16384x8x128, .i1⟩
  | 36 => ⟨S_, .f32⟩
  | 37 => ⟨S1x16384x8x128, .f32⟩
  | 38 => ⟨S1x16384x8x128, .i1⟩
  | 39 => ⟨S_, .f32⟩
  | 40 => ⟨S1x16384x8x128, .f32⟩
  | 41 => ⟨S_, .f32⟩
  | 42 => ⟨S1x16384x8x128, .f32⟩
  | 43 => ⟨S_, .f32⟩
  | 44 => ⟨S1x16384x8x128, .f32⟩
  | 45 => ⟨S1x16384x8x128, .f32⟩
  | 46 => ⟨S1x16384x8x128, .f32⟩
  | 47 => ⟨S1x16384x8x128, .f32⟩
  | 48 => ⟨S_, .f32⟩
  | 49 => ⟨S8x128, .f32⟩
  | 50 => ⟨S8x128, .f32⟩
  | 51 => ⟨S1x16384x8x128, .f32⟩
  | 52 => ⟨S1x16384x8x128, .f32⟩
  | 53 => ⟨S1x16384x8x128, .f32⟩
  | 54 => ⟨S_, .f32⟩
  | 55 => ⟨S1x16384x8x128, .f32⟩
  | 56 => ⟨S1x16384x8x128, .f32⟩
  | 57 => ⟨S_, .f32⟩
  | 58 => ⟨S1x16384x8x128, .f32⟩
  | 59 => ⟨S1x16384x8x128, .f32⟩
  | 60 => ⟨S_, .f32⟩
  | 61 => ⟨S1x16384x8x128, .f32⟩
  | 62 => ⟨S1x16384x8x128, .f32⟩
  | 63 => ⟨S1x16384x8x128, .f32⟩
  | 64 => ⟨S1x1x8x128, .f32⟩
  | 65 => ⟨S1x16384x8x128, .f32⟩
  | 66 => ⟨S1x16384x8x128, .f32⟩
  | 67 => ⟨S1x16384x8x128, .f32⟩
  | 68 => ⟨S1x1024x16x8x128, .f32⟩
  | 69 => ⟨S1x1024x16x8x128, .f32⟩
  | 70 => ⟨S1x1024x16x8x128, .f32⟩
  | 71 => ⟨S_, .f32⟩
  | 72 => ⟨S_, .f32⟩
  | 73 => ⟨S1x1024x16x8x128, .f32⟩
  | 74 => ⟨S1x1024x1x8x128, .f32⟩
  | 75 => ⟨S1x1024x16x8x128, .f32⟩
  | 76 => ⟨S1x1024x16x8x128, .f32⟩
  | 77 => ⟨S1x16384x8x128, .f32⟩
  | 78 => ⟨S1x1024x16x8x128, .f32⟩
  | 79 => ⟨S1x1024x16x8x128, .f32⟩
  | 80 => ⟨S1x1024x16x8x128, .f32⟩
  | 81 => ⟨S1x16384x8x128, .f32⟩
  | 82 => ⟨S1x1024x16x8x128, .f32⟩
  | 83 => ⟨S1x1024x16x8x128, .f32⟩
  | 84 => ⟨S1x1024x16x8x128, .f32⟩
  | 85 => ⟨S1x1024x16x8x128, .f32⟩
  | 86 => ⟨S1x16384x8x128, .f32⟩
  | 87 => ⟨S1x1024x1x8x128, .f32⟩
  | 88 => ⟨S1x1024x8x128, .f32⟩
  | 89 => ⟨S1x1024x1x8x128, .f32⟩
  | 90 => ⟨S1x1024x1x8x128, .f32⟩
  | 91 => ⟨S1x1024x16x8x128, .f32⟩
  | 92 => ⟨S1x1024x16x8x128, .f32⟩
  | 93 => ⟨S1x1024x16x8x128, .f32⟩
  | 94 => ⟨S1x1024x16x8x128, .f32⟩
  | 95 => ⟨S_, .f32⟩
  | 96 => ⟨S1x1024x8x128, .f32⟩
  | 97 => ⟨S1x1024x1x8x128, .f32⟩
  | 98 => ⟨S1x1024x16x8x128, .f32⟩
  | 99 => ⟨S1x1024x1x8x128, .f32⟩
  | 100 => ⟨S1x1024x16x8x128, .f32⟩
  | 101 => ⟨S1x1024x16x8x128, .f32⟩
  | 102 => ⟨S1x1024x16x8x128, .f32⟩
  | 103 => ⟨S1x1024x16x8x128, .f32⟩
  | 104 => ⟨S1x1024x16x8x128, .f32⟩
  | 105 => ⟨S1x1024x16x8x128, .f32⟩
  | 106 => ⟨S1x1024x16x8x128, .f32⟩
  | 107 => ⟨S1x1024x16x8x128, .f32⟩
  | 108 => ⟨S1x1024x16x8x128, .f32⟩
  | 109 => ⟨S1x1024x16x8x128, .f32⟩
  | 110 => ⟨S1x1024x16x8x128, .f32⟩
  | 111 => ⟨S1x1024x16x8x128, .f32⟩
  | 112 => ⟨S_, .f32⟩
  | 113 => ⟨S1x1024x16x8x128, .f32⟩
  | 114 => ⟨S1x1024x16x8x128, .f32⟩
  | 115 => ⟨S_, .f32⟩
  | 116 => ⟨S_, .f32⟩
  | 117 => ⟨S1x1024x16x8x128, .f32⟩
  | 118 => ⟨S1x16384x8x128, .f32⟩
  | 119 => ⟨S1x16384x8x128, .f32⟩
  | 120 => ⟨S1x16384x8x128, .f32⟩
  | 121 => ⟨S1x16384x1024, .f32⟩
  | 122 => ⟨S1x16384x8x128, .f32⟩
  | 123 => ⟨S1x16384x8x128, .f32⟩
  | 124 => ⟨S1x16384x8x128, .f32⟩
  | 125 => ⟨S_, .f32⟩
  | 126 => ⟨S1x8x128, .f32⟩
  | 127 => ⟨S1x1x8x128, .f32⟩
  | _ => ⟨S1x16384x1024, .f32⟩

abbrev hbmTy0_1 (i : Nat) : BufTy := match i % 128 with
  | 0 => ⟨S_, .f32⟩
  | 1 => ⟨S8x128, .f32⟩
  | 2 => ⟨S1x16384x8x128, .f32⟩
  | 3 => ⟨S1x16384x8x128, .f32⟩
  | 4 => ⟨S8x128, .f32⟩
  | 5 => ⟨S1x16384x8x128, .f32⟩
  | 6 => ⟨S1x16384x8x128, .f32⟩
  | 7 => ⟨S_, .f32⟩
  | 8 => ⟨S1x8x128, .f32⟩
  | 9 => ⟨S1x1x8x128, .f32⟩
  | 10 => ⟨S_, .f32⟩
  | 11 => ⟨S8x128, .f32⟩
  | 12 => ⟨S8x128, .f32⟩
  | 13 => ⟨S1x16384x8x128, .f32⟩
  | 14 => ⟨S1x16384x8x128, .f32⟩
  | 15 => ⟨S1x16384x8x128, .f32⟩
  | 16 => ⟨S_, .f32⟩
  | 17 => ⟨S1x8x128, .f32⟩
  | 18 => ⟨S1x1x8x128, .f32⟩
  | 19 => ⟨S_, .f32⟩
  | 20 => ⟨S8x128, .f32⟩
  | 21 => ⟨S1x16384x8x128, .f32⟩
  | 22 => ⟨S1x16384x8x128, .f32⟩
  | 23 => ⟨S8x128, .f32⟩
  | 24 => ⟨S8x128, .f32⟩
  | 25 => ⟨S1x16384x1024, .f32⟩
  | 26 => ⟨S1024, .f32⟩
  | 27 => ⟨S1x1x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_call0_cst : Ref sig .tc := ⟨.hbm, 71, rfl⟩
abbrev main_call0_call0_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_call1_call0_cst : Ref sig .tc := ⟨.hbm, 115, rfl⟩
abbrev main_call1_call0_v0 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_15 : Ref sig .tc := ⟨.hbm, 125, rfl⟩
abbrev main_v98 : Ref sig .tc := ⟨.hbm, 126, rfl⟩
abbrev main_v99 : Ref sig .tc := ⟨.hbm, 127, rfl⟩
abbrev main_cst_16 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_17 : Ref sig .tc := ⟨.hbm, 135, rfl⟩
abbrev main_v106 : Ref sig .tc := ⟨.hbm, 136, rfl⟩
abbrev main_v107 : Ref sig .tc := ⟨.hbm, 137, rfl⟩
abbrev main_cst_18 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_19 : Ref sig .tc := ⟨.hbm, 144, rfl⟩
abbrev main_v113 : Ref sig .tc := ⟨.hbm, 145, rfl⟩
abbrev main_v114 : Ref sig .tc := ⟨.hbm, 146, rfl⟩
abbrev main_cst_20 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩

abbrev nD : Nat := 1
abbrev τ : Topo := Topo.v7x

variable {F : FTy → Type} [FloatOps F]
-- ==== PrepB.lean ====
abbrev S1x16384x1024 : Shape := ⟨3, ![1, 16384, 1024]⟩
abbrev S1024 : Shape := ⟨1, ![1024]⟩
abbrev S1x16384x8x128 : Shape := ⟨4, ![1, 16384, 8, 128]⟩
abbrev S1x1024x8x128 : Shape := ⟨4, ![1, 1024, 8, 128]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1x16x1024 : Shape := ⟨3, ![1, 16, 1024]⟩
abbrev S256x256 : Shape := ⟨2, ![256, 256]⟩
abbrev S16x256 : Shape := ⟨2, ![16, 256]⟩
abbrev S1x1024 : Shape := ⟨2, ![1, 1024]⟩
abbrev S256x1024 : Shape := ⟨2, ![256, 1024]⟩
abbrev S16x1024 : Shape := ⟨2, ![16, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1x16384x8x128, .f32⟩
  | .hbm, ⟨4, _⟩ => ⟨S1x16384x8x128, .f32⟩
  | .hbm, ⟨5, _⟩ => ⟨S1x16384x8x128, .f32⟩
  | .hbm, ⟨6, _⟩ => ⟨S1x1024x8x128, .f32⟩
  | .hbm, ⟨7, _⟩ => ⟨S1x1x1024, .f32⟩
  | .hbm, ⟨8, _⟩ => ⟨S1x16384x1024, .f32⟩
  | .hbm, ⟨9, _⟩ => ⟨S1x16384x1024, .f32⟩
  | .hbm, ⟨10, _⟩ => ⟨S1x16384x1024, .f32⟩
  | .hbm, ⟨11, _⟩ => ⟨S1x1024x1024, .f32⟩
  | .hbm, ⟨12, _⟩ => ⟨S1x16384x1024, .f32⟩
  | .hbm, ⟨13, _⟩ => ⟨S1x16384x1024, .f32⟩
  | .hbm, ⟨14, _⟩ => ⟨S1x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x16x1024, .f32⟩
  | .local _ .vmem, ⟨12, _⟩ => ⟨S1x16x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== PrepBIdeal.lean ====
abbrev S1x16384x1024 : Shape := ⟨3, ![1, 16384, 1024]⟩
abbrev S1024 : Shape := ⟨1, ![1024]⟩
abbrev S1x16384x8x128 : Shape := ⟨4, ![1, 16384, 8, 128]⟩
abbrev S1x1024x8x128 : Shape := ⟨4, ![1, 1024, 8, 128]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1x16x1024 : Shape := ⟨3, ![1, 16, 1024]⟩
abbrev S256x256 : Shape := ⟨2, ![256, 256]⟩
abbrev S16x256 : Shape := ⟨2, ![16, 256]⟩
abbrev S1x1024 : Shape := ⟨2, ![1, 1024]⟩
abbrev S256x1024 : Shape := ⟨2, ![256, 1024]⟩
abbrev S16x1024 : Shape := ⟨2, ![16, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1x16384x8x128, .f32⟩
  | .hbm, ⟨4, _⟩ => ⟨S1x16384x8x128, .f32⟩
  | .hbm, ⟨5, _⟩ => ⟨S1x16384x8x128, .f32⟩
  | .hbm, ⟨6, _⟩ => ⟨S1x1024x8x128, .f32⟩
  | .hbm, ⟨7, _⟩ => ⟨S1x1x1024, .f32⟩
  | .hbm, ⟨8, _⟩ => ⟨S1x16384x1024, .f32⟩
  | .hbm, ⟨9, _⟩ => ⟨S1x16384x1024, .f32⟩
  | .hbm, ⟨10, _⟩ => ⟨S1x16384x1024, .f32⟩
  | .hbm, ⟨11, _⟩ => ⟨S1x1024x1024, .f32⟩
  | .hbm, ⟨12, _⟩ => ⟨S1x16384x1024, .f32⟩
  | .hbm, ⟨13, _⟩ => ⟨S1x16384x1024, .f32⟩
  | .hbm, ⟨14, _⟩ => ⟨S1x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x16x1024, .f32⟩
  | .local _ .vmem, ⟨12, _⟩ => ⟨S1x16x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== PrepBRefIdeal.lean ====
abbrev S1x16384x1024 : Shape := ⟨3, ![1, 16384, 1024]⟩
abbrev S1024 : Shape := ⟨1, ![1024]⟩
abbrev S1x16384x8x128 : Shape := ⟨4, ![1, 16384, 8, 128]⟩
abbrev S1x1024x8x128 : Shape := ⟨4, ![1, 1024, 8, 128]⟩
abbrev S8x128 : Shape := ⟨2, ![8, 128]⟩
abbrev S_ : Shape := ⟨0, ![]⟩
abbrev S1x1x8x128 : Shape := ⟨4, ![1, 1, 8, 128]⟩
abbrev S1x1024x16x8x128 : Shape := ⟨5, ![1, 1024, 16, 8, 128]⟩
abbrev S1x1024x1x8x128 : Shape := ⟨5, ![1, 1024, 1, 8, 128]⟩
abbrev S1x8x128 : Shape := ⟨3, ![1, 8, 128]⟩
abbrev S1x1x1024 : Shape := ⟨3, ![1, 1, 1024]⟩

abbrev nBuf : Space → Nat
  | .hbm => 170
  | .vmem => 0
  | .smem => 0
  | _ => 0

abbrev hbmTy0_0 (i : Nat) : BufTy := match i % 128 with
  | 0 => ⟨S1x16384x1024, .f32⟩
  | 1 => ⟨S1x16384x1024, .f32⟩
  | 2 => ⟨S1024, .f32⟩
  | 3 => ⟨S1x16384x8x128, .f32⟩
  | 4 => ⟨S1x16384x8x128, .f32⟩
  | 5 => ⟨S1x16384x8x128, .f32⟩
  | 6 => ⟨S1x1024x8x128, .f32⟩
  | 7 => ⟨S8x128, .f32⟩
  | 8 => ⟨S1x16384x8x128, .f32⟩
  | 9 => ⟨S_, .f32⟩
  | 10 => ⟨S8x128, .f32⟩
  | 11 => ⟨S8x128, .f32⟩
  | 12 => ⟨S1x16384x8x128, .f32⟩
  | 13 => ⟨S1x16384x8x128, .f32⟩
  | 14 => ⟨S_, .f32⟩
  | 15 => ⟨S1x16384x8x128, .f32⟩
  | 16 => ⟨S1x16384x8x128, .f32⟩
  | 17 => ⟨S_, .f32⟩
  | 18 => ⟨S1x16384x8x128, .f32⟩
  | 19 => ⟨S1x16384x8x128, .f32⟩
  | 20 => ⟨S_, .f32⟩
  | 21 => ⟨S1x16384x8x128, .f32⟩
  | 22 => ⟨S1x16384x8x128, .f32⟩
  | 23 => ⟨S1x16384x8x128, .f32⟩
  | 24 => ⟨S1x1x8x128, .f32⟩
  | 25 => ⟨S1x16384x8x128, .f32⟩
  | 26 => ⟨S1x16384x8x128, .f32⟩
  | 27 => ⟨S1x1x8x128, .f32⟩
  | 28 => ⟨S1x16384x8x128, .f32⟩
  | 29 => ⟨S1x16384x8x128, .f32⟩
  | 30 => ⟨S_, .f32⟩
  | 31 => ⟨S1x16384x8x128, .f32⟩
  | 32 => ⟨S1x16384x8x128, .f32⟩
  | 33 => ⟨S_, .f32⟩
  | 34 => ⟨S1x16384x8x128, .f32⟩
  | 35 => ⟨S1x16384x8x128, .i1⟩
  | 36 => ⟨S_, .f32⟩
  | 37 => ⟨S1x16384x8x128, .f32⟩
  | 38 => ⟨S1x16384x8x128, .i1⟩
  | 39 => ⟨S_, .f32⟩
  | 40 => ⟨S1x16384x8x128, .f32⟩
  | 41 => ⟨S_, .f32⟩
  | 42 => ⟨S1x16384x8x128, .f32⟩
  | 43 => ⟨S_, .f32⟩
  | 44 => ⟨S1x16384x8x128, .f32⟩
  | 45 => ⟨S1x16384x8x128, .f32⟩
  | 46 => ⟨S1x16384x8x128, .f32⟩
  | 47 => ⟨S1x16384x8x128, .f32⟩
  | 48 => ⟨S_, .f32⟩
  | 49 => ⟨S8x128, .f32⟩
  | 50 => ⟨S8x128, .f32⟩
  | 51 => ⟨S1x16384x8x128, .f32⟩
  | 52 => ⟨S1x16384x8x128, .f32⟩
  | 53 => ⟨S1x16384x8x128, .f32⟩
  | 54 => ⟨S_, .f32⟩
  | 55 => ⟨S1x16384x8x128, .f32⟩
  | 56 => ⟨S1x16384x8x128, .f32⟩
  | 57 => ⟨S_, .f32⟩
  | 58 => ⟨S1x16384x8x128, .f32⟩
  | 59 => ⟨S1x16384x8x128, .f32⟩
  | 60 => ⟨S_, .f32⟩
  | 61 => ⟨S1x16384x8x128, .f32⟩
  | 62 => ⟨S1x16384x8x128, .f32⟩
  | 63 => ⟨S1x16384x8x128, .f32⟩
  | 64 => ⟨S1x1x8x128, .f32⟩
  | 65 => ⟨S1x16384x8x128, .f32⟩
  | 66 => ⟨S1x16384x8x128, .f32⟩
  | 67 => ⟨S1x16384x8x128, .f32⟩
  | 68 => ⟨S1x16384x8x128, .f32⟩
  | 69 => ⟨S1x16384x8x128, .f32⟩
  | 70 => ⟨S1x16384x8x128, .f32⟩
  | 71 => ⟨S1x1024x16x8x128, .f32⟩
  | 72 => ⟨S1x1024x16x8x128, .f32⟩
  | 73 => ⟨S1x1024x16x8x128, .f32⟩
  | 74 => ⟨S_, .f32⟩
  | 75 => ⟨S_, .f32⟩
  | 76 => ⟨S1x1024x16x8x128, .f32⟩
  | 77 => ⟨S1x1024x1x8x128, .f32⟩
  | 78 => ⟨S1x1024x16x8x128, .f32⟩
  | 79 => ⟨S1x1024x16x8x128, .f32⟩
  | 80 => ⟨S1x16384x8x128, .f32⟩
  | 81 => ⟨S1x16384x8x128, .f32⟩
  | 82 => ⟨S1x1024x16x8x128, .f32⟩
  | 83 => ⟨S1x1024x16x8x128, .f32⟩
  | 84 => ⟨S1x1024x16x8x128, .f32⟩
  | 85 => ⟨S1x16384x8x128, .f32⟩
  | 86 => ⟨S1x16384x8x128, .f32⟩
  | 87 => ⟨S1x1024x16x8x128, .f32⟩
  | 88 => ⟨S1x1024x16x8x128, .f32⟩
  | 89 => ⟨S1x1024x16x8x128, .f32⟩
  | 90 => ⟨S1x1024x16x8x128, .f32⟩
  | 91 => ⟨S1x16384x8x128, .f32⟩
  | 92 => ⟨S1x16384x8x128, .f32⟩
  | 93 => ⟨S1x1024x1x8x128, .f32⟩
  | 94 => ⟨S1x1024x8x128, .f32⟩
  | 95 => ⟨S1x1024x8x128, .f32⟩
  | 96 => ⟨S1x1024x8x128, .f32⟩
  | 97 => ⟨S1x1024x1x8x128, .f32⟩
  | 98 => ⟨S1x1024x1x8x128, .f32⟩
  | 99 => ⟨S1x16384x8x128, .f32⟩
  | 100 => ⟨S1x1024x16x8x128, .f32⟩
  | 101 => ⟨S1x1024x16x8x128, .f32⟩
  | 102 => ⟨S1x1024x16x8x128, .f32⟩
  | 103 => ⟨S1x1024x16x8x128, .f32⟩
  | 104 => ⟨S_, .f32⟩
  | 105 => ⟨S1x1024x8x128, .f32⟩
  | 106 => ⟨S1x1024x1x8x128, .f32⟩
  | 107 => ⟨S1x1024x16x8x128, .f32⟩
  | 108 => ⟨S1x1024x1x8x128, .f32⟩
  | 109 => ⟨S1x16384x8x128, .f32⟩
  | 110 => ⟨S1x1024x16x8x128, .f32⟩
  | 111 => ⟨S1x1024x16x8x128, .f32⟩
  | 112 => ⟨S1x1024x16x8x128, .f32⟩
  | 113 => ⟨S1x1024x16x8x128, .f32⟩
  | 114 => ⟨S1x1024x16x8x128, .f32⟩
  | 115 => ⟨S1x1024x16x8x128, .f32⟩
  | 116 => ⟨S1x1024x16x8x128, .f32⟩
  | 117 => ⟨S1x16384x8x128, .f32⟩
  | 118 => ⟨S1x1024x16x8x128, .f32⟩
  | 119 => ⟨S1x1024x16x8x128, .f32⟩
  | 120 => ⟨S1x1024x16x8x128, .f32⟩
  | 121 => ⟨S1x1024x16x8x128, .f32⟩
  | 122 => ⟨S1x1024x16x8x128, .f32⟩
  | 123 => ⟨S_, .f32⟩
  | 124 => ⟨S1x1024x16x8x128, .f32⟩
  | 125 => ⟨S1x1024x16x8x128, .f32⟩
  | 126 => ⟨S_, .f32⟩
  | 127 => ⟨S_, .f32⟩
  | _ => ⟨S1x16384x1024, .f32⟩

abbrev hbmTy0_1 (i : Nat) : BufTy := match i % 128 with
  | 0 => ⟨S1x1024x16x8x128, .f32⟩
  | 1 => ⟨S1x16384x8x128, .f32⟩
  | 2 => ⟨S1x16384x8x128, .f32⟩
  | 3 => ⟨S1x16384x8x128, .f32⟩
  | 4 => ⟨S1x16384x8x128, .f32⟩
  | 5 => ⟨S1x16384x8x128, .f32⟩
  | 6 => ⟨S1x16384x8x128, .f32⟩
  | 7 => ⟨S1x16384x1024, .f32⟩
  | 8 => ⟨S1x16384x8x128, .f32⟩
  | 9 => ⟨S1x16384x8x128, .f32⟩
  | 10 => ⟨S1x16384x8x128, .f32⟩
  | 11 => ⟨S_, .f32⟩
  | 12 => ⟨S1x8x128, .f32⟩
  | 13 => ⟨S1x1x8x128, .f32⟩
  | 14 => ⟨S_, .f32⟩
  | 15 => ⟨S8x128, .f32⟩
  | 16 => ⟨S1x16384x8x128, .f32⟩
  | 17 => ⟨S1x16384x8x128, .f32⟩
  | 18 => ⟨S8x128, .f32⟩
  | 19 => ⟨S1x16384x8x128, .f32⟩
  | 20 => ⟨S1x16384x8x128, .f32⟩
  | 21 => ⟨S_, .f32⟩
  | 22 => ⟨S1x8x128, .f32⟩
  | 23 => ⟨S1x1x8x128, .f32⟩
  | 24 => ⟨S_, .f32⟩
  | 25 => ⟨S8x128, .f32⟩
  | 26 => ⟨S8x128, .f32⟩
  | 27 => ⟨S1x16384x8x128, .f32⟩
  | 28 => ⟨S1x16384x8x128, .f32⟩
  | 29 => ⟨S1x16384x8x128, .f32⟩
  | 30 => ⟨S_, .f32⟩
  | 31 => ⟨S1x8x128, .f32⟩
  | 32 => ⟨S1x1x8x128, .f32⟩
  | 33 => ⟨S_, .f32⟩
  | 34 => ⟨S8x128, .f32⟩
  | 35 => ⟨S1x16384x8x128, .f32⟩
  | 36 => ⟨S1x16384x8x128, .f32⟩
  | 37 => ⟨S8x128, .f32⟩
  | 38 => ⟨S8x128, .f32⟩
  | 39 => ⟨S1x16384x1024, .f32⟩
  | 40 => ⟨S1024, .f32⟩
  | 41 => ⟨S1x1x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call3_call0_cst : Ref sig .tc := ⟨.hbm, 74, rfl⟩
abbrev main_call3_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_call12_call0_cst : Ref sig .tc := ⟨.hbm, 126, rfl⟩
abbrev main_call12_call0_v0 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_15 : Ref sig .tc := ⟨.hbm, 139, rfl⟩
abbrev main_v112 : Ref sig .tc := ⟨.hbm, 140, rfl⟩
abbrev main_v113 : Ref sig .tc := ⟨.hbm, 141, rfl⟩
abbrev main_cst_16 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_17 : Ref sig .tc := ⟨.hbm, 149, rfl⟩
abbrev main_v120 : Ref sig .tc := ⟨.hbm, 150, rfl⟩
abbrev main_v121 : Ref sig .tc := ⟨.hbm, 151, rfl⟩
abbrev main_cst_18 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_19 : Ref sig .tc := ⟨.hbm, 158, rfl⟩
abbrev main_v127 : Ref sig .tc := ⟨.hbm, 159, rfl⟩
abbrev main_v128 : Ref sig .tc := ⟨.hbm, 160, rfl⟩
abbrev main_cst_20 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩

abbrev nD : Nat := 1
abbrev τ : Topo := Topo.v7x

variable {F : FTy → Type} [FloatOps F]
-- ==== Ffn.lean ====
abbrev S1x16384x1024 : Shape := ⟨3, ![1, 16384, 1024]⟩
abbrev S1024x2816 : Shape := ⟨2, ![1024, 2816]⟩
abbrev S2816x1024 : Shape := ⟨2, ![2816, 1024]⟩
abbrev S16384x1024 : Shape := ⟨2, ![16384, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 24
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x16384x1024, .f32⟩
  | .hbm, ⟨5, _⟩ => ⟨S16384x1024, .f32⟩
  | .hbm, ⟨6, _⟩ => ⟨S16384x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x2816, .bf16⟩
  | .hbm, ⟨11, _⟩ => ⟨S16384x2816, .bf16⟩
  | .hbm, ⟨12, _⟩ => ⟨S16384x2816, .bf16⟩
  | .hbm, ⟨13, _⟩ => ⟨S16384x1024, .f32⟩
  | .hbm, ⟨14, _⟩ => ⟨S16384x1024, .bf16⟩
  | .hbm, ⟨15, _⟩ => ⟨S16384x2816, .bf16⟩
  | .hbm, ⟨16, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== FfnIdeal.lean ====
abbrev S1x16384x1024 : Shape := ⟨3, ![1, 16384, 1024]⟩
abbrev S1024x2816 : Shape := ⟨2, ![1024, 2816]⟩
abbrev S2816x1024 : Shape := ⟨2, ![2816, 1024]⟩
abbrev S16384x1024 : Shape := ⟨2, ![16384, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 24
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x16384x1024, .f32⟩
  | .hbm, ⟨5, _⟩ => ⟨S16384x1024, .f32⟩
  | .hbm, ⟨6, _⟩ => ⟨S16384x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x2816, .bf16⟩
  | .hbm, ⟨11, _⟩ => ⟨S16384x2816, .bf16⟩
  | .hbm, ⟨12, _⟩ => ⟨S16384x2816, .bf16⟩
  | .hbm, ⟨13, _⟩ => ⟨S16384x1024, .f32⟩
  | .hbm, ⟨14, _⟩ => ⟨S16384x1024, .bf16⟩
  | .hbm, ⟨15, _⟩ => ⟨S16384x2816, .bf16⟩
  | .hbm, ⟨16, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== FfnRefIdeal.lean ====
abbrev S1x16384x1024 : Shape := ⟨3, ![1, 16384, 1024]⟩
abbrev S1024x2816 : Shape := ⟨2, ![1024, 2816]⟩
abbrev S2816x1024 : Shape := ⟨2, ![2816, 1024]⟩
abbrev S1x16384x2816 : Shape := ⟨3, ![1, 16384, 2816]⟩
abbrev S_ : Shape := ⟨0, ![]⟩
abbrev S16384x2816 : Shape := ⟨2, ![16384, 2816]⟩

abbrev nBuf : Space → Nat
  | .hbm => 33
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x16384x1024, .f32⟩
  | .hbm, ⟨5, _⟩ => ⟨S1x16384x2816, .f32⟩
  | .hbm, ⟨6, _⟩ => ⟨S1x16384x2816, .f32⟩
  | .hbm, ⟨7, _⟩ => ⟨S1x16384x2816, .f32⟩
  | .hbm, ⟨8, _⟩ => ⟨S1x16384x2816, .f32⟩
  | .hbm, ⟨9, _⟩ => ⟨S_, .f32⟩
  | .hbm, ⟨10, _⟩ => ⟨S1x16384x2816, .f32⟩
  | .hbm, ⟨11, _⟩ => ⟨S1x16384x2816, .f32⟩
  | .hbm, ⟨12, _⟩ => ⟨S_, .f32⟩
  | .hbm, ⟨13, _⟩ => ⟨S1x16384x2816, .f32⟩
  | .hbm, ⟨14, _⟩ => ⟨S1x16384x2816, .f32⟩
  | .hbm, ⟨15, _⟩ => ⟨S_, .f32⟩
  | .hbm, ⟨16, _⟩ => ⟨S1x16384x2816, .f32⟩
  | .hbm, ⟨17, _⟩ => ⟨S1x16384x2816, .f32⟩
  | .hbm, ⟨18, _⟩ => ⟨S1x16384x2816, .f32⟩
  | .hbm, ⟨19, _⟩ => ⟨S1x16384x2816, .f32⟩
  | .hbm, ⟨20, _⟩ => ⟨S1x16384x2816, .f32⟩
  | .hbm, ⟨21, _⟩ => ⟨S1x16384x1024, .f32⟩
  | .hbm, ⟨22, _⟩ => ⟨S1x16384x2816, .f32⟩
  | .hbm, ⟨23, _⟩ => ⟨S1x16384x2816, .f32⟩
  | .hbm, ⟨24, _⟩ => ⟨S1x16384x2816, .f32⟩
  | .hbm, ⟨25, _⟩ => ⟨S1x16384x2816, .f32⟩
  | .hbm, ⟨26, _⟩ => ⟨S1x16384x2816, .f32⟩
  | .hbm, ⟨27, _⟩ => ⟨S1x16384x2816, .f32⟩
  | .hbm, ⟨28, _⟩ => ⟨S1x16384x2816, .f32⟩
  | .hbm, ⟨29, _⟩ => ⟨S16384x2816, .f32⟩
  | .hbm, ⟨30, _⟩ => ⟨S16384x2816, .bf16⟩
  | .hbm, ⟨31, _⟩ => ⟨S16384x2816, .f32⟩
  | .hbm, ⟨32, _⟩ => ⟨S16384x2816, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== FfnDx.lean ====
abbrev S1x16384x1024 : Shape := ⟨3, ![1, 16384, 1024]⟩
abbrev S1024x2816 : Shape := ⟨2, ![1024, 2816]⟩
abbrev S2816x1024 : Shape := ⟨2, ![2816, 1024]⟩
abbrev S16384x1024 : Shape := ⟨2, ![16384, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512x2816 : Shape := ⟨2, ![512, 2816]⟩

abbrev nBuf : Space → Nat
  | .hbm => 18
  | .vmem => 32
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x16384x1024, .f32⟩
  | .hbm, ⟨5, _⟩ => ⟨S16384x1024, .f32⟩
  | .hbm, ⟨6, _⟩ => ⟨S16384x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x2816, .bf16⟩
  | .hbm, ⟨11, _⟩ => ⟨S16384x2816, .bf16⟩
  | .hbm, ⟨12, _⟩ => ⟨S16384x2816, .bf16⟩
  | .hbm, ⟨13, _⟩ => ⟨S16384x1024, .f32⟩
  | .hbm, ⟨14, _⟩ => ⟨S16384x1024, .bf16⟩
  | .hbm, ⟨15, _⟩ => ⟨S16384x2816, .bf16⟩
  | .hbm, ⟨16, _⟩ => ⟨S16384x2816, .bf16⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x2816, .bf16⟩
  | .local _ .vmem, ⟨28, _⟩ => ⟨S1024x2816, .bf16⟩
  | .local _ .vmem, ⟨29, _⟩ => ⟨S1024x2816, .bf16⟩
  | .local _ .vmem, ⟨30, _⟩ => ⟨S512x1024, .f32⟩
  | .local _ .vmem, ⟨31, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x2816 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2816 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== FfnDxIdeal.lean ====
abbrev S1x16384x1024 : Shape := ⟨3, ![1, 16384, 1024]⟩
abbrev S1024x2816 : Shape := ⟨2, ![1024, 2816]⟩
abbrev S2816x1024 : Shape := ⟨2, ![2816, 1024]⟩
abbrev S16384x1024 : Shape := ⟨2, ![16384, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512x2816 : Shape := ⟨2, ![512, 2816]⟩

abbrev nBuf : Space → Nat
  | .hbm => 18
  | .vmem => 32
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x16384x1024, .f32⟩
  | .hbm, ⟨5, _⟩ => ⟨S16384x1024, .f32⟩
  | .hbm, ⟨6, _⟩ => ⟨S16384x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x2816, .bf16⟩
  | .hbm, ⟨11, _⟩ => ⟨S16384x2816, .bf16⟩
  | .hbm, ⟨12, _⟩ => ⟨S16384x2816, .bf16⟩
  | .hbm, ⟨13, _⟩ => ⟨S16384x1024, .f32⟩
  | .hbm, ⟨14, _⟩ => ⟨S16384x1024, .bf16⟩
  | .hbm, ⟨15, _⟩ => ⟨S16384x2816, .bf16⟩
  | .hbm, ⟨16, _⟩ => ⟨S16384x2816, .bf16⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x2816, .bf16⟩
  | .local _ .vmem, ⟨28, _⟩ => ⟨S1024x2816, .bf16⟩
  | .local _ .vmem, ⟨29, _⟩ => ⟨S1024x2816, .bf16⟩
  | .local _ .vmem, ⟨30, _⟩ => ⟨S512x1024, .f32⟩
  | .local _ .vmem, ⟨31, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x2816 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2816 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== FfnDxRefIdeal.lean ====
abbrev S1x16384x1024 : Shape := ⟨3, ![1, 16384, 1024]⟩
abbrev S1024x2816 : Shape := ⟨2, ![1024, 2816]⟩
abbrev S2816x1024 : Shape := ⟨2, ![2816, 1024]⟩
abbrev S1x16384x2816 : Shape := ⟨3, ![1, 16384, 2816]⟩
abbrev S_ : Shape := ⟨0, ![]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x16384x1024, .f32⟩
  | .hbm, ⟨5, _⟩ => ⟨S1x16384x2816, .f32⟩
  | .hbm, ⟨6, _⟩ => ⟨S1x16384x2816, .f32⟩
  | .hbm, ⟨7, _⟩ => ⟨S1x16384x2816, .f32⟩
  | .hbm, ⟨8, _⟩ => ⟨S_, .f32⟩
  | .hbm, ⟨9, _⟩ => ⟨S1x16384x2816, .f32⟩
  | .hbm, ⟨10, _⟩ => ⟨S1x16384x2816, .f32⟩
  | .hbm, ⟨11, _⟩ => ⟨S_, .f32⟩
  | .hbm, ⟨12, _⟩ => ⟨S1x16384x2816, .f32⟩
  | .hbm, ⟨13, _⟩ => ⟨S1x16384x2816, .f32⟩
  | .hbm, ⟨14, _⟩ => ⟨S_, .f32⟩
  | .hbm, ⟨15, _⟩ => ⟨S1x16384x2816, .f32⟩
  | .hbm, ⟨16, _⟩ => ⟨S1x16384x2816, .f32⟩
  | .hbm, ⟨17, _⟩ => ⟨S1x16384x2816, .f32⟩
  | .hbm, ⟨18, _⟩ => ⟨S1x16384x2816, .f32⟩
  | .hbm, ⟨19, _⟩ => ⟨S1x16384x2816, .f32⟩
  | .hbm, ⟨20, _⟩ => ⟨S1x16384x2816, .f32⟩
  | .hbm, ⟨21, _⟩ => ⟨S1x16384x1024, .f32⟩
  | .hbm, ⟨22, _⟩ => ⟨S1x16384x2816, .f32⟩
  | .hbm, ⟨23, _⟩ => ⟨S1x16384x2816, .f32⟩
  | .hbm, ⟨24, _⟩ => ⟨S1x16384x2816, .f32⟩
  | .hbm, ⟨25, _⟩ => ⟨S1x16384x1024, .f32⟩
  | .hbm, ⟨26, _⟩ => ⟨S1x16384x2816, .f32⟩
  | .hbm, ⟨27, _⟩ => ⟨S1x16384x2816, .f32⟩
  | .hbm, ⟨28, _⟩ => ⟨S1x16384x2816, .f32⟩
  | .hbm, ⟨29, _⟩ => ⟨S1x16384x2816, .f32⟩
  | .hbm, ⟨30, _⟩ => ⟨S1x16384x1024, .f32⟩
  | .hbm, ⟨31, _⟩ => ⟨S1x16384x1024, .f32⟩
  | .hbm, ⟨32, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== MergeFwd.lean ====
abbrev S1x16384x1024 : Shape := ⟨3, ![1, 16384, 1024]⟩
abbrev S1x16384x512 : Shape := ⟨3, ![1, 16384, 512]⟩
abbrev S512x1024 : Shape := ⟨2, ![512, 1024]⟩
abbrev S1024x1024 : Shape := ⟨2, ![1024, 1024]⟩
abbrev S16384x1024 : Shape := ⟨2, ![16384, 1024]⟩
abbrev S16384x512 : Shape := ⟨2, ![16384, 512]⟩
abbrev S512x16384 : Shape := ⟨2, ![512, 16384]⟩
abbrev S512x512 : Shape := ⟨2, ![512, 512]⟩

abbrev nBuf : Space → Nat
  | .hbm => 28
  | .vmem => 22
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S16384x1024, .f32⟩
  | .hbm, ⟨12, _⟩ => ⟨S16384x512, .f32⟩
  | .hbm, ⟨13, _⟩ => ⟨S512x16384, .f32⟩
  | .hbm, ⟨14, _⟩ => ⟨S16384x512, .f32⟩
  | .hbm, ⟨15, _⟩ => ⟨S16384x512, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S512x16384, .bf16⟩
  | .hbm, ⟨20, _⟩ => ⟨S16384x512, .bf16⟩
  | .hbm, ⟨21, _⟩ => ⟨S16384x512, .bf16⟩
  | .hbm, ⟨22, _⟩ => ⟨S512x1024, .bf16⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S16384x1024, .f32⟩
  | .hbm, ⟨27, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdIdeal.lean ====
abbrev S1x16384x1024 : Shape := ⟨3, ![1, 16384, 1024]⟩
abbrev S1x16384x512 : Shape := ⟨3, ![1, 16384, 512]⟩
abbrev S512x1024 : Shape := ⟨2, ![512, 1024]⟩
abbrev S1024x1024 : Shape := ⟨2, ![1024, 1024]⟩
abbrev S16384x1024 : Shape := ⟨2, ![16384, 1024]⟩
abbrev S16384x512 : Shape := ⟨2, ![16384, 512]⟩
abbrev S512x16384 : Shape := ⟨2, ![512, 16384]⟩
abbrev S512x512 : Shape := ⟨2, ![512, 512]⟩

abbrev nBuf : Space → Nat
  | .hbm => 28
  | .vmem => 22
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S16384x1024, .f32⟩
  | .hbm, ⟨12, _⟩ => ⟨S16384x512, .f32⟩
  | .hbm, ⟨13, _⟩ => ⟨S512x16384, .f32⟩
  | .hbm, ⟨14, _⟩ => ⟨S16384x512, .f32⟩
  | .hbm, ⟨15, _⟩ => ⟨S16384x512, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S512x16384, .bf16⟩
  | .hbm, ⟨20, _⟩ => ⟨S16384x512, .bf16⟩
  | .hbm, ⟨21, _⟩ => ⟨S16384x512, .bf16⟩
  | .hbm, ⟨22, _⟩ => ⟨S512x1024, .bf16⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S16384x1024, .f32⟩
  | .hbm, ⟨27, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdRefIdeal.lean ====
abbrev S1x16384x1024 : Shape := ⟨3, ![1, 16384, 1024]⟩
abbrev S1x16384x512 : Shape := ⟨3, ![1, 16384, 512]⟩
abbrev S512x1024 : Shape := ⟨2, ![512, 1024]⟩
abbrev S1024x1024 : Shape := ⟨2, ![1024, 1024]⟩
abbrev S_ : Shape := ⟨0, ![]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1x16384x1024, .f32⟩
  | .hbm, ⟨12, _⟩ => ⟨S1x16384x1024, .f32⟩
  | .hbm, ⟨13, _⟩ => ⟨S_, .f32⟩
  | .hbm, ⟨14, _⟩ => ⟨S1x16384x1024, .f32⟩
  | .hbm, ⟨15, _⟩ => ⟨S1x16384x1024, .f32⟩
  | .hbm, ⟨16, _⟩ => ⟨S_, .f32⟩
  | .hbm, ⟨17, _⟩ => ⟨S1x16384x1024, .f32⟩
  | .hbm, ⟨18, _⟩ => ⟨S1x16384x1024, .f32⟩
  | .hbm, ⟨19, _⟩ => ⟨S1x16384x1024, .f32⟩
  | .hbm, ⟨20, _⟩ => ⟨S1x16384x1024, .f32⟩
  | .hbm, ⟨21, _⟩ => ⟨S1x16384x1024, .f32⟩
  | .hbm, ⟨22, _⟩ => ⟨S1x16384x1024, .f32⟩
  | .hbm, ⟨23, _⟩ => ⟨S_, .f32⟩
  | .hbm, ⟨24, _⟩ => ⟨S1x16384x1024, .f32⟩
  | .hbm, ⟨25, _⟩ => ⟨S1x16384x1024, .f32⟩
  | .hbm, ⟨26, _⟩ => ⟨S_, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S1x16384x1024, .f32⟩
  | .hbm, ⟨32, _⟩ => ⟨S1x16384x1024, .f32⟩
  | .hbm, ⟨33, _⟩ => ⟨S1x16384x1024, .f32⟩
  | .hbm, ⟨34, _⟩ => ⟨S_, .f32⟩
  | .hbm, ⟨35, _⟩ => ⟨S1x16384x1024, .f32⟩
  | .hbm, ⟨36, _⟩ => ⟨S1x16384x1024, .f32⟩
  | .hbm, ⟨37, _⟩ => ⟨S_, .f32⟩
  | .hbm, ⟨38, _⟩ => ⟨S1x16384x1024, .f32⟩
  | .hbm, ⟨39, _⟩ => ⟨S1x16384x1024, .f32⟩
  | .hbm, ⟨40, _⟩ => ⟨S1x16384x1024, .f32⟩
  | .hbm, ⟨41, _⟩ => ⟨S1x16384x1024, .f32⟩
  | .hbm, ⟨42, _⟩ => ⟨S1x16384x1024, .f32⟩
  | .hbm, ⟨43, _⟩ => ⟨S1x16384x1024, .f32⟩
  | .hbm, ⟨44, _⟩ => ⟨S1x16384x1024, .f32⟩
  | .hbm, ⟨45, _⟩ => ⟨S16384x1024, .f32⟩
  | .hbm, ⟨46, _⟩ => ⟨S16384x1024, .f32⟩
  | .hbm, ⟨47, _⟩ => ⟨S16384x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== NormFwd.lean ====
abbrev S1x16384x384 : Shape := ⟨3, ![1, 16384, 384]⟩
abbrev S384 : Shape := ⟨1, ![384]⟩
abbrev S16384x384 : Shape := ⟨2, ![16384, 384]⟩
abbrev S1x384 : Shape := ⟨2, ![1, 384]⟩
abbrev S1024x384 : Shape := ⟨2, ![1024, 384]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x16384x384, .f32⟩
  | .hbm, ⟨1, _⟩ => ⟨S384, .f32⟩
  | .hbm, ⟨2, _⟩ => ⟨S16384x384, .f32⟩
  | .hbm, ⟨3, _⟩ => ⟨S1x384, .f32⟩
  | .hbm, ⟨4, _⟩ => ⟨S16384x384, .bf16⟩
  | .local _ .vmem, ⟨0, _⟩ => ⟨S1024x384, .f32⟩
  | .local _ .vmem, ⟨1, _⟩ => ⟨S1024x384, .f32⟩
  | .local _ .vmem, ⟨2, _⟩ => ⟨S1x384, .f32⟩
  | .local _ .vmem, ⟨3, _⟩ => ⟨S1024x384, .bf16⟩
  | .local _ .vmem, ⟨4, _⟩ => ⟨S1024x384, .bf16⟩
  | _, _ => ⟨S1x16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S1x16384x384 : Shape := ⟨3, ![1, 16384, 384]⟩
abbrev S384 : Shape := ⟨1, ![384]⟩
abbrev S_ : Shape := ⟨0, ![]⟩
abbrev S1x16384 : Shape := ⟨2, ![1, 16384]⟩
abbrev S1x16384x1 : Shape := ⟨3, ![1, 16384, 1]⟩
abbrev S1x1x384 : Shape := ⟨3, ![1, 1, 384]⟩
abbrev S16384x384 : Shape := ⟨2, ![16384, 384]⟩

abbrev nBuf : Space → Nat
  | .hbm => 20
  | .vmem => 0
  | .smem => 0
  | _ => 0

abbrev bufTy : (tb : Table) → Fin (tcTables nBuf tb) → BufTy
  | .hbm, ⟨0, _⟩ => ⟨S1x16384x384, .f32⟩
  | .hbm, ⟨1, _⟩ => ⟨S384, .f32⟩
  | .hbm, ⟨2, _⟩ => ⟨S1x16384x384, .f32⟩
  | .hbm, ⟨3, _⟩ => ⟨S_, .f32⟩
  | .hbm, ⟨4, _⟩ => ⟨S1x16384, .f32⟩
  | .hbm, ⟨5, _⟩ => ⟨S1x16384x1, .f32⟩
  | .hbm, ⟨6, _⟩ => ⟨S_, .f32⟩
  | .hbm, ⟨7, _⟩ => ⟨S1x16384x1, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S1x16384x1, .f32⟩
  | .hbm, ⟨13, _⟩ => ⟨S1x16384x384, .f32⟩
  | .hbm, ⟨14, _⟩ => ⟨S1x16384x384, .f32⟩
  | .hbm, ⟨15, _⟩ => ⟨S1x1x384, .f32⟩
  | .hbm, ⟨16, _⟩ => ⟨S1x16384x384, .f32⟩
  | .hbm, ⟨17, _⟩ => ⟨S1x16384x384, .f32⟩
  | .hbm, ⟨18, _⟩ => ⟨S16384x384, .f32⟩
  | .hbm, ⟨19, _⟩ => ⟨S16384x384, .bf16⟩
  | _, _ => ⟨S1x16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== IntraFwdF.lean ====
abbrev S1x16384x8x128 : Shape := ⟨4, ![1, 16384, 8, 128]⟩
abbrev S1x16384x8x64 : Shape := ⟨4, ![1, 16384, 8, 64]⟩
abbrev S1x16384x1024 : Shape := ⟨3, ![1, 16384, 1024]⟩
abbrev S1x16384x512 : Shape := ⟨3, ![1, 16384, 512]⟩
abbrev S1x256x1024 : Shape := ⟨3, ![1, 256, 1024]⟩
abbrev S1x256x512 : Shape := ⟨3, ![1, 256, 512]⟩
abbrev S256x256 : Shape := ⟨2, ![256, 256]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩

abbrev nBuf : Space → Nat
  | .hbm => 7
  | .vmem => 8
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x1024, .f32⟩
  | .hbm, ⟨4, _⟩ => ⟨S1x16384x1024, .f32⟩
  | .hbm, ⟨5, _⟩ => ⟨S1x16384x512, .f32⟩
  | .hbm, ⟨6, _⟩ => ⟨S1x16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== IntraFwdFIdeal.lean ====
abbrev S1x16384x8x128 : Shape := ⟨4, ![1, 16384, 8, 128]⟩
abbrev S1x16384x8x64 : Shape := ⟨4, ![1, 16384, 8, 64]⟩
abbrev S1x16384x1024 : Shape := ⟨3, ![1, 16384, 1024]⟩
abbrev S1x16384x512 : Shape := ⟨3, ![1, 16384, 512]⟩
abbrev S1x256x1024 : Shape := ⟨3, ![1, 256, 1024]⟩
abbrev S1x256x512 : Shape := ⟨3, ![1, 256, 512]⟩
abbrev S256x256 : Shape := ⟨2, ![256, 256]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩

abbrev nBuf : Space → Nat
  | .hbm => 7
  | .vmem => 8
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x1024, .f32⟩
  | .hbm, ⟨4, _⟩ => ⟨S1x16384x1024, .f32⟩
  | .hbm, ⟨5, _⟩ => ⟨S1x16384x512, .f32⟩
  | .hbm, ⟨6, _⟩ => ⟨S1x16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== IntraFwdFRefIdeal.lean ====
abbrev S1x16384x8x128 : Shape := ⟨4, ![1, 16384, 8, 128]⟩
abbrev S1x16384x8x64 : Shape := ⟨4, ![1, 16384, 8, 64]⟩
abbrev S1x1024x16x8x128 : Shape := ⟨5, ![1, 1024, 16, 8, 128]⟩
abbrev S1x1024x16x8x64 : Shape := ⟨5, ![1, 1024, 16, 8, 64]⟩
abbrev S1x1024x8x16x16 : Shape := ⟨5, ![1, 1024, 8, 16, 16]⟩
abbrev S_ : Shape := ⟨0, ![]⟩
abbrev S16x16 : Shape := ⟨2, ![16, 16]⟩
abbrev S1x1024x8x64x16 : Shape := ⟨5, ![1, 1024, 8, 64, 16]⟩
abbrev S1x16384x512 : Shape := ⟨3, ![1, 16384, 512]⟩

abbrev nBuf : Space → Nat
  | .hbm => 27
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x1024x16x8x128, .f32⟩
  | .hbm, ⟨4, _⟩ => ⟨S1x1024x16x8x128, .f32⟩
  | .hbm, ⟨5, _⟩ => ⟨S1x1024x16x8x64, .f32⟩
  | .hbm, ⟨6, _⟩ => ⟨S1x1024x8x16x16, .f32⟩
  | .hbm, ⟨7, _⟩ => ⟨S_, .i1⟩
  | .hbm, ⟨8, _⟩ => ⟨S16x16, .i1⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S_, .i1⟩
  | .hbm, ⟨16, _⟩ => ⟨S16x16, .i1⟩
  | .hbm, ⟨17, _⟩ => ⟨S16x16, .i1⟩
  | .hbm, ⟨18, _⟩ => ⟨S_, .f32⟩
  | .hbm, ⟨19, _⟩ => ⟨S_, .f32⟩
  | .hbm, ⟨20, _⟩ => ⟨S1x1024x8x16x16, .i1⟩
  | .hbm, ⟨21, _⟩ => ⟨S1x1024x8x16x16, .f32⟩
  | .hbm, ⟨22, _⟩ => ⟨S1x1024x8x16x16, .f32⟩
  | .hbm, ⟨23, _⟩ => ⟨S1x1024x8x64x16, .f32⟩
  | .hbm, ⟨24, _⟩ => ⟨S1x1024x16x8x64, .f32⟩
  | .hbm, ⟨25, _⟩ => ⟨S1x16384x8x64, .f32⟩
  | .hbm, ⟨26, _⟩ => ⟨S1x16384x512, .f32⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v5 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩

abbrev nD : Nat := 1
abbrev τ : Topo := Topo.v7x

variable {F : FTy → Type} [FloatOps F]
-- ==== IntraFwdB.lean ====
abbrev S1x16384x8x128 : Shape := ⟨4, ![1, 16384, 8, 128]⟩
abbrev S1x16384x8x64 : Shape := ⟨4, ![1, 16384, 8, 64]⟩
abbrev S1x16384x1024 : Shape := ⟨3, ![1, 16384, 1024]⟩
abbrev S1x16384x512 : Shape := ⟨3, ![1, 16384, 512]⟩
abbrev S1x256x1024 : Shape := ⟨3, ![1, 256, 1024]⟩
abbrev S1x256x512 : Shape := ⟨3, ![1, 256, 512]⟩
abbrev S256x256 : Shape := ⟨2, ![256, 256]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩

abbrev nBuf : Space → Nat
  | .hbm => 7
  | .vmem => 8
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x1024, .f32⟩
  | .hbm, ⟨4, _⟩ => ⟨S1x16384x1024, .f32⟩
  | .hbm, ⟨5, _⟩ => ⟨S1x16384x512, .f32⟩
  | .hbm, ⟨6, _⟩ => ⟨S1x16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== IntraFwdBIdeal.lean ====
abbrev S1x16384x8x128 : Shape := ⟨4, ![1, 16384, 8, 128]⟩
abbrev S1x16384x8x64 : Shape := ⟨4, ![1, 16384, 8, 64]⟩
abbrev S1x16384x1024 : Shape := ⟨3, ![1, 16384, 1024]⟩
abbrev S1x16384x512 : Shape := ⟨3, ![1, 16384, 512]⟩
abbrev S1x256x1024 : Shape := ⟨3, ![1, 256, 1024]⟩
abbrev S1x256x512 : Shape := ⟨3, ![1, 256, 512]⟩
abbrev S256x256 : Shape := ⟨2, ![256, 256]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩

abbrev nBuf : Space → Nat
  | .hbm => 7
  | .vmem => 8
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x1024, .f32⟩
  | .hbm, ⟨4, _⟩ => ⟨S1x16384x1024, .f32⟩
  | .hbm, ⟨5, _⟩ => ⟨S1x16384x512, .f32⟩
  | .hbm, ⟨6, _⟩ => ⟨S1x16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== IntraFwdBRefIdeal.lean ====
abbrev S1x16384x8x128 : Shape := ⟨4, ![1, 16384, 8, 128]⟩
abbrev S1x16384x8x64 : Shape := ⟨4, ![1, 16384, 8, 64]⟩
abbrev S1x1024x16x8x128 : Shape := ⟨5, ![1, 1024, 16, 8, 128]⟩
abbrev S1x1024x16x8x64 : Shape := ⟨5, ![1, 1024, 16, 8, 64]⟩
abbrev S1x1024x8x16x16 : Shape := ⟨5, ![1, 1024, 8, 16, 16]⟩
abbrev S_ : Shape := ⟨0, ![]⟩
abbrev S16x16 : Shape := ⟨2, ![16, 16]⟩
abbrev S1x1024x8x64x16 : Shape := ⟨5, ![1, 1024, 8, 64, 16]⟩
abbrev S1x16384x512 : Shape := ⟨3, ![1, 16384, 512]⟩

abbrev nBuf : Space → Nat
  | .hbm => 31
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x128, .f32⟩
  | .hbm, ⟨2, _⟩ => ⟨S1x16384x8x64, .f32⟩
  | .hbm, ⟨3, _⟩ => ⟨S1x16384x8x128, .f32⟩
  | .hbm, ⟨4, _⟩ => ⟨S1x16384x8x128, .f32⟩
  | .hbm, ⟨5, _⟩ => ⟨S1x16384x8x64, .f32⟩
  | .hbm, ⟨6, _⟩ => ⟨S1x1024x16x8x128, .f32⟩
  | .hbm, ⟨7, _⟩ => ⟨S1x1024x16x8x128, .f32⟩
  | .hbm, ⟨8, _⟩ => ⟨S1x1024x16x8x64, .f32⟩
  | .hbm, ⟨9, _⟩ => ⟨S1x1024x8x16x16, .f32⟩
  | .hbm, ⟨10, _⟩ => ⟨S_, .i1⟩
  | .hbm, ⟨11, _⟩ => ⟨S16x16, .i1⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i32⟩
  | .hbm, ⟨17, _⟩ => ⟨S16x16, .i1⟩
  | .hbm, ⟨18, _⟩ => ⟨S_, .i1⟩
  | .hbm, ⟨19, _⟩ => ⟨S16x16, .i1⟩
  | .hbm, ⟨20, _⟩ => ⟨S16x16, .i1⟩
  | .hbm, ⟨21, _⟩ => ⟨S_, .f32⟩
  | .hbm, ⟨22, _⟩ => ⟨S_, .f32⟩
  | .hbm, ⟨23, _⟩ => ⟨S1x1024x8x16x16, .i1⟩
  | .hbm, ⟨24, _⟩ => ⟨S1x1024x8x16x16, .f32⟩
  | .hbm, ⟨25, _⟩ => ⟨S1x1024x8x16x16, .f32⟩
  | .hbm, ⟨26, _⟩ => ⟨S1x1024x8x64x16, .f32⟩
  | .hbm, ⟨27, _⟩ => ⟨S1x1024x16x8x64, .f32⟩
  | .hbm, ⟨28, _⟩ => ⟨S1x16384x8x64, .f32⟩
  | .hbm, ⟨29, _⟩ => ⟨S1x16384x8x64, .f32⟩
  | .hbm, ⟨30, _⟩ => ⟨S1x16384x512, .f32⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_call3_v0 : Ref sig .tc := ⟨.hbm, 12, rfl⟩
abbrev main_call3_c : Ref sig .tc := ⟨.hbm, 13, rfl⟩
abbrev main_call3_v1 : Ref sig .tc := ⟨.hbm, 14, rfl⟩
abbrev main_call3_v2 : Ref sig .tc := ⟨.hbm, 15, rfl⟩
abbrev main_call3_v3 : Ref sig .tc := ⟨.hbm, 16, rfl⟩
abbrev main_call3_v4 : Ref sig .tc := ⟨.hbm, 17, rfl⟩
abbrev main_call3_c_0 : Ref sig .tc := ⟨.hbm, 18, rfl⟩
abbrev main_call3_v5 : Ref sig .tc := ⟨.hbm, 19, rfl⟩
abbrev main_v8 : Ref sig .tc := ⟨.hbm, 20, rfl⟩
abbrev main_cst : Ref sig .tc := ⟨.hbm, 21, rfl⟩
abbrev main_call4_v0 : Ref sig .tc := ⟨.hbm, 22, rfl⟩
abbrev main_call4_v1 : Ref sig .tc := ⟨.hbm, 23, rfl⟩
abbrev main_call4_v2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩

abbrev nD : Nat := 1
abbrev τ : Topo := Topo.v7x

variable {F : FTy → Type} [FloatOps F]
-- ==== FfnUp.lean ====
abbrev S1x16384x1024 : Shape := ⟨3, ![1, 16384, 1024]⟩
abbrev S1024x2816 : Shape := ⟨2, ![1024, 2816]⟩
abbrev S2816x1024 : Shape := ⟨2, ![2816, 1024]⟩
abbrev S16384x1024 : Shape := ⟨2, ![16384, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x1024, .bf16⟩
  | .hbm, ⟨6, _⟩ => ⟨S1024x2816, .bf16⟩
  | .hbm, ⟨7, _⟩ => ⟨S1024x2816, .bf16⟩
  | .hbm, ⟨8, _⟩ => ⟨S16384x2816, .bf16⟩
  | .hbm, ⟨9, _⟩ => ⟨S16384x2816, .bf16⟩
  | .hbm, ⟨10, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpIdeal.lean ====
abbrev S1x16384x1024 : Shape := ⟨3, ![1, 16384, 1024]⟩
abbrev S1024x2816 : Shape := ⟨2, ![1024, 2816]⟩
abbrev S2816x1024 : Shape := ⟨2, ![2816, 1024]⟩
abbrev S16384x1024 : Shape := ⟨2, ![16384, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x1024, .bf16⟩
  | .hbm, ⟨6, _⟩ => ⟨S1024x2816, .bf16⟩
  | .hbm, ⟨7, _⟩ => ⟨S1024x2816, .bf16⟩
  | .hbm, ⟨8, _⟩ => ⟨S16384x2816, .bf16⟩
  | .hbm, ⟨9, _⟩ => ⟨S16384x2816, .bf16⟩
  | .hbm, ⟨10, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S1x16384x1024 : Shape := ⟨3, ![1, 16384, 1024]⟩
abbrev S1024x2816 : Shape := ⟨2, ![1024, 2816]⟩
abbrev S2816x1024 : Shape := ⟨2, ![2816, 1024]⟩
abbrev S1x16384x2816 : Shape := ⟨3, ![1, 16384, 2816]⟩
abbrev S_ : Shape := ⟨0, ![]⟩
abbrev S16384x2816 : Shape := ⟨2, ![16384, 2816]⟩

abbrev nBuf : Space → Nat
  | .hbm => 22
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x16384x2816, .f32⟩
  | .hbm, ⟨5, _⟩ => ⟨S1x16384x2816, .f32⟩
  | .hbm, ⟨6, _⟩ => ⟨S1x16384x2816, .f32⟩
  | .hbm, ⟨7, _⟩ => ⟨S1x16384x2816, .f32⟩
  | .hbm, ⟨8, _⟩ => ⟨S_, .f32⟩
  | .hbm, ⟨9, _⟩ => ⟨S1x16384x2816, .f32⟩
  | .hbm, ⟨10, _⟩ => ⟨S1x16384x2816, .f32⟩
  | .hbm, ⟨11, _⟩ => ⟨S_, .f32⟩
  | .hbm, ⟨12, _⟩ => ⟨S1x16384x2816, .f32⟩
  | .hbm, ⟨13, _⟩ => ⟨S1x16384x2816, .f32⟩
  | .hbm, ⟨14, _⟩ => ⟨S1x16384x2816, .f32⟩
  | .hbm, ⟨15, _⟩ => ⟨S1x16384x2816, .f32⟩
  | .hbm, ⟨16, _⟩ => ⟨S16384x2816, .f32⟩
  | .hbm, ⟨17, _⟩ => ⟨S16384x2816, .bf16⟩
  | .hbm, ⟨18, _⟩ => ⟨S16384x2816, .f32⟩
  | .hbm, ⟨19, _⟩ => ⟨S16384x2816, .bf16⟩
  | .hbm, ⟨20, _⟩ => ⟨S16384x2816, .f32⟩
  | .hbm, ⟨21, _⟩ => ⟨S16384x2816, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Loss.lean ====
abbrev S1x16384x1024 : Shape := ⟨3, ![1, 16384, 1024]⟩
abbrev S16384x1024 : Shape := ⟨2, ![16384, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S16384x1024, .f32⟩
  | .hbm, ⟨3, _⟩ => ⟨S16384x1024, .f32⟩
  | .hbm, ⟨4, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== LossIdeal.lean ====
abbrev S1x16384x1024 : Shape := ⟨3, ![1, 16384, 1024]⟩
abbrev S16384x1024 : Shape := ⟨2, ![16384, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S16384x1024, .f32⟩
  | .hbm, ⟨3, _⟩ => ⟨S16384x1024, .f32⟩
  | .hbm, ⟨4, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== LossRefIdeal.lean ====
abbrev S1x16384x1024 : Shape := ⟨3, ![1, 16384, 1024]⟩
abbrev S_ : Shape := ⟨0, ![]⟩
abbrev S1x16384 : Shape := ⟨2, ![1, 16384]⟩
abbrev S8x128 : Shape := ⟨2, ![8, 128]⟩

abbrev nBuf : Space → Nat
  | .hbm => 14
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1x16384x1024, .f32⟩
  | .hbm, ⟨4, _⟩ => ⟨S_, .f32⟩
  | .hbm, ⟨5, _⟩ => ⟨S1x16384, .f32⟩
  | .hbm, ⟨6, _⟩ => ⟨S_, .f32⟩
  | .hbm, ⟨7, _⟩ => ⟨S1x16384, .f32⟩
  | .hbm, ⟨8, _⟩ => ⟨S1x16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x128, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== GatedNormFwd.lean ====
abbrev S1x16384x8x64 : Shape := ⟨4, ![1, 16384, 8, 64]⟩
abbrev S1x16384x512 : Shape := ⟨3, ![1, 16384, 512]⟩
abbrev S64 : Shape := ⟨1, ![64]⟩
abbrev S16384x512 : Shape := ⟨2, ![16384, 512]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S256x512 : Shape := ⟨2, ![256, 512]⟩
abbrev S512x512 : Shape := ⟨2, ![512, 512]⟩

abbrev nBuf : Space → Nat
  | .hbm => 10
  | .vmem => 7
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x512, .f32⟩
  | .hbm, ⟨2, _⟩ => ⟨S64, .f32⟩
  | .hbm, ⟨3, _⟩ => ⟨S16384x512, .f32⟩
  | .hbm, ⟨4, _⟩ => ⟨S16384x512, .f32⟩
  | .hbm, ⟨5, _⟩ => ⟨S1x64, .f32⟩
  | .hbm, ⟨6, _⟩ => ⟨S1x1x1x64, .f32⟩
  | .hbm, ⟨7, _⟩ => ⟨S1x1x8x64, .f32⟩
  | .hbm, ⟨8, _⟩ => ⟨S1x512, .f32⟩
  | .hbm, ⟨9, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatedNormFwdRefIdeal.lean ====
abbrev S1x16384x8x64 : Shape := ⟨4, ![1, 16384, 8, 64]⟩
abbrev S1x16384x512 : Shape := ⟨3, ![1, 16384, 512]⟩
abbrev S64 : Shape := ⟨1, ![64]⟩
abbrev S_ : Shape := ⟨0, ![]⟩
abbrev S1x16384x8 : Shape := ⟨3, ![1, 16384, 8]⟩
abbrev S1x16384x8x1 : Shape := ⟨4, ![1, 16384, 8, 1]⟩
abbrev S1x1x1x64 : Shape := ⟨4, ![1, 1, 1, 64]⟩
abbrev S16384x512 : Shape := ⟨2, ![16384, 512]⟩

abbrev nBuf : Space → Nat
  | .hbm => 32
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x512, .f32⟩
  | .hbm, ⟨2, _⟩ => ⟨S64, .f32⟩
  | .hbm, ⟨3, _⟩ => ⟨S1x16384x8x64, .f32⟩
  | .hbm, ⟨4, _⟩ => ⟨S_, .f32⟩
  | .hbm, ⟨5, _⟩ => ⟨S1x16384x8, .f32⟩
  | .hbm, ⟨6, _⟩ => ⟨S1x16384x8x1, .f32⟩
  | .hbm, ⟨7, _⟩ => ⟨S_, .f32⟩
  | .hbm, ⟨8, _⟩ => ⟨S1x16384x8x1, .f32⟩
  | .hbm, ⟨9, _⟩ => ⟨S1x16384x8x1, .f32⟩
  | .hbm, ⟨10, _⟩ => ⟨S_, .f32⟩
  | .hbm, ⟨11, _⟩ => ⟨S1x16384x8x1, .f32⟩
  | .hbm, ⟨12, _⟩ => ⟨S1x16384x8x1, .f32⟩
  | .hbm, ⟨13, _⟩ => ⟨S1x16384x8x1, .f32⟩
  | .hbm, ⟨14, _⟩ => ⟨S1x16384x8x64, .f32⟩
  | .hbm, ⟨15, _⟩ => ⟨S1x16384x8x64, .f32⟩
  | .hbm, ⟨16, _⟩ => ⟨S1x1x1x64, .f32⟩
  | .hbm, ⟨17, _⟩ => ⟨S1x16384x8x64, .f32⟩
  | .hbm, ⟨18, _⟩ => ⟨S1x16384x8x64, .f32⟩
  | .hbm, ⟨19, _⟩ => ⟨S1x16384x8x64, .f32⟩
  | .hbm, ⟨20, _⟩ => ⟨S1x16384x8x64, .f32⟩
  | .hbm, ⟨21, _⟩ => ⟨S1x16384x8x64, .f32⟩
  | .hbm, ⟨22, _⟩ => ⟨S_, .f32⟩
  | .hbm, ⟨23, _⟩ => ⟨S1x16384x8x64, .f32⟩
  | .hbm, ⟨24, _⟩ => ⟨S1x16384x8x64, .f32⟩
  | .hbm, ⟨25, _⟩ => ⟨S_, .f32⟩
  | .hbm, ⟨26, _⟩ => ⟨S1x16384x8x64, .f32⟩
  | .hbm, ⟨27, _⟩ => ⟨S1x16384x8x64, .f32⟩
  | .hbm, ⟨28, _⟩ => ⟨S1x16384x8x64, .f32⟩
  | .hbm, ⟨29, _⟩ => ⟨S1x16384x8x64, .f32⟩
  | .hbm, ⟨30, _⟩ => ⟨S1x16384x512, .f32⟩
  | .hbm, ⟨31, _⟩ => ⟨S16384x512, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== PrepFwdF.lean ====
abbrev S1x16384x1024 : Shape := ⟨3, ![1, 16384, 1024]⟩
abbrev S1024 : Shape := ⟨1, ![1024]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1x16x1024 : Shape := ⟨3, ![1, 16, 1024]⟩
abbrev S256x256 : Shape := ⟨2, ![256, 256]⟩
abbrev S16x256 : Shape := ⟨2, ![16, 256]⟩
abbrev S256x1024 : Shape := ⟨2, ![256, 1024]⟩
abbrev S1x1024 : Shape := ⟨2, ![1, 1024]⟩
abbrev S16x1024 : Shape := ⟨2, ![16, 1024]⟩

abbrev nBuf : Space → Nat
  | .hbm => 8
  | .vmem => 13
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1x1x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x16x1024, .f32⟩
  | .local _ .vmem, ⟨12, _⟩ => ⟨S1x16x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PrepFwdFRefIdeal.lean ====
abbrev S1x16384x1024 : Shape := ⟨3, ![1, 16384, 1024]⟩
abbrev S1024 : Shape := ⟨1, ![1024]⟩
abbrev S8x128 : Shape := ⟨2, ![8, 128]⟩
abbrev S1x16384x8x128 : Shape := ⟨4, ![1, 16384, 8, 128]⟩
abbrev S_ : Shape := ⟨0, ![]⟩
abbrev S1x1x8x128 : Shape := ⟨4, ![1, 1, 8, 128]⟩
abbrev S1x1024x16x8x128 : Shape := ⟨5, ![1, 1024, 16, 8, 128]⟩
abbrev S1x1024x1x8x128 : Shape := ⟨5, ![1, 1024, 1, 8, 128]⟩
abbrev S1x1024x8x128 : Shape := ⟨4, ![1, 1024, 8, 128]⟩
abbrev S1x1024x1024 : Shape := ⟨3, ![1, 1024, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S8x128, .f32⟩
  | .hbm, ⟨4, _⟩ => ⟨S1x16384x8x128, .f32⟩
  | .hbm, ⟨5, _⟩ => ⟨S_, .f32⟩
  | .hbm, ⟨6, _⟩ => ⟨S8x128, .f32⟩
  | .hbm, ⟨7, _⟩ => ⟨S8x128, .f32⟩
  | .hbm, ⟨8, _⟩ => ⟨S1x16384x8x128, .f32⟩
  | .hbm, ⟨9, _⟩ => ⟨S1x16384x8x128, .f32⟩
  | .hbm, ⟨10, _⟩ => ⟨S_, .f32⟩
  | .hbm, ⟨11, _⟩ => ⟨S1x16384x8x128, .f32⟩
  | .hbm, ⟨12, _⟩ => ⟨S1x16384x8x128, .f32⟩
  | .hbm, ⟨13, _⟩ => ⟨S_, .f32⟩
  | .hbm, ⟨14, _⟩ => ⟨S1x16384x8x128, .f32⟩
  | .hbm, ⟨15, _⟩ => ⟨S1x16384x8x128, .f32⟩
  | .hbm, ⟨16, _⟩ => ⟨S1x1x8x128, .f32⟩
  | .hbm, ⟨17, _⟩ => ⟨S1x16384x8x128, .f32⟩
  | .hbm, ⟨18, _⟩ => ⟨S1x16384x8x128, .f32⟩
  | .hbm, ⟨19, _⟩ => ⟨S1x1x8x128, .f32⟩
  | .hbm, ⟨20, _⟩ => ⟨S1x16384x8x128, .f32⟩
  | .hbm, ⟨21, _⟩ => ⟨S1x16384x8x128, .f32⟩
  | .hbm, ⟨22, _⟩ => ⟨S_, .f32⟩
  | .hbm, ⟨23, _⟩ => ⟨S1x16384x8x128, .f32⟩
  | .hbm, ⟨24, _⟩ => ⟨S1x16384x8x128, .f32⟩
  | .hbm, ⟨25, _⟩ => ⟨S1x16384x8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S1x16384x8x128, .f32⟩
  | .hbm, ⟨30, _⟩ => ⟨S1x16384x8x128, .f32⟩
  | .hbm, ⟨31, _⟩ => ⟨S1x16384x8x128, .f32⟩
  | .hbm, ⟨32, _⟩ => ⟨S_, .f32⟩
  | .hbm, ⟨33, _⟩ => ⟨S1x16384x8x128, .f32⟩
  | .hbm, ⟨34, _⟩ => ⟨S1x16384x8x128, .f32⟩
  | .hbm, ⟨35, _⟩ => ⟨S_, .f32⟩
  | .hbm, ⟨36, _⟩ => ⟨S1x16384x8x128, .f32⟩
  | .hbm, ⟨37, _⟩ => ⟨S1x16384x8x128, .f32⟩
  | .hbm, ⟨38, _⟩ => ⟨S1x1x8x128, .f32⟩
  | .hbm, ⟨39, _⟩ => ⟨S1x16384x8x128, .f32⟩
  | .hbm, ⟨40, _⟩ => ⟨S1x16384x8x128, .f32⟩
  | .hbm, ⟨41, _⟩ => ⟨S1x16384x8x128, .f32⟩
  | .hbm, ⟨42, _⟩ => ⟨S1x1024x16x8x128, .f32⟩
  | .hbm, ⟨43, _⟩ => ⟨S1x1024x16x8x128, .f32⟩
  | .hbm, ⟨44, _⟩ => ⟨S1x1024x16x8x128, .f32⟩
  | .hbm, ⟨45, _⟩ => ⟨S_, .f32⟩
  | .hbm, ⟨46, _⟩ => ⟨S_, .f32⟩
  | .hbm, ⟨47, _⟩ => ⟨S1x1024x16x8x128, .f32⟩
  | .hbm, ⟨48, _⟩ => ⟨S1x1024x1x8x128, .f32⟩
  | .hbm, ⟨49, _⟩ => ⟨S1x1024x16x8x128, .f32⟩
  | .hbm, ⟨50, _⟩ => ⟨S1x1024x16x8x128, .f32⟩
  | .hbm, ⟨51, _⟩ => ⟨S1x16384x8x128, .f32⟩
  | .hbm, ⟨52, _⟩ => ⟨S1x1024x16x8x128, .f32⟩
  | .hbm, ⟨53, _⟩ => ⟨S1x1024x16x8x128, .f32⟩
  | .hbm, ⟨54, _⟩ => ⟨S1x1024x16x8x128, .f32⟩
  | .hbm, ⟨55, _⟩ => ⟨S1x16384x8x128, .f32⟩
  | .hbm, ⟨56, _⟩ => ⟨S1x1024x16x8x128, .f32⟩
  | .hbm, ⟨57, _⟩ => ⟨S1x1024x16x8x128, .f32⟩
  | .hbm, ⟨58, _⟩ => ⟨S1x1024x16x8x128, .f32⟩
  | .hbm, ⟨59, _⟩ => ⟨S1x1024x16x8x128, .f32⟩
  | .hbm, ⟨60, _⟩ => ⟨S1x16384x8x128, .f32⟩
  | .hbm, ⟨61, _⟩ => ⟨S1x1024x1x8x128, .f32⟩
  | .hbm, ⟨62, _⟩ => ⟨S1x1024x8x128, .f32⟩
  | .hbm, ⟨63, _⟩ => ⟨S1x16384x1024, .f32⟩
  | .hbm, ⟨64, _⟩ => ⟨S1x16384x1024, .f32⟩
  | .hbm, ⟨65, _⟩ => ⟨S1x16384x1024, .f32⟩
  | .hbm, ⟨66, _⟩ => ⟨S1x1024x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_call0_cst : Ref sig .tc := ⟨.hbm, 45, rfl⟩
abbrev main_call0_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== PrepFwdB.lean ====
abbrev S1x16384x1024 : Shape := ⟨3, ![1, 16384, 1024]⟩
abbrev S1024 : Shape := ⟨1, ![1024]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1x16x1024 : Shape := ⟨3, ![1, 16, 1024]⟩
abbrev S256x256 : Shape := ⟨2, ![256, 256]⟩
abbrev S16x256 : Shape := ⟨2, ![16, 256]⟩
abbrev S256x1024 : Shape := ⟨2, ![256, 1024]⟩
abbrev S1x1024 : Shape := ⟨2, ![1, 1024]⟩
abbrev S16x1024 : Shape := ⟨2, ![16, 1024]⟩

abbrev nBuf : Space → Nat
  | .hbm => 8
  | .vmem => 13
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1x1x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x16x1024, .f32⟩
  | .local _ .vmem, ⟨12, _⟩ => ⟨S1x16x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PrepFwdBRefIdeal.lean ====
abbrev S1x16384x1024 : Shape := ⟨3, ![1, 16384, 1024]⟩
abbrev S1024 : Shape := ⟨1, ![1024]⟩
abbrev S8x128 : Shape := ⟨2, ![8, 128]⟩
abbrev S1x16384x8x128 : Shape := ⟨4, ![1, 16384, 8, 128]⟩
abbrev S_ : Shape := ⟨0, ![]⟩
abbrev S1x1x8x128 : Shape := ⟨4, ![1, 1, 8, 128]⟩
abbrev S1x1024x16x8x128 : Shape := ⟨5, ![1, 1024, 16, 8, 128]⟩
abbrev S1x1024x1x8x128 : Shape := ⟨5, ![1, 1024, 1, 8, 128]⟩
abbrev S1x1024x8x128 : Shape := ⟨4, ![1, 1024, 8, 128]⟩
abbrev S1x1024x1024 : Shape := ⟨3, ![1, 1024, 1024]⟩

abbrev nBuf : Space → Nat
  | .hbm => 74
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S8x128, .f32⟩
  | .hbm, ⟨4, _⟩ => ⟨S1x16384x8x128, .f32⟩
  | .hbm, ⟨5, _⟩ => ⟨S_, .f32⟩
  | .hbm, ⟨6, _⟩ => ⟨S8x128, .f32⟩
  | .hbm, ⟨7, _⟩ => ⟨S8x128, .f32⟩
  | .hbm, ⟨8, _⟩ => ⟨S1x16384x8x128, .f32⟩
  | .hbm, ⟨9, _⟩ => ⟨S1x16384x8x128, .f32⟩
  | .hbm, ⟨10, _⟩ => ⟨S_, .f32⟩
  | .hbm, ⟨11, _⟩ => ⟨S1x16384x8x128, .f32⟩
  | .hbm, ⟨12, _⟩ => ⟨S1x16384x8x128, .f32⟩
  | .hbm, ⟨13, _⟩ => ⟨S_, .f32⟩
  | .hbm, ⟨14, _⟩ => ⟨S1x16384x8x128, .f32⟩
  | .hbm, ⟨15, _⟩ => ⟨S1x16384x8x128, .f32⟩
  | .hbm, ⟨16, _⟩ => ⟨S1x1x8x128, .f32⟩
  | .hbm, ⟨17, _⟩ => ⟨S1x16384x8x128, .f32⟩
  | .hbm, ⟨18, _⟩ => ⟨S1x16384x8x128, .f32⟩
  | .hbm, ⟨19, _⟩ => ⟨S1x1x8x128, .f32⟩
  | .hbm, ⟨20, _⟩ => ⟨S1x16384x8x128, .f32⟩
  | .hbm, ⟨21, _⟩ => ⟨S1x16384x8x128, .f32⟩
  | .hbm, ⟨22, _⟩ => ⟨S_, .f32⟩
  | .hbm, ⟨23, _⟩ => ⟨S1x16384x8x128, .f32⟩
  | .hbm, ⟨24, _⟩ => ⟨S1x16384x8x128, .f32⟩
  | .hbm, ⟨25, _⟩ => ⟨S1x16384x8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S1x16384x8x128, .f32⟩
  | .hbm, ⟨30, _⟩ => ⟨S1x16384x8x128, .f32⟩
  | .hbm, ⟨31, _⟩ => ⟨S1x16384x8x128, .f32⟩
  | .hbm, ⟨32, _⟩ => ⟨S_, .f32⟩
  | .hbm, ⟨33, _⟩ => ⟨S1x16384x8x128, .f32⟩
  | .hbm, ⟨34, _⟩ => ⟨S1x16384x8x128, .f32⟩
  | .hbm, ⟨35, _⟩ => ⟨S_, .f32⟩
  | .hbm, ⟨36, _⟩ => ⟨S1x16384x8x128, .f32⟩
  | .hbm, ⟨37, _⟩ => ⟨S1x16384x8x128, .f32⟩
  | .hbm, ⟨38, _⟩ => ⟨S1x1x8x128, .f32⟩
  | .hbm, ⟨39, _⟩ => ⟨S1x16384x8x128, .f32⟩
  | .hbm, ⟨40, _⟩ => ⟨S1x16384x8x128, .f32⟩
  | .hbm, ⟨41, _⟩ => ⟨S1x16384x8x128, .f32⟩
  | .hbm, ⟨42, _⟩ => ⟨S1x16384x8x128, .f32⟩
  | .hbm, ⟨43, _⟩ => ⟨S1x16384x8x128, .f32⟩
  | .hbm, ⟨44, _⟩ => ⟨S1x16384x8x128, .f32⟩
  | .hbm, ⟨45, _⟩ => ⟨S1x1024x16x8x128, .f32⟩
  | .hbm, ⟨46, _⟩ => ⟨S1x1024x16x8x128, .f32⟩
  | .hbm, ⟨47, _⟩ => ⟨S1x1024x16x8x128, .f32⟩
  | .hbm, ⟨48, _⟩ => ⟨S_, .f32⟩
  | .hbm, ⟨49, _⟩ => ⟨S_, .f32⟩
  | .hbm, ⟨50, _⟩ => ⟨S1x1024x16x8x128, .f32⟩
  | .hbm, ⟨51, _⟩ => ⟨S1x1024x1x8x128, .f32⟩
  | .hbm, ⟨52, _⟩ => ⟨S1x1024x16x8x128, .f32⟩
  | .hbm, ⟨53, _⟩ => ⟨S1x1024x16x8x128, .f32⟩
  | .hbm, ⟨54, _⟩ => ⟨S1x16384x8x128, .f32⟩
  | .hbm, ⟨55, _⟩ => ⟨S1x16384x8x128, .f32⟩
  | .hbm, ⟨56, _⟩ => ⟨S1x1024x16x8x128, .f32⟩
  | .hbm, ⟨57, _⟩ => ⟨S1x1024x16x8x128, .f32⟩
  | .hbm, ⟨58, _⟩ => ⟨S1x1024x16x8x128, .f32⟩
  | .hbm, ⟨59, _⟩ => ⟨S1x16384x8x128, .f32⟩
  | .hbm, ⟨60, _⟩ => ⟨S1x16384x8x128, .f32⟩
  | .hbm, ⟨61, _⟩ => ⟨S1x1024x16x8x128, .f32⟩
  | .hbm, ⟨62, _⟩ => ⟨S1x1024x16x8x128, .f32⟩
  | .hbm, ⟨63, _⟩ => ⟨S1x1024x16x8x128, .f32⟩
  | .hbm, ⟨64, _⟩ => ⟨S1x1024x16x8x128, .f32⟩
  | .hbm, ⟨65, _⟩ => ⟨S1x16384x8x128, .f32⟩
  | .hbm, ⟨66, _⟩ => ⟨S1x16384x8x128, .f32⟩
  | .hbm, ⟨67, _⟩ => ⟨S1x1024x1x8x128, .f32⟩
  | .hbm, ⟨68, _⟩ => ⟨S1x1024x8x128, .f32⟩
  | .hbm, ⟨69, _⟩ => ⟨S1x1024x8x128, .f32⟩
  | .hbm, ⟨70, _⟩ => ⟨S1x16384x1024, .f32⟩
  | .hbm, ⟨71, _⟩ => ⟨S1x16384x1024, .f32⟩
  | .hbm, ⟨72, _⟩ => ⟨S1x16384x1024, .f32⟩
  | .hbm, ⟨73, _⟩ => ⟨S1x1024x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call3_call0_cst : Ref sig .tc := ⟨.hbm, 48, rfl⟩
abbrev main_call3_call0_v0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩

abbrev nD : Nat := 1
abbrev τ : Topo := Topo.v7x

variable {F : FTy → Type} [FloatOps F]
-- ==== MlaDelta.lean ====
abbrev S1x16384x8x96 : Shape := ⟨4, ![1, 16384, 8, 96]⟩
abbrev S1x16384x8x64 : Shape := ⟨4, ![1, 16384, 8, 64]⟩
abbrev S1x16384x512 : Shape := ⟨3, ![1, 16384, 512]⟩
abbrev S1x8x16384x16384 : Shape := ⟨4, ![1, 8, 16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S16384x8x64 : Shape := ⟨3, ![16384, 8, 64]⟩
abbrev S8x64x16384 : Shape := ⟨3, ![8, 64, 16384]⟩
abbrev S16384x8x96 : Shape := ⟨3, ![16384, 8, 96]⟩
abbrev S8x96x16384 : Shape := ⟨3, ![8, 96, 16384]⟩
abbrev S8x16384x96 : Shape := ⟨3, ![8, 16384, 96]⟩
abbrev S8x16x16384 : Shape := ⟨3, ![8, 16, 16384]⟩
abbrev S8x80x16384 : Shape := ⟨3, ![8, 80, 16384]⟩
abbrev S16384x512 : Shape := ⟨2, ![16384, 512]⟩
abbrev S512x16384 : Shape := ⟨2, ![512, 16384]⟩
abbrev S8x1x16384 : Shape := ⟨3, ![8, 1, 16384]⟩
abbrev S1x64x2048 : Shape := ⟨3, ![1, 64, 2048]⟩
abbrev S1x1x2048 : Shape := ⟨3, ![1, 1, 2048]⟩
abbrev S64x2048 : Shape := ⟨2, ![64, 2048]⟩
abbrev S2048 : Shape := ⟨1, ![2048]⟩
abbrev S1x2048 : Shape := ⟨2, ![1, 2048]⟩

abbrev nBuf : Space → Nat
  | .hbm => 45
  | .vmem => 6
  | .smem => 0
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S1x16384x512, .f32⟩
  | .hbm, ⟨4, _⟩ => ⟨S1x8x16384x16384, .f32⟩
  | .hbm, ⟨5, _⟩ => ⟨S_, .f32⟩
  | .hbm, ⟨6, _⟩ => ⟨S_, .f32⟩
  | .hbm, ⟨7, _⟩ => ⟨S1x8x16384x16384, .f32⟩
  | .hbm, ⟨8, _⟩ => ⟨S1x8x16384x16384, .f32⟩
  | .hbm, ⟨9, _⟩ => ⟨S_, .f32⟩
  | .hbm, ⟨10, _⟩ => ⟨S1x8x16384, .f32⟩
  | .hbm, ⟨11, _⟩ => ⟨S_, .f32⟩
  | .hbm, ⟨12, _⟩ => ⟨S1x8x16384, .f32⟩
  | .hbm, ⟨13, _⟩ => ⟨S1x8x16384, .f32⟩
  | .hbm, ⟨14, _⟩ => ⟨S1x8x16384x1, .f32⟩
  | .hbm, ⟨15, _⟩ => ⟨S1x8x16384x16384, .f32⟩
  | .hbm, ⟨16, _⟩ => ⟨S1x8x16384x16384, .f32⟩
  | .hbm, ⟨17, _⟩ => ⟨S1x8x16384x16384, .f32⟩
  | .hbm, ⟨18, _⟩ => ⟨S_, .f32⟩
  | .hbm, ⟨19, _⟩ => ⟨S1x8x16384, .f32⟩
  | .hbm, ⟨20, _⟩ => ⟨S1x8x16384x1, .f32⟩
  | .hbm, ⟨21, _⟩ => ⟨S1x8x16384x16384, .f32⟩
  | .hbm, ⟨22, _⟩ => ⟨S1x8x16384x16384, .f32⟩
  | .hbm, ⟨23, _⟩ => ⟨S1x8x64x16384, .f32⟩
  | .hbm, ⟨24, _⟩ => ⟨S1x16384x8x64, .f32⟩
  | .hbm, ⟨25, _⟩ => ⟨S16384x8x64, .f32⟩
  | .hbm, ⟨26, _⟩ => ⟨S8x64x16384, .f32⟩
  | .hbm, ⟨27, _⟩ => ⟨S8x64x16384, .bf16⟩
  | .hbm, ⟨28, _⟩ => ⟨S16384x8x96, .f32⟩
  | .hbm, ⟨29, _⟩ => ⟨S16384x8x96, .f32⟩
  | .hbm, ⟨30, _⟩ => ⟨S16384x8x64, .f32⟩
  | .hbm, ⟨31, _⟩ => ⟨S8x96x16384, .f32⟩
  | .hbm, ⟨32, _⟩ => ⟨S8x96x16384, .bf16⟩
  | .hbm, ⟨33, _⟩ => ⟨S8x16384x96, .f32⟩
  | .hbm, ⟨34, _⟩ => ⟨S8x16384x96, .bf16⟩
  | .hbm, ⟨35, _⟩ => ⟨S8x64x16384, .f32⟩
  | .hbm, ⟨36, _⟩ => ⟨S8x64x16384, .bf16⟩
  | .hbm, ⟨37, _⟩ => ⟨S_, .bf16⟩
  | .hbm, ⟨38, _⟩ => ⟨S8x16x16384, .bf16⟩
  | .hbm, ⟨39, _⟩ => ⟨S8x80x16384, .bf16⟩
  | .hbm, ⟨40, _⟩ => ⟨S16384x512, .f32⟩
  | .hbm, ⟨41, _⟩ => ⟨S512x16384, .f32⟩
  | .hbm, ⟨42, _⟩ => ⟨S512x16384, .bf16⟩
  | .hbm, ⟨43, _⟩ => ⟨S8x64x16384, .bf16⟩
  | .hbm, ⟨44, _⟩ => ⟨S8x1x16384, .f32⟩
  | .local _ .vmem, ⟨0, _⟩ => ⟨S1x64x2048, .bf16⟩
  | .local _ .vmem, ⟨1, _⟩ => ⟨S1x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x1x2048, .f32⟩
  | .local _ .vmem, ⟨5, _⟩ => ⟨S1x1x2048, .f32⟩
  | _, _ => ⟨S1x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaDeltaRefIdeal.lean ====
abbrev S1x16384x8x96 : Shape := ⟨4, ![1, 16384, 8, 96]⟩
abbrev S1x16384x8x64 : Shape := ⟨4, ![1, 16384, 8, 64]⟩
abbrev S1x16384x512 : Shape := ⟨3, ![1, 16384, 512]⟩
abbrev S1x8x16384x16384 : Shape := ⟨4, ![1, 8, 16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S1x16384x8 : Shape := ⟨3, ![1, 16384, 8]⟩
abbrev S8x1x16384 : Shape := ⟨3, ![8, 1, 16384]⟩

abbrev nBuf : Space → Nat
  | .hbm => 30
  | .vmem => 0
  | .smem => 0
  | _ => 0

abbrev bufTy : (tb : Table) → Fin (tcTables nBuf tb) → BufTy
  | .hbm, ⟨0, _⟩ => ⟨S1x16384x8x96, .f32⟩
  | .hbm, ⟨1, _⟩ => ⟨S1x16384x8x96, .f32⟩
  | .hbm, ⟨2, _⟩ => ⟨S1x16384x8x64, .f32⟩
  | .hbm, ⟨3, _⟩ => ⟨S1x16384x512, .f32⟩
  | .hbm, ⟨4, _⟩ => ⟨S1x8x16384x16384, .f32⟩
  | .hbm, ⟨5, _⟩ => ⟨S_, .f32⟩
  | .hbm, ⟨6, _⟩ => ⟨S_, .f32⟩
  | .hbm, ⟨7, _⟩ => ⟨S1x8x16384x16384, .f32⟩
  | .hbm, ⟨8, _⟩ => ⟨S1x8x16384x16384, .f32⟩
  | .hbm, ⟨9, _⟩ => ⟨S_, .f32⟩
  | .hbm, ⟨10, _⟩ => ⟨S1x8x16384, .f32⟩
  | .hbm, ⟨11, _⟩ => ⟨S_, .f32⟩
  | .hbm, ⟨12, _⟩ => ⟨S1x8x16384, .f32⟩
  | .hbm, ⟨13, _⟩ => ⟨S1x8x16384, .f32⟩
  | .hbm, ⟨14, _⟩ => ⟨S1x8x16384x1, .f32⟩
  | .hbm, ⟨15, _⟩ => ⟨S1x8x16384x16384, .f32⟩
  | .hbm, ⟨16, _⟩ => ⟨S1x8x16384x16384, .f32⟩
  | .hbm, ⟨17, _⟩ => ⟨S1x8x16384x16384, .f32⟩
  | .hbm, ⟨18, _⟩ => ⟨S_, .f32⟩
  | .hbm, ⟨19, _⟩ => ⟨S1x8x16384, .f32⟩
  | .hbm, ⟨20, _⟩ => ⟨S1x8x16384x1, .f32⟩
  | .hbm, ⟨21, _⟩ => ⟨S1x8x16384x16384, .f32⟩
  | .hbm, ⟨22, _⟩ => ⟨S1x8x16384x16384, .f32⟩
  | .hbm, ⟨23, _⟩ => ⟨S1x8x64x16384, .f32⟩
  | .hbm, ⟨24, _⟩ => ⟨S1x16384x8x64, .f32⟩
  | .hbm, ⟨25, _⟩ => ⟨S1x16384x8x64, .f32⟩
  | .hbm, ⟨26, _⟩ => ⟨S1x16384x8x64, .f32⟩
  | .hbm, ⟨27, _⟩ => ⟨S_, .f32⟩
  | .hbm, ⟨28, _⟩ => ⟨S1x16384x8, .f32⟩
  | .hbm, ⟨29, _⟩ => ⟨S8x1x16384, .f32⟩
  | _, _ => ⟨S1x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Project.lean ====
abbrev S1x16384x1024 : Shape := ⟨3, ![1, 16384, 1024]⟩
abbrev S1024x8704 : Shape := ⟨2, ![1024, 8704]⟩
abbrev S16384x1024 : Shape := ⟨2, ![16384, 1024]⟩
abbrev S16384x8704 : Shape := ⟨2, ![16384, 8704]⟩
abbrev S256x1024 : Shape := ⟨2, ![256, 1024]⟩
abbrev S1024x4352 : Shape := ⟨2, ![1024, 4352]⟩
abbrev S256x4352 : Shape := ⟨2, ![256, 4352]⟩

abbrev nBuf : Space → Nat
  | .hbm => 6
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S1024x8704, .f32⟩
  | .hbm, ⟨2, _⟩ => ⟨S16384x1024, .f32⟩
  | .hbm, ⟨3, _⟩ => ⟨S16384x1024, .bf16⟩
  | .hbm, ⟨4, _⟩ => ⟨S1024x8704, .bf16⟩
  | .hbm, ⟨5, _⟩ => ⟨S16384x8704, .f32⟩
  | .local _ .vmem, ⟨0, _⟩ => ⟨S256x1024, .bf16⟩
  | .local _ .vmem, ⟨1, _⟩ => ⟨S256x1024, .bf16⟩
  | .local _ .vmem, ⟨2, _⟩ => ⟨S1024x4352, .bf16⟩
  | .local _ .vmem, ⟨3, _⟩ => ⟨S1024x4352, .bf16⟩
  | .local _ .vmem, ⟨4, _⟩ => ⟨S256x4352, .f32⟩
  | .local _ .vmem, ⟨5, _⟩ => ⟨S256x4352, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectRefIdeal.lean ====
abbrev S1x16384x1024 : Shape := ⟨3, ![1, 16384, 1024]⟩
abbrev S1024x8704 : Shape := ⟨2, ![1024, 8704]⟩
abbrev S1x16384x8704 : Shape := ⟨3, ![1, 16384, 8704]⟩
abbrev S16384x8704 : Shape := ⟨2, ![16384, 8704]⟩

abbrev nBuf : Space → Nat
  | .hbm => 4
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x8704, .f32⟩
  | .hbm, ⟨2, _⟩ => ⟨S1x16384x8704, .f32⟩
  | .hbm, ⟨3, _⟩ => ⟨S16384x8704, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjectDw.lean ====
abbrev S1x16384x1024 : Shape := ⟨3, ![1, 16384, 1024]⟩
abbrev S1024x8704 : Shape := ⟨2, ![1024, 8704]⟩
abbrev S1x16384x8704 : Shape := ⟨3, ![1, 16384, 8704]⟩
abbrev S16384x1024 : Shape := ⟨2, ![16384, 1024]⟩
abbrev S16384x8704 : Shape := ⟨2, ![16384, 8704]⟩
abbrev S1024x1024 : Shape := ⟨2, ![1024, 1024]⟩
abbrev S1024x2176 : Shape := ⟨2, ![1024, 2176]⟩

abbrev nBuf : Space → Nat
  | .hbm => 8
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S1024x8704, .f32⟩
  | .hbm, ⟨2, _⟩ => ⟨S1x16384x8704, .f32⟩
  | .hbm, ⟨3, _⟩ => ⟨S16384x1024, .f32⟩
  | .hbm, ⟨4, _⟩ => ⟨S16384x1024, .bf16⟩
  | .hbm, ⟨5, _⟩ => ⟨S16384x8704, .f32⟩
  | .hbm, ⟨6, _⟩ => ⟨S16384x8704, .bf16⟩
  | .hbm, ⟨7, _⟩ => ⟨S1024x8704, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectDwRefIdeal.lean ====
abbrev S1x16384x1024 : Shape := ⟨3, ![1, 16384, 1024]⟩
abbrev S1024x8704 : Shape := ⟨2, ![1024, 8704]⟩
abbrev S1x16384x8704 : Shape := ⟨3, ![1, 16384, 8704]⟩
abbrev S8704x1024 : Shape := ⟨2, ![8704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x8704, .f32⟩
  | .hbm, ⟨2, _⟩ => ⟨S1x16384x8704, .f32⟩
  | .hbm, ⟨3, _⟩ => ⟨S1x16384x8704, .f32⟩
  | .hbm, ⟨4, _⟩ => ⟨S8704x1024, .f32⟩
  | .hbm, ⟨5, _⟩ => ⟨S1024x8704, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Heads.lean ====
module

public import Idealize.ShloMosaic.Lib.Pointwise
public import Idealize.ShloMosaic.Lib.Pipeline.ValueKit
public import Idealize.ShloMosaic.Lib.Tactic

@[expose] public section

set_option maxRecDepth 16384

/-! # A block of tokens whose columns are the heads side by side: one store per head -/

noncomputable section

namespace Cert.Heads

open Idealize.ShloMosaic

/-- `T` tokens by eight heads of `D` columns each. -/
abbrev packed (T D : ℕ) : Shape := ⟨3, ![1, T, 8 * D]⟩
/-- One head's columns of `T` tokens. -/
abbrev single (T D : ℕ) : Shape := ⟨3, ![1, T, D]⟩

theorem head_fits (T D : ℕ) (h : Fin 8) (a : Fin 3) : (![0, 0, D * h.val] : Fin 3 → ℕ) a + (single T D).size a ≤ (packed T D).size a := by
  have : D * h.val + D ≤ 8 * D := by
    have := Nat.mul_le_mul_left D (show h.val + 1 ≤ 8 from h.isLt)
    rw [Nat.mul_comm 8 D]; rw [Nat.mul_add] at this; omega
  match a with
  | ⟨0, _⟩ => show 0 + 1 ≤ 1; omega
  | ⟨1, _⟩ => show 0 + T ≤ T; omega
  | ⟨2, _⟩ => show D * h.val + D ≤ 8 * D; exact this

/-- The columns of head `h`. -/
abbrev head (T D : ℕ) (h : Fin 8) : Rect (packed T D) := Rect.unit (s := packed T D) ![0, 0, D * h.val] (single T D).size (head_fits T D h)

/-- The column of head `h` that is its `i`-th. -/
abbrev col {D : ℕ} (h : Fin 8) (i : Fin D) : Fin (8 * D) := ⟨D * h.val + i.val, by
  have := Nat.mul_le_mul_left D (show h.val + 1 ≤ 8 from h.isLt)
  rw [Nat.mul_add] at this; rw [Nat.mul_comm 8 D]; omega⟩

/-- Eight stores, one per head, the last head's first. -/
def pieces {F : FTy → Type} {φ : EltTy} (T D : ℕ) (p : Fin 8 → Vec F (single T D) φ) : List (View.Piece (Elt F) (packed T D) φ) :=
  [⟨head T D 7, p 7⟩, ⟨head T D 6, p 6⟩, ⟨head T D 5, p 5⟩, ⟨head T D 4, p 4⟩, ⟨head T D 3, p 3⟩, ⟨head T D 2, p 2⟩, ⟨head T D 1, p 1⟩, ⟨head T D 0, p 0⟩]

theorem ld_head {F : FTy → Type} {φ : EltTy} (T D : ℕ) (X : Vec F (packed T D) φ) (h : Fin 8) (r : Fin T) (i : Fin D) :
    View.ld X (head T D h) (ix3 0 r i) = X (ix3 0 r (col h i)) := by
  refine congrArg X (funext fun a => Fin.ext ?_)
  match a with
  | ⟨0, _⟩ => rfl
  | ⟨1, _⟩ => show 0 + 1 * r.val = r.val; omega
  | ⟨2, _⟩ => show D * h.val + 1 * i.val = D * h.val + i.val; omega

/-- What the eight stores leave at a column of head `h`. -/
theorem canon_pieces {F : FTy → Type} [∀ e, Nonempty (Elt F e)] {φ : EltTy} (T D : ℕ) (p : Fin 8 → Vec F (single T D) φ) (h : Fin 8) (r : Fin T) (i : Fin D) :
    View.canon (pieces T D p) (ix3 0 r (col h i)) = p h (ix3 0 r i) := by
  have hD : 0 < D := Nat.pos_of_ne_zero (by rintro rfl; exact i.elim0)
  have one (g : Fin 8) (x : (single T D).Idx) : (head T D g).emb x = ix3 0 (x 1) (col g (x 2)) := by
    refine funext fun a => Fin.ext ?_
    match a with
    | ⟨0, _⟩ => show 0 + 1 * (x 0).val = 0; have : (x 0).val < 1 := (x 0).isLt; omega
    | ⟨1, _⟩ => show 0 + 1 * (x 1).val = (x 1).val; omega
    | ⟨2, _⟩ => show D * g.val + 1 * (x 2).val = D * g.val + (x 2).val; omega
  let G : (packed T D).Idx → Elt F φ := fun y => p ⟨(y 2).val / D, Nat.div_lt_of_lt_mul (by have : (y 2).val < 8 * D := (y 2).isLt; rw [Nat.mul_comm]; exact this)⟩
    (ix3 0 (y 1) ⟨(y 2).val % D, Nat.mod_lt _ hD⟩)
  have hG (g : Fin 8) (x : (single T D).Idx) : p g x = G (ix3 0 (x 1) (col g (x 2))) := by
    have hx : (x 2).val < D := (x 2).isLt
    have h0 : x 0 = (0 : Fin 1) := Subsingleton.elim (α := Fin 1) _ _
    have e1 : (D * g.val + (x 2).val) / D = g.val := by rw [Nat.mul_add_div hD, Nat.div_eq_of_lt hx, Nat.add_zero]
    have e2 : (D * g.val + (x 2).val) % D = (x 2).val := by rw [Nat.mul_add_mod, Nat.mod_eq_of_lt hx]
    show p g x = p ⟨(D * g.val + (x 2).val) / D, _⟩ (ix3 0 (x 1) ⟨(D * g.val + (x 2).val) % D, _⟩)
    have e3 : (⟨(D * g.val + (x 2).val) / D, by rw [e1]; exact g.isLt⟩ : Fin 8) = g := Fin.ext e1
    rw [e3]
    refine congrArg (p g) (funext fun a => ?_)
    match a with
    | ⟨0, _⟩ => exact h0
    | ⟨1, _⟩ => rfl
    | ⟨2, _⟩ => exact Fin.ext e2.symm
  refine (View.canon_apply_of_pieces G _ ?_ _ ?_).trans (hG h (ix3 0 r i)).symm
  · have two (g : Fin 8) : ∀ x : (single T D).Idx, p g x = G ((head T D g).emb x) := fun x => by rw [one]; exact hG g x
    unfold pieces
    simp only [List.forall_mem_cons]
    exact ⟨two 7, two 6, two 5, two 4, two 3, two 2, two 1, two 0, by simp⟩
  · refine ⟨⟨head T D h, p h⟩, ?_, ?_⟩
    · unfold pieces
      fin_cases h <;> simp
    · rw [show (ix3 0 r (col h i) : (packed T D).Idx) = (head T D h).emb (ix3 0 r i) from (one h (ix3 0 r i)).symm]
      exact (head T D h).idx_mem _

theorem head_of_col {D : ℕ} (h : Fin 8) (i : Fin D) (p : (D * h.val + i.val) / D < 8) : (⟨(D * h.val + i.val) / D, p⟩ : Fin 8) = h :=
  Fin.ext (by show (D * h.val + i.val) / D = h.val; rw [Nat.mul_add_div (Nat.zero_lt_of_lt i.isLt), Nat.div_eq_of_lt i.isLt, Nat.add_zero])

theorem place_of_col {D : ℕ} (h : Fin 8) (i : Fin D) (p : (D * h.val + i.val) % D < D) : (⟨(D * h.val + i.val) % D, p⟩ : Fin D) = i :=
  Fin.ext (by show (D * h.val + i.val) % D = i.val; rw [Nat.mul_add_mod, Nat.mod_eq_of_lt i.isLt])

/-- Every column is some head's. -/
theorem exists_col {D : ℕ} (c : Fin (8 * D)) : ∃ (h : Fin 8) (i : Fin D), c = col h i := by
  have hD : 0 < D := Nat.pos_of_ne_zero (by rintro rfl; exact c.elim0)
  refine ⟨⟨c.val / D, Nat.div_lt_of_lt_mul (by have := c.isLt; omega)⟩, ⟨c.val % D, Nat.mod_lt _ hD⟩, Fin.ext ?_⟩
  exact (Nat.div_add_mod c.val D).symm

/-- An array over tokens and packed heads is known from its heads' columns. -/
theorem ext_cols {α : Type} {T D : ℕ} {X Y : (packed T D).Idx → α} (h : ∀ (t : Fin T) (g : Fin 8) (i : Fin D), X (ix3 0 t (col g i)) = Y (ix3 0 t (col g i))) : X = Y := by
  funext y
  obtain ⟨a, t, c, rfl⟩ : ∃ (a : Fin 1) (t : Fin T) (c : Fin (8 * D)), y = ix3 a t c := ⟨y 0, y 1, y 2, eq_ix3 y⟩
  obtain ⟨g, i, rfl⟩ := exists_col c
  rw [Subsingleton.elim a 0]
  exact h t g i

end Cert.Heads
-- ==== Proof.IntraBody.lean ====
module

public import proofs.«01_k».proof.Proof.Gen.IntraFIdeal.Value
public import proofs.«01_k».proof.Proof.Gen.IntraBIdeal.Value
public import Idealize.ShloMosaic.Lib.WordCmp
public import proofs.«01_k».proof.Proof.Heads

@[expose] public section

set_option maxRecDepth 16384

noncomputable section

namespace Cert.Intra

open Cert.IntraFIdeal Cert.IntraFIdeal.Gen Idealize.ShloMosaic Cert.Heads

variable (msk : IVec S256x256 1) (q k : Vec Ideal S1x256x128 .f32) (v ct : Vec Ideal S1x256x64 .f32)
variable (x0 x1 : Vec Ideal S1x256x1024 .f32) (x2 x3 : Vec Ideal S1x256x512 .f32)

/-- One head's query gradient on a block of 256 tokens. -/
theorem pay74_apply (r : Fin 256) (c : Fin 128) :
    k0_pay74 msk k v ct (ix3 0 r c) = ∑ s : Fin 256, Scalar.select (msk (ix2 r s)) ((∑ d : Fin 64, ct (ix3 0 r d) * v (ix3 0 s d)) * k (ix3 0 s c)) 0 := by
  unfold_payloads
  pointwise

/-- One head's key gradient on a block. -/
theorem pay75_apply (r : Fin 256) (c : Fin 128) :
    k0_pay75 msk q v ct (ix3 0 r c) = ∑ s : Fin 256, Scalar.select (msk (ix2 s r)) ((∑ d : Fin 64, ct (ix3 0 s d) * v (ix3 0 r d)) * q (ix3 0 s c)) 0 := by
  unfold_payloads
  pointwise

/-- One head's value gradient on a block. -/
theorem pay76_apply (r : Fin 256) (c : Fin 64) :
    k0_pay1 (k0_pay76 msk q k ct) (ix3 0 r c) = ∑ s : Fin 256, Scalar.select (msk (ix2 s r)) ((∑ d : Fin 128, q (ix3 0 s d) * k (ix3 0 r d)) * ct (ix3 0 s c)) 0 := by
  unfold_payloads
  pointwise

def outQ : Vec Ideal (packed 256 128) .f32 :=
  View.canon (pieces 256 128 fun h => k0_pay74 msk (View.ld x1 (head 256 128 h)) (View.ld x2 (head 256 64 h)) (View.ld x3 (head 256 64 h)))
def outK : Vec Ideal (packed 256 128) .f32 :=
  View.canon (pieces 256 128 fun h => k0_pay75 msk (View.ld x0 (head 256 128 h)) (View.ld x2 (head 256 64 h)) (View.ld x3 (head 256 64 h)))
def outV : Vec Ideal (packed 256 64) .f32 :=
  View.canon (pieces 256 64 fun h => k0_pay1 (k0_pay76 msk (View.ld x0 (head 256 128 h)) (View.ld x1 (head 256 128 h)) (View.ld x3 (head 256 64 h))))

theorem outQ_apply (r : Fin 256) (h : Fin 8) (i : Fin 128) : outQ msk x1 x2 x3 (ix3 0 r (col h i)) =
    ∑ s : Fin 256, Scalar.select (msk (ix2 r s)) ((∑ d : Fin 64, x3 (ix3 0 r (col h d)) * x2 (ix3 0 s (col h d))) * x1 (ix3 0 s (col h i))) 0 := by
  refine (canon_pieces 256 128 _ h r i).trans ((pay74_apply _ _ _ _ _ _).trans ?_)
  exact Finset.sum_congr rfl fun s _ => congrArg (Scalar.select _ · _) (Ideal.mul_congr
    (Finset.sum_congr rfl fun d _ => Ideal.mul_congr (ld_head 256 _ _ h _ d) (ld_head 256 _ _ h _ d)) (ld_head 256 _ _ h s i))

theorem outK_apply (r : Fin 256) (h : Fin 8) (i : Fin 128) : outK msk x0 x2 x3 (ix3 0 r (col h i)) =
    ∑ s : Fin 256, Scalar.select (msk (ix2 s r)) ((∑ d : Fin 64, x3 (ix3 0 s (col h d)) * x2 (ix3 0 r (col h d))) * x0 (ix3 0 s (col h i))) 0 := by
  refine (canon_pieces 256 128 _ h r i).trans ((pay75_apply _ _ _ _ _ _).trans ?_)
  exact Finset.sum_congr rfl fun s _ => congrArg (Scalar.select _ · _) (Ideal.mul_congr
    (Finset.sum_congr rfl fun d _ => Ideal.mul_congr (ld_head 256 _ _ h _ d) (ld_head 256 _ _ h _ d)) (ld_head 256 _ _ h s i))

theorem outV_apply (r : Fin 256) (h : Fin 8) (i : Fin 64) : outV msk x0 x1 x3 (ix3 0 r (col h i)) =
    ∑ s : Fin 256, Scalar.select (msk (ix2 s r)) ((∑ d : Fin 128, x0 (ix3 0 s (col h d)) * x1 (ix3 0 r (col h d))) * x3 (ix3 0 s (col h i))) 0 := by
  refine (canon_pieces 256 64 _ h r i).trans ((pay76_apply _ _ _ _ _ _).trans ?_)
  exact Finset.sum_congr rfl fun s _ => congrArg (Scalar.select _ · _) (Ideal.mul_congr
    (Finset.sum_congr rfl fun d _ => Ideal.mul_congr (ld_head 256 _ _ h _ d) (ld_head 256 _ _ h _ d)) (ld_head 256 _ _ h s i))

theorem out4 : out0_4 x0 x1 x2 x3 = outQ (k0_pay84 x0 x1 x2 x3) x1 x2 x3 := rfl
theorem out5 : out0_5 x0 x1 x2 x3 = outK (k0_pay84 x0 x1 x2 x3) x0 x2 x3 := rfl
theorem out6 : out0_6 x0 x1 x2 x3 = outV (k0_pay84 x0 x1 x2 x3) x0 x1 x3 := rfl

/-- The kernel's chunk number of a row. -/
theorem chunk_word : ∀ r : Fin 256,
    Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 r.val) 16#32) 0#32))
            (IntOp.subi (IntOp.divsi ArithUnit.vector (BitVec.ofNat 32 r.val) 16#32) 1#32)
            (IntOp.divsi ArithUnit.vector (BitVec.ofNat 32 r.val) 16#32) = BitVec.ofNat 32 (r.val / 16) := by decide +kernel

theorem chunk_eq (r s : Fin 256) : IntOp.cmpi .eq (BitVec.ofNat 32 (r.val / 16)) (BitVec.ofNat 32 (s.val / 16)) = BitVec.ofBool (decide (r.val / 16 = s.val / 16)) := by
  have hr := r.isLt
  have hs := s.isLt
  refine congrArg BitVec.ofBool (decide_eq_decide.mpr ⟨fun h => ?_, fun h => by rw [h]⟩)
  have := congrArg BitVec.toNat h
  simp only [BitVec.toNat_ofNat] at this
  omega

/-- Forward, a row sees the rows of its chunk up to itself. -/
theorem mask_apply (r s : Fin 256) :
    k0_pay84 x0 x1 x2 x3 (ix2 r s) = BitVec.ofBool (decide (r.val / 16 = s.val / 16 ∧ s ≤ r)) := by
  unfold_payloads
  pointwise
  rw [chunk_word, chunk_word]
  have hr := r.isLt
  have hs := s.isLt
  have e2 : IntOp.cmpi .sle (BitVec.ofNat 32 s.val) (BitVec.ofNat 32 r.val) = BitVec.ofBool (decide (s ≤ r)) :=
    WordCmp.cmpi_sle_ofNat (by omega) (by omega)
  rw [chunk_eq r s, e2]
  by_cases h1 : r.val / 16 = s.val / 16 <;> by_cases h2 : s ≤ r <;> simp [h1, h2, IntOp.andi]

/-- A sum over a block's rows that keeps one chunk's rows only. -/
theorem sum_chunk (r : Fin 256) (P : Fin 256 → Prop) [DecidablePred P] (f : Fin 256 → EReal) :
    ∑ s : Fin 256, Scalar.select (BitVec.ofBool (decide (r.val / 16 = s.val / 16 ∧ P s))) (f s) 0 =
      ∑ j : Fin 16, if P ⟨r.val / 16 * 16 + j.val, by omega⟩ then f ⟨r.val / 16 * 16 + j.val, by omega⟩ else 0 := by
  rw [← (finProdFinEquiv (m := 16) (n := 16)).sum_comp, Fintype.sum_prod_type]
  rw [Finset.sum_eq_single (⟨r.val / 16, by omega⟩ : Fin 16)]
  · refine Finset.sum_congr rfl fun j _ => ?_
    have e : (finProdFinEquiv (m := 16) (n := 16) (⟨r.val / 16, by omega⟩, j) : Fin 256) = ⟨r.val / 16 * 16 + j.val, by omega⟩ :=
      Fin.ext (by show j.val + 16 * (r.val / 16) = r.val / 16 * 16 + j.val; omega)
    rw [e]
    have key : decide (r.val / 16 = (r.val / 16 * 16 + j.val) / 16 ∧ P ⟨r.val / 16 * 16 + j.val, by omega⟩) = decide (P ⟨r.val / 16 * 16 + j.val, by omega⟩) :=
      decide_eq_decide.mpr ⟨And.right, fun h => ⟨by omega, h⟩⟩
    rw [key]
    by_cases h : P ⟨r.val / 16 * 16 + j.val, by omega⟩ <;> simp [h, Scalar.select]
  · intro n _ hn
    refine Finset.sum_eq_zero fun j _ => ?_
    have : r.val / 16 ≠ (finProdFinEquiv (m := 16) (n := 16) (n, j) : Fin 256).val / 16 := by
      intro h
      refine hn (Fin.ext ?_)
      have e : (finProdFinEquiv (m := 16) (n := 16) (n, j) : Fin 256).val = j.val + 16 * n.val := rfl
      rw [e] at h
      show n.val = r.val / 16
      omega
    simp [this, Scalar.select]
  · simp

/-- Backward, a row sees the rows of its chunk from itself on. -/
theorem maskB_apply (r s : Fin 256) :
    Cert.IntraBIdeal.Gen.k0_pay84 x0 x1 x2 x3 (ix2 r s) = BitVec.ofBool (decide (r.val / 16 = s.val / 16 ∧ r ≤ s)) := by
  unfold_payloads
  pointwise
  rw [chunk_word, chunk_word, chunk_eq r s]
  have hr := r.isLt
  have hs := s.isLt
  have e2 : IntOp.cmpi .sge (BitVec.ofNat 32 s.val) (BitVec.ofNat 32 r.val) = BitVec.ofBool (decide (r ≤ s)) :=
    WordCmp.cmpi_sge_ofNat (by omega) (by omega)
  rw [e2]
  by_cases h1 : r.val / 16 = s.val / 16 <;> by_cases h2 : r ≤ s <;> simp [h1, h2, IntOp.andi]

theorem outB4 : Cert.IntraBIdeal.Gen.out0_4 x0 x1 x2 x3 = outQ (Cert.IntraBIdeal.Gen.k0_pay84 x0 x1 x2 x3) x1 x2 x3 := rfl
theorem outB5 : Cert.IntraBIdeal.Gen.out0_5 x0 x1 x2 x3 = outK (Cert.IntraBIdeal.Gen.k0_pay84 x0 x1 x2 x3) x0 x2 x3 := rfl
theorem outB6 : Cert.IntraBIdeal.Gen.out0_6 x0 x1 x2 x3 = outV (Cert.IntraBIdeal.Gen.k0_pay84 x0 x1 x2 x3) x0 x1 x3 := rfl

end Cert.Intra
-- ==== Proof.IntraSpec.lean ====
module

public import proofs.«01_k».proof.Proof.IntraBody

@[expose] public section

set_option maxRecDepth 16384

/-! # The gradients inside the chunks, as sums over the sixteen tokens of a chunk -/

noncomputable section

namespace Cert.Intra

open Idealize.ShloMosaic Cert.Heads

/-- Whether the token at place `t` of a chunk sees the one at place `s`: the earlier ones going forward, the later ones going backward. -/
def sees (rev : Bool) (t s : ℕ) : Bool := if rev then decide (t ≤ s) else decide (s ≤ t)

/-- The `j`-th token of the chunk of token `t`. -/
abbrev mate (t : Fin 16384) (j : Fin 16) : Fin 16384 := ⟨t.val / 16 * 16 + j.val, by omega⟩

variable (rev : Bool) (q k : (⟨4, ![1, 16384, 8, 128]⟩ : Shape).Idx → EReal) (v ct : (⟨4, ![1, 16384, 8, 64]⟩ : Shape).Idx → EReal)

def dq (t : Fin 16384) (h : Fin 8) (i : Fin 128) : EReal :=
  ∑ j : Fin 16, if sees rev (t.val % 16) j.val then (∑ d : Fin 64, ct (ix4 0 t h d) * v (ix4 0 (mate t j) h d)) * k (ix4 0 (mate t j) h i) else 0
def dk (t : Fin 16384) (h : Fin 8) (i : Fin 128) : EReal :=
  ∑ j : Fin 16, if sees rev j.val (t.val % 16) then (∑ d : Fin 64, ct (ix4 0 (mate t j) h d) * v (ix4 0 t h d)) * q (ix4 0 (mate t j) h i) else 0
def dv (t : Fin 16384) (h : Fin 8) (i : Fin 64) : EReal :=
  ∑ j : Fin 16, if sees rev j.val (t.val % 16) then (∑ d : Fin 128, q (ix4 0 (mate t j) h d) * k (ix4 0 t h d)) * ct (ix4 0 (mate t j) h i) else 0

/-- A block's query gradient is the array's, read at the block's tokens. -/
theorem outQ_eq (msk : IVec Cert.IntraFIdeal.S256x256 1) (hm : ∀ r s : Fin 256, msk (ix2 r s) = BitVec.ofBool (decide (r.val / 16 = s.val / 16 ∧ sees rev r.val s.val = true)))
    (n : ℕ) (x1 : Vec Ideal (packed 256 128) .f32) (x2 x3 : Vec Ideal (packed 256 64) .f32)
    (h1 : ∀ (r : Fin 256) (h : Fin 8) (i : Fin 128) (u : Fin 16384), u.val = n * 256 + r.val → x1 (ix3 0 r (col h i)) = k (ix4 0 u h i))
    (h2 : ∀ (r : Fin 256) (h : Fin 8) (i : Fin 64) (u : Fin 16384), u.val = n * 256 + r.val → x2 (ix3 0 r (col h i)) = v (ix4 0 u h i))
    (h3 : ∀ (r : Fin 256) (h : Fin 8) (i : Fin 64) (u : Fin 16384), u.val = n * 256 + r.val → x3 (ix3 0 r (col h i)) = ct (ix4 0 u h i))
    (r : Fin 256) (h : Fin 8) (i : Fin 128) (t : Fin 16384) (ht : t.val = n * 256 + r.val) :
    outQ msk x1 x2 x3 (ix3 0 r (col h i)) = dq rev k v ct t h i := by
  rw [outQ_apply]
  simp only [hm]
  rw [sum_chunk r (fun s => sees rev r.val s.val = true)]
  unfold dq
  refine Finset.sum_congr rfl fun j _ => ?_
  have e : sees rev r.val (r.val / 16 * 16 + j.val) = sees rev (t.val % 16) j.val := by
    cases rev <;> simp only [sees, ht] <;> simp <;> omega
  have hj : (mate t j).val = n * 256 + (r.val / 16 * 16 + j.val) := by show t.val / 16 * 16 + j.val = _; omega
  simp only [e, h3 r h _ t ht, h2 ⟨r.val / 16 * 16 + j.val, by omega⟩ h _ (mate t j) hj, h1 ⟨r.val / 16 * 16 + j.val, by omega⟩ h _ (mate t j) hj]

/-- A block's key gradient is the array's. -/
theorem outK_eq (msk : IVec Cert.IntraFIdeal.S256x256 1) (hm : ∀ r s : Fin 256, msk (ix2 r s) = BitVec.ofBool (decide (r.val / 16 = s.val / 16 ∧ sees rev r.val s.val = true)))
    (n : ℕ) (x0 : Vec Ideal (packed 256 128) .f32) (x2 x3 : Vec Ideal (packed 256 64) .f32)
    (h0 : ∀ (r : Fin 256) (h : Fin 8) (i : Fin 128) (u : Fin 16384), u.val = n * 256 + r.val → x0 (ix3 0 r (col h i)) = q (ix4 0 u h i))
    (h2 : ∀ (r : Fin 256) (h : Fin 8) (i : Fin 64) (u : Fin 16384), u.val = n * 256 + r.val → x2 (ix3 0 r (col h i)) = v (ix4 0 u h i))
    (h3 : ∀ (r : Fin 256) (h : Fin 8) (i : Fin 64) (u : Fin 16384), u.val = n * 256 + r.val → x3 (ix3 0 r (col h i)) = ct (ix4 0 u h i))
    (r : Fin 256) (h : Fin 8) (i : Fin 128) (t : Fin 16384) (ht : t.val = n * 256 + r.val) :
    outK msk x0 x2 x3 (ix3 0 r (col h i)) = dk rev q v ct t h i := by
  rw [outK_apply]
  simp only [hm, eq_comm (b := r.val / 16)]
  rw [sum_chunk r (fun s => sees rev s.val r.val = true)]
  unfold dk
  refine Finset.sum_congr rfl fun j _ => ?_
  have e : sees rev (r.val / 16 * 16 + j.val) r.val = sees rev j.val (t.val % 16) := by
    cases rev <;> simp only [sees, ht] <;> simp <;> omega
  have hj : (mate t j).val = n * 256 + (r.val / 16 * 16 + j.val) := by show t.val / 16 * 16 + j.val = _; omega
  simp only [e, h2 r h _ t ht, h3 ⟨r.val / 16 * 16 + j.val, by omega⟩ h _ (mate t j) hj, h0 ⟨r.val / 16 * 16 + j.val, by omega⟩ h _ (mate t j) hj]

/-- A block's value gradient is the array's. -/
theorem outV_eq (msk : IVec Cert.IntraFIdeal.S256x256 1) (hm : ∀ r s : Fin 256, msk (ix2 r s) = BitVec.ofBool (decide (r.val / 16 = s.val / 16 ∧ sees rev r.val s.val = true)))
    (n : ℕ) (x0 x1 : Vec Ideal (packed 256 128) .f32) (x3 : Vec Ideal (packed 256 64) .f32)
    (h0 : ∀ (r : Fin 256) (h : Fin 8) (i : Fin 128) (u : Fin 16384), u.val = n * 256 + r.val → x0 (ix3 0 r (col h i)) = q (ix4 0 u h i))
    (h1 : ∀ (r : Fin 256) (h : Fin 8) (i : Fin 128) (u : Fin 16384), u.val = n * 256 + r.val → x1 (ix3 0 r (col h i)) = k (ix4 0 u h i))
    (h3 : ∀ (r : Fin 256) (h : Fin 8) (i : Fin 64) (u : Fin 16384), u.val = n * 256 + r.val → x3 (ix3 0 r (col h i)) = ct (ix4 0 u h i))
    (r : Fin 256) (h : Fin 8) (i : Fin 64) (t : Fin 16384) (ht : t.val = n * 256 + r.val) :
    outV msk x0 x1 x3 (ix3 0 r (col h i)) = dv rev q k ct t h i := by
  rw [outV_apply]
  simp only [hm, eq_comm (b := r.val / 16)]
  rw [sum_chunk r (fun s => sees rev s.val r.val = true)]
  unfold dv
  refine Finset.sum_congr rfl fun j _ => ?_
  have e : sees rev (r.val / 16 * 16 + j.val) r.val = sees rev j.val (t.val % 16) := by
    cases rev <;> simp only [sees, ht] <;> simp <;> omega
  have hj : (mate t j).val = n * 256 + (r.val / 16 * 16 + j.val) := by show t.val / 16 * 16 + j.val = _; omega
  simp only [e, h1 r h _ t ht, h3 ⟨r.val / 16 * 16 + j.val, by omega⟩ h _ (mate t j) hj, h0 ⟨r.val / 16 * 16 + j.val, by omega⟩ h _ (mate t j) hj]

/-! Reversing the tokens turns the forward gradients into the backward ones. -/

theorem sum_rev {f g : Fin 16 → EReal} (h : ∀ j, f j.rev = g j) : ∑ j, f j = ∑ j, g j :=
  (Equiv.sum_comp Fin.revPerm f).symm.trans (Finset.sum_congr rfl fun j _ => h j)

theorem mate_rev (t : Fin 16384) (j : Fin 16) : (mate t.rev j.rev).rev = mate t j := by
  refine Fin.ext ?_
  simp only [mate, Fin.val_rev]
  omega

theorem sees_rev (t : Fin 16384) (j : Fin 16) : sees false (t.rev.val % 16) j.rev.val = sees true (t.val % 16) j.val := by
  simp only [sees, Fin.val_rev]
  simp
  omega

theorem sees_rev' (t : Fin 16384) (j : Fin 16) : sees false j.rev.val (t.rev.val % 16) = sees true j.val (t.val % 16) := by
  simp only [sees, Fin.val_rev]
  simp
  omega

variable {q k v ct}
variable {Q K : (⟨4, ![1, 16384, 8, 128]⟩ : Shape).Idx → EReal} {V C : (⟨4, ![1, 16384, 8, 64]⟩ : Shape).Idx → EReal}
  (hQ : ∀ u h i, Q (ix4 0 u h i) = q (ix4 0 u.rev h i)) (hK : ∀ u h i, K (ix4 0 u h i) = k (ix4 0 u.rev h i))
  (hV : ∀ u h i, V (ix4 0 u h i) = v (ix4 0 u.rev h i)) (hC : ∀ u h i, C (ix4 0 u h i) = ct (ix4 0 u.rev h i))
include hV hC hK in
theorem dq_rev (t : Fin 16384) (h : Fin 8) (i : Fin 128) : dq false K V C t.rev h i = dq true k v ct t h i :=
  sum_rev fun j => by simp only [sees_rev, hV, hC, hK, mate_rev, Fin.rev_rev]
include hV hC hQ in
theorem dk_rev (t : Fin 16384) (h : Fin 8) (i : Fin 128) : dk false Q V C t.rev h i = dk true q v ct t h i :=
  sum_rev fun j => by simp only [sees_rev', hV, hC, hQ, mate_rev, Fin.rev_rev]
include hQ hK hC in
theorem dv_rev (t : Fin 16384) (h : Fin 8) (i : Fin 64) : dv false Q K C t.rev h i = dv true q k ct t h i :=
  sum_rev fun j => by simp only [sees_rev', hQ, hC, hK, mate_rev, Fin.rev_rev]

/-- The results as packed arrays: heads side by side. -/
def packedOf {D : ℕ} (f : Fin 16384 → Fin 8 → Fin D → EReal) (hD : 0 < D) : (packed 16384 D).Idx → EReal := fun y =>
  f (y 1) ⟨(y 2).val / D, Nat.div_lt_of_lt_mul (by have : (y 2).val < 8 * D := (y 2).isLt; omega)⟩ ⟨(y 2).val % D, Nat.mod_lt _ hD⟩

theorem packedOf_col {D : ℕ} (f : Fin 16384 → Fin 8 → Fin D → EReal) (hD : 0 < D) (t : Fin 16384) (h : Fin 8) (i : Fin D) :
    packedOf f hD (ix3 0 t (col h i)) = f t h i := by
  have e1 : (D * h.val + i.val) / D = h.val := by rw [Nat.mul_add_div hD, Nat.div_eq_of_lt i.isLt, Nat.add_zero]
  have e2 : (D * h.val + i.val) % D = i.val := by rw [Nat.mul_add_mod, Nat.mod_eq_of_lt i.isLt]
  exact congrArg₂ (f t) (Fin.ext e1) (Fin.ext e2)

theorem select_sees (b : Bool) (x : EReal) : Scalar.select (BitVec.ofBool b) x 0 = if b = true then x else 0 := by
  cases b <;> rfl

theorem own (t : Fin 16384) (p : t.val / 16 * 16 + t.val % 16 < 16384) : (⟨t.val / 16 * 16 + t.val % 16, p⟩ : Fin 16384) = t :=
  Fin.ext (Nat.div_add_mod' t.val 16)

end Cert.Intra
-- ==== Proof.IntraF.lean ====
module

public import proofs.«01_k».proof.Proof.IntraSpec
public import proofs.«01_k».proof.Defs
public import proofs.«01_k».proof.Proof.Gen.IntraF.Frame
public import proofs.«01_k».proof.Proof.Gen.IntraFRefIdeal.Run
public import proofs.«01_k».proof.Proof.Gen.IntraFRefIdeal.Read
public import Idealize.ShloMosaic.Lib.Claim

@[expose] public section

set_option maxRecDepth 16384

/-! # Forward direction: the kernel's three arrays and the reference's -/

noncomputable section

namespace Cert.Intra.F

open Idealize.ShloMosaic Idealize.ShloMosaic.TcCoe Idealize.SL.Sem Cert.Heads

section Kernel

open Cert.IntraFIdeal Cert.IntraFIdeal.Gen

variable (m : (ℓ : Loc nD τ sig) → Buf (Elt Ideal) ℓ) (c : Dev nD)

theorem idx : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] := by decide +kernel

theorem in0 (t : Fin cfg0.N) (r : Fin 256) (h : Fin 8) (i : Fin 128) (u : Fin 16384) (hu : u.val = t.val * 256 + r.val) :
    iblk m c 0 t (ix3 0 r (col h i)) = m ((c : Thread nD τ).loc main_arg0) (ix4 0 u h i) := by
  blk_simp [iblk]; entry_read; pointwise; blk_ext [iblk, (idx t).1]

theorem in1 (t : Fin cfg0.N) (r : Fin 256) (h : Fin 8) (i : Fin 128) (u : Fin 16384) (hu : u.val = t.val * 256 + r.val) :
    iblk m c 1 t (ix3 0 r (col h i)) = m ((c : Thread nD τ).loc main_arg1) (ix4 0 u h i) := by
  blk_simp [iblk]; entry_read; pointwise; blk_ext [iblk, (idx t).2.1]

theorem in2 (t : Fin cfg0.N) (r : Fin 256) (h : Fin 8) (i : Fin 64) (u : Fin 16384) (hu : u.val = t.val * 256 + r.val) :
    iblk m c 2 t (ix3 0 r (col h i)) = m ((c : Thread nD τ).loc main_arg2) (ix4 0 u h i) := by
  blk_simp [iblk]; entry_read; pointwise; blk_ext [iblk, (idx t).2.2.1]

theorem in3 (t : Fin cfg0.N) (r : Fin 256) (h : Fin 8) (i : Fin 64) (u : Fin 16384) (hu : u.val = t.val * 256 + r.val) :
    iblk m c 3 t (ix3 0 r (col h i)) = m ((c : Thread nD τ).loc main_arg3) (ix4 0 u h i) := by
  blk_simp [iblk]; entry_read; pointwise; blk_ext [iblk, (idx t).2.2.2.1]

theorem sees_mask (x0 x1 : Vec Ideal S1x256x1024 .f32) (x2 x3 : Vec Ideal S1x256x512 .f32) (r s : Fin 256) :
    k0_pay84 x0 x1 x2 x3 (ix2 r s) = BitVec.ofBool (decide (r.val / 16 = s.val / 16 ∧ sees false r.val s.val = true)) := by
  rw [mask_apply]
  exact congrArg BitVec.ofBool (decide_eq_decide.mpr (and_congr_right fun _ => decide_eq_true_iff.symm))

theorem arr4 : (dats m 0 c).arrAt 4 cfg0.N = packedOf (dq false (m ((c : Thread nD τ).loc main_arg1)) (m ((c : Thread nD τ).loc main_arg2)) (m ((c : Thread nD τ).loc main_arg3))) (by decide : 0 < 128) := by
  refine (dats m 0 c).arrAt_eq_of_covers 4 _ (by decide +kernel) fun t hf y => ?_
  blk_simp
  rw [after0_4, out4]
  obtain ⟨a, r, d, rfl⟩ : ∃ (a : Fin 1) (r : Fin 256) (d : Fin (8 * 128)), y = ix3 a r d := ⟨y 0, y 1, y 2, eq_ix3 y⟩
  obtain ⟨h, i, rfl⟩ := exists_col d
  obtain rfl : a = 0 := Subsingleton.elim _ _
  have hN : t.val < 64 := t.isLt
  refine (outQ_eq false _ _ _ _ (sees_mask _ _ _ _) t.val _ _ _ (in1 m c t) (in2 m c t) (in3 m c t) r h i ⟨t.val * 256 + r.val, by omega⟩ rfl).trans ?_
  rw [← packedOf_col (dq false _ _ _) (by decide : 0 < 128)]
  blk_ext [(idx t).2.2.2.2.1]

theorem arr5 : (dats m 0 c).arrAt 5 cfg0.N = packedOf (dk false (m ((c : Thread nD τ).loc main_arg0)) (m ((c : Thread nD τ).loc main_arg2)) (m ((c : Thread nD τ).loc main_arg3))) (by decide : 0 < 128) := by
  refine (dats m 0 c).arrAt_eq_of_covers 5 _ (by decide +kernel) fun t hf y => ?_
  blk_simp
  rw [after0_5, out5]
  obtain ⟨a, r, d, rfl⟩ : ∃ (a : Fin 1) (r : Fin 256) (d : Fin (8 * 128)), y = ix3 a r d := ⟨y 0, y 1, y 2, eq_ix3 y⟩
  obtain ⟨h, i, rfl⟩ := exists_col d
  obtain rfl : a = 0 := Subsingleton.elim _ _
  have hN : t.val < 64 := t.isLt
  refine (outK_eq false _ _ _ _ (sees_mask _ _ _ _) t.val _ _ _ (in0 m c t) (in2 m c t) (in3 m c t) r h i ⟨t.val * 256 + r.val, by omega⟩ rfl).trans ?_
  rw [← packedOf_col (dk false _ _ _) (by decide : 0 < 128)]
  blk_ext [(idx t).2.2.2.2.2.1]

theorem arr6 : (dats m 0 c).arrAt 6 cfg0.N = packedOf (dv false (m ((c : Thread nD τ).loc main_arg0)) (m ((c : Thread nD τ).loc main_arg1)) (m ((c : Thread nD τ).loc main_arg3))) (by decide : 0 < 64) := by
  refine (dats m 0 c).arrAt_eq_of_covers 6 _ (by decide +kernel) fun t hf y => ?_
  blk_simp
  rw [after0_6, out6]
  obtain ⟨a, r, d, rfl⟩ : ∃ (a : Fin 1) (r : Fin 256) (d : Fin (8 * 64)), y = ix3 a r d := ⟨y 0, y 1, y 2, eq_ix3 y⟩
  obtain ⟨h, i, rfl⟩ := exists_col d
  obtain rfl : a = 0 := Subsingleton.elim _ _
  have hN : t.val < 64 := t.isLt
  refine (outV_eq false _ _ _ _ (sees_mask _ _ _ _) t.val _ _ _ (in0 m c t) (in1 m c t) (in3 m c t) r h i ⟨t.val * 256 + r.val, by omega⟩ rfl).trans ?_
  rw [← packedOf_col (dv false _ _ _) (by decide : 0 < 64)]
  blk_ext [(idx t).2.2.2.2.2.2]

end Kernel

section Reference

open Cert.IntraFRefIdeal Cert.IntraFRefIdeal.Gen Cert.IntraFRefIdeal.Read

variable (x0 x1 : (⟨S1x16384x8x128, .f32⟩ : BufTy).Contents (Elt Ideal)) (x2 x3 : (⟨S1x16384x8x64, .f32⟩ : BufTy).Contents (Elt Ideal))

theorem mask (n : Fin 1024) (h : Fin 8) (t s : Fin 16) : val_main_v6_1 (F := Ideal) (ix5 0 n h t s) = BitVec.ofBool (sees false t.val s.val) := by
  unfold val_main_v6_1 val_main_v5 val_main_call0_v4 val_main_v4 val_main_c val_main_call0_v5 val_main_call0_v3 val_main_call0_v2 val_main_call0_c_0 val_main_call0_v1 val_main_call0_c val_main_call0_v0
  pointwise
  revert t s
  decide

theorem ds (n : Fin 1024) (h : Fin 8) (t s : Fin 16) : val_main_v15 (F := Ideal) x2 x3 (ix5 0 n h t s) =
    if sees false t.val s.val then ∑ d : Fin 64, x3 (ix4 0 ⟨n.val * 16 + t.val, by omega⟩ h d) * x2 (ix4 0 ⟨n.val * 16 + s.val, by omega⟩ h d) else 0 := by
  unfold val_main_v15 val_main_v12 val_main_v11 val_main_v10 val_main_v2 val_main_call2_v0 val_main_call2_cst
  pointwise
  rw [mask, select_sees]

theorem sc (n : Fin 1024) (h : Fin 8) (t s : Fin 16) : val_main_v6_0 (F := Ideal) x0 x1 (ix5 0 n h t s) =
    if sees false t.val s.val then ∑ d : Fin 128, x0 (ix4 0 ⟨n.val * 16 + t.val, by omega⟩ h d) * x1 (ix4 0 ⟨n.val * 16 + s.val, by omega⟩ h d) else 0 := by
  unfold val_main_v6_0 val_main_v3 val_main_v1 val_main_v0 val_main_call1_v2 val_main_call1_v0 val_main_cst
  simp only [id]
  pointwise
  rw [mask, select_sees]

theorem ref23 : val_main_v23 x1 x2 x3 = packedOf (dq false x1 x2 x3) (by decide : 0 < 128) := by
  refine ext_cols (T := 16384) (D := 128) fun t h i => ?_
  rw [packedOf_col]
  unfold val_main_v23 val_main_v22 val_main_v19 val_main_v18 val_main_v1 dq
  pointwise
  simp only [ds, own, head_of_col, place_of_col, ite_mul, zero_mul]

theorem ref24 : val_main_v24 x0 x2 x3 = packedOf (dk false x0 x2 x3) (by decide : 0 < 128) := by
  refine ext_cols (T := 16384) (D := 128) fun t h i => ?_
  rw [packedOf_col]
  unfold val_main_v24 val_main_v21 val_main_v17 val_main_v16 val_main_v0 dk
  pointwise
  simp only [ds, own, head_of_col, place_of_col, ite_mul, zero_mul]

theorem ref25 : val_main_v25 x0 x1 x3 = packedOf (dv false x0 x1 x3) (by decide : 0 < 64) := by
  refine ext_cols (T := 16384) (D := 64) fun t h i => ?_
  rw [packedOf_col]
  unfold val_main_v25 val_main_v20 val_main_v14 val_main_v13 val_main_v11 val_main_v10 dv
  pointwise
  simp only [sc, own, head_of_col, place_of_col, mul_comm (x3 _), ite_mul, zero_mul]

end Reference

theorem frame_k : Cert.quiescent_IntraF := fun m ρ _ => Cert.IntraF.Gen.frame m ρ
theorem frame_i : Cert.quiescent_IntraFIdeal := fun m ρ _ => Cert.IntraFIdeal.Gen.frame m ρ
theorem frame_r : Cert.quiescent_IntraFRefIdeal := fun m ρ _ =>
  θ_run_mono (Cert.IntraFRefIdeal.Value.run (F := Ideal) m ρ) fun r h => ⟨fun c => (h c).2.2.2, sem_eq_zero_of_no_sems (by decide) r.2⟩

theorem algebraic : Cert.algebraic_IntraFIdeal_IntraFRefIdeal := by
  intro m g m' g' _ hagree
  refine ⟨fun c => packedOf (dq false (m ((c : Thread Cert.IntraFIdeal.nD Cert.IntraFIdeal.τ).loc Cert.IntraFIdeal.main_arg1)) (m ((c : Thread Cert.IntraFIdeal.nD Cert.IntraFIdeal.τ).loc Cert.IntraFIdeal.main_arg2))
      (m ((c : Thread Cert.IntraFIdeal.nD Cert.IntraFIdeal.τ).loc Cert.IntraFIdeal.main_arg3))) (by decide : 0 < 128),
    fun c => packedOf (dk false (m ((c : Thread Cert.IntraFIdeal.nD Cert.IntraFIdeal.τ).loc Cert.IntraFIdeal.main_arg0)) (m ((c : Thread Cert.IntraFIdeal.nD Cert.IntraFIdeal.τ).loc Cert.IntraFIdeal.main_arg2))
      (m ((c : Thread Cert.IntraFIdeal.nD Cert.IntraFIdeal.τ).loc Cert.IntraFIdeal.main_arg3))) (by decide : 0 < 128),
    fun c => packedOf (dv false (m ((c : Thread Cert.IntraFIdeal.nD Cert.IntraFIdeal.τ).loc Cert.IntraFIdeal.main_arg0)) (m ((c : Thread Cert.IntraFIdeal.nD Cert.IntraFIdeal.τ).loc Cert.IntraFIdeal.main_arg1))
      (m ((c : Thread Cert.IntraFIdeal.nD Cert.IntraFIdeal.τ).loc Cert.IntraFIdeal.main_arg3))) (by decide : 0 < 64), ?_, ?_⟩
  · exact θ_run_mono (Cert.IntraFIdeal.Value.run_blocks m g) fun r h c =>
      ⟨(h c).1.trans (arr4 m c), (h c).2.1.trans (arr5 m c), (h c).2.2.1.trans (arr6 m c), (h c).2.2.2⟩
  · refine θ_run_mono (Cert.IntraFRefIdeal.Value.run (F := Ideal) m' g') fun r h c => ?_
    obtain ⟨a0, a1, a2, a3⟩ := hagree c
    refine ⟨(h c).1.trans ((Cert.IntraFRefIdeal.Read.val_main_v23_eq _ _ _).trans ((ref23 _ _ _).trans ?_)),
      (h c).2.1.trans ((Cert.IntraFRefIdeal.Read.val_main_v24_eq _ _ _).trans ((ref24 _ _ _).trans ?_)),
      (h c).2.2.1.trans ((Cert.IntraFRefIdeal.Read.val_main_v25_eq _ _ _).trans ((ref25 _ _ _).trans ?_)), (h c).2.2.2⟩
    · rw [a1, a2, a3]
    · rw [a0, a2, a3]
    · rw [a0, a1, a3]

end Cert.Intra.F
-- ==== Proof.IntraB.lean ====
module

public import proofs.«01_k».proof.Proof.IntraSpec
public import proofs.«01_k».proof.Defs
public import proofs.«01_k».proof.Proof.Gen.IntraB.Frame
public import proofs.«01_k».proof.Proof.Gen.IntraBRefIdeal.Run
public import proofs.«01_k».proof.Proof.Gen.IntraBRefIdeal.Read
public import Idealize.ShloMosaic.Lib.Claim

@[expose] public section

set_option maxRecDepth 16384

/-! # Backward direction: the kernel's three arrays and the reference's -/

noncomputable section

namespace Cert.Intra.B

open Idealize.ShloMosaic Idealize.ShloMosaic.TcCoe Idealize.SL.Sem Cert.Heads

section Kernel

open Cert.IntraBIdeal Cert.IntraBIdeal.Gen

variable (m : (ℓ : Loc nD τ sig) → Buf (Elt Ideal) ℓ) (c : Dev nD)

theorem idx : ∀ t : Fin grid0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] := by decide +kernel

theorem in0 (t : Fin cfg0.N) (r : Fin 256) (h : Fin 8) (i : Fin 128) (u : Fin 16384) (hu : u.val = t.val * 256 + r.val) :
    iblk m c 0 t (ix3 0 r (col h i)) = m ((c : Thread nD τ).loc main_arg0) (ix4 0 u h i) := by
  blk_simp [iblk]; entry_read; pointwise; blk_ext [iblk, (idx t).1]

theorem in1 (t : Fin cfg0.N) (r : Fin 256) (h : Fin 8) (i : Fin 128) (u : Fin 16384) (hu : u.val = t.val * 256 + r.val) :
    iblk m c 1 t (ix3 0 r (col h i)) = m ((c : Thread nD τ).loc main_arg1) (ix4 0 u h i) := by
  blk_simp [iblk]; entry_read; pointwise; blk_ext [iblk, (idx t).2.1]

theorem in2 (t : Fin cfg0.N) (r : Fin 256) (h : Fin 8) (i : Fin 64) (u : Fin 16384) (hu : u.val = t.val * 256 + r.val) :
    iblk m c 2 t (ix3 0 r (col h i)) = m ((c : Thread nD τ).loc main_arg2) (ix4 0 u h i) := by
  blk_simp [iblk]; entry_read; pointwise; blk_ext [iblk, (idx t).2.2.1]

theorem in3 (t : Fin cfg0.N) (r : Fin 256) (h : Fin 8) (i : Fin 64) (u : Fin 16384) (hu : u.val = t.val * 256 + r.val) :
    iblk m c 3 t (ix3 0 r (col h i)) = m ((c : Thread nD τ).loc main_arg3) (ix4 0 u h i) := by
  blk_simp [iblk]; entry_read; pointwise; blk_ext [iblk, (idx t).2.2.2.1]

theorem sees_mask (x0 x1 : Vec Ideal S1x256x1024 .f32) (x2 x3 : Vec Ideal S1x256x512 .f32) (r s : Fin 256) :
    k0_pay84 x0 x1 x2 x3 (ix2 r s) = BitVec.ofBool (decide (r.val / 16 = s.val / 16 ∧ sees true r.val s.val = true)) := by
  rw [maskB_apply]
  exact congrArg BitVec.ofBool (decide_eq_decide.mpr (and_congr_right fun _ => decide_eq_true_iff.symm))

theorem arr4 : (dats m 0 c).arrAt 4 cfg0.N = packedOf (dq true (m ((c : Thread nD τ).loc main_arg1)) (m ((c : Thread nD τ).loc main_arg2)) (m ((c : Thread nD τ).loc main_arg3))) (by decide : 0 < 128) := by
  refine (dats m 0 c).arrAt_eq_of_covers 4 _ (by decide +kernel) fun t hf y => ?_
  blk_simp
  rw [after0_4, outB4]
  obtain ⟨a, r, d, rfl⟩ : ∃ (a : Fin 1) (r : Fin 256) (d : Fin (8 * 128)), y = ix3 a r d := ⟨y 0, y 1, y 2, eq_ix3 y⟩
  obtain ⟨h, i, rfl⟩ := exists_col d
  obtain rfl : a = 0 := Subsingleton.elim _ _
  have hN : t.val < 64 := t.isLt
  refine (outQ_eq true _ _ _ _ (sees_mask _ _ _ _) t.val _ _ _ (in1 m c t) (in2 m c t) (in3 m c t) r h i ⟨t.val * 256 + r.val, by omega⟩ rfl).trans ?_
  rw [← packedOf_col (dq true _ _ _) (by decide : 0 < 128)]
  blk_ext [(idx t).2.2.2.2.1]

theorem arr5 : (dats m 0 c).arrAt 5 cfg0.N = packedOf (dk true (m ((c : Thread nD τ).loc main_arg0)) (m ((c : Thread nD τ).loc main_arg2)) (m ((c : Thread nD τ).loc main_arg3))) (by decide : 0 < 128) := by
  refine (dats m 0 c).arrAt_eq_of_covers 5 _ (by decide +kernel) fun t hf y => ?_
  blk_simp
  rw [after0_5, outB5]
  obtain ⟨a, r, d, rfl⟩ : ∃ (a : Fin 1) (r : Fin 256) (d : Fin (8 * 128)), y = ix3 a r d := ⟨y 0, y 1, y 2, eq_ix3 y⟩
  obtain ⟨h, i, rfl⟩ := exists_col d
  obtain rfl : a = 0 := Subsingleton.elim _ _
  have hN : t.val < 64 := t.isLt
  refine (outK_eq true _ _ _ _ (sees_mask _ _ _ _) t.val _ _ _ (in0 m c t) (in2 m c t) (in3 m c t) r h i ⟨t.val * 256 + r.val, by omega⟩ rfl).trans ?_
  rw [← packedOf_col (dk true _ _ _) (by decide : 0 < 128)]
  blk_ext [(idx t).2.2.2.2.2.1]

theorem arr6 : (dats m 0 c).arrAt 6 cfg0.N = packedOf (dv true (m ((c : Thread nD τ).loc main_arg0)) (m ((c : Thread nD τ).loc main_arg1)) (m ((c : Thread nD τ).loc main_arg3))) (by decide : 0 < 64) := by
  refine (dats m 0 c).arrAt_eq_of_covers 6 _ (by decide +kernel) fun t hf y => ?_
  blk_simp
  rw [after0_6, outB6]
  obtain ⟨a, r, d, rfl⟩ : ∃ (a : Fin 1) (r : Fin 256) (d : Fin (8 * 64)), y = ix3 a r d := ⟨y 0, y 1, y 2, eq_ix3 y⟩
  obtain ⟨h, i, rfl⟩ := exists_col d
  obtain rfl : a = 0 := Subsingleton.elim _ _
  have hN : t.val < 64 := t.isLt
  refine (outV_eq true _ _ _ _ (sees_mask _ _ _ _) t.val _ _ _ (in0 m c t) (in1 m c t) (in3 m c t) r h i ⟨t.val * 256 + r.val, by omega⟩ rfl).trans ?_
  rw [← packedOf_col (dv true _ _ _) (by decide : 0 < 64)]
  blk_ext [(idx t).2.2.2.2.2.2]

end Kernel

section Reference

open Cert.IntraBRefIdeal Cert.IntraBRefIdeal.Gen Cert.IntraBRefIdeal.Read

variable (x0 x1 : (⟨S1x16384x8x128, .f32⟩ : BufTy).Contents (Elt Ideal)) (x2 x3 : (⟨S1x16384x8x64, .f32⟩ : BufTy).Contents (Elt Ideal))

theorem mask (n : Fin 1024) (h : Fin 8) (t s : Fin 16) : val_main_v9_1 (F := Ideal) (ix5 0 n h t s) = BitVec.ofBool (sees false t.val s.val) := by
  unfold val_main_v9_1 val_main_v8 val_main_call3_v4 val_main_v7 val_main_c val_main_call3_v5 val_main_call3_v3 val_main_call3_v2 val_main_call3_c_0 val_main_call3_v1 val_main_call3_c val_main_call3_v0
  pointwise
  revert t s
  decide

theorem turned {D : ℕ} (X : Vec Ideal ⟨4, ![1, 16384, 8, D]⟩ .f32) (t : Fin 16384) (h : Fin 8) (i : Fin D) :
    Host.reverse [1] X (ix4 0 t h i) = X (ix4 0 t.rev h i) := by
  refine congrArg X (funext fun a => ?_)
  match a with
  | ⟨0, _⟩ => rfl
  | ⟨1, _⟩ => rfl
  | ⟨2, _⟩ => rfl
  | ⟨3, _⟩ => rfl

theorem ds (n : Fin 1024) (h : Fin 8) (t s : Fin 16) : val_main_v20 (F := Ideal) x2 x3 (ix5 0 n h t s) =
    if sees false t.val s.val then ∑ d : Fin 64, val_main_v14 (F := Ideal) x3 (ix4 0 ⟨n.val * 16 + t.val, by omega⟩ h d) * val_main_v2 (F := Ideal) x2 (ix4 0 ⟨n.val * 16 + s.val, by omega⟩ h d) else 0 := by
  unfold val_main_v20 val_main_v17 val_main_v16 val_main_v15 val_main_v5 val_main_call7_v0 val_main_call7_cst
  pointwise
  rw [mask, select_sees]

theorem sc (n : Fin 1024) (h : Fin 8) (t s : Fin 16) : val_main_v9_0 (F := Ideal) x0 x1 (ix5 0 n h t s) =
    if sees false t.val s.val then ∑ d : Fin 128, val_main_v0 (F := Ideal) x0 (ix4 0 ⟨n.val * 16 + t.val, by omega⟩ h d) * val_main_v1 (F := Ideal) x1 (ix4 0 ⟨n.val * 16 + s.val, by omega⟩ h d) else 0 := by
  unfold val_main_v9_0 val_main_v6 val_main_v4 val_main_v3 val_main_call4_v2 val_main_call4_v0 val_main_cst
  simp only [id]
  pointwise
  rw [mask, select_sees]

theorem ref27 (t : Fin 16384) (h : Fin 8) (i : Fin 128) : val_main_v27 x1 x2 x3 (ix4 0 t h i) = dq false (val_main_v1 (F := Ideal) x1) (val_main_v2 (F := Ideal) x2) (val_main_v14 (F := Ideal) x3) t h i := by
  unfold val_main_v27 val_main_v24 val_main_v23 val_main_v4 dq
  pointwise
  simp only [ds, own, ite_mul, zero_mul]

theorem ref26 (t : Fin 16384) (h : Fin 8) (i : Fin 128) : val_main_v26 x0 x2 x3 (ix4 0 t h i) = dk false (val_main_v0 (F := Ideal) x0) (val_main_v2 (F := Ideal) x2) (val_main_v14 (F := Ideal) x3) t h i := by
  unfold val_main_v26 val_main_v22 val_main_v21 val_main_v3 dk
  pointwise
  simp only [ds, own, ite_mul, zero_mul]

theorem ref25 (t : Fin 16384) (h : Fin 8) (i : Fin 64) : val_main_v25 x0 x1 x3 (ix4 0 t h i) = dv false (val_main_v0 (F := Ideal) x0) (val_main_v1 (F := Ideal) x1) (val_main_v14 (F := Ideal) x3) t h i := by
  unfold val_main_v25 val_main_v19 val_main_v18 val_main_v16 val_main_v15 dv
  pointwise
  simp only [sc, own, mul_comm (val_main_v14 x3 _), ite_mul, zero_mul]

theorem ref31 : val_main_v31 x1 x2 x3 = packedOf (dq true x1 x2 x3) (by decide : 0 < 128) := by
  refine ext_cols (T := 16384) (D := 128) fun t h i => ?_
  rw [packedOf_col, ← dq_rev (K := val_main_v1 (F := Ideal) x1) (V := val_main_v2 (F := Ideal) x2) (C := val_main_v14 (F := Ideal) x3) (turned x1) (turned x2) (turned x3), ← ref27]
  unfold val_main_v31 val_main_v30
  pointwise
  simp only [head_of_col, place_of_col]
  rfl

theorem ref32 : val_main_v32 x0 x2 x3 = packedOf (dk true x0 x2 x3) (by decide : 0 < 128) := by
  refine ext_cols (T := 16384) (D := 128) fun t h i => ?_
  rw [packedOf_col, ← dk_rev (Q := val_main_v0 (F := Ideal) x0) (V := val_main_v2 (F := Ideal) x2) (C := val_main_v14 (F := Ideal) x3) (turned x0) (turned x2) (turned x3), ← ref26]
  unfold val_main_v32 val_main_v29
  pointwise
  simp only [head_of_col, place_of_col]
  rfl

theorem ref33 : val_main_v33 x0 x1 x3 = packedOf (dv true x0 x1 x3) (by decide : 0 < 64) := by
  refine ext_cols (T := 16384) (D := 64) fun t h i => ?_
  rw [packedOf_col, ← dv_rev (Q := val_main_v0 (F := Ideal) x0) (K := val_main_v1 (F := Ideal) x1) (C := val_main_v14 (F := Ideal) x3) (turned x0) (turned x1) (turned x3), ← ref25]
  unfold val_main_v33 val_main_v28
  pointwise
  simp only [head_of_col, place_of_col]
  rfl

end Reference

theorem frame_k : Cert.quiescent_IntraB := fun m ρ _ => Cert.IntraB.Gen.frame m ρ
theorem frame_i : Cert.quiescent_IntraBIdeal := fun m ρ _ => Cert.IntraBIdeal.Gen.frame m ρ
theorem frame_r : Cert.quiescent_IntraBRefIdeal := fun m ρ _ =>
  θ_run_mono (Cert.IntraBRefIdeal.Value.run (F := Ideal) m ρ) fun r h => ⟨fun c => (h c).2.2.2, sem_eq_zero_of_no_sems (by decide) r.2⟩

theorem algebraic : Cert.algebraic_IntraBIdeal_IntraBRefIdeal := by
  intro m g m' g' _ hagree
  refine ⟨fun c => packedOf (dq true (m ((c : Thread Cert.IntraBIdeal.nD Cert.IntraBIdeal.τ).loc Cert.IntraBIdeal.main_arg1)) (m ((c : Thread Cert.IntraBIdeal.nD Cert.IntraBIdeal.τ).loc Cert.IntraBIdeal.main_arg2))
      (m ((c : Thread Cert.IntraBIdeal.nD Cert.IntraBIdeal.τ).loc Cert.IntraBIdeal.main_arg3))) (by decide : 0 < 128),
    fun c => packedOf (dk true (m ((c : Thread Cert.IntraBIdeal.nD Cert.IntraBIdeal.τ).loc Cert.IntraBIdeal.main_arg0)) (m ((c : Thread Cert.IntraBIdeal.nD Cert.IntraBIdeal.τ).loc Cert.IntraBIdeal.main_arg2))
      (m ((c : Thread Cert.IntraBIdeal.nD Cert.IntraBIdeal.τ).loc Cert.IntraBIdeal.main_arg3))) (by decide : 0 < 128),
    fun c => packedOf (dv true (m ((c : Thread Cert.IntraBIdeal.nD Cert.IntraBIdeal.τ).loc Cert.IntraBIdeal.main_arg0)) (m ((c : Thread Cert.IntraBIdeal.nD Cert.IntraBIdeal.τ).loc Cert.IntraBIdeal.main_arg1))
      (m ((c : Thread Cert.IntraBIdeal.nD Cert.IntraBIdeal.τ).loc Cert.IntraBIdeal.main_arg3))) (by decide : 0 < 64), ?_, ?_⟩
  · exact θ_run_mono (Cert.IntraBIdeal.Value.run_blocks m g) fun r h c =>
      ⟨(h c).1.trans (arr4 m c), (h c).2.1.trans (arr5 m c), (h c).2.2.1.trans (arr6 m c), (h c).2.2.2⟩
  · refine θ_run_mono (Cert.IntraBRefIdeal.Value.run (F := Ideal) m' g') fun r h c => ?_
    obtain ⟨a0, a1, a2, a3⟩ := hagree c
    refine ⟨(h c).1.trans ((Cert.IntraBRefIdeal.Read.val_main_v31_eq _ _ _).trans ((ref31 _ _ _).trans ?_)),
      (h c).2.1.trans ((Cert.IntraBRefIdeal.Read.val_main_v32_eq _ _ _).trans ((ref32 _ _ _).trans ?_)),
      (h c).2.2.1.trans ((Cert.IntraBRefIdeal.Read.val_main_v33_eq _ _ _).trans ((ref33 _ _ _).trans ?_)), (h c).2.2.2⟩
    · rw [a1, a2, a3]
    · rw [a0, a2, a3]
    · rw [a0, a1, a3]

end Cert.Intra.B
-- ==== Proof.Reals.lean ====
module

public import Idealize.ShloMosaic.Lib.KernelVsHost
public import Idealize.ShloMosaic.Lib.Pointwise
public import Idealize.ShloMosaic.Lib.ReduceAll
public import Idealize.ShloMosaic.Lib.Affine

@[expose] public section

/-! # Arrays of real numbers among the extended reals -/

noncomputable section

namespace Cert.Reals

open Idealize.ShloMosaic

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem coe_max (a b : ℝ) : max (a : EReal) (b : EReal) = ((max a b : ℝ) : EReal) :=
  (Monotone.map_max (fun _ _ h => EReal.coe_le_coe_iff.mpr h)).symm

/-- The greatest of the entries of a nonempty array is a real number. -/
theorem fold_max_real {ι : Type} (s : Finset ι) (f : ι → ℝ) (hs : s.Nonempty) : ∃ x : ℝ, s.fold max (⊥ : EReal) (fun i => (f i : EReal)) = x := by
  classical
  induction hs using Finset.Nonempty.cons_induction with
  | singleton a => exact ⟨f a, by rw [Finset.fold_singleton]; exact max_bot_right _⟩
  | cons a s ha _ ih =>
    obtain ⟨x, hx⟩ := ih
    exact ⟨max (f a) x, by rw [Finset.fold_cons, hx, coe_max]⟩

theorem bits_bot : Ideal.ofBits FTy.f32 0xFF800000#32 = (⊥ : EReal) := by
  simp [Ideal.ofBits, Ideal.ieee]

theorem bits_top : Ideal.ofBits FTy.f32 0x7F800000#32 = (⊤ : EReal) := by
  simp [Ideal.ofBits, Ideal.ieee]

/-- A kernel's greatest entry along one axis of an array of real numbers is real. -/
theorem max_reduction_real {s t : Shape} {a : Fin s.rank} (ha : 0 < s.size a) (x : FVec Ideal s .f32) (f : s.Idx → ℝ) (hf : ∀ i, x i = (f i : EReal)) (h : s.Reduces [a] t)
    (hφ : FKind.Formats .f32) (hacc : 0xFF800000#32 = FKind.maximumf.neutral .f32 hφ) (j : t.Idx) :
    ∃ y : ℝ, multiReduction .maximumf [a] t x 0xFF800000#32 h hφ hacc j = (y : EReal) := by
  classical
  rw [multiReduction_maximumf_eq_fold, h.fold_filter_drop_single]
  obtain ⟨y, hy⟩ := fold_max_real (Finset.univ : Finset (Fin (s.size a))) (fun k => f (h.lift j k)) ⟨⟨0, ha⟩, Finset.mem_univ _⟩
  refine ⟨y, ?_⟩
  rw [← hy, ← bits_bot]
  exact congrArg (fun g => Finset.fold max (Ideal.ofBits FTy.f32 0xFF800000#32) g Finset.univ) (funext fun k => hf _)

/-- A reference's greatest entry along one axis of an array of real numbers is real. -/
theorem host_max_real {s t u : Shape} {a : Fin s.rank} (ha : 0 < s.size a) (x : FVec Ideal s .f32) (f : s.Idx → ℝ) (hf : ∀ i, x i = (f i : EReal)) (h : s.ReducesTo [a] t)
    (h' : s.Reduces [a] t) (hu : 0 < u.numel) (j : t.Idx) :
    ∃ y : ℝ, Host.reduce FloatOps.maximumf x (constant u .f32 0xFF800000#32) h hu j = (y : EReal) := by
  obtain ⟨y, hy⟩ := max_reduction_real ha x f hf h' (.inl rfl) rfl j
  exact ⟨y, (congrFun (hostReduce_maximumf_eq_multiReduction x 0xFF800000#32 h hu h' (.inl rfl) rfl) j).trans hy⟩

theorem real_of_abs_lt (x : EReal) (h : max x (-x) < ⊤) : ∃ r : ℝ, x = r := by
  induction x with
  | bot => simp at h
  | top => simp at h
  | coe r => exact ⟨r, rfl⟩

theorem exists_real {ι : Type} (f : ι → EReal) (h : ∀ i, max (f i) (-f i) < ⊤) : ∃ g : ι → ℝ, f = fun i => (g i : EReal) := by
  choose g hg using fun i => real_of_abs_lt (f i) (h i)
  exact ⟨g, funext hg⟩

/-- What the host's "every magnitude is less than infinity" says. -/
theorem reals_of_all {s t u : Shape} {axes : List (Fin s.rank)} [Subsingleton t.Idx] (x b : FVec Ideal s .f32) (hb : ∀ i, b i = (⊤ : EReal)) (init : IVec u 1) (h : s.ReducesTo axes t) (hu : 0 < u.numel) (j : t.Idx)
    (e : Host.reduce IntOp.andi (cmpf .olt (Host.absf x) b) init h hu j = 1#1) : ∃ g : s.Idx → ℝ, x = fun i => (g i : EReal) := by
  refine exists_real x fun i => ?_
  have k := Host.reduce_andi_all _ init h hu j e i
  have k' : Ideal.cmp .olt (max (x i) (-x i)) (b i) = 1#1 := k
  rw [hb] at k'
  by_contra hn
  rw [Ideal.cmp] at k'
  simp [hn] at k'

theorem exp2_real (r : ℝ) : Ideal.exp2 (r : EReal) = ((Real.exp (Real.log 2 * r) : ℝ) : EReal) := by
  rw [Ideal.exp2_coe]
  exact congrArg _ (Real.rpow_def_of_pos (by norm_num) r)

theorem log_real (r : ℝ) (h : 0 < r) : Ideal.log (r : EReal) = ((Real.log r : ℝ) : EReal) := by
  rw [Ideal.log_coe, if_neg (not_le.mpr h)]

theorem div_real (x y : ℝ) (h : y ≠ 0) : Ideal.div (x : EReal) (y : EReal) = ((x / y : ℝ) : EReal) := by
  rw [Ideal.div_coe h, ← EReal.coe_mul, mul_one_div]

/-- Consecutive blocks of `K` terms, summed block by block. -/
theorem sum_blocks (K n : ℕ) (f : ℕ → ℝ) : ∑ b ∈ Finset.range n, ∑ i : Fin K, f (b * K + i.val) = ∑ j ∈ Finset.range (n * K), f j := by
  induction n with
  | zero => simp
  | succ n ih => rw [Finset.sum_range_succ, ih, Nat.add_mul, Nat.one_mul, Finset.sum_range_add, Finset.sum_range (fun x => f (n * K + x))]

end Cert.Reals
end
-- ==== Proof.MlaSpec.lean ====
module

public import proofs.«01_k».proof.Proof.Reals
public import proofs.«01_k».proof.Pre_finite_attention

@[expose] public section

set_option maxRecDepth 16384

/-! # Softmax attention of eight heads over real numbers -/

noncomputable section

namespace Cert.Mla

open Idealize.ShloMosaic Cert.Reals

/-- Tokens by heads by channels. -/
abbrev Tok (D : ℕ) : Shape := ⟨4, ![1, 16384, 8, D]⟩

variable (q k : (Tok 96).Idx → ℝ) (v : (Tok 64).Idx → ℝ) (h : Fin 8)

/-- The scaled score of query `i` with key `j`. -/
def score (i j : Fin 16384) : ℝ := (∑ d : Fin 96, q (ix4 0 i h d) * k (ix4 0 j h d)) / Real.sqrt 96
/-- The weights' total. -/
def total (i : Fin 16384) : ℝ := ∑ j : Fin 16384, Real.exp (score q k h i j)
/-- The share of key `j` in query `i`'s average. -/
def share (i j : Fin 16384) : ℝ := Real.exp (score q k h i j) / total q k h i
def mean (i : Fin 16384) (e : Fin 64) : ℝ := ∑ j : Fin 16384, share q k h i j * v (ix4 0 j h e)
/-- The row's log-sum, of base two. -/
def logSum (i : Fin 16384) : ℝ := Real.log (total q k h i) / Real.log 2

theorem total_pos (i : Fin 16384) : 0 < total q k h i :=
  Finset.sum_pos (fun _ _ => Real.exp_pos _) ⟨0, Finset.mem_univ _⟩

theorem log_two_pos : 0 < Real.log 2 := Real.log_pos (by norm_num)

/-- Token number `n`, counted round. -/
abbrev tok (n : ℕ) : Fin 16384 := ⟨n % 16384, Nat.mod_lt _ (by decide)⟩

/-- What key number `n` adds to column `e` of query `i`'s sums: its weighted value, or past the values' columns its weight. -/
def term (i : Fin 16384) (e : ℕ) (n : ℕ) : ℝ :=
  Real.exp (score q k h i (tok n)) * if he : e < 64 then v (ix4 0 (tok n) h ⟨e, he⟩) else 1

/-- The sums over the first `n` blocks of 2048 keys. -/
def upto (i : Fin 16384) (e n : ℕ) : ℝ := ∑ b ∈ Finset.range n, ∑ s : Fin 2048, term q k v h i e (b * 2048 + s.val)

theorem upto_all (i : Fin 16384) (e : ℕ) : upto q k v h i e 8 = ∑ j : Fin 16384, term q k v h i e j.val := by
  unfold upto
  rw [sum_blocks 2048 8, show 8 * 2048 = 16384 from rfl, Finset.sum_range]

theorem tok_val (j : Fin 16384) : tok j.val = j := Fin.ext (Nat.mod_eq_of_lt j.isLt)

theorem upto_total (i : Fin 16384) : upto q k v h i 64 8 = total q k h i := by
  rw [upto_all]
  refine Finset.sum_congr rfl fun j _ => ?_
  unfold term
  rw [dif_neg (by decide), mul_one, tok_val]

theorem upto_mean (i : Fin 16384) (e : Fin 64) : upto q k v h i e.val 8 = mean q k v h i e * total q k h i := by
  rw [upto_all, mean, Finset.sum_mul]
  refine Finset.sum_congr rfl fun j _ => ?_
  unfold term share
  rw [dif_pos e.isLt, tok_val]
  have := (total_pos q k h i).ne'
  field_simp

def meanOf (q k : (Tok 96).Idx → ℝ) (v : (Tok 64).Idx → ℝ) : (⟨3, ![8, 64, 16384]⟩ : Shape).Idx → EReal := fun y => (mean q k v (y 0) (y 2) (y 1) : ℝ)
def logSumOf (q k : (Tok 96).Idx → ℝ) : (⟨3, ![8, 1, 16384]⟩ : Shape).Idx → EReal := fun y => (logSum q k (y 0) (y 2) : ℝ)

open Cert.Pre_finite_attention in
/-- The stated precondition: every entry of the three arrays is a real number. -/
theorem entries_real [Cert.Pre_finite_attention.Facts] (x0 x1 : (Tok 96).Idx → EReal) (x2 : (Tok 64).Idx → EReal) (hp : fn (F := Ideal) x0 x1 x2 = fun _ => 1#1) :
    (∃ q : (Tok 96).Idx → ℝ, x0 = fun i => (q i : EReal)) ∧ (∃ k : (Tok 96).Idx → ℝ, x1 = fun i => (k i : EReal)) ∧ ∃ v : (Tok 64).Idx → ℝ, x2 = fun i => (v i : EReal) := by
  have h0 := congrFun hp ix0
  dsimp only [fn] at h0
  obtain ⟨h1, h2⟩ := IntOp.andi_eq_one.1 h0
  obtain ⟨h3, h4⟩ := IntOp.andi_eq_one.1 h1
  have : Subsingleton S_.Idx := ⟨fun a b => funext fun d => d.elim0⟩
  exact ⟨reals_of_all x0 _ (fun _ => bits_top) _ _ _ _ h3, reals_of_all x1 _ (fun _ => bits_top) _ _ _ _ h4, reals_of_all x2 _ (fun _ => bits_top) _ _ _ _ h2⟩

end Cert.Mla
end
-- ==== Proof.MlaStep.lean ====
module

public import proofs.«01_k».proof.Proof.Gen.MlaFwdIdeal.Value
public import proofs.«01_k».proof.Proof.MlaSpec
public import Idealize.ShloMosaic.Lib.Pipeline.ValueKit
public import Idealize.ShloMosaic.Lib.Pipeline.ReadBack
public import Idealize.ShloMosaic.Lib.Tactic

@[expose] public section

set_option maxRecDepth 16384

/-! # One block of keys, added to a block of queries' running sums -/

noncomputable section

namespace Cert.Mla

open Cert.MlaFwdIdeal Cert.MlaFwdIdeal.Gen Idealize.ShloMosaic Idealize.ShloMosaic.TcCoe Cert.Reals

section Payloads

variable (x0 : Vec Ideal S1x96x2048 .bf16) (x1 : Vec Ideal S1x2048x96 .bf16) (x2 : Vec Ideal S1x80x2048 .bf16) (a : Vec Ideal S1x2048 .f32) (b : Vec Ideal S80x2048 .f32)

theorem pay6_apply (s r : Fin 2048) : k0_pay6 x1 x0 (ix2 s r) = ∑ d : Fin 96, x1 (ix3 0 s d) * x0 (ix3 0 d r) := by
  unfold k0_pay6
  pointwise

/-- The largest score of a block of keys, for each query, is a real number. -/
theorem block_max_real (f : Fin 2048 → Fin 2048 → ℝ) (x : FVec Ideal S2048x2048 .f32) (hf : ∀ s r, x (ix2 s r) = (f s r : EReal)) (j) :
    ∃ y : ℝ, multiReduction .maximumf [0] S2048 x 0xFF800000#32 reduces_S2048x2048_S2048 (.inl rfl) rfl j = (y : EReal) :=
  max_reduction_real (s := S2048x2048) (a := 0) (by decide) x (fun i => f (i 0) (i 1)) (fun i => by
    obtain ⟨s, r, rfl⟩ : ∃ s r : Fin 2048, i = ix2 s r := ⟨i 0, i 1, eq_ix2 i⟩
    exact hf s r) _ _ _ j

/-- The new bound: the larger of the old one and the scaled block maximum. -/
theorem bound_apply (M : FVec Ideal S2048 .f32) (r : Fin 2048) :
    maximumf a (mulf (shapeCast S1x2048 M shapeCasts_S2048_S1x2048) (broadcast S1x2048 (Named.named κ "scale_log2e" 0x3E16C740#32))) (ix2 0 r)
      = max (a (ix2 0 r)) (M (ix1 r) * (((Real.sqrt 96)⁻¹ * (Real.log 2)⁻¹ : ℝ) : EReal)) := by
  pointwise
  rw [IdealRules.named_const.ideal_named_scalar _ _ _ _ rfl]

theorem pay7_apply (r : Fin 2048) : k0_pay7 x1 x0 a (ix2 0 r) = max (a (ix2 0 r))
    (multiReduction .maximumf [0] S2048 (k0_pay6 x1 x0) 0xFF800000#32 reduces_S2048x2048_S2048 (.inl rfl) rfl (ix1 r) * (((Real.sqrt 96)⁻¹ * (Real.log 2)⁻¹ : ℝ) : EReal)) :=
  bound_apply a _ r

/-- The running bound stays a real number. -/
theorem pay7_real (f : Fin 2048 → Fin 2048 → ℝ) (hf : ∀ s r, k0_pay6 x1 x0 (ix2 s r) = (f s r : EReal)) (μ : Fin 2048 → ℝ) (ha : ∀ r, a (ix2 0 r) = (μ r : EReal)) (r : Fin 2048) :
    ∃ x : ℝ, k0_pay7 x1 x0 a (ix2 0 r) = (x : EReal) := by
  obtain ⟨y, hy⟩ := block_max_real f _ hf (ix1 r)
  exact ⟨_, (pay7_apply x0 x1 a r).trans ((congrArg₂ (fun u w => max u (w * (((Real.sqrt 96)⁻¹ * (Real.log 2)⁻¹ : ℝ) : EReal))) (ha r) hy).trans
    ((congrArg (max _) (EReal.coe_mul _ _).symm).trans (coe_max _ _)))⟩

theorem pay8_apply (e : Fin 80) (r : Fin 2048) : k0_pay8 x1 x0 a b x2 (ix2 e r) =
    Ideal.exp2 (a (ix2 0 r) - k0_pay7 x1 x0 a (ix2 0 r)) * b (ix2 e r)
      + ∑ s : Fin 2048, x2 (ix3 0 e s) * Ideal.exp2 (k0_pay6 x1 x0 (ix2 s r) * (((Real.sqrt 96)⁻¹ * (Real.log 2)⁻¹ : ℝ) : EReal) - k0_pay7 x1 x0 a (ix2 0 r)) := by
  unfold k0_pay8
  pointwise
  rw [IdealRules.named_const.ideal_named_scalar _ _ _ _ rfl]
  rfl

theorem pay3_apply (l : Vec Ideal S1x2048 .f32) (r : Fin 2048) : k0_pay3 l a (ix3 0 0 r) = a (ix2 0 r) + Ideal.log (l (ix2 0 r)) * (((Real.log 2)⁻¹ : ℝ) : EReal) := by
  unfold k0_pay3
  pointwise
  rw [IdealRules.named_const.ideal_named_scalar _ _ _ _ rfl]

theorem pay2_apply (l : Vec Ideal S1x2048 .f32) (o : Vec Ideal S64x2048 .f32) (e : Fin 64) (r : Fin 2048) : k0_pay2 l o (ix3 0 e r) = Ideal.div (o (ix2 e r)) (l (ix2 0 r)) := by
  unfold k0_pay2
  pointwise

theorem pay4_apply (r : Fin 2048) : ∃ x : ℝ, k0_pay4 (F := Ideal) (ix2 0 r) = (x : EReal) := by
  unfold k0_pay4
  pointwise
  refine ⟨-1000000015047466219876688855040, ?_⟩
  simp [Ideal.ofBits, Ideal.ieee, -EReal.coe_mul]
  norm_num

theorem pay5_apply (e : Fin 80) (r : Fin 2048) : k0_pay5 (F := Ideal) (ix2 e r) = (0 : EReal) := by
  unfold k0_pay5
  pointwise

theorem pay1_eq (x : FVec Ideal S1x2048 .f32) : k0_pay1 x = x := by
  funext y
  obtain ⟨i, r, rfl⟩ : ∃ (i : Fin 1) (r : Fin 2048), y = ix2 i r := ⟨y 0, y 1, eq_ix2 y⟩
  unfold k0_pay1
  pointwise

/-- One block of keys: running sums kept relative to a running bound `μ`, as `2 ^ (-μ)` times the sums of the weighted values. -/
theorem step (Q : Fin 96 → Fin 2048 → ℝ) (K : Fin 2048 → Fin 96 → ℝ) (V : Fin 80 → Fin 2048 → ℝ) (A : Fin 80 → Fin 2048 → ℝ) (μ : Fin 2048 → ℝ)
    (h0 : ∀ d r, x0 (ix3 0 d r) = (Q d r : EReal)) (h1 : ∀ s d, x1 (ix3 0 s d) = (K s d : EReal)) (h2 : ∀ e s, x2 (ix3 0 e s) = (V e s : EReal))
    (ha : ∀ r, a (ix2 0 r) = (μ r : EReal)) (hb : ∀ e r, b (ix2 e r) = ((Real.exp (-(Real.log 2 * μ r)) * A e r : ℝ) : EReal)) :
    ∃ ν : Fin 2048 → ℝ, (∀ r, k0_pay7 x1 x0 a (ix2 0 r) = (ν r : EReal)) ∧ ∀ e r, k0_pay8 x1 x0 a b x2 (ix2 e r) =
      ((Real.exp (-(Real.log 2 * ν r)) * (A e r + ∑ s : Fin 2048, Real.exp ((∑ d : Fin 96, Q d r * K s d) / Real.sqrt 96) * V e s) : ℝ) : EReal) := by
  have hs : ∀ s r, k0_pay6 x1 x0 (ix2 s r) = ((∑ d : Fin 96, Q d r * K s d : ℝ) : EReal) := fun s r => by
    rw [pay6_apply, ← coe_sum]
    exact Finset.sum_congr rfl fun d _ => by rw [h0, h1, ← EReal.coe_mul, mul_comm]
  choose ν hν using pay7_real x0 x1 a _ hs μ ha
  refine ⟨ν, hν, fun e r => ?_⟩
  rw [pay8_apply, ha, hb, hν, ← EReal.coe_sub, exp2_real, ← EReal.coe_mul]
  have ht : ∀ s : Fin 2048, x2 (ix3 0 e s) * Ideal.exp2 (k0_pay6 x1 x0 (ix2 s r) * (((Real.sqrt 96)⁻¹ * (Real.log 2)⁻¹ : ℝ) : EReal) - (ν r : EReal))
      = ((Real.exp (-(Real.log 2 * ν r)) * (Real.exp ((∑ d : Fin 96, Q d r * K s d) / Real.sqrt 96) * V e s) : ℝ) : EReal) := fun s => by
    rw [hs, h2, ← EReal.coe_mul, ← EReal.coe_sub, exp2_real, ← EReal.coe_mul]
    refine congrArg _ ?_
    have hl := log_two_pos.ne'
    rw [show Real.log 2 * ((∑ d : Fin 96, Q d r * K s d) * ((Real.sqrt 96)⁻¹ * (Real.log 2)⁻¹) - ν r) = -(Real.log 2 * ν r) + (∑ d : Fin 96, Q d r * K s d) / Real.sqrt 96 from by field_simp; ring, Real.exp_add]
    ring
  simp only [ht]
  rw [coe_sum, ← EReal.coe_add]
  refine congrArg _ ?_
  rw [show Real.log 2 * (μ r - ν r) = -(Real.log 2 * ν r) + Real.log 2 * μ r from by ring, Real.exp_add, ← Finset.mul_sum, Real.exp_neg (Real.log 2 * μ r)]
  have := (Real.exp_pos (Real.log 2 * μ r)).ne'
  field_simp

end Payloads

end Cert.Mla
end
-- ==== Proof.MlaFwd.lean ====
module

public import proofs.«01_k».proof.Proof.MlaStep
public import proofs.«01_k».proof.Defs
public import proofs.«01_k».proof.Proof.Gen.MlaFwd.Frame
public import proofs.«01_k».proof.Proof.Gen.MlaFwdRefIdeal.Run
public import proofs.«01_k».proof.Proof.Gen.MlaFwdRefIdeal.Read
public import Idealize.ShloMosaic.Lib.Claim

@[expose] public section

set_option maxRecDepth 16384

/-! # The attention's forward call: its averages and log-sums -/

noncomputable section

namespace Cert.Mla

open Idealize.ShloMosaic Idealize.ShloMosaic.TcCoe Idealize.SL.Sem Cert.Reals

section Kernel

open Cert.MlaFwdIdeal Cert.MlaFwdIdeal.Gen

variable (m : (ℓ : Loc nD τ sig) → Buf (Elt Ideal) ℓ) (c : Dev nD)

theorem idx0 : ∀ t : Fin grid0.N, win0_0.index t = ![t.val / 64, 0, t.val / 8 % 8] := by decide +kernel
theorem idx1 : ∀ t : Fin grid0.N, win0_1.index t = ![t.val / 64, t.val % 8, 0] := by decide +kernel
theorem idx2 : ∀ t : Fin grid0.N, win0_2.index t = ![t.val / 64, 0, t.val % 8] := by decide +kernel
theorem idx3 : ∀ t : Fin grid0.N, win0_3.index t = ![t.val / 64, 0, t.val / 8 % 8] := by decide +kernel
theorem idx4 : ∀ t : Fin grid0.N, win0_4.index t = ![t.val / 64, 0, t.val / 8 % 8] := by decide +kernel

theorem in0 (t : Fin cfg0.N) (d : Fin 96) (r : Fin 2048) (h : Fin 8) (u : Fin 16384) (hh : h.val = t.val / 64) (hu : u.val = t.val / 8 % 8 * 2048 + r.val) :
    iblk m c 0 t (ix3 0 d r) = m ((c : Thread nD τ).loc main_arg0) (ix4 0 u h d) := by
  blk_simp [iblk]; entry_read; pointwise
  blk_ext [iblk, (idx0 t)]

theorem in1 (t : Fin cfg0.N) (d : Fin 96) (r : Fin 2048) (h : Fin 8) (u : Fin 16384) (hh : h.val = t.val / 64) (hu : u.val = t.val % 8 * 2048 + r.val) :
    iblk m c 1 t (ix3 0 r d) = m ((c : Thread nD τ).loc main_arg1) (ix4 0 u h d) := by
  blk_simp [iblk]; entry_read; pointwise
  blk_ext [iblk, (idx1 t)]

theorem in2 (t : Fin cfg0.N) (e : Fin 80) (r : Fin 2048) (h : Fin 8) (u : Fin 16384) (hh : h.val = t.val / 64) (hu : u.val = t.val % 8 * 2048 + r.val) :
    iblk m c 2 t (ix3 0 e r) = (if he : e.val < 64 then m ((c : Thread nD τ).loc main_arg2) (ix4 0 u h ⟨e.val, he⟩) else (1 : EReal)) := by
  blk_simp [iblk]; entry_read; pointwise
  have k : ((((View.whole main_v10).slice (win0_2.rect t)).emb (ix3 0 e r)) 1).val = e.val := by
    show (win0_2.index t) 1 * 80 + 1 * e.val = e.val
    rw [idx2]; show 0 * 80 + 1 * e.val = e.val; omega
  by_cases he : e.val < 64
  · rw [dif_pos he, dif_pos (by rw [k]; exact he)]
    blk_ext [iblk, (idx2 t)]
  · rw [dif_neg he, dif_neg (by rw [k]; exact he)]

theorem kept_first (t : Fin cfg0.N) (h0 : t.val % 8 = 0) : (outsAt0 m c t.val t.isLt).2.2 = (k0_pay7 (iblk m c 1 t) (iblk m c 0 t) (k0_pay4 (F := Ideal)),
    k0_pay8 (iblk m c 1 t) (iblk m c 0 t) (k0_pay4 (F := Ideal)) (k0_pay5 (F := Ideal)) (iblk m c 2 t)) := by
  rw [Gen.outsAt0_A m c t h0 (by omega)]
  frame_out
  rw [pay1_eq]

theorem kept_next (t : Fin cfg0.N) (h0 : ¬t.val % 8 = 0) (p) (hp : p = outsAt0 m c (t.val - 1) (Nat.lt_of_le_of_lt (Nat.sub_le _ _) t.isLt)) :
    (outsAt0 m c t.val t.isLt).2.2 = (k0_pay7 (iblk m c 1 t) (iblk m c 0 t) p.2.2.1, k0_pay8 (iblk m c 1 t) (iblk m c 0 t) p.2.2.1 p.2.2.2 (iblk m c 2 t)) := by
  by_cases h1 : t.val % 8 = 7
  · rw [Gen.outsAt0_C m c t h0 h1, ← hp]
    frame_out
    simp only [read_unread_whole, pay1_eq]
  · rw [Gen.outsAt0_B m c t h0 h1, ← hp]
    frame_out
    simp only [read_unread_whole, pay1_eq]

/-- Reading back rows of an array just stored whole. -/
theorem readCov_rows (w : View sig .tc .vmem S80x2048 .f32) (X : Vec Ideal S80x2048 .f32) (B : LoadRect S80x2048) :
    w.readCov [⟨Rect.unit ![0, 0] S80x2048.size inb_S80x2048_S80x2048_0_0, X⟩] B = fun j => X (B.idx j) := by
  rw [View.readCov_eq_canon', View.canon_cons_unit_lit' _ _ _ (by decide)]

/-- The sums of weights, and the sums of weighted values. -/
def rowSum (A : Vec Ideal S80x2048 .f32) : Vec Ideal S1x2048 .f32 := fun j => A (ix2 64 (j 1))
def rowVal (A : Vec Ideal S80x2048 .f32) : Vec Ideal S64x2048 .f32 := fun j => A (ix2 ⟨(j 0).val, (j 0).isLt.trans (by decide)⟩ (j 1))

theorem read_sum (w : View sig .tc .vmem S80x2048 .f32) (X : Vec Ideal S80x2048 .f32) :
    w.readCov [⟨Rect.unit ![0, 0] S80x2048.size inb_S80x2048_S80x2048_0_0, X⟩] (Rect.unit (s := S80x2048) ![64, 0] S1x2048.size inb_S80x2048_S1x2048_64_0).toLoadRect = rowSum X :=
  (readCov_rows w X _).trans (funext fun j => congrArg X (funext fun d => Fin.ext (by
    obtain ⟨i, r, rfl⟩ : ∃ (i : Fin 1) (r : Fin 2048), j = ix2 i r := ⟨j 0, j 1, eq_ix2 j⟩
    obtain rfl : i = 0 := Subsingleton.elim _ _
    fin_cases d
    · show 64 + 1 * 0 = 64; rfl
    · show 0 + 1 * r.val = r.val; omega)))

theorem read_val (w : View sig .tc .vmem S80x2048 .f32) (X : Vec Ideal S80x2048 .f32) :
    w.readCov [⟨Rect.unit ![0, 0] S80x2048.size inb_S80x2048_S80x2048_0_0, X⟩] (Rect.unit (s := S80x2048) ![0, 0] S64x2048.size inb_S80x2048_S64x2048_0_0).toLoadRect = rowVal X :=
  (readCov_rows w X _).trans (funext fun j => congrArg X (funext fun d => Fin.ext (by
    obtain ⟨i, r, rfl⟩ : ∃ (i : Fin 64) (r : Fin 2048), j = ix2 i r := ⟨j 0, j 1, eq_ix2 j⟩
    fin_cases d
    · show 0 + 1 * i.val = i.val; omega
    · show 0 + 1 * r.val = r.val; omega)))

theorem last_mean (t : Fin cfg0.N) (h0 : ¬t.val % 8 = 0) (h1 : t.val % 8 = 7) (p) (hp : p = outsAt0 m c (t.val - 1) (Nat.lt_of_le_of_lt (Nat.sub_le _ _) t.isLt)) (A : Vec Ideal S80x2048 .f32)
    (hA : A = k0_pay8 (iblk m c 1 t) (iblk m c 0 t) p.2.2.1 p.2.2.2 (iblk m c 2 t)) :
    (outsAt0 m c t.val t.isLt).1 = k0_pay2 (rowSum A) (rowVal A) := by
  rw [Gen.outsAt0_C m c t h0 h1, ← hp]
  frame_out
  simp only [read_unread_whole]
  rw [← hA]
  rw [read_sum, read_val]

theorem last_logSum (t : Fin cfg0.N) (h0 : ¬t.val % 8 = 0) (h1 : t.val % 8 = 7) (p) (hp : p = outsAt0 m c (t.val - 1) (Nat.lt_of_le_of_lt (Nat.sub_le _ _) t.isLt)) (A : Vec Ideal S80x2048 .f32)
    (hA : A = k0_pay8 (iblk m c 1 t) (iblk m c 0 t) p.2.2.1 p.2.2.2 (iblk m c 2 t)) :
    (outsAt0 m c t.val t.isLt).2.1 = k0_pay3 (rowSum A) (k0_pay7 (iblk m c 1 t) (iblk m c 0 t) p.2.2.1) := by
  rw [Gen.outsAt0_C m c t h0 h1, ← hp]
  frame_out
  simp only [read_unread_whole]
  rw [← hA]
  rw [pay1_eq, read_sum]

/-- A block's last point: the sums' quotients, and the bound with the sum of weights' logarithm. -/
theorem out_last (t : Fin cfg0.N) (h0 : ¬t.val % 8 = 0) (h1 : t.val % 8 = 7) (N : Vec Ideal S1x2048 .f32) (A : Vec Ideal S80x2048 .f32) (hk : (outsAt0 m c t.val t.isLt).2.2 = (N, A)) :
    (∀ (e : Fin 64) (r : Fin 2048), (outsAt0 m c t.val t.isLt).1 (ix3 0 e r) = Ideal.div (A (ix2 ⟨e.val, by omega⟩ r)) (A (ix2 64 r)))
    ∧ ∀ r : Fin 2048, (outsAt0 m c t.val t.isLt).2.1 (ix3 0 0 r) = N (ix2 0 r) + Ideal.log (A (ix2 64 r)) * (((Real.log 2)⁻¹ : ℝ) : EReal) := by
  rw [kept_next m c t h0 _ rfl] at hk
  obtain ⟨hN, hA⟩ := Prod.mk.inj hk
  constructor
  · intro e r
    rw [last_mean m c t h0 h1 _ rfl A hA.symm, pay2_apply]
    rfl
  · intro r
    rw [last_logSum m c t h0 h1 _ rfl A hA.symm, hN, pay3_apply]
    rfl

/-- The query at row `r` of point `t`'s block. -/
abbrev row (t : ℕ) (r : Fin 2048) : Fin 16384 := ⟨t / 8 % 8 * 2048 + r.val, by omega⟩

variable (q k : (Tok 96).Idx → ℝ) (v : (Tok 64).Idx → ℝ)

/-- The running sums after point `t`: those of the key blocks so far, relative to some real bound. -/
def Sums (t : ℕ) (p : Vec Ideal S1x2048 .f32 × Vec Ideal S80x2048 .f32) : Prop :=
  ∃ ν : Fin 2048 → ℝ, (∀ r, p.1 (ix2 0 r) = (ν r : EReal)) ∧ ∀ (e : Fin 80) (r : Fin 2048) (h : Fin 8) (u : Fin 16384), h.val = t / 64 → u.val = t / 8 % 8 * 2048 + r.val →
    p.2 (ix2 e r) = ((Real.exp (-(Real.log 2 * ν r)) * upto q k v h u e.val (t % 8 + 1) : ℝ) : EReal)

section Real

variable (hq : m ((c : Thread nD τ).loc main_arg0) = fun i => (q i : EReal)) (hk : m ((c : Thread nD τ).loc main_arg1) = fun i => (k i : EReal)) (hv : m ((c : Thread nD τ).loc main_arg2) = fun i => (v i : EReal))
include hq hk hv

/-- One point, from sums `A` relative to a bound `μ`. -/
theorem next (t : Fin cfg0.N) (h : Fin 8) (hh : h.val = t.val / 64) (a : Vec Ideal S1x2048 .f32) (b : Vec Ideal S80x2048 .f32) (μ : Fin 2048 → ℝ) (A : Fin 80 → Fin 2048 → ℝ)
    (ha : ∀ r, a (ix2 0 r) = (μ r : EReal)) (hb : ∀ e r, b (ix2 e r) = ((Real.exp (-(Real.log 2 * μ r)) * A e r : ℝ) : EReal))
    (hA : ∀ e (r : Fin 2048) (u : Fin 16384), u.val = t.val / 8 % 8 * 2048 + r.val → A e r = upto q k v h u e.val (t.val % 8)) :
    Sums q k v t.val (k0_pay7 (iblk m c 1 t) (iblk m c 0 t) a, k0_pay8 (iblk m c 1 t) (iblk m c 0 t) a b (iblk m c 2 t)) := by
  have hN : t.val < 512 := t.isLt
  obtain ⟨ν, h1, h2⟩ := step (iblk m c 0 t) (iblk m c 1 t) (iblk m c 2 t) a b
    (fun d r => q (ix4 0 (row t.val r) h d)) (fun s d => k (ix4 0 ⟨t.val % 8 * 2048 + s.val, by omega⟩ h d))
    (fun e s => if he : e.val < 64 then v (ix4 0 ⟨t.val % 8 * 2048 + s.val, by omega⟩ h ⟨e.val, he⟩) else 1) A μ
    (fun d r => (in0 m c t d r h _ hh rfl).trans (congrFun hq _)) (fun s d => (in1 m c t d s h _ hh rfl).trans (congrFun hk _))
    (fun e s => by
      rw [in2 m c t e s h ⟨t.val % 8 * 2048 + s.val, by omega⟩ hh rfl, hv]
      split <;> rfl) ha hb
  refine ⟨ν, h1, fun e r g u hg hu => ?_⟩
  obtain rfl : g = h := Fin.ext (hg.trans hh.symm)
  obtain rfl : u = row t.val r := Fin.ext hu
  refine (h2 e r).trans (congrArg (fun x : ℝ => ((Real.exp (-(Real.log 2 * ν r)) * x : ℝ) : EReal)) ?_)
  rw [hA e r (row t.val r) rfl, upto, upto, Finset.sum_range_succ]
  refine congrArg _ (Finset.sum_congr rfl fun s _ => ?_)
  have hs : tok (t.val % 8 * 2048 + s.val) = ⟨t.val % 8 * 2048 + s.val, by omega⟩ := Fin.ext (Nat.mod_eq_of_lt (by omega))
  unfold term
  rw [hs]
  rfl

/-- A block's first point starts from zero sums. -/
theorem first (t : Fin cfg0.N) (h0 : t.val % 8 = 0) :
    Sums q k v t.val (k0_pay7 (iblk m c 1 t) (iblk m c 0 t) (k0_pay4 (F := Ideal)), k0_pay8 (iblk m c 1 t) (iblk m c 0 t) (k0_pay4 (F := Ideal)) (k0_pay5 (F := Ideal)) (iblk m c 2 t)) := by
  have hN : t.val < 512 := t.isLt
  choose μ hμ using pay4_apply
  refine next m c q k v hq hk hv t ⟨t.val / 64, by omega⟩ rfl _ _ μ (fun _ _ => 0) hμ (fun e r => ?_) (fun e r u _ => ?_)
  · rw [pay5_apply, mul_zero]; rfl
  · rw [h0]; rfl

theorem sums : ∀ (n : ℕ) (hn : n < cfg0.N), Sums q k v n (outsAt0 m c n hn).2.2 := by
  intro n
  induction n with
  | zero =>
    intro hn
    rw [kept_first m c ⟨0, hn⟩ rfl]
    exact first m c q k v hq hk hv ⟨0, hn⟩ rfl
  | succ n ih =>
    intro hn
    have hN : n + 1 < 512 := hn
    by_cases h0 : (n + 1) % 8 = 0
    · rw [kept_first m c ⟨n + 1, hn⟩ h0]
      exact first m c q k v hq hk hv ⟨n + 1, hn⟩ h0
    · rw [kept_next m c ⟨n + 1, hn⟩ h0 _ rfl]
      obtain ⟨μ, h1, h2⟩ := ih (Nat.lt_of_succ_lt hn)
      refine next m c q k v hq hk hv ⟨n + 1, hn⟩ ⟨(n + 1) / 64, by omega⟩ rfl _ _ μ
        (fun e r => upto q k v ⟨(n + 1) / 64, by omega⟩ (row (n + 1) r) e.val ((n + 1) % 8)) h1 (fun e r => ?_) (fun e r u hu => ?_)
      · refine (h2 e r ⟨(n + 1) / 64, by omega⟩ (row (n + 1) r) (by show (n + 1) / 64 = n / 64; omega)
          (by show (n + 1) / 8 % 8 * 2048 + r.val = n / 8 % 8 * 2048 + r.val; omega)).trans ?_
        rw [show n % 8 + 1 = (n + 1) % 8 from by omega]
      · obtain rfl : u = row (n + 1) r := Fin.ext hu
        rfl

theorem out_mean (t : Fin cfg0.N) (h1 : t.val % 8 = 7) (e : Fin 64) (r : Fin 2048) (h : Fin 8) (u : Fin 16384) (hh : h.val = t.val / 64) (hu : u.val = t.val / 8 % 8 * 2048 + r.val) :
    (outsAt0 m c t.val t.isLt).1 (ix3 0 e r) = (mean q k v h u e : EReal) := by
  obtain ⟨ν, -, hs⟩ := sums m c q k v hq hk hv t.val t.isLt
  rw [(out_last m c t (by omega) h1 _ _ rfl).1, hs _ r h u hh hu, hs _ r h u hh hu, h1]
  have hp := (mul_pos (Real.exp_pos (-(Real.log 2 * ν r))) (total_pos q k h u)).ne'
  have ht : upto q k v h u (64 : Fin 80).val (7 + 1) = total q k h u := upto_total q k v h u
  have hm : upto q k v h u (⟨e.val, by omega⟩ : Fin 80).val (7 + 1) = mean q k v h u e * total q k h u := upto_mean q k v h u e
  rw [ht, hm, div_real _ _ hp]
  refine congrArg _ ?_
  have := (Real.exp_pos (-(Real.log 2 * ν r))).ne'
  have := (total_pos q k h u).ne'
  field_simp

theorem out_logSum (t : Fin cfg0.N) (h1 : t.val % 8 = 7) (r : Fin 2048) (h : Fin 8) (u : Fin 16384) (hh : h.val = t.val / 64) (hu : u.val = t.val / 8 % 8 * 2048 + r.val) :
    (outsAt0 m c t.val t.isLt).2.1 (ix3 0 0 r) = (logSum q k h u : EReal) := by
  obtain ⟨ν, hn, hs⟩ := sums m c q k v hq hk hv t.val t.isLt
  rw [(out_last m c t (by omega) h1 _ _ rfl).2, hn, hs _ r h u hh hu, h1]
  have ht : upto q k v h u (64 : Fin 80).val (7 + 1) = total q k h u := upto_total q k v h u
  rw [ht, log_real _ (mul_pos (Real.exp_pos _) (total_pos q k h u)), ← EReal.coe_mul, ← EReal.coe_add]
  refine congrArg _ ?_
  rw [Real.log_mul (Real.exp_pos _).ne' (total_pos q k h u).ne', Real.log_exp, logSum]
  have := log_two_pos.ne'
  field_simp
  ring

theorem arr3 : (dats m 0 c).arrAt 3 cfg0.N = meanOf q k v := by
  refine (dats m 0 c).arrAt_eq_of_covers 3 _ (by decide +kernel) fun t hf y => ?_
  have h1 := (flush0_3 t).1 hf
  have hN : t.val < 512 := t.isLt
  blk_simp
  rw [after0_3]
  obtain ⟨a, e, r, rfl⟩ : ∃ (a : Fin 1) (e : Fin 64) (r : Fin 2048), y = ix3 a e r := ⟨y 0, y 1, y 2, eq_ix3 y⟩
  obtain rfl : a = 0 := Subsingleton.elim _ _
  refine (out_mean m c q k v hq hk hv t h1 e r ⟨t.val / 64, by omega⟩ (row t.val r) rfl rfl).trans ?_
  show meanOf q k v (ix3 ⟨t.val / 64, by omega⟩ e (row t.val r)) = _
  blk_ext [(idx3 t)]

theorem arr4 : (dats m 0 c).arrAt 4 cfg0.N = logSumOf q k := by
  refine (dats m 0 c).arrAt_eq_of_covers 4 _ (by decide +kernel) fun t hf y => ?_
  have h1 := (flush0_4 t).1 hf
  have hN : t.val < 512 := t.isLt
  blk_simp
  rw [after0_4]
  obtain ⟨a, e, r, rfl⟩ : ∃ (a e : Fin 1) (r : Fin 2048), y = ix3 a e r := ⟨y 0, y 1, y 2, eq_ix3 y⟩
  obtain rfl : a = 0 := Subsingleton.elim _ _
  obtain rfl : e = 0 := Subsingleton.elim _ _
  refine (out_logSum m c q k v hq hk hv t h1 r ⟨t.val / 64, by omega⟩ (row t.val r) rfl rfl).trans ?_
  show logSumOf q k (ix3 ⟨t.val / 64, by omega⟩ 0 (row t.val r)) = _
  blk_ext [(idx4 t)]

end Real

end Kernel

end Cert.Mla
end
-- ==== Proof.MlaRef.lean ====
module

public import proofs.«01_k».proof.Proof.MlaSpec
public import proofs.«01_k».proof.Proof.Gen.MlaFwdRefIdeal.Run
public import proofs.«01_k».proof.Proof.Gen.MlaFwdRefIdeal.Read
public import Idealize.ShloMosaic.Lib.Tactic

@[expose] public section

set_option maxRecDepth 16384

/-! # The reference's averages and log-sums, over real numbers -/

noncomputable section

namespace Cert.Mla

open Idealize.ShloMosaic Idealize.ShloMosaic.TcCoe Cert.Reals

section Reference

open Cert.MlaFwdRefIdeal Cert.MlaFwdRefIdeal.Gen Cert.MlaFwdRefIdeal.Read

variable (q k : (Tok 96).Idx → ℝ) (v : (Tok 64).Idx → ℝ)

theorem bits_96 : Ideal.ofBits FTy.f32 0x42C00000#32 = ((96 : ℝ) : EReal) := by
  simp [Ideal.ofBits, Ideal.ieee, -EReal.coe_mul]
  norm_num

theorem bits_2 : Ideal.ofBits FTy.f32 0x40000000#32 = ((2 : ℝ) : EReal) := by
  simp [Ideal.ofBits, Ideal.ieee, -EReal.coe_mul]
  norm_num

theorem score_div (h : Fin 8) (i j : Fin 16384) :
    Ideal.div (∑ d : Fin 96, ((q (ix4 0 i h d) : ℝ) : EReal) * ((k (ix4 0 j h d) : ℝ) : EReal)) (Ideal.sqrt ((96 : ℝ) : EReal)) = (score q k h i j : EReal) := by
  rw [Ideal.sqrt_coe, if_neg (by norm_num), Finset.sum_congr rfl (fun d _ => (EReal.coe_mul _ _).symm), coe_sum, div_real _ _ (Real.sqrt_pos.2 (by norm_num)).ne', score]

theorem ref3 (h : Fin 8) (i j : Fin 16384) : val_main_v3 (F := Ideal) (fun y => (q y : EReal)) (fun y => (k y : EReal)) (ix4 0 h i j) = (score q k h i j : EReal) := by
  unfold val_main_v3 val_main_v2 val_main_v1 val_main_v0 val_main_cst
  pointwise
  rw [bits_96]
  exact score_div q k h i j

theorem ref13 (h : Fin 8) (i j : Fin 16384) : val_main_v13 (F := Ideal) (fun y => (q y : EReal)) (fun y => (k y : EReal)) (ix4 0 h i j) = (score q k h i j : EReal) := by
  unfold val_main_v13 val_main_v12 val_main_v11 val_main_v10 val_main_cst_2
  pointwise
  rw [bits_96]
  exact score_div q k h i j

theorem ref5 (h : Fin 8) (i : Fin 16384) : val_main_v5 (F := Ideal) (fun y => (q y : EReal)) (fun y => (k y : EReal)) (ix3 0 h i) = (total q k h i : EReal) := by
  unfold val_main_v5 val_main_v4 val_main_cst_0
  pointwise
  simp only [ref3, Ideal.exp_coe]
  rw [coe_sum, total]

theorem ref14 (h : Fin 8) (i : Fin 16384) : ∃ M : ℝ, val_main_v14 (F := Ideal) (fun y => (q y : EReal)) (fun y => (k y : EReal)) (ix3 0 h i) = (M : EReal) := by
  unfold val_main_v14 val_main_cst_3
  refine host_max_real (by decide) _ (fun y => score q k (y 1) (y 2) (y 3)) (fun y => ?_) _ (by decide) _ _
  obtain ⟨a, h, i, j, rfl⟩ : ∃ (a : Fin 1) (h : Fin 8) (i j : Fin 16384), y = ix4 a h i j := ⟨y 0, y 1, y 2, y 3, eq_ix4 y⟩
  obtain rfl : a = 0 := Subsingleton.elim _ _
  exact ref13 q k h i j

theorem ref20 (h : Fin 8) (i : Fin 16384) : ∃ M : ℝ, ∀ j, val_main_v20 (F := Ideal) (fun y => (q y : EReal)) (fun y => (k y : EReal)) (ix4 0 h i j) = (Real.exp (score q k h i j - M) : EReal) := by
  obtain ⟨M, hM⟩ := ref14 q k h i
  refine ⟨M, fun j => ?_⟩
  have hi : idx_main_v17 (idx_main_v18 (ix4 0 h i j)) = ix3 0 h i := funext fun d => by fin_cases d <;> rfl
  have hb : val_main_v15 (F := Ideal) (ix3 0 h i) = ⊥ := bits_bot
  have h16 : val_main_v16 (F := Ideal) (fun y => (q y : EReal)) (fun y => (k y : EReal)) (ix3 0 h i) = (M : EReal) := by
    rw [val_main_v16_apply, hM, hb]
    exact max_eq_right bot_le
  rw [val_main_v20_apply, val_main_v19_apply, val_main_v18_apply, val_main_v17_apply, hi, h16, ref13]
  rfl

theorem ref21 (h : Fin 8) (i : Fin 16384) (M : ℝ) (hM : ∀ j, val_main_v20 (F := Ideal) (fun y => (q y : EReal)) (fun y => (k y : EReal)) (ix4 0 h i j) = (Real.exp (score q k h i j - M) : EReal)) :
    val_main_v21 (F := Ideal) (fun y => (q y : EReal)) (fun y => (k y : EReal)) (ix3 0 h i) = ((total q k h i * Real.exp (-M) : ℝ) : EReal) := by
  unfold val_main_v21 val_main_cst_5
  pointwise
  simp only [hM]
  rw [coe_sum, total, Finset.sum_mul]
  exact congrArg _ (Finset.sum_congr rfl fun j _ => by rw [sub_eq_add_neg, Real.exp_add])

theorem ref24 (h : Fin 8) (i j : Fin 16384) : val_main_v24 (F := Ideal) (fun y => (q y : EReal)) (fun y => (k y : EReal)) (ix4 0 h i j) = (share q k h i j : EReal) := by
  obtain ⟨M, hM⟩ := ref20 q k h i
  have hi : idx_main_v22 (idx_main_v23 (ix4 0 h i j)) = ix3 0 h i := funext fun d => by fin_cases d <;> rfl
  have hp := (mul_pos (total_pos q k h i) (Real.exp_pos (-M))).ne'
  rw [val_main_v24_apply, val_main_v23_apply, val_main_v22_apply, hi, ref21 q k h i M hM, hM]
  refine (div_real _ _ hp).trans ?_
  rw [share, sub_eq_add_neg, Real.exp_add, mul_div_mul_right _ _ (Real.exp_pos _).ne']

theorem ref29 : val_main_v29 (F := Ideal) (fun y => (q y : EReal)) (fun y => (k y : EReal)) (fun y => (v y : EReal)) = meanOf q k v := by
  funext y
  obtain ⟨h, e, i, rfl⟩ : ∃ (h : Fin 8) (e : Fin 64) (i : Fin 16384), y = ix3 h e i := ⟨y 0, y 1, y 2, eq_ix3 y⟩
  unfold val_main_v29 val_main_v28 val_main_v27 val_main_v26 val_main_v25
  pointwise
  simp only [ref24, ← EReal.coe_mul]
  rw [coe_sum]
  exact congrArg _ (Finset.sum_congr rfl fun j _ => mul_comm _ _)

theorem ref30 : val_main_v30 (F := Ideal) (fun y => (q y : EReal)) (fun y => (k y : EReal)) = logSumOf q k := by
  funext y
  obtain ⟨h, a, i, rfl⟩ : ∃ (h : Fin 8) (a : Fin 1) (i : Fin 16384), y = ix3 h a i := ⟨y 0, y 1, y 2, eq_ix3 y⟩
  unfold val_main_v30 val_main_v9 val_main_v8 val_main_v7 val_main_v6 val_main_cst_1
  pointwise
  rw [ref5, bits_2, log_real _ (total_pos q k h i), log_real _ (by norm_num), div_real _ _ log_two_pos.ne']
  rfl

end Reference

end Cert.Mla
end
-- ==== Proof.MlaPair.lean ====
module

public import proofs.«01_k».proof.Proof.MlaFwd
public import proofs.«01_k».proof.Proof.MlaRef
public import proofs.«01_k».proof.Defs
public import proofs.«01_k».proof.Proof.Gen.MlaFwd.Frame
public import Idealize.ShloMosaic.Lib.Claim

@[expose] public section

set_option maxRecDepth 16384

/-! # The attention's forward call: kernel and reference agree -/

noncomputable section

namespace Cert.Mla

open Idealize.ShloMosaic Idealize.ShloMosaic.TcCoe Idealize.SL.Sem Cert.Reals

theorem frame_k : Cert.quiescent_MlaFwd := fun m ρ _ => Cert.MlaFwd.Gen.frame m ρ
theorem frame_i : Cert.quiescent_MlaFwdIdeal := fun m ρ _ => Cert.MlaFwdIdeal.Gen.frame m ρ
theorem frame_ip [Cert.Pre_finite_attention.Facts] : Cert.quiescent_MlaFwdIdeal_pre_finite_attention := fun m ρ _ => Cert.MlaFwdIdeal.Gen.frame m ρ
theorem frame_r : Cert.quiescent_MlaFwdRefIdeal := fun m ρ _ =>
  θ_run_mono (Cert.MlaFwdRefIdeal.Value.run (F := Ideal) m ρ) fun r h => ⟨fun c => (h c).2.2, sem_eq_zero_of_no_sems (by decide) r.2⟩
theorem frame_rp [Cert.Pre_finite_attention.Facts] : Cert.quiescent_MlaFwdRefIdeal_pre_finite_attention := fun m ρ _ => frame_r m ρ trivial

theorem preserves : Cert.preserves_MlaFwd_MlaFwdIdeal :=
  ⟨IdealRules.named_const.statement Cert.MlaFwdIdeal.κ "scale_log2e" .f32 0x3E16C740#32 (((Real.sqrt 96)⁻¹ * (Real.log 2)⁻¹ : ℝ) : EReal) rfl,
    IdealRules.named_const.statement Cert.MlaFwdIdeal.κ "inv_ln2" .f32 0x3FB8AA3B#32 (((Real.log 2)⁻¹ : ℝ) : EReal) rfl⟩

theorem algebraic [Cert.Pre_finite_attention.Facts] : Cert.algebraic_MlaFwdIdeal_MlaFwdRefIdeal_pre_finite_attention := by
  intro m g m' g' hpre hagree
  have hr := fun c => entries_real _ _ _ (hpre c)
  choose q hq using fun c => (hr c).1
  choose k hk using fun c => (hr c).2.1
  choose v hv using fun c => (hr c).2.2
  refine ⟨fun c => meanOf (q c) (k c) (v c), fun c => logSumOf (q c) (k c), ?_, ?_⟩
  · exact θ_run_mono (Cert.MlaFwdIdeal.Value.run_blocks m g) fun r h c =>
      ⟨(h c).1.trans (arr3 m c _ _ _ (hq c) (hk c) (hv c)), (h c).2.1.trans (arr4 m c _ _ (v c) (hq c) (hk c) (hv c)), (h c).2.2⟩
  · refine θ_run_mono (Cert.MlaFwdRefIdeal.Value.run (F := Ideal) m' g') fun r h c => ?_
    obtain ⟨a0, a1, a2⟩ := hagree c
    refine ⟨(h c).1.trans ((Cert.MlaFwdRefIdeal.Read.val_main_v29_eq _ _ _).trans ?_), (h c).2.1.trans ((Cert.MlaFwdRefIdeal.Read.val_main_v30_eq _ _).trans ?_), (h c).2.2⟩
    · rw [a0, a1, a2]
      erw [hq c, hk c, hv c]
      exact ref29 _ _ _
    · rw [a0, a1]
      erw [hq c, hk c]
      exact ref30 _ _

end Cert.Mla
end
-- ==== Proof.MlaBwdSpec.lean ====
module

public import proofs.«01_k».proof.Proof.MlaSpec
public import proofs.«01_k».proof.Pre_finite_attention_bwd

@[expose] public section

set_option maxRecDepth 16384

/-! # The gradients of softmax attention, over real numbers -/

noncomputable section

namespace Cert.Mla

open Idealize.ShloMosaic Cert.Reals

/-- Tokens by the heads' channels side by side. -/
abbrev Flat : Shape := ⟨3, ![1, 16384, 512]⟩

abbrev col (h : Fin 8) (e : Fin 64) : Fin 512 := ⟨h.val * 64 + e.val, by omega⟩
abbrev key (b : Fin 16) (s : Fin 1024) : Fin 16384 := ⟨b.val * 1024 + s.val, by omega⟩

variable (q k : (Tok 96).Idx → ℝ) (v : (Tok 64).Idx → ℝ) (g : Flat.Idx → ℝ) (h : Fin 8)

/-- The gradient of the share of key `j` in query `i`'s average. -/
def pull (i j : Fin 16384) : ℝ := ∑ e : Fin 64, v (ix4 0 j h e) * g (ix3 0 i (col h e))
/-- Query `i`'s average along the gradient given. -/
def slope (i : Fin 16384) : ℝ := ∑ e : Fin 64, mean q k v h i e * g (ix3 0 i (col h e))
/-- The gradient of the scaled score. -/
def dscore (i j : Fin 16384) : ℝ := share q k h i j * (pull v g h i j - slope q k v g h i)

theorem slope_eq (i : Fin 16384) : slope q k v g h i = ∑ j : Fin 16384, share q k h i j * pull v g h i j := by
  unfold slope mean pull
  simp only [Finset.sum_mul, Finset.mul_sum]
  rw [Finset.sum_comm]
  exact Finset.sum_congr rfl fun j _ => Finset.sum_congr rfl fun e _ => mul_assoc _ _ _

def sumQueries (i : Fin 16384) (d : Fin 96) : ℝ := ∑ j : Fin 16384, k (ix4 0 j h d) * dscore q k v g h i j
def sumKeys (j : Fin 16384) (d : Fin 96) : ℝ := ∑ i : Fin 16384, q (ix4 0 i h d) * dscore q k v g h i j
def sumValues (j : Fin 16384) (e : Fin 64) : ℝ := ∑ i : Fin 16384, g (ix3 0 i (col h e)) * share q k h i j

def dqOf : (⟨3, ![8, 96, 16384]⟩ : Shape).Idx → EReal := fun y => (sumQueries q k v g (y 0) (y 2) (y 1) * (Real.sqrt 96)⁻¹ : ℝ)
def dkOf : (⟨4, ![8, 16, 96, 1024]⟩ : Shape).Idx → EReal := fun y => (sumKeys q k v g (y 0) (key (y 1) (y 3)) (y 2) * (Real.sqrt 96)⁻¹ : ℝ)
def dvOf : (⟨4, ![8, 16, 64, 1024]⟩ : Shape).Idx → EReal := fun y => (sumValues q k g (y 0) (key (y 1) (y 3)) (y 2) : ℝ)

/-- A sum over all tokens, taken in blocks. -/
theorem in_blocks (K n : ℕ) (hn : n * K = 16384) (f : Fin 16384 → ℝ) :
    ∑ b ∈ Finset.range n, ∑ s : Fin K, f (tok (b * K + s.val)) = ∑ j : Fin 16384, f j := by
  rw [sum_blocks K n fun x => f (tok x), hn, Finset.sum_range]
  exact Finset.sum_congr rfl fun j _ => congrArg f (tok_val j)

open Cert.Pre_finite_attention_bwd in
/-- The stated precondition: every entry of the four arrays is a real number. -/
theorem entries_real_bwd [Cert.Pre_finite_attention_bwd.Facts] (x0 x1 : (Tok 96).Idx → EReal) (x2 : (Tok 64).Idx → EReal) (x3 : Flat.Idx → EReal) (hp : fn (F := Ideal) x0 x1 x2 x3 = fun _ => 1#1) :
    (∃ q : (Tok 96).Idx → ℝ, x0 = fun i => (q i : EReal)) ∧ (∃ k : (Tok 96).Idx → ℝ, x1 = fun i => (k i : EReal)) ∧ (∃ v : (Tok 64).Idx → ℝ, x2 = fun i => (v i : EReal))
      ∧ ∃ g : Flat.Idx → ℝ, x3 = fun i => (g i : EReal) := by
  have h0 := congrFun hp ix0
  dsimp only [fn, fn_part1] at h0
  obtain ⟨h1, h2⟩ := IntOp.andi_eq_one.1 h0
  obtain ⟨h3, h4⟩ := IntOp.andi_eq_one.1 h1
  obtain ⟨h5, h6⟩ := IntOp.andi_eq_one.1 h3
  have : Subsingleton S_.Idx := ⟨fun a b => funext fun d => d.elim0⟩
  exact ⟨reals_of_all x0 _ (fun _ => bits_top) _ _ _ _ h5, reals_of_all x1 _ (fun _ => bits_top) _ _ _ _ h6, reals_of_all x2 _ (fun _ => bits_top) _ _ _ _ h4,
    reals_of_all x3 _ (fun _ => bits_top) _ _ _ _ h2⟩

end Cert.Mla
end
-- ==== Proof.Slabs.lean ====
module

public import Idealize.ShloMosaic.Lib.VecWindow
public import Idealize.ShloMosaic.Lib.Writes
public import Idealize.ShloMosaic.Lib.Pipeline.Value

@[expose] public section

noncomputable section

/-! A buffer kept as a stack of slabs: one slab is set to a start value when its turn opens, added to, and copied out
of the stack into a larger array. What each of the three leaves, read as a plain vector. -/

namespace Cert.Slabs

open Idealize.ShloMosaic

variable {sig : RefSig} {κ : Kind} {sp : Space} {s : Shape} {e : EltTy} {Val : EltTy → Type}
variable {a b d size : Fin s.rank → ℕ}

section View
variable (v : View sig κ sp s e) (f : v.ty.Contents Val) (C : Prop) [Decidable C]

/-- Storing over the slab hides whether the start value was stored first. -/
theorem read_stored (ia : C → ∀ x, a x + size x ≤ s.size x) (ib : ∀ x, b x + size x ≤ s.size x) (ha : a = d) (hb : b = d)
    (z : ((x : Fin s.rank) → Fin (size x)) → Val e) (w : ((x : Fin s.rank) → Fin (size x)) → Val e) :
    v.read Val (v.writes Val (if h : C then v.writes Val f [⟨Rect.unit a size (ia h), z⟩] else f) [⟨Rect.unit b size ib, w⟩])
      = VecWindow.put (v.read Val f) d size w := by
  rw [View.read_writes_cons_put v _ ib w [] hb, View.writes_nil]
  split
  · rw [View.read_writes_cons_put v f (ia ‹_›) z [] ha, View.writes_nil, VecWindow.put_put_same]
  · rfl

/-- The slab as the addition finds it: the start value if it was just stored. -/
theorem found (ia : C → ∀ x, a x + size x ≤ s.size x) (ib : ∀ x, b x + size x ≤ s.size x) (ha : a = d) (hb : b = d)
    (id : ∀ x, d x + size x ≤ s.size x) (z : ((x : Fin s.rank) → Fin (size x)) → Val e) :
    v.readAt Val (Rect.unit b size ib).toLoadRect (if h : C then v.writes Val f [⟨Rect.unit a size (ia h), z⟩] else f)
      = if C then z else VecWindow.window (v.read Val f) d size id := by
  rw [View.readAt_unit v _ ib hb id]
  by_cases h : C
  · rw [dif_pos h, if_pos h, View.read_writes_cons_put v f (ia h) z [] ha]
    exact VecWindow.window_put_same _ _ _ _ _
  · rw [dif_neg h, if_neg h]

/-- Two stores over the slab leave the later. -/
theorem read_stored_twice (ia : C → ∀ x, a x + size x ≤ s.size x) (ib : ∀ x, b x + size x ≤ s.size x) (c : Fin s.rank → ℕ)
    (ic : ∀ x, c x + size x ≤ s.size x) (ha : a = d) (hb : b = d) (hc : c = d)
    (z w y : ((x : Fin s.rank) → Fin (size x)) → Val e) :
    v.read Val (v.writes Val (if h : C then v.writes Val f [⟨Rect.unit a size (ia h), z⟩] else f) [⟨Rect.unit c size ic, y⟩, ⟨Rect.unit b size ib, w⟩])
      = VecWindow.put (v.read Val f) d size y := by
  rw [View.read_writes_cons_put v _ ic y _ hc, read_stored v f C ia ib ha hb z w, VecWindow.put_put_same]

/-- The slab just stored, loaded again. -/
theorem found_again (L : List (View.Piece Val s e)) (ia : ∀ x, a x + size x ≤ s.size x) (ib : ∀ x, b x + size x ≤ s.size x) (ha : a = d) (hb : b = d)
    (w : ((x : Fin s.rank) → Fin (size x)) → Val e) :
    v.readAt Val (Rect.unit b size ib).toLoadRect (v.writes Val f (⟨Rect.unit a size ia, w⟩ :: L)) = w := by
  subst ha
  subst hb
  rw [View.readAt_unit v _ ib rfl ib, View.read_writes_cons_put v f ia w L rfl, VecWindow.window_put_same]

end View

section Memref
variable (M : Memref sig κ sp s e) {s' : Shape}

/-- What a copy out of the slab just stored carries: that store, without its unit axes. -/
theorem carried (f : M.view.ty.Contents Val) (L : List (View.Piece Val s e)) (ia : ∀ x, a x + size x ≤ s.size x) (ib : ∀ x, b x + size x ≤ s.size x)
    (ha : a = d) (hb : b = d) (w : ((x : Fin s.rank) → Fin (size x)) → Val e)
    (hq : (Rect.unit b size ib).shape.Squeezes s') (hc : (⟨s.rank, size⟩ : Shape).ShapeCasts s') :
    ((M.slice (Rect.unit b size ib) (fun _ => rfl)).squeeze s' hq).view.read Val (M.view.writes Val f (⟨Rect.unit a size ia, w⟩ :: L))
      = shapeCast s' (s := ⟨s.rank, size⟩) w hc := by
  subst ha
  subst hb
  rw [Memref.read_squeeze_slice M _ _ hq hc, View.readAt_unit M.view _ ib rfl ib, View.read_writes_cons_put M.view f ia w L rfl]
  rw [VecWindow.window_put_same]

/-- What the array copied into holds after. -/
theorem landed (g : M.view.ty.Contents Val) (ia : ∀ x, a x + size x ≤ s.size x) (ha : a = d) (w : s'.Idx → Val e)
    (hq : (Rect.unit a size ia).shape.Squeezes s') (hc : s'.ShapeCasts (⟨s.rank, size⟩ : Shape)) :
    M.view.read Val (View.write Val ((M.slice (Rect.unit a size ia) (fun _ => rfl)).squeeze s' hq).view g w Finset.univ)
      = VecWindow.put (M.view.read Val g) d size (shapeCast (⟨s.rank, size⟩ : Shape) w hc) := by
  refine (congrArg (M.view.read Val) ((View.write_reshape_univ (v := M.view.slice (Rect.unit a size ia)) hq.numel_eq g w).trans ?_)).trans
    (View.read_writes_cons_put M.view g ia (shapeCast (⟨s.rank, size⟩ : Shape) w hc) [] ha)
  rw [Shape.reshapeEquiv_symm]
  rfl

end Memref

end Cert.Slabs
-- ==== Proof.MlaBwdRun.lean ====
module

public import proofs.«01_k».proof.Proof.Slabs
public import proofs.«01_k».proof.Proof.Gen.MlaBwdIdeal.Frame
public import proofs.«01_k».proof.Proof.Gen.MlaBwdIdeal.Skeleton
public import Idealize.ShloMosaic.Lib.Tactic
public import Idealize.ShloMosaic.Lib.WordCmp
public import Idealize.ShloMosaic.Lib.Pipeline.Routed

@[expose] public section

set_option maxRecDepth 16384

noncomputable section

namespace Cert.MlaBwdIdeal.Own

open Cert.MlaBwdIdeal Cert.MlaBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

/-! ## The grid point's words -/

theorem lt0 (i : grid0.Coords) : (i 0).val < 8 := (i 0).isLt
theorem lt1 (i : grid0.Coords) : (i 1).val < 8 := (i 1).isLt
theorem lt2 (i : grid0.Coords) : (i 2).val < 16 := (i 2).isLt

theorem word_eq (n k : ℕ) (hn : n < 16) (hk : k < 16) :
    Scalar.cmpi .ne (Scalar.extui (Scalar.cmpi .eq (BitVec.ofNat 32 n) (BitVec.ofNat 32 k)) : BitVec 32) 0#32 = 1#1 ↔ n = k := by
  interval_cases n <;> interval_cases k <;> decide

theorem first_iff (i : grid0.Coords) : k0_cond2 i = 1#1 ↔ (i 1).val = 0 := word_eq _ 0 (by have := lt1 i; omega) (by omega)
theorem last_iff (i : grid0.Coords) : k0_cond4 i = 1#1 ↔ (i 1).val = 7 := word_eq _ 7 (by have := lt1 i; omega) (by omega)
theorem done_iff (i : grid0.Coords) : k0_cond3 i = 1#1 ↔ (i 2).val = 15 := word_eq _ 15 (lt2 i) (by omega)

/-- Where the point's slab starts in the two stacks, and in the two results. -/
abbrev at3 (i : grid0.Coords) : Fin 3 → ℕ := ![(i 2).val, 0, 0]
abbrev at4 (i : grid0.Coords) : Fin 4 → ℕ := ![(i 0).val, (i 2).val, 0, 0]

theorem nat2 (i : grid0.Coords) : (BitVec.ofNat 32 (i 2).val).toNat = (i 2).val := WordCmp.toNat_ofNat_of_lt (by have := lt2 i; omega)
theorem nat0 (i : grid0.Coords) : (BitVec.ofNat 32 (i 0).val).toNat = (i 0).val := WordCmp.toNat_ofNat_of_lt (by have := lt0 i; omega)

theorem off1 (i : grid0.Coords) : k0_off1 i = at3 i := congrArg (fun n => ![n, 0, 0]) (nat2 i)
theorem off2 (i : grid0.Coords) : k0_off2 i = at3 i := congrArg (fun n => ![n, 0, 0]) (nat2 i)
theorem off3 (i : grid0.Coords) : k0_off3 i = at3 i := congrArg (fun n => ![n, 0, 0]) (nat2 i)
theorem off4 (i : grid0.Coords) : k0_off4 i = at3 i := congrArg (fun n => ![n, 0, 0]) (nat2 i)
theorem off5 (i : grid0.Coords) : k0_off5 i = at3 i := congrArg (fun n => ![n, 0, 0]) (nat2 i)
theorem off7 (i : grid0.Coords) : k0_off7 i = at3 i := congrArg (fun n => ![n, 0, 0]) (nat2 i)
theorem off9 (i : grid0.Coords) : k0_off9 i = at3 i := congrArg (fun n => ![n, 0, 0]) (nat2 i)
theorem off6 (i : grid0.Coords) : k0_off6 i = at4 i := congrArg₂ (fun n k => ![n, k, 0, 0]) (nat0 i) (nat2 i)
theorem off8 (i : grid0.Coords) : k0_off8 i = at4 i := congrArg₂ (fun n k => ![n, k, 0, 0]) (nat0 i) (nat2 i)

theorem inK (i : grid0.Coords) (x : Fin 3) : at3 i x + S1x96x1024.size x ≤ S16x96x1024.size x := by
  rw [← off4]; exact k0_off4_inb i x
theorem inV (i : grid0.Coords) (x : Fin 3) : at3 i x + S1x64x1024.size x ≤ S16x64x1024.size x := by
  rw [← off3]; exact k0_off3_inb i x

/-! ## What a point computes -/

section Step
variable (i : grid0.Coords)
variable (x0 : Vec F S1x96x2048 .bf16) (x1 : Vec F S1x1024x96 .bf16) (x2 : Vec F S1x96x1024 .bf16) (x3 : Vec F S1x1024x64 .bf16)
variable (x4 : Vec F S1x64x2048 .bf16) (x5 x6 : Vec F S1x1x2048 .f32)

/-- The running sum for the queries' gradient. -/
def sumQ (s : Vec F S96x2048 .f32) : Vec F S96x2048 .f32 :=
  k0_pay10 (k0_pay7 x0 x4 x1 x5 x3 x6) (if (i 2).val = 0 then k0_pay1 else s) x2

/-- The running sum for a block of keys, scaled once the last block of queries is in. -/
def sumK (s : Vec F S16x96x1024 .f32) : Vec F S1x96x1024 .f32 :=
  let r := k0_pay9 (k0_pay4 x0) (k0_pay7 x0 x4 x1 x5 x3 x6) (if (i 1).val = 0 then k0_pay2 else VecWindow.window s (at3 i) S1x96x1024.size (inK i))
  if (i 1).val = 7 then k0_pay12 r else r

/-- The running sum for a block of values. -/
def sumV (s : Vec F S16x64x1024 .f32) : Vec F S1x64x1024 .f32 :=
  k0_pay8 (k0_pay5 x4) (k0_pay6 x0 x1 x5) (if (i 1).val = 0 then k0_pay3 else VecWindow.window s (at3 i) S1x64x1024.size (inV i))

end Step

theorem castK : S96x1024.ShapeCasts S1x1x96x1024 := by decide
theorem castV : S64x1024.ShapeCasts S1x1x64x1024 := by decide

/-- A finished slab put into its result. -/
def landK (i : grid0.Coords) (g : Vec F S8x16x96x1024 .f32) (w : Vec F S1x96x1024 .f32) : Vec F S8x16x96x1024 .f32 :=
  if (i 1).val = 7 then VecWindow.put g (at4 i) S1x1x96x1024.size (shapeCast S1x1x96x1024 (shapeCast S96x1024 w shapeCasts_S1x96x1024_S96x1024) castK) else g
def landV (i : grid0.Coords) (g : Vec F S8x16x64x1024 .f32) (w : Vec F S1x64x1024 .f32) : Vec F S8x16x64x1024 .f32 :=
  if (i 1).val = 7 then VecWindow.put g (at4 i) S1x1x64x1024.size (shapeCast S1x1x64x1024 (shapeCast S64x1024 w shapeCasts_S1x64x1024_S64x1024) castV) else g

/-! ## The body at a point -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev MG1 : Memref sig .tc .hbm S8x16x96x1024 .f32 := Memref.whole main_v51_1
abbrev MG2 : Memref sig .tc .hbm S8x16x64x1024 .f32 := Memref.whole main_v51_2
abbrev MS3 : Memref sig .tc .vmem S96x2048 .f32 := Memref.whole cc0_scratch0
abbrev MS4 : Memref sig .tc .vmem S16x96x1024 .f32 := Memref.whole cc0_scratch1
abbrev MS5 : Memref sig .tc .vmem S16x64x1024 .f32 := Memref.whole cc0_scratch2

/-- The kernel's two transfer counters at zero. -/
abbrev quiet (c : Dev nD) : sProp 𝕄 :=
  iprop(semVal ((c : Thread nD τ), SemLoc.dma 16) 0 ∗ semVal ((c : Thread nD τ), SemLoc.dma 17) 0)

set_option maxHeartbeats 4000000 in
/-- The body at any point, its four conditions open. -/
theorem run (c : Dev nD) (i : grid0.Coords)
    (M0 : Memref sig .tc .vmem S1x96x2048 .bf16) (w0 : M0.IsWhole)
    (M1 : Memref sig .tc .vmem S1x1024x96 .bf16) (w1 : M1.IsWhole)
    (M2 : Memref sig .tc .vmem S1x96x1024 .bf16) (w2 : M2.IsWhole)
    (M3 : Memref sig .tc .vmem S1x1024x64 .bf16) (w3 : M3.IsWhole)
    (M4 : Memref sig .tc .vmem S1x64x2048 .bf16) (w4 : M4.IsWhole)
    (M5 : Memref sig .tc .vmem S1x1x2048 .f32) (w5 : M5.IsWhole)
    (M6 : Memref sig .tc .vmem S1x1x2048 .f32) (w6 : M6.IsWhole)
    (M7 : Memref sig .tc .vmem S1x96x2048 .f32) (w7 : M7.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7)
    (g1 : Bf (F := F) c MG1) (g2 : Bf (F := F) c MG2)
    (s3 : Bf (F := F) c MS3) (s4 : Bf (F := F) c MS4) (s5 : Bf (F := F) c MS5)
    (W : Waits sig Unit)
    (x0 : Vec F S1x96x2048 .bf16) (x1 : Vec F S1x1024x96 .bf16) (x2 : Vec F S1x96x1024 .bf16) (x3 : Vec F S1x1024x64 .bf16)
    (x4 : Vec F S1x64x2048 .bf16) (x5 x6 : Vec F S1x1x2048 .f32)
    (h0 : M0.view.read (Elt F) f0 = x0) (h1 : M1.view.read (Elt F) f1 = x1) (h2 : M2.view.read (Elt F) f2 = x2) (h3 : M3.view.read (Elt F) f3 = x3)
    (h4 : M4.view.read (Elt F) f4 = x4) (h5 : M5.view.read (Elt F) f5 = x5) (h6 : M6.view.read (Elt F) f6 = x6) :
    iprop(pt c M0 f0 ∗ pt c M1 f1 ∗ pt c M2 f2 ∗ pt c M3 f3 ∗ pt c M4 f4 ∗ pt c M5 f5 ∗ pt c M6 f6 ∗ pt c M7 f7
      ∗ pt c MG1 g1 ∗ pt c MG2 g2 ∗ pt c MS3 s3 ∗ pt c MS4 s4 ∗ pt c MS5 s5 ∗ quiet c ∗ owes (c : Thread nD τ) 0 W)
    ⊢ wp frame (wpE (defs₀ (F := F)) Variants.none c none) Set.univ
        (cc0_mla_bwd i M0 w0 M1 w1 M2 w2 M3 w3 M4 w4 M5 w5 M6 w6 M7 w7 MG1 (Memref.isWhole_whole _) MG2 (Memref.isWhole_whole _)
          MS3 (Memref.isWhole_whole _) MS4 (Memref.isWhole_whole _) MS5 (Memref.isWhole_whole _) cc0_scoped0 cc0_scoped1)
        (fun _ => iprop(pt c M0 f0 ∗ pt c M1 f1 ∗ pt c M2 f2 ∗ pt c M3 f3 ∗ pt c M4 f4 ∗ pt c M5 f5 ∗ pt c M6 f6
          ∗ (∃ f : Bf (F := F) c M7, ⌜((i 2).val = 15 → M7.view.read (Elt F) f = k0_pay11 (sumQ i x0 x1 x2 x3 x4 x5 x6 (MS3.view.read (Elt F) s3))) ∧ ((i 2).val ≠ 15 → f = f7)⌝ ∗ pt c M7 f)
          ∗ (∃ f : Bf (F := F) c MG1, ⌜MG1.view.read (Elt F) f = landK i (MG1.view.read (Elt F) g1) (sumK i x0 x1 x3 x4 x5 x6 (MS4.view.read (Elt F) s4))⌝ ∗ pt c MG1 f)
          ∗ (∃ f : Bf (F := F) c MG2, ⌜MG2.view.read (Elt F) f = landV i (MG2.view.read (Elt F) g2) (sumV i x0 x1 x4 x5 (MS5.view.read (Elt F) s5))⌝ ∗ pt c MG2 f)
          ∗ (∃ f : Bf (F := F) c MS3, ⌜MS3.view.read (Elt F) f = sumQ i x0 x1 x2 x3 x4 x5 x6 (MS3.view.read (Elt F) s3)⌝ ∗ pt c MS3 f)
          ∗ (∃ f : Bf (F := F) c MS4, ⌜MS4.view.read (Elt F) f = VecWindow.put (MS4.view.read (Elt F) s4) (at3 i) S1x96x1024.size (sumK i x0 x1 x3 x4 x5 x6 (MS4.view.read (Elt F) s4))⌝ ∗ pt c MS4 f)
          ∗ (∃ f : Bf (F := F) c MS5, ⌜MS5.view.read (Elt F) f = VecWindow.put (MS5.view.read (Elt F) s5) (at3 i) S1x64x1024.size (sumV i x0 x1 x4 x5 (MS5.view.read (Elt F) s5))⌝ ∗ pt c MS5 f)
          ∗ quiet c ∗ ∃ W', owes (c : Thread nD τ) 0 W')) := by
  subst h0 h1 h2 h3 h4 h5 h6
  iintro ⟨H0, H1, H2, H3, H4, H5, H6, H7, G1, G2, S3, S4, S5, ⟨D0, D1⟩, HO⟩
  rw [cc0_mla_bwd_eq_skeleton]
  sl_exec!
  sl_step
  have eQ : run.sl.r c M0 f0 = k0_pay4 (M0.view.read (Elt F) f0) := congrArg k0_pay4 (View.readAt_full M0.view f0 _)
  have eD : run.sl.r_1 c M4 f4 = k0_pay5 (M4.view.read (Elt F) f4) := congrArg k0_pay5 (View.readAt_full M4.view f4 _)
  have k0 := View.readAt_full (Val := Elt F) M0.view f0 inb_S1x96x2048_S1x96x2048_0_0_0
  have k1 := View.readAt_full (Val := Elt F) M1.view f1 inb_S1x1024x96_S1x1024x96_0_0_0
  have k2 := View.readAt_full (Val := Elt F) M2.view f2 inb_S1x96x1024_S1x96x1024_0_0_0
  have k3 := View.readAt_full (Val := Elt F) M3.view f3 inb_S1x1024x64_S1x1024x64_0_0_0
  have k4 := View.readAt_full (Val := Elt F) M4.view f4 inb_S1x64x2048_S1x64x2048_0_0_0
  have k5 := View.readAt_full (Val := Elt F) M5.view f5 inb_S1x1x2048_S1x1x2048_0_0_0
  have k6 := View.readAt_full (Val := Elt F) M6.view f6 inb_S1x1x2048_S1x1x2048_0_0_0
  have eP : run.sl.r_2 c M0 M1 M5 f0 f1 f5 = k0_pay6 (M0.view.read (Elt F) f0) (M1.view.read (Elt F) f1) (M5.view.read (Elt F) f5) :=
    congr (congrArg₂ k0_pay6 k0 k1) k5
  have eS : run.sl.r_3 c M0 M1 M3 M4 M5 M6 f0 f1 f3 f4 f5 f6
      = k0_pay7 (M0.view.read (Elt F) f0) (M4.view.read (Elt F) f4) (M1.view.read (Elt F) f1) (M5.view.read (Elt F) f5) (M3.view.read (Elt F) f3) (M6.view.read (Elt F) f6) :=
    congr (congr (congr (congr (congrArg₂ k0_pay7 k0 k4) k1) k5) k3) k6
  have e48 : run.sl.v48 (F := F) c i s3 = if (i 2).val = 0 then k0_pay1 else MS3.view.read (Elt F) s3 := by
    have h := word_eq (i 2).val 0 (lt2 i) (by omega)
    unfold run.sl.v48
    refine (View.readAt_full _ _ _).trans ?_
    split
    · rw [if_pos (h.mp ‹_›)]; exact View.read_writes_full _ _ _ _ _
    · rw [if_neg fun e => ‹¬ _› (h.mpr e)]
  have e40 : run.sl.v40 (F := F) c i s4 = if (i 1).val = 0 then k0_pay2 else VecWindow.window (MS4.view.read (Elt F) s4) (at3 i) S1x96x1024.size (inK i) := by
    rw [← if_congr (first_iff i) rfl rfl]
    exact Slabs.found MS4.view s4 (k0_cond2 i = 1#1) (k0_off1_inb i) (k0_off4_inb i) (off1 i) (off4 i) (inK i) k0_pay2
  have e30 : run.sl.v30 (F := F) c i s5 = if (i 1).val = 0 then k0_pay3 else VecWindow.window (MS5.view.read (Elt F) s5) (at3 i) S1x64x1024.size (inV i) := by
    rw [← if_congr (first_iff i) rfl rfl]
    exact Slabs.found MS5.view s5 (k0_cond2 i = 1#1) (k0_off2_inb i) (k0_off3_inb i) (off2 i) (off3 i) (inV i) k0_pay3
  have nQ : k0_pay10 (run.sl.r_3 c M0 M1 M3 M4 M5 M6 f0 f1 f3 f4 f5 f6) (run.sl.v48 (F := F) c i s3)
      (M2.view.readAt (Elt F) (Rect.unit (s := S1x96x1024) ![0, 0, 0] S1x96x1024.size inb_S1x96x1024_S1x96x1024_0_0_0).toLoadRect f2)
      = sumQ i (M0.view.read (Elt F) f0) (M1.view.read (Elt F) f1) (M2.view.read (Elt F) f2) (M3.view.read (Elt F) f3) (M4.view.read (Elt F) f4)
        (M5.view.read (Elt F) f5) (M6.view.read (Elt F) f6) (MS3.view.read (Elt F) s3) :=
    congr (congrArg₂ k0_pay10 eS e48) k2
  have nV : k0_pay8 (run.sl.r_1 c M4 f4) (run.sl.r_2 c M0 M1 M5 f0 f1 f5) (run.sl.v30 (F := F) c i s5)
      = sumV i (M0.view.read (Elt F) f0) (M1.view.read (Elt F) f1) (M4.view.read (Elt F) f4) (M5.view.read (Elt F) f5) (MS5.view.read (Elt F) s5) :=
    congr (congrArg₂ k0_pay8 eD eP) e30
  have nK : k0_pay9 (run.sl.r c M0 f0) (run.sl.r_3 c M0 M1 M3 M4 M5 M6 f0 f1 f3 f4 f5 f6) (run.sl.v40 (F := F) c i s4)
      = k0_pay9 (k0_pay4 (M0.view.read (Elt F) f0)) (k0_pay7 (M0.view.read (Elt F) f0) (M4.view.read (Elt F) f4) (M1.view.read (Elt F) f1) (M5.view.read (Elt F) f5) (M3.view.read (Elt F) f3) (M6.view.read (Elt F) f6))
        (if (i 1).val = 0 then k0_pay2 else VecWindow.window (MS4.view.read (Elt F) s4) (at3 i) S1x96x1024.size (inK i)) :=
    congr (congrArg₂ k0_pay9 eQ eS) e40
  have e63 (h : k0_cond4 i = 1#1) : run.sl.v63 c i M0 M1 M3 M4 M5 M6 f0 f1 f3 f4 f5 f6 s4 h
      = k0_pay9 (run.sl.r c M0 f0) (run.sl.r_3 c M0 M1 M3 M4 M5 M6 f0 f1 f3 f4 f5 f6) (run.sl.v40 (F := F) c i s4) := by
    unfold run.sl.v63 run.sl.S4_1 View.readCov
    exact Slabs.found_again MS4.view MS4.view.junk [] (k0_off4_inb i) (k0_off5_inb i h) (off4 i) (off5 i) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _
    isplitr
    swap
    · iexact H7
    ipureintro
    constructor
    · intro h
      rw [dif_pos ((done_iff i).mpr h)]
      refine (View.read_writes_full M7.view f7 inb_S1x96x2048_S1x96x2048_0_0_0 _ []).trans (congrArg k0_pay11 ?_)
      exact (View.readCov_full MS3.view _ _ _ _).trans nQ
    · intro h
      rw [dif_neg fun e => h ((done_iff i).mp e)]
  isplitl [G1]
  · iexists _
    isplitr
    swap
    · iexact G1
    ipureintro
    unfold landK sumK
    by_cases h : k0_cond4 i = 1#1
    · rw [dif_pos h, if_pos ((last_iff i).mp h), if_pos ((last_iff i).mp h), ← nK]
      rw [← e63 h]
      refine (Slabs.landed MG1 g1 (k0_off6_inb i h) (off6 i) _ squeezes_S1x1x96x1024_S96x1024 castK).trans
        (congrArg (fun w => VecWindow.put (MG1.view.read (Elt F) g1) (at4 i) S1x1x96x1024.size (shapeCast S1x1x96x1024 w castK)) ?_)
      exact Slabs.carried MS4 _ _ (k0_off5_inb i h) (k0_off7_inb i h) (off5 i) (off7 i) _ squeezes_S1x96x1024_S96x1024 shapeCasts_S1x96x1024_S96x1024
    · rw [dif_neg h, if_neg fun e => h ((last_iff i).mpr e)]
  isplitl [G2]
  · iexists _
    isplitr
    swap
    · iexact G2
    ipureintro
    unfold landV
    by_cases h : k0_cond4 i = 1#1
    · rw [dif_pos h, if_pos ((last_iff i).mp h), ← nV]
      refine (Slabs.landed MG2 g2 (k0_off8_inb i h) (off8 i) _ squeezes_S1x1x64x1024_S64x1024 castV).trans
        (congrArg (fun w => VecWindow.put (MG2.view.read (Elt F) g2) (at4 i) S1x1x64x1024.size (shapeCast S1x1x64x1024 w castV)) ?_)
      exact Slabs.carried MS5 _ _ (k0_off3_inb i) (k0_off9_inb i h) (off3 i) (off9 i) _ squeezes_S1x64x1024_S64x1024 shapeCasts_S1x64x1024_S64x1024
    · rw [dif_neg h, if_neg fun e => h ((last_iff i).mpr e)]
  isplitl [S3]
  · iexists _
    isplitr
    swap
    · iexact S3
    ipureintro
    exact (View.read_writes_full MS3.view _ inb_S96x2048_S96x2048_0_0 _ []).trans nQ
  isplitl [S4]
  · iexists _
    isplitr
    swap
    · iexact S4
    ipureintro
    unfold sumK
    by_cases h : k0_cond4 i = 1#1
    · rw [dif_pos h, if_pos ((last_iff i).mp h), ← nK]
      rw [← e63 h]
      exact Slabs.read_stored_twice MS4.view s4 (k0_cond2 i = 1#1) (k0_off1_inb i) (k0_off4_inb i) _ (k0_off5_inb i h) (off1 i) (off4 i) (off5 i) k0_pay2 _ _
    · rw [dif_neg h, if_neg fun e => h ((last_iff i).mpr e), ← nK]
      exact Slabs.read_stored MS4.view s4 (k0_cond2 i = 1#1) (k0_off1_inb i) (k0_off4_inb i) (off1 i) (off4 i) k0_pay2 _
  isplitl [S5]
  · iexists _
    isplitr
    swap
    · iexact S5
    ipureintro
    rw [← nV]
    exact Slabs.read_stored MS5.view s5 (k0_cond2 i = 1#1) (k0_off2_inb i) (k0_off3_inb i) (off2 i) (off3 i) k0_pay3 _
  isplitl [D0 D1]
  · isplitl [D0]
    · iexact D0
    · iexact D1
  iexists _
  iexact HO

end Cert.MlaBwdIdeal.Own
-- ==== Proof.MlaBwdInv.lean ====
module

public import proofs.«01_k».proof.Proof.MlaBwdRun
public import Idealize.ShloMosaic.Lib.Pointwise

@[expose] public section

set_option maxRecDepth 16384

noncomputable section

/-! What the carried buffers hold before each grid point, as plain functions of the blocks the points are handed. -/

namespace Cert.MlaBwdIdeal.Own

open Cert.MlaBwdIdeal Cert.MlaBwdIdeal.Gen
open Idealize.ShloMosaic
open Idealize.ShloMosaic.TcCoe Idealize.ShloMosaic.Tactic

variable {F : FTy → Type} [FloatOps F] [Named F]

/-- The seven blocks each point is handed, the points counted from zero. -/
structure Blocks (F : FTy → Type) where
  q : ℕ → Vec F S1x96x2048 .bf16
  k : ℕ → Vec F S1x1024x96 .bf16
  kt : ℕ → Vec F S1x96x1024 .bf16
  v : ℕ → Vec F S1x1024x64 .bf16
  d : ℕ → Vec F S1x64x2048 .bf16
  l : ℕ → Vec F S1x1x2048 .f32
  r : ℕ → Vec F S1x1x2048 .f32

variable (B : Blocks F)

namespace Blocks

/-- The gradient of the scores at point `n`. -/
def ds (n : ℕ) : FVec F S1024x2048 .bf16 := k0_pay7 (B.q n) (B.d n) (B.k n) (B.l n) (B.v n) (B.r n)

/-- The queries' running sum after point `n`. -/
def accQ : ℕ → Vec F S96x2048 .f32
  | 0 => k0_pay10 (B.ds 0) k0_pay1 (B.kt 0)
  | n + 1 => k0_pay10 (B.ds (n + 1)) (if (n + 1) % 16 = 0 then k0_pay1 else accQ n) (B.kt (n + 1))

/-- The point of head `h`, query block `i`, key block `j`. -/
abbrev pos (h j i : ℕ) : ℕ := 128 * h + 16 * i + j

/-- The running sum of head `h`'s key block `j` after query block `i`. -/
def accK (h j : ℕ) : ℕ → Vec F S1x96x1024 .f32
  | 0 => k0_pay9 (k0_pay4 (B.q (pos h j 0))) (B.ds (pos h j 0)) k0_pay2
  | i + 1 => k0_pay9 (k0_pay4 (B.q (pos h j (i + 1)))) (B.ds (pos h j (i + 1))) (accK h j i)

/-- The same as the stack holds it, scaled after the last. -/
def slabK (h j i : ℕ) : Vec F S1x96x1024 .f32 := if i = 7 then k0_pay12 (B.accK h j i) else B.accK h j i

/-- The running sum of head `h`'s value block `j` after query block `i`. -/
def accV (h j : ℕ) : ℕ → Vec F S1x64x1024 .f32
  | 0 => k0_pay8 (k0_pay5 (B.d (pos h j 0))) (k0_pay6 (B.q (pos h j 0)) (B.k (pos h j 0)) (B.l (pos h j 0))) k0_pay3
  | i + 1 => k0_pay8 (k0_pay5 (B.d (pos h j (i + 1)))) (k0_pay6 (B.q (pos h j (i + 1))) (B.k (pos h j (i + 1))) (B.l (pos h j (i + 1)))) (accV h j i)

end Blocks

/-- What the carried buffers hold before point `n`. -/
structure Inv (n : ℕ) (s3 : Vec F S96x2048 .f32) (s4 : Vec F S16x96x1024 .f32) (s5 : Vec F S16x64x1024 .f32)
    (g1 : Vec F S8x16x96x1024 .f32) (g2 : Vec F S8x16x64x1024 .f32) : Prop where
  q : n % 16 ≠ 0 → s3 = B.accQ (n - 1)
  k : ∀ (j : Fin 16) (a : Fin 96) (b : Fin 1024), n / 16 % 8 ≠ 0 ∨ j.val < n % 16 →
    s4 (ix3 j a b) = B.slabK (n / 128) j.val (if j.val < n % 16 then n / 16 % 8 else n / 16 % 8 - 1) (ix3 0 a b)
  v : ∀ (j : Fin 16) (a : Fin 64) (b : Fin 1024), n / 16 % 8 ≠ 0 ∨ j.val < n % 16 →
    s5 (ix3 j a b) = B.accV (n / 128) j.val (if j.val < n % 16 then n / 16 % 8 else n / 16 % 8 - 1) (ix3 0 a b)
  gk : ∀ (h : Fin 8) (j : Fin 16) (a : Fin 96) (b : Fin 1024), 128 * h.val + 112 + j.val < n → g1 (ix4 h j a b) = B.slabK h.val j.val 7 (ix3 0 a b)
  gv : ∀ (h : Fin 8) (j : Fin 16) (a : Fin 64) (b : Fin 1024), 128 * h.val + 112 + j.val < n → g2 (ix4 h j a b) = B.accV h.val j.val 7 (ix3 0 a b)

theorem inv_zero (s3 : Vec F S96x2048 .f32) (s4 : Vec F S16x96x1024 .f32) (s5 : Vec F S16x64x1024 .f32)
    (g1 : Vec F S8x16x96x1024 .f32) (g2 : Vec F S8x16x64x1024 .f32) : Inv B 0 s3 s4 s5 g1 g2 :=
  ⟨fun h => absurd rfl h, fun j a b h => by simp at h, fun j a b h => by simp at h, fun h j a b e => by omega, fun h j a b e => by omega⟩

/-! ## A slab put in, element by element -/

section Put
variable {α : Type} {n A C : ℕ}

theorem put3 (s : (⟨3, ![n, A, C]⟩ : Shape).Idx → α) (j : ℕ) (w : (⟨3, ![1, A, C]⟩ : Shape).Idx → α) (j' : Fin n) (a : Fin A) (b : Fin C) :
    VecWindow.put s ![j, 0, 0] (⟨3, ![1, A, C]⟩ : Shape).size w (ix3 j' a b) = if j'.val = j then w (ix3 0 a b) else s (ix3 j' a b) := by
  unfold VecWindow.put
  have e : (∀ x : Fin 3, (![j, 0, 0] : Fin 3 → ℕ) x ≤ (ix3 j' a b x).val ∧ (ix3 j' a b x).val < (![j, 0, 0] : Fin 3 → ℕ) x + (![1, A, C] : Fin 3 → ℕ) x) ↔ j'.val = j := by
    constructor
    · intro h
      have h0 : j ≤ j'.val ∧ j'.val < j + 1 := h 0
      omega
    · intro h x
      fin_cases x
      · show j ≤ j'.val ∧ j'.val < j + 1; omega
      · show 0 ≤ a.val ∧ a.val < 0 + A; have := a.isLt; omega
      · show 0 ≤ b.val ∧ b.val < 0 + C; have := b.isLt; omega
  by_cases h : j'.val = j
  · rw [if_pos h]
    refine (dif_pos (e.mpr h)).trans (congrArg w ?_)
    funext x
    fin_cases x
    · exact Subsingleton.elim (α := Fin 1) _ _
    · exact Fin.ext (Nat.sub_zero a.val)
    · exact Fin.ext (Nat.sub_zero b.val)
  · rw [if_neg h]
    exact dif_neg fun q => h (e.mp q)

theorem put4 {m : ℕ} (s : (⟨4, ![m, n, A, C]⟩ : Shape).Idx → α) (i j : ℕ) (w : (⟨4, ![1, 1, A, C]⟩ : Shape).Idx → α)
    (i' : Fin m) (j' : Fin n) (a : Fin A) (b : Fin C) :
    VecWindow.put s ![i, j, 0, 0] (⟨4, ![1, 1, A, C]⟩ : Shape).size w (ix4 i' j' a b) = if i'.val = i ∧ j'.val = j then w (ix4 0 0 a b) else s (ix4 i' j' a b) := by
  unfold VecWindow.put
  have e : (∀ x : Fin 4, (![i, j, 0, 0] : Fin 4 → ℕ) x ≤ (ix4 i' j' a b x).val ∧ (ix4 i' j' a b x).val < (![i, j, 0, 0] : Fin 4 → ℕ) x + (![1, 1, A, C] : Fin 4 → ℕ) x)
      ↔ i'.val = i ∧ j'.val = j := by
    constructor
    · intro h
      have h0 : i ≤ i'.val ∧ i'.val < i + 1 := h 0
      have h1 : j ≤ j'.val ∧ j'.val < j + 1 := h 1
      omega
    · intro h x
      fin_cases x
      · show i ≤ i'.val ∧ i'.val < i + 1; omega
      · show j ≤ j'.val ∧ j'.val < j + 1; omega
      · show 0 ≤ a.val ∧ a.val < 0 + A; have := a.isLt; omega
      · show 0 ≤ b.val ∧ b.val < 0 + C; have := b.isLt; omega
  by_cases h : i'.val = i ∧ j'.val = j
  · rw [if_pos h]
    refine (dif_pos (e.mpr h)).trans (congrArg w ?_)
    funext x
    fin_cases x
    · exact Subsingleton.elim (α := Fin 1) _ _
    · exact Subsingleton.elim (α := Fin 1) _ _
    · exact Fin.ext (Nat.sub_zero a.val)
    · exact Fin.ext (Nat.sub_zero b.val)
  · rw [if_neg h]
    exact dif_neg fun q => h (e.mp q)

theorem window3 (s : (⟨3, ![n, A, C]⟩ : Shape).Idx → α) (j : Fin n)
    (inb : ∀ x, (![j.val, 0, 0] : Fin 3 → ℕ) x + (⟨3, ![1, A, C]⟩ : Shape).size x ≤ (⟨3, ![n, A, C]⟩ : Shape).size x)
    (w : (⟨3, ![1, A, C]⟩ : Shape).Idx → α) (h : ∀ a b, s (ix3 j a b) = w (ix3 0 a b)) :
    VecWindow.window s ![j.val, 0, 0] (⟨3, ![1, A, C]⟩ : Shape).size inb = w := by
  funext y
  obtain ⟨o, a, b, rfl⟩ : ∃ (o : Fin 1) (a : Fin A) (b : Fin C), y = ix3 o a b := ⟨y 0, y 1, y 2, eq_ix3 y⟩
  obtain rfl : o = 0 := Subsingleton.elim _ _
  rw [← h a b]
  refine congrArg s (funext fun x => Fin.ext ?_)
  fin_cases x
  · show j.val + 1 * 0 = j.val; omega
  · show 0 + 1 * a.val = a.val; omega
  · show 0 + 1 * b.val = b.val; omega

end Put

theorem castK_apply (w : Vec F S1x96x1024 .f32) (a : Fin 96) (b : Fin 1024) :
    shapeCast S1x1x96x1024 (shapeCast S96x1024 w shapeCasts_S1x96x1024_S96x1024) castK (ix4 0 0 a b) = w (ix3 0 a b) := by
  pointwise

theorem castV_apply (w : Vec F S1x64x1024 .f32) (a : Fin 64) (b : Fin 1024) :
    shapeCast S1x1x64x1024 (shapeCast S64x1024 w shapeCasts_S1x64x1024_S64x1024) castV (ix4 0 0 a b) = w (ix3 0 a b) := by
  pointwise

/-! ## One point -/

section Step
variable (n : ℕ) (i : grid0.Coords) (hi0 : (i 0).val = n / 128) (hi1 : (i 1).val = n / 16 % 8) (hi2 : (i 2).val = n % 16)
variable {s3 : Vec F S96x2048 .f32} {s4 : Vec F S16x96x1024 .f32} {s5 : Vec F S16x64x1024 .f32}
variable {g1 : Vec F S8x16x96x1024 .f32} {g2 : Vec F S8x16x64x1024 .f32} (H : Inv B n s3 s4 s5 g1 g2)

include hi2 H in
theorem sumQ_eq : sumQ i (B.q n) (B.k n) (B.kt n) (B.v n) (B.d n) (B.l n) (B.r n) s3 = B.accQ n := by
  unfold sumQ
  rw [hi2]
  cases n with
  | zero => rfl
  | succ n =>
    show _ = k0_pay10 (B.ds (n + 1)) (if (n + 1) % 16 = 0 then k0_pay1 else B.accQ n) (B.kt (n + 1))
    by_cases h : (n + 1) % 16 = 0
    · rw [if_pos h, if_pos h]; rfl
    · rw [if_neg h, if_neg h, H.q h]; rfl

include hi0 hi1 hi2 H in
theorem sumK_eq : sumK i (B.q n) (B.k n) (B.v n) (B.d n) (B.l n) (B.r n) s4 = B.slabK (n / 128) (n % 16) (n / 16 % 8) := by
  have hn : 128 * (n / 128) + 16 * (n / 16 % 8) + n % 16 = n := by omega
  unfold sumK Blocks.slabK
  dsimp only
  rw [hi1]
  suffices e : k0_pay9 (k0_pay4 (B.q n)) (k0_pay7 (B.q n) (B.d n) (B.k n) (B.l n) (B.v n) (B.r n))
      (if n / 16 % 8 = 0 then k0_pay2 else VecWindow.window s4 (at3 i) S1x96x1024.size (inK i)) = B.accK (n / 128) (n % 16) (n / 16 % 8) by rw [e]
  obtain h | ⟨r, h⟩ : n / 16 % 8 = 0 ∨ ∃ r, n / 16 % 8 = r + 1 := by
    cases n / 16 % 8 with
    | zero => exact .inl rfl
    | succ r => exact .inr ⟨r, rfl⟩
  · rw [if_pos h, h]
    show _ = k0_pay9 (k0_pay4 (B.q (128 * (n / 128) + 16 * 0 + n % 16))) (B.ds (128 * (n / 128) + 16 * 0 + n % 16)) k0_pay2
    rw [show 128 * (n / 128) + 16 * 0 + n % 16 = n by omega]
    rfl
  · have hw : VecWindow.window s4 (at3 i) S1x96x1024.size (inK i) = B.accK (n / 128) (n % 16) r := by
      refine window3 s4 (i 2) (inK i) _ fun a b => ?_
      have := H.k (i 2) a b (.inl (by omega))
      rw [this, hi2, if_neg (lt_irrefl _), h, Nat.add_sub_cancel]
      unfold Blocks.slabK
      rw [if_neg (by omega)]
    rw [if_neg (by omega), hw, h]
    show _ = k0_pay9 (k0_pay4 (B.q (128 * (n / 128) + 16 * (r + 1) + n % 16))) (B.ds (128 * (n / 128) + 16 * (r + 1) + n % 16)) (B.accK (n / 128) (n % 16) r)
    rw [show 128 * (n / 128) + 16 * (r + 1) + n % 16 = n by omega]
    rfl

include hi0 hi1 hi2 H in
theorem sumV_eq : sumV i (B.q n) (B.k n) (B.d n) (B.l n) s5 = B.accV (n / 128) (n % 16) (n / 16 % 8) := by
  unfold sumV
  rw [hi1]
  obtain h | ⟨r, h⟩ : n / 16 % 8 = 0 ∨ ∃ r, n / 16 % 8 = r + 1 := by
    cases n / 16 % 8 with
    | zero => exact .inl rfl
    | succ r => exact .inr ⟨r, rfl⟩
  · rw [if_pos h, h]
    unfold Blocks.accV Blocks.pos
    rw [show 128 * (n / 128) + 16 * 0 + n % 16 = n by omega]
  · have hw : VecWindow.window s5 (at3 i) S1x64x1024.size (inV i) = B.accV (n / 128) (n % 16) r := by
      refine window3 s5 (i 2) (inV i) _ fun a b => ?_
      have := H.v (i 2) a b (.inl (by omega))
      rw [this, hi2, if_neg (lt_irrefl _), h, Nat.add_sub_cancel]
    rw [if_neg (by omega), hw, h]
    conv_rhs => unfold Blocks.accV Blocks.pos
    rw [show 128 * (n / 128) + 16 * (r + 1) + n % 16 = n by omega]

omit [FloatOps F] [Named F] in
/-- Another slab's last turn is the same before and after the point. -/
theorem turn (n j : ℕ) (hj : j < 16) (e : ¬ j = n % 16) (h : (n + 1) / 16 % 8 ≠ 0 ∨ j < (n + 1) % 16) :
    (if j < n % 16 then n / 16 % 8 else n / 16 % 8 - 1) = if j < (n + 1) % 16 then (n + 1) / 16 % 8 else (n + 1) / 16 % 8 - 1 := by
  by_cases w : n % 16 = 15
  · rw [if_pos (by omega), if_neg (by omega)]; omega
  · by_cases u : j < n % 16
    · rw [if_pos u, if_pos (by omega)]; omega
    · rw [if_neg u, if_neg (by omega)]; omega

include hi0 hi1 hi2 H in
/-- The invariant goes from one point to the next. -/
theorem inv_succ (hn : n < 1024) {s3' : Vec F S96x2048 .f32} {s4' : Vec F S16x96x1024 .f32} {s5' : Vec F S16x64x1024 .f32}
    {g1' : Vec F S8x16x96x1024 .f32} {g2' : Vec F S8x16x64x1024 .f32}
    (e3 : s3' = sumQ i (B.q n) (B.k n) (B.kt n) (B.v n) (B.d n) (B.l n) (B.r n) s3)
    (e4 : s4' = VecWindow.put s4 (at3 i) S1x96x1024.size (sumK i (B.q n) (B.k n) (B.v n) (B.d n) (B.l n) (B.r n) s4))
    (e5 : s5' = VecWindow.put s5 (at3 i) S1x64x1024.size (sumV i (B.q n) (B.k n) (B.d n) (B.l n) s5))
    (d1 : g1' = landK i g1 (sumK i (B.q n) (B.k n) (B.v n) (B.d n) (B.l n) (B.r n) s4))
    (d2 : g2' = landV i g2 (sumV i (B.q n) (B.k n) (B.d n) (B.l n) s5)) : Inv B (n + 1) s3' s4' s5' g1' g2' := by
  rw [sumQ_eq B n i hi2 H] at e3
  rw [sumK_eq B n i hi0 hi1 hi2 H] at e4 d1
  rw [sumV_eq B n i hi0 hi1 hi2 H] at e5 d2
  refine ⟨fun _ => e3, fun j a b hj => ?_, fun j a b hj => ?_, fun h j a b hj => ?_, fun h j a b hj => ?_⟩
  · have hlt := j.isLt
    rw [e4, at3, put3, hi2]
    by_cases e : j.val = n % 16
    · rw [if_pos e, e, show (n + 1) / 128 = n / 128 by omega, show (if n % 16 < (n + 1) % 16 then (n + 1) / 16 % 8 else (n + 1) / 16 % 8 - 1) = n / 16 % 8 by split <;> omega]
    · rw [if_neg e, H.k j a b (by omega), show (n + 1) / 128 = n / 128 by omega, turn n j.val hlt e hj]
  · have hlt := j.isLt
    rw [e5, at3, put3, hi2]
    by_cases e : j.val = n % 16
    · rw [if_pos e, e, show (n + 1) / 128 = n / 128 by omega, show (if n % 16 < (n + 1) % 16 then (n + 1) / 16 % 8 else (n + 1) / 16 % 8 - 1) = n / 16 % 8 by split <;> omega]
    · rw [if_neg e, H.v j a b (by omega), show (n + 1) / 128 = n / 128 by omega, turn n j.val hlt e hj]
  · have hl := h.isLt
    have hlt := j.isLt
    rw [d1, landK]
    split
    · rw [at4, put4, hi0, hi2]
      split
      · rw [castK_apply, show n / 16 % 8 = 7 by omega, show n / 128 = h.val by omega, show n % 16 = j.val by omega]
      · exact H.gk h j a b (by omega)
    · exact H.gk h j a b (by omega)
  · have hl := h.isLt
    have hlt := j.isLt
    rw [d2, landV]
    split
    · rw [at4, put4, hi0, hi2]
      split
      · rw [castV_apply, show n / 16 % 8 = 7 by omega, show n / 128 = h.val by omega, show n % 16 = j.val by omega]
      · exact H.gv h j a b (by omega)
    · exact H.gv h j a b (by omega)

end Step

end Cert.MlaBwdIdeal.Own
-- ==== Proof.MlaBwdFrame.lean ====
module

public import proofs.«01_k».proof.Proof.MlaBwdInv
public import Idealize.ShloMosaic.Lib.Pipeline.ValueKit

@[expose] public section

set_option maxRecDepth 16384

noncomputable section

namespace Cert.MlaBwdIdeal.Own

open Cert.MlaBwdIdeal Cert.MlaBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (Pipeline.UC sig nD τ) ℕ

variable (m : (ℓ : Loc nD τ sig) → Buf (Elt F) ℓ) (ρ : Dev nD → PrngReg)

/-! ## The blocks the points are handed, and the coordinates -/

abbrev pnt (n : ℕ) : Fin cfg0.N := ⟨n % 1024, lt_of_lt_of_eq (Nat.mod_lt _ (by norm_num)) N_0.symm⟩

theorem pnt_val (t : Fin cfg0.N) : pnt t.val = t := Fin.ext (Nat.mod_eq_of_lt (lt_of_lt_of_eq t.isLt N_0))

def handed (c : Dev nD) : Blocks F where
  q n := iblk m c 0 (pnt n)
  k n := iblk m c 1 (pnt n)
  kt n := iblk m c 2 (pnt n)
  v n := iblk m c 3 (pnt n)
  d n := iblk m c 4 (pnt n)
  l n := iblk m c 5 (pnt n)
  r n := iblk m c 6 (pnt n)

theorem b0 (c : Dev nD) (t : Fin cfg0.N) : (handed m c).q t.val = iblk m c 0 t := by
  have h : ∀ (n : ℕ) (u : Fin cfg0.N), pnt n = u → (handed m c).q n = iblk m c 0 u := by rintro n _ rfl; dsimp only [handed]
  exact h _ _ (pnt_val t)
theorem b1 (c : Dev nD) (t : Fin cfg0.N) : (handed m c).k t.val = iblk m c 1 t := by
  have h : ∀ (n : ℕ) (u : Fin cfg0.N), pnt n = u → (handed m c).k n = iblk m c 1 u := by rintro n _ rfl; dsimp only [handed]
  exact h _ _ (pnt_val t)
theorem b2 (c : Dev nD) (t : Fin cfg0.N) : (handed m c).kt t.val = iblk m c 2 t := by
  have h : ∀ (n : ℕ) (u : Fin cfg0.N), pnt n = u → (handed m c).kt n = iblk m c 2 u := by rintro n _ rfl; dsimp only [handed]
  exact h _ _ (pnt_val t)
theorem b3 (c : Dev nD) (t : Fin cfg0.N) : (handed m c).v t.val = iblk m c 3 t := by
  have h : ∀ (n : ℕ) (u : Fin cfg0.N), pnt n = u → (handed m c).v n = iblk m c 3 u := by rintro n _ rfl; dsimp only [handed]
  exact h _ _ (pnt_val t)
theorem b4 (c : Dev nD) (t : Fin cfg0.N) : (handed m c).d t.val = iblk m c 4 t := by
  have h : ∀ (n : ℕ) (u : Fin cfg0.N), pnt n = u → (handed m c).d n = iblk m c 4 u := by rintro n _ rfl; dsimp only [handed]
  exact h _ _ (pnt_val t)
theorem b5 (c : Dev nD) (t : Fin cfg0.N) : (handed m c).l t.val = iblk m c 5 t := by
  have h : ∀ (n : ℕ) (u : Fin cfg0.N), pnt n = u → (handed m c).l n = iblk m c 5 u := by rintro n _ rfl; dsimp only [handed]
  exact h _ _ (pnt_val t)
theorem b6 (c : Dev nD) (t : Fin cfg0.N) : (handed m c).r t.val = iblk m c 6 t := by
  have h : ∀ (n : ℕ) (u : Fin cfg0.N), pnt n = u → (handed m c).r n = iblk m c 6 u := by rintro n _ rfl; dsimp only [handed]
  exact h _ _ (pnt_val t)

theorem c0 (t : Fin cfg0.N) : (grid0.coords t 0).val = t.val / 128 := by
  have h := Pipeline.Grid.coords_val (G := grid0) t 0 (S := 128) (B := 8) (by decide) rfl
  have : t.val < 1024 := lt_of_lt_of_eq t.isLt N_0
  omega
theorem c1 (t : Fin cfg0.N) : (grid0.coords t 1).val = t.val / 16 % 8 :=
  Pipeline.Grid.coords_val (G := grid0) t 1 (S := 16) (B := 8) (by decide) rfl
theorem c2 (t : Fin cfg0.N) : (grid0.coords t 2).val = t.val % 16 := by
  have h := Pipeline.Grid.coords_val (G := grid0) t 2 (S := 1) (B := 16) (by decide) rfl
  omega

/-! ## The proof data -/

/-- Before point `n`: the carried buffers as the invariant says, the counters at zero. -/
def carried (c : Dev nD) (n : ℕ) : sProp 𝕄 :=
  iprop(∃ (s3 : Bf (F := F) c MS3) (s4 : Bf (F := F) c MS4) (s5 : Bf (F := F) c MS5) (g1 : Bf (F := F) c MG1) (g2 : Bf (F := F) c MG2),
    ⌜Inv (handed m c) n (MS3.view.read (Elt F) s3) (MS4.view.read (Elt F) s4) (MS5.view.read (Elt F) s5) (MG1.view.read (Elt F) g1) (MG2.view.read (Elt F) g2)⌝
      ∗ pt c MG1 g1 ∗ pt c MG2 g2 ∗ pt c MS3 s3 ∗ pt c MS4 s4 ∗ pt c MS5 s5 ∗ quiet c ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay11 ((handed m c).accQ t.val)
  Φ t := carried m c t.val
  q _ := fullShare
  owed _ := 0

theorem arrays (c : Dev nD) (w : Fin cfg0.W) : (dats m 0 c).A w = V m c (Pipeline.arrRef spec0 w) := by
  dsimp only [dats]

theorem Φ_start (c : Dev nD) (t : Fin cfg0.N) : (dats m 0 c).Φ t.castSucc = carried m c t.val := by
  dsimp only [dats]; exact Pipeline.Dat.Φ_castSucc (fun n _ => carried m c n) t
theorem Φ_end (c : Dev nD) (t : Fin cfg0.N) : (dats m 0 c).Φ t.succ = carried m c (t.val + 1) := rfl

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = k0_pay11 ((handed m c).accQ t.val) := by dsimp only [dats]

theorem found0 (c : Dev nD) (t : Fin cfg0.N) (d) : (dats m 0 c).before 0 t d = iblk m c 0 t :=
  ((dats m 0 c).before_in_eq_fetched 0 rfl (fun _ => rfl) (fun _ _ _ => rfl) (fun t => by rw [left0]; unfold Dat.blockOf iblk; rw [arrays]; try rfl) t d).trans
    (by unfold Dat.fetched Dat.blockOf iblk; rw [arrays]; try rfl)
theorem found1 (c : Dev nD) (t : Fin cfg0.N) (d) : (dats m 0 c).before 1 t d = iblk m c 1 t :=
  ((dats m 0 c).before_in_eq_fetched 1 rfl (fun _ => rfl) (fun _ _ _ => rfl) (fun t => by rw [left1]; unfold Dat.blockOf iblk; rw [arrays]; try rfl) t d).trans
    (by unfold Dat.fetched Dat.blockOf iblk; rw [arrays]; try rfl)
theorem found2 (c : Dev nD) (t : Fin cfg0.N) (d) : (dats m 0 c).before 2 t d = iblk m c 2 t :=
  ((dats m 0 c).before_in_eq_fetched 2 rfl (fun _ => rfl) (fun _ _ _ => rfl) (fun t => by rw [left2]; unfold Dat.blockOf iblk; rw [arrays]; try rfl) t d).trans
    (by unfold Dat.fetched Dat.blockOf iblk; rw [arrays]; try rfl)
theorem found3 (c : Dev nD) (t : Fin cfg0.N) (d) : (dats m 0 c).before 3 t d = iblk m c 3 t :=
  ((dats m 0 c).before_in_eq_fetched 3 rfl (fun _ => rfl) (fun _ _ _ => rfl) (fun t => by rw [left3]; unfold Dat.blockOf iblk; rw [arrays]; try rfl) t d).trans
    (by unfold Dat.fetched Dat.blockOf iblk; rw [arrays]; try rfl)
theorem found4 (c : Dev nD) (t : Fin cfg0.N) (d) : (dats m 0 c).before 4 t d = iblk m c 4 t :=
  ((dats m 0 c).before_in_eq_fetched 4 rfl (fun _ => rfl) (fun _ _ _ => rfl) (fun t => by rw [left4]; unfold Dat.blockOf iblk; rw [arrays]; try rfl) t d).trans
    (by unfold Dat.fetched Dat.blockOf iblk; rw [arrays]; try rfl)
theorem found5 (c : Dev nD) (t : Fin cfg0.N) (d) : (dats m 0 c).before 5 t d = iblk m c 5 t :=
  ((dats m 0 c).before_in_eq_fetched 5 rfl (fun _ => rfl) (fun _ _ _ => rfl) (fun t => by rw [left5]; unfold Dat.blockOf iblk; rw [arrays]; try rfl) t d).trans
    (by unfold Dat.fetched Dat.blockOf iblk; rw [arrays]; try rfl)
theorem found6 (c : Dev nD) (t : Fin cfg0.N) (d) : (dats m 0 c).before 6 t d = iblk m c 6 t :=
  ((dats m 0 c).before_in_eq_fetched 6 rfl (fun _ => rfl) (fun _ _ _ => rfl) (fun t => by rw [left6]; unfold Dat.blockOf iblk; rw [arrays]; try rfl) t d).trans
    (by unfold Dat.fetched Dat.blockOf iblk; rw [arrays]; try rfl)

/-! ## The body's obligation -/

theorem owns_pt (c : Dev nD) {sp : Space} {S : Shape} {e : EltTy} (M : Memref sig .tc sp S e) (w : M.IsWhole) (X : S.Idx → Elt F e) :
    (owns (c : Thread nD τ) M fullShare X : sProp 𝕄) = iprop(∃ f : Bf (F := F) c M, ⌜M.view.read (Elt F) f = X⌝ ∗ pt c M f) := by
  unfold owns
  rw [w.set_eq_univ]

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact
  rw [h]

theorem live7 (t : Fin cfg0.N) (h : t.val % 16 = 15) : cfg0.idle 7 (cfg0.grid.coords t) = false := by
  show (!(k0_cond3 (grid0.coords t) == 1#1)) = false
  rw [(done_iff _).mpr ((c2 t).trans h)]
  rfl

theorem idle7 (t : Fin cfg0.N) (h : ¬ t.val % 16 = 15) : cfg0.idle 7 (cfg0.grid.coords t) = true := by
  show (!(k0_cond3 (grid0.coords t) == 1#1)) = true
  rw [beq_eq_false_iff_ne.mpr fun e => h ((c2 t).symm.trans ((done_iff _).mp e))]
  rfl

theorem keep7 (t : Fin cfg0.N) (h : ¬ t.val % 16 = 15) : (cfg0.win 7).flush t = false := by
  rw [← Bool.not_eq_true]
  exact fun e => h ((flush0_7 t).1 e)

/-- What the body is called with, and what it gives back. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4000000 in
theorem sound (c : Dev nD) (t : Fin cfg0.N) :
    given m c t ⊢ wp frame (wpE (defs₀ (F := F)) Variants.none c none) Set.univ (bodyAt0 t) (fun _ => returned m c t) := by
  have hpre : given m c t ⊢ iprop(carried m c t.val ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (iblk m c 6 t) ∗ (∃ d, owns (c : Thread nD τ) (st0_7 t) fullShare ((dats m 0 c).before 7 t d))) := by
    unfold given
    rw [Φ_start]
    iintro ⟨HC, HO, ⟨%d0, H0⟩, ⟨%d1, H1⟩, ⟨%d2, H2⟩, ⟨%d3, H3⟩, ⟨%d4, H4⟩, ⟨%d5, H5⟩, ⟨%d6, H6⟩, H7⟩
    rw [found0, found1, found2, found3, found4, found5, found6]
    isplitl [HC]; · iexact HC
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  refine hpre.trans ?_
  have W0 : (st0_0 t).IsWhole := hstage0_0 ((cfg0.slots t 0).cast nbuf0_0)
  have W1 : (st0_1 t).IsWhole := hstage0_1 ((cfg0.slots t 1).cast nbuf0_1)
  have W2 : (st0_2 t).IsWhole := hstage0_2 ((cfg0.slots t 2).cast nbuf0_2)
  have W3 : (st0_3 t).IsWhole := hstage0_3 ((cfg0.slots t 3).cast nbuf0_3)
  have W4 : (st0_4 t).IsWhole := hstage0_4 ((cfg0.slots t 4).cast nbuf0_4)
  have W5 : (st0_5 t).IsWhole := hstage0_5 ((cfg0.slots t 5).cast nbuf0_5)
  have W6 : (st0_6 t).IsWhole := hstage0_6 ((cfg0.slots t 6).cast nbuf0_6)
  have W7 : (st0_7 t).IsWhole := hstage0_7 ((cfg0.slots t 7).cast nbuf0_7)
  have l7 : iprop(∃ (d : _) (f7 : Bf (F := F) c (st0_7 t)), ⌜(st0_7 t).view.read (Elt F) f7 = (dats m 0 c).before 7 t d⌝ ∗ (∃ f : Bf (F := F) c (st0_7 t),
        ⌜(t.val % 16 = 15 → (st0_7 t).view.read (Elt F) f = k0_pay11 ((handed m c).accQ t.val)) ∧ (t.val % 16 ≠ 15 → f = f7)⌝ ∗ pt c (st0_7 t) f))
      ⊢ ((dats m 0 c).leavesExact 7 t : sProp 𝕄) := by
    by_cases h : t.val % 16 = 15
    · rw [leaves_live m c 7 t (live7 t h), owns_pt c (st0_7 t) W7, left7]
      iintro ⟨%d, %f7, %e, ⟨%f, %hf, H⟩⟩
      iexists f
      isplitr
      · ipureintro; exact hf.1 h
      iexact H
    · rw [(dats m 0 c).leavesExact_idle 7 t (idle7 t h) (keep7 t h)]
      iintro ⟨%d, %f7, %e, ⟨%f, %hf, H⟩⟩
      iexists d
      rw [owns_pt c (st0_7 t) W7]
      iexists f7
      isplitr
      · ipureintro; exact e
      rw [hf.2 h]
      iexact H
  unfold returned carried
  rw [Φ_end]
  unfold carried Dat.owesAt Pipeline.owesWithin
  rw [leaves_live m c 0 t rfl, leaves_live m c 1 t rfl, leaves_live m c 2 t rfl, leaves_live m c 3 t rfl, leaves_live m c 4 t rfl,
    leaves_live m c 5 t rfl, leaves_live m c 6 t rfl, left0, left1, left2, left3, left4, left5, left6,
    owns_pt c (st0_0 t) W0, owns_pt c (st0_1 t) W1, owns_pt c (st0_2 t) W2, owns_pt c (st0_3 t) W3, owns_pt c (st0_4 t) W4,
    owns_pt c (st0_5 t) W5, owns_pt c (st0_6 t) W6]
  iintro ⟨⟨%s3, %s4, %s5, %g1, %g2, %hI, G1, G2, S3, S4, S5, HD, HR⟩, ⟨%W, %hW, HO⟩, ⟨%f0, %h0, H0⟩, ⟨%f1, %h1, H1⟩, ⟨%f2, %h2, H2⟩,
    ⟨%f3, %h3, H3⟩, ⟨%f4, %h4, H4⟩, ⟨%f5, %h5, H5⟩, ⟨%f6, %h6, H6⟩, ⟨%d7, H7⟩⟩
  have o7 : owns (c : Thread nD τ) (st0_7 t) fullShare ((dats m 0 c).before 7 t d7) ⊢ iprop(∃ f : Bf (F := F) c (st0_7 t),
      ⌜(st0_7 t).view.read (Elt F) f = (dats m 0 c).before 7 t d7⌝ ∗ pt c (st0_7 t) f) := by rw [owns_pt c (st0_7 t) W7]
  ihave H7' := o7 $$ [H7]
  · iexact H7
  icases H7' with ⟨%f7, %h7, H7⟩
  iapply (wp_wand_r frame _ Set.univ)
  isplitl [H0 H1 H2 H3 H4 H5 H6 H7 G1 G2 S3 S4 S5 HD HO]
  · iapply (run c (grid0.coords t) (st0_0 t) W0 (st0_1 t) W1 (st0_2 t) W2 (st0_3 t) W3 (st0_4 t) W4 (st0_5 t) W5 (st0_6 t) W6 (st0_7 t) W7
      f0 f1 f2 f3 f4 f5 f6 f7 g1 g2 s3 s4 s5 W
      ((handed m c).q t.val) ((handed m c).k t.val) ((handed m c).kt t.val) ((handed m c).v t.val) ((handed m c).d t.val) ((handed m c).l t.val) ((handed m c).r t.val)
      (h0.trans (b0 m c t).symm) (h1.trans (b1 m c t).symm) (h2.trans (b2 m c t).symm) (h3.trans (b3 m c t).symm) (h4.trans (b4 m c t).symm) (h5.trans (b5 m c t).symm) (h6.trans (b6 m c t).symm))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G1]; · iexact G1
    isplitl [G2]; · iexact G2
    isplitl [S3]; · iexact S3
    isplitl [S4]; · iexact S4
    isplitl [S5]; · iexact S5
    isplitl [HD]; · iexact HD
    iexact HO
  iintro %_ ⟨H0, H1, H2, H3, H4, H5, H6, ⟨%f7', %e7, H7⟩, ⟨%g1', %d1, G1⟩, ⟨%g2', %d2, G2⟩, ⟨%s3', %e3, S3⟩, ⟨%s4', %e4, S4⟩, ⟨%s5', %e5, S5⟩, HD, ⟨%W', HO⟩⟩
  have hN : Inv (handed m c) (t.val + 1) (MS3.view.read (Elt F) s3') (MS4.view.read (Elt F) s4') (MS5.view.read (Elt F) s5') (MG1.view.read (Elt F) g1') (MG2.view.read (Elt F) g2') :=
    inv_succ (handed m c) t.val (grid0.coords t) (c0 t) (c1 t) (c2 t) hI (lt_of_lt_of_eq t.isLt N_0) e3 e4 e5 d1 d2
  isplitl [G1 G2 S3 S4 S5 HD HR]
  · iexists s3', s4', s5', g1', g2'
    isplitr; · ipureintro; exact hN
    isplitl [G1]; · iexact G1
    isplitl [G2]; · iexact G2
    isplitl [S3]; · iexact S3
    isplitl [S4]; · iexact S4
    isplitl [S5]; · iexact S5
    isplitl [HD]; · iexact HD
    iexact HR
  isplitl [HO]
  · iexists W'
    isplitr
    · ipureintro; exact fun p _ => Or.inl trivial
    iexact HO
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  iapply l7
  iexists d7, f7
  isplitr; · ipureintro; exact h7
  iexists f7'
  isplitr
  · ipureintro
    exact ⟨fun h => (e7.1 ((c2 t).trans h)).trans (congrArg k0_pay11 (sumQ_eq (handed m c) t.val (grid0.coords t) (c2 t) hI)), fun h => e7.2 fun h' => h ((c2 t).symm.trans h')⟩
  iexact H7

theorem row (t : Fin cfg0.N) : defs₀ (F := F) .tc cfg0.body (cfg0.bodyArgs t (cfg0.slots t)) = bodyAt0 t := by
  unfold defs₀
  rw [Defs.onTc_tc]

theorem obligation (c : Dev nD) : Pipeline.BodyObligation (dats m 0 c) (defs₀ (F := F)) Variants.none () Set.univ := fun t => by
  rw [bigSep_W0, bigSep_W0, row]
  exact triple_restated (sound m c t) rfl .rfl fun _ => .rfl

end Cert.MlaBwdIdeal.Own
-- ==== Proof.MlaBwdPay.lean ====
module

public import proofs.«01_k».proof.Proof.MlaBwdSpec
public import proofs.«01_k».proof.Proof.MlaBwdFrame
public import Idealize.ShloMosaic.Lib.Pointwise
public import Idealize.ShloMosaic.Lib.Tactic

@[expose] public section

set_option maxRecDepth 16384

/-! # The backward body's payloads, entry by entry -/

noncomputable section

namespace Cert.MlaBwdIdeal.Own

open Cert.MlaBwdIdeal Cert.MlaBwdIdeal.Gen Idealize.ShloMosaic Idealize.ShloMosaic.TcCoe Cert.Reals Cert.Mla

section Payloads

variable (x0 : Vec Ideal S1x96x2048 .bf16) (x1 : Vec Ideal S1x1024x96 .bf16) (x2 : Vec Ideal S1x96x1024 .bf16) (x3 : Vec Ideal S1x1024x64 .bf16)
  (x4 : Vec Ideal S1x64x2048 .bf16) (x5 x6 : Vec Ideal S1x1x2048 .f32)

theorem pay4_at (d : Fin 96) (r : Fin 2048) : k0_pay4 x0 (ix2 d r) = x0 (ix3 0 d r) := by
  unfold k0_pay4; pointwise
theorem pay5_at (e : Fin 64) (r : Fin 2048) : k0_pay5 x4 (ix2 e r) = x4 (ix3 0 e r) := by
  unfold k0_pay5; pointwise

theorem pay6_at (s : Fin 1024) (r : Fin 2048) : k0_pay6 x0 x1 x5 (ix2 s r)
    = Ideal.exp2 ((∑ d : Fin 96, x1 (ix3 0 s d) * x0 (ix3 0 d r)) * (((Real.sqrt 96)⁻¹ * (Real.log 2)⁻¹ : ℝ) : EReal) - x5 (ix3 0 0 r)) := by
  unfold k0_pay6 k0_pay4
  pointwise
  rw [IdealRules.named_const.ideal_named_scalar _ _ _ _ rfl]
  rfl

theorem pay7_at (s : Fin 1024) (r : Fin 2048) : k0_pay7 x0 x4 x1 x5 x3 x6 (ix2 s r)
    = k0_pay6 x0 x1 x5 (ix2 s r) * ((∑ e : Fin 64, x3 (ix3 0 s e) * x4 (ix3 0 e r)) - x6 (ix3 0 0 r)) := by
  unfold k0_pay7 k0_pay5
  generalize k0_pay6 x0 x1 x5 = p
  pointwise

theorem pay8_at (a : FVec Ideal S64x2048 .bf16) (p : FVec Ideal S1024x2048 .f32) (o : Vec Ideal S1x64x1024 .f32) (e : Fin 64) (s : Fin 1024) :
    k0_pay8 a p o (ix3 0 e s) = o (ix3 0 e s) + ∑ r : Fin 2048, a (ix2 e r) * p (ix2 s r) := by
  unfold k0_pay8; pointwise

theorem pay9_at (a : FVec Ideal S96x2048 .bf16) (p : FVec Ideal S1024x2048 .bf16) (o : Vec Ideal S1x96x1024 .f32) (d : Fin 96) (s : Fin 1024) :
    k0_pay9 a p o (ix3 0 d s) = o (ix3 0 d s) + ∑ r : Fin 2048, a (ix2 d r) * p (ix2 s r) := by
  unfold k0_pay9; pointwise

theorem pay10_at (p : FVec Ideal S1024x2048 .bf16) (o : Vec Ideal S96x2048 .f32) (d : Fin 96) (r : Fin 2048) :
    k0_pay10 p o x2 (ix2 d r) = o (ix2 d r) + ∑ s : Fin 1024, x2 (ix3 0 d s) * p (ix2 s r) := by
  unfold k0_pay10; pointwise

theorem pay11_at (o : Vec Ideal S96x2048 .f32) (d : Fin 96) (r : Fin 2048) : k0_pay11 o (ix3 0 d r) = o (ix2 d r) * (((Real.sqrt 96)⁻¹ : ℝ) : EReal) := by
  unfold k0_pay11
  pointwise
  rw [IdealRules.named_const.ideal_named_scalar _ _ _ _ rfl]

theorem pay12_at (o : Vec Ideal S1x96x1024 .f32) (d : Fin 96) (s : Fin 1024) : k0_pay12 o (ix3 0 d s) = o (ix3 0 d s) * (((Real.sqrt 96)⁻¹ : ℝ) : EReal) := by
  unfold k0_pay12
  pointwise
  rw [IdealRules.named_const.ideal_named_scalar _ _ _ _ rfl]

theorem pay1_at (d : Fin 96) (r : Fin 2048) : k0_pay1 (F := Ideal) (ix2 d r) = (0 : EReal) := by
  unfold k0_pay1; pointwise
theorem pay2_at (d : Fin 96) (s : Fin 1024) : k0_pay2 (F := Ideal) (ix3 0 d s) = (0 : EReal) := by
  unfold k0_pay2; pointwise
theorem pay3_at (e : Fin 64) (s : Fin 1024) : k0_pay3 (F := Ideal) (ix3 0 e s) = (0 : EReal) := by
  unfold k0_pay3; pointwise

end Payloads

end Cert.MlaBwdIdeal.Own
end
-- ==== Proof.MlaBwdVal.lean ====
module

public import proofs.«01_k».proof.Proof.MlaBwdPay
public import proofs.«01_k».proof.Proof.MlaBwdSpec
public import proofs.«01_k».proof.Proof.MlaBwdInv

@[expose] public section

set_option maxRecDepth 16384

/-! # What the running sums come to, over real numbers -/

noncomputable section

namespace Cert.MlaBwdIdeal.Own

open Cert.MlaBwdIdeal Cert.MlaBwdIdeal.Gen Idealize.ShloMosaic Idealize.ShloMosaic.TcCoe Cert.Reals Cert.Mla

variable (q k : (Tok 96).Idx → ℝ) (v : (Tok 64).Idx → ℝ) (g : Flat.Idx → ℝ) (B : Blocks Ideal)

/-- The blocks handed to the points are those of real arrays. -/
structure Feeds : Prop where
  at_q : ∀ (n : ℕ) (h : Fin 8) (u : Fin 16384) (d : Fin 96) (r : Fin 2048), n < 1024 → h.val = n / 128 → u.val = n / 16 % 8 * 2048 + r.val → B.q n (ix3 0 d r) = (q (ix4 0 u h d) : EReal)
  at_k : ∀ (n : ℕ) (h : Fin 8) (u : Fin 16384) (d : Fin 96) (s : Fin 1024), n < 1024 → h.val = n / 128 → u.val = n % 16 * 1024 + s.val → B.k n (ix3 0 s d) = (k (ix4 0 u h d) : EReal)
  at_kt : ∀ (n : ℕ) (h : Fin 8) (u : Fin 16384) (d : Fin 96) (s : Fin 1024), n < 1024 → h.val = n / 128 → u.val = n % 16 * 1024 + s.val → B.kt n (ix3 0 d s) = (k (ix4 0 u h d) : EReal)
  at_v : ∀ (n : ℕ) (h : Fin 8) (u : Fin 16384) (e : Fin 64) (s : Fin 1024), n < 1024 → h.val = n / 128 → u.val = n % 16 * 1024 + s.val → B.v n (ix3 0 s e) = (v (ix4 0 u h e) : EReal)
  at_d : ∀ (n : ℕ) (h : Fin 8) (u : Fin 16384) (e : Fin 64) (r : Fin 2048), n < 1024 → h.val = n / 128 → u.val = n / 16 % 8 * 2048 + r.val → B.d n (ix3 0 e r) = (g (ix3 0 u (col h e)) : EReal)
  at_l : ∀ (n : ℕ) (h : Fin 8) (u : Fin 16384) (r : Fin 2048), n < 1024 → h.val = n / 128 → u.val = n / 16 % 8 * 2048 + r.val → B.l n (ix3 0 0 r) = (logSum q k h u : EReal)
  at_r : ∀ (n : ℕ) (h : Fin 8) (u : Fin 16384) (r : Fin 2048), n < 1024 → h.val = n / 128 → u.val = n / 16 % 8 * 2048 + r.val → B.r n (ix3 0 0 r) = (Mla.slope q k v g h u : EReal)

section Sums

variable (H : Feeds q k v g B)
include H

theorem share_at (n : ℕ) (s : Fin 1024) (r : Fin 2048) (h : Fin 8) (i j : Fin 16384) (hn : n < 1024) (hh : h.val = n / 128) (hi : i.val = n / 16 % 8 * 2048 + r.val)
    (hj : j.val = n % 16 * 1024 + s.val) : k0_pay6 (B.q n) (B.k n) (B.l n) (ix2 s r) = (share q k h i j : EReal) := by
  rw [pay6_at, H.at_l n h i r hn hh hi]
  simp only [H.at_k n h j _ s hn hh hj, H.at_q n h i _ r hn hh hi, ← EReal.coe_mul]
  rw [coe_sum, ← EReal.coe_mul, ← EReal.coe_sub, exp2_real, EReal.coe_eq_coe_iff]
  have l2 := log_two_pos.ne'
  have e : Real.log 2 * ((∑ d : Fin 96, k (ix4 0 j h d) * q (ix4 0 i h d)) * ((Real.sqrt 96)⁻¹ * (Real.log 2)⁻¹) - logSum q k h i) = score q k h i j - Real.log (total q k h i) := by
    rw [score, logSum, mul_sub, mul_div_cancel₀ _ l2, Finset.sum_congr rfl (fun d _ => mul_comm (k (ix4 0 j h d)) (q (ix4 0 i h d)))]
    field_simp
  rw [e, Real.exp_sub, Real.exp_log (total_pos q k h i), share]

theorem dscore_at (n : ℕ) (s : Fin 1024) (r : Fin 2048) (h : Fin 8) (i j : Fin 16384) (hn : n < 1024) (hh : h.val = n / 128) (hi : i.val = n / 16 % 8 * 2048 + r.val)
    (hj : j.val = n % 16 * 1024 + s.val) : B.ds n (ix2 s r) = (dscore q k v g h i j : EReal) := by
  unfold Blocks.ds
  rw [pay7_at, share_at q k v g B H n s r h i j hn hh hi hj, H.at_r n h i r hn hh hi]
  simp only [H.at_v n h j _ s hn hh hj, H.at_d n h i _ r hn hh hi, ← EReal.coe_mul]
  rw [coe_sum, ← EReal.coe_sub, ← EReal.coe_mul, dscore, pull]

theorem stepQ (n : ℕ) (o : Vec Ideal S96x2048 .f32) (x : ℝ) (d : Fin 96) (r : Fin 2048) (h : Fin 8) (i : Fin 16384) (hn : n < 1024) (hh : h.val = n / 128) (hi : i.val = n / 16 % 8 * 2048 + r.val)
    (ho : o (ix2 d r) = (x : EReal)) : k0_pay10 (B.ds n) o (B.kt n) (ix2 d r)
      = ((x + ∑ s : Fin 1024, k (ix4 0 (tok (n % 16 * 1024 + s.val)) h d) * dscore q k v g h i (tok (n % 16 * 1024 + s.val)) : ℝ) : EReal) := by
  have hj : ∀ s : Fin 1024, (tok (n % 16 * 1024 + s.val)).val = n % 16 * 1024 + s.val := fun s => Nat.mod_eq_of_lt (by have := s.isLt; omega)
  rw [pay10_at, ho, Finset.sum_congr rfl fun s _ => congrArg₂ (· * ·) (H.at_kt n h _ d s hn hh (hj s)) (dscore_at q k v g B H n s r h i _ hn hh hi (hj s))]
  simp only [← EReal.coe_mul]
  rw [coe_sum, ← EReal.coe_add]

theorem accQ_at (d : Fin 96) (r : Fin 2048) (h : Fin 8) (i : Fin 16384) : ∀ n : ℕ, n < 1024 → h.val = n / 128 → i.val = n / 16 % 8 * 2048 + r.val →
    B.accQ n (ix2 d r) = ((∑ b ∈ Finset.range (n % 16 + 1), ∑ s : Fin 1024, k (ix4 0 (tok (b * 1024 + s.val)) h d) * dscore q k v g h i (tok (b * 1024 + s.val)) : ℝ) : EReal) := by
  intro n
  induction n with
  | zero =>
    intro hn hh hi
    unfold Blocks.accQ
    rw [stepQ q k v g B H 0 _ 0 d r h i hn hh hi (pay1_at d r)]
    simp
  | succ n ih =>
    intro hn hh hi
    unfold Blocks.accQ
    by_cases h0 : (n + 1) % 16 = 0
    · rw [if_pos h0, stepQ q k v g B H (n + 1) _ 0 d r h i hn hh hi (pay1_at d r), h0]
      simp
    · rw [if_neg h0, stepQ q k v g B H (n + 1) _ _ d r h i hn hh hi (ih (by omega) (by omega) (by omega)), Finset.sum_range_succ _ ((n + 1) % 16), show n % 16 + 1 = (n + 1) % 16 by omega]

theorem sumQ_at (t : ℕ) (ht : t < 1024) (h15 : t % 16 = 15) (d : Fin 96) (r : Fin 2048) (h : Fin 8) (i : Fin 16384) (hh : h.val = t / 128) (hi : i.val = t / 16 % 8 * 2048 + r.val) :
    B.accQ t (ix2 d r) = (sumQueries q k v g h i d : EReal) := by
  rw [accQ_at q k v g B H d r h i t ht hh hi, h15, in_blocks 1024 16 (by norm_num) fun j => k (ix4 0 j h d) * dscore q k v g h i j, sumQueries]

theorem stepK (h : Fin 8) (b : Fin 16) (i : ℕ) (hi : i < 8) (o : Vec Ideal S1x96x1024 .f32) (x : ℝ) (d : Fin 96) (s : Fin 1024) (ho : o (ix3 0 d s) = (x : EReal)) :
    k0_pay9 (k0_pay4 (B.q (Blocks.pos h.val b.val i))) (B.ds (Blocks.pos h.val b.val i)) o (ix3 0 d s)
      = ((x + ∑ r : Fin 2048, q (ix4 0 (tok (i * 2048 + r.val)) h d) * dscore q k v g h (tok (i * 2048 + r.val)) (key b s) : ℝ) : EReal) := by
  have hb := b.isLt
  have hh := h.isLt
  have hu : ∀ r : Fin 2048, (tok (i * 2048 + r.val)).val = Blocks.pos h.val b.val i / 16 % 8 * 2048 + r.val := fun r => by
    have hr := r.isLt
    have e : (tok (i * 2048 + r.val)).val = i * 2048 + r.val := Nat.mod_eq_of_lt (by omega)
    rw [e]; unfold Blocks.pos; omega
  have h1 : Blocks.pos h.val b.val i < 1024 := by unfold Blocks.pos; omega
  have h2 : h.val = Blocks.pos h.val b.val i / 128 := by unfold Blocks.pos; omega
  have h3 : (key b s).val = Blocks.pos h.val b.val i % 16 * 1024 + s.val := by unfold Blocks.pos key; dsimp only; omega
  rw [pay9_at, ho, Finset.sum_congr rfl fun r _ => congrArg₂ (· * ·) ((pay4_at _ d r).trans (H.at_q _ h _ d r h1 h2 (hu r))) (dscore_at q k v g B H _ s r h _ (key b s) h1 h2 (hu r) h3)]
  simp only [← EReal.coe_mul]
  rw [coe_sum, ← EReal.coe_add]

theorem accK_at (h : Fin 8) (b : Fin 16) (d : Fin 96) (s : Fin 1024) : ∀ i : ℕ, i < 8 → B.accK h.val b.val i (ix3 0 d s)
    = ((∑ a ∈ Finset.range (i + 1), ∑ r : Fin 2048, q (ix4 0 (tok (a * 2048 + r.val)) h d) * dscore q k v g h (tok (a * 2048 + r.val)) (key b s) : ℝ) : EReal) := by
  intro i
  induction i with
  | zero =>
    intro hi
    unfold Blocks.accK
    rw [stepK q k v g B H h b 0 hi _ 0 d s (pay2_at d s)]
    simp
  | succ i ih =>
    intro hi
    unfold Blocks.accK
    rw [stepK q k v g B H h b (i + 1) hi _ _ d s (ih (by omega)), Finset.sum_range_succ _ (i + 1)]

theorem sumK_at (h : Fin 8) (b : Fin 16) (d : Fin 96) (s : Fin 1024) : B.slabK h.val b.val 7 (ix3 0 d s) = ((sumKeys q k v g h (key b s) d * (Real.sqrt 96)⁻¹ : ℝ) : EReal) := by
  unfold Blocks.slabK
  rw [if_pos rfl, pay12_at, accK_at q k v g B H h b d s 7 (by norm_num), in_blocks 2048 8 (by norm_num) fun i => q (ix4 0 i h d) * dscore q k v g h i (key b s), ← EReal.coe_mul, sumKeys]

theorem stepV (h : Fin 8) (b : Fin 16) (i : ℕ) (hi : i < 8) (o : Vec Ideal S1x64x1024 .f32) (x : ℝ) (e : Fin 64) (s : Fin 1024) (ho : o (ix3 0 e s) = (x : EReal)) :
    k0_pay8 (k0_pay5 (B.d (Blocks.pos h.val b.val i))) (k0_pay6 (B.q (Blocks.pos h.val b.val i)) (B.k (Blocks.pos h.val b.val i)) (B.l (Blocks.pos h.val b.val i))) o (ix3 0 e s)
      = ((x + ∑ r : Fin 2048, g (ix3 0 (tok (i * 2048 + r.val)) (col h e)) * share q k h (tok (i * 2048 + r.val)) (key b s) : ℝ) : EReal) := by
  have hb := b.isLt
  have hh := h.isLt
  have hu : ∀ r : Fin 2048, (tok (i * 2048 + r.val)).val = Blocks.pos h.val b.val i / 16 % 8 * 2048 + r.val := fun r => by
    have hr := r.isLt
    have e : (tok (i * 2048 + r.val)).val = i * 2048 + r.val := Nat.mod_eq_of_lt (by omega)
    rw [e]; unfold Blocks.pos; omega
  have h1 : Blocks.pos h.val b.val i < 1024 := by unfold Blocks.pos; omega
  have h2 : h.val = Blocks.pos h.val b.val i / 128 := by unfold Blocks.pos; omega
  have h3 : (key b s).val = Blocks.pos h.val b.val i % 16 * 1024 + s.val := by unfold Blocks.pos key; dsimp only; omega
  rw [pay8_at, ho, Finset.sum_congr rfl fun r _ => congrArg₂ (· * ·) ((pay5_at _ e r).trans (H.at_d _ h _ e r h1 h2 (hu r))) (share_at q k v g B H _ s r h _ (key b s) h1 h2 (hu r) h3)]
  simp only [← EReal.coe_mul]
  rw [coe_sum, ← EReal.coe_add]

theorem accV_at (h : Fin 8) (b : Fin 16) (e : Fin 64) (s : Fin 1024) : ∀ i : ℕ, i < 8 → B.accV h.val b.val i (ix3 0 e s)
    = ((∑ a ∈ Finset.range (i + 1), ∑ r : Fin 2048, g (ix3 0 (tok (a * 2048 + r.val)) (col h e)) * share q k h (tok (a * 2048 + r.val)) (key b s) : ℝ) : EReal) := by
  intro i
  induction i with
  | zero =>
    intro hi
    unfold Blocks.accV
    rw [stepV q k v g B H h b 0 hi _ 0 e s (pay3_at e s)]
    simp
  | succ i ih =>
    intro hi
    unfold Blocks.accV
    rw [stepV q k v g B H h b (i + 1) hi _ _ e s (ih (by omega)), Finset.sum_range_succ _ (i + 1)]

theorem sumV_at (h : Fin 8) (b : Fin 16) (e : Fin 64) (s : Fin 1024) : B.accV h.val b.val 7 (ix3 0 e s) = (sumValues q k g h (key b s) e : EReal) := by
  rw [accV_at q k v g B H h b e s 7 (by norm_num), in_blocks 2048 8 (by norm_num) fun i => g (ix3 0 i (col h e)) * share q k h i (key b s), sumValues]

end Sums

end Cert.MlaBwdIdeal.Own
end
-- ==== Proof.MlaBwdEntry.lean ====
module

public import proofs.«01_k».proof.Proof.MlaBwdSpec
public import proofs.«01_k».proof.Proof.MlaBwdFrame
public import proofs.«01_k».proof.Proof.MlaRef
public import proofs.«01_k».proof.Proof.Gen.MlaBwdRefIdeal.Run
public import proofs.«01_k».proof.Proof.Gen.MlaBwdRefIdeal.Read
public import Idealize.ShloMosaic.Lib.Pointwise
public import Idealize.ShloMosaic.Lib.Tactic

@[expose] public section

set_option maxRecDepth 16384

/-! # The blocks the backward points are handed, entry by entry -/

noncomputable section

namespace Cert.MlaBwdIdeal.Own

open Cert.MlaBwdIdeal Cert.MlaBwdIdeal.Gen Idealize.ShloMosaic Idealize.ShloMosaic.TcCoe Cert.Reals Cert.Mla

variable (m : (ℓ : Loc nD τ sig) → Buf (Elt Ideal) ℓ) (c : Dev nD)

theorem idx0 : ∀ t : Fin grid0.N, win0_0.index t = ![t.val / 128, 0, t.val / 16 % 8] := by decide +kernel
theorem idx1 : ∀ t : Fin grid0.N, win0_1.index t = ![t.val / 128, t.val % 16, 0] := by decide +kernel
theorem idx2 : ∀ t : Fin grid0.N, win0_2.index t = ![t.val / 128, 0, t.val % 16] := by decide +kernel
theorem idx3 : ∀ t : Fin grid0.N, win0_3.index t = ![t.val / 128, t.val % 16, 0] := by decide +kernel
theorem idx4 : ∀ t : Fin grid0.N, win0_4.index t = ![t.val / 128, 0, t.val / 16 % 8] := by decide +kernel
theorem idx5 : ∀ t : Fin grid0.N, win0_5.index t = ![t.val / 128, 0, t.val / 16 % 8] := by decide +kernel
theorem idx6 : ∀ t : Fin grid0.N, win0_6.index t = ![t.val / 128, 0, t.val / 16 % 8] := by decide +kernel
theorem idx7 : ∀ t : Fin grid0.N, win0_7.index t = ![t.val / 128, 0, t.val / 16 % 8] := by decide +kernel

theorem in0 (t : Fin cfg0.N) (d : Fin 96) (r : Fin 2048) (h : Fin 8) (u : Fin 16384) (hh : h.val = t.val / 128) (hu : u.val = t.val / 16 % 8 * 2048 + r.val) :
    iblk m c 0 t (ix3 0 d r) = m ((c : Thread nD τ).loc main_arg0) (ix4 0 u h d) := by
  blk_simp [iblk]; entry_read; pointwise
  blk_ext [iblk, (idx0 t)]

theorem in1 (t : Fin cfg0.N) (d : Fin 96) (s : Fin 1024) (h : Fin 8) (u : Fin 16384) (hh : h.val = t.val / 128) (hu : u.val = t.val % 16 * 1024 + s.val) :
    iblk m c 1 t (ix3 0 s d) = m ((c : Thread nD τ).loc main_arg1) (ix4 0 u h d) := by
  blk_simp [iblk]; entry_read; pointwise
  blk_ext [iblk, (idx1 t)]

theorem in2 (t : Fin cfg0.N) (d : Fin 96) (s : Fin 1024) (h : Fin 8) (u : Fin 16384) (hh : h.val = t.val / 128) (hu : u.val = t.val % 16 * 1024 + s.val) :
    iblk m c 2 t (ix3 0 d s) = m ((c : Thread nD τ).loc main_arg1) (ix4 0 u h d) := by
  blk_simp [iblk]; entry_read; pointwise
  blk_ext [iblk, (idx2 t)]

theorem in3 (t : Fin cfg0.N) (e : Fin 64) (s : Fin 1024) (h : Fin 8) (u : Fin 16384) (hh : h.val = t.val / 128) (hu : u.val = t.val % 16 * 1024 + s.val) :
    iblk m c 3 t (ix3 0 s e) = m ((c : Thread nD τ).loc main_arg2) (ix4 0 u h e) := by
  blk_simp [iblk]; entry_read; pointwise
  blk_ext [iblk, (idx3 t)]

theorem in4 (t : Fin cfg0.N) (e : Fin 64) (r : Fin 2048) (h : Fin 8) (u : Fin 16384) (hh : h.val = t.val / 128) (hu : u.val = t.val / 16 % 8 * 2048 + r.val) :
    iblk m c 4 t (ix3 0 e r) = m ((c : Thread nD τ).loc main_arg3) (ix3 0 u (col h e)) := by
  blk_simp [iblk]; entry_read; pointwise
  blk_ext [iblk, (idx4 t)]

theorem sums_entry : (V m c main_v25 : Vec Ideal S8x1x16384 .f32) = Cert.MlaFwdRefIdeal.Read.val_main_v30 (F := Ideal) (m ((c : Thread nD τ).loc main_arg0)) (m ((c : Thread nD τ).loc main_arg1)) := by
  entry_read
  rfl

/-- A row's products with the gradient given, summed over a head's channels. -/
def rowDots (a b : FVec Ideal S1x16384x8x64 .f32) : FVec Ideal S8x1x16384 .f32 :=
  transpose S8x1x16384 [2, 0, 1] (Host.reduceAdd (mulf a b) (constant S_ .f32 0x00000000#32) reducesTo_S1x16384x8x64_S1x16384x8_d3 h_S_) transposes_S1x16384x8_S8x1x16384_2_0_1

theorem rowDots_at (a b : FVec Ideal S1x16384x8x64 .f32) (h : Fin 8) (i : Fin 16384) : rowDots a b (ix3 h 0 i) = ∑ e : Fin 64, a (ix4 0 i h e) * b (ix4 0 i h e) := by
  unfold rowDots; pointwise

theorem slopes_entry : (V m c main_v50 : Vec Ideal S8x1x16384 .f32)
    = rowDots (Cert.MlaBwdRefIdeal.Read.val_main_v33 (F := Ideal) (m ((c : Thread nD τ).loc main_arg0)) (m ((c : Thread nD τ).loc main_arg1)) (m ((c : Thread nD τ).loc main_arg2)))
        (Cert.MlaBwdRefIdeal.Read.val_main_v35 (F := Ideal) (m ((c : Thread nD τ).loc main_arg3))) := by
  entry_read
  rfl

theorem in5 (t : Fin cfg0.N) (r : Fin 2048) (h : Fin 8) (u : Fin 16384) (hh : h.val = t.val / 128) (hu : u.val = t.val / 16 % 8 * 2048 + r.val) :
    iblk m c 5 t (ix3 0 0 r) = (V m c main_v25 : Vec Ideal S8x1x16384 .f32) (ix3 h 0 u) := by
  blk_simp [iblk]
  blk_ext [iblk, (idx5 t)]

set_option maxRecDepth 65536 in
theorem in6 (t : Fin cfg0.N) (r : Fin 2048) (h : Fin 8) (u : Fin 16384) (hh : h.val = t.val / 128) (hu : u.val = t.val / 16 % 8 * 2048 + r.val) :
    iblk m c 6 t (ix3 0 0 r) = (V m c main_v50 : Vec Ideal S8x1x16384 .f32) (ix3 h 0 u) := by
  blk_simp [iblk]
  blk_ext [iblk, (idx6 t)]

end Cert.MlaBwdIdeal.Own
end
-- ==== Proof.MlaBwdLaunch.lean ====
module

public import proofs.«01_k».proof.Proof.MlaBwdFrame
public import Idealize.ShloMosaic.Lib.Pipeline.Routed
public import Idealize.ShloMosaic.Lib.Pipeline.ReadBack
public import Idealize.ShloMosaic.Lib.Pipeline.ValueKit

@[expose] public section

set_option maxRecDepth 16384

noncomputable section

namespace Cert.MlaBwdIdeal.Own

open Cert.MlaBwdIdeal Cert.MlaBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (Pipeline.UC sig nD τ) ℕ

variable (m : (ℓ : Loc nD τ sig) → Buf (Elt F) ℓ) (ρ : Dev nD → PrngReg)

/-! ## Before the first point and after the last -/

abbrev counters : Fin 2 → SemLoc sig := ![.dma 16, .dma 17]
abbrev left : Finset (Ref sig .tc) := {main_v51_1, main_v51_2}

/-- The two arrays the transfers fill, slab by slab. -/
def grownK (c : Dev nD) : Vec F S8x16x96x1024 .f32 := fun y => (handed m c).slabK (y 0).val (y 1).val 7 (ix3 0 (y 2) (y 3))
def grownV (c : Dev nD) : Vec F S8x16x64x1024 .f32 := fun y => (handed m c).accV (y 0).val (y 1).val 7 (ix3 0 (y 2) (y 3))

def Y (c : Dev nD) : (b : Ref sig .tc) → Buf (Elt F) ((c.tc : Thread nD τ).loc b) :=
  Function.update (Function.update (V m c) main_v51_1 ((Memref.isWhole_whole main_v51_1).unread (grownK m c)))
    main_v51_2 ((Memref.isWhole_whole main_v51_2).unread (grownV m c))

theorem two (c : Dev nD) (W : (b : Ref sig .tc) → Buf (Elt F) ((c.tc : Thread nD τ).loc b)) :
    (Pipeline.routed left c W : sProp 𝕄) = iprop(pt c MG1 (W main_v51_1) ∗ pt c MG2 (W main_v51_2)) := by
  unfold Pipeline.routed
  rw [BI.bigSep_eq_bigSepL_of_eq [main_v51_1, main_v51_2] (by decide) (by decide)]
  simp only [BI.bigSepL_cons_cons, BI.bigSepL_singleton]
  rfl

theorem own2 (c : Dev nD) : (Pipeline.ownSems0 counters c : sProp 𝕄) = quiet c := by
  rw [Pipeline.ownSems0_eq_of_list c counters [0, 1] (by decide) (by decide)]
  simp only [BI.bigSepL_cons_cons, BI.bigSepL_singleton]
  rfl

theorem facts2 : Pipeline.OwnSemFacts spec0 counters := by decide

theorem first (c : Dev nD) : Pipeline.Ends spec0 counters left c (V m c) ⊢ (dats m 0 c).Φ 0 := by
  show _ ⊢ carried m c 0
  unfold Pipeline.Ends carried
  rw [two, own2, scopedRest0_eq c]
  iintro ⟨⟨G1, G2⟩, HD, ⟨⟨%s3, S3⟩, ⟨%s4, S4⟩, ⟨%s5, S5⟩⟩, HR⟩
  iexists s3, s4, s5, V m c main_v51_1, V m c main_v51_2
  isplitr; · ipureintro; exact inv_zero _ _ _ _ _ _
  isplitl [G1]; · iexact G1
  isplitl [G2]; · iexact G2
  isplitl [S3]; · iexact S3
  isplitl [S4]; · iexact S4
  isplitl [S5]; · iexact S5
  isplitl [HD]; · iexact HD
  iexact HR

theorem last (c : Dev nD) : (dats m 0 c).Φ (Fin.last cfg0.N) ⊢ Pipeline.Ends spec0 counters left c (Y m c) := by
  have e : (dats m 0 c).Φ (Fin.last cfg0.N) = carried m c 1024 := congrArg (carried m c) N_0
  rw [e]
  unfold Pipeline.Ends carried
  rw [two, own2, scopedRest0_eq c]
  have y1 : Y m c main_v51_1 = (Memref.isWhole_whole main_v51_1).unread (grownK m c) := by
    unfold Y
    rw [Function.update_of_ne (show main_v51_1 ≠ main_v51_2 by decide), Function.update_self]
  have y2 : Y m c main_v51_2 = (Memref.isWhole_whole main_v51_2).unread (grownV m c) := by
    unfold Y
    rw [Function.update_self]
  iintro ⟨%s3, %s4, %s5, %g1, %g2, %hI, G1, G2, S3, S4, S5, HD, HR⟩
  have z1 : g1 = Y m c main_v51_1 := by
    have e : MG1.view.read (Elt F) g1 = grownK m c := funext fun y => by
      obtain ⟨h, j, a, b, rfl⟩ : ∃ (h : Fin 8) (j : Fin 16) (a : Fin 96) (b : Fin 1024), y = ix4 h j a b := ⟨y 0, y 1, y 2, y 3, funext fun d => by fin_cases d <;> rfl⟩
      exact hI.gk h j a b (by have := h.isLt; have := j.isLt; omega)
    exact (Memref.IsWhole.eq_unread (m := MG1) (Memref.isWhole_whole _) e).trans y1.symm
  have z2 : g2 = Y m c main_v51_2 := by
    have e : MG2.view.read (Elt F) g2 = grownV m c := funext fun y => by
      obtain ⟨h, j, a, b, rfl⟩ : ∃ (h : Fin 8) (j : Fin 16) (a : Fin 64) (b : Fin 1024), y = ix4 h j a b := ⟨y 0, y 1, y 2, y 3, funext fun d => by fin_cases d <;> rfl⟩
      exact hI.gv h j a b (by have := h.isLt; have := j.isLt; omega)
    exact (Memref.IsWhole.eq_unread (m := MG2) (Memref.isWhole_whole _) e).trans y2.symm
  rw [← z1, ← z2]
  isplitl [G1 G2]
  · isplitl [G1]; · iexact G1
    iexact G2
  isplitl [HD]; · iexact HD
  isplitl [S3 S4 S5]
  · isplitl [S3]; · iexists s3; iexact S3
    isplitl [S4]; · iexists s4; iexact S4
    iexists s5; iexact S5
  iexact HR

/-! ## The run, and the frame -/

set_option maxHeartbeats 1600000 in
theorem upTo : Pipeline.HMain (Ix := Unit) (Name := ℕ) (U := Pipeline.UC sig nD τ) (Lvl := ℕ) cfgs 0 (defs₀ (F := F)) Variants.none m (main (F := F)) (V m) :=
  Pipeline.hmain_prefix cfgs 0 defs₀ Variants.none m main hostOps0 hostOps0_sub hostOps0_fresh main_chain

set_option backward.isDefEq.respectTransparency.types false in
theorem whole_run : θ_run defs (onTc (τ := τ) (main (F := F))) (s₀ m ρ) (fun r => Pipeline.RoutedPost cfgs (dats m) 0 left (V m) (Y m) r ∧ r.2.sem = fun _ => 0) :=
  Pipeline.θ_run_frame_routed (Q' := _) cfgs (dats m) (0 : Fin 1) launch0 facts2 defs₀ Variants.none m ρ main
    (hbody := fun c => (obligation m c).loose) (hshare := fun c => (dats m 0 c).share_full fun _ => rfl)
    (howed := fun _ _ => rfl) (V := V m) (hmain := upTo m) (hA := fun c w => arrays m c w) (R := left) (hR := by decide) (Y := Y m)
    (hin := first m) (hout := last m)

/-- An argument's buffer is neither filled by a transfer nor staged. -/
theorem untouched (c : Dev nD) (r : PUnit × MemSt nD τ sig (Elt F)) (h : Pipeline.RoutedPost cfgs (dats m) 0 left (V m) (Y m) r) (b : Ref sig .tc)
    (hb : b ∈ Pipeline.restRefs sig spec0 \ left) : r.2.mem ((c.tc : Thread nD τ).loc b) = V m c b :=
  (h c).2.2 b hb

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (untouched m c r h.1 main_arg0 (Finset.mem_sdiff.mpr ⟨Pipeline.mem_restRefs_of main_arg0 (by decide) (by decide), by decide⟩)).trans (V_main_arg0 m c),
      (untouched m c r h.1 main_arg1 (Finset.mem_sdiff.mpr ⟨Pipeline.mem_restRefs_of main_arg1 (by decide) (by decide), by decide⟩)).trans (V_main_arg1 m c),
      (untouched m c r h.1 main_arg2 (Finset.mem_sdiff.mpr ⟨Pipeline.mem_restRefs_of main_arg2 (by decide) (by decide), by decide⟩)).trans (V_main_arg2 m c),
      (untouched m c r h.1 main_arg3 (Finset.mem_sdiff.mpr ⟨Pipeline.mem_restRefs_of main_arg3 (by decide) (by decide), by decide⟩)).trans (V_main_arg3 m c)⟩, h.2⟩)
    (whole_run m ρ)

end Cert.MlaBwdIdeal.Own
-- ==== Proof.MlaBwdRef.lean ====
module

public import proofs.«01_k».proof.Proof.MlaBwdSpec
public import proofs.«01_k».proof.Proof.MlaRef
public import proofs.«01_k».proof.Proof.Gen.MlaBwdRefIdeal.Run
public import proofs.«01_k».proof.Proof.Gen.MlaBwdRefIdeal.Read
public import Idealize.ShloMosaic.Lib.Tactic

@[expose] public section

set_option maxRecDepth 16384

/-! # The reference's gradients, over real numbers -/

noncomputable section

namespace Cert.Mla.Bwd

open Idealize.ShloMosaic Idealize.ShloMosaic.TcCoe Cert.Reals Cert.Mla
open Cert.MlaBwdRefIdeal Cert.MlaBwdRefIdeal.Gen Cert.MlaBwdRefIdeal.Read

variable (q k : (Tok 96).Idx → ℝ) (v : (Tok 64).Idx → ℝ) (g : Flat.Idx → ℝ)

abbrev up {s : Shape} (x : s.Idx → ℝ) : s.Idx → EReal := fun y => (x y : EReal)

theorem bits_one : Ideal.ofBits FTy.f32 0x3F800000#32 = ((1 : ℝ) : EReal) := by
  simp [Ideal.ofBits, Ideal.ieee, -EReal.coe_mul]
  norm_num

theorem ref3 (h : Fin 8) (i j : Fin 16384) : val_main_v3 (F := Ideal) (up q) (up k) (ix4 0 h i j) = (score q k h i j : EReal) := by
  unfold val_main_v3 val_main_v2 val_main_v1 val_main_v0 val_main_cst
  pointwise
  rw [bits_96]
  exact score_div q k h i j

theorem ref4 (h : Fin 8) (i : Fin 16384) : ∃ M : ℝ, val_main_v4 (F := Ideal) (up q) (up k) (ix3 0 h i) = (M : EReal) := by
  unfold val_main_v4 val_main_cst_0
  refine host_max_real (by decide) _ (fun y => score q k (y 1) (y 2) (y 3)) (fun y => ?_) _ (by decide) _ _
  obtain ⟨a, h, i, j, rfl⟩ : ∃ (a : Fin 1) (h : Fin 8) (i j : Fin 16384), y = ix4 a h i j := ⟨y 0, y 1, y 2, y 3, eq_ix4 y⟩
  obtain rfl : a = 0 := Subsingleton.elim _ _
  exact ref3 q k h i j

theorem ref24 (h : Fin 8) (i : Fin 16384) : ∃ M : ℝ, ∀ j, val_main_v24 (F := Ideal) (up q) (up k) (ix4 0 h i j) = (Real.exp (score q k h i j - M) : EReal) := by
  obtain ⟨M, hM⟩ := ref4 q k h i
  refine ⟨M, fun j => ?_⟩
  have hi : idx_main_v21 (idx_main_v22 (ix4 0 h i j)) = ix3 0 h i := funext fun d => by fin_cases d <;> rfl
  have hb : val_main_v10 (F := Ideal) (ix3 0 h i) = ⊥ := bits_bot
  have h11 : val_main_v11 (F := Ideal) (up q) (up k) (ix3 0 h i) = (M : EReal) := by
    rw [val_main_v11_apply, hM, hb]
    exact max_eq_right bot_le
  rw [val_main_v24_apply, val_main_v23_apply, val_main_v22_apply, val_main_v21_apply, hi, h11, ref3]
  rfl

section Row

variable (h : Fin 8) (i : Fin 16384) (M : ℝ) (hM : ∀ j, val_main_v24 (F := Ideal) (up q) (up k) (ix4 0 h i j) = (Real.exp (score q k h i j - M) : EReal))
include hM

/-- The row's sum of exponentials after the shift by `M`. -/
def shifted : ℝ := total q k h i * Real.exp (-M)

omit hM in
theorem shifted_pos : 0 < shifted q k h i M := mul_pos (total_pos q k h i) (Real.exp_pos _)

omit hM in
theorem exp_shifted (j : Fin 16384) : Real.exp (score q k h i j - M) = share q k h i j * shifted q k h i M := by
  rw [share, sub_eq_add_neg, Real.exp_add, shifted]
  have := (total_pos q k h i).ne'
  field_simp

theorem ref25 : val_main_v25 (F := Ideal) (up q) (up k) (ix3 0 h i) = (shifted q k h i M : EReal) := by
  unfold val_main_v25 val_main_cst_8
  pointwise
  simp only [hM]
  rw [coe_sum, shifted, total, Finset.sum_mul]
  exact congrArg _ (Finset.sum_congr rfl fun j _ => by rw [sub_eq_add_neg, Real.exp_add])

theorem ref26 : val_main_v26 (F := Ideal) (up q) (up k) (ix4 0 h i 0) = (shifted q k h i M : EReal) := by
  have hi : idx_main_v26 (ix4 0 h i 0) = ix3 0 h i := funext fun d => by fin_cases d <;> rfl
  rw [val_main_v26_apply, hi, ref25 q k h i M hM]

theorem ref31 : val_main_v31 (F := Ideal) (up q) (up k) (ix4 0 h i 0) = ((1 / (shifted q k h i M * shifted q k h i M) : ℝ) : EReal) := by
  have hp := shifted_pos q k h i M
  rw [val_main_v31_apply, val_main_v30_apply, val_main_v29_apply, ref26 q k h i M hM]
  refine (congrArg₂ Ideal.div bits_one (EReal.coe_mul _ _).symm).trans ?_
  exact div_real _ _ (mul_pos hp hp).ne'

theorem ref28' (j : Fin 16384) : val_main_v28 (F := Ideal) (up q) (up k) (ix4 0 h i j) = (share q k h i j : EReal) := by
  have hi : idx_main_v27 (ix4 0 h i j) = ix4 0 h i 0 := funext fun d => by fin_cases d <;> rfl
  have hp := (shifted_pos q k h i M).ne'
  rw [val_main_v28_apply, val_main_v27_apply, hi, ref26 q k h i M hM, hM]
  refine (div_real _ _ hp).trans ?_
  rw [exp_shifted, mul_div_cancel_right₀ _ hp]

end Row

theorem ref28 (h : Fin 8) (i j : Fin 16384) : val_main_v28 (F := Ideal) (up q) (up k) (ix4 0 h i j) = (share q k h i j : EReal) := by
  obtain ⟨M, hM⟩ := ref24 q k h i
  exact ref28' q k h i M hM j

theorem ref33 (h : Fin 8) (i : Fin 16384) (e : Fin 64) : val_main_v33 (F := Ideal) (up q) (up k) (up v) (ix4 0 i h e) = (mean q k v h i e : EReal) := by
  unfold val_main_v33 val_main_v32
  pointwise
  simp only [ref28, ← EReal.coe_mul]
  rw [coe_sum, mean]
  exact congrArg _ (Finset.sum_congr rfl fun j _ => mul_comm _ _)

theorem ref35 (h : Fin 8) (i : Fin 16384) (e : Fin 64) : val_main_v35 (F := Ideal) (up g) (ix4 0 i h e) = (g (ix3 0 i (col h e)) : EReal) := by
  unfold val_main_v35
  pointwise

theorem ref37 (h : Fin 8) (i j : Fin 16384) : val_main_v37 (F := Ideal) (up v) (up g) (ix4 0 h i j) = (pull v g h i j : EReal) := by
  unfold val_main_v37 val_main_v36
  pointwise
  simp only [ref35, ← EReal.coe_mul]
  rw [coe_sum, pull]
  exact congrArg _ (Finset.sum_congr rfl fun e _ => mul_comm _ _)

theorem ref43 (h : Fin 8) (i : Fin 16384) (M : ℝ) (hM : ∀ j, val_main_v24 (F := Ideal) (up q) (up k) (ix4 0 h i j) = (Real.exp (score q k h i j - M) : EReal)) :
    val_main_v43 (F := Ideal) (up q) (up k) (up v) (up g) (ix3 0 h i) = ((slope q k v g h i / shifted q k h i M : ℝ) : EReal) := by
  have hj : ∀ j, val_main_v42 (F := Ideal) (up q) (up k) (up v) (up g) (ix4 0 h i j) = ((share q k h i j * pull v g h i j / shifted q k h i M : ℝ) : EReal) := fun j => by
    have hi : idx_main_v40 (ix4 0 h i j) = ix4 0 h i 0 := funext fun d => by fin_cases d <;> rfl
    have hp := (shifted_pos q k h i M).ne'
    rw [val_main_v42_apply, val_main_v41_apply, val_main_v40_apply, hi, ref31 q k h i M hM, ref37, hM, exp_shifted]
    refine (congrArg₂ _ (EReal.coe_mul _ _).symm rfl).trans ((EReal.coe_mul _ _).symm.trans (congrArg _ ?_))
    field_simp
  unfold val_main_v43 val_main_cst_10
  pointwise
  simp only [hj]
  rw [coe_sum, slope_eq, Finset.sum_div]

/-- A sum over two axes of one entry each. -/
theorem over_units (hr : (⟨4, ![1, 8, 16384, 1]⟩ : Shape).ReducesTo [0, 3] ⟨2, ![8, 16384]⟩) (x : (⟨4, ![1, 8, 16384, 1]⟩ : Shape).Idx → EReal) (h : Fin 8) (i : Fin 16384) :
    Ideal.hostReduceAdd hr x 0 (ix2 h i) = x (ix4 0 h i 0) := by
  refine (zero_add _).trans (Finset.sum_eq_single _ (fun b hb hn => absurd ?_ hn) fun hn => absurd (Finset.mem_filter.2 ⟨Finset.mem_univ _, ?_⟩) hn)
  · have e := (Finset.mem_filter.1 hb).2
    funext a
    apply Fin.ext
    match a with
    | ⟨0, _⟩ => exact Nat.lt_one_iff.1 (b 0).isLt
    | ⟨1, _⟩ => exact congrArg Fin.val (congrFun e 0)
    | ⟨2, _⟩ => exact congrArg Fin.val (congrFun e 1)
    | ⟨3, _⟩ => exact Nat.lt_one_iff.1 (b 3).isLt
  · funext a
    fin_cases a <;> rfl

theorem ref48 (h : Fin 8) (i : Fin 16384) (M : ℝ) (hM : ∀ j, val_main_v24 (F := Ideal) (up q) (up k) (ix4 0 h i j) = (Real.exp (score q k h i j - M) : EReal)) :
    val_main_v48 (F := Ideal) (up q) (up k) (up v) (up g) (ix2 h i) = ((-(slope q k v g h i / shifted q k h i M) : ℝ) : EReal) := by
  have e : val_main_v45 (F := Ideal) (up q) (up k) (up v) (up g) (ix4 0 h i 0) = ((-(slope q k v g h i / shifted q k h i M) : ℝ) : EReal) := by
    unfold val_main_v45 val_main_v44
    pointwise
    rw [ref43 q k v g h i M hM]
    rfl
  unfold val_main_v48 val_main_cst_11
  pointwise
  exact (over_units _ _ h i).trans e

theorem ref54 (h : Fin 8) (i j : Fin 16384) : val_main_v54 (F := Ideal) (up q) (up k) (up v) (up g) (ix4 0 h i j) = ((dscore q k v g h i j * (Real.sqrt 96)⁻¹ : ℝ) : EReal) := by
  obtain ⟨M, hM⟩ := ref24 q k h i
  have hp := (shifted_pos q k h i M).ne'
  have i49 : idx_main_v49 (idx_main_v50 (ix4 0 h i j)) = ix2 h i := funext fun d => by fin_cases d <;> rfl
  have i46 : idx_main_v46 (ix4 0 h i j) = ix4 0 h i 0 := funext fun d => by fin_cases d <;> rfl
  have h47 : val_main_v47 (F := Ideal) (up q) (up k) (up v) (up g) (ix4 0 h i j) = ((pull v g h i j / shifted q k h i M : ℝ) : EReal) := by
    rw [val_main_v47_apply, val_main_v46_apply, i46, ref26 q k h i M hM, ref37]
    exact div_real _ _ hp
  have h53 : val_main_v53 (F := Ideal) (ix4 0 h i j) = ((Real.sqrt 96 : ℝ) : EReal) := by
    unfold val_main_v53 val_main_v1 val_main_cst
    pointwise
    rw [bits_96, Ideal.sqrt_coe, if_neg (by norm_num)]
  rw [val_main_v54_apply, h53, val_main_v52_apply, val_main_v51_apply, h47, val_main_v50_apply, val_main_v49_apply, i49, ref48 q k v g h i M hM, hM, exp_shifted]
  refine (congrArg₂ Ideal.div ((congrArg₂ _ (EReal.coe_add _ _).symm rfl).trans (EReal.coe_mul _ _).symm) rfl).trans ((div_real _ _ (Real.sqrt_pos.2 (by norm_num)).ne').trans (congrArg _ ?_))
  rw [dscore, div_eq_mul_inv]
  field_simp
  ring

theorem ref60 : val_main_v60 (F := Ideal) (up q) (up k) (up v) (up g) = dqOf q k v g := by
  funext y
  obtain ⟨h, d, i, rfl⟩ : ∃ (h : Fin 8) (d : Fin 96) (i : Fin 16384), y = ix3 h d i := ⟨y 0, y 1, y 2, eq_ix3 y⟩
  unfold val_main_v60 val_main_v59 val_main_v58 val_main_v57
  pointwise
  simp only [ref54, ← EReal.coe_mul]
  rw [coe_sum]
  refine congrArg _ ?_
  show _ = sumQueries q k v g h i d * _
  rw [sumQueries, Finset.sum_mul]
  exact Finset.sum_congr rfl fun j _ => by ring

theorem ref62 : val_main_v62 (F := Ideal) (up q) (up k) (up v) (up g) = dkOf q k v g := by
  funext y
  obtain ⟨h, b, d, s, rfl⟩ : ∃ (h : Fin 8) (b : Fin 16) (d : Fin 96) (s : Fin 1024), y = ix4 h b d s := ⟨y 0, y 1, y 2, y 3, eq_ix4 y⟩
  unfold val_main_v62 val_main_v61 val_main_v56 val_main_v55
  pointwise
  simp only [ref54, ← EReal.coe_mul]
  rw [coe_sum]
  refine congrArg _ ?_
  show _ = sumKeys q k v g h (key b s) d * _
  rw [sumKeys, Finset.sum_mul]
  exact Finset.sum_congr rfl fun j _ => by ring

theorem ref64 : val_main_v64 (F := Ideal) (up q) (up k) (up g) = dvOf q k g := by
  funext y
  obtain ⟨h, b, e, s, rfl⟩ : ∃ (h : Fin 8) (b : Fin 16) (e : Fin 64) (s : Fin 1024), y = ix4 h b e s := ⟨y 0, y 1, y 2, y 3, eq_ix4 y⟩
  unfold val_main_v64 val_main_v63 val_main_v39 val_main_v38 val_main_v36
  pointwise
  simp only [ref28, ref35, ← EReal.coe_mul]
  rw [coe_sum]
  rfl

end Cert.Mla.Bwd
end
-- ==== Proof.MlaBwdPair.lean ====
module

public import proofs.«01_k».proof.Proof.MlaBwdVal
public import proofs.«01_k».proof.Proof.MlaBwdEntry
public import proofs.«01_k».proof.Proof.MlaBwdLaunch
public import proofs.«01_k».proof.Proof.MlaBwdRef
public import proofs.«01_k».proof.Proof.MlaBwdBitsLaunch
public import proofs.«01_k».proof.Defs
public import Idealize.ShloMosaic.Lib.Claim

@[expose] public section

set_option maxRecDepth 16384

/-! # The attention's backward call: kernel and reference agree -/

noncomputable section

namespace Cert.Mla.Bwd

open Idealize.ShloMosaic Idealize.ShloMosaic.TcCoe Idealize.SL.Sem Cert.Reals Cert.Mla

section Kernel

open Cert.MlaBwdIdeal Cert.MlaBwdIdeal.Gen Cert.MlaBwdIdeal.Own

variable (m : (ℓ : Loc nD τ sig) → Buf (Elt Ideal) ℓ) (c : Dev nD) (q k : (Tok 96).Idx → ℝ) (v : (Tok 64).Idx → ℝ) (g : Flat.Idx → ℝ)
  (hq : m ((c : Thread nD τ).loc main_arg0) = up q) (hk : m ((c : Thread nD τ).loc main_arg1) = up k) (hv : m ((c : Thread nD τ).loc main_arg2) = up v)
  (hg : m ((c : Thread nD τ).loc main_arg3) = up g)
include hq hk hv hg

omit hq hk hv hg in
theorem number (n : ℕ) (hn : n < 1024) : ∃ t : Fin cfg0.N, t.val = n := ⟨⟨n, lt_of_lt_of_eq hn N_0.symm⟩, rfl⟩

omit hk hv hg in
theorem fed_q (t : Fin cfg0.N) (h : Fin 8) (u : Fin 16384) (d : Fin 96) (r : Fin 2048) (hh : h.val = t.val / 128) (hu : u.val = t.val / 16 % 8 * 2048 + r.val) :
    (handed m c).q t.val (ix3 0 d r) = (q (ix4 0 u h d) : EReal) := by
  rw [b0 m c t]
  exact (in0 m c t d r h u hh hu).trans (congrFun hq _)

omit hq hv hg in
theorem fed_k (t : Fin cfg0.N) (h : Fin 8) (u : Fin 16384) (d : Fin 96) (s : Fin 1024) (hh : h.val = t.val / 128) (hu : u.val = t.val % 16 * 1024 + s.val) :
    (handed m c).k t.val (ix3 0 s d) = (k (ix4 0 u h d) : EReal) := by
  rw [b1 m c t]
  exact (in1 m c t d s h u hh hu).trans (congrFun hk _)

omit hq hv hg in
theorem fed_kt (t : Fin cfg0.N) (h : Fin 8) (u : Fin 16384) (d : Fin 96) (s : Fin 1024) (hh : h.val = t.val / 128) (hu : u.val = t.val % 16 * 1024 + s.val) :
    (handed m c).kt t.val (ix3 0 d s) = (k (ix4 0 u h d) : EReal) := by
  rw [b2 m c t]
  exact (in2 m c t d s h u hh hu).trans (congrFun hk _)

omit hq hk hg in
theorem fed_v (t : Fin cfg0.N) (h : Fin 8) (u : Fin 16384) (e : Fin 64) (s : Fin 1024) (hh : h.val = t.val / 128) (hu : u.val = t.val % 16 * 1024 + s.val) :
    (handed m c).v t.val (ix3 0 s e) = (v (ix4 0 u h e) : EReal) := by
  rw [b3 m c t]
  exact (in3 m c t e s h u hh hu).trans (congrFun hv _)

omit hq hk hv in
theorem fed_d (t : Fin cfg0.N) (h : Fin 8) (u : Fin 16384) (e : Fin 64) (r : Fin 2048) (hh : h.val = t.val / 128) (hu : u.val = t.val / 16 % 8 * 2048 + r.val) :
    (handed m c).d t.val (ix3 0 e r) = (g (ix3 0 u (col h e)) : EReal) := by
  rw [b4 m c t]
  exact (in4 m c t e r h u hh hu).trans (congrFun hg _)

omit hv hg in
theorem fed_l (t : Fin cfg0.N) (h : Fin 8) (u : Fin 16384) (r : Fin 2048) (hh : h.val = t.val / 128) (hu : u.val = t.val / 16 % 8 * 2048 + r.val) :
    (handed m c).l t.val (ix3 0 0 r) = (logSum q k h u : EReal) := by
  rw [b5 m c t]
  refine (in5 m c t r h u hh hu).trans ((congrFun (sums_entry m c) _).trans ?_)
  rw [hq, hk]
  exact congrFun (ref30 q k) _

theorem fed_r (t : Fin cfg0.N) (h : Fin 8) (u : Fin 16384) (r : Fin 2048) (hh : h.val = t.val / 128) (hu : u.val = t.val / 16 % 8 * 2048 + r.val) :
    (handed m c).r t.val (ix3 0 0 r) = (Mla.slope q k v g h u : EReal) := by
  rw [b6 m c t]
  refine (in6 m c t r h u hh hu).trans ((congrFun (slopes_entry m c) _).trans ((rowDots_at _ _ h u).trans ?_))
  rw [hq, hk, hv, hg]
  refine (Finset.sum_congr rfl fun e _ => (congrArg₂ (· * ·) (ref33 q k v h u e) (ref35 g h u e)).trans (EReal.coe_mul _ _).symm).trans ?_
  rw [coe_sum, Mla.slope]

theorem fed : Feeds q k v g (handed m c) where
  at_q n h u d r hn hh hu := by
    obtain ⟨t, rfl⟩ := number n hn
    exact fed_q m c q hq t h u d r hh hu
  at_k n h u d s hn hh hu := by
    obtain ⟨t, rfl⟩ := number n hn
    exact fed_k m c k hk t h u d s hh hu
  at_kt n h u d s hn hh hu := by
    obtain ⟨t, rfl⟩ := number n hn
    exact fed_kt m c k hk t h u d s hh hu
  at_v n h u e s hn hh hu := by
    obtain ⟨t, rfl⟩ := number n hn
    exact fed_v m c v hv t h u e s hh hu
  at_d n h u e r hn hh hu := by
    obtain ⟨t, rfl⟩ := number n hn
    exact fed_d m c g hg t h u e r hh hu
  at_l n h u r hn hh hu := by
    obtain ⟨t, rfl⟩ := number n hn
    exact fed_l m c q k hq hk t h u r hh hu
  at_r n h u r hn hh hu := by
    obtain ⟨t, rfl⟩ := number n hn
    exact fed_r m c q k v g hq hk hv hg t h u r hh hu

theorem queries : (dats m 0 c).arrAt 7 cfg0.N = dqOf q k v g := by
  refine (dats m 0 c).arrAt_eq_of_covers 7 _ (by decide +kernel) fun t hf y => ?_
  have h1 := (flush0_7 t).1 hf
  have hN : t.val < 1024 := lt_of_lt_of_eq t.isLt N_0
  blk_simp
  rw [left7]
  obtain ⟨a, d, r, rfl⟩ : ∃ (a : Fin 1) (d : Fin 96) (r : Fin 2048), y = ix3 a d r := ⟨y 0, y 1, y 2, eq_ix3 y⟩
  obtain rfl : a = 0 := Subsingleton.elim _ _
  have hu : t.val / 16 % 8 * 2048 + r.val < 16384 := by have := r.isLt; omega
  refine (pay11_at _ d r).trans ?_
  rw [sumQ_at q k v g _ (fed m c q k v g hq hk hv hg) t.val hN h1 d r ⟨t.val / 128, by omega⟩ ⟨_, hu⟩ rfl rfl, ← EReal.coe_mul]
  show dqOf q k v g (ix3 ⟨t.val / 128, by omega⟩ d ⟨t.val / 16 % 8 * 2048 + r.val, hu⟩) = _
  blk_ext [(idx7 t)]

theorem keys : grownK m c = dkOf q k v g := by
  funext y
  obtain ⟨h, b, d, s, rfl⟩ : ∃ (h : Fin 8) (b : Fin 16) (d : Fin 96) (s : Fin 1024), y = ix4 h b d s := ⟨y 0, y 1, y 2, y 3, eq_ix4 y⟩
  exact sumK_at q k v g _ (fed m c q k v g hq hk hv hg) h b d s

theorem values : grownV m c = dvOf q k g := by
  funext y
  obtain ⟨h, b, d, s, rfl⟩ : ∃ (h : Fin 8) (b : Fin 16) (d : Fin 64) (s : Fin 1024), y = ix4 h b d s := ⟨y 0, y 1, y 2, y 3, eq_ix4 y⟩
  exact sumV_at q k v g _ (fed m c q k v g hq hk hv hg) h b d s

omit hq hk hv hg in
theorem filled1 : Y m c main_v51_1 = grownK m c := by
  unfold Y
  rw [Function.update_of_ne (show main_v51_1 ≠ main_v51_2 by decide), Function.update_self]
  exact (Memref.isWhole_whole main_v51_1).read_unread (grownK m c)

omit hq hk hv hg in
theorem filled2 : Y m c main_v51_2 = grownV m c := by
  unfold Y
  rw [Function.update_self]
  exact (Memref.isWhole_whole main_v51_2).read_unread (grownV m c)

omit hq hk hv hg in
theorem kept (r : PUnit × MemSt nD τ sig (Elt Ideal)) (h : Pipeline.RoutedPost cfgs (dats m) 0 left (V m) (Y m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(untouched m c r h main_arg0 (Finset.mem_sdiff.mpr ⟨Pipeline.mem_restRefs_of main_arg0 (by decide) (by decide), by decide⟩)).trans (V_main_arg0 m c),
    (untouched m c r h main_arg1 (Finset.mem_sdiff.mpr ⟨Pipeline.mem_restRefs_of main_arg1 (by decide) (by decide), by decide⟩)).trans (V_main_arg1 m c),
    (untouched m c r h main_arg2 (Finset.mem_sdiff.mpr ⟨Pipeline.mem_restRefs_of main_arg2 (by decide) (by decide), by decide⟩)).trans (V_main_arg2 m c),
    (untouched m c r h main_arg3 (Finset.mem_sdiff.mpr ⟨Pipeline.mem_restRefs_of main_arg3 (by decide) (by decide), by decide⟩)).trans (V_main_arg3 m c)⟩

end Kernel

theorem frame_k : Cert.quiescent_MlaBwd := fun m ρ _ => Cert.MlaBwd.Own.frame m ρ
theorem frame_i : Cert.quiescent_MlaBwdIdeal := fun m ρ _ => Cert.MlaBwdIdeal.Own.frame m ρ
theorem frame_ip [Cert.Pre_finite_attention_bwd.Facts] : Cert.quiescent_MlaBwdIdeal_pre_finite_attention_bwd := fun m ρ _ => Cert.MlaBwdIdeal.Own.frame m ρ
theorem frame_r : Cert.quiescent_MlaBwdRefIdeal := fun m ρ _ =>
  θ_run_mono (Cert.MlaBwdRefIdeal.Value.run (F := Ideal) m ρ) fun r h => ⟨fun c => (h c).2.2.2, sem_eq_zero_of_no_sems (by decide) r.2⟩
theorem frame_rp [Cert.Pre_finite_attention_bwd.Facts] : Cert.quiescent_MlaBwdRefIdeal_pre_finite_attention_bwd := fun m ρ _ => frame_r m ρ trivial

theorem preserves : Cert.preserves_MlaBwd_MlaBwdIdeal :=
  ⟨IdealRules.named_const.statement Cert.MlaBwdIdeal.κ "scale_log2e" .f32 0x3E16C740#32 (((Real.sqrt 96)⁻¹ * (Real.log 2)⁻¹ : ℝ) : EReal) rfl,
    IdealRules.named_const.statement Cert.MlaBwdIdeal.κ "scale" .f32 0x3DD105EC#32 (((Real.sqrt 96)⁻¹ : ℝ) : EReal) rfl⟩

theorem algebraic [Cert.Pre_finite_attention_bwd.Facts] : Cert.algebraic_MlaBwdIdeal_MlaBwdRefIdeal_pre_finite_attention_bwd := by
  intro m g m' g' hpre hagree
  have hr := fun c => entries_real_bwd _ _ _ _ (hpre c)
  choose q hq using fun c => (hr c).1
  choose k hk using fun c => (hr c).2.1
  choose v hv using fun c => (hr c).2.2.1
  choose w hw using fun c => (hr c).2.2.2
  refine ⟨fun c => dqOf (q c) (k c) (v c) (w c), fun c => dkOf (q c) (k c) (v c) (w c), fun c => dvOf (q c) (k c) (w c), ?_, ?_⟩
  · exact θ_run_mono (Cert.MlaBwdIdeal.Own.whole_run m g) fun r h c =>
      ⟨((h.1 c).1 7).trans (queries m c _ _ _ _ (hq c) (hk c) (hv c) (hw c)),
        ((h.1 c).2.1 _ (by decide)).trans ((filled1 m c).trans (keys m c _ _ _ _ (hq c) (hk c) (hv c) (hw c))),
        ((h.1 c).2.1 _ (by decide)).trans ((filled2 m c).trans (values m c _ _ (v c) _ (hq c) (hk c) (hv c) (hw c))), kept m c r h.1⟩
  · refine θ_run_mono (Cert.MlaBwdRefIdeal.Value.run (F := Ideal) m' g') fun r h c => ?_
    obtain ⟨a0, a1, a2, a3⟩ := hagree c
    refine ⟨(h c).1.trans ((Cert.MlaBwdRefIdeal.Read.val_main_v60_eq _ _).trans ?_), (h c).2.1.trans ((Cert.MlaBwdRefIdeal.Read.val_main_v62_eq _ _).trans ?_),
      (h c).2.2.1.trans ((Cert.MlaBwdRefIdeal.Read.val_main_v64_eq _ _ _).trans ?_), (h c).2.2.2⟩
    · rw [a0, a1, a2, a3]
      erw [hq c, hk c, hv c, hw c]
      exact ref60 _ _ _ _
    · rw [a0, a1, a2, a3]
      erw [hq c, hk c, hv c, hw c]
      exact ref62 _ _ _ _
    · rw [a0, a1, a3]
      erw [hq c, hk c, hw c]
      exact ref64 _ _ _

end Cert.Mla.Bwd
end
-- ==== Proof.Merge.lean ====
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The gated sum's backward call -/

noncomputable section

namespace Cert.Gates

open Idealize.ShloMosaic Idealize.ShloMosaic.TcCoe Idealize.SL.Sem

/-- The gate's logistic, as both programs spell it. -/
def gate (x : EReal) : EReal := Ideal.div 1 (1 + Ideal.exp (-x))

/-- The gated sum's cotangent. -/
def dSum (ct : Vec Ideal ⟨3, ![1, 16384, 1024]⟩ .f32) (wo : Vec Ideal ⟨2, ![1024, 1024]⟩ .f32) (u : Fin 16384) (j : Fin 1024) : EReal :=
  ∑ k : Fin 1024, ct (ix3 0 u k) * wo (ix2 j k)

/-- One branch's product. -/
def branch (y : Vec Ideal ⟨3, ![1, 16384, 512]⟩ .f32) (w : Vec Ideal ⟨2, ![512, 1024]⟩ .f32) (u : Fin 16384) (j : Fin 1024) : EReal :=
  ∑ k : Fin 512, y (ix3 0 u k) * w (ix2 k j)

/-- A gate's gradient. -/
def dGate (y : Vec Ideal ⟨3, ![1, 16384, 512]⟩ .f32) (g : Vec Ideal ⟨3, ![1, 16384, 1024]⟩ .f32) (w : Vec Ideal ⟨2, ![512, 1024]⟩ .f32)
    (wo : Vec Ideal ⟨2, ![1024, 1024]⟩ .f32) (ct : Vec Ideal ⟨3, ![1, 16384, 1024]⟩ .f32) : Vec Ideal ⟨2, ![16384, 1024]⟩ .f32 := fun i =>
  dSum ct wo (i 0) (i 1) * branch y w (i 0) (i 1) * (gate (g (ix3 0 (i 0) (i 1))) * (1 - gate (g (ix3 0 (i 0) (i 1)))))

/-- A branch's gradient. -/
def dBranch (g : Vec Ideal ⟨3, ![1, 16384, 1024]⟩ .f32) (wo : Vec Ideal ⟨2, ![1024, 1024]⟩ .f32) (ct : Vec Ideal ⟨3, ![1, 16384, 1024]⟩ .f32) :
    Vec Ideal ⟨2, ![16384, 1024]⟩ .bf16 := fun i =>
  dSum ct wo (i 0) (i 1) * gate (g (ix3 0 (i 0) (i 1)))

section Kernel

open Cert.MergeIdeal Cert.MergeIdeal.Gen

variable (m : (ℓ : Loc nD τ sig) → Buf (Elt Ideal) ℓ) (c : Dev nD) (t : Fin cfg0.N)

theorem rows : ∀ t : Fin grid0.N, win0_0.index t = ![t.val, 0] ∧ win0_1.index t = ![0, t.val] ∧ win0_2.index t = ![t.val, 0] ∧ win0_3.index t = ![t.val, 0]
    ∧ win0_4.index t = ![t.val, 0] ∧ win0_5.index t = ![t.val, 0] ∧ win0_6.index t = ![t.val, 0] := by decide +kernel
theorem whole : ∀ t : Fin grid0.N, win0_7.index t = ![0, 0] ∧ win0_8.index t = ![0, 0] ∧ win0_9.index t = ![0, 0] ∧ win0_10.index t = ![0, 0] := by decide +kernel
theorem outs : ∀ t : Fin grid0.N, win0_11.index t = ![t.val, 0] ∧ win0_12.index t = ![t.val, 0] ∧ win0_13.index t = ![t.val, 0] ∧ win0_14.index t = ![t.val, 0]
    ∧ win0_15.index t = ![t.val, 0] ∧ win0_16.index t = ![t.val, 0] := by decide +kernel

abbrev arg (r : Ref sig .tc) := m ((c : Thread nD τ).loc r)

theorem in0 (r : Fin 512) (k : Fin 1024) (u : Fin 16384) (hu : u.val = t.val * 512 + r.val) :
    iblk m c 0 t (ix2 r k) = m ((c : Thread nD τ).loc main_arg10) (ix3 0 u k) := by
  blk_simp [iblk]; entry_read; pointwise; blk_ext [iblk, (rows t).1]

theorem in1 (r k : Fin 512) (u : Fin 16384) (hu : u.val = t.val * 512 + r.val) :
    iblk m c 1 t (ix2 k r) = m ((c : Thread nD τ).loc main_arg0) (ix3 0 u k) := by
  blk_simp [iblk]; entry_read; pointwise; blk_ext [iblk, (rows t).2.1]

theorem in2 (r k : Fin 512) (u : Fin 16384) (hu : u.val = t.val * 512 + r.val) :
    iblk m c 2 t (ix2 r k) = m ((c : Thread nD τ).loc main_arg1) (ix3 0 u k) := by
  blk_simp [iblk]; entry_read; pointwise; blk_ext [iblk, (rows t).2.2.1]

theorem in3 (r k : Fin 512) (u : Fin 16384) (hu : u.val = t.val * 512 + r.val) :
    iblk m c 3 t (ix2 r k) = m ((c : Thread nD τ).loc main_arg2) (ix3 0 u k) := by
  blk_simp [iblk]; entry_read; pointwise; blk_ext [iblk, (rows t).2.2.2.1]

theorem in4 (r : Fin 512) (k : Fin 1024) (u : Fin 16384) (hu : u.val = t.val * 512 + r.val) :
    iblk m c 4 t (ix2 r k) = m ((c : Thread nD τ).loc main_arg3) (ix3 0 u k) := by
  blk_simp [iblk]; entry_read; pointwise; blk_ext [iblk, (rows t).2.2.2.2.1]

theorem in5 (r : Fin 512) (k : Fin 1024) (u : Fin 16384) (hu : u.val = t.val * 512 + r.val) :
    iblk m c 5 t (ix2 r k) = m ((c : Thread nD τ).loc main_arg4) (ix3 0 u k) := by
  blk_simp [iblk]; entry_read; pointwise; blk_ext [iblk, (rows t).2.2.2.2.2.1]

theorem in6 (r : Fin 512) (k : Fin 1024) (u : Fin 16384) (hu : u.val = t.val * 512 + r.val) :
    iblk m c 6 t (ix2 r k) = m ((c : Thread nD τ).loc main_arg5) (ix3 0 u k) := by
  blk_simp [iblk]; entry_read; pointwise; blk_ext [iblk, (rows t).2.2.2.2.2.2]

theorem in7 (k : Fin 512) (j : Fin 1024) : iblk m c 7 t (ix2 k j) = m ((c : Thread nD τ).loc main_arg6) (ix2 k j) := by
  blk_simp [iblk]; entry_read; pointwise; blk_ext [iblk, (whole t).1]

theorem in8 (k : Fin 512) (j : Fin 1024) : iblk m c 8 t (ix2 k j) = m ((c : Thread nD τ).loc main_arg7) (ix2 k j) := by
  blk_simp [iblk]; entry_read; pointwise; blk_ext [iblk, (whole t).2.1]

theorem in9 (k : Fin 512) (j : Fin 1024) : iblk m c 9 t (ix2 k j) = m ((c : Thread nD τ).loc main_arg8) (ix2 k j) := by
  blk_simp [iblk]; entry_read; pointwise; blk_ext [iblk, (whole t).2.2.1]

theorem in10 (k j : Fin 1024) : iblk m c 10 t (ix2 k j) = m ((c : Thread nD τ).loc main_arg9) (ix2 k j) := by
  blk_simp [iblk]; entry_read; pointwise; blk_ext [iblk, (whole t).2.2.2]

theorem gate_a (x : Vec Ideal S512x1024 .f32) (i : S512x1024.Idx) : k0_pay6 x i = gate (x i) := by
  unfold k0_pay6 gate
  pointwise
  rw [zero_sub]

theorem gate_b (x : Vec Ideal S512x1024 .f32) (i : S512x1024.Idx) : k0_pay11 x i = gate (x i) := by
  unfold k0_pay11 gate
  pointwise
  rw [zero_sub]

theorem gate_c (x : Vec Ideal S512x1024 .f32) (i : S512x1024.Idx) : k0_pay14 x i = gate (x i) := by
  unfold k0_pay14 gate
  pointwise
  rw [zero_sub]

theorem sum_k (r : Fin 512) (j : Fin 1024) (u : Fin 16384) (hu : u.val = t.val * 512 + r.val) :
    k0_pay3 (iblk m c 0 t) (iblk m c 10 t) (ix2 r j) = dSum (arg m c main_arg10) (arg m c main_arg9) u j := by
  unfold k0_pay3 dSum
  pointwise
  exact Finset.sum_congr rfl fun k _ => congrArg₂ (· * ·) (in0 m c t r k u hu) (in10 m c t j k)

theorem branch_a (r : Fin 512) (j : Fin 1024) (u : Fin 16384) (hu : u.val = t.val * 512 + r.val) :
    k0_pay7 (iblk m c 0 t) (iblk m c 10 t) (iblk m c 1 t) (iblk m c 7 t) (ix2 r j)
      = dSum (arg m c main_arg10) (arg m c main_arg9) u j * branch (arg m c main_arg0) (arg m c main_arg6) u j := by
  rw [← sum_k m c t r j u hu]
  unfold k0_pay7 branch
  pointwise
  exact congrArg _ (Finset.sum_congr rfl fun k _ => congrArg₂ (· * ·) (in1 m c t r k u hu) (in7 m c t k j))

theorem branch_b (r : Fin 512) (j : Fin 1024) (u : Fin 16384) (hu : u.val = t.val * 512 + r.val) :
    k0_pay4 (iblk m c 2 t) (iblk m c 8 t) (ix2 r j) = branch (arg m c main_arg1) (arg m c main_arg7) u j := by
  unfold k0_pay4 branch
  pointwise
  exact Finset.sum_congr rfl fun k _ => congrArg₂ (· * ·) (in2 m c t r k u hu) (in8 m c t k j)

theorem branch_c (r : Fin 512) (j : Fin 1024) (u : Fin 16384) (hu : u.val = t.val * 512 + r.val) :
    k0_pay5 (iblk m c 3 t) (iblk m c 9 t) (ix2 r j) = branch (arg m c main_arg2) (arg m c main_arg8) u j := by
  unfold k0_pay5 branch
  pointwise
  exact Finset.sum_congr rfl fun k _ => congrArg₂ (· * ·) (in3 m c t r k u hu) (in9 m c t k j)

theorem stored {e : EltTy} (p : Vec Ideal S512x1024 e) : View.canon [⟨r0_0, p⟩] = p := View.canon_cons_unit_lit' _ _ _ (by decide)
theorem loaded {e : EltTy} (x : Vec Ideal S512x1024 e) : View.ld x r0_0 = x := View.ld_unit_lit' _ _ (by decide)
theorem loaded_wo {e : EltTy} (x : Vec Ideal S1024x1024 e) : View.ld x r0_1 = x := View.ld_unit_lit' _ _ (by decide)
theorem loaded_y {e : EltTy} (x : Vec Ideal S512x512 e) : View.ld x r0_2 = x := View.ld_unit_lit' _ _ (by decide)

theorem arr11 : (dats m 0 c).arrAt 11 cfg0.N = dGate (arg m c main_arg0) (arg m c main_arg3) (arg m c main_arg6) (arg m c main_arg9) (arg m c main_arg10) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 y⟩
  have hN : t.val < 32 := t.isLt
  trans dGate (arg m c main_arg0) (arg m c main_arg3) (arg m c main_arg6) (arg m c main_arg9) (arg m c main_arg10) (ix2 ⟨t.val * 512 + r.val, by omega⟩ j)
  · unfold_out out0_11
    rw [stored]; simp only [loaded, loaded_wo, loaded_y]
    unfold k0_pay9 k0_pay8 dGate
    pointwise
    rw [gate_a, branch_a m c t r j ⟨t.val * 512 + r.val, by omega⟩ rfl, in4 m c t r j ⟨t.val * 512 + r.val, by omega⟩ rfl]
  · blk_ext [(outs t).1]

theorem arr12 : (dats m 0 c).arrAt 12 cfg0.N = dGate (arg m c main_arg1) (arg m c main_arg4) (arg m c main_arg7) (arg m c main_arg9) (arg m c main_arg10) := by
  refine (dats m 0 c).arrAt_eq_of_covers 12 _ (by decide +kernel) fun t hf y => ?_
  blk_simp
  rw [after0_12]
  obtain ⟨r, j, rfl⟩ : ∃ (r : Fin 512) (j : Fin 1024), y = ix2 r j := ⟨y 0, y 1, eq_ix2 y⟩
  have hN : t.val < 32 := t.isLt
  trans dGate (arg m c main_arg1) (arg m c main_arg4) (arg m c main_arg7) (arg m c main_arg9) (arg m c main_arg10) (ix2 ⟨t.val * 512 + r.val, by omega⟩ j)
  · unfold_out out0_12
    rw [stored]; simp only [loaded, loaded_wo, loaded_y]
    unfold k0_pay12 dGate
    pointwise
    rw [gate_b, branch_b m c t r j ⟨t.val * 512 + r.val, by omega⟩ rfl, in5 m c t r j ⟨t.val * 512 + r.val, by omega⟩ rfl, sum_k m c t r j ⟨t.val * 512 + r.val, by omega⟩ rfl]
  · blk_ext [(outs t).2.1]

theorem arr13 : (dats m 0 c).arrAt 13 cfg0.N = dGate (arg m c main_arg2) (arg m c main_arg5) (arg m c main_arg8) (arg m c main_arg9) (arg m c main_arg10) := by
  refine (dats m 0 c).arrAt_eq_of_covers 13 _ (by decide +kernel) fun t hf y => ?_
  blk_simp
  rw [after0_13]
  obtain ⟨r, j, rfl⟩ : ∃ (r : Fin 512) (j : Fin 1024), y = ix2 r j := ⟨y 0, y 1, eq_ix2 y⟩
  have hN : t.val < 32 := t.isLt
  trans dGate (arg m c main_arg2) (arg m c main_arg5) (arg m c main_arg8) (arg m c main_arg9) (arg m c main_arg10) (ix2 ⟨t.val * 512 + r.val, by omega⟩ j)
  · unfold_out out0_13
    rw [stored]; simp only [loaded, loaded_wo, loaded_y]
    unfold k0_pay1 k0_pay15 k0_pay16 dGate
    pointwise
    rw [gate_c, branch_c m c t r j ⟨t.val * 512 + r.val, by omega⟩ rfl, in6 m c t r j ⟨t.val * 512 + r.val, by omega⟩ rfl, sum_k m c t r j ⟨t.val * 512 + r.val, by omega⟩ rfl]
  · blk_ext [(outs t).2.2.1]

theorem arr14 : (dats m 0 c).arrAt 14 cfg0.N = dBranch (arg m c main_arg3) (arg m c main_arg9) (arg m c main_arg10) := by
  refine (dats m 0 c).arrAt_eq_of_covers 14 _ (by decide +kernel) fun t hf y => ?_
  blk_simp
  rw [after0_14]
  obtain ⟨r, j, rfl⟩ : ∃ (r : Fin 512) (j : Fin 1024), y = ix2 r j := ⟨y 0, y 1, eq_ix2 y⟩
  have hN : t.val < 32 := t.isLt
  trans dBranch (arg m c main_arg3) (arg m c main_arg9) (arg m c main_arg10) (ix2 ⟨t.val * 512 + r.val, by omega⟩ j)
  · unfold_out out0_14
    rw [stored]; simp only [loaded, loaded_wo, loaded_y]
    unfold k0_pay10 dBranch
    pointwise
    rw [gate_a, sum_k m c t r j ⟨t.val * 512 + r.val, by omega⟩ rfl, in4 m c t r j ⟨t.val * 512 + r.val, by omega⟩ rfl]
  · blk_ext [(outs t).2.2.2.1]

theorem arr15 : (dats m 0 c).arrAt 15 cfg0.N = dBranch (arg m c main_arg4) (arg m c main_arg9) (arg m c main_arg10) := by
  refine (dats m 0 c).arrAt_eq_of_covers 15 _ (by decide +kernel) fun t hf y => ?_
  blk_simp
  rw [after0_15]
  obtain ⟨r, j, rfl⟩ : ∃ (r : Fin 512) (j : Fin 1024), y = ix2 r j := ⟨y 0, y 1, eq_ix2 y⟩
  have hN : t.val < 32 := t.isLt
  trans dBranch (arg m c main_arg4) (arg m c main_arg9) (arg m c main_arg10) (ix2 ⟨t.val * 512 + r.val, by omega⟩ j)
  · unfold_out out0_15
    rw [stored]; simp only [loaded, loaded_wo, loaded_y]
    unfold k0_pay13 dBranch
    pointwise
    rw [gate_b, sum_k m c t r j ⟨t.val * 512 + r.val, by omega⟩ rfl, in5 m c t r j ⟨t.val * 512 + r.val, by omega⟩ rfl]
  · blk_ext [(outs t).2.2.2.2.1]

theorem arr16 : (dats m 0 c).arrAt 16 cfg0.N = dBranch (arg m c main_arg5) (arg m c main_arg9) (arg m c main_arg10) := by
  refine (dats m 0 c).arrAt_eq_of_covers 16 _ (by decide +kernel) fun t hf y => ?_
  blk_simp
  rw [after0_16]
  obtain ⟨r, j, rfl⟩ : ∃ (r : Fin 512) (j : Fin 1024), y = ix2 r j := ⟨y 0, y 1, eq_ix2 y⟩
  have hN : t.val < 32 := t.isLt
  trans dBranch (arg m c main_arg5) (arg m c main_arg9) (arg m c main_arg10) (ix2 ⟨t.val * 512 + r.val, by omega⟩ j)
  · unfold_out out0_16
    rw [stored]; simp only [loaded, loaded_wo, loaded_y]
    unfold k0_pay2 dBranch
    pointwise
    rw [gate_c, sum_k m c t r j ⟨t.val * 512 + r.val, by omega⟩ rfl, in6 m c t r j ⟨t.val * 512 + r.val, by omega⟩ rfl]
  · blk_ext [(outs t).2.2.2.2.2]

end Kernel

section Reference

open Cert.MergeRefIdeal Cert.MergeRefIdeal.Gen Cert.MergeRefIdeal.Read

variable (y : (⟨S1x16384x512, .f32⟩ : BufTy).Contents (Elt Ideal)) (g ct : (⟨S1x16384x1024, .f32⟩ : BufTy).Contents (Elt Ideal))
variable (w : (⟨S512x1024, .f32⟩ : BufTy).Contents (Elt Ideal)) (wo : (⟨S1024x1024, .f32⟩ : BufTy).Contents (Elt Ideal))

theorem ref_sum (u : Fin 16384) (j : Fin 1024) : val_main_v36 wo ct (ix3 0 u j) = dSum ct wo u j := by
  unfold val_main_v36 dSum
  pointwise

theorem ref_gate0 (i : S1x16384x1024.Idx) : val_main_v8 g i = gate (g i) := by
  unfold val_main_v8 val_main_v7 val_main_v6 val_main_v5 val_main_v4 val_main_v3 val_main_cst val_main_cst_0 gate
  pointwise

theorem ref_slope0 (i : S1x16384x1024.Idx) : val_main_v11 g i = gate (g i) * (1 - gate (g i)) := by
  rw [← ref_gate0]
  unfold val_main_v11 val_main_v10 val_main_v9 val_main_cst_1
  pointwise

theorem ref_gate1 (i : S1x16384x1024.Idx) : val_main_v18 g i = gate (g i) := by
  unfold val_main_v18 val_main_v17 val_main_v16 val_main_v15 val_main_v14 val_main_v13 val_main_cst_2 val_main_cst_3 gate
  pointwise

theorem ref_slope1 (i : S1x16384x1024.Idx) : val_main_v21 g i = gate (g i) * (1 - gate (g i)) := by
  rw [← ref_gate1]
  unfold val_main_v21 val_main_v20 val_main_v19 val_main_cst_4
  pointwise

theorem ref_gate2 (i : S1x16384x1024.Idx) : val_main_v29 g i = gate (g i) := by
  unfold val_main_v29 val_main_v28 val_main_v27 val_main_v26 val_main_v25 val_main_v24 val_main_cst_5 val_main_cst_6 gate
  pointwise

theorem ref_slope2 (i : S1x16384x1024.Idx) : val_main_v32 g i = gate (g i) * (1 - gate (g i)) := by
  rw [← ref_gate2]
  unfold val_main_v32 val_main_v31 val_main_v30 val_main_cst_7
  pointwise

theorem ref46 : val_main_v46 y g w wo ct = dGate y g w wo ct := by
  funext i
  obtain ⟨u, j, rfl⟩ : ∃ (u : Fin 16384) (j : Fin 1024), i = ix2 u j := ⟨i 0, i 1, eq_ix2 i⟩
  unfold val_main_v46 val_main_v45 val_main_v44 val_main_v0 dGate branch
  pointwise
  rw [ref_sum, ref_slope0]

theorem ref47 : val_main_v47 y g w wo ct = dGate y g w wo ct := by
  funext i
  obtain ⟨u, j, rfl⟩ : ∃ (u : Fin 16384) (j : Fin 1024), i = ix2 u j := ⟨i 0, i 1, eq_ix2 i⟩
  unfold val_main_v47 val_main_v42 val_main_v41 val_main_v1 dGate branch
  pointwise
  rw [ref_sum, ref_slope1]

theorem ref48 : val_main_v48 y g w wo ct = dGate y g w wo ct := by
  funext i
  obtain ⟨u, j, rfl⟩ : ∃ (u : Fin 16384) (j : Fin 1024), i = ix2 u j := ⟨i 0, i 1, eq_ix2 i⟩
  unfold val_main_v48 val_main_v39 val_main_v38 val_main_v2 dGate branch
  pointwise
  rw [ref_sum, ref_slope2]

theorem ref50 : val_main_v50 g wo ct = dBranch g wo ct := by
  funext i
  obtain ⟨u, j, rfl⟩ : ∃ (u : Fin 16384) (j : Fin 1024), i = ix2 u j := ⟨i 0, i 1, eq_ix2 i⟩
  unfold val_main_v50 val_main_v49 val_main_v43 dBranch
  pointwise
  rw [ref_sum, ref_gate0, mul_comm]

theorem ref52 : val_main_v52 g wo ct = dBranch g wo ct := by
  funext i
  obtain ⟨u, j, rfl⟩ : ∃ (u : Fin 16384) (j : Fin 1024), i = ix2 u j := ⟨i 0, i 1, eq_ix2 i⟩
  unfold val_main_v52 val_main_v51 val_main_v40 dBranch
  pointwise
  rw [ref_sum, ref_gate1, mul_comm]

theorem ref54 : val_main_v54 g wo ct = dBranch g wo ct := by
  funext i
  obtain ⟨u, j, rfl⟩ : ∃ (u : Fin 16384) (j : Fin 1024), i = ix2 u j := ⟨i 0, i 1, eq_ix2 i⟩
  unfold val_main_v54 val_main_v53 val_main_v37 dBranch
  pointwise
  rw [ref_sum, ref_gate2, mul_comm]

end Reference

theorem frame_k : Cert.quiescent_Merge := fun m ρ _ => Cert.Merge.Gen.frame m ρ
theorem frame_i : Cert.quiescent_MergeIdeal := fun m ρ _ => Cert.MergeIdeal.Gen.frame m ρ
theorem frame_r : Cert.quiescent_MergeRefIdeal := fun m ρ _ =>
  θ_run_mono (Cert.MergeRefIdeal.Value.run (F := Ideal) m ρ) fun r h => ⟨fun c => (h c).2.2.2.2.2.2, sem_eq_zero_of_no_sems (by decide) r.2⟩

theorem algebraic : Cert.algebraic_MergeIdeal_MergeRefIdeal := by
  intro m g m' g' _ hagree
  refine ⟨fun c => dGate (arg m c Cert.MergeIdeal.main_arg0) (arg m c Cert.MergeIdeal.main_arg3) (arg m c Cert.MergeIdeal.main_arg6) (arg m c Cert.MergeIdeal.main_arg9) (arg m c Cert.MergeIdeal.main_arg10),
    fun c => dGate (arg m c Cert.MergeIdeal.main_arg1) (arg m c Cert.MergeIdeal.main_arg4) (arg m c Cert.MergeIdeal.main_arg7) (arg m c Cert.MergeIdeal.main_arg9) (arg m c Cert.MergeIdeal.main_arg10),
    fun c => dGate (arg m c Cert.MergeIdeal.main_arg2) (arg m c Cert.MergeIdeal.main_arg5) (arg m c Cert.MergeIdeal.main_arg8) (arg m c Cert.MergeIdeal.main_arg9) (arg m c Cert.MergeIdeal.main_arg10),
    fun c => dBranch (arg m c Cert.MergeIdeal.main_arg3) (arg m c Cert.MergeIdeal.main_arg9) (arg m c Cert.MergeIdeal.main_arg10),
    fun c => dBranch (arg m c Cert.MergeIdeal.main_arg4) (arg m c Cert.MergeIdeal.main_arg9) (arg m c Cert.MergeIdeal.main_arg10),
    fun c => dBranch (arg m c Cert.MergeIdeal.main_arg5) (arg m c Cert.MergeIdeal.main_arg9) (arg m c Cert.MergeIdeal.main_arg10), ?_, ?_⟩
  · refine θ_run_mono (Cert.MergeIdeal.Value.run_blocks m g) fun r h c => ?_
    obtain ⟨h0, h1, h2, h3, h4, h5, hs⟩ := h c
    exact ⟨h0.trans (arr11 m c), h1.trans (arr12 m c), h2.trans (arr13 m c), h3.trans (arr14 m c), h4.trans (arr15 m c), h5.trans (arr16 m c), hs⟩
  · refine θ_run_mono (Cert.MergeRefIdeal.Value.run (F := Ideal) m' g') fun r h c => ?_
    obtain ⟨a0, a1, a2, a3, a4, a5, a6, a7, a8, a9, a10⟩ := hagree c
    obtain ⟨h0, h1, h2, h3, h4, h5, hs⟩ := h c
    refine ⟨h0.trans ((Cert.MergeRefIdeal.Read.val_main_v46_eq _ _ _ _ _).trans ((ref46 _ _ _ _ _).trans ?_)),
      h1.trans ((Cert.MergeRefIdeal.Read.val_main_v47_eq _ _ _ _ _).trans ((ref47 _ _ _ _ _).trans ?_)),
      h2.trans ((Cert.MergeRefIdeal.Read.val_main_v48_eq _ _ _ _ _).trans ((ref48 _ _ _ _ _).trans ?_)),
      h3.trans ((Cert.MergeRefIdeal.Read.val_main_v50_eq _ _ _).trans ((ref50 _ _ _).trans ?_)),
      h4.trans ((Cert.MergeRefIdeal.Read.val_main_v52_eq _ _ _).trans ((ref52 _ _ _).trans ?_)),
      h5.trans ((Cert.MergeRefIdeal.Read.val_main_v54_eq _ _ _).trans ((ref54 _ _ _).trans ?_)), hs⟩
    · rw [a0, a3, a6, a9, a10]
    · rw [a1, a4, a7, a9, a10]
    · rw [a2, a5, a8, a9, a10]
    · rw [a3, a9, a10]
    · rw [a4, a9, a10]
    · rw [a5, a9, a10]

end Cert.Gates
-- ==== Proof.RowNorm.lean ====
module

public import proofs.«01_k».proof.Proof.Reals

@[expose] public section

/-! # The gradient of a row divided by its root mean square -/

noncomputable section

namespace Cert.RowNorm

open Idealize.ShloMosaic Cert.Reals

variable {n : ℕ} (e : ℝ) (x d : Fin n → ℝ)

def meanSq : ℝ := (∑ k, x k * x k) / n + e
def scale : ℝ := (√(meanSq e x))⁻¹

/-- The gradient in `x` of `x * scale`, against `d`. -/
def dRow (j : Fin n) : ℝ := scale e x * (d j - x j * scale e x * ((∑ k, d k * (x k * scale e x)) / n))

theorem meanSq_pos (he : 0 < e) : 0 < meanSq e x :=
  add_pos_of_nonneg_of_pos (div_nonneg (Finset.sum_nonneg fun k _ => mul_self_nonneg _) (Nat.cast_nonneg _)) he

theorem mean_real (hn : n ≠ 0) : Ideal.div (∑ k, (x k : EReal) * (x k : EReal)) ((n : ℝ) : EReal) + (e : EReal) = (meanSq e x : EReal) := by
  simp only [← EReal.coe_mul]
  rw [coe_sum, div_real _ _ (Nat.cast_ne_zero.mpr hn), ← EReal.coe_add]
  rfl

theorem scale_real (he : 0 < e) : Ideal.rsqrt (meanSq e x : EReal) = (scale e x : EReal) := by
  rw [Ideal.rsqrt_coe]
  have h := meanSq_pos e x he
  rw [if_neg h.ne', if_neg (not_lt.mpr h.le)]
  rfl

theorem kernel_row (hn : n ≠ 0) (j : Fin n) :
    (scale e x : EReal) * ((d j : EReal) - (x j : EReal) * (scale e x : EReal) * Ideal.div (∑ k, (d k : EReal) * ((x k : EReal) * (scale e x : EReal))) ((n : ℝ) : EReal))
      = (dRow e x d j : EReal) := by
  simp only [← EReal.coe_mul]
  rw [coe_sum, div_real _ _ (Nat.cast_ne_zero.mpr hn), ← EReal.coe_mul, ← EReal.coe_sub, ← EReal.coe_mul]
  rfl

/-- The mean square's own gradient, as the differentiated host lines compute it. -/
def dMean : ℝ := (∑ k, x k * d k) * (-(1 / 2) * (scale e x / meanSq e x)) / n

theorem dMean_real (hn : n ≠ 0) (he : 0 < e) :
    Ideal.div ((∑ k, (x k : EReal) * (d k : EReal)) * (((-(1 / 2) : ℝ) : EReal) * Ideal.div (scale e x : EReal) (meanSq e x : EReal))) ((n : ℝ) : EReal) = (dMean e x d : EReal) := by
  simp only [← EReal.coe_mul]
  rw [coe_sum, div_real _ _ (meanSq_pos e x he).ne', ← EReal.coe_mul, ← EReal.coe_mul, div_real _ _ (Nat.cast_ne_zero.mpr hn)]
  rfl

theorem dRow_eq (he : 0 < e) (j : Fin n) : d j * scale e x + x j * dMean e x d + dMean e x d * x j = dRow e x d j := by
  have h : scale e x * scale e x = (meanSq e x)⁻¹ := by
    unfold scale
    rw [← mul_inv, Real.mul_self_sqrt (meanSq_pos e x he).le]
  have s : ∑ k, d k * (x k * scale e x) = (∑ k, x k * d k) * scale e x := by
    rw [Finset.sum_mul]
    exact Finset.sum_congr rfl fun k _ => by ring
  unfold dRow dMean
  rw [s, div_eq_mul_inv (scale e x), ← h]
  ring

theorem host_row (he : 0 < e) (j : Fin n) :
    (d j : EReal) * (scale e x : EReal) + (x j : EReal) * (dMean e x d : EReal) + (dMean e x d : EReal) * (x j : EReal) = (dRow e x d j : EReal) := by
  rw [← dRow_eq e x d he j]
  simp only [EReal.coe_add, EReal.coe_mul]

/-- Consecutive blocks of `K` terms, summed block by block. -/
theorem sum_in_blocks {M : Type} [AddCommMonoid M] (K n : ℕ) (f : ℕ → M) : ∑ b ∈ Finset.range n, ∑ i : Fin K, f (b * K + i.val) = ∑ j ∈ Finset.range (n * K), f j := by
  induction n with
  | zero => simp
  | succ n ih => rw [Finset.sum_range_succ, ih, Nat.add_mul, Nat.one_mul, Finset.sum_range_add, Finset.sum_range (fun x => f (n * K + x))]

theorem bits_half : Ideal.ofBits .f32 0xBF000000#32 = ((-(1 / 2) : ℝ) : EReal) := by
  simp [Ideal.ofBits, Ideal.ieee]
  norm_num
  rw [← EReal.coe_mul]
  norm_num

def eps : ℝ := 8796093 * 2 ^ (-43 : ℤ)

theorem eps_pos : 0 < eps := by unfold eps; positivity

theorem bits_eps : Ideal.ofBits .f32 0x358637BD#32 = (eps : EReal) := by
  simp [Ideal.ofBits, Ideal.ieee, eps]

theorem bits_64 : Ideal.ofBits .f32 0x42800000#32 = (((64 : ℕ) : ℝ) : EReal) := by
  simp [Ideal.ofBits, Ideal.ieee]
  norm_num
  rw [← EReal.coe_mul]
  norm_num

theorem bits_384 : Ideal.ofBits .f32 0x43C00000#32 = (((384 : ℕ) : ℝ) : EReal) := by
  simp [Ideal.ofBits, Ideal.ieee]
  norm_num
  rw [← EReal.coe_mul]
  norm_num

theorem bits_1024 : Ideal.ofBits .f32 0x44800000#32 = (((1024 : ℕ) : ℝ) : EReal) := by
  simp [Ideal.ofBits, Ideal.ieee]
  norm_num
  rw [← EReal.coe_mul]
  norm_num

/-! ## All rows -/

abbrev Rows (n : ℕ) : Shape := ⟨3, ![1, 16384, n]⟩

/-- The reciprocal root mean square of a row, as both programs compute it; `w` are the bits of the row's length. -/
def root (w : BitVec 32) (x : Vec Ideal (Rows n) .f32) (u : Fin 16384) : EReal :=
  Ideal.rsqrt (Ideal.div (∑ k, x (ix3 0 u k) * x (ix3 0 u k)) (Ideal.ofBits .f32 w) + Ideal.ofBits .f32 0x358637BD#32)

/-- One row's part of the gradient of the gain. -/
def part (w : BitVec 32) (x ct : Vec Ideal (Rows n) .f32) (j : Fin n) (u : ℕ) : EReal :=
  if h : u < 16384 then ct (ix3 0 ⟨u, h⟩ j) * (x (ix3 0 ⟨u, h⟩ j) * root w x ⟨u, h⟩) else 0

theorem part_at (w : BitVec 32) (x ct : Vec Ideal (Rows n) .f32) (j : Fin n) (u : Fin 16384) :
    part w x ct j u.val = ct (ix3 0 u j) * (x (ix3 0 u j) * root w x u) := dif_pos u.isLt

def dGain (w : BitVec 32) (x ct : Vec Ideal (Rows n) .f32) : Vec Ideal ⟨2, ![1, n]⟩ .f32 := fun i => ∑ u ∈ Finset.range 16384, part w x ct (i 1) u

theorem dGain_apply (w : BitVec 32) (x ct : Vec Ideal (Rows n) .f32) (i : Fin 1) (j : Fin n) :
    dGain w x ct (ix2 i j) = ∑ u : Fin 16384, ct (ix3 0 u j) * (x (ix3 0 u j) * root w x u) :=
  (Finset.sum_range _).trans (Finset.sum_congr rfl fun u _ => part_at w x ct j u)

theorem sum_rows (w : BitVec 32) (x ct : Vec Ideal (Rows n) .f32) (i : Fin 1) (j : Fin n) (k : ℕ) (hk : k = 16384) :
    ∑ u ∈ Finset.range k, part w x ct j u = dGain w x ct (ix2 i j) := by
  subst hk
  rfl

/-- The gradient of the rows themselves, of real arrays. -/
def dRows (x ct : (Rows n).Idx → ℝ) (g : (⟨1, ![n]⟩ : Shape).Idx → ℝ) : Fin 16384 → Fin n → ℝ := fun u =>
  dRow eps (fun k => x (ix3 0 u k)) (fun k => ct (ix3 0 u k) * g (ix1 k))

theorem root_real (w : BitVec 32) (hn : n ≠ 0) (hw : Ideal.ofBits .f32 w = ((n : ℝ) : EReal)) (x : (Rows n).Idx → ℝ) (u : Fin 16384) :
    root w (fun i => (x i : EReal)) u = (scale eps (fun k => x (ix3 0 u k)) : EReal) := by
  unfold root
  rw [hw, bits_eps, mean_real eps (fun k => x (ix3 0 u k)) hn, scale_real eps _ eps_pos]

end Cert.RowNorm
-- ==== Proof.Norm.lean ====
module

public import proofs.«01_k».proof.Defs
public import proofs.«01_k».proof.Proof.RowNorm
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The norm's backward call -/

noncomputable section

namespace Cert.RowNorm.Plain

open Idealize.ShloMosaic Idealize.ShloMosaic.TcCoe Idealize.SL.Sem Cert.Reals

section Kernel

open Cert.NormIdeal Cert.NormIdeal.Gen

variable (m : (ℓ : Loc nD τ sig) → Buf (Elt Ideal) ℓ) (c : Dev nD) (t : Fin cfg0.N)

abbrev arg (r : Ref sig .tc) := m ((c : Thread nD τ).loc r)

theorem idx : ∀ t : Fin grid0.N, win0_0.index t = ![t.val, 0] ∧ win0_1.index t = ![0, 0] ∧ win0_2.index t = ![t.val, 0] ∧ win0_3.index t = ![t.val, 0]
    ∧ win0_4.index t = ![0, 0] := by decide +kernel

theorem in0 (r : Fin 1024) (k : Fin 384) (u : Fin 16384) (hu : u.val = t.val * 1024 + r.val) : iblk m c 0 t (ix2 r k) = arg m c main_arg0 (ix3 0 u k) := by
  blk_simp [iblk]; entry_read; pointwise; blk_ext [iblk, (idx t).1]

theorem in1 (k : Fin 384) : iblk m c 1 t (ix2 0 k) = arg m c main_arg1 (ix1 k) := by
  blk_simp [iblk]; entry_read; pointwise; blk_ext [iblk, (idx t).2.1]

theorem in2 (r : Fin 1024) (k : Fin 384) (u : Fin 16384) (hu : u.val = t.val * 1024 + r.val) : iblk m c 2 t (ix2 r k) = arg m c main_arg2 (ix3 0 u k) := by
  blk_simp [iblk]; entry_read; pointwise; blk_ext [iblk, (idx t).2.2.1]

theorem root_block (r : Fin 1024) (u : Fin 16384) (hu : u.val = t.val * 1024 + r.val) : k0_pay3 (iblk m c 0 t) (ix2 r 0) = root 0x43C00000#32 (arg m c main_arg0) u := by
  unfold k0_pay3 k0_pay1 root
  pointwise
  simp only [in0 m c t r _ u hu]

/-- The rows of one grid point, added to the running gradient of the gain. -/
theorem acc_block (a : Vec Ideal S1x384 .f32) (j : Fin 384) :
    k0_pay7 (iblk m c 0 t) (iblk m c 2 t) a (ix2 0 j) = a (ix2 0 j) + ∑ r : Fin 1024, part 0x43C00000#32 (arg m c main_arg0) (arg m c main_arg2) j (t.val * 1024 + r.val) := by
  have hN : t.val < 16 := t.isLt
  unfold k0_pay7 k0_pay4 k0_pay2 k0_pay1
  pointwise
  refine congrArg _ (Finset.sum_congr rfl fun r _ => ?_)
  rw [root_block m c t r ⟨t.val * 1024 + r.val, by omega⟩ rfl, in0 m c t r j ⟨t.val * 1024 + r.val, by omega⟩ rfl, in2 m c t r j ⟨t.val * 1024 + r.val, by omega⟩ rfl]
  exact (part_at _ _ _ _ ⟨t.val * 1024 + r.val, by omega⟩).symm

theorem start (h0 : t.val % 16 = 0) : outsAt0 m c t.val t.isLt = (k0_pay5 (iblk m c 0 t) (iblk m c 2 t) (iblk m c 1 t), k0_pay7 (iblk m c 0 t) (iblk m c 2 t) (k0_pay6 (F := Ideal))) := by
  rw [outsAt0_A m c t h0]
  frame_out

theorem next (h0 : ¬t.val % 16 = 0) : outsAt0 m c t.val t.isLt =
    (k0_pay5 (iblk m c 0 t) (iblk m c 2 t) (iblk m c 1 t), k0_pay7 (iblk m c 0 t) (iblk m c 2 t) (outsAt0 m c (t.val - 1) (Nat.lt_of_le_of_lt (Nat.sub_le _ _) t.isLt)).2) := by
  rw [outsAt0_B m c t h0]
  frame_out

theorem rows_at : (outsAt0 m c t.val t.isLt).1 = k0_pay5 (iblk m c 0 t) (iblk m c 2 t) (iblk m c 1 t) := by
  by_cases h0 : t.val % 16 = 0
  · rw [start m c t h0]
  · rw [next m c t h0]

theorem gain_at (j : Fin 384) : ∀ (k : ℕ) (hk : k < cfg0.N), (outsAt0 m c k hk).2 (ix2 0 j)
    = ∑ b ∈ Finset.range (k + 1), ∑ r : Fin 1024, part 0x43C00000#32 (arg m c main_arg0) (arg m c main_arg2) j (b * 1024 + r.val) := by
  intro k
  induction k with
  | zero =>
    intro hk
    rw [start m c ⟨0, hk⟩ rfl]
    refine (acc_block m c ⟨0, hk⟩ _ j).trans ?_
    unfold k0_pay6
    pointwise
    rw [Finset.sum_range_one]
    simp only [Nat.zero_mul, Nat.zero_add]
  | succ k ih =>
    intro hk
    have hN : k + 1 < 16 := hk
    rw [next m c ⟨k + 1, hk⟩ (by rw [Nat.mod_eq_of_lt hN]; omega), Finset.sum_range_succ _ (k + 1)]
    exact (acc_block m c ⟨k + 1, hk⟩ _ j).trans (congrArg (· + _) (ih _))

theorem arr4 : (dats m 0 c).arrAt 4 cfg0.N = dGain 0x43C00000#32 (arg m c main_arg0) (arg m c main_arg2) := by
  refine (dats m 0 c).arrAt_eq_of_covers 4 _ (by decide +kernel) fun t hf y => ?_
  have h1 := (flush0_4 t).1 hf
  blk_simp
  rw [after0_4]
  obtain ⟨a, j, rfl⟩ : ∃ (a : Fin 1) (j : Fin 384), y = ix2 a j := ⟨y 0, y 1, eq_ix2 y⟩
  obtain rfl : a = 0 := Subsingleton.elim _ _
  have hN : t.val < 16 := t.isLt
  obtain ht : t.val = 15 := by omega
  trans dGain 0x43C00000#32 (arg m c main_arg0) (arg m c main_arg2) (ix2 0 j)
  · refine (gain_at m c j t.val t.isLt).trans ?_
    rw [ht, sum_in_blocks]
    exact sum_rows _ _ _ 0 j _ (by norm_num)
  · generalize dGain 0x43C00000#32 (arg m c main_arg0) (arg m c main_arg2) = d
    blk_ext [(idx t).2.2.2.2]

variable (x ct : (Rows 384).Idx → ℝ) (g : (⟨1, ![384]⟩ : Shape).Idx → ℝ)

/-- The gradient of the rows. -/
def dxOf : Vec Ideal S16384x384 .f32 := fun i => ((dRows x ct g (i 0) (i 1) : ℝ) : EReal)

theorem arr3 (hx : arg m c main_arg0 = fun i => (x i : EReal)) (hg : arg m c main_arg1 = fun i => (g i : EReal)) (hc : arg m c main_arg2 = fun i => (ct i : EReal)) :
    (dats m 0 c).arrAt 3 cfg0.N = dxOf x ct g := by
  refine (dats m 0 c).arrAt_eq_of_covers 3 _ (by decide +kernel) fun t hf y => ?_
  blk_simp
  rw [after0_3, rows_at]
  obtain ⟨r, j, rfl⟩ : ∃ (r : Fin 1024) (j : Fin 384), y = ix2 r j := ⟨y 0, y 1, eq_ix2 y⟩
  have hN : t.val < 16 := t.isLt
  trans dxOf x ct g (ix2 ⟨t.val * 1024 + r.val, by omega⟩ j)
  · unfold k0_pay5 k0_pay4 k0_pay2 k0_pay1
    pointwise
    rw [root_block m c t r ⟨t.val * 1024 + r.val, by omega⟩ rfl, hx, root_real _ (by decide) bits_384, bits_384]
    simp only [in0 m c t r _ ⟨t.val * 1024 + r.val, by omega⟩ rfl, in1, in2 m c t r _ ⟨t.val * 1024 + r.val, by omega⟩ rfl, hx, hg, hc, ← EReal.coe_mul (ct _)]
    exact kernel_row eps _ (fun k => ct (ix3 0 ⟨t.val * 1024 + r.val, by omega⟩ k) * g (ix1 k)) (by decide) j
  · blk_ext [(idx t).2.2.2.1]

end Kernel

section Reference

open Cert.NormRefIdeal Cert.NormRefIdeal.Gen Cert.NormRefIdeal.Read

theorem ref7 (x : (⟨S1x16384x384, .f32⟩ : BufTy).Contents (Elt Ideal)) (u : Fin 16384) : val_main_v7 x (ix3 0 u 0) = root 0x43C00000#32 x u := by
  unfold val_main_v7 val_main_v6 val_main_v5 val_main_v4 val_main_v3 val_main_v2 val_main_v1 val_main_v0 val_main_cst val_main_cst_0 val_main_cst_1 root
  pointwise

theorem ref6 (x : (Rows 384).Idx → ℝ) (u : Fin 16384) : val_main_v6 (F := Ideal) (fun i => (x i : EReal)) (ix3 0 u 0) = (meanSq eps (fun k => x (ix3 0 u k)) : EReal) := by
  unfold val_main_v6 val_main_v5 val_main_v4 val_main_v3 val_main_v2 val_main_v1 val_main_v0 val_main_cst val_main_cst_0 val_main_cst_1
  pointwise
  rw [bits_384, bits_eps]
  exact mean_real eps (fun k => x (ix3 0 u k)) (by decide)

theorem over_ends (hr : S1x16384x1.ReducesTo [0, 2] S16384) (x : S1x16384x1.Idx → EReal) (u : Fin 16384) : Ideal.hostReduceAdd hr x 0 (ix1 u) = x (ix3 0 u 0) := by
  refine (zero_add _).trans (Finset.sum_eq_single _ (fun b hb hn => absurd ?_ hn) fun hn => absurd (Finset.mem_filter.2 ⟨Finset.mem_univ _, ?_⟩) hn)
  · have e := (Finset.mem_filter.1 hb).2
    funext a
    apply Fin.ext
    match a with
    | ⟨0, _⟩ => exact Nat.lt_one_iff.1 (b 0).isLt
    | ⟨1, _⟩ => exact congrArg Fin.val (congrFun e 0)
    | ⟨2, _⟩ => exact Nat.lt_one_iff.1 (b 2).isLt
  · funext a
    fin_cases a; rfl

theorem over_front (hr : S1x1x384.ReducesTo [0, 1] S384) (x : S1x1x384.Idx → EReal) (j : Fin 384) : Ideal.hostReduceAdd hr x 0 (ix1 j) = x (ix3 0 0 j) := by
  refine (zero_add _).trans (Finset.sum_eq_single _ (fun b hb hn => absurd ?_ hn) fun hn => absurd (Finset.mem_filter.2 ⟨Finset.mem_univ _, ?_⟩) hn)
  · have e := (Finset.mem_filter.1 hb).2
    funext a
    apply Fin.ext
    match a with
    | ⟨0, _⟩ => exact Nat.lt_one_iff.1 (b 0).isLt
    | ⟨1, _⟩ => exact Nat.lt_one_iff.1 (b 1).isLt
    | ⟨2, _⟩ => exact congrArg Fin.val (congrFun e 0)
  · funext a
    fin_cases a; rfl

theorem ref_gain (x ct : (⟨S1x16384x384, .f32⟩ : BufTy).Contents (Elt Ideal)) : val_main_v38 x ct = dGain 0x43C00000#32 x ct := by
  funext i
  obtain ⟨a, j, rfl⟩ : ∃ (a : Fin 1) (j : Fin 384), i = ix2 a j := ⟨i 0, i 1, eq_ix2 i⟩
  obtain rfl : a = 0 := Subsingleton.elim _ _
  rw [dGain_apply]
  have h : val_main_v18 x ct (ix3 0 0 j) = ∑ u : Fin 16384, ct (ix3 0 u j) * (x (ix3 0 u j) * root 0x43C00000#32 x u) := by
    unfold val_main_v18 val_main_v17 val_main_v16 val_main_v12 val_main_v11 val_main_cst_3
    pointwise
    simp only [ref7]
    exact Finset.sum_congr rfl fun u _ => mul_comm _ _
  rw [← h]
  unfold val_main_v38 val_main_v21 val_main_cst_4
  pointwise
  exact over_front _ _ j

variable (x ct : (Rows 384).Idx → ℝ) (g : (⟨1, ![384]⟩ : Shape).Idx → ℝ)

theorem ref_mean (u : Fin 16384) : val_main_v30 (F := Ideal) (fun i => (x i : EReal)) (fun i => (g i : EReal)) (fun i => (ct i : EReal)) (ix1 u)
    = (dMean eps (fun k => x (ix3 0 u k)) (fun k => ct (ix3 0 u k) * g (ix1 k)) : EReal) := by
  have h : val_main_v29 (F := Ideal) (fun i => (x i : EReal)) (fun i => (g i : EReal)) (fun i => (ct i : EReal)) (ix3 0 u 0)
      = (dMean eps (fun k => x (ix3 0 u k)) (fun k => ct (ix3 0 u k) * g (ix1 k)) : EReal) := by
    unfold val_main_v29 val_main_v28 val_main_v27 val_main_v24 val_main_v10 val_main_v9 val_main_v8 val_main_v23 val_main_v22 val_main_v20 val_main_v19 val_main_v13 val_main_cst_2 val_main_cst_6 val_main_cst_5
    pointwise
    rw [ref7, ref6, root_real _ (by decide) bits_384, bits_384, bits_half]
    simp only [← EReal.coe_mul (ct _)]
    exact dMean_real eps _ (fun k => ct (ix3 0 u k) * g (ix1 k)) (by decide) eps_pos
  rw [← h]
  unfold val_main_v30 val_main_cst_7
  pointwise
  exact over_ends _ _ u

theorem ref_rows : val_main_v37 (F := Ideal) (fun i => (x i : EReal)) (fun i => (g i : EReal)) (fun i => (ct i : EReal)) = dxOf x ct g := by
  funext i
  obtain ⟨u, j, rfl⟩ : ∃ (u : Fin 16384) (j : Fin 384), i = ix2 u j := ⟨i 0, i 1, eq_ix2 i⟩
  unfold val_main_v37 val_main_v36 val_main_v35 val_main_v34 val_main_v33 val_main_v32 val_main_v31 val_main_v26 val_main_v25 val_main_v20 val_main_v19 val_main_v13
  pointwise
  rw [ref_mean, ref7, root_real _ (by decide) bits_384, ← EReal.coe_mul (ct _)]
  skip
  exact host_row eps (fun k => x (ix3 0 u k)) (fun k => ct (ix3 0 u k) * g (ix1 k)) eps_pos j

end Reference

section Pre

open Cert.Pre_finite_norm

theorem entries_real [Cert.Pre_finite_norm.Facts] (x0 x2 : (Rows 384).Idx → EReal) (x1 : (⟨1, ![384]⟩ : Shape).Idx → EReal) (hp : fn (F := Ideal) x0 x1 x2 = fun _ => 1#1) :
    (∃ x : (Rows 384).Idx → ℝ, x0 = fun i => (x i : EReal)) ∧ (∃ g : (⟨1, ![384]⟩ : Shape).Idx → ℝ, x1 = fun i => (g i : EReal)) ∧ ∃ ct : (Rows 384).Idx → ℝ, x2 = fun i => (ct i : EReal) := by
  have h0 := congrFun hp ix0
  dsimp only [fn] at h0
  have : Subsingleton S_.Idx := ⟨fun a b => funext fun d => d.elim0⟩
  obtain ⟨h1, h2⟩ := IntOp.andi_eq_one.1 h0
  obtain ⟨h3, h4⟩ := IntOp.andi_eq_one.1 h1
  exact ⟨reals_of_all x0 _ (fun _ => bits_top) _ _ _ _ h3, reals_of_all x1 _ (fun _ => bits_top) _ _ _ _ h4, reals_of_all x2 _ (fun _ => bits_top) _ _ _ _ h2⟩

end Pre

theorem frame_k : Cert.quiescent_Norm := fun m ρ _ => Cert.Norm.Gen.frame m ρ
theorem frame_i : Cert.quiescent_NormIdeal := fun m ρ _ => Cert.NormIdeal.Gen.frame m ρ
theorem frame_ip [Cert.Pre_finite_norm.Facts] : Cert.quiescent_NormIdeal_pre_finite_norm := fun m ρ _ => Cert.NormIdeal.Gen.frame m ρ
theorem frame_r : Cert.quiescent_NormRefIdeal := fun m ρ _ =>
  θ_run_mono (Cert.NormRefIdeal.Value.run (F := Ideal) m ρ) fun r h => ⟨fun c => (h c).2.2, sem_eq_zero_of_no_sems (by decide) r.2⟩
theorem frame_rp [Cert.Pre_finite_norm.Facts] : Cert.quiescent_NormRefIdeal_pre_finite_norm := fun m ρ _ => frame_r m ρ trivial

theorem algebraic [Cert.Pre_finite_norm.Facts] : Cert.algebraic_NormIdeal_NormRefIdeal_pre_finite_norm := by
  intro m s m' s' hpre hagree
  have hr := fun c => entries_real _ _ _ (hpre c)
  choose x hx using fun c => (hr c).1
  choose g hg using fun c => (hr c).2.1
  choose ct hc using fun c => (hr c).2.2
  refine ⟨fun c => dxOf (x c) (ct c) (g c), fun c => dGain 0x43C00000#32 (arg m c Cert.NormIdeal.main_arg0) (arg m c Cert.NormIdeal.main_arg2), ?_, ?_⟩
  · exact θ_run_mono (Cert.NormIdeal.Value.run_blocks m s) fun r h c =>
      ⟨(h c).1.trans (arr3 m c _ _ _ (hx c) (hg c) (hc c)), (h c).2.1.trans (arr4 m c), (h c).2.2⟩
  · refine θ_run_mono (Cert.NormRefIdeal.Value.run (F := Ideal) m' s') fun r h c => ?_
    obtain ⟨a0, a1, a2⟩ := hagree c
    refine ⟨(h c).1.trans ((Cert.NormRefIdeal.Read.val_main_v37_eq _ _).trans ?_), (h c).2.1.trans ((Cert.NormRefIdeal.Read.val_main_v38_eq _ _).trans ?_), (h c).2.2⟩
    · rw [a0, a1, a2]
      erw [hx c, hg c, hc c]
      exact ref_rows _ _ _
    · rw [a0, a2]
      exact ref_gain _ _

end Cert.RowNorm.Plain
-- ==== Proof.NormKeep.lean ====
module

public import proofs.«01_k».proof.Defs
public import proofs.«01_k».proof.Proof.RowNorm
public import proofs.«01_k».proof.Proof.Gen.NormKeep.Frame
public import proofs.«01_k».proof.Proof.Gen.NormKeepIdeal.Value
public import proofs.«01_k».proof.Proof.Gen.NormKeepRefIdeal.Run
public import proofs.«01_k».proof.Proof.Gen.NormKeepRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The kept norm's backward call -/

noncomputable section

namespace Cert.RowNorm.Keep

open Idealize.ShloMosaic Idealize.ShloMosaic.TcCoe Idealize.SL.Sem Cert.Reals

section Kernel

open Cert.NormKeepIdeal Cert.NormKeepIdeal.Gen

variable (m : (ℓ : Loc nD τ sig) → Buf (Elt Ideal) ℓ) (c : Dev nD) (t : Fin cfg0.N)

abbrev arg (r : Ref sig .tc) := m ((c : Thread nD τ).loc r)

theorem idx : ∀ t : Fin grid0.N, win0_0.index t = ![t.val, 0] ∧ win0_1.index t = ![0, 0] ∧ win0_2.index t = ![t.val, 0] ∧ win0_3.index t = ![t.val, 0]
    ∧ win0_5.index t = ![0, 0] ∧ win0_4.index t = ![t.val, 0] := by decide +kernel

theorem in0 (r : Fin 512) (k : Fin 1024) (u : Fin 16384) (hu : u.val = t.val * 512 + r.val) : iblk m c 0 t (ix2 r k) = arg m c main_arg0 (ix3 0 u k) := by
  blk_simp [iblk]; entry_read; pointwise; blk_ext [iblk, (idx t).1]

theorem in1 (k : Fin 1024) : iblk m c 1 t (ix2 0 k) = arg m c main_arg1 (ix1 k) := by
  blk_simp [iblk]; entry_read; pointwise; blk_ext [iblk, (idx t).2.1]

theorem in2 (r : Fin 512) (k : Fin 1024) (u : Fin 16384) (hu : u.val = t.val * 512 + r.val) : iblk m c 2 t (ix2 r k) = arg m c main_arg2 (ix3 0 u k) := by
  blk_simp [iblk]; entry_read; pointwise; blk_ext [iblk, (idx t).2.2.1]

theorem in3 (r : Fin 512) (k : Fin 1024) (u : Fin 16384) (hu : u.val = t.val * 512 + r.val) : iblk m c 3 t (ix2 r k) = arg m c main_arg3 (ix3 0 u k) := by
  blk_simp [iblk]; entry_read; pointwise; blk_ext [iblk, (idx t).2.2.2.1]

theorem root_block (r : Fin 512) (u : Fin 16384) (hu : u.val = t.val * 512 + r.val) : k0_pay4 (iblk m c 0 t) (ix2 r 0) = root 0x44800000#32 (arg m c main_arg0) u := by
  unfold k0_pay4 k0_pay2 root
  pointwise
  simp only [in0 m c t r _ u hu]

/-- The rows of one grid point, added to the running gradient of the gain. -/
theorem acc_block (a : Vec Ideal S1x1024 .f32) (j : Fin 1024) :
    k0_pay1 (k0_pay3 (iblk m c 2 t)) (k0_pay5 (iblk m c 0 t)) (k0_pay8 a) (ix2 0 j) = a (ix2 0 j) + ∑ r : Fin 512, part 0x44800000#32 (arg m c main_arg0) (arg m c main_arg2) j (t.val * 512 + r.val) := by
  have hN : t.val < 32 := t.isLt
  unfold k0_pay1 k0_pay8 k0_pay5 k0_pay3 k0_pay2
  pointwise
  refine congrArg _ (Finset.sum_congr rfl fun r _ => ?_)
  rw [root_block m c t r ⟨t.val * 512 + r.val, by omega⟩ rfl, in0 m c t r j ⟨t.val * 512 + r.val, by omega⟩ rfl, in2 m c t r j ⟨t.val * 512 + r.val, by omega⟩ rfl]
  exact (part_at _ _ _ _ ⟨t.val * 512 + r.val, by omega⟩).symm

theorem start (h0 : t.val % 32 = 0) : outsAt0 m c t.val t.isLt = (k0_pay6 (iblk m c 0 t) (iblk m c 2 t) (iblk m c 1 t) (iblk m c 3 t), k0_pay1 (k0_pay3 (iblk m c 2 t)) (k0_pay5 (iblk m c 0 t)) (k0_pay8 (k0_pay7 (F := Ideal)))) := by
  rw [outsAt0_A m c t h0]
  frame_out

theorem next (h0 : ¬t.val % 32 = 0) : outsAt0 m c t.val t.isLt =
    (k0_pay6 (iblk m c 0 t) (iblk m c 2 t) (iblk m c 1 t) (iblk m c 3 t), k0_pay1 (k0_pay3 (iblk m c 2 t)) (k0_pay5 (iblk m c 0 t)) (k0_pay8 (outsAt0 m c (t.val - 1) (Nat.lt_of_le_of_lt (Nat.sub_le _ _) t.isLt)).2)) := by
  rw [outsAt0_B m c t h0]
  frame_out

theorem rows_at : (outsAt0 m c t.val t.isLt).1 = k0_pay6 (iblk m c 0 t) (iblk m c 2 t) (iblk m c 1 t) (iblk m c 3 t) := by
  by_cases h0 : t.val % 32 = 0
  · rw [start m c t h0]
  · rw [next m c t h0]

theorem gain_at (j : Fin 1024) : ∀ (k : ℕ) (hk : k < cfg0.N), (outsAt0 m c k hk).2 (ix2 0 j)
    = ∑ b ∈ Finset.range (k + 1), ∑ r : Fin 512, part 0x44800000#32 (arg m c main_arg0) (arg m c main_arg2) j (b * 512 + r.val) := by
  intro k
  induction k with
  | zero =>
    intro hk
    rw [start m c ⟨0, hk⟩ rfl]
    refine (acc_block m c ⟨0, hk⟩ _ j).trans ?_
    unfold k0_pay7
    pointwise
    rw [Finset.sum_range_one]
    simp only [Nat.zero_mul, Nat.zero_add]
  | succ k ih =>
    intro hk
    have hN : k + 1 < 32 := hk
    rw [next m c ⟨k + 1, hk⟩ (by rw [Nat.mod_eq_of_lt hN]; omega), Finset.sum_range_succ _ (k + 1)]
    exact (acc_block m c ⟨k + 1, hk⟩ _ j).trans (congrArg (· + _) (ih _))

theorem arr5 : (dats m 0 c).arrAt 5 cfg0.N = dGain 0x44800000#32 (arg m c main_arg0) (arg m c main_arg2) := by
  refine (dats m 0 c).arrAt_eq_of_covers 5 _ (by decide +kernel) fun t hf y => ?_
  have h1 := (flush0_5 t).1 hf
  blk_simp
  rw [after0_5]
  obtain ⟨a, j, rfl⟩ : ∃ (a : Fin 1) (j : Fin 1024), y = ix2 a j := ⟨y 0, y 1, eq_ix2 y⟩
  obtain rfl : a = 0 := Subsingleton.elim _ _
  have hN : t.val < 32 := t.isLt
  obtain ht : t.val = 31 := by omega
  trans dGain 0x44800000#32 (arg m c main_arg0) (arg m c main_arg2) (ix2 0 j)
  · refine (gain_at m c j t.val t.isLt).trans ?_
    rw [ht, sum_in_blocks]
    exact sum_rows _ _ _ 0 j _ (by norm_num)
  · generalize dGain 0x44800000#32 (arg m c main_arg0) (arg m c main_arg2) = d
    blk_ext [(idx t).2.2.2.2.1]

variable (x ct ck : (Rows 1024).Idx → ℝ) (g : (⟨1, ![1024]⟩ : Shape).Idx → ℝ)

/-- The gradient of the rows. -/
def dxOf : Vec Ideal S16384x1024 .f32 := fun i => ((ck (ix3 0 (i 0) (i 1)) + dRows x ct g (i 0) (i 1) : ℝ) : EReal)

theorem arr4 (hx : arg m c main_arg0 = fun i => (x i : EReal)) (hg : arg m c main_arg1 = fun i => (g i : EReal)) (hc : arg m c main_arg2 = fun i => (ct i : EReal)) (hk : arg m c main_arg3 = fun i => (ck i : EReal)) :
    (dats m 0 c).arrAt 4 cfg0.N = dxOf x ct ck g := by
  refine (dats m 0 c).arrAt_eq_of_covers 4 _ (by decide +kernel) fun t hf y => ?_
  blk_simp
  rw [after0_4, rows_at]
  obtain ⟨r, j, rfl⟩ : ∃ (r : Fin 512) (j : Fin 1024), y = ix2 r j := ⟨y 0, y 1, eq_ix2 y⟩
  have hN : t.val < 32 := t.isLt
  trans dxOf x ct ck g (ix2 ⟨t.val * 512 + r.val, by omega⟩ j)
  · unfold k0_pay6 k0_pay5 k0_pay3 k0_pay2
    pointwise
    rw [root_block m c t r ⟨t.val * 512 + r.val, by omega⟩ rfl, hx, root_real _ (by decide) bits_1024, bits_1024]
    simp only [in0 m c t r _ ⟨t.val * 512 + r.val, by omega⟩ rfl, in1, in2 m c t r _ ⟨t.val * 512 + r.val, by omega⟩ rfl, in3 m c t r _ ⟨t.val * 512 + r.val, by omega⟩ rfl, hx, hg, hc, hk, ← EReal.coe_mul (ct _)]
    refine (congrArg _ ?_).trans (EReal.coe_add _ _).symm
    exact kernel_row eps _ (fun k => ct (ix3 0 ⟨t.val * 512 + r.val, by omega⟩ k) * g (ix1 k)) (by decide) j
  · blk_ext [(idx t).2.2.2.2.2]

end Kernel

section Reference

open Cert.NormKeepRefIdeal Cert.NormKeepRefIdeal.Gen Cert.NormKeepRefIdeal.Read

theorem ref7 (x : (⟨S1x16384x1024, .f32⟩ : BufTy).Contents (Elt Ideal)) (u : Fin 16384) : val_main_v7 x (ix3 0 u 0) = root 0x44800000#32 x u := by
  unfold val_main_v7 val_main_v6 val_main_v5 val_main_v4 val_main_v3 val_main_v2 val_main_v1 val_main_v0 val_main_cst val_main_cst_0 val_main_cst_1 root
  pointwise

theorem ref6 (x : (Rows 1024).Idx → ℝ) (u : Fin 16384) : val_main_v6 (F := Ideal) (fun i => (x i : EReal)) (ix3 0 u 0) = (meanSq eps (fun k => x (ix3 0 u k)) : EReal) := by
  unfold val_main_v6 val_main_v5 val_main_v4 val_main_v3 val_main_v2 val_main_v1 val_main_v0 val_main_cst val_main_cst_0 val_main_cst_1
  pointwise
  rw [bits_1024, bits_eps]
  exact mean_real eps (fun k => x (ix3 0 u k)) (by decide)

theorem over_ends (hr : S1x16384x1.ReducesTo [0, 2] S16384) (x : S1x16384x1.Idx → EReal) (u : Fin 16384) : Ideal.hostReduceAdd hr x 0 (ix1 u) = x (ix3 0 u 0) := by
  refine (zero_add _).trans (Finset.sum_eq_single _ (fun b hb hn => absurd ?_ hn) fun hn => absurd (Finset.mem_filter.2 ⟨Finset.mem_univ _, ?_⟩) hn)
  · have e := (Finset.mem_filter.1 hb).2
    funext a
    apply Fin.ext
    match a with
    | ⟨0, _⟩ => exact Nat.lt_one_iff.1 (b 0).isLt
    | ⟨1, _⟩ => exact congrArg Fin.val (congrFun e 0)
    | ⟨2, _⟩ => exact Nat.lt_one_iff.1 (b 2).isLt
  · funext a
    fin_cases a; rfl

theorem over_front (hr : S1x1x1024.ReducesTo [0, 1] S1024) (x : S1x1x1024.Idx → EReal) (j : Fin 1024) : Ideal.hostReduceAdd hr x 0 (ix1 j) = x (ix3 0 0 j) := by
  refine (zero_add _).trans (Finset.sum_eq_single _ (fun b hb hn => absurd ?_ hn) fun hn => absurd (Finset.mem_filter.2 ⟨Finset.mem_univ _, ?_⟩) hn)
  · have e := (Finset.mem_filter.1 hb).2
    funext a
    apply Fin.ext
    match a with
    | ⟨0, _⟩ => exact Nat.lt_one_iff.1 (b 0).isLt
    | ⟨1, _⟩ => exact Nat.lt_one_iff.1 (b 1).isLt
    | ⟨2, _⟩ => exact congrArg Fin.val (congrFun e 0)
  · funext a
    fin_cases a; rfl

theorem ref_gain (x ct : (⟨S1x16384x1024, .f32⟩ : BufTy).Contents (Elt Ideal)) : val_main_v39 x ct = dGain 0x44800000#32 x ct := by
  funext i
  obtain ⟨a, j, rfl⟩ : ∃ (a : Fin 1) (j : Fin 1024), i = ix2 a j := ⟨i 0, i 1, eq_ix2 i⟩
  obtain rfl : a = 0 := Subsingleton.elim _ _
  rw [dGain_apply]
  have h : val_main_v18 x ct (ix3 0 0 j) = ∑ u : Fin 16384, ct (ix3 0 u j) * (x (ix3 0 u j) * root 0x44800000#32 x u) := by
    unfold val_main_v18 val_main_v17 val_main_v16 val_main_v12 val_main_v11 val_main_cst_3
    pointwise
    simp only [ref7]
    exact Finset.sum_congr rfl fun u _ => mul_comm _ _
  rw [← h]
  unfold val_main_v39 val_main_v21 val_main_cst_4
  pointwise
  exact over_front _ _ j

variable (x ct ck : (Rows 1024).Idx → ℝ) (g : (⟨1, ![1024]⟩ : Shape).Idx → ℝ)

theorem ref_mean (u : Fin 16384) : val_main_v31 (F := Ideal) (fun i => (x i : EReal)) (fun i => (g i : EReal)) (fun i => (ct i : EReal)) (ix1 u)
    = (dMean eps (fun k => x (ix3 0 u k)) (fun k => ct (ix3 0 u k) * g (ix1 k)) : EReal) := by
  have h : val_main_v30 (F := Ideal) (fun i => (x i : EReal)) (fun i => (g i : EReal)) (fun i => (ct i : EReal)) (ix3 0 u 0)
      = (dMean eps (fun k => x (ix3 0 u k)) (fun k => ct (ix3 0 u k) * g (ix1 k)) : EReal) := by
    unfold val_main_v30 val_main_v29 val_main_v28 val_main_v24 val_main_v10 val_main_v9 val_main_v8 val_main_v23 val_main_v22 val_main_v20 val_main_v19 val_main_v13 val_main_cst_2 val_main_cst_6 val_main_cst_5
    pointwise
    rw [ref7, ref6, root_real _ (by decide) bits_1024, bits_1024, bits_half]
    simp only [← EReal.coe_mul (ct _)]
    exact dMean_real eps _ (fun k => ct (ix3 0 u k) * g (ix1 k)) (by decide) eps_pos
  rw [← h]
  unfold val_main_v31 val_main_cst_7
  pointwise
  exact over_ends _ _ u

theorem ref_rows : val_main_v38 (F := Ideal) (fun i => (x i : EReal)) (fun i => (g i : EReal)) (fun i => (ct i : EReal)) (fun i => (ck i : EReal)) = dxOf x ct ck g := by
  funext i
  obtain ⟨u, j, rfl⟩ : ∃ (u : Fin 16384) (j : Fin 1024), i = ix2 u j := ⟨i 0, i 1, eq_ix2 i⟩
  unfold val_main_v38 val_main_v37 val_main_v36 val_main_v35 val_main_v34 val_main_v33 val_main_v32 val_main_v27 val_main_v26 val_main_v25 val_main_v20 val_main_v19 val_main_v13
  pointwise
  rw [ref_mean, ref7, root_real _ (by decide) bits_1024, ← EReal.coe_mul (ct _)]
  rw [add_assoc, add_assoc, ← add_assoc (_ * _)]
  refine (congrArg _ ?_).trans (EReal.coe_add _ _).symm
  exact host_row eps (fun k => x (ix3 0 u k)) (fun k => ct (ix3 0 u k) * g (ix1 k)) eps_pos j

end Reference

section Pre

open Cert.Pre_finite_norm_keep

theorem entries_real [Cert.Pre_finite_norm_keep.Facts] (x0 x2 x3 : (Rows 1024).Idx → EReal) (x1 : (⟨1, ![1024]⟩ : Shape).Idx → EReal) (hp : fn (F := Ideal) x0 x1 x2 x3 = fun _ => 1#1) :
    (∃ x : (Rows 1024).Idx → ℝ, x0 = fun i => (x i : EReal)) ∧ (∃ g : (⟨1, ![1024]⟩ : Shape).Idx → ℝ, x1 = fun i => (g i : EReal)) ∧ (∃ ct : (Rows 1024).Idx → ℝ, x2 = fun i => (ct i : EReal)) ∧ ∃ ck : (Rows 1024).Idx → ℝ, x3 = fun i => (ck i : EReal) := by
  have h0 := congrFun hp ix0
  dsimp only [fn, fn_part1] at h0
  have : Subsingleton S_.Idx := ⟨fun a b => funext fun d => d.elim0⟩
  obtain ⟨h0, h5⟩ := IntOp.andi_eq_one.1 h0
  obtain ⟨h1, h2⟩ := IntOp.andi_eq_one.1 h0
  obtain ⟨h3, h4⟩ := IntOp.andi_eq_one.1 h1
  exact ⟨reals_of_all x0 _ (fun _ => bits_top) _ _ _ _ h3, reals_of_all x1 _ (fun _ => bits_top) _ _ _ _ h4, reals_of_all x2 _ (fun _ => bits_top) _ _ _ _ h2, reals_of_all x3 _ (fun _ => bits_top) _ _ _ _ h5⟩

end Pre

theorem frame_k : Cert.quiescent_NormKeep := fun m ρ _ => Cert.NormKeep.Gen.frame m ρ
theorem frame_i : Cert.quiescent_NormKeepIdeal := fun m ρ _ => Cert.NormKeepIdeal.Gen.frame m ρ
theorem frame_ip [Cert.Pre_finite_norm_keep.Facts] : Cert.quiescent_NormKeepIdeal_pre_finite_norm_keep := fun m ρ _ => Cert.NormKeepIdeal.Gen.frame m ρ
theorem frame_r : Cert.quiescent_NormKeepRefIdeal := fun m ρ _ =>
  θ_run_mono (Cert.NormKeepRefIdeal.Value.run (F := Ideal) m ρ) fun r h => ⟨fun c => (h c).2.2, sem_eq_zero_of_no_sems (by decide) r.2⟩
theorem frame_rp [Cert.Pre_finite_norm_keep.Facts] : Cert.quiescent_NormKeepRefIdeal_pre_finite_norm_keep := fun m ρ _ => frame_r m ρ trivial

theorem algebraic [Cert.Pre_finite_norm_keep.Facts] : Cert.algebraic_NormKeepIdeal_NormKeepRefIdeal_pre_finite_norm_keep := by
  intro m s m' s' hpre hagree
  have hr := fun c => entries_real _ _ _ _ (hpre c)
  choose x hx using fun c => (hr c).1
  choose g hg using fun c => (hr c).2.1
  choose ct hc using fun c => (hr c).2.2.1
  choose ck hk using fun c => (hr c).2.2.2
  refine ⟨fun c => dxOf (x c) (ct c) (ck c) (g c), fun c => dGain 0x44800000#32 (arg m c Cert.NormKeepIdeal.main_arg0) (arg m c Cert.NormKeepIdeal.main_arg2), ?_, ?_⟩
  · exact θ_run_mono (Cert.NormKeepIdeal.Value.run_blocks m s) fun r h c =>
      ⟨(h c).1.trans (arr4 m c _ _ _ _ (hx c) (hg c) (hc c) (hk c)), (h c).2.1.trans (arr5 m c), (h c).2.2⟩
  · refine θ_run_mono (Cert.NormKeepRefIdeal.Value.run (F := Ideal) m' s') fun r h c => ?_
    obtain ⟨a0, a1, a2, a3⟩ := hagree c
    refine ⟨(h c).1.trans ((Cert.NormKeepRefIdeal.Read.val_main_v38_eq _ _).trans ?_), (h c).2.1.trans ((Cert.NormKeepRefIdeal.Read.val_main_v39_eq _ _).trans ?_), (h c).2.2⟩
    · rw [a0, a1, a2, a3]
      erw [hx c, hg c, hc c, hk c]
      exact ref_rows _ _ _ _
    · rw [a0, a2]
      exact ref_gain _ _

end Cert.RowNorm.Keep
-- ==== Proof.GatedNorm.lean ====
module

public import proofs.«01_k».proof.Defs
public import proofs.«01_k».proof.Proof.RowNorm
public import proofs.«01_k».proof.Proof.Gen.GatedNorm.Frame
public import proofs.«01_k».proof.Proof.Gen.GatedNormIdeal.Value
public import proofs.«01_k».proof.Proof.Gen.GatedNormRefIdeal.Run
public import proofs.«01_k».proof.Proof.Gen.GatedNormRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The gated norm's backward call -/

noncomputable section

namespace Cert.RowNorm.Gated

open Idealize.ShloMosaic Idealize.ShloMosaic.TcCoe Idealize.SL.Sem Cert.Reals

/-! ## Heads and lanes -/

def lane (h : Fin 8) (k : Fin 64) : Fin 512 := ⟨h.val * 64 + k.val, by omega⟩
def hd (l : Fin 512) : Fin 8 := ⟨l.val / 64, by omega⟩
def ln (l : Fin 512) : Fin 64 := ⟨l.val % 64, by omega⟩

theorem lane_surj (l : Fin 512) : ∃ h k, l = lane h k := ⟨hd l, ln l, Fin.ext (by simp only [lane, hd, ln]; omega)⟩
theorem hd_lane (h : Fin 8) (k : Fin 64) : hd (lane h k) = h := Fin.ext (by simp only [lane, hd]; omega)
theorem ln_lane (h : Fin 8) (k : Fin 64) : ln (lane h k) = k := Fin.ext (by simp only [lane, ln]; omega)

theorem over_lanes {M : Type} [AddCommMonoid M] (f : Fin 512 → M) : ∑ l, f l = ∑ h, ∑ k, f (lane h k) := by
  rw [← Fintype.sum_prod_type' (fun h k => f (lane h k)), ← (finProdFinEquiv (m := 8) (n := 64)).sum_comp f]
  exact Finset.sum_congr rfl fun p _ => congrArg f (Fin.ext (by simp only [finProdFinEquiv, lane, Equiv.coe_fn_mk]; omega))

theorem same_head : ∀ p q : Fin 8, IntOp.cmpi .eq (BitVec.ofNat 32 p.val) (BitVec.ofNat 32 q.val) = if p = q then 1#1 else 0#1 := by decide

/-- What the sums below add of a head that is not the asked one, and of the asked one. -/
theorem pick (p q : Fin 8) (a : EReal) : Scalar.select (IntOp.cmpi .eq (BitVec.ofNat 32 p.val) (BitVec.ofNat 32 q.val)) a 0 = if p = q then a else 0 := by
  rw [same_head]
  split <;> rfl

theorem over_head (q : Fin 8) (f : Fin 512 → EReal) :
    ∑ l, Scalar.select (IntOp.cmpi .eq (BitVec.ofNat 32 (hd l).val) (BitVec.ofNat 32 q.val)) (f l) 0 = ∑ k, f (lane q k) := by
  rw [over_lanes]
  simp only [pick, hd_lane]
  rw [Finset.sum_eq_single q]
  · simp
  · intro p _ hp
    simp [hp]
  · exact fun h => absurd (Finset.mem_univ _) h

theorem bits_inv64 : Ideal.ofBits .f32 0x3C800000#32 = ((1 / 64 : ℝ) : EReal) := by
  simp [Ideal.ofBits, Ideal.ieee]
  norm_num
  rw [← EReal.coe_mul]
  norm_num

/-- The mean over a head of real entries, with the entries' own remainders, which are zero. -/
theorem head_mean (q : Fin 8) (f : Fin 512 → ℝ) :
    (∑ l, Scalar.select (IntOp.cmpi .eq (BitVec.ofNat 32 (hd l).val) (BitVec.ofNat 32 q.val)) (f l : EReal) 0
      + ∑ l, Scalar.select (IntOp.cmpi .eq (BitVec.ofNat 32 (hd l).val) (BitVec.ofNat 32 q.val)) ((f l : EReal) - (f l : EReal)) 0
      + ∑ l, Scalar.select (IntOp.cmpi .eq (BitVec.ofNat 32 (hd l).val) (BitVec.ofNat 32 q.val)) ((f l : EReal) - (f l : EReal) - ((f l : EReal) - (f l : EReal))) 0)
      * Ideal.ofBits .f32 0x3C800000#32 = ((((∑ k, f (lane q k)) / (64 : ℕ) : ℝ)) : EReal) := by
  rw [over_head q (fun l => (f l : EReal)), over_head q (fun l => (f l : EReal) - (f l : EReal)), over_head q (fun l => (f l : EReal) - (f l : EReal) - ((f l : EReal) - (f l : EReal)))]
  simp only [← EReal.coe_sub, sub_self]
  rw [coe_sum, coe_sum, bits_inv64]
  simp only [← EReal.coe_add, ← EReal.coe_mul, Finset.sum_const_zero, add_zero]
  refine congrArg _ ?_
  push_cast
  ring

/-! ## The gradients of real arrays -/

def sg (v : ℝ) : ℝ := 1 / (1 + Real.exp (-v))

theorem sg_real (v : ℝ) : Ideal.div 1 (1 + Ideal.exp (-(v : EReal))) = (sg v : EReal) := by
  rw [← EReal.coe_one, ← EReal.coe_neg, Ideal.exp_coe, ← EReal.coe_add, div_real _ _ (by positivity)]
  rfl

abbrev Heads : Shape := ⟨4, ![1, 16384, 8, 64]⟩

variable (x : Heads.Idx → ℝ) (a ct : (Rows 512).Idx → ℝ) (g : (⟨1, ![64]⟩ : Shape).Idx → ℝ)

def sc (u : Fin 16384) (h : Fin 8) : ℝ := scale eps (fun k => x (ix4 0 u h k))
def dy (u : Fin 16384) (h : Fin 8) (k : Fin 64) : ℝ := ct (ix3 0 u (lane h k)) * (a (ix3 0 u (lane h k)) * sg (a (ix3 0 u (lane h k))))
def dO (u : Fin 16384) (h : Fin 8) (k : Fin 64) : ℝ := dRow eps (fun k => x (ix4 0 u h k)) (fun k => dy a ct u h k * g (ix1 k)) k
def dA (u : Fin 16384) (h : Fin 8) (k : Fin 64) : ℝ := ct (ix3 0 u (lane h k)) * (x (ix4 0 u h k) * sc x u h) * g (ix1 k)
  * (sg (a (ix3 0 u (lane h k))) * (1 + a (ix3 0 u (lane h k)) * (1 - sg (a (ix3 0 u (lane h k))))))
/-- One row's part of the gradient of the gain. -/
def gPart (h : Fin 8) (k : Fin 64) (u : ℕ) : EReal := if hu : u < 16384 then ((dy a ct ⟨u, hu⟩ h k * (x (ix4 0 ⟨u, hu⟩ h k) * sc x ⟨u, hu⟩ h) : ℝ) : EReal) else 0

def outO : Vec Ideal ⟨2, ![16384, 512]⟩ .f32 := fun i => (dO x a ct g (i 0) (hd (i 1)) (ln (i 1)) : EReal)
def outA : Vec Ideal ⟨2, ![16384, 512]⟩ .f32 := fun i => (dA x a ct g (i 0) (hd (i 1)) (ln (i 1)) : EReal)
def outG : Vec Ideal ⟨2, ![1, 512]⟩ .f32 := fun i => ∑ u ∈ Finset.range 16384, gPart x a ct (hd (i 1)) (ln (i 1)) u

theorem outO_at (u : Fin 16384) (h : Fin 8) (k : Fin 64) : outO x a ct g (ix2 u (lane h k)) = (dO x a ct g u h k : EReal) := by
  change (dO x a ct g u (hd (lane h k)) (ln (lane h k)) : EReal) = _
  rw [hd_lane, ln_lane]

theorem outA_at (u : Fin 16384) (h : Fin 8) (k : Fin 64) : outA x a ct g (ix2 u (lane h k)) = (dA x a ct g u h k : EReal) := by
  change (dA x a ct g u (hd (lane h k)) (ln (lane h k)) : EReal) = _
  rw [hd_lane, ln_lane]

theorem outG_at (h : Fin 8) (k : Fin 64) (i : ℕ) (hi : i = 16384) : ∑ u ∈ Finset.range i, gPart x a ct h k u = outG x a ct (ix2 0 (lane h k)) := by
  subst hi
  change _ = ∑ u ∈ Finset.range 16384, gPart x a ct (hd (lane h k)) (ln (lane h k)) u
  rw [hd_lane, ln_lane]

/-! ## The kernel -/

section Kernel

open Cert.GatedNormIdeal Cert.GatedNormIdeal.Gen

theorem row_head (i j : Fin 512) : k0_pay8 (ix2 i j) = BitVec.ofNat 32 (hd i).val := by
  unfold k0_pay8
  pointwise
  revert i
  decide +kernel

theorem col_head : ∀ l : Fin 512, Scalar.select
    (IntOp.andi
      (IntOp.cmpi CmpIPredicate.ne
        (IntOp.subi (BitVec.setWidth 32 (IntOp.cmpi CmpIPredicate.sgt (BitVec.ofNat 32 l.val) 0#32)) (BitVec.setWidth 32 (IntOp.cmpi CmpIPredicate.slt (BitVec.ofNat 32 l.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 l.val) 64#32) 0#32))
    (IntOp.subi (IntOp.divsi ArithUnit.vector (BitVec.ofNat 32 l.val) 64#32) 1#32)
    (IntOp.divsi ArithUnit.vector (BitVec.ofNat 32 l.val) 64#32) = BitVec.ofNat 32 (hd l).val := by decide +kernel

theorem pay20_eq : k0_pay20 = k0_pay8 := rfl

abbrev cols := iota .tc S512x512 32 [1] iota_S512x512_d1_w32
abbrev inv (v : Vec Ideal S256x512 .f32) := k0_pay12 (k0_pay7 v) cols k0_pay8 64#32 k0_pay9 k0_pay10 k0_pay11
abbrev nrm (v : Vec Ideal S256x512 .f32) := k0_pay13 (k0_pay3 v) (k0_pay7 v) cols k0_pay8 64#32 k0_pay9 k0_pay10 k0_pay11

section Blocks

variable (X A C : S256x512.Idx → ℝ) (w : Vec Ideal S1x512 .f32) (r : Fin 256) (h : Fin 8) (k : Fin 64)

theorem inv_real : inv (fun i => (X i : EReal)) (ix2 r (lane h k)) = (scale eps (fun k => X (ix2 r (lane h k))) : EReal) := by
  unfold inv k0_pay12 k0_pay9 k0_pay10 k0_pay11 k0_pay7 k0_pay3
  pointwise
  simp only [row_head, col_head, hd_lane, ← EReal.coe_mul]
  rw [head_mean h (fun l => X (ix2 r l) * X (ix2 r l)), bits_eps, ← EReal.coe_add]
  exact scale_real eps (fun k => X (ix2 r (lane h k))) eps_pos

theorem nrm_real : nrm (fun i => (X i : EReal)) (ix2 r (lane h k)) = ((X (ix2 r (lane h k)) * scale eps (fun k => X (ix2 r (lane h k))) : ℝ) : EReal) := by
  rw [EReal.coe_mul, ← inv_real X r h k]
  unfold nrm k0_pay13 k0_pay3
  pointwise

theorem sig_real (i : S256x512.Idx) : k0_pay15 (k0_pay14 (k0_pay4 (fun i => (A i : EReal)))) (FloatOps.ofBits (F := Ideal) .f32 0x3F800000#32) i = (sg (A i) : EReal) := by
  unfold k0_pay15 k0_pay14 k0_pay4
  pointwise
  rw [zero_sub]
  exact sg_real (A i)

theorem dyn_real (i : S256x512.Idx) : k0_pay17 (k0_pay4 (fun i => (A i : EReal))) (k0_pay6 (fun i => (C i : EReal))) (k0_pay14 (k0_pay4 (fun i => (A i : EReal)))) (FloatOps.ofBits (F := Ideal) .f32 0x3F800000#32) i
    = ((C i * (A i * sg (A i)) : ℝ) : EReal) := by
  rw [EReal.coe_mul, EReal.coe_mul, ← sig_real]
  unfold k0_pay17 k0_pay6 k0_pay4
  pointwise

variable (G : Fin 64 → ℝ) (hw : ∀ h k, w (ix2 0 (lane h k)) = (G k : EReal))
include hw

theorem up_real : k0_pay18 (k0_pay4 (fun i => (A i : EReal))) (k0_pay5 w) (k0_pay6 (fun i => (C i : EReal))) (k0_pay14 (k0_pay4 (fun i => (A i : EReal)))) (FloatOps.ofBits (F := Ideal) .f32 0x3F800000#32) (ix2 r (lane h k))
    = ((C (ix2 r (lane h k)) * (A (ix2 r (lane h k)) * sg (A (ix2 r (lane h k)))) * G k : ℝ) : EReal) := by
  rw [EReal.coe_mul, ← dyn_real, ← hw h k]
  unfold k0_pay18 k0_pay5
  pointwise

theorem gate_real : k0_pay16 (k0_pay4 (fun i => (A i : EReal))) (k0_pay5 w) (k0_pay6 (fun i => (C i : EReal))) (nrm (fun i => (X i : EReal))) (k0_pay14 (k0_pay4 (fun i => (A i : EReal)))) (FloatOps.ofBits (F := Ideal) .f32 0x3F800000#32) (ix2 r (lane h k))
    = ((C (ix2 r (lane h k)) * (X (ix2 r (lane h k)) * scale eps (fun k => X (ix2 r (lane h k)))) * G k
      * (sg (A (ix2 r (lane h k))) * (1 + A (ix2 r (lane h k)) * (1 - sg (A (ix2 r (lane h k)))))) : ℝ) : EReal) := by
  have hs := sig_real A (ix2 r (lane h k))
  unfold k0_pay16
  revert hs
  generalize k0_pay15 (F := Ideal) _ _ = Q
  intro hs
  unfold k0_pay5 k0_pay6 k0_pay4
  pointwise
  rw [nrm_real, hs, hw, ← EReal.coe_one]
  simp only [← EReal.coe_mul, ← EReal.coe_sub, ← EReal.coe_add]

theorem rows_real : k0_pay22 (inv (fun i => (X i : EReal))) (nrm (fun i => (X i : EReal)))
      (k0_pay18 (k0_pay4 (fun i => (A i : EReal))) (k0_pay5 w) (k0_pay6 (fun i => (C i : EReal))) (k0_pay14 (k0_pay4 (fun i => (A i : EReal)))) (FloatOps.ofBits (F := Ideal) .f32 0x3F800000#32))
      (k0_pay19 (k0_pay4 (fun i => (A i : EReal))) (k0_pay5 w) (k0_pay6 (fun i => (C i : EReal))) (nrm (fun i => (X i : EReal))) (k0_pay14 (k0_pay4 (fun i => (A i : EReal)))) (FloatOps.ofBits (F := Ideal) .f32 0x3F800000#32))
      cols k0_pay20 64#32 k0_pay21 0#32 (ix2 r (lane h k))
    = (dRow eps (fun k => X (ix2 r (lane h k))) (fun k => C (ix2 r (lane h k)) * (A (ix2 r (lane h k)) * sg (A (ix2 r (lane h k)))) * G k) k : EReal) := by
  have hp : ∀ l : Fin 512, k0_pay19 (k0_pay4 (fun i => (A i : EReal))) (k0_pay5 w) (k0_pay6 (fun i => (C i : EReal))) (nrm (fun i => (X i : EReal))) (k0_pay14 (k0_pay4 (fun i => (A i : EReal)))) (FloatOps.ofBits (F := Ideal) .f32 0x3F800000#32) (ix2 r l)
      = ((C (ix2 r l) * (A (ix2 r l) * sg (A (ix2 r l))) * G (ln l) * (X (ix2 r l) * scale eps (fun k => X (ix2 r (lane (hd l) k)))) : ℝ) : EReal) := fun l => by
    obtain ⟨h, k, rfl⟩ := lane_surj l
    rw [hd_lane, ln_lane, EReal.coe_mul, ← nrm_real, ← up_real A C w r h k G hw]
    unfold k0_pay19
    pointwise
  have hu := up_real A C w r h k G hw
  revert hp hu
  generalize k0_pay19 (F := Ideal) _ _ _ _ _ _ = P
  generalize k0_pay18 (F := Ideal) _ _ _ _ _ = U
  intro hp hu
  unfold k0_pay22
  pointwise
  unfold k0_pay21
  pointwise
  simp only [hp, pay20_eq, row_head, col_head, hd_lane]
  rw [head_mean h (fun l => C (ix2 r l) * (A (ix2 r l) * sg (A (ix2 r l))) * G (ln l) * (X (ix2 r l) * scale eps (fun k => X (ix2 r (lane (hd l) k))))), nrm_real, inv_real, hu]
  simp only [← EReal.coe_mul, ← EReal.coe_sub, hd_lane, ln_lane]
  rfl

end Blocks

variable (m : (ℓ : Loc nD τ sig) → Buf (Elt Ideal) ℓ) (c : Dev nD) (t : Fin cfg0.N)

abbrev arg (r : Ref sig .tc) := m ((c : Thread nD τ).loc r)

theorem idx : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] := by decide +kernel

theorem in0 (r : Fin 256) (h : Fin 8) (k : Fin 64) (u : Fin 16384) (hu : u.val = t.val * 256 + r.val) : iblk m c 0 t (ix2 r (lane h k)) = arg m c main_arg0 (ix4 0 u h k) := by
  blk_simp [iblk]; entry_read; pointwise; blk_ext [iblk, (idx t).1]
  all_goals first | exact congrArg Fin.val (hd_lane h k) | exact congrArg Fin.val (ln_lane h k)

theorem in1 (r : Fin 256) (l : Fin 512) (u : Fin 16384) (hu : u.val = t.val * 256 + r.val) : iblk m c 1 t (ix2 r l) = arg m c main_arg1 (ix3 0 u l) := by
  blk_simp [iblk]; entry_read; pointwise; blk_ext [iblk, (idx t).2.1]

theorem in2 (h : Fin 8) (k : Fin 64) : iblk m c 2 t (ix2 0 (lane h k)) = arg m c main_arg2 (ix1 k) := by
  blk_simp [iblk]; entry_read; pointwise; blk_ext [iblk, (idx t).2.2.1]
  all_goals first | exact congrArg Fin.val (hd_lane h k) | exact congrArg Fin.val (ln_lane h k)

theorem in3 (r : Fin 256) (l : Fin 512) (u : Fin 16384) (hu : u.val = t.val * 256 + r.val) : iblk m c 3 t (ix2 r l) = arg m c main_arg3 (ix3 0 u l) := by
  blk_simp [iblk]; entry_read; pointwise; blk_ext [iblk, (idx t).2.2.2.1]

def row (r : Fin 256) : Fin 16384 := ⟨t.val * 256 + r.val, by have hN : t.val < 64 := t.isLt; omega⟩

variable (x : Heads.Idx → ℝ) (a ct : (Rows 512).Idx → ℝ) (g : (⟨1, ![64]⟩ : Shape).Idx → ℝ)

/-- One grid point's rows, as real arrays. -/
def bx : S256x512.Idx → ℝ := fun i => x (ix4 0 (row t (i 0)) (hd (i 1)) (ln (i 1)))
def bl (f : (Rows 512).Idx → ℝ) : S256x512.Idx → ℝ := fun i => f (ix3 0 (row t (i 0)) (i 1))

theorem bx_at (r : Fin 256) (h : Fin 8) (k : Fin 64) : bx t x (ix2 r (lane h k)) = x (ix4 0 (row t r) h k) := by
  change x (ix4 0 (row t r) (hd (lane h k)) (ln (lane h k))) = _
  rw [hd_lane, ln_lane]

theorem bl_at (f : (Rows 512).Idx → ℝ) (r : Fin 256) (l : Fin 512) : bl t f (ix2 r l) = f (ix3 0 (row t r) l) := rfl

/-- What a grid point stores of the two gradients it writes whole. -/
abbrev rowsOut := k0_pay22 (inv (iblk m c 0 t)) (nrm (iblk m c 0 t)) (k0_pay18 (k0_pay4 (iblk m c 1 t)) (k0_pay5 (iblk m c 2 t)) (k0_pay6 (iblk m c 3 t)) (k0_pay14 (k0_pay4 (iblk m c 1 t))) (FloatOps.ofBits (F := Ideal) .f32 0x3F800000#32))
      (k0_pay19 (k0_pay4 (iblk m c 1 t)) (k0_pay5 (iblk m c 2 t)) (k0_pay6 (iblk m c 3 t)) (nrm (iblk m c 0 t)) (k0_pay14 (k0_pay4 (iblk m c 1 t))) (FloatOps.ofBits (F := Ideal) .f32 0x3F800000#32)) cols k0_pay20 64#32 k0_pay21 0#32
abbrev gateOut := k0_pay16 (k0_pay4 (iblk m c 1 t)) (k0_pay5 (iblk m c 2 t)) (k0_pay6 (iblk m c 3 t)) (nrm (iblk m c 0 t)) (k0_pay14 (k0_pay4 (iblk m c 1 t))) (FloatOps.ofBits (F := Ideal) .f32 0x3F800000#32)

theorem out_start (h0 : t.val % 64 = 0) : outsAt0 m c t.val t.isLt =
    (rowsOut m c t,
    gateOut m c t,
    k0_pay2 (nrm (iblk m c 0 t)) (k0_pay17 (k0_pay4 (iblk m c 1 t)) (k0_pay6 (iblk m c 3 t)) (k0_pay14 (k0_pay4 (iblk m c 1 t))) (FloatOps.ofBits (F := Ideal) .f32 0x3F800000#32)) (k0_pay1 (F := Ideal))) := by
  rw [outsAt0_A m c t h0]
  frame_out

theorem out_next (h0 : ¬t.val % 64 = 0) : outsAt0 m c t.val t.isLt =
    (rowsOut m c t,
    gateOut m c t,
    k0_pay2 (nrm (iblk m c 0 t)) (k0_pay17 (k0_pay4 (iblk m c 1 t)) (k0_pay6 (iblk m c 3 t)) (k0_pay14 (k0_pay4 (iblk m c 1 t))) (FloatOps.ofBits (F := Ideal) .f32 0x3F800000#32)) (outsAt0 m c (t.val - 1) (Nat.lt_of_le_of_lt (Nat.sub_le _ _) t.isLt)).2.2) := by
  rw [outsAt0_B m c t h0]
  frame_out

theorem rows_at : (outsAt0 m c t.val t.isLt).1 = rowsOut m c t := by
  by_cases z : t.val % 64 = 0
  · rw [out_start m c t z]
  · rw [out_next m c t z]

theorem gate_at : (outsAt0 m c t.val t.isLt).2.1 = gateOut m c t := by
  by_cases z : t.val % 64 = 0
  · rw [out_start m c t z]
  · rw [out_next m c t z]

section Real

variable (h0 : arg m c main_arg0 = fun i => (x i : EReal)) (h1 : arg m c main_arg1 = fun i => (a i : EReal)) (h2 : arg m c main_arg2 = fun i => (g i : EReal)) (h3 : arg m c main_arg3 = fun i => (ct i : EReal))

include h0 in
theorem block0 : iblk m c 0 t = fun i => (bx t x i : EReal) := by
  funext i
  obtain ⟨r, l, rfl⟩ : ∃ (r : Fin 256) (l : Fin 512), i = ix2 r l := ⟨i 0, i 1, eq_ix2 i⟩
  obtain ⟨h, k, rfl⟩ := lane_surj l
  rw [in0 m c t r h k (row t r) rfl, h0, bx_at]

include h1 in
theorem block1 : iblk m c 1 t = fun i => (bl t a i : EReal) := by
  funext i
  obtain ⟨r, l, rfl⟩ : ∃ (r : Fin 256) (l : Fin 512), i = ix2 r l := ⟨i 0, i 1, eq_ix2 i⟩
  rw [in1 m c t r l (row t r) rfl, h1, bl_at]

include h3 in
theorem block3 : iblk m c 3 t = fun i => (bl t ct i : EReal) := by
  funext i
  obtain ⟨r, l, rfl⟩ : ∃ (r : Fin 256) (l : Fin 512), i = ix2 r l := ⟨i 0, i 1, eq_ix2 i⟩
  rw [in3 m c t r l (row t r) rfl, h3, bl_at]

include h0 h1 h3 in
theorem acc_block (v : Vec Ideal S1x512 .f32) (h : Fin 8) (k : Fin 64) :
    k0_pay2 (nrm (iblk m c 0 t)) (k0_pay17 (k0_pay4 (iblk m c 1 t)) (k0_pay6 (iblk m c 3 t)) (k0_pay14 (k0_pay4 (iblk m c 1 t))) (FloatOps.ofBits (F := Ideal) .f32 0x3F800000#32)) v (ix2 0 (lane h k))
      = v (ix2 0 (lane h k)) + ∑ r : Fin 256, gPart x a ct h k (t.val * 256 + r.val) := by
  have hd := fun i => dyn_real (bl t a) (bl t ct) i
  rw [block0 m c t x h0, block1 m c t a h1, block3 m c t ct h3]
  revert hd
  generalize k0_pay17 (F := Ideal) _ _ _ _ = D
  intro hd
  unfold k0_pay2
  pointwise
  refine congrArg _ (Finset.sum_congr rfl fun r _ => ?_)
  rw [hd, nrm_real, ← EReal.coe_mul]
  refine Eq.trans ?_ (dif_pos (row t r).isLt).symm
  simp only [bx_at, bl_at]
  rfl

include h0 h1 h3 in
theorem gain_at (h : Fin 8) (k : Fin 64) : ∀ (n : ℕ) (hn : n < cfg0.N), (outsAt0 m c n hn).2.2 (ix2 0 (lane h k))
    = ∑ b ∈ Finset.range (n + 1), ∑ r : Fin 256, gPart x a ct h k (b * 256 + r.val) := by
  intro n
  induction n with
  | zero =>
    intro hn
    rw [out_start m c ⟨0, hn⟩ rfl]
    refine (acc_block m c ⟨0, hn⟩ x a ct h0 h1 h3 _ h k).trans ?_
    unfold k0_pay1
    pointwise
    rw [Finset.sum_range_one]
    simp only [Nat.zero_mul, Nat.zero_add]
  | succ n ih =>
    intro hn
    have hN : n + 1 < 64 := hn
    rw [out_next m c ⟨n + 1, hn⟩ (by rw [Nat.mod_eq_of_lt hN]; omega), Finset.sum_range_succ _ (n + 1)]
    exact (acc_block m c ⟨n + 1, hn⟩ x a ct h0 h1 h3 _ h k).trans (congrArg (· + _) (ih _))

include h0 h1 h3 in
theorem arr6 : (dats m 0 c).arrAt 6 cfg0.N = outG x a ct := by
  refine (dats m 0 c).arrAt_eq_of_covers 6 _ (by decide +kernel) fun t hf y => ?_
  have hl := (flush0_6 t).1 hf
  blk_simp
  rw [after0_6]
  obtain ⟨b, l, rfl⟩ : ∃ (b : Fin 1) (l : Fin 512), y = ix2 b l := ⟨y 0, y 1, eq_ix2 y⟩
  obtain rfl : b = 0 := Subsingleton.elim _ _
  obtain ⟨h, k, rfl⟩ := lane_surj l
  have hN : t.val < 64 := t.isLt
  obtain ht : t.val = 63 := by omega
  trans outG x a ct (ix2 0 (lane h k))
  · refine (gain_at m c x a ct h0 h1 h3 h k t.val t.isLt).trans ?_
    rw [ht, sum_in_blocks]
    exact outG_at x a ct h k _ (by norm_num)
  · generalize outG x a ct = d
    blk_ext [(idx t).2.2.2.2.2.2]

include h0 h1 h2 h3 in
theorem arr4 : (dats m 0 c).arrAt 4 cfg0.N = outO x a ct g := by
  refine (dats m 0 c).arrAt_eq_of_covers 4 _ (by decide +kernel) fun t hf y => ?_
  blk_simp
  rw [after0_4]
  obtain ⟨r, l, rfl⟩ : ∃ (r : Fin 256) (l : Fin 512), y = ix2 r l := ⟨y 0, y 1, eq_ix2 y⟩
  obtain ⟨h, k, rfl⟩ := lane_surj l
  have hN : t.val < 64 := t.isLt
  trans outO x a ct g (ix2 (row t r) (lane h k))
  · have hw : ∀ h k, iblk m c 2 t (ix2 0 (lane h k)) = (g (ix1 k) : EReal) := fun h k => by rw [in2, h2]
    rw [outO_at]
    have e := rows_real (bx t x) (bl t a) (bl t ct) (iblk m c 2 t) r h k (fun k => g (ix1 k)) hw
    rw [← block0 m c t x h0, ← block1 m c t a h1, ← block3 m c t ct h3] at e
    refine Eq.trans (congrFun (rows_at m c t) _) (e.trans ?_)
    simp only [bx_at, bl_at]
    rfl
  · generalize outO x a ct g = d
    unfold row
    blk_ext [(idx t).2.2.2.2.1]

include h0 h1 h2 h3 in
theorem arr5 : (dats m 0 c).arrAt 5 cfg0.N = outA x a ct g := by
  refine (dats m 0 c).arrAt_eq_of_covers 5 _ (by decide +kernel) fun t hf y => ?_
  blk_simp
  rw [after0_5]
  obtain ⟨r, l, rfl⟩ : ∃ (r : Fin 256) (l : Fin 512), y = ix2 r l := ⟨y 0, y 1, eq_ix2 y⟩
  obtain ⟨h, k, rfl⟩ := lane_surj l
  have hN : t.val < 64 := t.isLt
  trans outA x a ct g (ix2 (row t r) (lane h k))
  · have hw : ∀ h k, iblk m c 2 t (ix2 0 (lane h k)) = (g (ix1 k) : EReal) := fun h k => by rw [in2, h2]
    rw [outA_at]
    have e := gate_real (bx t x) (bl t a) (bl t ct) (iblk m c 2 t) r h k (fun k => g (ix1 k)) hw
    rw [← block0 m c t x h0, ← block1 m c t a h1, ← block3 m c t ct h3] at e
    refine Eq.trans (congrFun (gate_at m c t) _) (e.trans ?_)
    simp only [bx_at, bl_at]
    rfl
  · generalize outA x a ct g = d
    unfold row
    blk_ext [(idx t).2.2.2.2.2.1]

end Real

end Kernel

/-! ## The reference -/

section Reference

open Cert.GatedNormRefIdeal Cert.GatedNormRefIdeal.Gen Cert.GatedNormRefIdeal.Read

theorem over_ends (hr : S1x16384x8x1.ReducesTo [0, 3] S16384x8) (v : S1x16384x8x1.Idx → EReal) (u : Fin 16384) (h : Fin 8) : Ideal.hostReduceAdd hr v 0 (ix2 u h) = v (ix4 0 u h 0) := by
  refine (zero_add _).trans (Finset.sum_eq_single _ (fun b hb hn => absurd ?_ hn) fun hn => absurd (Finset.mem_filter.2 ⟨Finset.mem_univ _, ?_⟩) hn)
  · have e := (Finset.mem_filter.1 hb).2
    funext a
    apply Fin.ext
    match a with
    | ⟨0, _⟩ => exact Nat.lt_one_iff.1 (b 0).isLt
    | ⟨1, _⟩ => exact congrArg Fin.val (congrFun e 0)
    | ⟨2, _⟩ => exact congrArg Fin.val (congrFun e 1)
    | ⟨3, _⟩ => exact Nat.lt_one_iff.1 (b 3).isLt
  · funext a
    fin_cases a <;> rfl

theorem over_front (hr : S1x1x8x64.ReducesTo [0, 1] S8x64) (v : S1x1x8x64.Idx → EReal) (h : Fin 8) (k : Fin 64) : Ideal.hostReduceAdd hr v 0 (ix2 h k) = v (ix4 0 0 h k) := by
  refine (zero_add _).trans (Finset.sum_eq_single _ (fun b hb hn => absurd ?_ hn) fun hn => absurd (Finset.mem_filter.2 ⟨Finset.mem_univ _, ?_⟩) hn)
  · have e := (Finset.mem_filter.1 hb).2
    funext a
    apply Fin.ext
    match a with
    | ⟨0, _⟩ => exact Nat.lt_one_iff.1 (b 0).isLt
    | ⟨1, _⟩ => exact Nat.lt_one_iff.1 (b 1).isLt
    | ⟨2, _⟩ => exact congrArg Fin.val (congrFun e 0)
    | ⟨3, _⟩ => exact congrArg Fin.val (congrFun e 1)
  · funext a
    fin_cases a <;> rfl

variable (x : Heads.Idx → ℝ) (a ct : (Rows 512).Idx → ℝ) (g : (⟨1, ![64]⟩ : Shape).Idx → ℝ) (u : Fin 16384) (h : Fin 8) (k : Fin 64)

abbrev up {s : Shape} (f : s.Idx → ℝ) : Vec Ideal s .f32 := fun i => (f i : EReal)

theorem ref7 : val_main_v7 (F := Ideal) (up x) (ix4 0 u h 0) = (meanSq eps (fun k => x (ix4 0 u h k)) : EReal) := by
  unfold val_main_v7 val_main_v6 val_main_v5 val_main_v4 val_main_v3 val_main_v2 val_main_v1 val_main_cst val_main_cst_0 val_main_cst_1
  pointwise
  rw [bits_64, bits_eps]
  exact mean_real eps (fun k => x (ix4 0 u h k)) (by decide)

theorem ref8 : val_main_v8 (F := Ideal) (up x) (ix4 0 u h 0) = (sc x u h : EReal) := by
  refine Eq.trans ?_ (scale_real eps (fun k => x (ix4 0 u h k)) eps_pos)
  rw [← ref7]
  unfold val_main_v8
  pointwise

theorem ref17 : val_main_v17 (F := Ideal) (up a) (ix4 0 u h k) = (a (ix3 0 u (lane h k)) : EReal) := by
  unfold val_main_v17
  pointwise
  rfl

theorem ref21 : val_main_v21 (F := Ideal) (up ct) (ix4 0 u h k) = (ct (ix3 0 u (lane h k)) : EReal) := by
  unfold val_main_v21
  pointwise
  rfl

theorem refSg : val_main_v18_2 (F := Ideal) (up a) (ix4 0 u h k) = (sg (a (ix3 0 u (lane h k))) : EReal) := by
  rw [← sg_real, ← ref17]
  unfold val_main_v18_2 val_main_call0_v4 val_main_call0_v3 val_main_call0_v2 val_main_call0_v1 val_main_call0_v0 val_main_call0_cst_0 val_main_call0_cst
  pointwise

theorem ref23 : val_main_v23 (F := Ideal) (up a) (up ct) (ix4 0 u h k) = (dy a ct u h k : EReal) := by
  unfold val_main_v23 val_main_v18_0
  pointwise
  rw [ref21, ref17, refSg]
  simp only [← EReal.coe_mul]
  rfl

theorem ref30 : val_main_v30 (F := Ideal) (up a) (up g) (up ct) (ix4 0 u h k) = ((dy a ct u h k * g (ix1 k) : ℝ) : EReal) := by
  unfold val_main_v30 val_main_v29 val_main_v14 val_main_v0
  pointwise
  rw [ref23]
  exact (EReal.coe_mul _ _).symm

theorem ref13 : val_main_v13 (F := Ideal) (up x) (ix4 0 u h k) = ((x (ix4 0 u h k) * sc x u h : ℝ) : EReal) := by
  unfold val_main_v13 val_main_v12
  pointwise
  rw [ref8]
  exact (EReal.coe_mul _ _).symm

theorem ref_mean : val_main_v40 (F := Ideal) (up x) (up a) (up g) (up ct) (ix2 u h) = (dMean eps (fun k => x (ix4 0 u h k)) (fun k => dy a ct u h k * g (ix1 k)) : EReal) := by
  have e : val_main_v39 (F := Ideal) (up x) (up a) (up g) (up ct) (ix4 0 u h 0) = (dMean eps (fun k => x (ix4 0 u h k)) (fun k => dy a ct u h k * g (ix1 k)) : EReal) := by
    unfold val_main_v39 val_main_v38 val_main_v37 val_main_v34 val_main_v33 val_main_v32 val_main_v11 val_main_v10 val_main_v9 val_main_cst_2 val_main_cst_5 val_main_cst_6
    pointwise
    simp only [ref30]
    rw [ref8, ref7, bits_half, bits_64]
    exact dMean_real eps (fun k => x (ix4 0 u h k)) (fun k => dy a ct u h k * g (ix1 k)) (by decide) eps_pos
  rw [← e]
  unfold val_main_v40 val_main_cst_7
  pointwise
  exact over_ends _ _ u h

theorem ref_rows : val_main_v47 (F := Ideal) (up x) (up a) (up g) (up ct) = outO x a ct g := by
  funext i
  obtain ⟨u, l, rfl⟩ : ∃ (u : Fin 16384) (l : Fin 512), i = ix2 u l := ⟨i 0, i 1, eq_ix2 i⟩
  obtain ⟨h, k, rfl⟩ := lane_surj l
  rw [outO_at]
  trans val_main_v46 (F := Ideal) (up x) (up a) (up g) (up ct) (ix4 0 u h k)
  · unfold val_main_v47
    pointwise
    exact congrArg _ (congrArg₂ (ix4 0 u) (hd_lane h k) (ln_lane h k))
  · unfold val_main_v46 val_main_v45 val_main_v44 val_main_v43 val_main_v42 val_main_v41 val_main_v36 val_main_v35
    pointwise
    rw [ref30, ref8, ref_mean]
    exact host_row eps (fun k => x (ix4 0 u h k)) (fun k => dy a ct u h k * g (ix1 k)) eps_pos k

theorem ref_gate : val_main_v48 (F := Ideal) (up x) (up a) (up g) (up ct) = outA x a ct g := by
  funext i
  obtain ⟨u, l, rfl⟩ : ∃ (u : Fin 16384) (l : Fin 512), i = ix2 u l := ⟨i 0, i 1, eq_ix2 i⟩
  obtain ⟨h, k, rfl⟩ := lane_surj l
  rw [outA_at]
  trans val_main_v24 (F := Ideal) (up x) (up a) (up g) (up ct) (ix4 0 u h k)
  · unfold val_main_v48 val_main_v25
    pointwise
    exact congrArg _ (congrArg₂ (ix4 0 u) (hd_lane h k) (ln_lane h k))
  · unfold val_main_v24 val_main_call1_v1 val_main_call1_v2 val_main_call1_v0 val_main_v22 val_main_v18_1 val_main_v16 val_main_v15 val_main_v14 val_main_v0 val_main_call0_v7 val_main_call0_v6 val_main_call0_cst_1
    pointwise
    rw [ref13, ref21, ref17, refSg, ← EReal.coe_one]
    simp only [← EReal.coe_mul, ← EReal.coe_sub, ← EReal.coe_add]
    refine congrArg _ ?_
    unfold dA
    ring

theorem ref_gain : val_main_v49 (F := Ideal) (up x) (up a) (up ct) = outG x a ct := by
  funext i
  obtain ⟨b, l, rfl⟩ : ∃ (b : Fin 1) (l : Fin 512), i = ix2 b l := ⟨i 0, i 1, eq_ix2 i⟩
  obtain rfl : b = 0 := Subsingleton.elim _ _
  obtain ⟨h, k, rfl⟩ := lane_surj l
  rw [← outG_at x a ct h k 16384 rfl, Finset.sum_range]
  trans val_main_v28 (F := Ideal) (up x) (up a) (up ct) (ix4 0 0 h k)
  · trans val_main_v31 (F := Ideal) (up x) (up a) (up ct) (ix2 h k)
    · unfold val_main_v49
      pointwise
      exact congrArg _ (congrArg₂ ix2 (hd_lane h k) (ln_lane h k))
    · unfold val_main_v31 val_main_cst_4
      pointwise
      exact over_front _ _ h k
  · unfold val_main_v28 val_main_v27 val_main_v26 val_main_cst_3
    pointwise
    refine Finset.sum_congr rfl fun u _ => ?_
    rw [ref13, ref23, ← EReal.coe_mul, mul_comm]
    unfold gPart
    rw [dif_pos u.isLt]

end Reference

section Pre

open Cert.Pre_finite_gated

theorem entries_real [Cert.Pre_finite_gated.Facts] (x0 : Heads.Idx → EReal) (x1 x3 : (Rows 512).Idx → EReal) (x2 : (⟨1, ![64]⟩ : Shape).Idx → EReal) (hp : fn (F := Ideal) x0 x1 x2 x3 = fun _ => 1#1) :
    (∃ x : Heads.Idx → ℝ, x0 = fun i => (x i : EReal)) ∧ (∃ a : (Rows 512).Idx → ℝ, x1 = fun i => (a i : EReal)) ∧ (∃ g : (⟨1, ![64]⟩ : Shape).Idx → ℝ, x2 = fun i => (g i : EReal)) ∧ ∃ ct : (Rows 512).Idx → ℝ, x3 = fun i => (ct i : EReal) := by
  have h0 := congrFun hp ix0
  dsimp only [fn, fn_part1] at h0
  have : Subsingleton S_.Idx := ⟨fun a b => funext fun d => d.elim0⟩
  obtain ⟨h0, h5⟩ := IntOp.andi_eq_one.1 h0
  obtain ⟨h1, h2⟩ := IntOp.andi_eq_one.1 h0
  obtain ⟨h3, h4⟩ := IntOp.andi_eq_one.1 h1
  exact ⟨reals_of_all x0 _ (fun _ => bits_top) _ _ _ _ h3, reals_of_all x1 _ (fun _ => bits_top) _ _ _ _ h4, reals_of_all x2 _ (fun _ => bits_top) _ _ _ _ h2, reals_of_all x3 _ (fun _ => bits_top) _ _ _ _ h5⟩

end Pre

theorem frame_k : Cert.quiescent_GatedNorm := fun m ρ _ => Cert.GatedNorm.Gen.frame m ρ
theorem frame_i : Cert.quiescent_GatedNormIdeal := fun m ρ _ => Cert.GatedNormIdeal.Gen.frame m ρ
theorem frame_ip [Cert.Pre_finite_gated.Facts] : Cert.quiescent_GatedNormIdeal_pre_finite_gated := fun m ρ _ => Cert.GatedNormIdeal.Gen.frame m ρ
theorem frame_r : Cert.quiescent_GatedNormRefIdeal := fun m ρ _ =>
  θ_run_mono (Cert.GatedNormRefIdeal.Value.run (F := Ideal) m ρ) fun r h => ⟨fun c => (h c).2.2.2, sem_eq_zero_of_no_sems (by decide) r.2⟩
theorem frame_rp [Cert.Pre_finite_gated.Facts] : Cert.quiescent_GatedNormRefIdeal_pre_finite_gated := fun m ρ _ => frame_r m ρ trivial

theorem algebraic [Cert.Pre_finite_gated.Facts] : Cert.algebraic_GatedNormIdeal_GatedNormRefIdeal_pre_finite_gated := by
  intro m s m' s' hpre hagree
  have hr := fun c => entries_real _ _ _ _ (hpre c)
  choose x hx using fun c => (hr c).1
  choose a ha using fun c => (hr c).2.1
  choose g hg using fun c => (hr c).2.2.1
  choose ct hc using fun c => (hr c).2.2.2
  refine ⟨fun c => outO (x c) (a c) (ct c) (g c), fun c => outA (x c) (a c) (ct c) (g c), fun c => outG (x c) (a c) (ct c), ?_, ?_⟩
  · exact θ_run_mono (Cert.GatedNormIdeal.Value.run_blocks m s) fun r h c =>
      ⟨(h c).1.trans (arr4 m c _ _ _ _ (hx c) (ha c) (hg c) (hc c)), (h c).2.1.trans (arr5 m c _ _ _ _ (hx c) (ha c) (hg c) (hc c)), (h c).2.2.1.trans (arr6 m c _ _ _ (hx c) (ha c) (hc c)), (h c).2.2.2⟩
  · refine θ_run_mono (Cert.GatedNormRefIdeal.Value.run (F := Ideal) m' s') fun r h c => ?_
    obtain ⟨a0, a1, a2, a3⟩ := hagree c
    refine ⟨(h c).1.trans ((Cert.GatedNormRefIdeal.Read.val_main_v47_eq _ _).trans ?_), (h c).2.1.trans ((Cert.GatedNormRefIdeal.Read.val_main_v48_eq _ _ _ _).trans ?_),
      (h c).2.2.1.trans ((Cert.GatedNormRefIdeal.Read.val_main_v49_eq _ _ _).trans ?_), (h c).2.2.2⟩
    · rw [a0, a1, a2, a3]
      erw [hx c, ha c, hg c, hc c]
      exact ref_rows _ _ _ _
    · rw [a0, a1, a2, a3]
      erw [hx c, ha c, hg c, hc c]
      exact ref_gate _ _ _ _
    · rw [a0, a1, a3]
      erw [hx c, ha c, hc c]
      exact ref_gain _ _ _

end Cert.RowNorm.Gated
-- ==== Proof.Scan.lean ====
module

public import proofs.«01_k».proof.Proof.RowNorm
public import proofs.«01_k».proof.Proof.Gen.PrepFIdeal.Value
public import proofs.«01_k».proof.Proof.Gen.PrepBIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

/-! # The gates of the scan and their gradients, chunk by chunk -/

noncomputable section

namespace Cert.Chunk

open Idealize.ShloMosaic Idealize.ShloMosaic.TcCoe Idealize.SL.Sem Cert.Reals

/-! ## One column of one chunk, over the reals -/

def T : ℝ := 10633824 * 2 ^ (-123 : ℤ)

theorem T_pos : 0 < T := by unfold T; positivity

theorem bits_T : Ideal.ofBits .f32 0x0DA24260#32 = (T : EReal) := by
  simp [Ideal.ofBits, Ideal.ieee, T]

def sg (v : ℝ) : ℝ := 1 / (1 + Real.exp (-v))

theorem sg_neg (v : ℝ) : sg (-v) = 1 - sg v := by
  unfold sg
  rw [neg_neg, Real.exp_neg]
  have h := Real.exp_pos v
  field_simp
  ring

section Spec

variable (le : Fin 16 → Fin 16 → Prop) [DecidableRel le] (β : ℝ) (q z a b c : Fin 16 → ℝ) (d : ℝ) (i : Fin 16)

def gate : ℝ := β + (1 - β) * sg (z i)
def key : ℝ := (1 - β) * sg (-z i)
def lf : ℝ := Real.log (max (gate β z i) T)
/-- The running sum of the log gates; `le j i` says that token `i`'s sum counts token `j`. -/
def cs : ℝ := ∑ j, if le j i then lf β z j else 0
def tot : ℝ := ∑ j, lf β z j
def dq : ℝ := a i * Real.exp (cs le β z i)
def dkey : ℝ := b i * Real.exp (-cs le β z i) + c i * Real.exp (tot β z - cs le β z i)
def te : ℝ := c i * key β z i * Real.exp (tot β z - cs le β z i)
def db : ℝ := a i * q i * Real.exp (cs le β z i) - b i * key β z i * Real.exp (-cs le β z i) - te le β z c i
def dtot : ℝ := d * Real.exp (tot β z) + ∑ j, te le β z c j
def dlf : ℝ := (∑ j, if le i j then db le β q z a b c j else 0) + dtot le β z c d
def df : ℝ := if T < gate β z i then dlf le β q z a b c d i / gate β z i else 0
def dz : ℝ := (df le β q z a b c d i - dkey le β z b c i) * (1 - β) * sg (z i) * sg (-z i)
def dlb : ℝ := df le β q z a b c d i * sg (-z i) - dkey le β z b c i * sg (-z i)

end Spec

/-! ## Masks, and products with a mask of three pieces that are the whole, nothing and nothing -/

theorem pieces {ι : Type} [Fintype ι] (M : ι → EReal) (p : ι → Prop) [DecidablePred p] (hM : ∀ s, M s = if p s then 1 else 0) (x : ι → EReal) (y : ι → ℝ) (hx : ∀ s, x s = (y s : EReal)) :
    ∑ s, M s * x s + ∑ s, M s * (x s - x s) + ∑ s, M s * (x s - x s - (x s - x s)) = ((∑ s, if p s then y s else 0 : ℝ) : EReal) := by
  simp only [hM, hx, ← EReal.coe_sub, sub_self, EReal.coe_zero, mul_zero, Finset.sum_const_zero, add_zero, ite_mul, one_mul, zero_mul]
  simp only [sub_zero, ite_self, Finset.sum_const_zero, add_zero]
  rw [← coe_sum]
  refine Finset.sum_congr rfl fun s _ => ?_
  split <;> rfl

def rw (n i : Fin 16) : Fin 256 := ⟨n.val * 16 + i.val, by omega⟩

theorem rw_surj (r : Fin 256) : ∃ n i, r = rw n i := ⟨⟨r.val / 16, by omega⟩, ⟨r.val % 16, by omega⟩, Fin.ext (by simp only [rw]; omega)⟩

theorem over_rows {M : Type} [AddCommMonoid M] (f : Fin 256 → M) : ∑ r, f r = ∑ n, ∑ i, f (rw n i) := by
  rw [← Fintype.sum_prod_type' (fun n i => f (rw n i)), ← (finProdFinEquiv (m := 16) (n := 16)).sum_comp f]
  exact Finset.sum_congr rfl fun p _ => congrArg f (Fin.ext (by simp only [finProdFinEquiv, rw, Equiv.coe_fn_mk]; omega))

theorem chunk_pieces (M : Fin 256 → EReal) (n : Fin 16) (p : Fin 16 → Prop) [DecidablePred p] (hM : ∀ n' j, M (rw n' j) = if n = n' ∧ p j then 1 else 0)
    (x : Fin 256 → EReal) (y : Fin 16 → Fin 16 → ℝ) (hx : ∀ n j, x (rw n j) = (y n j : EReal)) :
    ∑ s, M s * x s + ∑ s, M s * (x s - x s) + ∑ s, M s * (x s - x s - (x s - x s)) = ((∑ j, if p j then y n j else 0 : ℝ) : EReal) := by
  simp only [over_rows, ← Fintype.sum_prod_type' (fun n j => M (rw n j) * x (rw n j)), ← Fintype.sum_prod_type' (fun n j => M (rw n j) * (x (rw n j) - x (rw n j))),
    ← Fintype.sum_prod_type' (fun n j => M (rw n j) * (x (rw n j) - x (rw n j) - (x (rw n j) - x (rw n j))))]
  rw [pieces (fun t : Fin 16 × Fin 16 => M (rw t.1 t.2)) (fun t => n = t.1 ∧ p t.2) (fun t => hM t.1 t.2) (fun t => x (rw t.1 t.2)) (fun t => y t.1 t.2) (fun t => hx t.1 t.2)]
  rw [Fintype.sum_prod_type]
  refine congrArg _ ((Finset.sum_eq_single n (fun m _ hm => ?_) fun h => absurd (Finset.mem_univ _) h).trans ?_)
  · exact Finset.sum_eq_zero fun j _ => if_neg fun h => hm h.1.symm
  · exact Finset.sum_congr rfl fun j _ => by simp only [true_and]

theorem select_one (e : BitVec 1) (p : Prop) [Decidable p] (h : e = if p then 1#1 else 0#1) : Scalar.select e (1 : EReal) 0 = if p then 1 else 0 := by
  rw [h]
  split <;> rfl

theorem sg_real (v : ℝ) : Ideal.div 1 (1 + Ideal.exp (-(v : EReal))) = (sg v : EReal) := by
  rw [← EReal.coe_one, ← EReal.coe_neg, Ideal.exp_coe, ← EReal.coe_add, div_real _ _ (by positivity)]
  rfl

theorem sg_pos_part (v : ℝ) : Ideal.div 1 (1 + Ideal.exp (0 - ((v : ℝ) : EReal))) = (sg v : EReal) := by rw [zero_sub, sg_real]

theorem sg_neg_part (v : ℝ) : Ideal.div (Ideal.exp (0 - ((v : ℝ) : EReal))) (1 + Ideal.exp (0 - ((v : ℝ) : EReal))) = (sg (-v) : EReal) := by
  rw [zero_sub, ← EReal.coe_one, ← EReal.coe_neg, Ideal.exp_coe, ← EReal.coe_add, div_real _ _ (by positivity)]
  refine congrArg _ ?_
  unfold sg
  rw [neg_neg, Real.exp_neg]
  have h := Real.exp_pos v
  field_simp
  ring

theorem abs_real (y : ℝ) : FloatOps.absf (F := Ideal) (φ := .f32) (y : EReal) = ((|y| : ℝ) : EReal) := by
  change max (y : EReal) (-(y : EReal)) = _
  rw [← EReal.coe_neg, coe_max]
  rfl

section Kernel

open Cert.PrepFIdeal Cert.PrepFIdeal.Gen

section Entries

variable (v : Vec Ideal S1x256x1024 .f32) (w : Vec Ideal S1x1x1024 .f32) (r : Fin 256) (l : Fin 1024) (y β : ℝ) (h : v (ix3 0 r l) = (y : EReal)) (hw : w (ix3 0 0 l) = (β : EReal))

include h in
theorem p16 : k0_pay16 v (ix2 r l) = (sg y : EReal) := by
  unfold k0_pay16 k0_pay15 k0_pay14 k0_pay13 k0_pay12
  pointwise
  rw [h, abs_real, sg_pos_part, sg_neg_part]
  rcases le_total 0 y with hy | hy
  · rw [if_pos (EReal.coe_nonneg.2 hy), abs_of_nonneg hy]
  · by_cases h0 : y = 0
    · subst h0
      simp
    · rw [if_neg (fun e => h0 (le_antisymm hy (EReal.coe_nonneg.1 e))), abs_of_nonpos hy, neg_neg]

include h in
theorem p17 : k0_pay17 v (ix2 r l) = (sg (-y) : EReal) := by
  unfold k0_pay17 k0_pay15 k0_pay14 k0_pay13 k0_pay12
  pointwise
  rw [h, abs_real, sg_pos_part, sg_neg_part]
  rcases le_total 0 y with hy | hy
  · rw [if_pos (EReal.coe_nonneg.2 hy), abs_of_nonneg hy]
  · by_cases h0 : y = 0
    · subst h0
      simp
    · rw [if_neg (fun e => h0 (le_antisymm hy (EReal.coe_nonneg.1 e))), abs_of_nonpos hy]

include h hw in
theorem p18 : k0_pay18 w v (ix2 r l) = ((β + (1 - β) * sg y : ℝ) : EReal) := by
  have e := p16 v r l y h
  unfold k0_pay18
  revert e
  generalize k0_pay16 (F := Ideal) v = P
  intro e
  unfold k0_pay11
  pointwise
  rw [e, hw, ← EReal.coe_one]
  simp only [← EReal.coe_mul, ← EReal.coe_sub, ← EReal.coe_add]

include h hw in
theorem p19 : k0_pay19 w v (ix2 r l) = ((Real.log (max (β + (1 - β) * sg y) T) : ℝ) : EReal) := by
  have e := p18 v w r l y β h hw
  unfold k0_pay19
  revert e
  generalize k0_pay18 (F := Ideal) w v = P
  intro e
  pointwise
  rw [e, bits_T, coe_max, log_real _ (lt_max_of_lt_right T_pos)]

include h hw in
theorem p20 : k0_pay20 w v (ix2 r l) = (((1 - β) * sg (-y) : ℝ) : EReal) := by
  have e := p17 v r l y h
  unfold k0_pay20
  revert e
  generalize k0_pay17 (F := Ideal) v = P
  intro e
  unfold k0_pay11
  pointwise
  rw [e, hw, ← EReal.coe_one]
  simp only [← EReal.coe_mul, ← EReal.coe_sub]

end Entries

theorem forward_mask (n n' i j : Fin 16) : k0_pay8 (F := Ideal) (iota .tc S256x256 32 [0] iota_S256x256_d0_w32) (iota .tc S256x256 32 [1] iota_S256x256_d1_w32) k0_pay2 k0_pay3 k0_pay4 k0_pay5 k0_pay6 (ix2 (rw n i) (rw n' j))
    = if n = n' ∧ j ≤ i then 1 else 0 := by
  unfold k0_pay8 k0_pay7 k0_pay2 k0_pay3 k0_pay4 k0_pay5 k0_pay6
  pointwise
  refine select_one _ _ ?_
  revert n n' i j
  decide +kernel

theorem chunk_mask (n n' i j : Fin 16) : k0_pay9 (F := Ideal) k0_pay2 k0_pay3 k0_pay4 k0_pay5 k0_pay6 (ix2 (rw n i) (rw n' j)) = if n = n' ∧ True then 1 else 0 := by
  unfold k0_pay9 k0_pay7 k0_pay2 k0_pay3 k0_pay4 k0_pay5 k0_pay6
  pointwise
  refine select_one _ _ ?_
  revert n n' i j
  decide +kernel

theorem row_mask (n n' j : Fin 16) : k0_pay10 (F := Ideal) (ix2 n (rw n' j)) = if n = n' ∧ True then 1 else 0 := by
  unfold k0_pay10
  pointwise
  refine select_one _ _ ?_
  revert n n' j
  decide +kernel

section Block

variable (le : Fin 16 → Fin 16 → Prop) [DecidableRel le] (M : FVec Ideal S256x256 .f32) (hM : ∀ n n' i j, M (ix2 (rw n i) (rw n' j)) = if n = n' ∧ le j i then 1 else 0)
  (l : Fin 1024) (β : ℝ) (q z a b c : Fin 16 → Fin 16 → ℝ) (d : Fin 16 → ℝ) (n i : Fin 16)

/-- The running sums of one block's log gates. -/
abbrev sums (M : FVec Ideal S256x256 .f32) (w : Vec Ideal S1x1x1024 .f32) (v : Vec Ideal S1x256x1024 .f32) (k : FVec Ideal S256x1024 .bf16 → FVec Ideal S256x256 .bf16 → FVec Ideal S256x1024 .f32 → FVec Ideal S256x1024 .f32) :=
  k (k0_pay24 w v) (k0_pay25 M) (k0_pay26 M w v)

section Logs

variable (w : Vec Ideal S1x1x1024 .f32) (v : Vec Ideal S1x256x1024 .f32) (hL : ∀ n i, k0_pay19 w v (ix2 (rw n i) l) = (lf β (z n) i : EReal))
include hL

include hM in
theorem p27 : sums M w v k0_pay27 (ix2 (rw n i) l) = (cs le β (z n) i : EReal) := by
  unfold sums k0_pay27 k0_pay26 k0_pay25 k0_pay24 k0_pay23 k0_pay22 k0_pay21
  revert hL
  generalize k0_pay19 w v = L
  intro hL
  pointwise
  exact chunk_pieces (fun s => M (ix2 (rw n i) s)) n (fun j => le j i) (fun n' j => hM n n' i j) (fun s => L (ix2 s l)) (fun n j => lf β (z n) j) hL

include hM in
theorem p28 : sums M w v k0_pay28 (ix2 (rw n i) l) = ((Real.exp (cs le β (z n) i) : ℝ) : EReal) := by
  rw [← Ideal.exp_coe, ← p27 le M hM l β z n i w v hL]
  rfl

include hM in
theorem p29 : sums M w v k0_pay29 (ix2 (rw n i) l) = ((Real.exp (-cs le β (z n) i) : ℝ) : EReal) := by
  have e := p27 le M hM l β z n i w v hL
  unfold sums at e ⊢
  unfold k0_pay29
  revert e
  generalize k0_pay27 (F := Ideal) _ _ _ = P
  intro e
  pointwise
  rw [e, zero_sub, ← EReal.coe_neg, Ideal.exp_coe]

include hM in
theorem p30 (E : FVec Ideal S256x256 .f32) (hE : ∀ n n' i j, E (ix2 (rw n i) (rw n' j)) = if n = n' ∧ True then 1 else 0) :
    sums M w v (k0_pay30 E (k0_pay19 w v)) (ix2 (rw n i) l) = ((Real.exp (tot β (z n) - cs le β (z n) i) : ℝ) : EReal) := by
  have e := p27 le M hM l β z n i w v hL
  unfold sums at e ⊢
  unfold k0_pay30
  revert e hL
  generalize k0_pay27 (F := Ideal) _ _ _ = P
  generalize k0_pay19 w v = L
  intro hL e
  pointwise
  have s := chunk_pieces (fun s => E (ix2 (rw n i) s)) n (fun _ => True) (fun n' j => hE n n' i j) (fun s => L (ix2 s l)) (fun n j => lf β (z n) j) hL
  simp only [if_true] at s
  refine (congrArg Ideal.exp (congrArg₂ (· - ·) s e)).trans ?_
  rw [← EReal.coe_sub, Ideal.exp_coe]
  rfl

end Logs

end Block

end Kernel

end Cert.Chunk
-- ==== Proof.ScanBody.lean ====
module

public import proofs.«01_k».proof.Proof.Scan
public import proofs.«01_k».proof.Proof.Gen.PrepFIdeal.Value
public import proofs.«01_k».proof.Proof.Gen.PrepBIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

/-! # The gradients of one block of chunks -/

noncomputable section

namespace Cert.Chunk

open Idealize.ShloMosaic Idealize.ShloMosaic.TcCoe Idealize.SL.Sem Cert.Reals

open Cert.PrepFIdeal Cert.PrepFIdeal.Gen

variable (le : Fin 16 → Fin 16 → Prop) [DecidableRel le] (M : FVec Ideal S256x256 .f32) (hM : ∀ n n' i j, M (ix2 (rw n i) (rw n' j)) = if n = n' ∧ le j i then 1 else 0)
  (l : Fin 1024) (β : ℝ) (q z a b c : Fin 16 → Fin 16 → ℝ) (d : Fin 16 → ℝ) (n i : Fin 16)

/-! ## From the vectors a block's lines hand on -/

section Lines

variable (L key e0 e1 te vq g dk ng : FVec Ideal S256x1024 .f32) (dt : FVec Ideal S16x1024 .f32) (R : FVec Ideal S16x256 .f32) (v155 v157 v159 v170 : Vec Ideal S1x256x1024 .f32) (v178 : Vec Ideal S1x16x1024 .f32)
  (v89 : FVec Ideal S1x1024 .f32)
  (hL : ∀ n i, L (ix2 (rw n i) l) = (lf β (z n) i : EReal))
  (hkey : ∀ n i, key (ix2 (rw n i) l) = (Chunk.key β (z n) i : EReal))
  (he0 : ∀ n i, e0 (ix2 (rw n i) l) = ((Real.exp (cs le β (z n) i) : ℝ) : EReal))
  (he1 : ∀ n i, e1 (ix2 (rw n i) l) = ((Real.exp (-cs le β (z n) i) : ℝ) : EReal))
  (hte : ∀ n i, te (ix2 (rw n i) l) = (Chunk.te le β (z n) (c n) i : EReal))
  (ha : ∀ n i, v155 (ix3 0 (rw n i) l) = (a n i : EReal)) (hb : ∀ n i, v157 (ix3 0 (rw n i) l) = (b n i : EReal))
  (hc : ∀ n i, v159 (ix3 0 (rw n i) l) = (c n i : EReal)) (hq : ∀ n i, v170 (ix3 0 (rw n i) l) = (q n i : EReal)) (hd : ∀ n, v178 (ix3 0 n l) = (d n : EReal))
  (hR : ∀ n n' j, R (ix2 n (rw n' j)) = if n = n' ∧ True then 1 else 0)

include hkey he0 he1 hte ha hb hq in
theorem p38 : k0_pay38 key e0 e1 (k0_pay32 v157) te (k0_pay37 v155 v170) (ix2 (rw n i) l) = (db le β (q n) (z n) (a n) (b n) (c n) i : EReal) := by
  unfold k0_pay38 k0_pay37 k0_pay31 k0_pay32
  pointwise
  rw [hkey, he0, he1, hte, ha, hb, hq]
  simp only [← EReal.coe_mul, ← EReal.coe_sub]
  rfl

include hL hte hd hR in
theorem p39 : k0_pay39 R L te v178 (ix2 n l) = (Chunk.dtot le β (z n) (c n) (d n) : EReal) := by
  unfold k0_pay39
  pointwise
  have s := chunk_pieces (fun s => R (ix2 n s)) n (fun _ => True) (fun n' j => hR n n' j) (fun s => L (ix2 s l)) (fun n j => lf β (z n) j) hL
  have u := chunk_pieces (fun s => R (ix2 n s)) n (fun _ => True) (fun n' j => hR n n' j) (fun s => te (ix2 s l)) (fun n j => Chunk.te le β (z n) (c n) j) hte
  simp only [if_true] at s u
  refine (congrArg₂ (· + ·) (congrArg₂ (· * ·) (hd n) (congrArg Ideal.exp s)) u).trans ?_
  rw [Ideal.exp_coe, ← EReal.coe_mul, ← EReal.coe_add]
  rfl

include hM hkey he0 he1 hte ha hb hq in
theorem p44 : k0_pay44 M key e0 e1 (k0_pay32 v157) te (k0_pay37 v155 v170) (ix2 (rw n i) l) + k0_pay45 M key e0 e1 (k0_pay32 v157) te (k0_pay37 v155 v170) (ix2 (rw n i) l)
    = ((∑ j, if le i j then db le β (q n) (z n) (a n) (b n) (c n) j else 0 : ℝ) : EReal) := by
  have e := fun n i => p38 le l β q z a b c n i key e0 e1 te v155 v157 v170 hkey he0 he1 hte ha hb hq
  unfold k0_pay44 k0_pay45 k0_pay43 k0_pay42 k0_pay41 k0_pay40
  revert e
  generalize k0_pay38 (F := Ideal) _ _ _ _ _ _ = P
  intro e
  pointwise
  exact chunk_pieces (fun s => M (ix2 s (rw n i))) n (fun j => le i j) (fun n' j => by rw [hM]; simp only [eq_comm]) (fun s => P (ix2 s l)) (fun n j => db le β (q n) (z n) (a n) (b n) (c n) j) e

end Lines

/-! ## The gates' own gradients -/

section Gates

variable (x y : FVec Ideal S256x1024 .f32) (g dk s ng : FVec Ideal S256x1024 .f32) (dt : FVec Ideal S16x1024 .f32) (R : FVec Ideal S16x256 .f32) (w : FVec Ideal S1x1024 .f32) (v : Vec Ideal S1x1x1024 .f32)
  (hxy : ∀ n i, x (ix2 (rw n i) l) + y (ix2 (rw n i) l) = ((∑ j, if le i j then db le β (q n) (z n) (a n) (b n) (c n) j else 0 : ℝ) : EReal))
  (hg : ∀ n i, g (ix2 (rw n i) l) = (gate β (z n) i : EReal))
  (hdt : ∀ n, dt (ix2 n l) = (Chunk.dtot le β (z n) (c n) (d n) : EReal))
  (hdk : ∀ n i, dk (ix2 (rw n i) l) = (dkey le β (z n) (b n) (c n) i : EReal))
  (hs : ∀ n i, s (ix2 (rw n i) l) = (sg (z n i) : EReal))
  (hng : ∀ n i, ng (ix2 (rw n i) l) = (sg (-z n i) : EReal))
  (hw : w (ix2 0 l) = (β : EReal))
  (hR : ∀ n n' j, R (ix2 n (rw n' j)) = if n = n' ∧ True then 1 else 0)
  (hgT : ∀ n i, gate β (z n) i ≠ T)

include hxy hg hdt hR in
theorem p46 : k0_pay46 R g dt x y (ix2 (rw n i) l) = (df le β (q n) (z n) (a n) (b n) (c n) (d n) i : EReal) := by
  unfold k0_pay46
  pointwise
  have u := pieces (fun m => R (ix2 m (rw n i))) (fun m => m = n ∧ True) (fun m => hR m n i) (fun m => dt (ix2 m l)) (fun m => Chunk.dtot le β (z m) (c m) (d m)) hdt
  simp only [and_true, Finset.sum_ite_eq', Finset.mem_univ, if_true] at u
  rw [hxy, hg, bits_T]
  rw [u]
  unfold df
  by_cases h : T < gate β (z n) i
  · rw [if_pos (EReal.coe_lt_coe_iff.2 h), if_pos h, ← EReal.coe_add, div_real _ _ (T_pos.trans h).ne']
    rfl
  · rw [if_neg (fun e => h (EReal.coe_lt_coe_iff.1 e)), if_neg h]
    rfl

include hxy hg hdt hdk hs hng hw hR in
theorem p47 : k0_pay47 R w s ng g dk dt x y (ix3 0 (rw n i) l) = (dz le β (q n) (z n) (a n) (b n) (c n) (d n) i : EReal) := by
  have e := p46 le l β q z a b c d n i x y g dt R hxy hg hdt hR
  unfold k0_pay47
  revert e
  generalize k0_pay46 (F := Ideal) _ _ _ _ _ = P
  intro e
  pointwise
  rw [e, hdk, hs, hng, hw, ← EReal.coe_one]
  simp only [← EReal.coe_mul, ← EReal.coe_sub]
  rfl

include hxy hg hdt hdk hng hR in
theorem p49 : k0_pay49 R ng g dk dt x y v (ix2 0 l) = v (ix3 0 0 l) + ∑ n, ∑ i, (dlb le β (q n) (z n) (a n) (b n) (c n) (d n) i : EReal) := by
  have e := fun n i => p46 le l β q z a b c d n i x y g dt R hxy hg hdt hR
  unfold k0_pay49
  revert e
  generalize k0_pay46 (F := Ideal) _ _ _ _ _ = P
  intro e
  pointwise
  rw [over_rows]
  simp only [e, hdk, hng, ← EReal.coe_mul, ← EReal.coe_sub]
  rfl

end Gates

/-! ## One block -/

section Block

variable (E : FVec Ideal S256x256 .f32) (R : FVec Ideal S16x256 .f32) (hE : ∀ n n' i j, E (ix2 (rw n i) (rw n' j)) = if n = n' ∧ True then 1 else 0)
  (hR : ∀ n n' j, R (ix2 n (rw n' j)) = if n = n' ∧ True then 1 else 0)
  (w : Vec Ideal S1x1x1024 .f32) (vq vz va vb vc : Vec Ideal S1x256x1024 .f32) (vd : Vec Ideal S1x16x1024 .f32) (acc : Vec Ideal S1x1x1024 .f32)
  (hw : w (ix3 0 0 l) = (β : EReal)) (hq : ∀ n i, vq (ix3 0 (rw n i) l) = (q n i : EReal)) (hz : ∀ n i, vz (ix3 0 (rw n i) l) = (z n i : EReal))
  (ha : ∀ n i, va (ix3 0 (rw n i) l) = (a n i : EReal)) (hb : ∀ n i, vb (ix3 0 (rw n i) l) = (b n i : EReal))
  (hc : ∀ n i, vc (ix3 0 (rw n i) l) = (c n i : EReal)) (hd : ∀ n, vd (ix3 0 n l) = (d n : EReal))

/-- What the lines of one block store, as terms of its inputs and the three masks. -/
abbrev outQ (M : FVec Ideal S256x256 .f32) (w : Vec Ideal S1x1x1024 .f32) (vz va : Vec Ideal S1x256x1024 .f32) := k0_pay34 (k0_pay24 w vz) (k0_pay25 M) (k0_pay26 M w vz) va
abbrev keys (M E : FVec Ideal S256x256 .f32) (w : Vec Ideal S1x1x1024 .f32) (vz vb vc : Vec Ideal S1x256x1024 .f32) := k0_pay35 E (k0_pay19 w vz) (k0_pay24 w vz) (k0_pay25 M) (k0_pay26 M w vz) vb vc
abbrev ends (M E : FVec Ideal S256x256 .f32) (w : Vec Ideal S1x1x1024 .f32) (vz vc : Vec Ideal S1x256x1024 .f32) := k0_pay36 E (k0_pay19 w vz) (k0_pay20 w vz) (k0_pay24 w vz) (k0_pay25 M) (k0_pay26 M w vz) vc
abbrev totals (M E : FVec Ideal S256x256 .f32) (R : FVec Ideal S16x256 .f32) (w : Vec Ideal S1x1x1024 .f32) (vz vc : Vec Ideal S1x256x1024 .f32) (vd : Vec Ideal S1x16x1024 .f32) := k0_pay39 R (k0_pay19 w vz) (ends M E w vz vc) vd
abbrev back (k : FVec Ideal S256x256 .f32 → FVec Ideal S256x1024 .f32 → FVec Ideal S256x1024 .f32 → FVec Ideal S256x1024 .f32 → FVec Ideal S256x1024 .f32 → FVec Ideal S256x1024 .f32 → FVec Ideal S256x1024 .f32 → FVec Ideal S256x1024 .f32)
    (M E : FVec Ideal S256x256 .f32) (w : Vec Ideal S1x1x1024 .f32) (vq vz va vb vc : Vec Ideal S1x256x1024 .f32) :=
  k M (k0_pay20 w vz) (sums M w vz k0_pay28) (sums M w vz k0_pay29) (k0_pay32 vb) (ends M E w vz vc) (k0_pay37 va vq)
abbrev outZ (M E : FVec Ideal S256x256 .f32) (R : FVec Ideal S16x256 .f32) (w : Vec Ideal S1x1x1024 .f32) (vq vz va vb vc : Vec Ideal S1x256x1024 .f32) (vd : Vec Ideal S1x16x1024 .f32) :=
  k0_pay47 R (k0_pay11 w) (k0_pay16 vz) (k0_pay17 vz) (k0_pay18 w vz) (keys M E w vz vb vc) (totals M E R w vz vc vd) (back k0_pay44 M E w vq vz va vb vc) (back k0_pay45 M E w vq vz va vb vc)
abbrev outB (M E : FVec Ideal S256x256 .f32) (R : FVec Ideal S16x256 .f32) (w : Vec Ideal S1x1x1024 .f32) (vq vz va vb vc : Vec Ideal S1x256x1024 .f32) (vd : Vec Ideal S1x16x1024 .f32) (acc : Vec Ideal S1x1x1024 .f32) :=
  k0_pay1 (k0_pay49 R (k0_pay17 vz) (k0_pay18 w vz) (keys M E w vz vb vc) (totals M E R w vz vc vd) (back k0_pay44 M E w vq vz va vb vc) (back k0_pay45 M E w vq vz va vb vc) acc)

include hw hz in
theorem logs_at (n i : Fin 16) : k0_pay19 w vz (ix2 (rw n i) l) = (lf β (z n) i : EReal) := p19 vz w (rw n i) l (z n i) β (hz n i) hw

section Parts
include hM hw hz

include ha in
theorem outQ_at : outQ M w vz va (ix3 0 (rw n i) l) = (dq le β (z n) (a n) i : EReal) := by
  have e := p28 le M hM l β z n i w vz (logs_at l β z w vz hw hz)
  unfold sums at e
  unfold outQ k0_pay34
  revert e
  generalize k0_pay28 (F := Ideal) _ _ _ = P
  intro e
  unfold k0_pay31
  pointwise
  rw [e, ha, ← EReal.coe_mul]
  rfl

include hb hc hE in
theorem keys_at : keys M E w vz vb vc (ix2 (rw n i) l) = (dkey le β (z n) (b n) (c n) i : EReal) := by
  have e := p29 le M hM l β z n i w vz (logs_at l β z w vz hw hz)
  have f := p30 le M hM l β z n i w vz (logs_at l β z w vz hw hz) E hE
  unfold sums at e f
  unfold keys k0_pay35
  revert e f
  generalize k0_pay29 (F := Ideal) _ _ _ = P
  generalize k0_pay30 (F := Ideal) _ _ _ _ _ = Q
  intro e f
  unfold k0_pay32 k0_pay33
  pointwise
  rw [e, f, hb, hc]
  simp only [← EReal.coe_mul, ← EReal.coe_add]
  rfl

include hc hE in
theorem ends_at : ends M E w vz vc (ix2 (rw n i) l) = (te le β (z n) (c n) i : EReal) := by
  have e := p20 vz w (rw n i) l (z n i) β (hz n i) hw
  have f := p30 le M hM l β z n i w vz (logs_at l β z w vz hw hz) E hE
  unfold sums at f
  unfold ends k0_pay36
  revert e f
  generalize k0_pay20 (F := Ideal) w vz = P
  generalize k0_pay30 (F := Ideal) _ _ _ _ _ = Q
  intro e f
  unfold k0_pay33
  pointwise
  rw [e, f, hc]
  simp only [← EReal.coe_mul]
  rfl

include hc hd hE hR in
theorem totals_at : totals M E R w vz vc vd (ix2 n l) = (dtot le β (z n) (c n) (d n) : EReal) :=
  p39 le l β z c d n _ _ R vd (logs_at l β z w vz hw hz) (fun n i => ends_at le M hM l β z c n i E hE w vz vc hw hz hc) hd hR

include hq ha hb hc hE in
theorem back_at : back k0_pay44 M E w vq vz va vb vc (ix2 (rw n i) l) + back k0_pay45 M E w vq vz va vb vc (ix2 (rw n i) l)
    = ((∑ j, if le i j then db le β (q n) (z n) (a n) (b n) (c n) j else 0 : ℝ) : EReal) :=
  p44 le M hM l β q z a b c n i _ _ _ _ va vb vq (fun n i => p20 vz w (rw n i) l (z n i) β (hz n i) hw) (fun n i => p28 le M hM l β z n i w vz (logs_at l β z w vz hw hz))
    (fun n i => p29 le M hM l β z n i w vz (logs_at l β z w vz hw hz)) (fun n i => ends_at le M hM l β z c n i E hE w vz vc hw hz hc) ha hb hq

include hq ha hb hc hd hE hR in
theorem outZ_at : outZ M E R w vq vz va vb vc vd (ix3 0 (rw n i) l) = (dz le β (q n) (z n) (a n) (b n) (c n) (d n) i : EReal) :=
  p47 le l β q z a b c d n i _ _ _ _ _ _ _ R _ (fun n i => back_at le M hM l β q z a b c n i E hE w vq vz va vb vc hw hq hz ha hb hc)
    (fun n i => p18 vz w (rw n i) l (z n i) β (hz n i) hw) (fun n => totals_at le M hM l β z c d n E R hE hR w vz vc vd hw hz hc hd)
    (fun n i => keys_at le M hM l β z b c n i E hE w vz vb vc hw hz hb hc) (fun n i => p16 vz (rw n i) l (z n i) (hz n i)) (fun n i => p17 vz (rw n i) l (z n i) (hz n i))
    (by unfold k0_pay11; pointwise; exact hw) hR

include hq ha hb hc hd hE hR in
theorem outB_at : outB M E R w vq vz va vb vc vd acc (ix3 0 0 l) = acc (ix3 0 0 l) + ∑ n, ∑ i, (dlb le β (q n) (z n) (a n) (b n) (c n) (d n) i : EReal) := by
  have e := p49 le l β q z a b c d _ _ _ _ _ _ R acc (fun n i => back_at le M hM l β q z a b c n i E hE w vq vz va vb vc hw hq hz ha hb hc)
    (fun n i => p18 vz w (rw n i) l (z n i) β (hz n i) hw) (fun n => totals_at le M hM l β z c d n E R hE hR w vz vc vd hw hz hc hd)
    (fun n i => keys_at le M hM l β z b c n i E hE w vz vb vc hw hz hb hc) (fun n i => p17 vz (rw n i) l (z n i) (hz n i)) hR
  rw [← e]
  unfold outB k0_pay1
  generalize k0_pay49 (F := Ideal) _ _ _ _ _ _ _ _ = P
  pointwise

end Parts

end Block

end Cert.Chunk
-- ==== Proof.ScanGrid.lean ====
module

public import proofs.«01_k».proof.Proof.ScanBody
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

/-! # The gates' gradients over whole arrays -/

noncomputable section

namespace Cert.Chunk

open Idealize.ShloMosaic Idealize.ShloMosaic.TcCoe Idealize.SL.Sem Cert.Reals

/-! ## Heads and lanes, chunks and tokens -/

def lane (h : Fin 8) (k : Fin 128) : Fin 1024 := ⟨h.val * 128 + k.val, by omega⟩
def hd (l : Fin 1024) : Fin 8 := ⟨l.val / 128, by omega⟩
def ln (l : Fin 1024) : Fin 128 := ⟨l.val % 128, by omega⟩

theorem lane_surj (l : Fin 1024) : ∃ h k, l = lane h k := ⟨hd l, ln l, Fin.ext (by simp only [lane, hd, ln]; omega)⟩
theorem hd_lane (h : Fin 8) (k : Fin 128) : hd (lane h k) = h := Fin.ext (by simp only [lane, hd]; omega)
theorem ln_lane (h : Fin 8) (k : Fin 128) : ln (lane h k) = k := Fin.ext (by simp only [lane, ln]; omega)

def tok (N : Fin 1024) (i : Fin 16) : Fin 16384 := ⟨N.val * 16 + i.val, by omega⟩
def ch (u : Fin 16384) : Fin 1024 := ⟨u.val / 16, by omega⟩
def pl (u : Fin 16384) : Fin 16 := ⟨u.val % 16, by omega⟩

theorem tok_surj (u : Fin 16384) : ∃ N i, u = tok N i := ⟨ch u, pl u, Fin.ext (by simp only [tok, ch, pl]; omega)⟩
theorem ch_tok (N : Fin 1024) (i : Fin 16) : ch (tok N i) = N := Fin.ext (by simp only [tok, ch]; omega)
theorem pl_tok (N : Fin 1024) (i : Fin 16) : pl (tok N i) = i := Fin.ext (by simp only [tok, pl]; omega)

theorem over_tokens {M : Type} [AddCommMonoid M] (f : Fin 16384 → M) : ∑ u, f u = ∑ N, ∑ i, f (tok N i) := by
  rw [← Fintype.sum_prod_type' (fun N i => f (tok N i)), ← (finProdFinEquiv (m := 1024) (n := 16)).sum_comp f]
  exact Finset.sum_congr rfl fun p _ => congrArg f (Fin.ext (by simp only [finProdFinEquiv, tok, Equiv.coe_fn_mk]; omega))

/-- What the last token of a chunk adds to the sums from each token on. -/
theorem last_row (y : Fin 16 → ℝ) (D : ℝ) (i : Fin 16) : (∑ j, if i ≤ j then y j + (if j = 15 then D else 0) else 0) = (∑ j, if i ≤ j then y j else 0) + D := by
  have e : ∀ j, (if i ≤ j then y j + (if j = 15 then D else 0) else 0) = (if i ≤ j then y j else 0) + if j = 15 then D else 0 := fun j => by
    by_cases c : i ≤ j
    · rw [if_pos c, if_pos c]
    · rw [if_neg c, if_neg c, if_neg fun r : j = 15 => c (by subst r; exact Fin.le_last i), zero_add]
  rw [Finset.sum_congr rfl fun j _ => e j, Finset.sum_add_distrib]
  simp

/-- The first two axes, of one entry each, summed away. -/
theorem over_front (hr : (⟨4, ![1, 1, 8, 128]⟩ : Shape).ReducesTo [0, 1] ⟨2, ![8, 128]⟩) (v : (⟨4, ![1, 1, 8, 128]⟩ : Shape).Idx → EReal) (h : Fin 8) (k : Fin 128) : Ideal.hostReduceAdd hr v 0 (ix2 h k) = v (ix4 0 0 h k) := by
  refine (zero_add _).trans (Finset.sum_eq_single _ (fun b hb hn => absurd ?_ hn) fun hn => absurd (Finset.mem_filter.2 ⟨Finset.mem_univ _, ?_⟩) hn)
  · have e := (Finset.mem_filter.1 hb).2
    funext a
    apply Fin.ext
    match a with
    | ⟨0, _⟩ => exact Nat.lt_one_iff.1 (b 0).isLt
    | ⟨1, _⟩ => exact Nat.lt_one_iff.1 (b 1).isLt
    | ⟨2, _⟩ => exact congrArg Fin.val (congrFun e 0)
    | ⟨3, _⟩ => exact congrArg Fin.val (congrFun e 1)
  · funext a
    fin_cases a <;> rfl

/-! ## The gradients of real arrays -/

abbrev Flat : Shape := ⟨3, ![1, 16384, 1024]⟩
abbrev Split : Shape := ⟨4, ![1, 16384, 8, 128]⟩
abbrev Ends : Shape := ⟨4, ![1, 1024, 8, 128]⟩
abbrev Bound : Shape := ⟨1, ![1024]⟩

def qs (f : Flat.Idx → ℝ) (N : Fin 1024) (l : Fin 1024) (i : Fin 16) : ℝ := f (ix3 0 (tok N i) l)
def hs (f : Split.Idx → ℝ) (N : Fin 1024) (l : Fin 1024) (i : Fin 16) : ℝ := f (ix4 0 (tok N i) (hd l) (ln l))
def ds (f : Ends.Idx → ℝ) (N : Fin 1024) (l : Fin 1024) : ℝ := f (ix4 0 N (hd l) (ln l))

variable (le : Fin 16 → Fin 16 → Prop) [DecidableRel le] (q z : Flat.Idx → ℝ) (b : Bound.Idx → ℝ) (e f g : Split.Idx → ℝ) (d : Ends.Idx → ℝ)

def gQ (N l : Fin 1024) (i : Fin 16) : ℝ := dq le (b (ix1 l)) (qs z N l) (hs e N l) i
def gZ (N l : Fin 1024) (i : Fin 16) : ℝ := dz le (b (ix1 l)) (qs q N l) (qs z N l) (hs e N l) (hs f N l) (hs g N l) (ds d N l) i
def gB (N l : Fin 1024) (i : Fin 16) : ℝ := dlb le (b (ix1 l)) (qs q N l) (qs z N l) (hs e N l) (hs f N l) (hs g N l) (ds d N l) i
/-- One chunk's part of the gradient of the bound. -/
def bPart (l : Fin 1024) (N : ℕ) : EReal := if hN : N < 1024 then ∑ i, (gB le q z b e f g d ⟨N, hN⟩ l i : EReal) else 0

def allQ : Vec Ideal Flat .f32 := fun j => (gQ le z b e (ch (j 1)) (j 2) (pl (j 1)) : EReal)
def allZ : Vec Ideal Flat .f32 := fun j => (gZ le q z b e f g d (ch (j 1)) (j 2) (pl (j 1)) : EReal)
def allB : Vec Ideal ⟨3, ![1, 1, 1024]⟩ .f32 := fun j => ∑ N ∈ Finset.range 1024, bPart le q z b e f g d (j 2) N

theorem allQ_at (N l : Fin 1024) (i : Fin 16) : allQ le z b e (ix3 0 (tok N i) l) = (gQ le z b e N l i : EReal) := by
  change (gQ le z b e (ch (tok N i)) l (pl (tok N i)) : EReal) = _
  rw [ch_tok, pl_tok]

theorem allZ_at (N l : Fin 1024) (i : Fin 16) : allZ le q z b e f g d (ix3 0 (tok N i) l) = (gZ le q z b e f g d N l i : EReal) := by
  change (gZ le q z b e f g d (ch (tok N i)) l (pl (tok N i)) : EReal) = _
  rw [ch_tok, pl_tok]

theorem allB_at (l : Fin 1024) (k : ℕ) (hk : k = 1024) : ∑ N ∈ Finset.range k, bPart le q z b e f g d l N = allB le q z b e f g d (ix3 0 0 l) := by
  subst hk
  rfl

theorem bPart_at (l N : Fin 1024) : bPart le q z b e f g d l N.val = ∑ i, (gB le q z b e f g d N l i : EReal) := by
  unfold bPart
  rw [dif_pos N.isLt]

theorem allB_sum (l : Fin 1024) : allB le q z b e f g d (ix3 0 0 l) = ∑ N, ∑ i, (gB le q z b e f g d N l i : EReal) := by
  rw [← allB_at le q z b e f g d l 1024 rfl, Finset.sum_range]
  exact Finset.sum_congr rfl fun N _ => bPart_at le q z b e f g d l N

end Cert.Chunk
-- ==== Proof.ScanFwd.lean ====
module

public import proofs.«01_k».proof.Proof.ScanGrid
public import proofs.«01_k».proof.Proof.Gen.PrepFIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

/-! # The forward gates' backward call, over its grid -/

noncomputable section

namespace Cert.Chunk.Fwd

open Idealize.ShloMosaic Idealize.ShloMosaic.TcCoe Idealize.SL.Sem Cert.Reals

open Cert.PrepFIdeal Cert.PrepFIdeal.Gen

/-- Which tokens of a chunk a token's running sum counts. -/
abbrev le (j i : Fin 16) : Prop := j ≤ i

variable (m : (ℓ : Loc nD τ sig) → Buf (Elt Ideal) ℓ) (c : Dev nD) (t : Fin cfg0.N)

abbrev arg (r : Ref sig .tc) := m ((c : Thread nD τ).loc r)

/-- The three masks. -/
abbrev cum := k0_pay8 (F := Ideal) (iota .tc S256x256 32 [0] iota_S256x256_d0_w32) (iota .tc S256x256 32 [1] iota_S256x256_d1_w32) k0_pay2 k0_pay3 k0_pay4 k0_pay5 k0_pay6
abbrev same := k0_pay9 (F := Ideal) k0_pay2 k0_pay3 k0_pay4 k0_pay5 k0_pay6
abbrev heads := k0_pay10 (F := Ideal)
theorem cum_at (n n' i j : Fin 16) : cum (ix2 (rw n i) (rw n' j)) = if n = n' ∧ le j i then 1 else 0 := forward_mask n n' i j

theorem idx : ∀ t : Fin grid0.N, win0_0.index t = ![0, t.val, 0] ∧ win0_1.index t = ![0, t.val, 0] ∧ win0_2.index t = ![0, 0, 0] ∧ win0_3.index t = ![0, t.val, 0] ∧ win0_4.index t = ![0, t.val, 0]
    ∧ win0_5.index t = ![0, t.val, 0] ∧ win0_6.index t = ![0, t.val, 0] ∧ win0_7.index t = ![0, t.val, 0] ∧ win0_8.index t = ![0, t.val, 0] ∧ win0_9.index t = ![0, 0, 0] := by decide +kernel

theorem in0 (r : Fin 256) (l : Fin 1024) (u : Fin 16384) (hu : u.val = t.val * 256 + r.val) : iblk m c 0 t (ix3 0 r l) = arg m c main_arg0 (ix3 0 u l) := by
  blk_simp [iblk]; entry_read; pointwise; blk_ext [iblk, (idx t).1]

theorem in1 (r : Fin 256) (l : Fin 1024) (u : Fin 16384) (hu : u.val = t.val * 256 + r.val) : iblk m c 1 t (ix3 0 r l) = arg m c main_arg1 (ix3 0 u l) := by
  blk_simp [iblk]; entry_read; pointwise; blk_ext [iblk, (idx t).2.1]

theorem in2 (l : Fin 1024) : iblk m c 2 t (ix3 0 0 l) = arg m c main_arg2 (ix1 l) := by
  blk_simp [iblk]; entry_read; pointwise; blk_ext [iblk, (idx t).2.2.1]

theorem in3 (r : Fin 256) (h : Fin 8) (k : Fin 128) (u : Fin 16384) (hu : u.val = t.val * 256 + r.val) : iblk m c 3 t (ix3 0 r (lane h k)) = arg m c main_arg3 (ix4 0 u h k) := by
  blk_simp [iblk]; entry_read; pointwise; blk_ext [iblk, (idx t).2.2.2.1]
  all_goals first | exact congrArg Fin.val (hd_lane h k) | exact congrArg Fin.val (ln_lane h k)

theorem in4 (r : Fin 256) (h : Fin 8) (k : Fin 128) (u : Fin 16384) (hu : u.val = t.val * 256 + r.val) : iblk m c 4 t (ix3 0 r (lane h k)) = arg m c main_arg4 (ix4 0 u h k) := by
  blk_simp [iblk]; entry_read; pointwise; blk_ext [iblk, (idx t).2.2.2.2.1]
  all_goals first | exact congrArg Fin.val (hd_lane h k) | exact congrArg Fin.val (ln_lane h k)

theorem in5 (r : Fin 256) (h : Fin 8) (k : Fin 128) (u : Fin 16384) (hu : u.val = t.val * 256 + r.val) : iblk m c 5 t (ix3 0 r (lane h k)) = arg m c main_arg5 (ix4 0 u h k) := by
  blk_simp [iblk]; entry_read; pointwise; blk_ext [iblk, (idx t).2.2.2.2.2.1]
  all_goals first | exact congrArg Fin.val (hd_lane h k) | exact congrArg Fin.val (ln_lane h k)

theorem in6 (n : Fin 16) (h : Fin 8) (k : Fin 128) (N : Fin 1024) (hN : N.val = t.val * 16 + n.val) : iblk m c 6 t (ix3 0 n (lane h k)) = arg m c main_arg6 (ix4 0 N h k) := by
  blk_simp [iblk]; entry_read; pointwise; blk_ext [iblk, (idx t).2.2.2.2.2.2.1]
  all_goals first | exact congrArg Fin.val (hd_lane h k) | exact congrArg Fin.val (ln_lane h k)

def cnk (n : Fin 16) : Fin 1024 := ⟨t.val * 16 + n.val, by have hN : t.val < 64 := t.isLt; omega⟩

theorem row_tok (n i : Fin 16) : (tok (cnk t n) i).val = t.val * 256 + (rw n i).val := by
  simp only [tok, cnk, rw]
  omega

/-! ## What a grid point stores -/

abbrev stQ := outQ cum (iblk m c 2 t) (iblk m c 1 t) (iblk m c 3 t)
abbrev stZ := outZ cum same heads (iblk m c 2 t) (iblk m c 0 t) (iblk m c 1 t) (iblk m c 3 t) (iblk m c 4 t) (iblk m c 5 t) (iblk m c 6 t)
abbrev stB (v : Vec Ideal S1x1x1024 .f32) := outB cum same heads (iblk m c 2 t) (iblk m c 0 t) (iblk m c 1 t) (iblk m c 3 t) (iblk m c 4 t) (iblk m c 5 t) (iblk m c 6 t) v

theorem out_start (h0 : t.val % 64 = 0) : outsAt0 m c t.val t.isLt = (stQ m c t, stZ m c t, stB m c t (k0_pay48 (F := Ideal))) := by
  rw [outsAt0_A m c t h0]
  frame_out

theorem out_next (h0 : ¬t.val % 64 = 0) : outsAt0 m c t.val t.isLt = (stQ m c t, stZ m c t, stB m c t (outsAt0 m c (t.val - 1) (Nat.lt_of_le_of_lt (Nat.sub_le _ _) t.isLt)).2.2) := by
  rw [outsAt0_B m c t h0]
  frame_out

theorem q_at : (outsAt0 m c t.val t.isLt).1 = stQ m c t := by
  by_cases z : t.val % 64 = 0
  · rw [out_start m c t z]
  · rw [out_next m c t z]

theorem z_at : (outsAt0 m c t.val t.isLt).2.1 = stZ m c t := by
  by_cases z : t.val % 64 = 0
  · rw [out_start m c t z]
  · rw [out_next m c t z]

/-! ## The three arrays -/

section Real

variable (q z : Flat.Idx → ℝ) (b : Bound.Idx → ℝ) (e f g : Split.Idx → ℝ) (d : Ends.Idx → ℝ)
  (h0 : arg m c main_arg0 = fun i => (q i : EReal)) (h1 : arg m c main_arg1 = fun i => (z i : EReal)) (h2 : arg m c main_arg2 = fun i => (b i : EReal)) (h3 : arg m c main_arg3 = fun i => (e i : EReal))
  (h4 : arg m c main_arg4 = fun i => (f i : EReal)) (h5 : arg m c main_arg5 = fun i => (g i : EReal)) (h6 : arg m c main_arg6 = fun i => (d i : EReal)) (l : Fin 1024)

include h0 in
theorem block0 (n i : Fin 16) : iblk m c 0 t (ix3 0 (rw n i) l) = (qs q (cnk t n) l i : EReal) := by rw [in0 m c t _ l _ (row_tok t n i), h0]; rfl
include h1 in
theorem block1 (n i : Fin 16) : iblk m c 1 t (ix3 0 (rw n i) l) = (qs z (cnk t n) l i : EReal) := by rw [in1 m c t _ l _ (row_tok t n i), h1]; rfl
include h2 in
theorem block2 : iblk m c 2 t (ix3 0 0 l) = (b (ix1 l) : EReal) := by rw [in2 m c t l, h2]
include h3 in
theorem block3 (n i : Fin 16) : iblk m c 3 t (ix3 0 (rw n i) l) = (hs e (cnk t n) l i : EReal) := by
  obtain ⟨h, k, rfl⟩ := lane_surj l
  rw [in3 m c t _ h k _ (row_tok t n i), h3, hs, hd_lane, ln_lane]
include h4 in
theorem block4 (n i : Fin 16) : iblk m c 4 t (ix3 0 (rw n i) l) = (hs f (cnk t n) l i : EReal) := by
  obtain ⟨h, k, rfl⟩ := lane_surj l
  rw [in4 m c t _ h k _ (row_tok t n i), h4, hs, hd_lane, ln_lane]
include h5 in
theorem block5 (n i : Fin 16) : iblk m c 5 t (ix3 0 (rw n i) l) = (hs g (cnk t n) l i : EReal) := by
  obtain ⟨h, k, rfl⟩ := lane_surj l
  rw [in5 m c t _ h k _ (row_tok t n i), h5, hs, hd_lane, ln_lane]
include h6 in
theorem block6 (n : Fin 16) : iblk m c 6 t (ix3 0 n l) = (ds d (cnk t n) l : EReal) := by
  obtain ⟨h, k, rfl⟩ := lane_surj l
  rw [in6 m c t n h k (cnk t n) rfl, h6, ds, hd_lane, ln_lane]

include h1 h2 h3 in
theorem arrQ : (dats m 0 c).arrAt 7 cfg0.N = allQ le z b e := by
  refine (dats m 0 c).arrAt_eq_of_covers 7 _ (by decide +kernel) fun t hf y => ?_
  blk_simp
  rw [after0_7]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans allQ le z b e (ix3 0 (tok (cnk t n) i) l)
  · rw [allQ_at]
    exact (congrFun (q_at m c t) _).trans (outQ_at le cum cum_at l _ (fun n => qs z (cnk t n) l) (fun n => hs e (cnk t n) l) n i _ _ _ (block2 m c t b h2 l) (block1 m c t z h1 l) (block3 m c t e h3 l))
  · generalize allQ le z b e = d
    have hu := row_tok t n i
    blk_ext [(idx t).2.2.2.2.2.2.2.1]

include h0 h1 h2 h3 h4 h5 h6 in
theorem arrZ : (dats m 0 c).arrAt 8 cfg0.N = allZ le q z b e f g d := by
  refine (dats m 0 c).arrAt_eq_of_covers 8 _ (by decide +kernel) fun t hf y => ?_
  blk_simp
  rw [after0_8]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans allZ le q z b e f g d (ix3 0 (tok (cnk t n) i) l)
  · rw [allZ_at]
    exact (congrFun (z_at m c t) _).trans (outZ_at le cum cum_at l _ (fun n => qs q (cnk t n) l) (fun n => qs z (cnk t n) l) (fun n => hs e (cnk t n) l) (fun n => hs f (cnk t n) l) (fun n => hs g (cnk t n) l) (fun n => ds d (cnk t n) l) n i
      same heads chunk_mask row_mask _ _ _ _ _ _ _ (block2 m c t b h2 l) (block0 m c t q h0 l) (block1 m c t z h1 l) (block3 m c t e h3 l) (block4 m c t f h4 l) (block5 m c t g h5 l) (block6 m c t d h6 l))
  · generalize allZ le q z b e f g d = d
    have hu := row_tok t n i
    blk_ext [(idx t).2.2.2.2.2.2.2.2.1]

include h0 h1 h2 h3 h4 h5 h6 in
theorem acc_block (v : Vec Ideal S1x1x1024 .f32) : stB m c t v (ix3 0 0 l) = v (ix3 0 0 l) + ∑ n : Fin 16, bPart le q z b e f g d l (t.val * 16 + n.val) := by
  refine (outB_at le cum cum_at l _ (fun n => qs q (cnk t n) l) (fun n => qs z (cnk t n) l) (fun n => hs e (cnk t n) l) (fun n => hs f (cnk t n) l) (fun n => hs g (cnk t n) l) (fun n => ds d (cnk t n) l)
      same heads chunk_mask row_mask _ _ _ _ _ _ _ v (block2 m c t b h2 l) (block0 m c t q h0 l) (block1 m c t z h1 l) (block3 m c t e h3 l) (block4 m c t f h4 l) (block5 m c t g h5 l) (block6 m c t d h6 l)).trans ?_
  refine congrArg _ (Finset.sum_congr rfl fun n _ => ?_)
  exact (bPart_at le q z b e f g d l (cnk t n)).symm

include h0 h1 h2 h3 h4 h5 h6 in
theorem bound_at : ∀ (n : ℕ) (hn : n < cfg0.N), (outsAt0 m c n hn).2.2 (ix3 0 0 l) = ∑ k ∈ Finset.range (n + 1), ∑ r : Fin 16, bPart le q z b e f g d l (k * 16 + r.val) := by
  intro n
  induction n with
  | zero =>
    intro hn
    rw [out_start m c ⟨0, hn⟩ rfl]
    refine (acc_block m c ⟨0, hn⟩ q z b e f g d h0 h1 h2 h3 h4 h5 h6 l _).trans ?_
    unfold k0_pay48
    pointwise
    rw [Finset.sum_range_one]
    simp only [Nat.zero_mul, Nat.zero_add]
  | succ n ih =>
    intro hn
    have hN : n + 1 < 64 := hn
    rw [out_next m c ⟨n + 1, hn⟩ (by rw [Nat.mod_eq_of_lt hN]; omega), Finset.sum_range_succ _ (n + 1)]
    exact (acc_block m c ⟨n + 1, hn⟩ q z b e f g d h0 h1 h2 h3 h4 h5 h6 l _).trans (congrArg (· + _) (ih _))

include h0 h1 h2 h3 h4 h5 h6 in
theorem arrB : (dats m 0 c).arrAt 9 cfg0.N = allB le q z b e f g d := by
  refine (dats m 0 c).arrAt_eq_of_covers 9 _ (by decide +kernel) fun t hf y => ?_
  have hl := (flush0_9 t).1 hf
  blk_simp
  rw [after0_9]
  obtain ⟨o, r, l, rfl⟩ : ∃ (o r : Fin 1) (l : Fin 1024), y = ix3 o r l := ⟨y 0, y 1, y 2, eq_ix3 y⟩
  obtain rfl : o = 0 := Subsingleton.elim _ _
  obtain rfl : r = 0 := Subsingleton.elim _ _
  have hN : t.val < 64 := t.isLt
  obtain ht : t.val = 63 := by omega
  trans allB le q z b e f g d (ix3 0 0 l)
  · refine (bound_at m c q z b e f g d h0 h1 h2 h3 h4 h5 h6 l t.val t.isLt).trans ?_
    rw [ht, RowNorm.sum_in_blocks]
    exact allB_at le q z b e f g d l _ (by norm_num)
  · generalize allB le q z b e f g d = d
    blk_ext [(idx t).2.2.2.2.2.2.2.2.2]

end Real

end Cert.Chunk.Fwd
-- ==== Proof.ScanPre.lean ====
module

public import proofs.«01_k».proof.Defs
public import proofs.«01_k».proof.Proof.ScanGrid
public import Idealize.ShloMosaic.Lib.Pointwise

@[expose] public section

set_option maxRecDepth 16384

/-! # Finite arguments whose gates all differ from the smallest gate -/

noncomputable section

namespace Cert.Chunk

open Idealize.ShloMosaic Idealize.ShloMosaic.TcCoe Cert.Reals

open Cert.Pre_smooth_gates

abbrev up {s : Shape} (f : s.Idx → ℝ) : Vec Ideal s .f32 := fun i => (f i : EReal)

theorem entries_real [Cert.Pre_smooth_gates.Facts] (x0 x1 : Flat.Idx → EReal) (x2 : Bound.Idx → EReal) (x3 x4 x5 : Split.Idx → EReal) (x6 : Ends.Idx → EReal) (hp : fn (F := Ideal) x0 x1 x2 x3 x4 x5 x6 = fun _ => 1#1) :
    ((∃ q : Flat.Idx → ℝ, x0 = up q) ∧ (∃ z : Flat.Idx → ℝ, x1 = up z) ∧ (∃ b : Bound.Idx → ℝ, x2 = up b) ∧ (∃ e : Split.Idx → ℝ, x3 = up e) ∧ (∃ f : Split.Idx → ℝ, x4 = up f) ∧ (∃ g : Split.Idx → ℝ, x5 = up g) ∧ ∃ d : Ends.Idx → ℝ, x6 = up d)
      ∧ ∀ (z : Flat.Idx → ℝ) (b : Bound.Idx → ℝ), x1 = up z → x2 = up b → ∀ N i l, gate (b (ix1 l)) (qs z N l) i ≠ T := by
  have h0 := congrFun hp ix0
  dsimp only [fn, fn_part1, fn_part2] at h0
  have : Subsingleton S_.Idx := ⟨fun a b => funext fun d => d.elim0⟩
  obtain ⟨h0, h50⟩ := IntOp.andi_eq_one.1 h0
  obtain ⟨h0, h46⟩ := IntOp.andi_eq_one.1 h0
  obtain ⟨h0, h41⟩ := IntOp.andi_eq_one.1 h0
  obtain ⟨h0, h36⟩ := IntOp.andi_eq_one.1 h0
  obtain ⟨h0, h31⟩ := IntOp.andi_eq_one.1 h0
  obtain ⟨h0, h26⟩ := IntOp.andi_eq_one.1 h0
  obtain ⟨h17, h21⟩ := IntOp.andi_eq_one.1 h0
  refine ⟨⟨reals_of_all x0 _ (fun _ => bits_top) _ _ _ _ h17, reals_of_all x1 _ (fun _ => bits_top) _ _ _ _ h21, reals_of_all x2 _ (fun _ => bits_top) _ _ _ _ h26, reals_of_all x3 _ (fun _ => bits_top) _ _ _ _ h31,
    reals_of_all x4 _ (fun _ => bits_top) _ _ _ _ h36, reals_of_all x5 _ (fun _ => bits_top) _ _ _ _ h41, reals_of_all x6 _ (fun _ => bits_top) _ _ _ _ h46⟩, ?_⟩
  rintro z b rfl rfl N i l
  have k := Host.reduce_andi_all _ _ _ _ _ h50 (ix3 0 (tok N i) l)
  revert k
  clear * -
  pointwise
  intro k r
  have e : (up b (ix1 l) + (1 - up b (ix1 l)) * Ideal.div 1 (1 + Ideal.exp (-up z (ix3 0 (tok N i) l))) : EReal) = (gate (b (ix1 l)) (qs z N l) i : EReal) := by
    rw [up, up, sg_real, ← EReal.coe_one]
    simp only [← EReal.coe_sub, ← EReal.coe_mul, ← EReal.coe_add]
    rfl
  rw [e, bits_T, r] at k
  simp at k

end Cert.Chunk
-- ==== Proof.ScanWindow.lean ====
module

public import proofs.«01_k».proof.Proof.Reals
public import Idealize.ShloMosaic.Lib.Pointwise

@[expose] public section

set_option maxRecDepth 16384

/-! # Running sums along a chunk, as the host writes them -/

noncomputable section

namespace Cert.Chunk

open Idealize.ShloMosaic

abbrev Chunks : Shape := ⟨5, ![1, 1024, 16, 8, 128]⟩
abbrev Span : Shape := ⟨5, ![1, 1, 16, 1, 1]⟩

theorem span_pos : ∀ n : Fin Span.numel, (Span.rowMajor.symm n 2).val = n.val := by decide +kernel

theorem add_up {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem low (y : Fin 16 → EReal) (i : Fin 16) :
    (∑ w : Fin 16, if h : 15 ≤ i.val + w.val ∧ i.val + w.val - 15 < 16 then y ⟨i.val + w.val - 15, h.2⟩ else 0) = ∑ j, if j ≤ i then y j else 0 := by
  fin_cases i <;> simp [Fin.sum_univ_succ] <;> rfl

theorem high (y : Fin 16 → EReal) (i : Fin 16) :
    (∑ w : Fin 16, if h : 0 ≤ i.val + w.val ∧ i.val + w.val - 0 < 16 then y ⟨i.val + w.val - 0, h.2⟩ else 0) = ∑ j, if i ≤ j then y j else 0 := by
  fin_cases i <;> simp [Fin.sum_univ_succ] <;> rfl

/-- A sum over a window of sixteen tokens, the positions outside the chunk counting for nothing. -/
theorem window (lo : Fin 5 → Nat) (hi : Fin 5 → Nat) (L : Nat) (hlo : lo = ![0, 0, L, 0, 0]) (hr : Chunks.ReduceWindows (![1, 1, 16, 1, 1] : Fin 5 → Nat) ![1, 1, 1, 1, 1] lo hi Chunks)
    (x : Chunks.Idx → EReal) (N : Fin 1024) (i : Fin 16) (h : Fin 8) (k : Fin 128) :
    Ideal.hostReduceWindowAdd (![1, 1, 16, 1, 1] : Fin 5 → Nat) ![1, 1, 1, 1, 1] lo hi hr x 0 (ix5 0 N i h k)
      = ∑ w : Fin 16, if c : L ≤ i.val + w.val ∧ i.val + w.val - L < 16 then x (ix5 0 N ⟨i.val + w.val - L, c.2⟩ h k) else 0 := by
  subst hlo
  unfold Ideal.hostReduceWindowAdd Host.reduceWindow
  refine (add_up _ _ _).trans ((zero_add _).trans ?_)
  rw [← Fin.sum_univ_def]
  refine Finset.sum_congr rfl fun w _ => ?_
  have e0 : (Span.rowMajor.symm w 0).val = 0 := Nat.lt_one_iff.1 (Span.rowMajor.symm w 0).isLt
  have e1 : (Span.rowMajor.symm w 1).val = 0 := Nat.lt_one_iff.1 (Span.rowMajor.symm w 1).isLt
  have e3 : (Span.rowMajor.symm w 3).val = 0 := Nat.lt_one_iff.1 (Span.rowMajor.symm w 3).isLt
  have e4 : (Span.rowMajor.symm w 4).val = 0 := Nat.lt_one_iff.1 (Span.rowMajor.symm w 4).isLt
  have e2 := span_pos w
  have hN := N.isLt
  have hh := h.isLt
  have hk := k.isLt
  by_cases c : L ≤ i.val + w.val ∧ i.val + w.val - L < 16
  · have q : ∀ a : Fin 5, (![0, 0, L, 0, 0] : Fin 5 → Nat) a ≤ ((ix5 0 N i h k : Chunks.Idx) a).val * (![1, 1, 1, 1, 1] : Fin 5 → Nat) a + (Span.rowMajor.symm w a).val
        ∧ ((ix5 0 N i h k : Chunks.Idx) a).val * (![1, 1, 1, 1, 1] : Fin 5 → Nat) a + (Span.rowMajor.symm w a).val - (![0, 0, L, 0, 0] : Fin 5 → Nat) a < Chunks.size a := fun a => by
      match a with
      | ⟨0, _⟩ => change 0 ≤ 0 * 1 + (Span.rowMajor.symm w 0).val ∧ 0 * 1 + (Span.rowMajor.symm w 0).val - 0 < 1; omega
      | ⟨1, _⟩ => change 0 ≤ N.val * 1 + (Span.rowMajor.symm w 1).val ∧ N.val * 1 + (Span.rowMajor.symm w 1).val - 0 < 1024; omega
      | ⟨2, _⟩ => change L ≤ i.val * 1 + (Span.rowMajor.symm w 2).val ∧ i.val * 1 + (Span.rowMajor.symm w 2).val - L < 16; omega
      | ⟨3, _⟩ => change 0 ≤ h.val * 1 + (Span.rowMajor.symm w 3).val ∧ h.val * 1 + (Span.rowMajor.symm w 3).val - 0 < 8; omega
      | ⟨4, _⟩ => change 0 ≤ k.val * 1 + (Span.rowMajor.symm w 4).val ∧ k.val * 1 + (Span.rowMajor.symm w 4).val - 0 < 128; omega
    refine (dif_pos q).trans (Eq.trans ?_ (dif_pos c).symm)
    refine congrArg x (funext fun a => Fin.ext ?_)
    match a with
    | ⟨0, _⟩ => change 0 * 1 + (Span.rowMajor.symm w 0).val - 0 = 0; omega
    | ⟨1, _⟩ => change N.val * 1 + (Span.rowMajor.symm w 1).val - 0 = N.val; omega
    | ⟨2, _⟩ => change i.val * 1 + (Span.rowMajor.symm w 2).val - L = i.val + w.val - L; omega
    | ⟨3, _⟩ => change h.val * 1 + (Span.rowMajor.symm w 3).val - 0 = h.val; omega
    | ⟨4, _⟩ => change k.val * 1 + (Span.rowMajor.symm w 4).val - 0 = k.val; omega
  · rw [dif_neg c]
    refine dif_neg fun q => c ?_
    have q2 := q 2
    change L ≤ i.val * 1 + (Span.rowMajor.symm w 2).val ∧ i.val * 1 + (Span.rowMajor.symm w 2).val - L < 16 at q2
    omega

end Cert.Chunk
-- ==== Proof.ScanRefF.lean ====
module

public import proofs.«01_k».proof.Proof.ScanPre
public import proofs.«01_k».proof.Proof.ScanWindow
public import proofs.«01_k».proof.Proof.Gen.PrepFRefIdeal.Read
public import Idealize.ShloMosaic.Lib.Pointwise

@[expose] public section

set_option maxRecDepth 16384

/-! # The forward gates' backward call, as the host differentiates it -/

noncomputable section

namespace Cert.Chunk.Fwd

open Idealize.ShloMosaic Idealize.ShloMosaic.TcCoe Idealize.SL.Sem Cert.Reals

open Cert.PrepFRefIdeal Cert.PrepFRefIdeal.Gen Cert.PrepFRefIdeal.Read

variable (q z : Flat.Idx → ℝ) (b : Bound.Idx → ℝ) (e f g : Split.Idx → ℝ) (d : Ends.Idx → ℝ) (N : Fin 1024) (i : Fin 16) (h : Fin 8) (k : Fin 128)

abbrev lej (j i : Fin 16) : Prop := j ≤ i

theorem ref1 : val_main_v1 (F := Ideal) (up z) (ix4 0 (tok N i) h k) = (qs z N (lane h k) i : EReal) := by
  unfold val_main_v1
  pointwise
  rfl

theorem ref46 : val_main_v46 (F := Ideal) (up z) (ix4 0 (tok N i) h k) = (qs z N (lane h k) i : EReal) := by
  unfold val_main_v46
  pointwise
  rfl

theorem ref0 : val_main_v0 (F := Ideal) (up b) (ix2 h k) = (b (ix1 (lane h k)) : EReal) := by
  unfold val_main_v0
  pointwise
  rfl

theorem ref9 : val_main_v9 (F := Ideal) (up z) (ix4 0 (tok N i) h k) = (sg (qs z N (lane h k) i) : EReal) := by
  rw [← sg_real, ← ref1]
  unfold val_main_v9 val_main_v8 val_main_cst_1 val_main_v7 val_main_v6 val_main_cst_0 val_main_v5 val_main_v4
  pointwise

theorem ref39 : val_main_v39 (F := Ideal) (up z) (ix4 0 (tok N i) h k) = (sg (-qs z N (lane h k) i) : EReal) := by
  rw [← sg_real, EReal.coe_neg, ← ref1]
  unfold val_main_v39 val_main_v38 val_main_cst_11 val_main_v37 val_main_v36 val_main_cst_10 val_main_v35 val_main_v34 val_main_v33
  pointwise

theorem ref18 : val_main_v18 (F := Ideal) (up z) (up b) (ix4 0 (tok N i) h k) = (gate (b (ix1 (lane h k))) (qs z N (lane h k)) i : EReal) := by
  unfold val_main_v18 val_main_v17 val_main_v16 val_main_v15 val_main_v14 val_main_v13 val_main_v3 val_main_v2 val_main_cst
  pointwise
  rw [ref9, ref0, ← EReal.coe_one]
  simp only [← EReal.coe_sub, ← EReal.coe_mul, ← EReal.coe_add]
  rfl

theorem ref20 : val_main_v20 (F := Ideal) (up z) (up b) (ix4 0 (tok N i) h k) = (max (gate (b (ix1 (lane h k))) (qs z N (lane h k)) i) T : EReal) := by
  unfold val_main_v20 val_main_v19 val_main_cst_3
  pointwise
  rw [ref18, bits_T]

theorem ref30 : val_main_v30 (F := Ideal) (up z) (up b) (ix4 0 (tok N i) h k) = (lf (b (ix1 (lane h k))) (qs z N (lane h k)) i : EReal) := by
  unfold val_main_v30
  pointwise
  rw [ref20, coe_max, log_real _ (lt_max_of_lt_right T_pos)]
  rfl

theorem ref45 : val_main_v45 (F := Ideal) (up z) (up b) (ix4 0 (tok N i) h k) = (key (b (ix1 (lane h k))) (qs z N (lane h k)) i : EReal) := by
  unfold val_main_v45 val_main_v44 val_main_v43 val_main_v32 val_main_v31 val_main_cst_9
  pointwise
  rw [ref39, ref0, ← EReal.coe_one]
  simp only [← EReal.coe_sub, ← EReal.coe_mul]
  rfl

theorem ref47 : val_main_v47 (F := Ideal) (up q) (ix5 0 N i h k) = (qs q N (lane h k) i : EReal) := by
  rw [← ref46]
  unfold val_main_v47
  generalize val_main_v46 (F := Ideal) (up q) = X
  pointwise
  rfl

theorem ref48 : val_main_v48 (F := Ideal) (up z) (up b) (ix5 0 N i h k) = (key (b (ix1 (lane h k))) (qs z N (lane h k)) i : EReal) := by
  rw [← ref45]
  unfold val_main_v48
  generalize val_main_v45 (F := Ideal) (up z) (up b) = X
  pointwise
  rfl

theorem ref49 : val_main_v49 (F := Ideal) (up z) (up b) (ix5 0 N i h k) = (lf (b (ix1 (lane h k))) (qs z N (lane h k)) i : EReal) := by
  rw [← ref30]
  unfold val_main_v49
  generalize val_main_v30 (F := Ideal) (up z) (up b) = X
  pointwise
  rfl

theorem ref50 : val_main_v50 (F := Ideal) (up z) (up b) (ix5 0 N i h k) = (cs lej (b (ix1 (lane h k))) (qs z N (lane h k)) i : EReal) := by
  have hz : ∀ s, val_main_call0_call0_v0 (F := Ideal) s = 0 := fun s => by
    unfold val_main_call0_call0_v0 val_main_call0_call0_cst
    pointwise
  unfold val_main_v50 Host.reduceWindowAdd
  rw [hz]
  refine (window _ _ 15 rfl _ _ N i h k).trans ?_
  simp only [ref49]
  rw [low (fun j => (lf (b (ix1 (lane h k))) (qs z N (lane h k)) j : EReal)) i, cs, ← coe_sum]
  refine Finset.sum_congr rfl fun j _ => ?_
  split <;> rfl

theorem ref83 : val_main_v83 (F := Ideal) (up e) (ix5 0 N i h k) = (hs e N (lane h k) i : EReal) := by
  unfold val_main_v83
  pointwise
  rw [hs, hd_lane, ln_lane]
  rfl

theorem ref66 : val_main_v66 (F := Ideal) (up d) (ix5 0 N 0 h k) = (ds d N (lane h k) : EReal) := by
  unfold val_main_v66
  pointwise
  rw [ds, hd_lane, ln_lane]

theorem ref51 : val_main_v51 (F := Ideal) (up z) (up b) (ix5 0 N 0 h k) = (tot (b (ix1 (lane h k))) (qs z N (lane h k)) : EReal) := by
  unfold val_main_v51
  pointwise
  refine (ref50 z b N 15 h k).trans (congrArg _ ?_)
  exact Finset.sum_congr rfl fun j _ => if_pos (Fin.le_last j)

theorem ref68 : val_main_v68 (F := Ideal) (up g) (ix5 0 N i h k) = (hs g N (lane h k) i : EReal) := by
  unfold val_main_v68
  pointwise
  rw [hs, hd_lane, ln_lane]
  rfl

theorem ref76 : val_main_v76 (F := Ideal) (up f) (ix5 0 N i h k) = (hs f N (lane h k) i : EReal) := by
  unfold val_main_v76
  pointwise
  rw [hs, hd_lane, ln_lane]
  rfl

theorem ref52 : val_main_v52 (F := Ideal) (up z) (up b) (ix5 0 N i h k) = (Real.exp (cs lej (b (ix1 (lane h k))) (qs z N (lane h k)) i) : EReal) := by
  unfold val_main_v52
  pointwise
  rw [ref50, Ideal.exp_coe]

theorem ref56 : val_main_v56 (F := Ideal) (up z) (up b) (ix5 0 N i h k) = (Real.exp (-cs lej (b (ix1 (lane h k))) (qs z N (lane h k)) i) : EReal) := by
  unfold val_main_v56 val_main_v55
  pointwise
  rw [ref50, ← EReal.coe_neg, Ideal.exp_coe]

theorem ref61 : val_main_v61 (F := Ideal) (up z) (up b) (ix5 0 N i h k) = (Real.exp (tot (b (ix1 (lane h k))) (qs z N (lane h k)) - cs lej (b (ix1 (lane h k))) (qs z N (lane h k)) i) : EReal) := by
  unfold val_main_v61 val_main_v60 val_main_v59
  pointwise
  rw [ref50, ref51, ← EReal.coe_sub, Ideal.exp_coe]

theorem ref71 : val_main_v71 (F := Ideal) (up z) (up b) (up g) (ix5 0 N i h k) = (te lej (b (ix1 (lane h k))) (qs z N (lane h k)) (hs g N (lane h k)) i : EReal) := by
  unfold val_main_v71 val_main_v69
  pointwise
  rw [ref48, ref68, ref61]
  simp only [← EReal.coe_mul]
  refine congrArg _ ?_
  unfold te
  ring

theorem ref75 : val_main_v75 (F := Ideal) (up z) (up b) (up g) (up d) (ix5 0 N 0 h k) = (dtot lej (b (ix1 (lane h k))) (qs z N (lane h k)) (hs g N (lane h k)) (ds d N (lane h k)) : EReal) := by
  have e : val_main_v73 (F := Ideal) (up z) (up b) (up g) (ix5 0 N 0 h k) = ((∑ j, te lej (b (ix1 (lane h k))) (qs z N (lane h k)) (hs g N (lane h k)) j : ℝ) : EReal) := by
    trans val_main_v72 (F := Ideal) (up z) (up b) (up g) (ix4 0 N h k)
    · unfold val_main_v73
      pointwise
    · unfold val_main_v72 val_main_cst_13
      pointwise
      simp only [ref71]
      exact coe_sum _ _
  unfold val_main_v75 val_main_v67 val_main_v64
  pointwise
  rw [e, ref66, ref51, Ideal.exp_coe]
  simp only [← EReal.coe_mul, ← EReal.coe_add]
  rfl

theorem ref79 : val_main_v79 (F := Ideal) (up z) (up b) (up f) (up g) (ix5 0 N i h k) = (dkey lej (b (ix1 (lane h k))) (qs z N (lane h k)) (hs f N (lane h k)) (hs g N (lane h k)) i : EReal) := by
  unfold val_main_v79 val_main_v70 val_main_v78
  pointwise
  rw [ref68, ref76, ref61, ref56]
  simp only [← EReal.coe_mul, ← EReal.coe_add]
  refine congrArg _ ?_
  unfold dkey
  ring

theorem ref87 : val_main_v87 (F := Ideal) (up q) (up z) (up b) (up e) (up f) (up g) (ix5 0 N i h k)
    = (db lej (b (ix1 (lane h k))) (qs q N (lane h k)) (qs z N (lane h k)) (hs e N (lane h k)) (hs f N (lane h k)) (hs g N (lane h k)) i : EReal) := by
  unfold val_main_v87 val_main_v82 val_main_v74 val_main_v81 val_main_v80 val_main_v77 val_main_v86 val_main_v84
  pointwise
  rw [ref48, ref47, ref71, ref76, ref83, ref52, ref56]
  simp only [← EReal.coe_mul, ← EReal.coe_add, ← EReal.coe_neg]
  refine congrArg _ ?_
  unfold db
  ring

theorem ref88 : val_main_v88 (F := Ideal) (up z) (up b) (up g) (up d) (ix5 0 N i h k)
    = ((if i = 15 then dtot lej (b (ix1 (lane h k))) (qs z N (lane h k)) (hs g N (lane h k)) (ds d N (lane h k)) else 0 : ℝ) : EReal) := by
  unfold val_main_v88 val_main_cst_14
  pointwise
  by_cases c : i = 15
  · subst c
    rw [dif_pos (by decide), if_pos rfl]
    exact ref75 z b g d N h k
  · rw [dif_neg fun r => c (Fin.ext (by have := r.1; omega)), if_neg c]
    rfl

theorem ref90 : val_main_v90 (F := Ideal) (up q) (up z) (up b) (up e) (up f) (up g) (up d) (ix5 0 N i h k)
    = (dlf lej (b (ix1 (lane h k))) (qs q N (lane h k)) (qs z N (lane h k)) (hs e N (lane h k)) (hs f N (lane h k)) (hs g N (lane h k)) (ds d N (lane h k)) i : EReal) := by
  have hz : ∀ s, val_main_call1_call0_v0 (F := Ideal) s = 0 := fun s => by
    unfold val_main_call1_call0_v0 val_main_call1_call0_cst
    pointwise
  have hv : ∀ i, val_main_v89 (F := Ideal) (up q) (up z) (up b) (up e) (up f) (up g) (up d) (ix5 0 N i h k)
      = ((db lej (b (ix1 (lane h k))) (qs q N (lane h k)) (qs z N (lane h k)) (hs e N (lane h k)) (hs f N (lane h k)) (hs g N (lane h k)) i
        + (if i = 15 then dtot lej (b (ix1 (lane h k))) (qs z N (lane h k)) (hs g N (lane h k)) (ds d N (lane h k)) else 0) : ℝ) : EReal) := fun i => by
    unfold val_main_v89
    pointwise
    rw [ref87, ref88, ← EReal.coe_add]
  unfold val_main_v90 Host.reduceWindowAdd
  rw [hz]
  refine (window _ _ 0 rfl _ _ N i h k).trans ?_
  simp only [hv]
  refine (high (fun j => ((db lej (b (ix1 (lane h k))) (qs q N (lane h k)) (qs z N (lane h k)) (hs e N (lane h k)) (hs f N (lane h k)) (hs g N (lane h k)) j
        + (if j = 15 then dtot lej (b (ix1 (lane h k))) (qs z N (lane h k)) (hs g N (lane h k)) (ds d N (lane h k)) else 0) : ℝ) : EReal)) i).trans ?_
  rw [dlf, ← last_row, ← coe_sum]
  refine Finset.sum_congr rfl fun j _ => ?_
  split <;> rfl

theorem ref91 : val_main_v91 (F := Ideal) (up q) (up z) (up b) (up e) (up f) (up g) (up d) (ix4 0 (tok N i) h k)
    = (dlf lej (b (ix1 (lane h k))) (qs q N (lane h k)) (qs z N (lane h k)) (hs e N (lane h k)) (hs f N (lane h k)) (hs g N (lane h k)) (ds d N (lane h k)) i : EReal) := by
  rw [← ref90]
  unfold val_main_v91
  generalize val_main_v90 (F := Ideal) _ _ _ _ _ _ _ = X
  pointwise
  exact congrArg₂ (fun N i => X (ix5 0 N i h k)) (ch_tok N i) (pl_tok N i)

theorem ref92 : val_main_v92 (F := Ideal) (up z) (up b) (up f) (up g) (ix4 0 (tok N i) h k)
    = (dkey lej (b (ix1 (lane h k))) (qs z N (lane h k)) (hs f N (lane h k)) (hs g N (lane h k)) i : EReal) := by
  rw [← ref79]
  unfold val_main_v92
  generalize val_main_v79 (F := Ideal) _ _ _ _ = X
  pointwise
  exact congrArg₂ (fun N i => X (ix5 0 N i h k)) (ch_tok N i) (pl_tok N i)

theorem ref93 : val_main_v93 (F := Ideal) (up z) (up b) (up e) (ix4 0 (tok N i) h k) = (dq lej (b (ix1 (lane h k))) (qs z N (lane h k)) (hs e N (lane h k)) i : EReal) := by
  trans val_main_v85 (F := Ideal) (up z) (up b) (up e) (ix5 0 N i h k)
  · unfold val_main_v93
    generalize val_main_v85 (F := Ideal) _ _ _ = X
    pointwise
    exact congrArg₂ (fun N i => X (ix5 0 N i h k)) (ch_tok N i) (pl_tok N i)
  · unfold val_main_v85
    pointwise
    rw [ref83, ref52, ← EReal.coe_mul]
    rfl

section Smooth

variable (hT : ∀ N i l, gate (b (ix1 l)) (qs z N l) i ≠ T)
include hT

theorem ref105 : val_main_v105 (F := Ideal) (up q) (up z) (up b) (up e) (up f) (up g) (up d) (ix4 0 (tok N i) h k)
    = (df lej (b (ix1 (lane h k))) (qs q N (lane h k)) (qs z N (lane h k)) (hs e N (lane h k)) (hs f N (lane h k)) (hs g N (lane h k)) (ds d N (lane h k)) i : EReal) := by
  have hm : 0 < max (gate (b (ix1 (lane h k))) (qs z N (lane h k)) i) T := lt_max_of_lt_right T_pos
  unfold val_main_v105 val_main_v104 val_main_v29 val_main_v28 val_main_v27 val_main_v26 val_main_v25 val_main_v24 val_main_v23 val_main_v22 val_main_v21 val_main_cst_8 val_main_cst_7 val_main_cst_6 val_main_cst_5 val_main_cst_4
  pointwise
  rw [ref91, ref20, ref18, bits_T, coe_max, div_real _ _ hm.ne']
  unfold df
  by_cases c : T < gate (b (ix1 (lane h k))) (qs z N (lane h k)) i
  · rw [if_pos (EReal.coe_lt_coe_iff.2 c), if_pos c, mul_one, max_eq_left c.le]
  · rw [if_neg fun r => c (EReal.coe_lt_coe_iff.1 r), if_neg fun r => hT N i (lane h k) (EReal.coe_eq_coe_iff.1 r), if_neg c, mul_zero]
    rfl

theorem ref117 : val_main_v117 (F := Ideal) (up q) (up z) (up b) (up e) (up f) (up g) (up d) (ix4 0 (tok N i) h k) = (gZ lej q z b e f g d N (lane h k) i : EReal) := by
  unfold val_main_v117 val_main_v116 val_main_v111 val_main_v110 val_main_v102 val_main_v101 val_main_v96 val_main_v95 val_main_v42 val_main_v41 val_main_v40 val_main_cst_12
    val_main_v43 val_main_v32 val_main_v31 val_main_cst_9 val_main_v13 val_main_v3 val_main_v2 val_main_cst val_main_v12 val_main_v11 val_main_v10 val_main_cst_2
  pointwise
  rw [ref105 q z b e f g d N i h k hT, ref92, ref39, ref9, ref0, ← EReal.coe_one]
  simp only [← EReal.coe_mul, ← EReal.coe_sub, ← EReal.coe_add, ← EReal.coe_neg]
  refine congrArg _ ?_
  unfold gZ dz
  rw [sg_neg]
  ring

theorem ref_z : val_main_v120 (F := Ideal) (up q) (up z) (up b) (up e) (up f) (up g) (up d) = allZ lej q z b e f g d := by
  funext i
  obtain ⟨o, u, l, rfl⟩ : ∃ (o : Fin 1) (u : Fin 16384) (l : Fin 1024), i = ix3 o u l := ⟨i 0, i 1, i 2, eq_ix3 i⟩
  obtain rfl : o = 0 := Subsingleton.elim _ _
  obtain ⟨h, k, rfl⟩ := lane_surj l
  obtain ⟨N, i, rfl⟩ := tok_surj u
  rw [allZ_at, ← ref117 q z b e f g d N i h k hT]
  unfold val_main_v120
  generalize val_main_v117 (F := Ideal) _ _ _ _ _ _ _ = X
  pointwise
  exact congrArg₂ (fun h k => X (ix4 0 (tok N i) h k)) (hd_lane h k) (ln_lane h k)

theorem sums (h : Fin 8) (k : Fin 128) : val_main_v119 (F := Ideal) (up q) (up z) (up b) (up e) (up f) (up g) (up d) (ix2 h k) = ∑ N, ∑ i, (gB lej q z b e f g d N (lane h k) i : EReal) := by
  have s1 : val_main_v100 (F := Ideal) (up z) (up b) (up f) (up g) (ix2 h k)
      = ((∑ N, ∑ i, dkey lej (b (ix1 (lane h k))) (qs z N (lane h k)) (hs f N (lane h k)) (hs g N (lane h k)) i * sg (-qs z N (lane h k) i) : ℝ) : EReal) := by
    trans val_main_v98 (F := Ideal) (up z) (up b) (up f) (up g) (ix3 0 h k)
    · unfold val_main_v100 val_main_cst_16 val_main_v99
      pointwise
      refine (over_front _ _ h k).trans ?_
      pointwise
    · unfold val_main_v98 val_main_v97 val_main_cst_15
      pointwise
      rw [over_tokens]
      simp only [ref92, ref39, ← EReal.coe_mul, coe_sum]
  have s2 : val_main_v108 (F := Ideal) (up q) (up z) (up b) (up e) (up f) (up g) (up d) (ix2 h k)
      = ((∑ N, ∑ i, df lej (b (ix1 (lane h k))) (qs q N (lane h k)) (qs z N (lane h k)) (hs e N (lane h k)) (hs f N (lane h k)) (hs g N (lane h k)) (ds d N (lane h k)) i : ℝ) : EReal) := by
    trans val_main_v106 (F := Ideal) (up q) (up z) (up b) (up e) (up f) (up g) (up d) (ix3 0 h k)
    · unfold val_main_v108 val_main_cst_18 val_main_v107
      pointwise
      refine (over_front _ _ h k).trans ?_
      pointwise
    · unfold val_main_v106 val_main_cst_17
      pointwise
      rw [over_tokens]
      simp only [ref105 q z b e f g d _ _ h k hT, coe_sum]
  have s3 : val_main_v115 (F := Ideal) (up q) (up z) (up b) (up e) (up f) (up g) (up d) (ix2 h k)
      = ((∑ N, ∑ i, df lej (b (ix1 (lane h k))) (qs q N (lane h k)) (qs z N (lane h k)) (hs e N (lane h k)) (hs f N (lane h k)) (hs g N (lane h k)) (ds d N (lane h k)) i * sg (qs z N (lane h k) i) : ℝ) : EReal) := by
    trans val_main_v113 (F := Ideal) (up q) (up z) (up b) (up e) (up f) (up g) (up d) (ix3 0 h k)
    · unfold val_main_v115 val_main_cst_20 val_main_v114
      pointwise
      refine (over_front _ _ h k).trans ?_
      pointwise
    · unfold val_main_v113 val_main_v112 val_main_cst_19
      pointwise
      rw [over_tokens]
      simp only [ref105 q z b e f g d _ _ h k hT, ref9, ← EReal.coe_mul, coe_sum]
  unfold val_main_v119 val_main_v109 val_main_v103 val_main_v118
  pointwise
  rw [s1, s2, s3]
  simp only [← EReal.coe_add, ← EReal.coe_neg, coe_sum]
  refine congrArg _ ?_
  simp only [← Finset.sum_neg_distrib, ← Finset.sum_add_distrib]
  refine Finset.sum_congr rfl fun N _ => Finset.sum_congr rfl fun i _ => ?_
  unfold gB dlb
  rw [sg_neg]
  ring

theorem ref_b : val_main_v122 (F := Ideal) (up q) (up z) (up b) (up e) (up f) (up g) (up d) = allB lej q z b e f g d := by
  funext i
  obtain ⟨o, r, l, rfl⟩ : ∃ (o r : Fin 1) (l : Fin 1024), i = ix3 o r l := ⟨i 0, i 1, i 2, eq_ix3 i⟩
  obtain rfl : o = 0 := Subsingleton.elim _ _
  obtain rfl : r = 0 := Subsingleton.elim _ _
  obtain ⟨h, k, rfl⟩ := lane_surj l
  rw [allB_sum, ← sums q z b e f g d hT h k]
  unfold val_main_v122 val_main_v121
  generalize val_main_v119 (F := Ideal) _ _ _ _ _ _ _ = X
  pointwise
  exact congrArg₂ (fun h k => X (ix2 h k)) (hd_lane h k) (ln_lane h k)

end Smooth

theorem ref_q : val_main_v94 (F := Ideal) (up z) (up b) (up e) = allQ lej z b e := by
  funext i
  obtain ⟨o, u, l, rfl⟩ : ∃ (o : Fin 1) (u : Fin 16384) (l : Fin 1024), i = ix3 o u l := ⟨i 0, i 1, i 2, eq_ix3 i⟩
  obtain rfl : o = 0 := Subsingleton.elim _ _
  obtain ⟨h, k, rfl⟩ := lane_surj l
  obtain ⟨N, i, rfl⟩ := tok_surj u
  rw [allQ_at]
  refine Eq.trans ?_ (ref93 z b e N i h k)
  unfold val_main_v94
  generalize val_main_v93 (F := Ideal) _ _ _ = X
  pointwise
  exact congrArg₂ (fun h k => X (ix4 0 (tok N i) h k)) (hd_lane h k) (ln_lane h k)

end Cert.Chunk.Fwd
-- ==== Proof.ScanPairF.lean ====
module

public import proofs.«01_k».proof.Defs
public import proofs.«01_k».proof.Proof.ScanFwd
public import proofs.«01_k».proof.Proof.ScanRefF
public import proofs.«01_k».proof.Proof.Gen.PrepF.Frame
public import proofs.«01_k».proof.Proof.Gen.PrepFRefIdeal.Run
public import Idealize.ShloMosaic.Lib.Claim

@[expose] public section

set_option maxRecDepth 16384

/-! # The forward gates' backward call: its frames, and the equality of the two programs -/

noncomputable section

namespace Cert.Chunk.Fwd

open Idealize.ShloMosaic Idealize.ShloMosaic.TcCoe Idealize.SL.Sem Cert.Reals

theorem frame_k : Cert.quiescent_PrepF := fun m ρ _ => Cert.PrepF.Gen.frame m ρ
theorem frame_i : Cert.quiescent_PrepFIdeal := fun m ρ _ => Cert.PrepFIdeal.Gen.frame m ρ
theorem frame_ip [Cert.Pre_smooth_gates.Facts] : Cert.quiescent_PrepFIdeal_pre_smooth_gates := fun m ρ _ => Cert.PrepFIdeal.Gen.frame m ρ
theorem frame_r : Cert.quiescent_PrepFRefIdeal := fun m ρ _ =>
  θ_run_mono (Cert.PrepFRefIdeal.Value.run (F := Ideal) m ρ) fun r h => ⟨fun c => (h c).2.2.2, sem_eq_zero_of_no_sems (by decide) r.2⟩
theorem frame_rp [Cert.Pre_smooth_gates.Facts] : Cert.quiescent_PrepFRefIdeal_pre_smooth_gates := fun m ρ _ => frame_r m ρ trivial

theorem algebraic [Cert.Pre_smooth_gates.Facts] : Cert.algebraic_PrepFIdeal_PrepFRefIdeal_pre_smooth_gates := by
  intro m s m' s' hpre hagree
  have hr := fun c => entries_real _ _ _ _ _ _ _ (hpre c)
  choose q hq using fun c => (hr c).1.1
  choose z hz using fun c => (hr c).1.2.1
  choose b hb using fun c => (hr c).1.2.2.1
  choose e he using fun c => (hr c).1.2.2.2.1
  choose f hf using fun c => (hr c).1.2.2.2.2.1
  choose g hg using fun c => (hr c).1.2.2.2.2.2.1
  choose d hd using fun c => (hr c).1.2.2.2.2.2.2
  have hT := fun c => (hr c).2 (z c) (b c) (hz c) (hb c)
  refine ⟨fun c => allQ le (z c) (b c) (e c), fun c => allZ le (q c) (z c) (b c) (e c) (f c) (g c) (d c), fun c => allB le (q c) (z c) (b c) (e c) (f c) (g c) (d c), ?_, ?_⟩
  · exact θ_run_mono (Cert.PrepFIdeal.Value.run_blocks m s) fun r h c =>
      ⟨(h c).1.trans (arrQ m c _ _ _ (hz c) (hb c) (he c)), (h c).2.1.trans (arrZ m c _ _ _ _ _ _ _ (hq c) (hz c) (hb c) (he c) (hf c) (hg c) (hd c)),
        (h c).2.2.1.trans (arrB m c _ _ _ _ _ _ _ (hq c) (hz c) (hb c) (he c) (hf c) (hg c) (hd c)), (h c).2.2.2⟩
  · refine θ_run_mono (Cert.PrepFRefIdeal.Value.run (F := Ideal) m' s') fun r h c => ?_
    obtain ⟨a0, a1, a2, a3, a4, a5, a6⟩ := hagree c
    refine ⟨(h c).1.trans ((Cert.PrepFRefIdeal.Read.val_main_v94_eq _ _ _).trans ?_), (h c).2.1.trans ((Cert.PrepFRefIdeal.Read.val_main_v120_eq _ _).trans ?_),
      (h c).2.2.1.trans ((Cert.PrepFRefIdeal.Read.val_main_v122_eq _ _).trans ?_), (h c).2.2.2⟩
    · rw [a1, a2, a3]
      erw [hz c, hb c, he c]
      exact ref_q _ _ _
    · rw [a0, a1, a2, a3, a4, a5, a6]
      erw [hq c, hz c, hb c, he c, hf c, hg c, hd c]
      exact ref_z _ _ _ _ _ _ _ (hT c)
    · rw [a0, a1, a2, a3, a4, a5, a6]
      erw [hq c, hz c, hb c, he c, hf c, hg c, hd c]
      exact ref_b _ _ _ _ _ _ _ (hT c)

end Cert.Chunk.Fwd
-- ==== Proof.ScanBwd.lean ====
module

public import proofs.«01_k».proof.Proof.ScanGrid
public import proofs.«01_k».proof.Proof.Gen.PrepBIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

/-! # The backward gates' backward call, over its grid -/

noncomputable section

namespace Cert.Chunk.Bwd

open Idealize.ShloMosaic Idealize.ShloMosaic.TcCoe Idealize.SL.Sem Cert.Reals

open Cert.PrepBIdeal Cert.PrepBIdeal.Gen

/-- Which tokens of a chunk a token's running sum counts. -/
abbrev le (j i : Fin 16) : Prop := i ≤ j

variable (m : (ℓ : Loc nD τ sig) → Buf (Elt Ideal) ℓ) (c : Dev nD) (t : Fin cfg0.N)

abbrev arg (r : Ref sig .tc) := m ((c : Thread nD τ).loc r)

/-- The three masks. -/
abbrev cum := k0_pay8 (F := Ideal) (iota .tc S256x256 32 [0] iota_S256x256_d0_w32) (iota .tc S256x256 32 [1] iota_S256x256_d1_w32) k0_pay2 k0_pay3 k0_pay4 k0_pay5 k0_pay6
abbrev same := k0_pay9 (F := Ideal) k0_pay2 k0_pay3 k0_pay4 k0_pay5 k0_pay6
abbrev heads := k0_pay10 (F := Ideal)
theorem cum_at (n n' i j : Fin 16) : cum (ix2 (rw n i) (rw n' j)) = if n = n' ∧ le j i then 1 else 0 := by
  unfold cum k0_pay8 k0_pay7 k0_pay2 k0_pay3 k0_pay4 k0_pay5 k0_pay6
  pointwise
  refine select_one _ _ ?_
  revert n n' i j
  decide +kernel

theorem idx : ∀ t : Fin grid0.N, win0_0.index t = ![0, t.val, 0] ∧ win0_1.index t = ![0, t.val, 0] ∧ win0_2.index t = ![0, 0, 0] ∧ win0_3.index t = ![0, t.val, 0] ∧ win0_4.index t = ![0, t.val, 0]
    ∧ win0_5.index t = ![0, t.val, 0] ∧ win0_6.index t = ![0, t.val, 0] ∧ win0_7.index t = ![0, t.val, 0] ∧ win0_8.index t = ![0, t.val, 0] ∧ win0_9.index t = ![0, 0, 0] := by decide +kernel

theorem in0 (r : Fin 256) (l : Fin 1024) (u : Fin 16384) (hu : u.val = t.val * 256 + r.val) : iblk m c 0 t (ix3 0 r l) = arg m c main_arg0 (ix3 0 u l) := by
  blk_simp [iblk]; entry_read; pointwise; blk_ext [iblk, (idx t).1]

theorem in1 (r : Fin 256) (l : Fin 1024) (u : Fin 16384) (hu : u.val = t.val * 256 + r.val) : iblk m c 1 t (ix3 0 r l) = arg m c main_arg1 (ix3 0 u l) := by
  blk_simp [iblk]; entry_read; pointwise; blk_ext [iblk, (idx t).2.1]

theorem in2 (l : Fin 1024) : iblk m c 2 t (ix3 0 0 l) = arg m c main_arg2 (ix1 l) := by
  blk_simp [iblk]; entry_read; pointwise; blk_ext [iblk, (idx t).2.2.1]

theorem in3 (r : Fin 256) (h : Fin 8) (k : Fin 128) (u : Fin 16384) (hu : u.val = t.val * 256 + r.val) : iblk m c 3 t (ix3 0 r (lane h k)) = arg m c main_arg3 (ix4 0 u h k) := by
  blk_simp [iblk]; entry_read; pointwise; blk_ext [iblk, (idx t).2.2.2.1]
  all_goals first | exact congrArg Fin.val (hd_lane h k) | exact congrArg Fin.val (ln_lane h k)

theorem in4 (r : Fin 256) (h : Fin 8) (k : Fin 128) (u : Fin 16384) (hu : u.val = t.val * 256 + r.val) : iblk m c 4 t (ix3 0 r (lane h k)) = arg m c main_arg4 (ix4 0 u h k) := by
  blk_simp [iblk]; entry_read; pointwise; blk_ext [iblk, (idx t).2.2.2.2.1]
  all_goals first | exact congrArg Fin.val (hd_lane h k) | exact congrArg Fin.val (ln_lane h k)

theorem in5 (r : Fin 256) (h : Fin 8) (k : Fin 128) (u : Fin 16384) (hu : u.val = t.val * 256 + r.val) : iblk m c 5 t (ix3 0 r (lane h k)) = arg m c main_arg5 (ix4 0 u h k) := by
  blk_simp [iblk]; entry_read; pointwise; blk_ext [iblk, (idx t).2.2.2.2.2.1]
  all_goals first | exact congrArg Fin.val (hd_lane h k) | exact congrArg Fin.val (ln_lane h k)

theorem in6 (n : Fin 16) (h : Fin 8) (k : Fin 128) (N : Fin 1024) (hN : N.val = t.val * 16 + n.val) : iblk m c 6 t (ix3 0 n (lane h k)) = arg m c main_arg6 (ix4 0 N h k) := by
  blk_simp [iblk]; entry_read; pointwise; blk_ext [iblk, (idx t).2.2.2.2.2.2.1]
  all_goals first | exact congrArg Fin.val (hd_lane h k) | exact congrArg Fin.val (ln_lane h k)

def cnk (n : Fin 16) : Fin 1024 := ⟨t.val * 16 + n.val, by have hN : t.val < 64 := t.isLt; omega⟩

theorem row_tok (n i : Fin 16) : (tok (cnk t n) i).val = t.val * 256 + (rw n i).val := by
  simp only [tok, cnk, rw]
  omega

/-! ## What a grid point stores -/

abbrev stQ := outQ cum (iblk m c 2 t) (iblk m c 1 t) (iblk m c 3 t)
abbrev stZ := outZ cum same heads (iblk m c 2 t) (iblk m c 0 t) (iblk m c 1 t) (iblk m c 3 t) (iblk m c 4 t) (iblk m c 5 t) (iblk m c 6 t)
abbrev stB (v : Vec Ideal S1x1x1024 .f32) := outB cum same heads (iblk m c 2 t) (iblk m c 0 t) (iblk m c 1 t) (iblk m c 3 t) (iblk m c 4 t) (iblk m c 5 t) (iblk m c 6 t) v

theorem out_start (h0 : t.val % 64 = 0) : outsAt0 m c t.val t.isLt = (stQ m c t, stZ m c t, stB m c t (k0_pay48 (F := Ideal))) := by
  rw [outsAt0_A m c t h0]
  frame_out
  rfl

theorem out_next (h0 : ¬t.val % 64 = 0) : outsAt0 m c t.val t.isLt = (stQ m c t, stZ m c t, stB m c t (outsAt0 m c (t.val - 1) (Nat.lt_of_le_of_lt (Nat.sub_le _ _) t.isLt)).2.2) := by
  rw [outsAt0_B m c t h0]
  frame_out
  rfl

theorem q_at : (outsAt0 m c t.val t.isLt).1 = stQ m c t := by
  by_cases z : t.val % 64 = 0
  · rw [out_start m c t z]
  · rw [out_next m c t z]

theorem z_at : (outsAt0 m c t.val t.isLt).2.1 = stZ m c t := by
  by_cases z : t.val % 64 = 0
  · rw [out_start m c t z]
  · rw [out_next m c t z]

/-! ## The three arrays -/

section Real

variable (q z : Flat.Idx → ℝ) (b : Bound.Idx → ℝ) (e f g : Split.Idx → ℝ) (d : Ends.Idx → ℝ)
  (h0 : arg m c main_arg0 = fun i => (q i : EReal)) (h1 : arg m c main_arg1 = fun i => (z i : EReal)) (h2 : arg m c main_arg2 = fun i => (b i : EReal)) (h3 : arg m c main_arg3 = fun i => (e i : EReal))
  (h4 : arg m c main_arg4 = fun i => (f i : EReal)) (h5 : arg m c main_arg5 = fun i => (g i : EReal)) (h6 : arg m c main_arg6 = fun i => (d i : EReal)) (l : Fin 1024)

include h0 in
theorem block0 (n i : Fin 16) : iblk m c 0 t (ix3 0 (rw n i) l) = (qs q (cnk t n) l i : EReal) := by rw [in0 m c t _ l _ (row_tok t n i), h0]; rfl
include h1 in
theorem block1 (n i : Fin 16) : iblk m c 1 t (ix3 0 (rw n i) l) = (qs z (cnk t n) l i : EReal) := by rw [in1 m c t _ l _ (row_tok t n i), h1]; rfl
include h2 in
theorem block2 : iblk m c 2 t (ix3 0 0 l) = (b (ix1 l) : EReal) := by rw [in2 m c t l, h2]
include h3 in
theorem block3 (n i : Fin 16) : iblk m c 3 t (ix3 0 (rw n i) l) = (hs e (cnk t n) l i : EReal) := by
  obtain ⟨h, k, rfl⟩ := lane_surj l
  rw [in3 m c t _ h k _ (row_tok t n i), h3, hs, hd_lane, ln_lane]
include h4 in
theorem block4 (n i : Fin 16) : iblk m c 4 t (ix3 0 (rw n i) l) = (hs f (cnk t n) l i : EReal) := by
  obtain ⟨h, k, rfl⟩ := lane_surj l
  rw [in4 m c t _ h k _ (row_tok t n i), h4, hs, hd_lane, ln_lane]
include h5 in
theorem block5 (n i : Fin 16) : iblk m c 5 t (ix3 0 (rw n i) l) = (hs g (cnk t n) l i : EReal) := by
  obtain ⟨h, k, rfl⟩ := lane_surj l
  rw [in5 m c t _ h k _ (row_tok t n i), h5, hs, hd_lane, ln_lane]
include h6 in
theorem block6 (n : Fin 16) : iblk m c 6 t (ix3 0 n l) = (ds d (cnk t n) l : EReal) := by
  obtain ⟨h, k, rfl⟩ := lane_surj l
  rw [in6 m c t n h k (cnk t n) rfl, h6, ds, hd_lane, ln_lane]

include h1 h2 h3 in
theorem arrQ : (dats m 0 c).arrAt 7 cfg0.N = allQ le z b e := by
  refine (dats m 0 c).arrAt_eq_of_covers 7 _ (by decide +kernel) fun t hf y => ?_
  blk_simp
  rw [after0_7]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans allQ le z b e (ix3 0 (tok (cnk t n) i) l)
  · rw [allQ_at]
    exact (congrFun (q_at m c t) _).trans (outQ_at le cum cum_at l _ (fun n => qs z (cnk t n) l) (fun n => hs e (cnk t n) l) n i _ _ _ (block2 m c t b h2 l) (block1 m c t z h1 l) (block3 m c t e h3 l))
  · generalize allQ le z b e = d
    have hu := row_tok t n i
    blk_ext [(idx t).2.2.2.2.2.2.2.1]

include h0 h1 h2 h3 h4 h5 h6 in
theorem arrZ : (dats m 0 c).arrAt 8 cfg0.N = allZ le q z b e f g d := by
  refine (dats m 0 c).arrAt_eq_of_covers 8 _ (by decide +kernel) fun t hf y => ?_
  blk_simp
  rw [after0_8]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans allZ le q z b e f g d (ix3 0 (tok (cnk t n) i) l)
  · rw [allZ_at]
    exact (congrFun (z_at m c t) _).trans (outZ_at le cum cum_at l _ (fun n => qs q (cnk t n) l) (fun n => qs z (cnk t n) l) (fun n => hs e (cnk t n) l) (fun n => hs f (cnk t n) l) (fun n => hs g (cnk t n) l) (fun n => ds d (cnk t n) l) n i
      same heads chunk_mask row_mask _ _ _ _ _ _ _ (block2 m c t b h2 l) (block0 m c t q h0 l) (block1 m c t z h1 l) (block3 m c t e h3 l) (block4 m c t f h4 l) (block5 m c t g h5 l) (block6 m c t d h6 l))
  · generalize allZ le q z b e f g d = d
    have hu := row_tok t n i
    blk_ext [(idx t).2.2.2.2.2.2.2.2.1]

include h0 h1 h2 h3 h4 h5 h6 in
theorem acc_block (v : Vec Ideal S1x1x1024 .f32) : stB m c t v (ix3 0 0 l) = v (ix3 0 0 l) + ∑ n : Fin 16, bPart le q z b e f g d l (t.val * 16 + n.val) := by
  refine (outB_at le cum cum_at l _ (fun n => qs q (cnk t n) l) (fun n => qs z (cnk t n) l) (fun n => hs e (cnk t n) l) (fun n => hs f (cnk t n) l) (fun n => hs g (cnk t n) l) (fun n => ds d (cnk t n) l)
      same heads chunk_mask row_mask _ _ _ _ _ _ _ v (block2 m c t b h2 l) (block0 m c t q h0 l) (block1 m c t z h1 l) (block3 m c t e h3 l) (block4 m c t f h4 l) (block5 m c t g h5 l) (block6 m c t d h6 l)).trans ?_
  refine congrArg _ (Finset.sum_congr rfl fun n _ => ?_)
  exact (bPart_at le q z b e f g d l (cnk t n)).symm

include h0 h1 h2 h3 h4 h5 h6 in
theorem bound_at : ∀ (n : ℕ) (hn : n < cfg0.N), (outsAt0 m c n hn).2.2 (ix3 0 0 l) = ∑ k ∈ Finset.range (n + 1), ∑ r : Fin 16, bPart le q z b e f g d l (k * 16 + r.val) := by
  intro n
  induction n with
  | zero =>
    intro hn
    rw [out_start m c ⟨0, hn⟩ rfl]
    refine (acc_block m c ⟨0, hn⟩ q z b e f g d h0 h1 h2 h3 h4 h5 h6 l _).trans ?_
    unfold k0_pay48
    pointwise
    rw [Finset.sum_range_one]
    simp only [Nat.zero_mul, Nat.zero_add]
  | succ n ih =>
    intro hn
    have hN : n + 1 < 64 := hn
    rw [out_next m c ⟨n + 1, hn⟩ (by rw [Nat.mod_eq_of_lt hN]; omega), Finset.sum_range_succ _ (n + 1)]
    exact (acc_block m c ⟨n + 1, hn⟩ q z b e f g d h0 h1 h2 h3 h4 h5 h6 l _).trans (congrArg (· + _) (ih _))

include h0 h1 h2 h3 h4 h5 h6 in
theorem arrB : (dats m 0 c).arrAt 9 cfg0.N = allB le q z b e f g d := by
  refine (dats m 0 c).arrAt_eq_of_covers 9 _ (by decide +kernel) fun t hf y => ?_
  have hl := (flush0_9 t).1 hf
  blk_simp
  rw [after0_9]
  obtain ⟨o, r, l, rfl⟩ : ∃ (o r : Fin 1) (l : Fin 1024), y = ix3 o r l := ⟨y 0, y 1, y 2, eq_ix3 y⟩
  obtain rfl : o = 0 := Subsingleton.elim _ _
  obtain rfl : r = 0 := Subsingleton.elim _ _
  have hN : t.val < 64 := t.isLt
  obtain ht : t.val = 63 := by omega
  trans allB le q z b e f g d (ix3 0 0 l)
  · refine (bound_at m c q z b e f g d h0 h1 h2 h3 h4 h5 h6 l t.val t.isLt).trans ?_
    rw [ht, RowNorm.sum_in_blocks]
    exact allB_at le q z b e f g d l _ (by norm_num)
  · generalize allB le q z b e f g d = d
    blk_ext [(idx t).2.2.2.2.2.2.2.2.2]

end Real

end Cert.Chunk.Bwd
-- ==== Proof.ScanRefB.lean ====
module

public import proofs.«01_k».proof.Proof.ScanPre
public import proofs.«01_k».proof.Proof.ScanWindow
public import proofs.«01_k».proof.Proof.Gen.PrepBRefIdeal.Read
public import Idealize.ShloMosaic.Lib.Pointwise

@[expose] public section

set_option maxRecDepth 16384

/-! # The backward gates' backward call, as the host differentiates it -/

noncomputable section

namespace Cert.Chunk.Bwd

open Idealize.ShloMosaic Idealize.ShloMosaic.TcCoe Idealize.SL.Sem Cert.Reals

open Cert.PrepBRefIdeal Cert.PrepBRefIdeal.Gen Cert.PrepBRefIdeal.Read

variable (q z : Flat.Idx → ℝ) (b : Bound.Idx → ℝ) (e f g : Split.Idx → ℝ) (d : Ends.Idx → ℝ) (N : Fin 1024) (i : Fin 16) (h : Fin 8) (k : Fin 128)

abbrev lej (j i : Fin 16) : Prop := i ≤ j

theorem ref1 : val_main_v1 (F := Ideal) (up z) (ix4 0 (tok N i) h k) = (qs z N (lane h k) i : EReal) := by
  unfold val_main_v1
  pointwise
  rfl

theorem ref46 : val_main_v46 (F := Ideal) (up z) (ix4 0 (tok N i) h k) = (qs z N (lane h k) i : EReal) := by
  unfold val_main_v46
  pointwise
  rfl

theorem ref0 : val_main_v0 (F := Ideal) (up b) (ix2 h k) = (b (ix1 (lane h k)) : EReal) := by
  unfold val_main_v0
  pointwise
  rfl

theorem ref9 : val_main_v9 (F := Ideal) (up z) (ix4 0 (tok N i) h k) = (sg (qs z N (lane h k) i) : EReal) := by
  rw [← sg_real, ← ref1]
  unfold val_main_v9 val_main_v8 val_main_cst_1 val_main_v7 val_main_v6 val_main_cst_0 val_main_v5 val_main_v4
  pointwise

theorem ref39 : val_main_v39 (F := Ideal) (up z) (ix4 0 (tok N i) h k) = (sg (-qs z N (lane h k) i) : EReal) := by
  rw [← sg_real, EReal.coe_neg, ← ref1]
  unfold val_main_v39 val_main_v38 val_main_cst_11 val_main_v37 val_main_v36 val_main_cst_10 val_main_v35 val_main_v34 val_main_v33
  pointwise

theorem ref18 : val_main_v18 (F := Ideal) (up z) (up b) (ix4 0 (tok N i) h k) = (gate (b (ix1 (lane h k))) (qs z N (lane h k)) i : EReal) := by
  unfold val_main_v18 val_main_v17 val_main_v16 val_main_v15 val_main_v14 val_main_v13 val_main_v3 val_main_v2 val_main_cst
  pointwise
  rw [ref9, ref0, ← EReal.coe_one]
  simp only [← EReal.coe_sub, ← EReal.coe_mul, ← EReal.coe_add]
  rfl

theorem ref20 : val_main_v20 (F := Ideal) (up z) (up b) (ix4 0 (tok N i) h k) = (max (gate (b (ix1 (lane h k))) (qs z N (lane h k)) i) T : EReal) := by
  unfold val_main_v20 val_main_v19 val_main_cst_3
  pointwise
  rw [ref18, bits_T]

theorem ref30 : val_main_v30 (F := Ideal) (up z) (up b) (ix4 0 (tok N i) h k) = (lf (b (ix1 (lane h k))) (qs z N (lane h k)) i : EReal) := by
  unfold val_main_v30
  pointwise
  rw [ref20, coe_max, log_real _ (lt_max_of_lt_right T_pos)]
  rfl

theorem ref45 : val_main_v45 (F := Ideal) (up z) (up b) (ix4 0 (tok N i) h k) = (key (b (ix1 (lane h k))) (qs z N (lane h k)) i : EReal) := by
  unfold val_main_v45 val_main_v44 val_main_v43 val_main_v32 val_main_v31 val_main_cst_9
  pointwise
  rw [ref39, ref0, ← EReal.coe_one]
  simp only [← EReal.coe_sub, ← EReal.coe_mul]
  rfl

theorem turned (N : Fin 1024) (i : Fin 16) : (tok N i).rev = tok N.rev i.rev := by
  refine Fin.ext ?_
  have := N.isLt
  have := i.isLt
  simp only [Fin.val_rev, tok]
  omega

/-- The tokens read from the last to the first. -/
theorem flip (X : Split.Idx → EReal) : Host.reverse [1] X (ix4 0 (tok N i) h k) = X (ix4 0 (tok N.rev i.rev) h k) := by
  rw [← turned]
  pointwise
  rfl

theorem flip_ends (X : Ends.Idx → EReal) : Host.reverse [1] X (ix4 0 N h k) = X (ix4 0 N.rev h k) := by
  pointwise
  rfl

theorem turn (y : Fin 16 → EReal) : (∑ j, if j ≤ i then y j.rev else 0) = ∑ j, if i.rev ≤ j then y j else 0 := by
  rw [← Equiv.sum_comp Fin.revPerm]
  refine Finset.sum_congr rfl fun j _ => ?_
  simp only [Fin.revPerm_apply, Fin.rev_rev, Fin.rev_le_iff]

theorem turn_real (y : Fin 16 → ℝ) : (∑ j, if i ≤ j then y j.rev else 0) = ∑ j, if j ≤ i.rev then y j else 0 := by
  rw [← Equiv.sum_comp Fin.revPerm]
  refine Finset.sum_congr rfl fun j _ => ?_
  simp only [Fin.revPerm_apply, Fin.rev_rev, Fin.le_rev_iff]

theorem ref50 : val_main_v50 (F := Ideal) (up q) (ix5 0 N i h k) = (qs q N.rev (lane h k) i.rev : EReal) := by
  refine Eq.trans ?_ ((flip N i h k _).trans (ref46 q N.rev i.rev h k))
  unfold val_main_v50 val_main_v47
  generalize Host.reverse [1] (val_main_v46 (F := Ideal) (up q)) = X
  pointwise
  rfl

theorem ref51 : val_main_v51 (F := Ideal) (up z) (up b) (ix5 0 N i h k) = (key (b (ix1 (lane h k))) (qs z N.rev (lane h k)) i.rev : EReal) := by
  refine Eq.trans ?_ ((flip N i h k _).trans (ref45 z b N.rev i.rev h k))
  unfold val_main_v51 val_main_v48
  generalize Host.reverse [1] (val_main_v45 (F := Ideal) (up z) (up b)) = X
  pointwise
  rfl

theorem ref52 : val_main_v52 (F := Ideal) (up z) (up b) (ix5 0 N i h k) = (lf (b (ix1 (lane h k))) (qs z N.rev (lane h k)) i.rev : EReal) := by
  refine Eq.trans ?_ ((flip N i h k _).trans (ref30 z b N.rev i.rev h k))
  unfold val_main_v52 val_main_v49
  generalize Host.reverse [1] (val_main_v30 (F := Ideal) (up z) (up b)) = X
  pointwise
  rfl

theorem ref53 : val_main_v53 (F := Ideal) (up z) (up b) (ix5 0 N i h k) = (cs lej (b (ix1 (lane h k))) (qs z N.rev (lane h k)) i.rev : EReal) := by
  have hz : ∀ s, val_main_call3_call0_v0 (F := Ideal) s = 0 := fun s => by
    unfold val_main_call3_call0_v0 val_main_call3_call0_cst
    pointwise
  unfold val_main_v53 Host.reduceWindowAdd
  rw [hz]
  refine (window _ _ 15 rfl _ _ N i h k).trans ?_
  simp only [ref52]
  refine (low (fun j => (lf (b (ix1 (lane h k))) (qs z N.rev (lane h k)) j.rev : EReal)) i).trans ?_
  rw [turn i fun j => (lf (b (ix1 (lane h k))) (qs z N.rev (lane h k)) j : EReal), cs, ← coe_sum]
  refine Finset.sum_congr rfl fun j _ => ?_
  split <;> rfl

theorem ref94 : val_main_v94 (F := Ideal) (up e) (ix5 0 N i h k) = (hs e N.rev (lane h k) i.rev : EReal) := by
  trans Host.reverse [1] (up e) (ix4 0 (tok N i) h k)
  · unfold val_main_v94 val_main_v93
    generalize Host.reverse [1] (up e) = X
    pointwise
    rfl
  · rw [flip, hs, hd_lane, ln_lane]

theorem ref74 : val_main_v74 (F := Ideal) (up d) (ix5 0 N 0 h k) = (ds d N.rev (lane h k) : EReal) := by
  trans Host.reverse [1] (up d) (ix4 0 N h k)
  · unfold val_main_v74 val_main_v73
    generalize Host.reverse [1] (up d) = X
    pointwise
  · rw [flip_ends, ds, hd_lane, ln_lane]

theorem ref54 : val_main_v54 (F := Ideal) (up z) (up b) (ix5 0 N 0 h k) = (tot (b (ix1 (lane h k))) (qs z N.rev (lane h k)) : EReal) := by
  unfold val_main_v54
  pointwise
  refine (ref53 z b N 15 h k).trans (congrArg _ ?_)
  exact Finset.sum_congr rfl fun j _ => if_pos (Fin.zero_le j)

theorem ref77 : val_main_v77 (F := Ideal) (up g) (ix5 0 N i h k) = (hs g N.rev (lane h k) i.rev : EReal) := by
  trans Host.reverse [1] (up g) (ix4 0 (tok N i) h k)
  · unfold val_main_v77 val_main_v76
    generalize Host.reverse [1] (up g) = X
    pointwise
    rfl
  · rw [flip, hs, hd_lane, ln_lane]

theorem ref86 : val_main_v86 (F := Ideal) (up f) (ix5 0 N i h k) = (hs f N.rev (lane h k) i.rev : EReal) := by
  trans Host.reverse [1] (up f) (ix4 0 (tok N i) h k)
  · unfold val_main_v86 val_main_v85
    generalize Host.reverse [1] (up f) = X
    pointwise
    rfl
  · rw [flip, hs, hd_lane, ln_lane]

theorem ref55 : val_main_v55 (F := Ideal) (up z) (up b) (ix5 0 N i h k) = (Real.exp (cs lej (b (ix1 (lane h k))) (qs z N.rev (lane h k)) i.rev) : EReal) := by
  unfold val_main_v55
  pointwise
  rw [ref53, Ideal.exp_coe]

theorem ref60 : val_main_v60 (F := Ideal) (up z) (up b) (ix5 0 N i h k) = (Real.exp (-cs lej (b (ix1 (lane h k))) (qs z N.rev (lane h k)) i.rev) : EReal) := by
  unfold val_main_v60 val_main_v59
  pointwise
  rw [ref53, ← EReal.coe_neg, Ideal.exp_coe]

theorem ref66 : val_main_v66 (F := Ideal) (up z) (up b) (ix5 0 N i h k) = (Real.exp (tot (b (ix1 (lane h k))) (qs z N.rev (lane h k)) - cs lej (b (ix1 (lane h k))) (qs z N.rev (lane h k)) i.rev) : EReal) := by
  unfold val_main_v66 val_main_v65 val_main_v64
  pointwise
  rw [ref53, ref54, ← EReal.coe_sub, Ideal.exp_coe]

theorem ref80 : val_main_v80 (F := Ideal) (up z) (up b) (up g) (ix5 0 N i h k) = (te lej (b (ix1 (lane h k))) (qs z N.rev (lane h k)) (hs g N.rev (lane h k)) i.rev : EReal) := by
  unfold val_main_v80 val_main_v78
  pointwise
  rw [ref51, ref77, ref66]
  simp only [← EReal.coe_mul]
  refine congrArg _ ?_
  unfold te
  ring

theorem ref84 : val_main_v84 (F := Ideal) (up z) (up b) (up g) (up d) (ix5 0 N 0 h k) = (dtot lej (b (ix1 (lane h k))) (qs z N.rev (lane h k)) (hs g N.rev (lane h k)) (ds d N.rev (lane h k)) : EReal) := by
  have e : val_main_v82 (F := Ideal) (up z) (up b) (up g) (ix5 0 N 0 h k) = ((∑ j, te lej (b (ix1 (lane h k))) (qs z N.rev (lane h k)) (hs g N.rev (lane h k)) j : ℝ) : EReal) := by
    trans val_main_v81 (F := Ideal) (up z) (up b) (up g) (ix4 0 N h k)
    · unfold val_main_v82
      pointwise
    · unfold val_main_v81 val_main_cst_13
      pointwise
      simp only [ref80]
      rw [← Equiv.sum_comp Fin.revPerm fun j => te lej (b (ix1 (lane h k))) (qs z N.rev (lane h k)) (hs g N.rev (lane h k)) j]
      exact coe_sum _ _
  unfold val_main_v84 val_main_v75 val_main_v70
  pointwise
  rw [e, ref74, ref54, Ideal.exp_coe]
  simp only [← EReal.coe_mul, ← EReal.coe_add]
  rfl

theorem ref89 : val_main_v89 (F := Ideal) (up z) (up b) (up f) (up g) (ix5 0 N i h k) = (dkey lej (b (ix1 (lane h k))) (qs z N.rev (lane h k)) (hs f N.rev (lane h k)) (hs g N.rev (lane h k)) i.rev : EReal) := by
  unfold val_main_v89 val_main_v79 val_main_v88
  pointwise
  rw [ref77, ref86, ref66, ref60]
  simp only [← EReal.coe_mul, ← EReal.coe_add]
  refine congrArg _ ?_
  unfold dkey
  ring

theorem ref98 : val_main_v98 (F := Ideal) (up q) (up z) (up b) (up e) (up f) (up g) (ix5 0 N i h k)
    = (db lej (b (ix1 (lane h k))) (qs q N.rev (lane h k)) (qs z N.rev (lane h k)) (hs e N.rev (lane h k)) (hs f N.rev (lane h k)) (hs g N.rev (lane h k)) i.rev : EReal) := by
  unfold val_main_v98 val_main_v92 val_main_v83 val_main_v91 val_main_v90 val_main_v87 val_main_v97 val_main_v95
  pointwise
  rw [ref51, ref50, ref80, ref86, ref94, ref55, ref60]
  simp only [← EReal.coe_mul, ← EReal.coe_add, ← EReal.coe_neg]
  refine congrArg _ ?_
  unfold db
  ring

theorem ref99 : val_main_v99 (F := Ideal) (up z) (up b) (up g) (up d) (ix5 0 N i h k)
    = ((if i = 15 then dtot lej (b (ix1 (lane h k))) (qs z N.rev (lane h k)) (hs g N.rev (lane h k)) (ds d N.rev (lane h k)) else 0 : ℝ) : EReal) := by
  unfold val_main_v99 val_main_cst_14
  pointwise
  by_cases c : i = 15
  · subst c
    rw [dif_pos (by decide), if_pos rfl]
    exact ref84 z b g d N h k
  · rw [dif_neg fun r => c (Fin.ext (by have := r.1; omega)), if_neg c]
    rfl

theorem ref101 : val_main_v101 (F := Ideal) (up q) (up z) (up b) (up e) (up f) (up g) (up d) (ix5 0 N i h k)
    = (dlf lej (b (ix1 (lane h k))) (qs q N.rev (lane h k)) (qs z N.rev (lane h k)) (hs e N.rev (lane h k)) (hs f N.rev (lane h k)) (hs g N.rev (lane h k)) (ds d N.rev (lane h k)) i.rev : EReal) := by
  have hz : ∀ s, val_main_call12_call0_v0 (F := Ideal) s = 0 := fun s => by
    unfold val_main_call12_call0_v0 val_main_call12_call0_cst
    pointwise
  have hv : ∀ i, val_main_v100 (F := Ideal) (up q) (up z) (up b) (up e) (up f) (up g) (up d) (ix5 0 N i h k)
      = ((db lej (b (ix1 (lane h k))) (qs q N.rev (lane h k)) (qs z N.rev (lane h k)) (hs e N.rev (lane h k)) (hs f N.rev (lane h k)) (hs g N.rev (lane h k)) i.rev
        + (if i = 15 then dtot lej (b (ix1 (lane h k))) (qs z N.rev (lane h k)) (hs g N.rev (lane h k)) (ds d N.rev (lane h k)) else 0) : ℝ) : EReal) := fun i => by
    unfold val_main_v100
    pointwise
    rw [ref98, ref99, ← EReal.coe_add]
  unfold val_main_v101 Host.reduceWindowAdd
  rw [hz]
  refine (window _ _ 0 rfl _ _ N i h k).trans ?_
  simp only [hv]
  refine (high (fun j => ((db lej (b (ix1 (lane h k))) (qs q N.rev (lane h k)) (qs z N.rev (lane h k)) (hs e N.rev (lane h k)) (hs f N.rev (lane h k)) (hs g N.rev (lane h k)) j.rev
        + (if j = 15 then dtot lej (b (ix1 (lane h k))) (qs z N.rev (lane h k)) (hs g N.rev (lane h k)) (ds d N.rev (lane h k)) else 0) : ℝ) : EReal)) i).trans ?_
  rw [dlf, ← turn_real i fun j => db lej (b (ix1 (lane h k))) (qs q N.rev (lane h k)) (qs z N.rev (lane h k)) (hs e N.rev (lane h k)) (hs f N.rev (lane h k)) (hs g N.rev (lane h k)) j, ← last_row, ← coe_sum]
  refine Finset.sum_congr rfl fun j _ => ?_
  split <;> rfl

theorem ref105 : val_main_v105 (F := Ideal) (up q) (up z) (up b) (up e) (up f) (up g) (up d) (ix4 0 (tok N i) h k)
    = (dlf lej (b (ix1 (lane h k))) (qs q N (lane h k)) (qs z N (lane h k)) (hs e N (lane h k)) (hs f N (lane h k)) (hs g N (lane h k)) (ds d N (lane h k)) i : EReal) := by
  trans val_main_v101 (F := Ideal) (up q) (up z) (up b) (up e) (up f) (up g) (up d) (ix5 0 N.rev i.rev h k)
  · unfold val_main_v105
    rw [flip]
    unfold val_main_v102
    generalize val_main_v101 (F := Ideal) _ _ _ _ _ _ _ = X
    pointwise
    exact congrArg₂ (fun N i => X (ix5 0 N i h k)) (ch_tok N.rev i.rev) (pl_tok N.rev i.rev)
  · rw [ref101, Fin.rev_rev, Fin.rev_rev]

theorem ref106 : val_main_v106 (F := Ideal) (up z) (up b) (up f) (up g) (ix4 0 (tok N i) h k)
    = (dkey lej (b (ix1 (lane h k))) (qs z N (lane h k)) (hs f N (lane h k)) (hs g N (lane h k)) i : EReal) := by
  trans val_main_v89 (F := Ideal) (up z) (up b) (up f) (up g) (ix5 0 N.rev i.rev h k)
  · unfold val_main_v106
    rw [flip]
    unfold val_main_v103
    generalize val_main_v89 (F := Ideal) _ _ _ _ = X
    pointwise
    exact congrArg₂ (fun N i => X (ix5 0 N i h k)) (ch_tok N.rev i.rev) (pl_tok N.rev i.rev)
  · rw [ref89, Fin.rev_rev, Fin.rev_rev]

theorem ref107 : val_main_v107 (F := Ideal) (up z) (up b) (up e) (ix4 0 (tok N i) h k) = (dq lej (b (ix1 (lane h k))) (qs z N (lane h k)) (hs e N (lane h k)) i : EReal) := by
  trans val_main_v96 (F := Ideal) (up z) (up b) (up e) (ix5 0 N.rev i.rev h k)
  · unfold val_main_v107
    rw [flip]
    unfold val_main_v104
    generalize val_main_v96 (F := Ideal) _ _ _ = X
    pointwise
    exact congrArg₂ (fun N i => X (ix5 0 N i h k)) (ch_tok N.rev i.rev) (pl_tok N.rev i.rev)
  · unfold val_main_v96
    pointwise
    rw [ref94, ref55, ← EReal.coe_mul, Fin.rev_rev, Fin.rev_rev]
    rfl

section Smooth

variable (hT : ∀ N i l, gate (b (ix1 l)) (qs z N l) i ≠ T)
include hT

theorem ref119 : val_main_v119 (F := Ideal) (up q) (up z) (up b) (up e) (up f) (up g) (up d) (ix4 0 (tok N i) h k)
    = (df lej (b (ix1 (lane h k))) (qs q N (lane h k)) (qs z N (lane h k)) (hs e N (lane h k)) (hs f N (lane h k)) (hs g N (lane h k)) (ds d N (lane h k)) i : EReal) := by
  have hm : 0 < max (gate (b (ix1 (lane h k))) (qs z N (lane h k)) i) T := lt_max_of_lt_right T_pos
  unfold val_main_v119 val_main_v118 val_main_v29 val_main_v28 val_main_v27 val_main_v26 val_main_v25 val_main_v24 val_main_v23 val_main_v22 val_main_v21 val_main_cst_8 val_main_cst_7 val_main_cst_6 val_main_cst_5 val_main_cst_4
  pointwise
  rw [ref105, ref20, ref18, bits_T, coe_max, div_real _ _ hm.ne']
  unfold df
  by_cases c : T < gate (b (ix1 (lane h k))) (qs z N (lane h k)) i
  · rw [if_pos (EReal.coe_lt_coe_iff.2 c), if_pos c, mul_one, max_eq_left c.le]
  · rw [if_neg fun r => c (EReal.coe_lt_coe_iff.1 r), if_neg fun r => hT N i (lane h k) (EReal.coe_eq_coe_iff.1 r), if_neg c, mul_zero]
    rfl

theorem ref131 : val_main_v131 (F := Ideal) (up q) (up z) (up b) (up e) (up f) (up g) (up d) (ix4 0 (tok N i) h k) = (gZ lej q z b e f g d N (lane h k) i : EReal) := by
  unfold val_main_v131 val_main_v130 val_main_v125 val_main_v124 val_main_v116 val_main_v115 val_main_v110 val_main_v109 val_main_v42 val_main_v41 val_main_v40 val_main_cst_12
    val_main_v43 val_main_v32 val_main_v31 val_main_cst_9 val_main_v13 val_main_v3 val_main_v2 val_main_cst val_main_v12 val_main_v11 val_main_v10 val_main_cst_2
  pointwise
  rw [ref119 q z b e f g d N i h k hT, ref106, ref39, ref9, ref0, ← EReal.coe_one]
  simp only [← EReal.coe_mul, ← EReal.coe_sub, ← EReal.coe_add, ← EReal.coe_neg]
  refine congrArg _ ?_
  unfold gZ dz
  rw [sg_neg]
  ring

theorem ref_z : val_main_v134 (F := Ideal) (up q) (up z) (up b) (up e) (up f) (up g) (up d) = allZ lej q z b e f g d := by
  funext i
  obtain ⟨o, u, l, rfl⟩ : ∃ (o : Fin 1) (u : Fin 16384) (l : Fin 1024), i = ix3 o u l := ⟨i 0, i 1, i 2, eq_ix3 i⟩
  obtain rfl : o = 0 := Subsingleton.elim _ _
  obtain ⟨h, k, rfl⟩ := lane_surj l
  obtain ⟨N, i, rfl⟩ := tok_surj u
  rw [allZ_at, ← ref131 q z b e f g d N i h k hT]
  unfold val_main_v134
  generalize val_main_v131 (F := Ideal) _ _ _ _ _ _ _ = X
  pointwise
  exact congrArg₂ (fun h k => X (ix4 0 (tok N i) h k)) (hd_lane h k) (ln_lane h k)

theorem sums (h : Fin 8) (k : Fin 128) : val_main_v133 (F := Ideal) (up q) (up z) (up b) (up e) (up f) (up g) (up d) (ix2 h k) = ∑ N, ∑ i, (gB lej q z b e f g d N (lane h k) i : EReal) := by
  have s1 : val_main_v114 (F := Ideal) (up z) (up b) (up f) (up g) (ix2 h k)
      = ((∑ N, ∑ i, dkey lej (b (ix1 (lane h k))) (qs z N (lane h k)) (hs f N (lane h k)) (hs g N (lane h k)) i * sg (-qs z N (lane h k) i) : ℝ) : EReal) := by
    trans val_main_v112 (F := Ideal) (up z) (up b) (up f) (up g) (ix3 0 h k)
    · unfold val_main_v114 val_main_cst_16 val_main_v113
      pointwise
      refine (over_front _ _ h k).trans ?_
      pointwise
    · unfold val_main_v112 val_main_v111 val_main_cst_15
      pointwise
      rw [over_tokens]
      simp only [ref106, ref39, ← EReal.coe_mul, coe_sum]
  have s2 : val_main_v122 (F := Ideal) (up q) (up z) (up b) (up e) (up f) (up g) (up d) (ix2 h k)
      = ((∑ N, ∑ i, df lej (b (ix1 (lane h k))) (qs q N (lane h k)) (qs z N (lane h k)) (hs e N (lane h k)) (hs f N (lane h k)) (hs g N (lane h k)) (ds d N (lane h k)) i : ℝ) : EReal) := by
    trans val_main_v120 (F := Ideal) (up q) (up z) (up b) (up e) (up f) (up g) (up d) (ix3 0 h k)
    · unfold val_main_v122 val_main_cst_18 val_main_v121
      pointwise
      refine (over_front _ _ h k).trans ?_
      pointwise
    · unfold val_main_v120 val_main_cst_17
      pointwise
      rw [over_tokens]
      simp only [ref119 q z b e f g d _ _ h k hT, coe_sum]
  have s3 : val_main_v129 (F := Ideal) (up q) (up z) (up b) (up e) (up f) (up g) (up d) (ix2 h k)
      = ((∑ N, ∑ i, df lej (b (ix1 (lane h k))) (qs q N (lane h k)) (qs z N (lane h k)) (hs e N (lane h k)) (hs f N (lane h k)) (hs g N (lane h k)) (ds d N (lane h k)) i * sg (qs z N (lane h k) i) : ℝ) : EReal) := by
    trans val_main_v127 (F := Ideal) (up q) (up z) (up b) (up e) (up f) (up g) (up d) (ix3 0 h k)
    · unfold val_main_v129 val_main_cst_20 val_main_v128
      pointwise
      refine (over_front _ _ h k).trans ?_
      pointwise
    · unfold val_main_v127 val_main_v126 val_main_cst_19
      pointwise
      rw [over_tokens]
      simp only [ref119 q z b e f g d _ _ h k hT, ref9, ← EReal.coe_mul, coe_sum]
  unfold val_main_v133 val_main_v123 val_main_v117 val_main_v132
  pointwise
  rw [s1, s2, s3]
  simp only [← EReal.coe_add, ← EReal.coe_neg, coe_sum]
  refine congrArg _ ?_
  simp only [← Finset.sum_neg_distrib, ← Finset.sum_add_distrib]
  refine Finset.sum_congr rfl fun N _ => Finset.sum_congr rfl fun i _ => ?_
  unfold gB dlb
  rw [sg_neg]
  ring

theorem ref_b : val_main_v136 (F := Ideal) (up q) (up z) (up b) (up e) (up f) (up g) (up d) = allB lej q z b e f g d := by
  funext i
  obtain ⟨o, r, l, rfl⟩ : ∃ (o r : Fin 1) (l : Fin 1024), i = ix3 o r l := ⟨i 0, i 1, i 2, eq_ix3 i⟩
  obtain rfl : o = 0 := Subsingleton.elim _ _
  obtain rfl : r = 0 := Subsingleton.elim _ _
  obtain ⟨h, k, rfl⟩ := lane_surj l
  rw [allB_sum, ← sums q z b e f g d hT h k]
  unfold val_main_v136 val_main_v135
  generalize val_main_v133 (F := Ideal) _ _ _ _ _ _ _ = X
  pointwise
  exact congrArg₂ (fun h k => X (ix2 h k)) (hd_lane h k) (ln_lane h k)

end Smooth

theorem ref_q : val_main_v108 (F := Ideal) (up z) (up b) (up e) = allQ lej z b e := by
  funext i
  obtain ⟨o, u, l, rfl⟩ : ∃ (o : Fin 1) (u : Fin 16384) (l : Fin 1024), i = ix3 o u l := ⟨i 0, i 1, i 2, eq_ix3 i⟩
  obtain rfl : o = 0 := Subsingleton.elim _ _
  obtain ⟨h, k, rfl⟩ := lane_surj l
  obtain ⟨N, i, rfl⟩ := tok_surj u
  rw [allQ_at]
  refine Eq.trans ?_ (ref107 z b e N i h k)
  unfold val_main_v108
  generalize val_main_v107 (F := Ideal) _ _ _ = X
  pointwise
  exact congrArg₂ (fun h k => X (ix4 0 (tok N i) h k)) (hd_lane h k) (ln_lane h k)

end Cert.Chunk.Bwd
-- ==== Proof.ScanPairB.lean ====
module

public import proofs.«01_k».proof.Defs
public import proofs.«01_k».proof.Proof.ScanBwd
public import proofs.«01_k».proof.Proof.ScanRefB
public import proofs.«01_k».proof.Proof.Gen.PrepB.Frame
public import proofs.«01_k».proof.Proof.Gen.PrepBRefIdeal.Run
public import Idealize.ShloMosaic.Lib.Claim

@[expose] public section

set_option maxRecDepth 16384

/-! # The backward gates' backward call: its frames, and the equality of the two programs -/

noncomputable section

namespace Cert.Chunk.Bwd

open Idealize.ShloMosaic Idealize.ShloMosaic.TcCoe Idealize.SL.Sem Cert.Reals

theorem frame_k : Cert.quiescent_PrepB := fun m ρ _ => Cert.PrepB.Gen.frame m ρ
theorem frame_i : Cert.quiescent_PrepBIdeal := fun m ρ _ => Cert.PrepBIdeal.Gen.frame m ρ
theorem frame_ip [Cert.Pre_smooth_gates.Facts] : Cert.quiescent_PrepBIdeal_pre_smooth_gates := fun m ρ _ => Cert.PrepBIdeal.Gen.frame m ρ
theorem frame_r : Cert.quiescent_PrepBRefIdeal := fun m ρ _ =>
  θ_run_mono (Cert.PrepBRefIdeal.Value.run (F := Ideal) m ρ) fun r h => ⟨fun c => (h c).2.2.2, sem_eq_zero_of_no_sems (by decide) r.2⟩
theorem frame_rp [Cert.Pre_smooth_gates.Facts] : Cert.quiescent_PrepBRefIdeal_pre_smooth_gates := fun m ρ _ => frame_r m ρ trivial

theorem algebraic [Cert.Pre_smooth_gates.Facts] : Cert.algebraic_PrepBIdeal_PrepBRefIdeal_pre_smooth_gates := by
  intro m s m' s' hpre hagree
  have hr := fun c => entries_real _ _ _ _ _ _ _ (hpre c)
  choose q hq using fun c => (hr c).1.1
  choose z hz using fun c => (hr c).1.2.1
  choose b hb using fun c => (hr c).1.2.2.1
  choose e he using fun c => (hr c).1.2.2.2.1
  choose f hf using fun c => (hr c).1.2.2.2.2.1
  choose g hg using fun c => (hr c).1.2.2.2.2.2.1
  choose d hd using fun c => (hr c).1.2.2.2.2.2.2
  have hT := fun c => (hr c).2 (z c) (b c) (hz c) (hb c)
  refine ⟨fun c => allQ le (z c) (b c) (e c), fun c => allZ le (q c) (z c) (b c) (e c) (f c) (g c) (d c), fun c => allB le (q c) (z c) (b c) (e c) (f c) (g c) (d c), ?_, ?_⟩
  · exact θ_run_mono (Cert.PrepBIdeal.Value.run_blocks m s) fun r h c =>
      ⟨(h c).1.trans (arrQ m c _ _ _ (hz c) (hb c) (he c)), (h c).2.1.trans (arrZ m c _ _ _ _ _ _ _ (hq c) (hz c) (hb c) (he c) (hf c) (hg c) (hd c)),
        (h c).2.2.1.trans (arrB m c _ _ _ _ _ _ _ (hq c) (hz c) (hb c) (he c) (hf c) (hg c) (hd c)), (h c).2.2.2⟩
  · refine θ_run_mono (Cert.PrepBRefIdeal.Value.run (F := Ideal) m' s') fun r h c => ?_
    obtain ⟨a0, a1, a2, a3, a4, a5, a6⟩ := hagree c
    refine ⟨(h c).1.trans ((Cert.PrepBRefIdeal.Read.val_main_v108_eq _ _ _).trans ?_), (h c).2.1.trans ((Cert.PrepBRefIdeal.Read.val_main_v134_eq _ _).trans ?_),
      (h c).2.2.1.trans ((Cert.PrepBRefIdeal.Read.val_main_v136_eq _ _).trans ?_), (h c).2.2.2⟩
    · rw [a1, a2, a3]
      erw [hz c, hb c, he c]
      exact ref_q _ _ _
    · rw [a0, a1, a2, a3, a4, a5, a6]
      erw [hq c, hz c, hb c, he c, hf c, hg c, hd c]
      exact ref_z _ _ _ _ _ _ _ (hT c)
    · rw [a0, a1, a2, a3, a4, a5, a6]
      erw [hq c, hz c, hb c, he c, hf c, hg c, hd c]
      exact ref_b _ _ _ _ _ _ _ (hT c)

end Cert.Chunk.Bwd
-- ==== Proof.Glu.lean ====
module

public import proofs.«01_k».proof.Proof.Reals
public import proofs.«01_k».proof.Proof.Scan
public import proofs.«01_k».proof.Pre_finite_ffn

@[expose] public section

/-! # The gated unit's backward calls, entry by entry -/

noncomputable section

namespace Cert.Glu

open Idealize.ShloMosaic Cert.Reals

abbrev Mat (m n : ℕ) : Type := (⟨2, ![m, n]⟩ : Shape).Idx → EReal
abbrev Row (m n : ℕ) : Type := (⟨3, ![1, m, n]⟩ : Shape).Idx → EReal

/-- A product, and the product with the second matrix turned. -/
def prod {m k n : ℕ} (x : Mat m k) (w : Mat k n) : Mat m n := fun i => ∑ j : Fin k, x (ix2 (i 0) j) * w (ix2 j (i 1))
def prodT {m k n : ℕ} (x : Mat m k) (w : Mat n k) : Mat m n := fun i => ∑ j : Fin k, x (ix2 (i 0) j) * w (ix2 (i 1) j)
def pairT {m k n : ℕ} (x : Mat m k) (w : Mat n k) (y : Mat m k) (z : Mat n k) : Mat m n := fun i => prodT x w i + prodT y z i

/-- The batch of one, dropped. -/
def flat {m n : ℕ} (x : Row m n) : Mat m n := fun i => x (ix3 0 (i 0) (i 1))

def logis (a : EReal) : EReal := Ideal.div 1 (1 + Ideal.exp (-a))

/-- The gradients of the two factors. -/
def gradA {m n : ℕ} (t a b : Mat m n) : Mat m n := fun i => t i * b i * (logis (a i) * (1 + a i * (1 - logis (a i))))
def gradB {m n : ℕ} (t a : Mat m n) : Mat m n := fun i => t i * (a i * logis (a i))

theorem slope (t a b : ℝ) : (t * b : EReal) * (logis a * (1 + a * (1 - logis a))) = t * b * logis a + a * (t * b) * (logis a * (1 - logis a)) := by
  rw [logis, Cert.Chunk.sg_real, ← EReal.coe_one]
  simp only [← EReal.coe_sub, ← EReal.coe_mul, ← EReal.coe_add]
  exact congrArg _ (by ring)

theorem prod_real {m k n : ℕ} (x : Mat m k) (w : Mat k n) (hx : ∀ i, ∃ r : ℝ, x i = r) (hw : ∀ i, ∃ r : ℝ, w i = r) (i) : ∃ r : ℝ, prod x w i = r := by
  choose f hf using hx
  choose g hg using hw
  exact ⟨_, (Finset.sum_congr rfl fun j _ => by rw [hf, hg, ← EReal.coe_mul]).trans (coe_sum _ _)⟩

theorem prodT_real {m k n : ℕ} (x : Mat m k) (w : Mat n k) (hx : ∀ i, ∃ r : ℝ, x i = r) (hw : ∀ i, ∃ r : ℝ, w i = r) (i) : ∃ r : ℝ, prodT x w i = r := by
  choose f hf using hx
  choose g hg using hw
  exact ⟨_, (Finset.sum_congr rfl fun j _ => by rw [hf, hg, ← EReal.coe_mul]).trans (coe_sum _ _)⟩

/-- The two forms of the first factor's gradient agree at finite entries. -/
theorem grad_slope (h : Row 16384 1024) (w1 w3 : Mat 1024 2816) (w2 : Mat 2816 1024) (ct : Row 16384 1024)
    (hh : ∀ i, ∃ r : ℝ, h i = r) (h1 : ∀ i, ∃ r : ℝ, w1 i = r) (h3 : ∀ i, ∃ r : ℝ, w3 i = r) (h2 : ∀ i, ∃ r : ℝ, w2 i = r) (hc : ∀ i, ∃ r : ℝ, ct i = r) (i) :
    gradA (prodT (flat ct) w2) (prod (flat h) w1) (prod (flat h) w3) i
      = prodT (flat ct) w2 i * prod (flat h) w3 i * logis (prod (flat h) w1 i)
        + prod (flat h) w1 i * (prodT (flat ct) w2 i * prod (flat h) w3 i) * (logis (prod (flat h) w1 i) * (1 - logis (prod (flat h) w1 i))) := by
  obtain ⟨t, ht⟩ := prodT_real (flat ct) w2 (fun _ => hc _) h2 i
  obtain ⟨a, ha⟩ := prod_real (flat h) w1 (fun _ => hh _) h1 i
  obtain ⟨b, hb⟩ := prod_real (flat h) w3 (fun _ => hh _) h3 i
  unfold gradA
  rw [ht, ha, hb]
  exact slope t a b

open Cert.Pre_finite_ffn in
theorem entries_real [Cert.Pre_finite_ffn.Facts] (x0 : Row 16384 1024) (x1 x2 : Mat 1024 2816) (x3 : Mat 2816 1024) (x4 : Row 16384 1024)
    (hp : fn (F := Ideal) x0 x1 x2 x3 x4 = fun _ => 1#1) :
    (∀ i, ∃ r : ℝ, x0 i = r) ∧ (∀ i, ∃ r : ℝ, x1 i = r) ∧ (∀ i, ∃ r : ℝ, x2 i = r) ∧ (∀ i, ∃ r : ℝ, x3 i = r) ∧ ∀ i, ∃ r : ℝ, x4 i = r := by
  have h0 := congrFun hp ix0
  dsimp only [fn, fn_part1] at h0
  have : Subsingleton S_.Idx := ⟨fun a b => funext fun d => d.elim0⟩
  obtain ⟨h0, g4⟩ := IntOp.andi_eq_one.1 h0
  obtain ⟨h0, g3⟩ := IntOp.andi_eq_one.1 h0
  obtain ⟨h0, g2⟩ := IntOp.andi_eq_one.1 h0
  obtain ⟨g0, g1⟩ := IntOp.andi_eq_one.1 h0
  have e {s : Shape} {x : s.Idx → EReal} (h : ∃ g : s.Idx → ℝ, x = fun i => (g i : EReal)) (i : s.Idx) : ∃ r : ℝ, x i = r := h.elim fun g hg => ⟨g i, congrFun hg i⟩
  exact ⟨e (reals_of_all x0 _ (fun _ => bits_top) _ _ _ _ g0), e (reals_of_all x1 _ (fun _ => bits_top) _ _ _ _ g1), e (reals_of_all x2 _ (fun _ => bits_top) _ _ _ _ g2),
    e (reals_of_all x3 _ (fun _ => bits_top) _ _ _ _ g3), e (reals_of_all x4 _ (fun _ => bits_top) _ _ _ _ g4)⟩

end Cert.Glu
-- ==== Proof.GluDt.lean ====
module

public import proofs.«01_k».proof.Defs
public import proofs.«01_k».proof.Proof.Glu
public import proofs.«01_k».proof.Proof.Gen.FfnIdeal.Frame
public import proofs.«01_k».proof.Proof.Gen.Ffn.Frame
public import proofs.«01_k».proof.Proof.Gen.FfnRefIdeal.Run
public import proofs.«01_k».proof.Proof.Gen.FfnRefIdeal.Read
public import Idealize.ShloMosaic.Lib.Pointwise
public import Idealize.ShloMosaic.Lib.Claim
public import Idealize.ShloMosaic.Lib.Tactic
public import Idealize.ShloMosaic.Lib.Pipeline.ValueKit
public import Idealize.ShloMosaic.Lib.Pipeline.ReadBack

@[expose] public section

set_option maxRecDepth 16384

/-! # The gated unit: what each kernel call leaves -/

noncomputable section

namespace Cert.Glu.Dt

open Idealize.ShloMosaic Idealize.ShloMosaic.TcCoe Idealize.SL.Sem

open Cert.FfnIdeal Cert.FfnIdeal.Gen

section Calls

variable (V : (c : Dev nD) → (b : Ref sig .tc) → Buf (Elt Ideal) ((c : Thread nD τ).loc b)) (c : Dev nD)

theorem at0 : ∀ t : Fin grid0.N, win0_0.index t = ![t.val % 32, 0] ∧ win0_1.index t = ![0, t.val / 32] ∧ win0_2.index t = ![0, t.val / 32]
    ∧ win0_4.index t = ![t.val % 32, t.val / 32] ∧ win0_5.index t = ![t.val % 32, t.val / 32] := by decide +kernel

theorem at1 : ∀ t : Fin grid1.N, win1_0.index t = ![t.val % 32, 0] ∧ win1_1.index t = ![t.val / 32, 0] ∧ win1_2.index t = ![t.val % 32, t.val / 32]
    ∧ win1_3.index t = ![t.val % 32, t.val / 32] ∧ win1_4.index t = ![t.val % 32, t.val / 32] ∧ win1_5.index t = ![t.val % 32, t.val / 32] := by decide +kernel

theorem rows0 (t : Fin cfg0.N) (r : Fin 512) (k : Fin 1024) (u : Fin 16384) (hu : u.val = t.val % 32 * 512 + r.val) :
    iblk0 V c 0 t (ix2 r k) = V c main_v1 (ix2 u k) := by
  blk_simp [iblk0]; blk_ext [iblk0, (at0 t).1]

theorem cols1 (t : Fin cfg0.N) (k : Fin 1024) (l : Fin 1408) (v : Fin 2816) (hv : v.val = t.val / 32 * 1408 + l.val) :
    iblk0 V c 1 t (ix2 k l) = V c main_v2 (ix2 k v) := by
  blk_simp [iblk0]; blk_ext [iblk0, (at0 t).2.1]

theorem cols2 (t : Fin cfg0.N) (k : Fin 1024) (l : Fin 1408) (v : Fin 2816) (hv : v.val = t.val / 32 * 1408 + l.val) :
    iblk0 V c 2 t (ix2 k l) = V c main_v3 (ix2 k v) := by
  blk_simp [iblk0]; blk_ext [iblk0, (at0 t).2.2.1]

theorem stored {e : EltTy} (p : Vec Ideal S512x1408 e) : View.canon [⟨r0_2, p⟩] = p := View.canon_cons_unit_lit' _ _ _ (by decide)
theorem loaded {e : EltTy} (x : Vec Ideal S512x1024 e) : View.ld x r0_0 = x := View.ld_unit_lit' _ _ (by decide)
theorem loaded_up {e : EltTy} (x : Vec Ideal S1024x1408 e) : View.ld x r0_1 = x := View.ld_unit_lit' _ _ (by decide)
theorem loaded_down {e : EltTy} (x : Vec Ideal S1408x1024 e) : View.ld x r1_1 = x := View.ld_unit_lit' _ _ (by decide)
theorem loaded_factor {e : EltTy} (x : Vec Ideal S512x1408 e) : View.ld x r0_2 = x := View.ld_unit_lit' _ _ (by decide)

theorem arrA : (dat0 V c).arrAt 4 cfg0.N = prod (V c main_v1) (V c main_v2) := by
  refine (dat0 V c).arrAt_eq_of_covers 4 _ (by decide +kernel) fun t hf y => ?_
  blk_simp
  rw [after0_4]
  obtain ⟨r, l, rfl⟩ : ∃ (r : Fin 512) (l : Fin 1408), y = ix2 r l := ⟨y 0, y 1, eq_ix2 y⟩
  have hN : t.val < 64 := t.isLt
  trans prod (V c main_v1) (V c main_v2) (ix2 ⟨t.val % 32 * 512 + r.val, by omega⟩ ⟨t.val / 32 * 1408 + l.val, by omega⟩)
  · unfold out0_4
    rw [stored]; simp only [loaded, loaded_up]
    unfold k0_pay4 k0_pay2 k0_pay1 prod
    pointwise
    exact Finset.sum_congr rfl fun k _ => congrArg₂ (· * ·) (rows0 V c t r k _ rfl) (cols1 V c t k l _ rfl)
  · blk_ext [(at0 t).2.2.2.1]

theorem arrB : (dat0 V c).arrAt 5 cfg0.N = prod (V c main_v1) (V c main_v3) := by
  refine (dat0 V c).arrAt_eq_of_covers 5 _ (by decide +kernel) fun t hf y => ?_
  blk_simp
  rw [after0_5]
  obtain ⟨r, l, rfl⟩ : ∃ (r : Fin 512) (l : Fin 1408), y = ix2 r l := ⟨y 0, y 1, eq_ix2 y⟩
  have hN : t.val < 64 := t.isLt
  trans prod (V c main_v1) (V c main_v3) (ix2 ⟨t.val % 32 * 512 + r.val, by omega⟩ ⟨t.val / 32 * 1408 + l.val, by omega⟩)
  · unfold out0_5
    rw [stored]; simp only [loaded, loaded_up]
    unfold k0_pay5 k0_pay3 k0_pay1 prod
    pointwise
    exact Finset.sum_congr rfl fun k _ => congrArg₂ (· * ·) (rows0 V c t r k _ rfl) (cols2 V c t k l _ rfl)
  · blk_ext [(at0 t).2.2.2.2]

theorem rowsG (t : Fin cfg1.N) (r : Fin 512) (k : Fin 1024) (u : Fin 16384) (hu : u.val = t.val % 32 * 512 + r.val) :
    iblk1 V c 0 t (ix2 r k) = V c main_v7 (ix2 u k) := by
  blk_simp [iblk1]; blk_ext [iblk1, (at1 t).1]

theorem rowsW (t : Fin cfg1.N) (l : Fin 1408) (k : Fin 1024) (v : Fin 2816) (hv : v.val = t.val / 32 * 1408 + l.val) :
    iblk1 V c 1 t (ix2 l k) = V c main_v4 (ix2 v k) := by
  blk_simp [iblk1]; blk_ext [iblk1, (at1 t).2.1]

theorem tileA (t : Fin cfg1.N) (r : Fin 512) (l : Fin 1408) (u : Fin 16384) (hu : u.val = t.val % 32 * 512 + r.val) (v : Fin 2816) (hv : v.val = t.val / 32 * 1408 + l.val) :
    iblk1 V c 2 t (ix2 r l) = V c main_v5_1 (ix2 u v) := by
  blk_simp [iblk1]; blk_ext [iblk1, (at1 t).2.2.1]

theorem tileB (t : Fin cfg1.N) (r : Fin 512) (l : Fin 1408) (u : Fin 16384) (hu : u.val = t.val % 32 * 512 + r.val) (v : Fin 2816) (hv : v.val = t.val / 32 * 1408 + l.val) :
    iblk1 V c 3 t (ix2 r l) = V c main_v5_2 (ix2 u v) := by
  blk_simp [iblk1]; blk_ext [iblk1, (at1 t).2.2.2.1]

theorem turned (t : Fin cfg1.N) (r : Fin 512) (l : Fin 1408) (u : Fin 16384) (hu : u.val = t.val % 32 * 512 + r.val) (v : Fin 2816) (hv : v.val = t.val / 32 * 1408 + l.val) :
    k1_pay1 (iblk1 V c 0 t) (iblk1 V c 1 t) (ix2 r l) = prodT (V c main_v7) (V c main_v4) (ix2 u v) := by
  unfold k1_pay1 prodT
  pointwise
  exact Finset.sum_congr rfl fun k _ => congrArg₂ (· * ·) (rowsG V c t r k u hu) (rowsW V c t l k v hv)

theorem logis_block (x : Vec Ideal S512x1408 .bf16) (i : S512x1408.Idx) : k1_pay3 (F := Ideal) x i = logis (x i) := by
  unfold k1_pay3 k1_pay2 logis
  pointwise
  rw [zero_sub]

theorem arrDA : (dat1 V c).arrAt 4 cfg1.N = gradA (prodT (V c main_v7) (V c main_v4)) (V c main_v5_1) (V c main_v5_2) := by
  refine (dat1 V c).arrAt_eq_of_covers 4 _ (by decide +kernel) fun t hf y => ?_
  blk_simp
  rw [after1_4]
  obtain ⟨r, l, rfl⟩ : ∃ (r : Fin 512) (l : Fin 1408), y = ix2 r l := ⟨y 0, y 1, eq_ix2 y⟩
  have hN : t.val < 64 := t.isLt
  trans gradA (prodT (V c main_v7) (V c main_v4)) (V c main_v5_1) (V c main_v5_2) (ix2 ⟨t.val % 32 * 512 + r.val, by omega⟩ ⟨t.val / 32 * 1408 + l.val, by omega⟩)
  · unfold out1_4
    rw [stored]; simp only [loaded, loaded_down, loaded_factor]
    unfold k1_pay4 gradA k1_pay2
    pointwise
    rw [logis_block, turned V c t r l ⟨t.val % 32 * 512 + r.val, by omega⟩ rfl ⟨t.val / 32 * 1408 + l.val, by omega⟩ rfl, tileA V c t r l ⟨t.val % 32 * 512 + r.val, by omega⟩ rfl ⟨t.val / 32 * 1408 + l.val, by omega⟩ rfl, tileB V c t r l ⟨t.val % 32 * 512 + r.val, by omega⟩ rfl ⟨t.val / 32 * 1408 + l.val, by omega⟩ rfl]
  · blk_ext [(at1 t).2.2.2.2.1]

theorem arrDB : (dat1 V c).arrAt 5 cfg1.N = gradB (prodT (V c main_v7) (V c main_v4)) (V c main_v5_1) := by
  refine (dat1 V c).arrAt_eq_of_covers 5 _ (by decide +kernel) fun t hf y => ?_
  blk_simp
  rw [after1_5]
  obtain ⟨r, l, rfl⟩ : ∃ (r : Fin 512) (l : Fin 1408), y = ix2 r l := ⟨y 0, y 1, eq_ix2 y⟩
  have hN : t.val < 64 := t.isLt
  trans gradB (prodT (V c main_v7) (V c main_v4)) (V c main_v5_1) (ix2 ⟨t.val % 32 * 512 + r.val, by omega⟩ ⟨t.val / 32 * 1408 + l.val, by omega⟩)
  · unfold out1_5
    rw [stored]; simp only [loaded, loaded_down, loaded_factor]
    unfold k1_pay5 gradB k1_pay2
    pointwise
    rw [logis_block, turned V c t r l ⟨t.val % 32 * 512 + r.val, by omega⟩ rfl ⟨t.val / 32 * 1408 + l.val, by omega⟩ rfl, tileA V c t r l ⟨t.val % 32 * 512 + r.val, by omega⟩ rfl ⟨t.val / 32 * 1408 + l.val, by omega⟩ rfl]
  · blk_ext [(at1 t).2.2.2.2.2]

end Calls

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

abbrev Model := MT nD τ sig Unit (Elt Ideal) ℕ (UR sig nD τ) ℕ

set_option backward.isDefEq.respectTransparency.types false in
/-- Every buffer that outlives the calls ends as the last call leaves it. -/
theorem ends : θ_run defs (onTc (τ := τ) (main (F := Ideal))) ⟨m, fun _ => 0, ρ⟩ fun r =>
    (∀ (c : Dev nD) (b : Ref sig .tc), ¬ (Proc.devRef .tc b : DevRef τ sig).isScoped → r.2.mem ((c : Thread nD τ).loc b) = W4 m ρ c (Proc.devRef .tc b)) ∧ r.2.sem = fun _ => 0 := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ) (hch := by refine ⟨?_, ?_, ?_, ?_, ?_⟩ <;> exact fun _ => .rfl)
    (hinit := Pipeline.initEach L lv fun c => ?_) (QY := fun c s => ∀ b ∈ Pipeline.ucRefs τ sig, s.mem (((c : Thread nD τ)).1, b) = W4 m ρ c b) (hfin := fun c s' => ?_)
    (hQ := fun s h hz => ⟨fun c b hb => h c _ (mem_uc b hb), funext fun g => hz g (.inr (no_unscoped g.2))⟩)
  · iintro H
    imodintro
    isplitl [H]
    · iapply (show (ownU (initOf (Pipeline.cells cfgs cellOf_inj) (Pipeline.launchToks cfgs cellOf_inj)) : sProp Model)
        ⊢ BI.own (emb₁ (initOf (Pipeline.cells cfgs cellOf_inj) (Pipeline.launchToks cfgs cellOf_inj))) from .rfl)
      iexact H
    · iapply (show (BI.emp : sProp Model) ⊢ bigSep Finset.univ (fun _ : Dev nD => (BI.emp : sProp Model)) from by rw [BI.bigSep_emp_const])
      iempintro
  · rw [show unscopedBufs c (fun b => m ((c : Thread nD τ).loc b)) = StableHlo.held (c : Thread nD τ) (Pipeline.ucRefs τ sig) (W0 m ρ c) from Pipeline.unscopedBufs_held c (W0 m ρ c)]
    iintro ⟨⟨B, -, O, -, P, -⟩, -⟩
    imodintro
    isplitl [B]; · iexact B
    isplitl [P]; · iexists _; iexact P
    iexists ∅; iexact O
  · iintro ⟨⟨B, -⟩, S⟩
    unfold StableHlo.held
    imodintro
    iapply (pointsTo_read_all (Pipeline.ucRefs τ sig) (fun b => (((c : Thread nD τ)).1, b)) (W4 m ρ c) s')
    isplitl [B] <;> iassumption

variable (c : Dev nD)

theorem in_h : V1 m ρ c main_v1 = flat (m ((c : Thread nD τ).loc main_arg0)) := by
  funext i
  obtain ⟨r, k, rfl⟩ : ∃ (r : Fin 16384) (k : Fin 1024), i = ix2 r k := ⟨i 0, i 1, eq_ix2 i⟩
  show StableHlo.after hostOps0 (W0 m ρ c) (Proc.devRef .tc main_v1) _ = _
  entry_read
  unfold flat
  pointwise
theorem in_w1 : V1 m ρ c main_v2 = m ((c : Thread nD τ).loc main_arg1) := by
  funext i
  show StableHlo.after hostOps0 (W0 m ρ c) (Proc.devRef .tc main_v2) _ = _
  entry_read
  rfl
theorem in_w3 : V1 m ρ c main_v3 = m ((c : Thread nD τ).loc main_arg2) := by
  funext i
  show StableHlo.after hostOps0 (W0 m ρ c) (Proc.devRef .tc main_v3) _ = _
  entry_read
  rfl
theorem in_w2 : V1 m ρ c main_v4 = m ((c : Thread nD τ).loc main_arg3) := by
  funext i
  show StableHlo.after hostOps0 (W0 m ρ c) (Proc.devRef .tc main_v4) _ = _
  entry_read
  rfl
theorem in_ct : V3 m ρ c main_v7 = flat (m ((c : Thread nD τ).loc main_arg4)) := by
  funext i
  obtain ⟨r, k, rfl⟩ : ∃ (r : Fin 16384) (k : Fin 1024), i = ix2 r k := ⟨i 0, i 1, eq_ix2 i⟩
  show StableHlo.after hostOps1 (W2 m ρ c) (Proc.devRef .tc main_v7) _ = _
  entry_read
  unfold flat
  pointwise
  exact congrFun (W2_args m ρ c main_arg4 (by decide)) _

abbrev specT : Mat 16384 2816 := prodT (flat (m ((c : Thread nD τ).loc main_arg4))) (m ((c : Thread nD τ).loc main_arg3))
abbrev specA : Mat 16384 2816 := prod (flat (m ((c : Thread nD τ).loc main_arg0))) (m ((c : Thread nD τ).loc main_arg1))
abbrev specB : Mat 16384 2816 := prod (flat (m ((c : Thread nD τ).loc main_arg0))) (m ((c : Thread nD τ).loc main_arg2))

theorem mid_t : prodT (V3 m ρ c main_v7) (V3 m ρ c main_v4) = specT m c := by
  rw [in_ct, show V3 m ρ c main_v4 = _ from ((W3_of m ρ c main_v4 (by decide)).trans (W2_of m ρ c main_v4 (by decide))).trans (in_w2 m ρ c)]
theorem mid_a : V3 m ρ c main_v5_1 = specA m c := by
  refine (W3_of m ρ c main_v5_1 (by decide)).trans ((W2_arr m ρ c 4).trans ((arrA (V1 m ρ) c).trans ?_))
  rw [in_h, in_w1]
theorem mid_b : V3 m ρ c main_v5_2 = specB m c := by
  refine (W3_of m ρ c main_v5_2 (by decide)).trans ((W2_arr m ρ c 5).trans ((arrB (V1 m ρ) c).trans ?_))
  rw [in_h, in_w3]

theorem out_a : W4 m ρ c (Proc.devRef .tc main_v8_0) = gradA (specT m c) (specA m c) (specB m c) := by
  refine (W4_arr m ρ c 4).trans ((arrDA (V3 m ρ) c).trans ?_)
  rw [mid_t, mid_a, mid_b]
theorem out_b : W4 m ρ c (Proc.devRef .tc main_v8_1) = gradB (specT m c) (specA m c) := by
  refine (W4_arr m ρ c 5).trans ((arrDB (V3 m ρ) c).trans ?_)
  rw [mid_t, mid_a]
end Run

section Reference

open Cert.FfnRefIdeal.Read

variable (h : Row 16384 1024) (w1 w3 : Mat 1024 2816) (w2 : Mat 2816 1024) (ct : Row 16384 1024) (u : Fin 16384) (v : Fin 2816)

theorem ref_up : val_main_v0 (F := Ideal) h w1 (ix3 0 u v) = prod (flat h) w1 (ix2 u v) := by
  unfold val_main_v0 prod flat
  pointwise
theorem ref_upB : val_main_v1 (F := Ideal) h w3 (ix3 0 u v) = prod (flat h) w3 (ix2 u v) := by
  unfold val_main_v1 prod flat
  pointwise
theorem ref_t : val_main_v5 (F := Ideal) w2 ct (ix3 0 u v) = prodT (flat ct) w2 (ix2 u v) := by
  unfold val_main_v5 prodT flat
  pointwise
theorem ref_gate : val_main_v2_2 (F := Ideal) h w1 (ix3 0 u v) = logis (prod (flat h) w1 (ix2 u v)) := by
  unfold val_main_v2_2 val_main_call0_v4 val_main_call0_v3 val_main_call0_v2 val_main_call0_v1 val_main_call0_v0 val_main_call0_cst val_main_call0_cst_0 logis
  pointwise
  rw [ref_up]
theorem ref_b : val_main_v6 (F := Ideal) h w1 w2 ct (ix3 0 u v) = gradB (prodT (flat ct) w2) (prod (flat h) w1) (ix2 u v) := by
  unfold val_main_v6 val_main_v2_0 gradB
  pointwise
  rw [ref_up, ref_gate, ref_t, mul_comm]
theorem ref_a (hh : ∀ i, ∃ r : ℝ, h i = r) (h1 : ∀ i, ∃ r : ℝ, w1 i = r) (h3 : ∀ i, ∃ r : ℝ, w3 i = r) (h2 : ∀ i, ∃ r : ℝ, w2 i = r) (hc : ∀ i, ∃ r : ℝ, ct i = r) :
    val_main_v8 (F := Ideal) h w1 w3 w2 ct (ix3 0 u v) = gradA (prodT (flat ct) w2) (prod (flat h) w1) (prod (flat h) w3) (ix2 u v) := by
  rw [grad_slope h w1 w3 w2 ct hh h1 h3 h2 hc]
  unfold val_main_v8 val_main_call1_v1 val_main_call1_v2 val_main_call1_v0 val_main_v7 val_main_v2_1 val_main_call0_v7 val_main_call0_v6 val_main_call0_cst_1
  pointwise
  rw [ref_up, ref_gate, ref_t, ref_upB]
theorem ref_outA (hh : ∀ i, ∃ r : ℝ, h i = r) (h1 : ∀ i, ∃ r : ℝ, w1 i = r) (h3 : ∀ i, ∃ r : ℝ, w3 i = r) (h2 : ∀ i, ∃ r : ℝ, w2 i = r) (hc : ∀ i, ∃ r : ℝ, ct i = r) :
    val_main_v10 (F := Ideal) h w1 w3 w2 ct = gradA (prodT (flat ct) w2) (prod (flat h) w1) (prod (flat h) w3) := by
  funext i
  obtain ⟨u, v, rfl⟩ : ∃ (u : Fin 16384) (v : Fin 2816), i = ix2 u v := ⟨i 0, i 1, eq_ix2 i⟩
  refine Eq.trans ?_ (ref_a h w1 w3 w2 ct u v hh h1 h3 h2 hc)
  unfold val_main_v10 val_main_v9
  pointwise
theorem ref_outB : val_main_v12 (F := Ideal) h w1 w2 ct = gradB (prodT (flat ct) w2) (prod (flat h) w1) := by
  funext i
  obtain ⟨u, v, rfl⟩ : ∃ (u : Fin 16384) (v : Fin 2816), i = ix2 u v := ⟨i 0, i 1, eq_ix2 i⟩
  refine Eq.trans ?_ (ref_b h w1 w2 ct u v)
  unfold val_main_v12 val_main_v11
  pointwise
end Reference

theorem frame_k : Cert.quiescent_Ffn := fun m ρ _ => Cert.Ffn.Gen.frame m ρ
theorem frame_i : Cert.quiescent_FfnIdeal := fun m ρ _ => Cert.FfnIdeal.Gen.frame m ρ
theorem frame_ip [Cert.Pre_finite_ffn.Facts] : Cert.quiescent_FfnIdeal_pre_finite_ffn := fun m ρ _ => Cert.FfnIdeal.Gen.frame m ρ
theorem frame_r : Cert.quiescent_FfnRefIdeal := fun m ρ _ =>
  θ_run_mono (Cert.FfnRefIdeal.Value.run (F := Ideal) m ρ) fun r h => ⟨fun c => (h c).2.2, sem_eq_zero_of_no_sems (by decide) r.2⟩
theorem frame_rp [Cert.Pre_finite_ffn.Facts] : Cert.quiescent_FfnRefIdeal_pre_finite_ffn := fun m ρ _ => frame_r m ρ trivial

theorem algebraic [Cert.Pre_finite_ffn.Facts] : Cert.algebraic_FfnIdeal_FfnRefIdeal_pre_finite_ffn := by
  intro m s m' s' hpre hagree
  refine ⟨fun c => gradA (specT m c) (specA m c) (specB m c), fun c => gradB (specT m c) (specA m c), ?_, ?_⟩
  · exact θ_run_mono (ends m s) fun r h c => ⟨(h.1 c main_v8_0 (by decide)).trans (out_a m s c), (h.1 c main_v8_1 (by decide)).trans (out_b m s c), (h.1 c main_arg0 (by decide)).trans (W4_main_arg0 m s c), (h.1 c main_arg1 (by decide)).trans (W4_main_arg1 m s c), (h.1 c main_arg2 (by decide)).trans (W4_main_arg2 m s c), (h.1 c main_arg3 (by decide)).trans (W4_main_arg3 m s c), (h.1 c main_arg4 (by decide)).trans (W4_main_arg4 m s c)⟩
  · refine θ_run_mono (Cert.FfnRefIdeal.Value.run (F := Ideal) m' s') fun r h c => ?_
    obtain ⟨hh, h1, h3, h2, hc⟩ := entries_real _ _ _ _ _ (hpre c)
    obtain ⟨a0, a1, a2, a3, a4⟩ := hagree c
    refine ⟨(h c).1.trans ((Cert.FfnRefIdeal.Read.val_main_v10_eq _ _ _ _ _).trans ?_), (h c).2.1.trans ((Cert.FfnRefIdeal.Read.val_main_v12_eq _ _ _ _).trans ?_), (h c).2.2⟩
    · rw [a0, a1, a2, a3, a4]
      exact ref_outA _ _ _ _ _ hh h1 h3 h2 hc
    · rw [a0, a1, a3, a4]
      exact ref_outB _ _ _ _

end Cert.Glu.Dt
-- ==== Proof.GluDx.lean ====
module

public import proofs.«01_k».proof.Defs
public import proofs.«01_k».proof.Proof.Glu
public import proofs.«01_k».proof.Proof.Gen.FfnDxIdeal.Frame
public import proofs.«01_k».proof.Proof.Gen.FfnDx.Frame
public import proofs.«01_k».proof.Proof.Gen.FfnDxRefIdeal.Run
public import proofs.«01_k».proof.Proof.Gen.FfnDxRefIdeal.Read
public import Idealize.ShloMosaic.Lib.Pointwise
public import Idealize.ShloMosaic.Lib.Claim
public import Idealize.ShloMosaic.Lib.Tactic
public import Idealize.ShloMosaic.Lib.Pipeline.ValueKit
public import Idealize.ShloMosaic.Lib.Pipeline.ReadBack

@[expose] public section

set_option maxRecDepth 16384

/-! # The gated unit: what each kernel call leaves -/

noncomputable section

namespace Cert.Glu.Dx

open Idealize.ShloMosaic Idealize.ShloMosaic.TcCoe Idealize.SL.Sem

open Cert.FfnDxIdeal Cert.FfnDxIdeal.Gen

section Calls

variable (V : (c : Dev nD) → (b : Ref sig .tc) → Buf (Elt Ideal) ((c : Thread nD τ).loc b)) (c : Dev nD)

theorem at0 : ∀ t : Fin grid0.N, win0_0.index t = ![t.val % 32, 0] ∧ win0_1.index t = ![0, t.val / 32] ∧ win0_2.index t = ![0, t.val / 32]
    ∧ win0_4.index t = ![t.val % 32, t.val / 32] ∧ win0_5.index t = ![t.val % 32, t.val / 32] := by decide +kernel

theorem at1 : ∀ t : Fin grid1.N, win1_0.index t = ![t.val % 32, 0] ∧ win1_1.index t = ![t.val / 32, 0] ∧ win1_2.index t = ![t.val % 32, t.val / 32]
    ∧ win1_3.index t = ![t.val % 32, t.val / 32] ∧ win1_4.index t = ![t.val % 32, t.val / 32] ∧ win1_5.index t = ![t.val % 32, t.val / 32] := by decide +kernel

theorem rows0 (t : Fin cfg0.N) (r : Fin 512) (k : Fin 1024) (u : Fin 16384) (hu : u.val = t.val % 32 * 512 + r.val) :
    iblk0 V c 0 t (ix2 r k) = V c main_v1 (ix2 u k) := by
  blk_simp [iblk0]; blk_ext [iblk0, (at0 t).1]

theorem cols1 (t : Fin cfg0.N) (k : Fin 1024) (l : Fin 1408) (v : Fin 2816) (hv : v.val = t.val / 32 * 1408 + l.val) :
    iblk0 V c 1 t (ix2 k l) = V c main_v2 (ix2 k v) := by
  blk_simp [iblk0]; blk_ext [iblk0, (at0 t).2.1]

theorem cols2 (t : Fin cfg0.N) (k : Fin 1024) (l : Fin 1408) (v : Fin 2816) (hv : v.val = t.val / 32 * 1408 + l.val) :
    iblk0 V c 2 t (ix2 k l) = V c main_v3 (ix2 k v) := by
  blk_simp [iblk0]; blk_ext [iblk0, (at0 t).2.2.1]

theorem stored {e : EltTy} (p : Vec Ideal S512x1408 e) : View.canon [⟨r0_2, p⟩] = p := View.canon_cons_unit_lit' _ _ _ (by decide)
theorem loaded {e : EltTy} (x : Vec Ideal S512x1024 e) : View.ld x r0_0 = x := View.ld_unit_lit' _ _ (by decide)
theorem loaded_up {e : EltTy} (x : Vec Ideal S1024x1408 e) : View.ld x r0_1 = x := View.ld_unit_lit' _ _ (by decide)
theorem loaded_down {e : EltTy} (x : Vec Ideal S1408x1024 e) : View.ld x r1_1 = x := View.ld_unit_lit' _ _ (by decide)
theorem loaded_factor {e : EltTy} (x : Vec Ideal S512x1408 e) : View.ld x r0_2 = x := View.ld_unit_lit' _ _ (by decide)

theorem arrA : (dat0 V c).arrAt 4 cfg0.N = prod (V c main_v1) (V c main_v2) := by
  refine (dat0 V c).arrAt_eq_of_covers 4 _ (by decide +kernel) fun t hf y => ?_
  blk_simp
  rw [after0_4]
  obtain ⟨r, l, rfl⟩ : ∃ (r : Fin 512) (l : Fin 1408), y = ix2 r l := ⟨y 0, y 1, eq_ix2 y⟩
  have hN : t.val < 64 := t.isLt
  trans prod (V c main_v1) (V c main_v2) (ix2 ⟨t.val % 32 * 512 + r.val, by omega⟩ ⟨t.val / 32 * 1408 + l.val, by omega⟩)
  · unfold out0_4
    rw [stored]; simp only [loaded, loaded_up]
    unfold k0_pay4 k0_pay2 k0_pay1 prod
    pointwise
    exact Finset.sum_congr rfl fun k _ => congrArg₂ (· * ·) (rows0 V c t r k _ rfl) (cols1 V c t k l _ rfl)
  · blk_ext [(at0 t).2.2.2.1]

theorem arrB : (dat0 V c).arrAt 5 cfg0.N = prod (V c main_v1) (V c main_v3) := by
  refine (dat0 V c).arrAt_eq_of_covers 5 _ (by decide +kernel) fun t hf y => ?_
  blk_simp
  rw [after0_5]
  obtain ⟨r, l, rfl⟩ : ∃ (r : Fin 512) (l : Fin 1408), y = ix2 r l := ⟨y 0, y 1, eq_ix2 y⟩
  have hN : t.val < 64 := t.isLt
  trans prod (V c main_v1) (V c main_v3) (ix2 ⟨t.val % 32 * 512 + r.val, by omega⟩ ⟨t.val / 32 * 1408 + l.val, by omega⟩)
  · unfold out0_5
    rw [stored]; simp only [loaded, loaded_up]
    unfold k0_pay5 k0_pay3 k0_pay1 prod
    pointwise
    exact Finset.sum_congr rfl fun k _ => congrArg₂ (· * ·) (rows0 V c t r k _ rfl) (cols2 V c t k l _ rfl)
  · blk_ext [(at0 t).2.2.2.2]

theorem rowsG (t : Fin cfg1.N) (r : Fin 512) (k : Fin 1024) (u : Fin 16384) (hu : u.val = t.val % 32 * 512 + r.val) :
    iblk1 V c 0 t (ix2 r k) = V c main_v7 (ix2 u k) := by
  blk_simp [iblk1]; blk_ext [iblk1, (at1 t).1]

theorem rowsW (t : Fin cfg1.N) (l : Fin 1408) (k : Fin 1024) (v : Fin 2816) (hv : v.val = t.val / 32 * 1408 + l.val) :
    iblk1 V c 1 t (ix2 l k) = V c main_v4 (ix2 v k) := by
  blk_simp [iblk1]; blk_ext [iblk1, (at1 t).2.1]

theorem tileA (t : Fin cfg1.N) (r : Fin 512) (l : Fin 1408) (u : Fin 16384) (hu : u.val = t.val % 32 * 512 + r.val) (v : Fin 2816) (hv : v.val = t.val / 32 * 1408 + l.val) :
    iblk1 V c 2 t (ix2 r l) = V c main_v5_1 (ix2 u v) := by
  blk_simp [iblk1]; blk_ext [iblk1, (at1 t).2.2.1]

theorem tileB (t : Fin cfg1.N) (r : Fin 512) (l : Fin 1408) (u : Fin 16384) (hu : u.val = t.val % 32 * 512 + r.val) (v : Fin 2816) (hv : v.val = t.val / 32 * 1408 + l.val) :
    iblk1 V c 3 t (ix2 r l) = V c main_v5_2 (ix2 u v) := by
  blk_simp [iblk1]; blk_ext [iblk1, (at1 t).2.2.2.1]

theorem turned (t : Fin cfg1.N) (r : Fin 512) (l : Fin 1408) (u : Fin 16384) (hu : u.val = t.val % 32 * 512 + r.val) (v : Fin 2816) (hv : v.val = t.val / 32 * 1408 + l.val) :
    k1_pay1 (iblk1 V c 0 t) (iblk1 V c 1 t) (ix2 r l) = prodT (V c main_v7) (V c main_v4) (ix2 u v) := by
  unfold k1_pay1 prodT
  pointwise
  exact Finset.sum_congr rfl fun k _ => congrArg₂ (· * ·) (rowsG V c t r k u hu) (rowsW V c t l k v hv)

theorem logis_block (x : Vec Ideal S512x1408 .bf16) (i : S512x1408.Idx) : k1_pay3 (F := Ideal) x i = logis (x i) := by
  unfold k1_pay3 k1_pay2 logis
  pointwise
  rw [zero_sub]

theorem arrDA : (dat1 V c).arrAt 4 cfg1.N = gradA (prodT (V c main_v7) (V c main_v4)) (V c main_v5_1) (V c main_v5_2) := by
  refine (dat1 V c).arrAt_eq_of_covers 4 _ (by decide +kernel) fun t hf y => ?_
  blk_simp
  rw [after1_4]
  obtain ⟨r, l, rfl⟩ : ∃ (r : Fin 512) (l : Fin 1408), y = ix2 r l := ⟨y 0, y 1, eq_ix2 y⟩
  have hN : t.val < 64 := t.isLt
  trans gradA (prodT (V c main_v7) (V c main_v4)) (V c main_v5_1) (V c main_v5_2) (ix2 ⟨t.val % 32 * 512 + r.val, by omega⟩ ⟨t.val / 32 * 1408 + l.val, by omega⟩)
  · unfold out1_4
    rw [stored]; simp only [loaded, loaded_down, loaded_factor]
    unfold k1_pay4 gradA k1_pay2
    pointwise
    rw [logis_block, turned V c t r l ⟨t.val % 32 * 512 + r.val, by omega⟩ rfl ⟨t.val / 32 * 1408 + l.val, by omega⟩ rfl, tileA V c t r l ⟨t.val % 32 * 512 + r.val, by omega⟩ rfl ⟨t.val / 32 * 1408 + l.val, by omega⟩ rfl, tileB V c t r l ⟨t.val % 32 * 512 + r.val, by omega⟩ rfl ⟨t.val / 32 * 1408 + l.val, by omega⟩ rfl]
  · blk_ext [(at1 t).2.2.2.2.1]

theorem arrDB : (dat1 V c).arrAt 5 cfg1.N = gradB (prodT (V c main_v7) (V c main_v4)) (V c main_v5_1) := by
  refine (dat1 V c).arrAt_eq_of_covers 5 _ (by decide +kernel) fun t hf y => ?_
  blk_simp
  rw [after1_5]
  obtain ⟨r, l, rfl⟩ : ∃ (r : Fin 512) (l : Fin 1408), y = ix2 r l := ⟨y 0, y 1, eq_ix2 y⟩
  have hN : t.val < 64 := t.isLt
  trans gradB (prodT (V c main_v7) (V c main_v4)) (V c main_v5_1) (ix2 ⟨t.val % 32 * 512 + r.val, by omega⟩ ⟨t.val / 32 * 1408 + l.val, by omega⟩)
  · unfold out1_5
    rw [stored]; simp only [loaded, loaded_down, loaded_factor]
    unfold k1_pay5 gradB k1_pay2
    pointwise
    rw [logis_block, turned V c t r l ⟨t.val % 32 * 512 + r.val, by omega⟩ rfl ⟨t.val / 32 * 1408 + l.val, by omega⟩ rfl, tileA V c t r l ⟨t.val % 32 * 512 + r.val, by omega⟩ rfl ⟨t.val / 32 * 1408 + l.val, by omega⟩ rfl]
  · blk_ext [(at1 t).2.2.2.2.2]

theorem at2 : ∀ t : Fin grid2.N, win2_0.index t = ![t.val, 0] ∧ win2_1.index t = ![t.val, 0] ∧ win2_2.index t = ![0, 0] ∧ win2_3.index t = ![0, 0]
    ∧ win2_4.index t = ![t.val, 0] := by decide +kernel

theorem stored_rows {e : EltTy} (p : Vec Ideal S512x1024 e) : View.canon [⟨r0_0, p⟩] = p := View.canon_cons_unit_lit' _ _ _ (by decide)
theorem loaded_wide {e : EltTy} (x : Vec Ideal S512x2816 e) : View.ld x r2_0 = x := View.ld_unit_lit' _ _ (by decide)
theorem loaded_all {e : EltTy} (x : Vec Ideal S1024x2816 e) : View.ld x r2_1 = x := View.ld_unit_lit' _ _ (by decide)

theorem wideA (t : Fin cfg2.N) (r : Fin 512) (k : Fin 2816) (u : Fin 16384) (hu : u.val = t.val * 512 + r.val) :
    iblk2 V c 0 t (ix2 r k) = V c main_v8_0 (ix2 u k) := by
  blk_simp [iblk2]; blk_ext [iblk2, (at2 t).1]

theorem wideB (t : Fin cfg2.N) (r : Fin 512) (k : Fin 2816) (u : Fin 16384) (hu : u.val = t.val * 512 + r.val) :
    iblk2 V c 1 t (ix2 r k) = V c main_v8_1 (ix2 u k) := by
  blk_simp [iblk2]; blk_ext [iblk2, (at2 t).2.1]

theorem allA (t : Fin cfg2.N) (l : Fin 1024) (k : Fin 2816) : iblk2 V c 2 t (ix2 l k) = V c main_v2 (ix2 l k) := by
  blk_simp [iblk2]; blk_ext [iblk2, (at2 t).2.2.1]

theorem allB (t : Fin cfg2.N) (l : Fin 1024) (k : Fin 2816) : iblk2 V c 3 t (ix2 l k) = V c main_v3 (ix2 l k) := by
  blk_simp [iblk2]; blk_ext [iblk2, (at2 t).2.2.2.1]

theorem arrDX : (dat2 V c).arrAt 4 cfg2.N = pairT (V c main_v8_0) (V c main_v2) (V c main_v8_1) (V c main_v3) := by
  refine (dat2 V c).arrAt_eq_of_covers 4 _ (by decide +kernel) fun t hf y => ?_
  blk_simp
  rw [after2_4]
  obtain ⟨r, l, rfl⟩ : ∃ (r : Fin 512) (l : Fin 1024), y = ix2 r l := ⟨y 0, y 1, eq_ix2 y⟩
  have hN : t.val < 32 := t.isLt
  trans pairT (V c main_v8_0) (V c main_v2) (V c main_v8_1) (V c main_v3) (ix2 ⟨t.val * 512 + r.val, by omega⟩ l)
  · unfold out2_4
    rw [stored_rows]; simp only [loaded_wide, loaded_all]
    unfold k2_pay1 pairT prodT
    pointwise
    exact congrArg₂ (· + ·) (Finset.sum_congr rfl fun k _ => congrArg₂ (· * ·) (wideA V c t r k _ rfl) (allA V c t l k))
      (Finset.sum_congr rfl fun k _ => congrArg₂ (· * ·) (wideB V c t r k _ rfl) (allB V c t l k))
  · blk_ext [(at2 t).2.2.2.2]

end Calls

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

abbrev Model := MT nD τ sig Unit (Elt Ideal) ℕ (UR sig nD τ) ℕ

set_option backward.isDefEq.respectTransparency.types false in
/-- Every buffer that outlives the calls ends as the last call leaves it. -/
theorem ends : θ_run defs (onTc (τ := τ) (main (F := Ideal))) ⟨m, fun _ => 0, ρ⟩ fun r =>
    (∀ (c : Dev nD) (b : Ref sig .tc), ¬ (Proc.devRef .tc b : DevRef τ sig).isScoped → r.2.mem ((c : Thread nD τ).loc b) = W5 m ρ c (Proc.devRef .tc b)) ∧ r.2.sem = fun _ => 0 := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ) (hch := by refine ⟨?_, ?_, ?_, ?_, ?_, ?_⟩ <;> exact fun _ => .rfl)
    (hinit := Pipeline.initEach L lv fun c => ?_) (QY := fun c s => ∀ b ∈ Pipeline.ucRefs τ sig, s.mem (((c : Thread nD τ)).1, b) = W5 m ρ c b) (hfin := fun c s' => ?_)
    (hQ := fun s h hz => ⟨fun c b hb => h c _ (mem_uc b hb), funext fun g => hz g (.inr (no_unscoped g.2))⟩)
  · iintro H
    imodintro
    isplitl [H]
    · iapply (show (ownU (initOf (Pipeline.cells cfgs cellOf_inj) (Pipeline.launchToks cfgs cellOf_inj)) : sProp Model)
        ⊢ BI.own (emb₁ (initOf (Pipeline.cells cfgs cellOf_inj) (Pipeline.launchToks cfgs cellOf_inj))) from .rfl)
      iexact H
    · iapply (show (BI.emp : sProp Model) ⊢ bigSep Finset.univ (fun _ : Dev nD => (BI.emp : sProp Model)) from by rw [BI.bigSep_emp_const])
      iempintro
  · rw [show unscopedBufs c (fun b => m ((c : Thread nD τ).loc b)) = StableHlo.held (c : Thread nD τ) (Pipeline.ucRefs τ sig) (W0 m ρ c) from Pipeline.unscopedBufs_held c (W0 m ρ c)]
    iintro ⟨⟨B, -, O, -, P, -⟩, -⟩
    imodintro
    isplitl [B]; · iexact B
    isplitl [P]; · iexists _; iexact P
    iexists ∅; iexact O
  · iintro ⟨⟨B, -⟩, S⟩
    unfold StableHlo.held
    imodintro
    iapply (pointsTo_read_all (Pipeline.ucRefs τ sig) (fun b => (((c : Thread nD τ)).1, b)) (W5 m ρ c) s')
    isplitl [B] <;> iassumption

variable (c : Dev nD)

theorem in_h : V1 m ρ c main_v1 = flat (m ((c : Thread nD τ).loc main_arg0)) := by
  funext i
  obtain ⟨r, k, rfl⟩ : ∃ (r : Fin 16384) (k : Fin 1024), i = ix2 r k := ⟨i 0, i 1, eq_ix2 i⟩
  show StableHlo.after hostOps0 (W0 m ρ c) (Proc.devRef .tc main_v1) _ = _
  entry_read
  unfold flat
  pointwise
theorem in_w1 : V1 m ρ c main_v2 = m ((c : Thread nD τ).loc main_arg1) := by
  funext i
  show StableHlo.after hostOps0 (W0 m ρ c) (Proc.devRef .tc main_v2) _ = _
  entry_read
  rfl
theorem in_w3 : V1 m ρ c main_v3 = m ((c : Thread nD τ).loc main_arg2) := by
  funext i
  show StableHlo.after hostOps0 (W0 m ρ c) (Proc.devRef .tc main_v3) _ = _
  entry_read
  rfl
theorem in_w2 : V1 m ρ c main_v4 = m ((c : Thread nD τ).loc main_arg3) := by
  funext i
  show StableHlo.after hostOps0 (W0 m ρ c) (Proc.devRef .tc main_v4) _ = _
  entry_read
  rfl
theorem in_ct : V3 m ρ c main_v7 = flat (m ((c : Thread nD τ).loc main_arg4)) := by
  funext i
  obtain ⟨r, k, rfl⟩ : ∃ (r : Fin 16384) (k : Fin 1024), i = ix2 r k := ⟨i 0, i 1, eq_ix2 i⟩
  show StableHlo.after hostOps1 (W2 m ρ c) (Proc.devRef .tc main_v7) _ = _
  entry_read
  unfold flat
  pointwise
  exact congrFun (W2_args m ρ c main_arg4 (by decide)) _

abbrev specT : Mat 16384 2816 := prodT (flat (m ((c : Thread nD τ).loc main_arg4))) (m ((c : Thread nD τ).loc main_arg3))
abbrev specA : Mat 16384 2816 := prod (flat (m ((c : Thread nD τ).loc main_arg0))) (m ((c : Thread nD τ).loc main_arg1))
abbrev specB : Mat 16384 2816 := prod (flat (m ((c : Thread nD τ).loc main_arg0))) (m ((c : Thread nD τ).loc main_arg2))

theorem mid_t : prodT (V3 m ρ c main_v7) (V3 m ρ c main_v4) = specT m c := by
  rw [in_ct, show V3 m ρ c main_v4 = _ from ((W3_of m ρ c main_v4 (by decide)).trans (W2_of m ρ c main_v4 (by decide))).trans (in_w2 m ρ c)]
theorem mid_a : V3 m ρ c main_v5_1 = specA m c := by
  refine (W3_of m ρ c main_v5_1 (by decide)).trans ((W2_arr m ρ c 4).trans ((arrA (V1 m ρ) c).trans ?_))
  rw [in_h, in_w1]
theorem mid_b : V3 m ρ c main_v5_2 = specB m c := by
  refine (W3_of m ρ c main_v5_2 (by decide)).trans ((W2_arr m ρ c 5).trans ((arrB (V1 m ρ) c).trans ?_))
  rw [in_h, in_w3]

theorem out_a : W4 m ρ c (Proc.devRef .tc main_v8_0) = gradA (specT m c) (specA m c) (specB m c) := by
  refine (W4_arr m ρ c 4).trans ((arrDA (V3 m ρ) c).trans ?_)
  rw [mid_t, mid_a, mid_b]
theorem out_b : W4 m ρ c (Proc.devRef .tc main_v8_1) = gradB (specT m c) (specA m c) := by
  refine (W4_arr m ρ c 5).trans ((arrDB (V3 m ρ) c).trans ?_)
  rw [mid_t, mid_a]
theorem kept (b : Ref sig .tc) (h4 : ∀ w : Fin cfg1.W, Pipeline.arrRef spec1 w = b → (cfg1.win w).isOut = false) (h3 : b ∉ hostOps1_W)
    (h2 : ∀ w : Fin cfg0.W, Pipeline.arrRef spec0 w = b → (cfg0.win w).isOut = false) : V4 m ρ c b = V1 m ρ c b :=
  ((W4_of m ρ c b h4).trans (W3_of m ρ c b h3)).trans (W2_of m ρ c b h2)

theorem out_x : W5 m ρ c (Proc.devRef .tc main_v9) = pairT (gradA (specT m c) (specA m c) (specB m c)) (m ((c : Thread nD τ).loc main_arg1))
    (gradB (specT m c) (specA m c)) (m ((c : Thread nD τ).loc main_arg2)) := by
  refine (W5_arr m ρ c 4).trans ((arrDX (V4 m ρ) c).trans ?_)
  rw [show V4 m ρ c main_v8_0 = _ from out_a m ρ c, show V4 m ρ c main_v8_1 = _ from out_b m ρ c, kept m ρ c main_v2 (by decide) (by decide) (by decide), in_w1,
    kept m ρ c main_v3 (by decide) (by decide) (by decide), in_w3]
end Run

section Reference

open Cert.FfnDxRefIdeal.Read

variable (h : Row 16384 1024) (w1 w3 : Mat 1024 2816) (w2 : Mat 2816 1024) (ct : Row 16384 1024) (u : Fin 16384) (v : Fin 2816)

theorem ref_up : val_main_v0 (F := Ideal) h w1 (ix3 0 u v) = prod (flat h) w1 (ix2 u v) := by
  unfold val_main_v0 prod flat
  pointwise
theorem ref_upB : val_main_v2 (F := Ideal) h w3 (ix3 0 u v) = prod (flat h) w3 (ix2 u v) := by
  unfold val_main_v2 prod flat
  pointwise
theorem ref_t : val_main_v5 (F := Ideal) w2 ct (ix3 0 u v) = prodT (flat ct) w2 (ix2 u v) := by
  unfold val_main_v5 prodT flat
  pointwise
theorem ref_gate : val_main_v1_2 (F := Ideal) h w1 (ix3 0 u v) = logis (prod (flat h) w1 (ix2 u v)) := by
  unfold val_main_v1_2 val_main_call0_v4 val_main_call0_v3 val_main_call0_v2 val_main_call0_v1 val_main_call0_v0 val_main_call0_cst val_main_call0_cst_0 logis
  pointwise
  rw [ref_up]
theorem ref_b : val_main_v6 (F := Ideal) h w1 w2 ct (ix3 0 u v) = gradB (prodT (flat ct) w2) (prod (flat h) w1) (ix2 u v) := by
  unfold val_main_v6 val_main_v1_0 gradB
  pointwise
  rw [ref_up, ref_gate, ref_t, mul_comm]
theorem ref_a (hh : ∀ i, ∃ r : ℝ, h i = r) (h1 : ∀ i, ∃ r : ℝ, w1 i = r) (h3 : ∀ i, ∃ r : ℝ, w3 i = r) (h2 : ∀ i, ∃ r : ℝ, w2 i = r) (hc : ∀ i, ∃ r : ℝ, ct i = r) :
    val_main_v9 (F := Ideal) h w1 w3 w2 ct (ix3 0 u v) = gradA (prodT (flat ct) w2) (prod (flat h) w1) (prod (flat h) w3) (ix2 u v) := by
  rw [grad_slope h w1 w3 w2 ct hh h1 h3 h2 hc]
  unfold val_main_v9 val_main_call1_v1 val_main_call1_v2 val_main_call1_v0 val_main_v7 val_main_v1_1 val_main_call0_v7 val_main_call0_v6 val_main_call0_cst_1
  pointwise
  rw [ref_up, ref_gate, ref_t, ref_upB]
theorem ref_x (hh : ∀ i, ∃ r : ℝ, h i = r) (h1 : ∀ i, ∃ r : ℝ, w1 i = r) (h3 : ∀ i, ∃ r : ℝ, w3 i = r) (h2 : ∀ i, ∃ r : ℝ, w2 i = r) (hc : ∀ i, ∃ r : ℝ, ct i = r) :
    val_main_v12 (F := Ideal) h w1 w3 w2 ct = pairT (gradA (prodT (flat ct) w2) (prod (flat h) w1) (prod (flat h) w3)) w1 (gradB (prodT (flat ct) w2) (prod (flat h) w1)) w3 := by
  funext i
  obtain ⟨u, k, rfl⟩ : ∃ (u : Fin 16384) (k : Fin 1024), i = ix2 u k := ⟨i 0, i 1, eq_ix2 i⟩
  unfold val_main_v12 val_main_v11 val_main_v8 val_main_v10 pairT prodT
  pointwise
  rw [add_comm]
  exact congrArg₂ (· + ·) (Finset.sum_congr rfl fun v _ => congrArg (· * w1 (ix2 k v)) (ref_a h w1 w3 w2 ct u v hh h1 h3 h2 hc))
    (Finset.sum_congr rfl fun v _ => congrArg (· * w3 (ix2 k v)) (ref_b h w1 w2 ct u v))
end Reference

theorem frame_k : Cert.quiescent_FfnDx := fun m ρ _ => Cert.FfnDx.Gen.frame m ρ
theorem frame_i : Cert.quiescent_FfnDxIdeal := fun m ρ _ => Cert.FfnDxIdeal.Gen.frame m ρ
theorem frame_ip [Cert.Pre_finite_ffn.Facts] : Cert.quiescent_FfnDxIdeal_pre_finite_ffn := fun m ρ _ => Cert.FfnDxIdeal.Gen.frame m ρ
theorem frame_r : Cert.quiescent_FfnDxRefIdeal := fun m ρ _ =>
  θ_run_mono (Cert.FfnDxRefIdeal.Value.run (F := Ideal) m ρ) fun r h => ⟨fun c => (h c).2, sem_eq_zero_of_no_sems (by decide) r.2⟩
theorem frame_rp [Cert.Pre_finite_ffn.Facts] : Cert.quiescent_FfnDxRefIdeal_pre_finite_ffn := fun m ρ _ => frame_r m ρ trivial

theorem algebraic [Cert.Pre_finite_ffn.Facts] : Cert.algebraic_FfnDxIdeal_FfnDxRefIdeal_pre_finite_ffn := by
  intro m s m' s' hpre hagree
  refine ⟨fun c => pairT (gradA (specT m c) (specA m c) (specB m c)) (m ((c : Thread nD τ).loc main_arg1)) (gradB (specT m c) (specA m c)) (m ((c : Thread nD τ).loc main_arg2)), ?_, ?_⟩
  · exact θ_run_mono (ends m s) fun r h c => ⟨(h.1 c main_v9 (by decide)).trans (out_x m s c), (h.1 c main_arg0 (by decide)).trans (W5_main_arg0 m s c), (h.1 c main_arg1 (by decide)).trans (W5_main_arg1 m s c), (h.1 c main_arg2 (by decide)).trans (W5_main_arg2 m s c), (h.1 c main_arg3 (by decide)).trans (W5_main_arg3 m s c), (h.1 c main_arg4 (by decide)).trans (W5_main_arg4 m s c)⟩
  · refine θ_run_mono (Cert.FfnDxRefIdeal.Value.run (F := Ideal) m' s') fun r h c => ?_
    obtain ⟨hh, h1, h3, h2, hc⟩ := entries_real _ _ _ _ _ (hpre c)
    obtain ⟨a0, a1, a2, a3, a4⟩ := hagree c
    refine ⟨(h c).1.trans ((Cert.FfnDxRefIdeal.Read.val_main_v12_eq _ _ _ _ _).trans ?_), (h c).2⟩
    rw [a0, a1, a2, a3, a4]
    exact ref_x _ _ _ _ _ hh h1 h3 h2 hc

end Cert.Glu.Dx
-- ==== Proof.MergeUp.lean ====
module

public import proofs.«01_k».proof.Defs
public import proofs.«01_k».proof.Proof.Merge
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The gated sum's forward call -/

noncomputable section

namespace Cert.Gates.Up

open Idealize.ShloMosaic Idealize.ShloMosaic.TcCoe Idealize.SL.Sem

/-- The three branches under their gates. -/
def mixed (ya yb yc : Vec Ideal ⟨3, ![1, 16384, 512]⟩ .f32) (ga gb gc : Vec Ideal ⟨3, ![1, 16384, 1024]⟩ .f32) (wa wb wc : Vec Ideal ⟨2, ![512, 1024]⟩ .f32) :
    Vec Ideal ⟨2, ![16384, 1024]⟩ .bf16 := fun i =>
  gate (ga (ix3 0 (i 0) (i 1))) * branch ya wa (i 0) (i 1) + gate (gb (ix3 0 (i 0) (i 1))) * branch yb wb (i 0) (i 1) + gate (gc (ix3 0 (i 0) (i 1))) * branch yc wc (i 0) (i 1)

/-- The residual sum. -/
def residual (x : Vec Ideal ⟨3, ![1, 16384, 1024]⟩ .f32) (s : Vec Ideal ⟨2, ![16384, 1024]⟩ .bf16) (wo : Vec Ideal ⟨2, ![1024, 1024]⟩ .f32) :
    Vec Ideal ⟨2, ![16384, 1024]⟩ .f32 := fun i => x (ix3 0 (i 0) (i 1)) + ∑ k : Fin 1024, s (ix2 (i 0) k) * wo (ix2 k (i 1))

section Kernel

open Cert.MergeFwdIdeal Cert.MergeFwdIdeal.Gen

variable (m : (ℓ : Loc nD τ sig) → Buf (Elt Ideal) ℓ) (c : Dev nD) (t : Fin cfg0.N)

theorem rows : ∀ t : Fin grid0.N, win0_0.index t = ![t.val, 0] ∧ win0_1.index t = ![0, t.val] ∧ win0_2.index t = ![t.val, 0] ∧ win0_3.index t = ![t.val, 0]
    ∧ win0_4.index t = ![t.val, 0] ∧ win0_5.index t = ![t.val, 0] ∧ win0_6.index t = ![t.val, 0] := by decide +kernel
theorem whole : ∀ t : Fin grid0.N, win0_7.index t = ![0, 0] ∧ win0_8.index t = ![0, 0] ∧ win0_9.index t = ![0, 0] ∧ win0_10.index t = ![0, 0] := by decide +kernel
theorem outs : ∀ t : Fin grid0.N, win0_11.index t = ![t.val, 0] ∧ win0_12.index t = ![t.val, 0] := by decide +kernel

abbrev arg (r : Ref sig .tc) := m ((c : Thread nD τ).loc r)

section Rows

variable (r : Fin 512) (u : Fin 16384) (hu : u.val = t.val * 512 + r.val)
include hu

theorem in0 (k : Fin 1024) : iblk m c 0 t (ix2 r k) = arg m c main_arg0 (ix3 0 u k) := by
  blk_simp [iblk]; entry_read; pointwise; blk_ext [iblk, (rows t).1]
theorem in1 (k : Fin 512) : iblk m c 1 t (ix2 k r) = arg m c main_arg1 (ix3 0 u k) := by
  blk_simp [iblk]; entry_read; pointwise; blk_ext [iblk, (rows t).2.1]
theorem in2 (k : Fin 512) : iblk m c 2 t (ix2 r k) = arg m c main_arg2 (ix3 0 u k) := by
  blk_simp [iblk]; entry_read; pointwise; blk_ext [iblk, (rows t).2.2.1]
theorem in3 (k : Fin 512) : iblk m c 3 t (ix2 r k) = arg m c main_arg3 (ix3 0 u k) := by
  blk_simp [iblk]; entry_read; pointwise; blk_ext [iblk, (rows t).2.2.2.1]
theorem in4 (k : Fin 1024) : iblk m c 4 t (ix2 r k) = arg m c main_arg4 (ix3 0 u k) := by
  blk_simp [iblk]; entry_read; pointwise; blk_ext [iblk, (rows t).2.2.2.2.1]
theorem in5 (k : Fin 1024) : iblk m c 5 t (ix2 r k) = arg m c main_arg5 (ix3 0 u k) := by
  blk_simp [iblk]; entry_read; pointwise; blk_ext [iblk, (rows t).2.2.2.2.2.1]
theorem in6 (k : Fin 1024) : iblk m c 6 t (ix2 r k) = arg m c main_arg6 (ix3 0 u k) := by
  blk_simp [iblk]; entry_read; pointwise; blk_ext [iblk, (rows t).2.2.2.2.2.2]

end Rows

theorem in7 (k : Fin 512) (j : Fin 1024) : iblk m c 7 t (ix2 k j) = arg m c main_arg7 (ix2 k j) := by
  blk_simp [iblk]; entry_read; pointwise; blk_ext [iblk, (whole t).1]
theorem in8 (k : Fin 512) (j : Fin 1024) : iblk m c 8 t (ix2 k j) = arg m c main_arg8 (ix2 k j) := by
  blk_simp [iblk]; entry_read; pointwise; blk_ext [iblk, (whole t).2.1]
theorem in9 (k : Fin 512) (j : Fin 1024) : iblk m c 9 t (ix2 k j) = arg m c main_arg9 (ix2 k j) := by
  blk_simp [iblk]; entry_read; pointwise; blk_ext [iblk, (whole t).2.2.1]
theorem in10 (k j : Fin 1024) : iblk m c 10 t (ix2 k j) = arg m c main_arg10 (ix2 k j) := by
  blk_simp [iblk]; entry_read; pointwise; blk_ext [iblk, (whole t).2.2.2]

theorem stored {e : EltTy} (p : Vec Ideal S512x1024 e) : View.canon [⟨r0_1, p⟩] = p := View.canon_cons_unit_lit' _ _ _ (by decide)
theorem loaded {e : EltTy} (x : Vec Ideal S512x1024 e) : View.ld x r0_1 = x := View.ld_unit_lit' _ _ (by decide)
theorem loaded_wo {e : EltTy} (x : Vec Ideal S1024x1024 e) : View.ld x r0_2 = x := View.ld_unit_lit' _ _ (by decide)
theorem loaded_y {e : EltTy} (x : Vec Ideal S512x512 e) : View.ld x r0_0 = x := View.ld_unit_lit' _ _ (by decide)

/-- The gated sum of the arguments. -/
abbrev total : Vec Ideal ⟨2, ![16384, 1024]⟩ .bf16 := mixed (arg m c main_arg1) (arg m c main_arg2) (arg m c main_arg3) (arg m c main_arg4) (arg m c main_arg5) (arg m c main_arg6)
  (arg m c main_arg7) (arg m c main_arg8) (arg m c main_arg9)

theorem mixed_block (r : Fin 512) (j : Fin 1024) (u : Fin 16384) (hu : u.val = t.val * 512 + r.val) :
    k0_pay1 (k0_pay3 (iblk m c 2 t) (iblk m c 8 t)) (k0_pay4 (iblk m c 3 t) (iblk m c 9 t)) (k0_pay5 (iblk m c 1 t) (iblk m c 7 t) (iblk m c 4 t)) (k0_pay6 (iblk m c 5 t))
      (iblk m c 6 t) (ix2 r j) = total m c (ix2 u j) := by
  unfold k0_pay1 k0_pay3 k0_pay4 k0_pay5 k0_pay6 total mixed branch gate
  pointwise
  simp only [zero_sub, in1 m c t r u hu, in2 m c t r u hu, in3 m c t r u hu, in4 m c t r u hu, in5 m c t r u hu, in6 m c t r u hu, in7, in8, in9]

theorem arr12 : (dats m 0 c).arrAt 12 cfg0.N = total m c := by
  refine (dats m 0 c).arrAt_eq_of_covers 12 _ (by decide +kernel) fun t hf y => ?_
  blk_simp
  rw [after0_12]
  obtain ⟨r, j, rfl⟩ : ∃ (r : Fin 512) (j : Fin 1024), y = ix2 r j := ⟨y 0, y 1, eq_ix2 y⟩
  have hN : t.val < 32 := t.isLt
  trans total m c (ix2 ⟨t.val * 512 + r.val, by omega⟩ j)
  · unfold_out out0_12
    rw [stored]; simp only [loaded, loaded_wo, loaded_y]
    exact mixed_block m c t r j _ rfl
  · blk_ext [(outs t).2]

theorem arr11 : (dats m 0 c).arrAt 11 cfg0.N = residual (arg m c main_arg0) (total m c) (arg m c main_arg10) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 y⟩
  have hN : t.val < 32 := t.isLt
  trans residual (arg m c main_arg0) (total m c) (arg m c main_arg10) (ix2 ⟨t.val * 512 + r.val, by omega⟩ j)
  · unfold_out out0_11
    rw [stored]; simp only [loaded, loaded_wo, loaded_y]
    unfold k0_pay2 residual
    pointwise
    rw [in0 m c t r ⟨t.val * 512 + r.val, by omega⟩ rfl]
    exact congrArg _ (Finset.sum_congr rfl fun k _ => congrArg₂ (· * ·) (mixed_block m c t r k _ rfl) (in10 m c t k j))
  · blk_ext [(outs t).1]

end Kernel

section Reference

open Cert.MergeFwdRefIdeal Cert.MergeFwdRefIdeal.Gen Cert.MergeFwdRefIdeal.Read

variable (x : Vec Ideal ⟨3, ![1, 16384, 1024]⟩ .f32) (ya yb yc : Vec Ideal ⟨3, ![1, 16384, 512]⟩ .f32) (ga gb gc : Vec Ideal ⟨3, ![1, 16384, 1024]⟩ .f32)
  (wa wb wc : Vec Ideal ⟨2, ![512, 1024]⟩ .f32) (wo : Vec Ideal ⟨2, ![1024, 1024]⟩ .f32)

theorem ref_sum (u : Fin 16384) (j : Fin 1024) : val_main_v25 (F := Ideal) ya yb yc ga gb gc wa wb wc (ix3 0 u j) = mixed ya yb yc ga gb gc wa wb wc (ix2 u j) := by
  unfold val_main_v25 val_main_v24 val_main_v23 val_main_v22 val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 val_main_v1 val_main_v0
    val_main_cst val_main_cst_0 val_main_cst_1 val_main_cst_2 val_main_cst_3 val_main_cst_4 mixed branch gate
  pointwise

theorem ref_mixed : val_main_v30 (F := Ideal) ya yb yc ga gb gc wa wb wc = mixed ya yb yc ga gb gc wa wb wc := by
  funext i
  obtain ⟨u, j, rfl⟩ : ∃ (u : Fin 16384) (j : Fin 1024), i = ix2 u j := ⟨i 0, i 1, eq_ix2 i⟩
  refine Eq.trans ?_ (ref_sum ya yb yc ga gb gc wa wb wc u j)
  unfold val_main_v30 val_main_v29
  pointwise

theorem ref_residual : val_main_v28 (F := Ideal) x ya yb yc ga gb gc wa wb wc wo = residual x (mixed ya yb yc ga gb gc wa wb wc) wo := by
  funext i
  obtain ⟨u, j, rfl⟩ : ∃ (u : Fin 16384) (j : Fin 1024), i = ix2 u j := ⟨i 0, i 1, eq_ix2 i⟩
  unfold val_main_v28 val_main_v27 val_main_v26 residual
  pointwise
  exact congrArg _ (Finset.sum_congr rfl fun k _ => congrArg (· * _) (ref_sum ya yb yc ga gb gc wa wb wc u k))

end Reference

theorem frame_k : Cert.quiescent_MergeFwd := fun m ρ _ => Cert.MergeFwd.Gen.frame m ρ
theorem frame_i : Cert.quiescent_MergeFwdIdeal := fun m ρ _ => Cert.MergeFwdIdeal.Gen.frame m ρ
theorem frame_r : Cert.quiescent_MergeFwdRefIdeal := fun m ρ _ =>
  θ_run_mono (Cert.MergeFwdRefIdeal.Value.run (F := Ideal) m ρ) fun r h => ⟨fun c => (h c).2.2, sem_eq_zero_of_no_sems (by decide) r.2⟩

theorem algebraic : Cert.algebraic_MergeFwdIdeal_MergeFwdRefIdeal := by
  intro m s m' s' _ hagree
  refine ⟨fun c => residual (arg m c Cert.MergeFwdIdeal.main_arg0) (total m c) (arg m c Cert.MergeFwdIdeal.main_arg10), fun c => total m c, ?_, ?_⟩
  · exact θ_run_mono (Cert.MergeFwdIdeal.Value.run_blocks m s) fun r h c => ⟨(h c).1.trans (arr11 m c), (h c).2.1.trans (arr12 m c), (h c).2.2⟩
  · refine θ_run_mono (Cert.MergeFwdRefIdeal.Value.run (F := Ideal) m' s') fun r h c => ?_
    obtain ⟨a0, a1, a2, a3, a4, a5, a6, a7, a8, a9, a10⟩ := hagree c
    refine ⟨(h c).1.trans ((Cert.MergeFwdRefIdeal.Read.val_main_v28_eq _ _ _ _ _ _ _ _ _ _ _).trans ?_), (h c).2.1.trans ((Cert.MergeFwdRefIdeal.Read.val_main_v30_eq _ _ _ _ _ _ _ _ _).trans ?_), (h c).2.2⟩
    · rw [a0, a1, a2, a3, a4, a5, a6, a7, a8, a9, a10]
      exact ref_residual _ _ _ _ _ _ _ _ _ _ _
    · rw [a1, a2, a3, a4, a5, a6, a7, a8, a9]
      exact ref_mixed _ _ _ _ _ _ _ _ _

end Cert.Gates.Up
-- ==== Proof.NormUp.lean ====
module

public import proofs.«01_k».proof.Defs
public import proofs.«01_k».proof.Proof.RowNorm
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The norm's forward call -/

noncomputable section

namespace Cert.RowNorm.PlainUp

open Idealize.ShloMosaic Idealize.ShloMosaic.TcCoe Idealize.SL.Sem

section Kernel

open Cert.NormFwdIdeal Cert.NormFwdIdeal.Gen

variable (m : (ℓ : Loc nD τ sig) → Buf (Elt Ideal) ℓ) (c : Dev nD) (t : Fin cfg0.N)

abbrev arg (r : Ref sig .tc) := m ((c : Thread nD τ).loc r)

theorem idx : ∀ t : Fin grid0.N, win0_0.index t = ![t.val, 0] ∧ win0_1.index t = ![0, 0] ∧ win0_2.index t = ![t.val, 0] := by decide +kernel

theorem in0 (r : Fin 1024) (k : Fin 384) (u : Fin 16384) (hu : u.val = t.val * 1024 + r.val) : iblk m c 0 t (ix2 r k) = arg m c main_arg0 (ix3 0 u k) := by
  blk_simp [iblk]; entry_read; pointwise; blk_ext [iblk, (idx t).1]

theorem in1 (k : Fin 384) : iblk m c 1 t (ix2 0 k) = arg m c main_arg1 (ix1 k) := by
  blk_simp [iblk]; entry_read; pointwise; blk_ext [iblk, (idx t).2.1]

/-- The rows over their root mean square, times the gain. -/
def normed (x : Vec Ideal (Rows 384) .f32) (g : (⟨1, ![384]⟩ : Shape).Idx → EReal) : Vec Ideal S16384x384 .bf16 := fun i => x (ix3 0 (i 0) (i 1)) * root 0x43C00000#32 x (i 0) * g (ix1 (i 1))

theorem stored (p : Vec Ideal S1024x384 .bf16) : View.canon [⟨r0_0, p⟩] = p := View.canon_cons_unit_lit' _ _ _ (by decide)
theorem loaded (x : Vec Ideal S1024x384 .f32) : View.ld x r0_0 = x := View.ld_unit_lit' _ _ (by decide)
theorem loaded_gain (x : Vec Ideal S1x384 .f32) : View.ld x r0_1 = x := View.ld_unit_lit' _ _ (by decide)

theorem arr2 : (dats m 0 c).arrAt 2 cfg0.N = normed (arg m c main_arg0) (arg m c main_arg1) := by
  refine (dats m 0 c).arrAt_eq_of_covers 2 _ (by decide +kernel) fun t hf y => ?_
  blk_simp
  rw [after0_2]
  obtain ⟨r, j, rfl⟩ : ∃ (r : Fin 1024) (j : Fin 384), y = ix2 r j := ⟨y 0, y 1, eq_ix2 y⟩
  have hN : t.val < 16 := t.isLt
  trans normed (arg m c main_arg0) (arg m c main_arg1) (ix2 ⟨t.val * 1024 + r.val, by omega⟩ j)
  · unfold out0_2
    rw [stored]; simp only [loaded, loaded_gain]
    unfold k0_pay1 normed root
    pointwise
    simp only [in0 m c t r _ ⟨t.val * 1024 + r.val, by omega⟩ rfl, in1]
  · blk_ext [(idx t).2.2]

end Kernel

section Reference

open Cert.NormFwdRefIdeal Cert.NormFwdRefIdeal.Gen Cert.NormFwdRefIdeal.Read

theorem ref_rows (x : (⟨S1x16384x384, .f32⟩ : BufTy).Contents (Elt Ideal)) (g : (⟨S384, .f32⟩ : BufTy).Contents (Elt Ideal)) : val_main_v14 x g = normed x g := by
  funext i
  obtain ⟨u, j, rfl⟩ : ∃ (u : Fin 16384) (j : Fin 384), i = ix2 u j := ⟨i 0, i 1, eq_ix2 i⟩
  have h : val_main_v7 x (ix3 0 u 0) = root 0x43C00000#32 x u := by
    unfold val_main_v7 val_main_v6 val_main_v5 val_main_v4 val_main_v3 val_main_v2 val_main_v1 val_main_v0 val_main_cst val_main_cst_0 val_main_cst_1 root
    pointwise
  unfold val_main_v14 val_main_v13 val_main_v12 val_main_v11 val_main_v10 val_main_v9 val_main_v8 normed
  pointwise
  rw [h]

end Reference

theorem frame_k : Cert.quiescent_NormFwd := fun m ρ _ => Cert.NormFwd.Gen.frame m ρ
theorem frame_i : Cert.quiescent_NormFwdIdeal := fun m ρ _ => Cert.NormFwdIdeal.Gen.frame m ρ
theorem frame_r : Cert.quiescent_NormFwdRefIdeal := fun m ρ _ =>
  θ_run_mono (Cert.NormFwdRefIdeal.Value.run (F := Ideal) m ρ) fun r h => ⟨fun c => (h c).2, sem_eq_zero_of_no_sems (by decide) r.2⟩

theorem algebraic : Cert.algebraic_NormFwdIdeal_NormFwdRefIdeal := by
  intro m s m' s' _ hagree
  refine ⟨fun c => normed (arg m c Cert.NormFwdIdeal.main_arg0) (arg m c Cert.NormFwdIdeal.main_arg1), ?_, ?_⟩
  · exact θ_run_mono (Cert.NormFwdIdeal.Value.run_blocks m s) fun r h c => ⟨(h c).1.trans (arr2 m c), (h c).2⟩
  · refine θ_run_mono (Cert.NormFwdRefIdeal.Value.run (F := Ideal) m' s') fun r h c => ?_
    obtain ⟨a0, a1⟩ := hagree c
    refine ⟨(h c).1.trans ((Cert.NormFwdRefIdeal.Read.val_main_v14_eq _ _).trans ?_), (h c).2⟩
    rw [a0, a1]
    exact ref_rows _ _

end Cert.RowNorm.PlainUp
-- ==== Proof.IntraUp.lean ====
module

public import proofs.«01_k».proof.Proof.IntraF
public import proofs.«01_k».proof.Proof.IntraB
public import proofs.«01_k».proof.Proof.Gen.IntraFwdFIdeal.Frame
public import proofs.«01_k».proof.Proof.Gen.IntraFwdBIdeal.Frame
public import Idealize.ShloMosaic.Lib.Pointwise

@[expose] public section

set_option maxRecDepth 16384

/-! # Within one chunk, forward: the masked scores against the values -/

noncomputable section

namespace Cert.Intra

open Idealize.ShloMosaic Cert.Heads

section Block

open Cert.IntraFwdFIdeal Cert.IntraFwdFIdeal.Gen

variable (msk : IVec S256x256 1) (q k : Vec Ideal S1x256x128 .f32) (v : Vec Ideal S1x256x64 .f32)
variable (x0 x1 : Vec Ideal S1x256x1024 .f32) (x2 : Vec Ideal S1x256x512 .f32)

/-- One head's values on a block of 256 tokens. -/
theorem seen_apply (r : Fin 256) (c : Fin 64) :
    k0_pay1 msk q k v (ix3 0 r c) = ∑ s : Fin 256, Scalar.select (msk (ix2 r s)) ((∑ d : Fin 128, q (ix3 0 r d) * k (ix3 0 s d)) * v (ix3 0 s c)) 0 := by
  unfold_payloads
  pointwise

def outO : Vec Ideal (packed 256 64) .f32 :=
  View.canon (pieces 256 64 fun h => k0_pay1 msk (View.ld x0 (head 256 128 h)) (View.ld x1 (head 256 128 h)) (View.ld x2 (head 256 64 h)))

theorem outO_apply (r : Fin 256) (h : Fin 8) (i : Fin 64) : outO msk x0 x1 x2 (ix3 0 r (col h i)) =
    ∑ s : Fin 256, Scalar.select (msk (ix2 r s)) ((∑ d : Fin 128, x0 (ix3 0 r (col h d)) * x1 (ix3 0 s (col h d))) * x2 (ix3 0 s (col h i))) 0 := by
  refine (canon_pieces 256 64 _ h r i).trans ((seen_apply _ _ _ _ _ _).trans ?_)
  exact Finset.sum_congr rfl fun s _ => congrArg (Scalar.select _ · _) (Ideal.mul_congr
    (Finset.sum_congr rfl fun d _ => Ideal.mul_congr (ld_head 256 _ _ h _ d) (ld_head 256 _ _ h _ d)) (ld_head 256 _ _ h s i))

theorem out3 : out0_3 x0 x1 x2 = outO (Cert.IntraFIdeal.Gen.k0_pay84 x0 x1 x2 x2) x0 x1 x2 := rfl
theorem outB3 : Cert.IntraFwdBIdeal.Gen.out0_3 x0 x1 x2 = outO (Cert.IntraBIdeal.Gen.k0_pay84 x0 x1 x2 x2) x0 x1 x2 := rfl

end Block

section Whole

variable (rev : Bool) (q k : (⟨4, ![1, 16384, 8, 128]⟩ : Shape).Idx → EReal) (v : (⟨4, ![1, 16384, 8, 64]⟩ : Shape).Idx → EReal)

/-- What a token reads from its chunk. -/
def seen (t : Fin 16384) (h : Fin 8) (i : Fin 64) : EReal :=
  ∑ j : Fin 16, if sees rev (t.val % 16) j.val then (∑ d : Fin 128, q (ix4 0 t h d) * k (ix4 0 (mate t j) h d)) * v (ix4 0 (mate t j) h i) else 0

theorem outO_eq (msk : IVec Cert.IntraFIdeal.S256x256 1) (hm : ∀ r s : Fin 256, msk (ix2 r s) = BitVec.ofBool (decide (r.val / 16 = s.val / 16 ∧ sees rev r.val s.val = true)))
    (n : ℕ) (x0 x1 : Vec Ideal (packed 256 128) .f32) (x2 : Vec Ideal (packed 256 64) .f32)
    (h0 : ∀ (r : Fin 256) (h : Fin 8) (i : Fin 128) (u : Fin 16384), u.val = n * 256 + r.val → x0 (ix3 0 r (col h i)) = q (ix4 0 u h i))
    (h1 : ∀ (r : Fin 256) (h : Fin 8) (i : Fin 128) (u : Fin 16384), u.val = n * 256 + r.val → x1 (ix3 0 r (col h i)) = k (ix4 0 u h i))
    (h2 : ∀ (r : Fin 256) (h : Fin 8) (i : Fin 64) (u : Fin 16384), u.val = n * 256 + r.val → x2 (ix3 0 r (col h i)) = v (ix4 0 u h i))
    (r : Fin 256) (h : Fin 8) (i : Fin 64) (t : Fin 16384) (ht : t.val = n * 256 + r.val) :
    outO msk x0 x1 x2 (ix3 0 r (col h i)) = seen rev q k v t h i := by
  rw [outO_apply]
  simp only [hm]
  rw [sum_chunk r (fun s => sees rev r.val s.val = true)]
  unfold seen
  refine Finset.sum_congr rfl fun j _ => ?_
  have e : sees rev r.val (r.val / 16 * 16 + j.val) = sees rev (t.val % 16) j.val := by
    cases rev <;> simp only [sees, ht] <;> simp <;> omega
  have hj : (mate t j).val = n * 256 + (r.val / 16 * 16 + j.val) := by show t.val / 16 * 16 + j.val = _; omega
  simp only [e, h0 r h _ t ht, h1 ⟨r.val / 16 * 16 + j.val, by omega⟩ h _ (mate t j) hj, h2 ⟨r.val / 16 * 16 + j.val, by omega⟩ h _ (mate t j) hj]

variable {q k v}
variable {Q K : (⟨4, ![1, 16384, 8, 128]⟩ : Shape).Idx → EReal} {V : (⟨4, ![1, 16384, 8, 64]⟩ : Shape).Idx → EReal}

/-- Reversing the tokens turns one direction into the other. -/
theorem seen_rev (hQ : ∀ u h i, Q (ix4 0 u h i) = q (ix4 0 u.rev h i)) (hK : ∀ u h i, K (ix4 0 u h i) = k (ix4 0 u.rev h i)) (hV : ∀ u h i, V (ix4 0 u h i) = v (ix4 0 u.rev h i))
    (t : Fin 16384) (h : Fin 8) (i : Fin 64) : seen false Q K V t.rev h i = seen true q k v t h i :=
  sum_rev fun j => by simp only [sees_rev, hQ, hK, hV, mate_rev, Fin.rev_rev]

end Whole

end Cert.Intra
-- ==== Proof.IntraUpF.lean ====
module

public import proofs.«01_k».proof.Defs
public import proofs.«01_k».proof.Proof.IntraUp
public import proofs.«01_k».proof.Proof.Gen.IntraFwdF.Frame
public import proofs.«01_k».proof.Proof.Gen.IntraFwdFIdeal.Value
public import proofs.«01_k».proof.Proof.Gen.IntraFwdFRefIdeal.Run
public import proofs.«01_k».proof.Proof.Gen.IntraFwdFRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # Within one chunk, forward call (tokens in order) -/

noncomputable section

namespace Cert.Intra.UpF

open Idealize.ShloMosaic Idealize.ShloMosaic.TcCoe Idealize.SL.Sem Cert.Heads

section Kernel

open Cert.IntraFwdFIdeal Cert.IntraFwdFIdeal.Gen

variable (m : (ℓ : Loc nD τ sig) → Buf (Elt Ideal) ℓ) (c : Dev nD)

abbrev arg (r : Ref sig .tc) := m ((c : Thread nD τ).loc r)

theorem idx : ∀ t : Fin grid0.N, win0_0.index t = ![0, t.val, 0] ∧ win0_1.index t = ![0, t.val, 0] ∧ win0_2.index t = ![0, t.val, 0] ∧ win0_3.index t = ![0, t.val, 0] := by decide +kernel

section Blocks

variable (t : Fin cfg0.N) (r : Fin 256) (h : Fin 8)

theorem in0 (i : Fin 128) (u : Fin 16384) (hu : u.val = t.val * 256 + r.val) : iblk m c 0 t (ix3 0 r (col h i)) = arg m c main_arg0 (ix4 0 u h i) := by
  blk_simp [iblk]; entry_read; pointwise; blk_ext [iblk, (idx t).1]
theorem in1 (i : Fin 128) (u : Fin 16384) (hu : u.val = t.val * 256 + r.val) : iblk m c 1 t (ix3 0 r (col h i)) = arg m c main_arg1 (ix4 0 u h i) := by
  blk_simp [iblk]; entry_read; pointwise; blk_ext [iblk, (idx t).2.1]
theorem in2 (i : Fin 64) (u : Fin 16384) (hu : u.val = t.val * 256 + r.val) : iblk m c 2 t (ix3 0 r (col h i)) = arg m c main_arg2 (ix4 0 u h i) := by
  blk_simp [iblk]; entry_read; pointwise; blk_ext [iblk, (idx t).2.2.1]

end Blocks

theorem arr3 : (dats m 0 c).arrAt 3 cfg0.N = packedOf (seen false (arg m c main_arg0) (arg m c main_arg1) (arg m c main_arg2)) (by decide : 0 < 64) := by
  refine (dats m 0 c).arrAt_eq_of_covers 3 _ (by decide +kernel) fun t hf y => ?_
  blk_simp
  rw [after0_3, out3]
  obtain ⟨a, r, d, rfl⟩ : ∃ (a : Fin 1) (r : Fin 256) (d : Fin (8 * 64)), y = ix3 a r d := ⟨y 0, y 1, y 2, eq_ix3 y⟩
  obtain ⟨h, i, rfl⟩ := exists_col d
  obtain rfl : a = 0 := Subsingleton.elim _ _
  have hN : t.val < 64 := t.isLt
  refine (outO_eq false _ _ _ _ (Cert.Intra.F.sees_mask _ _ _ _) t.val _ _ _ (in0 m c t) (in1 m c t) (in2 m c t) r h i ⟨t.val * 256 + r.val, by omega⟩ rfl).trans ?_
  rw [← packedOf_col (seen false _ _ _) (by decide : 0 < 64)]
  blk_ext [(idx t).2.2.2]

end Kernel

section Reference

open Cert.IntraFwdFRefIdeal Cert.IntraFwdFRefIdeal.Gen Cert.IntraFwdFRefIdeal.Read

variable (x0 x1 : (⟨S1x16384x8x128, .f32⟩ : BufTy).Contents (Elt Ideal)) (x2 : (⟨S1x16384x8x64, .f32⟩ : BufTy).Contents (Elt Ideal))

theorem mask (n : Fin 1024) (h : Fin 8) (t s : Fin 16) : val_main_call1_v1 (F := Ideal) (ix5 0 n h t s) = BitVec.ofBool (sees false t.val s.val) := by
  unfold val_main_call1_v1 val_main_v5 val_main_call0_v4 val_main_v4 val_main_c val_main_call0_v5 val_main_call0_v3 val_main_call0_v2 val_main_call0_c_0 val_main_call0_v1 val_main_call0_c val_main_call0_v0
  pointwise
  revert t s
  decide

theorem sc (n : Fin 1024) (h : Fin 8) (t s : Fin 16) : val_main_v6 (F := Ideal) x0 x1 (ix5 0 n h t s) =
    if sees false t.val s.val then ∑ d : Fin 128, x0 (ix4 0 ⟨n.val * 16 + t.val, by omega⟩ h d) * x1 (ix4 0 ⟨n.val * 16 + s.val, by omega⟩ h d) else 0 := by
  unfold val_main_v6 val_main_v3 val_main_v1 val_main_v0 val_main_call1_v2 val_main_call1_v0 val_main_cst
  simp only [id]
  pointwise
  rw [mask, select_sees]

theorem ref_seen : val_main_v10 x0 x1 x2 = packedOf (seen false x0 x1 x2) (by decide : 0 < 64) := by
  refine ext_cols (T := 16384) (D := 64) fun t h i => ?_
  rw [packedOf_col]
  unfold val_main_v10 val_main_v9 val_main_v8 val_main_v7 val_main_v2 seen
  pointwise
  simp only [sc, own, head_of_col, place_of_col, mul_comm (x2 _), ite_mul, zero_mul]

end Reference

theorem frame_k : Cert.quiescent_IntraFwdF := fun m ρ _ => Cert.IntraFwdF.Gen.frame m ρ
theorem frame_i : Cert.quiescent_IntraFwdFIdeal := fun m ρ _ => Cert.IntraFwdFIdeal.Gen.frame m ρ
theorem frame_r : Cert.quiescent_IntraFwdFRefIdeal := fun m ρ _ =>
  θ_run_mono (Cert.IntraFwdFRefIdeal.Value.run (F := Ideal) m ρ) fun r h => ⟨fun c => (h c).2, sem_eq_zero_of_no_sems (by decide) r.2⟩

theorem algebraic : Cert.algebraic_IntraFwdFIdeal_IntraFwdFRefIdeal := by
  intro m s m' s' _ hagree
  refine ⟨fun c => packedOf (seen false (arg m c Cert.IntraFwdFIdeal.main_arg0) (arg m c Cert.IntraFwdFIdeal.main_arg1) (arg m c Cert.IntraFwdFIdeal.main_arg2)) (by decide : 0 < 64), ?_, ?_⟩
  · exact θ_run_mono (Cert.IntraFwdFIdeal.Value.run_blocks m s) fun r h c => ⟨(h c).1.trans (arr3 m c), (h c).2⟩
  · refine θ_run_mono (Cert.IntraFwdFRefIdeal.Value.run (F := Ideal) m' s') fun r h c => ?_
    obtain ⟨a0, a1, a2⟩ := hagree c
    refine ⟨(h c).1.trans ((Cert.IntraFwdFRefIdeal.Read.val_main_v10_eq _ _ _).trans ?_), (h c).2⟩
    rw [a0, a1, a2]
    exact ref_seen _ _ _

end Cert.Intra.UpF
-- ==== Proof.IntraUpB.lean ====
module

public import proofs.«01_k».proof.Defs
public import proofs.«01_k».proof.Proof.IntraUp
public import proofs.«01_k».proof.Proof.Gen.IntraFwdB.Frame
public import proofs.«01_k».proof.Proof.Gen.IntraFwdBIdeal.Value
public import proofs.«01_k».proof.Proof.Gen.IntraFwdBRefIdeal.Run
public import proofs.«01_k».proof.Proof.Gen.IntraFwdBRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # Within one chunk, forward call (tokens reversed) -/

noncomputable section

namespace Cert.Intra.UpB

open Idealize.ShloMosaic Idealize.ShloMosaic.TcCoe Idealize.SL.Sem Cert.Heads

section Kernel

open Cert.IntraFwdBIdeal Cert.IntraFwdBIdeal.Gen

variable (m : (ℓ : Loc nD τ sig) → Buf (Elt Ideal) ℓ) (c : Dev nD)

abbrev arg (r : Ref sig .tc) := m ((c : Thread nD τ).loc r)

theorem idx : ∀ t : Fin grid0.N, win0_0.index t = ![0, t.val, 0] ∧ win0_1.index t = ![0, t.val, 0] ∧ win0_2.index t = ![0, t.val, 0] ∧ win0_3.index t = ![0, t.val, 0] := by decide +kernel

section Blocks

variable (t : Fin cfg0.N) (r : Fin 256) (h : Fin 8)

theorem in0 (i : Fin 128) (u : Fin 16384) (hu : u.val = t.val * 256 + r.val) : iblk m c 0 t (ix3 0 r (col h i)) = arg m c main_arg0 (ix4 0 u h i) := by
  blk_simp [iblk]; entry_read; pointwise; blk_ext [iblk, (idx t).1]
theorem in1 (i : Fin 128) (u : Fin 16384) (hu : u.val = t.val * 256 + r.val) : iblk m c 1 t (ix3 0 r (col h i)) = arg m c main_arg1 (ix4 0 u h i) := by
  blk_simp [iblk]; entry_read; pointwise; blk_ext [iblk, (idx t).2.1]
theorem in2 (i : Fin 64) (u : Fin 16384) (hu : u.val = t.val * 256 + r.val) : iblk m c 2 t (ix3 0 r (col h i)) = arg m c main_arg2 (ix4 0 u h i) := by
  blk_simp [iblk]; entry_read; pointwise; blk_ext [iblk, (idx t).2.2.1]

end Blocks

theorem arr3 : (dats m 0 c).arrAt 3 cfg0.N = packedOf (seen true (arg m c main_arg0) (arg m c main_arg1) (arg m c main_arg2)) (by decide : 0 < 64) := by
  refine (dats m 0 c).arrAt_eq_of_covers 3 _ (by decide +kernel) fun t hf y => ?_
  blk_simp
  rw [after0_3, outB3]
  obtain ⟨a, r, d, rfl⟩ : ∃ (a : Fin 1) (r : Fin 256) (d : Fin (8 * 64)), y = ix3 a r d := ⟨y 0, y 1, y 2, eq_ix3 y⟩
  obtain ⟨h, i, rfl⟩ := exists_col d
  obtain rfl : a = 0 := Subsingleton.elim _ _
  have hN : t.val < 64 := t.isLt
  refine (outO_eq true _ _ _ _ (Cert.Intra.B.sees_mask _ _ _ _) t.val _ _ _ (in0 m c t) (in1 m c t) (in2 m c t) r h i ⟨t.val * 256 + r.val, by omega⟩ rfl).trans ?_
  rw [← packedOf_col (seen true _ _ _) (by decide : 0 < 64)]
  blk_ext [(idx t).2.2.2]

end Kernel

section Reference

open Cert.IntraFwdBRefIdeal Cert.IntraFwdBRefIdeal.Gen Cert.IntraFwdBRefIdeal.Read

variable (x0 x1 : (⟨S1x16384x8x128, .f32⟩ : BufTy).Contents (Elt Ideal)) (x2 : (⟨S1x16384x8x64, .f32⟩ : BufTy).Contents (Elt Ideal))

theorem mask (n : Fin 1024) (h : Fin 8) (t s : Fin 16) : val_main_call4_v1 (F := Ideal) (ix5 0 n h t s) = BitVec.ofBool (sees false t.val s.val) := by
  unfold val_main_call4_v1 val_main_v8 val_main_call3_v4 val_main_v7 val_main_c val_main_call3_v5 val_main_call3_v3 val_main_call3_v2 val_main_call3_c_0 val_main_call3_v1 val_main_call3_c val_main_call3_v0
  pointwise
  revert t s
  decide

theorem sc (n : Fin 1024) (h : Fin 8) (t s : Fin 16) : val_main_v9 (F := Ideal) x0 x1 (ix5 0 n h t s) =
    if sees false t.val s.val then ∑ d : Fin 128, val_main_v0 (F := Ideal) x0 (ix4 0 ⟨n.val * 16 + t.val, by omega⟩ h d) * val_main_v1 (F := Ideal) x1 (ix4 0 ⟨n.val * 16 + s.val, by omega⟩ h d) else 0 := by
  unfold val_main_v9 val_main_v6 val_main_v4 val_main_v3 val_main_call4_v2 val_main_call4_v0 val_main_cst
  simp only [id]
  pointwise
  rw [mask, select_sees]

theorem ref12 (t : Fin 16384) (h : Fin 8) (i : Fin 64) : val_main_v12 x0 x1 x2 (ix4 0 t h i) = seen false (val_main_v0 (F := Ideal) x0) (val_main_v1 (F := Ideal) x1) (val_main_v2 (F := Ideal) x2) t h i := by
  unfold val_main_v12 val_main_v11 val_main_v10 val_main_v5 seen
  pointwise
  simp only [sc, own, mul_comm (val_main_v2 x2 _), ite_mul, zero_mul]

theorem ref_seen : val_main_v14 x0 x1 x2 = packedOf (seen true x0 x1 x2) (by decide : 0 < 64) := by
  refine ext_cols (T := 16384) (D := 64) fun t h i => ?_
  rw [packedOf_col, ← seen_rev (Q := val_main_v0 (F := Ideal) x0) (K := val_main_v1 (F := Ideal) x1) (V := val_main_v2 (F := Ideal) x2) (Cert.Intra.B.turned x0) (Cert.Intra.B.turned x1) (Cert.Intra.B.turned x2), ← ref12]
  unfold val_main_v14 val_main_v13
  pointwise
  simp only [head_of_col, place_of_col]
  rfl

end Reference

theorem frame_k : Cert.quiescent_IntraFwdB := fun m ρ _ => Cert.IntraFwdB.Gen.frame m ρ
theorem frame_i : Cert.quiescent_IntraFwdBIdeal := fun m ρ _ => Cert.IntraFwdBIdeal.Gen.frame m ρ
theorem frame_r : Cert.quiescent_IntraFwdBRefIdeal := fun m ρ _ =>
  θ_run_mono (Cert.IntraFwdBRefIdeal.Value.run (F := Ideal) m ρ) fun r h => ⟨fun c => (h c).2, sem_eq_zero_of_no_sems (by decide) r.2⟩

theorem algebraic : Cert.algebraic_IntraFwdBIdeal_IntraFwdBRefIdeal := by
  intro m s m' s' _ hagree
  refine ⟨fun c => packedOf (seen true (arg m c Cert.IntraFwdBIdeal.main_arg0) (arg m c Cert.IntraFwdBIdeal.main_arg1) (arg m c Cert.IntraFwdBIdeal.main_arg2)) (by decide : 0 < 64), ?_, ?_⟩
  · exact θ_run_mono (Cert.IntraFwdBIdeal.Value.run_blocks m s) fun r h c => ⟨(h c).1.trans (arr3 m c), (h c).2⟩
  · refine θ_run_mono (Cert.IntraFwdBRefIdeal.Value.run (F := Ideal) m' s') fun r h c => ?_
    obtain ⟨a0, a1, a2⟩ := hagree c
    refine ⟨(h c).1.trans ((Cert.IntraFwdBRefIdeal.Read.val_main_v14_eq _ _ _).trans ?_), (h c).2⟩
    rw [a0, a1, a2]
    exact ref_seen _ _ _

end Cert.Intra.UpB
-- ==== Proof.GluUp.lean ====
module

public import proofs.«01_k».proof.Defs
public import proofs.«01_k».proof.Proof.Glu
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The gated unit's forward call up -/

noncomputable section

namespace Cert.Glu.Up

open Idealize.ShloMosaic Idealize.ShloMosaic.TcCoe Idealize.SL.Sem

/-- The gated values of the two factors. -/
def gated {m n : ℕ} (a b : Mat m n) : Mat m n := fun i => a i * logis (a i) * b i

section Kernel

open Cert.FfnUpIdeal Cert.FfnUpIdeal.Gen

variable (m : (ℓ : Loc nD τ sig) → Buf (Elt Ideal) ℓ) (c : Dev nD) (t : Fin cfg0.N)

abbrev arg (r : Ref sig .tc) := m ((c : Thread nD τ).loc r)

theorem idx : ∀ t : Fin grid0.N, win0_0.index t = ![t.val % 32, 0] ∧ win0_1.index t = ![0, t.val / 32] ∧ win0_2.index t = ![0, t.val / 32]
    ∧ win0_3.index t = ![t.val % 32, t.val / 32] ∧ win0_4.index t = ![t.val % 32, t.val / 32] ∧ win0_5.index t = ![t.val % 32, t.val / 32] := by decide +kernel

theorem rows0 (r : Fin 512) (k : Fin 1024) (u : Fin 16384) (hu : u.val = t.val % 32 * 512 + r.val) : iblk m c 0 t (ix2 r k) = arg m c main_arg0 (ix3 0 u k) := by
  blk_simp [iblk]; entry_read; pointwise; blk_ext [iblk, (idx t).1]

theorem cols1 (k : Fin 1024) (l : Fin 1408) (v : Fin 2816) (hv : v.val = t.val / 32 * 1408 + l.val) : iblk m c 1 t (ix2 k l) = arg m c main_arg1 (ix2 k v) := by
  blk_simp [iblk]; entry_read; pointwise; blk_ext [iblk, (idx t).2.1]

theorem cols2 (k : Fin 1024) (l : Fin 1408) (v : Fin 2816) (hv : v.val = t.val / 32 * 1408 + l.val) : iblk m c 2 t (ix2 k l) = arg m c main_arg2 (ix2 k v) := by
  blk_simp [iblk]; entry_read; pointwise; blk_ext [iblk, (idx t).2.2.1]

theorem stored (p : Vec Ideal S512x1408 .bf16) : View.canon [⟨r0_2, p⟩] = p := View.canon_cons_unit_lit' _ _ _ (by decide)
theorem loaded (x : Vec Ideal S512x1024 .bf16) : View.ld x r0_0 = x := View.ld_unit_lit' _ _ (by decide)
theorem loaded_up (x : Vec Ideal S1024x1408 .bf16) : View.ld x r0_1 = x := View.ld_unit_lit' _ _ (by decide)

abbrev A : Mat 16384 2816 := prod (flat (arg m c main_arg0)) (arg m c main_arg1)
abbrev B : Mat 16384 2816 := prod (flat (arg m c main_arg0)) (arg m c main_arg2)

section Blocks

variable (r : Fin 512) (l : Fin 1408) (u : Fin 16384) (hu : u.val = t.val % 32 * 512 + r.val) (v : Fin 2816) (hv : v.val = t.val / 32 * 1408 + l.val)
include hu hv

theorem factorA : k0_pay2 (iblk m c 0 t) (iblk m c 1 t) (ix2 r l) = A m c (ix2 u v) := by
  unfold k0_pay2 k0_pay1 A prod flat
  pointwise
  exact Finset.sum_congr rfl fun k _ => congrArg₂ (· * ·) (rows0 m c t r k u hu) (cols1 m c t k l v hv)

theorem factorB : k0_pay3 (iblk m c 0 t) (iblk m c 2 t) (ix2 r l) = B m c (ix2 u v) := by
  unfold k0_pay3 k0_pay1 B prod flat
  pointwise
  exact Finset.sum_congr rfl fun k _ => congrArg₂ (· * ·) (rows0 m c t r k u hu) (cols2 m c t k l v hv)

end Blocks

theorem arr3 : (dats m 0 c).arrAt 3 cfg0.N = gated (A m c) (B m c) := by
  refine (dats m 0 c).arrAt_eq_of_covers 3 _ (by decide +kernel) fun t hf y => ?_
  blk_simp
  rw [after0_3]
  obtain ⟨r, l, rfl⟩ : ∃ (r : Fin 512) (l : Fin 1408), y = ix2 r l := ⟨y 0, y 1, eq_ix2 y⟩
  have hN : t.val < 64 := t.isLt
  trans gated (A m c) (B m c) (ix2 ⟨t.val % 32 * 512 + r.val, by omega⟩ ⟨t.val / 32 * 1408 + l.val, by omega⟩)
  · unfold out0_3
    rw [stored]; simp only [loaded, loaded_up]
    unfold k0_pay6 gated logis
    pointwise
    rw [factorA m c t r l ⟨t.val % 32 * 512 + r.val, by omega⟩ rfl ⟨t.val / 32 * 1408 + l.val, by omega⟩ rfl, factorB m c t r l ⟨t.val % 32 * 512 + r.val, by omega⟩ rfl ⟨t.val / 32 * 1408 + l.val, by omega⟩ rfl, zero_sub]
  · blk_ext [(idx t).2.2.2.1]

theorem arr4 : (dats m 0 c).arrAt 4 cfg0.N = A m c := by
  refine (dats m 0 c).arrAt_eq_of_covers 4 _ (by decide +kernel) fun t hf y => ?_
  blk_simp
  rw [after0_4]
  obtain ⟨r, l, rfl⟩ : ∃ (r : Fin 512) (l : Fin 1408), y = ix2 r l := ⟨y 0, y 1, eq_ix2 y⟩
  have hN : t.val < 64 := t.isLt
  trans A m c (ix2 ⟨t.val % 32 * 512 + r.val, by omega⟩ ⟨t.val / 32 * 1408 + l.val, by omega⟩)
  · unfold out0_4
    rw [stored]; simp only [loaded, loaded_up]
    unfold k0_pay4
    pointwise
    exact factorA m c t r l _ rfl _ rfl
  · blk_ext [(idx t).2.2.2.2.1]

theorem arr5 : (dats m 0 c).arrAt 5 cfg0.N = B m c := by
  refine (dats m 0 c).arrAt_eq_of_covers 5 _ (by decide +kernel) fun t hf y => ?_
  blk_simp
  rw [after0_5]
  obtain ⟨r, l, rfl⟩ : ∃ (r : Fin 512) (l : Fin 1408), y = ix2 r l := ⟨y 0, y 1, eq_ix2 y⟩
  have hN : t.val < 64 := t.isLt
  trans B m c (ix2 ⟨t.val % 32 * 512 + r.val, by omega⟩ ⟨t.val / 32 * 1408 + l.val, by omega⟩)
  · unfold out0_5
    rw [stored]; simp only [loaded, loaded_up]
    unfold k0_pay5
    pointwise
    exact factorB m c t r l _ rfl _ rfl
  · blk_ext [(idx t).2.2.2.2.2]

end Kernel

section Reference

open Cert.FfnUpRefIdeal Cert.FfnUpRefIdeal.Gen Cert.FfnUpRefIdeal.Read

variable (h : Row 16384 1024) (w1 w3 : Mat 1024 2816)

theorem ref_a (u : Fin 16384) (v : Fin 2816) : val_main_v0 (F := Ideal) h w1 (ix3 0 u v) = prod (flat h) w1 (ix2 u v) := by
  unfold val_main_v0 prod flat
  pointwise
theorem ref_b (u : Fin 16384) (v : Fin 2816) : val_main_v1 (F := Ideal) h w3 (ix3 0 u v) = prod (flat h) w3 (ix2 u v) := by
  unfold val_main_v1 prod flat
  pointwise

theorem ref_outA : val_main_v7 (F := Ideal) h w1 = prod (flat h) w1 := by
  funext i
  obtain ⟨u, v, rfl⟩ : ∃ (u : Fin 16384) (v : Fin 2816), i = ix2 u v := ⟨i 0, i 1, eq_ix2 i⟩
  refine Eq.trans ?_ (ref_a h w1 u v)
  unfold val_main_v7 val_main_v6
  pointwise

theorem ref_outB : val_main_v9 (F := Ideal) h w3 = prod (flat h) w3 := by
  funext i
  obtain ⟨u, v, rfl⟩ : ∃ (u : Fin 16384) (v : Fin 2816), i = ix2 u v := ⟨i 0, i 1, eq_ix2 i⟩
  refine Eq.trans ?_ (ref_b h w3 u v)
  unfold val_main_v9 val_main_v8
  pointwise

theorem ref_gated : val_main_v5 (F := Ideal) h w1 w3 = gated (prod (flat h) w1) (prod (flat h) w3) := by
  funext i
  obtain ⟨u, v, rfl⟩ : ∃ (u : Fin 16384) (v : Fin 2816), i = ix2 u v := ⟨i 0, i 1, eq_ix2 i⟩
  unfold val_main_v5 val_main_v4 val_main_v3 val_main_v2 val_main_call0_v5 val_main_call0_v4 val_main_call0_v3 val_main_call0_v2 val_main_call0_v1 val_main_call0_v0 val_main_call0_cst val_main_call0_cst_0 gated logis
  pointwise
  rw [ref_a, ref_b]

end Reference

theorem frame_k : Cert.quiescent_FfnUp := fun m ρ _ => Cert.FfnUp.Gen.frame m ρ
theorem frame_i : Cert.quiescent_FfnUpIdeal := fun m ρ _ => Cert.FfnUpIdeal.Gen.frame m ρ
theorem frame_r : Cert.quiescent_FfnUpRefIdeal := fun m ρ _ =>
  θ_run_mono (Cert.FfnUpRefIdeal.Value.run (F := Ideal) m ρ) fun r h => ⟨fun c => (h c).2.2.2, sem_eq_zero_of_no_sems (by decide) r.2⟩

theorem algebraic : Cert.algebraic_FfnUpIdeal_FfnUpRefIdeal := by
  intro m s m' s' _ hagree
  refine ⟨fun c => gated (A m c) (B m c), fun c => A m c, fun c => B m c, ?_, ?_⟩
  · exact θ_run_mono (Cert.FfnUpIdeal.Value.run_blocks m s) fun r h c => ⟨(h c).1.trans (arr3 m c), (h c).2.1.trans (arr4 m c), (h c).2.2.1.trans (arr5 m c), (h c).2.2.2⟩
  · refine θ_run_mono (Cert.FfnUpRefIdeal.Value.run (F := Ideal) m' s') fun r h c => ?_
    obtain ⟨a0, a1, a2, a3⟩ := hagree c
    refine ⟨(h c).1.trans ((Cert.FfnUpRefIdeal.Read.val_main_v5_eq _ _ _).trans ?_), (h c).2.1.trans ((Cert.FfnUpRefIdeal.Read.val_main_v7_eq _ _).trans ?_),
      (h c).2.2.1.trans ((Cert.FfnUpRefIdeal.Read.val_main_v9_eq _ _).trans ?_), (h c).2.2.2⟩
    · rw [a0, a1, a2]; exact ref_gated _ _ _
    · rw [a0, a1]; exact ref_outA _ _
    · rw [a0, a2]; exact ref_outB _ _

end Cert.Glu.Up
-- ==== Proof.ErrorUp.lean ====
module

public import proofs.«01_k».proof.Defs
public import proofs.«01_k».proof.Proof.Reals
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The loss's forward call -/

noncomputable section

namespace Cert.SquaredError

open Idealize.ShloMosaic Idealize.ShloMosaic.TcCoe Idealize.SL.Sem Cert.Reals

theorem scaled_sum {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih => rw [Finset.sum_insert ha, Finset.sum_insert ha, EReal.right_distrib_of_nonneg_of_ne_top (by exact_mod_cast hc) (EReal.coe_ne_top c), ih]

theorem in_blocks {M : Type} [AddCommMonoid M] (K n : ℕ) (f : ℕ → M) : ∑ b ∈ Finset.range n, ∑ i : Fin K, f (b * K + i.val) = ∑ j ∈ Finset.range (n * K), f j := by
  induction n with
  | zero => simp
  | succ n ih => rw [Finset.sum_range_succ, ih, Nat.add_mul, Nat.one_mul, Finset.sum_range_add, Finset.sum_range (fun x => f (n * K + x))]

abbrev Rows : Type := (⟨3, ![1, 16384, 1024]⟩ : Shape).Idx → EReal

/-- One row's squared error. -/
def row (y z : Rows) (u : ℕ) : EReal := if h : u < 16384 then ∑ k : Fin 1024, (y (ix3 0 ⟨u, h⟩ k) - z (ix3 0 ⟨u, h⟩ k)) * (y (ix3 0 ⟨u, h⟩ k) - z (ix3 0 ⟨u, h⟩ k)) else 0

/-- Half the sum of the rows' mean squared errors, at every place of the tile. -/
def total (y z : Rows) : (⟨2, ![8, 128]⟩ : Shape).Idx → EReal := fun _ => ∑ u ∈ Finset.range 16384, row y z u * ((1 / 2048 : ℝ) : EReal)

theorem bits_scale : Ideal.ofBits .f32 0x3A000000#32 = ((1 / 2048 : ℝ) : EReal) := by
  simp [Ideal.ofBits, Ideal.ieee]
  norm_num
  exact (EReal.coe_mul _ _).symm.trans (congrArg _ (by norm_num))
theorem bits_1024 : Ideal.ofBits .f32 0x44800000#32 = ((1024 : ℝ) : EReal) := by
  simp [Ideal.ofBits, Ideal.ieee]
  norm_num
  exact (EReal.coe_mul _ _).symm.trans (congrArg _ (by norm_num))
theorem bits_half : Ideal.ofBits .f32 0x3F000000#32 = ((1 / 2 : ℝ) : EReal) := by
  simp [Ideal.ofBits, Ideal.ieee]
  exact (EReal.coe_mul _ _).symm.trans (congrArg _ (by norm_num))

section Kernel

open Cert.LossIdeal Cert.LossIdeal.Gen

variable (m : (ℓ : Loc nD τ sig) → Buf (Elt Ideal) ℓ) (c : Dev nD) (t : Fin cfg0.N)

abbrev arg (r : Ref sig .tc) := m ((c : Thread nD τ).loc r)

theorem idx : ∀ t : Fin grid0.N, win0_0.index t = ![t.val, 0] ∧ win0_1.index t = ![t.val, 0] ∧ win0_2.index t = ![0, 0] := by decide +kernel

theorem in0 (r : Fin 512) (k : Fin 1024) (u : Fin 16384) (hu : u.val = t.val * 512 + r.val) : iblk m c 0 t (ix2 r k) = arg m c main_arg0 (ix3 0 u k) := by
  blk_simp [iblk]; entry_read; pointwise; blk_ext [iblk, (idx t).1]
theorem in1 (r : Fin 512) (k : Fin 1024) (u : Fin 16384) (hu : u.val = t.val * 512 + r.val) : iblk m c 1 t (ix2 r k) = arg m c main_arg1 (ix3 0 u k) := by
  blk_simp [iblk]; entry_read; pointwise; blk_ext [iblk, (idx t).2.1]

/-- What one grid point adds. -/
def added (b : ℕ) : EReal := ∑ r : Fin 512, row (arg m c main_arg0) (arg m c main_arg1) (b * 512 + r.val) * ((1 / 2048 : ℝ) : EReal)

theorem acc_block (a : Vec Ideal S8x128 .f32) (i : Fin 8) (j : Fin 128) : k0_pay2 (iblk m c 0 t) (iblk m c 1 t) a (ix2 i j) = a (ix2 i j) + added m c t.val := by
  have hN : t.val < 32 := t.isLt
  unfold k0_pay2 added
  pointwise
  rw [bits_scale, scaled_sum _ _ _ (by norm_num)]
  refine congrArg _ (Finset.sum_congr rfl fun r _ => congrArg (· * _) ?_)
  rw [row, dif_pos (by omega)]
  simp only [in0 m c t r _ ⟨t.val * 512 + r.val, by omega⟩ rfl, in1 m c t r _ ⟨t.val * 512 + r.val, by omega⟩ rfl]

theorem start (h0 : t.val % 32 = 0) : outsAt0 m c t.val t.isLt = k0_pay2 (iblk m c 0 t) (iblk m c 1 t) (k0_pay1 (F := Ideal)) := by
  rw [outsAt0_A m c t h0]
  frame_out

theorem next (h0 : ¬t.val % 32 = 0) : outsAt0 m c t.val t.isLt = k0_pay2 (iblk m c 0 t) (iblk m c 1 t) (outsAt0 m c (t.val - 1) (Nat.lt_of_le_of_lt (Nat.sub_le _ _) t.isLt)) := by
  rw [outsAt0_B m c t h0]
  frame_out

theorem sum_at (i : Fin 8) (j : Fin 128) : ∀ (k : ℕ) (hk : k < cfg0.N), outsAt0 m c k hk (ix2 i j) = ∑ b ∈ Finset.range (k + 1), added m c b := by
  intro k
  induction k with
  | zero =>
    intro hk
    rw [start m c ⟨0, hk⟩ rfl]
    refine (acc_block m c ⟨0, hk⟩ _ i j).trans ?_
    unfold k0_pay1
    pointwise
    rw [Finset.sum_range_one]
  | succ k ih =>
    intro hk
    have hN : k + 1 < 32 := hk
    rw [next m c ⟨k + 1, hk⟩ (by rw [Nat.mod_eq_of_lt hN]; omega), Finset.sum_range_succ _ (k + 1)]
    exact (acc_block m c ⟨k + 1, hk⟩ _ i j).trans (congrArg (· + _) (ih _))

theorem arr2 : (dats m 0 c).arrAt 2 cfg0.N = total (arg m c main_arg0) (arg m c main_arg1) := by
  refine (dats m 0 c).arrAt_eq_of_covers 2 _ (by decide +kernel) fun t hf y => ?_
  have h1 := (flush0_2 t).1 hf
  blk_simp
  rw [after0_2]
  obtain ⟨i, j, rfl⟩ : ∃ (i : Fin 8) (j : Fin 128), y = ix2 i j := ⟨y 0, y 1, eq_ix2 y⟩
  have hN : t.val < 32 := t.isLt
  obtain ht : t.val = 31 := by omega
  trans total (arg m c main_arg0) (arg m c main_arg1) (ix2 i j)
  · refine (sum_at m c i j t.val t.isLt).trans ?_
    rw [ht]
    exact in_blocks 512 32 fun u => row (arg m c main_arg0) (arg m c main_arg1) u * ((1 / 2048 : ℝ) : EReal)
  · rfl

end Kernel

section Reference

open Cert.LossRefIdeal Cert.LossRefIdeal.Gen Cert.LossRefIdeal.Read

theorem ref_row (y z : Rows) (u : Fin 16384) : val_main_v4 (F := Ideal) y z (ix2 0 u) = row y z u.val * ((1 / 1024 : ℝ) : EReal) := by
  unfold val_main_v4 val_main_v3 val_main_v2 val_main_v1 val_main_v0 val_main_cst val_main_cst_0
  pointwise
  rw [bits_1024, Ideal.div_coe (by norm_num), row, dif_pos u.isLt]

theorem ref_sum (y z : Rows) : val_main_v5 (F := Ideal) y z ix0 = ∑ u : Fin 16384, row y z u.val * ((1 / 1024 : ℝ) : EReal) := by
  have e := ref_row y z
  unfold val_main_v5 val_main_cst_1
  revert e
  generalize val_main_v4 (F := Ideal) y z = V
  intro e
  pointwise
  refine (Fin.sum_univ_one _).trans (Finset.sum_congr rfl fun u _ => e u)

theorem ref_total (y z : Rows) : val_main_v7 (F := Ideal) y z = total y z := by
  funext i
  have h := ref_sum y z
  revert h
  unfold val_main_v7 val_main_v6 val_main_cst_2
  generalize val_main_v5 (F := Ideal) y z = V
  intro h
  obtain ⟨a, b, rfl⟩ : ∃ (a : Fin 8) (b : Fin 128), i = ix2 a b := ⟨i 0, i 1, eq_ix2 i⟩
  pointwise
  rw [h, bits_half, mul_comm, scaled_sum _ _ _ (by norm_num)]
  unfold total
  rw [Finset.sum_range]
  refine Finset.sum_congr rfl fun u _ => ?_
  rw [mul_assoc, ← EReal.coe_mul]
  norm_num

end Reference

theorem frame_k : Cert.quiescent_Loss := fun m ρ _ => Cert.Loss.Gen.frame m ρ
theorem frame_i : Cert.quiescent_LossIdeal := fun m ρ _ => Cert.LossIdeal.Gen.frame m ρ
theorem frame_r : Cert.quiescent_LossRefIdeal := fun m ρ _ =>
  θ_run_mono (Cert.LossRefIdeal.Value.run (F := Ideal) m ρ) fun r h => ⟨fun c => (h c).2, sem_eq_zero_of_no_sems (by decide) r.2⟩

theorem algebraic : Cert.algebraic_LossIdeal_LossRefIdeal := by
  intro m s m' s' _ hagree
  refine ⟨fun c => total (arg m c Cert.LossIdeal.main_arg0) (arg m c Cert.LossIdeal.main_arg1), ?_, ?_⟩
  · exact θ_run_mono (Cert.LossIdeal.Value.run_blocks m s) fun r h c => ⟨(h c).1.trans (arr2 m c), (h c).2⟩
  · refine θ_run_mono (Cert.LossRefIdeal.Value.run (F := Ideal) m' s') fun r h c => ?_
    obtain ⟨a0, a1⟩ := hagree c
    refine ⟨(h c).1.trans ((Cert.LossRefIdeal.Read.val_main_v7_eq _ _).trans ?_), (h c).2⟩
    rw [a0, a1]
    exact ref_total _ _

end Cert.SquaredError
-- ==== Proof.GatedUp.lean ====
module

public import proofs.«01_k».proof.Defs
public import proofs.«01_k».proof.Proof.GatedNorm
public import proofs.«01_k».proof.Proof.Gen.GatedNormFwd.Frame
public import proofs.«01_k».proof.Proof.Gen.GatedNormFwdIdeal.Value
public import proofs.«01_k».proof.Proof.Gen.GatedNormFwdRefIdeal.Run
public import proofs.«01_k».proof.Proof.Gen.GatedNormFwdRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The gated norm's forward call -/

noncomputable section

namespace Cert.RowNorm.GatedUp

open Idealize.ShloMosaic Idealize.ShloMosaic.TcCoe Idealize.SL.Sem Cert.Reals Cert.RowNorm.Gated

variable (x : Heads.Idx → ℝ) (a : (Rows 512).Idx → ℝ) (g : (⟨1, ![64]⟩ : Shape).Idx → ℝ)

def entry (u : Fin 16384) (h : Fin 8) (k : Fin 64) : ℝ := x (ix4 0 u h k) * sc x u h * g (ix1 k) * (a (ix3 0 u (lane h k)) * sg (a (ix3 0 u (lane h k))))

def passed : Vec Ideal ⟨2, ![16384, 512]⟩ .f32 := fun i => (entry x a g (i 0) (hd (i 1)) (ln (i 1)) : EReal)

theorem passed_at (u : Fin 16384) (h : Fin 8) (k : Fin 64) : passed x a g (ix2 u (lane h k)) = (entry x a g u h k : EReal) := by
  change (entry x a g u (hd (lane h k)) (ln (lane h k)) : EReal) = _
  rw [hd_lane, ln_lane]

section Kernel

open Cert.GatedNormFwdIdeal Cert.GatedNormFwdIdeal.Gen

theorem stored (p : Vec Ideal S256x512 .f32) : View.canon [⟨r0_0, p⟩] = p := View.canon_cons_unit_lit' _ _ _ (by decide)
theorem loaded0 (z : Vec Ideal S256x512 .f32) : View.ld z r0_0 = z := View.ld_unit_lit' _ _ (by decide)
theorem loaded1 (z : Vec Ideal S1x512 .f32) : View.ld z r0_1 = z := View.ld_unit_lit' _ _ (by decide)

theorem own_head (i j : Fin 512) : k0_pay5 (ix2 i j) = BitVec.ofNat 32 (hd i).val := Gated.row_head i j

/-- What one grid point stores. -/
abbrev body (p q : Vec Ideal S256x512 .f32) (w : Vec Ideal S1x512 .f32) :=
  k0_pay1 (k0_pay3 q) (k0_pay8 (k0_pay2 p) (k0_pay4 p) (iota .tc S512x512 32 [1] iota_S512x512_d1_w32) k0_pay5 64#32 k0_pay6 k0_pay7 (Scalar.extui (Scalar.cmpi .sgt 64#32 0#32)) (Scalar.cmpi .slt 64#32 0#32) w) (k0_pay9 (k0_pay3 q))

theorem body_real (X A : S256x512.Idx → ℝ) (w : Vec Ideal S1x512 .f32) (G : Fin 64 → ℝ) (hw : ∀ h k, w (ix2 0 (lane h k)) = (G k : EReal)) (r : Fin 256) (h : Fin 8) (k : Fin 64) :
    body (fun i => (X i : EReal)) (fun i => (A i : EReal)) w (ix2 r (lane h k))
      = ((X (ix2 r (lane h k)) * scale eps (fun k => X (ix2 r (lane h k))) * G k * (A (ix2 r (lane h k)) * sg (A (ix2 r (lane h k)))) : ℝ) : EReal) := by
  have hs : k0_pay9 (k0_pay3 (F := Ideal) (fun i => (A i : EReal))) (ix2 r (lane h k)) = (sg (A (ix2 r (lane h k))) : EReal) := by
    unfold k0_pay9 k0_pay3
    pointwise
    rw [zero_sub]
    exact sg_real _
  revert hs
  unfold body
  generalize k0_pay9 (F := Ideal) _ = Q
  intro hs
  unfold k0_pay1 k0_pay8 k0_pay6 k0_pay7 k0_pay4 k0_pay3 k0_pay2
  pointwise
  simp only [own_head, col_head, hd_lane, ← EReal.coe_mul]
  rw [head_mean h (fun l => X (ix2 r l) * X (ix2 r l)), bits_eps, ← EReal.coe_add, hs, hw]
  have e := scale_real eps (fun k => X (ix2 r (lane h k))) eps_pos
  unfold meanSq at e
  rw [e]
  simp only [← EReal.coe_mul]

variable (m : (ℓ : Loc nD τ sig) → Buf (Elt Ideal) ℓ) (c : Dev nD) (t : Fin cfg0.N)

abbrev arg (r : Ref sig .tc) := m ((c : Thread nD τ).loc r)

theorem idx : ∀ t : Fin grid0.N, win0_0.index t = ![t.val, 0] ∧ win0_1.index t = ![t.val, 0] ∧ win0_2.index t = ![0, 0] ∧ win0_3.index t = ![t.val, 0] := by decide +kernel

theorem in0 (r : Fin 256) (h : Fin 8) (k : Fin 64) (u : Fin 16384) (hu : u.val = t.val * 256 + r.val) : iblk m c 0 t (ix2 r (lane h k)) = arg m c main_arg0 (ix4 0 u h k) := by
  blk_simp [iblk]; entry_read; pointwise; blk_ext [iblk, (idx t).1]
  all_goals first | exact congrArg Fin.val (hd_lane h k) | exact congrArg Fin.val (ln_lane h k)

theorem in1 (r : Fin 256) (l : Fin 512) (u : Fin 16384) (hu : u.val = t.val * 256 + r.val) : iblk m c 1 t (ix2 r l) = arg m c main_arg1 (ix3 0 u l) := by
  blk_simp [iblk]; entry_read; pointwise; blk_ext [iblk, (idx t).2.1]

theorem in2 (h : Fin 8) (k : Fin 64) : iblk m c 2 t (ix2 0 (lane h k)) = arg m c main_arg2 (ix1 k) := by
  blk_simp [iblk]; entry_read; pointwise; blk_ext [iblk, (idx t).2.2.1]
  all_goals first | exact congrArg Fin.val (hd_lane h k) | exact congrArg Fin.val (ln_lane h k)

variable (h0 : arg m c main_arg0 = fun i => (x i : EReal)) (h1 : arg m c main_arg1 = fun i => (a i : EReal)) (h2 : arg m c main_arg2 = fun i => (g i : EReal))

include h0 in
theorem block0 : iblk m c 0 t = fun i => (bx t x i : EReal) := by
  funext i
  obtain ⟨r, l, rfl⟩ : ∃ (r : Fin 256) (l : Fin 512), i = ix2 r l := ⟨i 0, i 1, eq_ix2 i⟩
  obtain ⟨h, k, rfl⟩ := lane_surj l
  rw [in0 m c t r h k (row t r) rfl, h0, bx_at]

include h1 in
theorem block1 : iblk m c 1 t = fun i => (bl t a i : EReal) := by
  funext i
  obtain ⟨r, l, rfl⟩ : ∃ (r : Fin 256) (l : Fin 512), i = ix2 r l := ⟨i 0, i 1, eq_ix2 i⟩
  rw [in1 m c t r l (row t r) rfl, h1, bl_at]

include h0 h1 h2 in
theorem arr3 : (dats m 0 c).arrAt 3 cfg0.N = passed x a g := by
  refine (dats m 0 c).arrAt_eq_of_covers 3 _ (by decide +kernel) fun t hf y => ?_
  blk_simp
  rw [after0_3]
  obtain ⟨r, l, rfl⟩ : ∃ (r : Fin 256) (l : Fin 512), y = ix2 r l := ⟨y 0, y 1, eq_ix2 y⟩
  obtain ⟨h, k, rfl⟩ := lane_surj l
  have hN : t.val < 64 := t.isLt
  trans passed x a g (ix2 (row t r) (lane h k))
  · have hw : ∀ h k, iblk m c 2 t (ix2 0 (lane h k)) = (g (ix1 k) : EReal) := fun h k => by rw [in2, h2]
    have e := body_real (bx t x) (bl t a) (iblk m c 2 t) (fun k => g (ix1 k)) hw r h k
    rw [← block0 x m c t h0, ← block1 a m c t h1] at e
    unfold_out out0_3
    rw [stored]
    simp only [loaded0, loaded1]
    rw [passed_at]
    refine e.trans ?_
    simp only [bx_at, bl_at]
    rfl
  · generalize passed x a g = d
    unfold row
    blk_ext [(idx t).2.2.2]

end Kernel

section Reference

open Cert.GatedNormFwdRefIdeal Cert.GatedNormFwdRefIdeal.Gen Cert.GatedNormFwdRefIdeal.Read

theorem ref13 (u : Fin 16384) (h : Fin 8) (k : Fin 64) : val_main_v13 (F := Ideal) (up a) (ix4 0 u h k) = (a (ix3 0 u (lane h k)) : EReal) := by
  unfold val_main_v13
  pointwise
  rfl

theorem ref6 (u : Fin 16384) (h : Fin 8) : val_main_v6 (F := Ideal) (up x) (ix4 0 u h 0) = (meanSq eps (fun k => x (ix4 0 u h k)) : EReal) := by
  unfold val_main_v6 val_main_v5 val_main_v4 val_main_v3 val_main_v2 val_main_v1 val_main_v0 val_main_cst val_main_cst_0 val_main_cst_1
  pointwise
  rw [bits_64, bits_eps]
  exact mean_real eps (fun k => x (ix4 0 u h k)) (by decide)

theorem ref7 (u : Fin 16384) (h : Fin 8) : val_main_v7 (F := Ideal) (up x) (ix4 0 u h 0) = (sc x u h : EReal) := by
  refine Eq.trans ?_ (scale_real eps (fun k => x (ix4 0 u h k)) eps_pos)
  rw [← ref6]
  unfold val_main_v7
  pointwise

theorem refSg (u : Fin 16384) (h : Fin 8) (k : Fin 64) : val_main_call0_v5 (F := Ideal) (up a) (ix4 0 u h k) = (sg (a (ix3 0 u (lane h k))) : EReal) := by
  rw [← sg_real, ← ref13]
  unfold val_main_call0_v5 val_main_call0_v4 val_main_call0_v3 val_main_call0_v2 val_main_call0_v1 val_main_call0_v0 val_main_call0_cst_0 val_main_call0_cst
  pointwise

theorem ref_passed : val_main_v17 (F := Ideal) (up x) (up a) (up g) = passed x a g := by
  funext i
  obtain ⟨u, l, rfl⟩ : ∃ (u : Fin 16384) (l : Fin 512), i = ix2 u l := ⟨i 0, i 1, eq_ix2 i⟩
  obtain ⟨h, k, rfl⟩ := lane_surj l
  rw [passed_at]
  trans val_main_v15 (F := Ideal) (up x) (up a) (up g) (ix4 0 u h k)
  · unfold val_main_v17 val_main_v16
    pointwise
    exact congrArg _ (congrArg₂ (ix4 0 u) (hd_lane h k) (ln_lane h k))
  · unfold val_main_v15 val_main_v14 val_main_v12 val_main_v11 val_main_v10 val_main_v9 val_main_v8
    pointwise
    rw [ref13, ref7, refSg]
    simp only [← EReal.coe_mul]
    rfl

end Reference

section Pre

open Cert.Pre_finite_gated_fwd

theorem entries_real [Cert.Pre_finite_gated_fwd.Facts] (x0 : Heads.Idx → EReal) (x1 : (Rows 512).Idx → EReal) (x2 : (⟨1, ![64]⟩ : Shape).Idx → EReal) (hp : fn (F := Ideal) x0 x1 x2 = fun _ => 1#1) :
    (∃ x : Heads.Idx → ℝ, x0 = fun i => (x i : EReal)) ∧ (∃ a : (Rows 512).Idx → ℝ, x1 = fun i => (a i : EReal)) ∧ ∃ g : (⟨1, ![64]⟩ : Shape).Idx → ℝ, x2 = fun i => (g i : EReal) := by
  have h0 := congrFun hp ix0
  dsimp only [fn] at h0
  have : Subsingleton S_.Idx := ⟨fun a b => funext fun d => d.elim0⟩
  obtain ⟨h1, h2⟩ := IntOp.andi_eq_one.1 h0
  obtain ⟨h3, h4⟩ := IntOp.andi_eq_one.1 h1
  exact ⟨reals_of_all x0 _ (fun _ => bits_top) _ _ _ _ h3, reals_of_all x1 _ (fun _ => bits_top) _ _ _ _ h4, reals_of_all x2 _ (fun _ => bits_top) _ _ _ _ h2⟩

end Pre

theorem frame_k : Cert.quiescent_GatedNormFwd := fun m ρ _ => Cert.GatedNormFwd.Gen.frame m ρ
theorem frame_i : Cert.quiescent_GatedNormFwdIdeal := fun m ρ _ => Cert.GatedNormFwdIdeal.Gen.frame m ρ
theorem frame_ip [Cert.Pre_finite_gated_fwd.Facts] : Cert.quiescent_GatedNormFwdIdeal_pre_finite_gated_fwd := fun m ρ _ => Cert.GatedNormFwdIdeal.Gen.frame m ρ
theorem frame_r : Cert.quiescent_GatedNormFwdRefIdeal := fun m ρ _ =>
  θ_run_mono (Cert.GatedNormFwdRefIdeal.Value.run (F := Ideal) m ρ) fun r h => ⟨fun c => (h c).2, sem_eq_zero_of_no_sems (by decide) r.2⟩
theorem frame_rp [Cert.Pre_finite_gated_fwd.Facts] : Cert.quiescent_GatedNormFwdRefIdeal_pre_finite_gated_fwd := fun m ρ _ => frame_r m ρ trivial

theorem algebraic [Cert.Pre_finite_gated_fwd.Facts] : Cert.algebraic_GatedNormFwdIdeal_GatedNormFwdRefIdeal_pre_finite_gated_fwd := by
  intro m s m' s' hpre hagree
  have hr := fun c => entries_real _ _ _ (hpre c)
  choose x hx using fun c => (hr c).1
  choose a ha using fun c => (hr c).2.1
  choose g hg using fun c => (hr c).2.2
  refine ⟨fun c => passed (x c) (a c) (g c), ?_, ?_⟩
  · exact θ_run_mono (Cert.GatedNormFwdIdeal.Value.run_blocks m s) fun r h c => ⟨(h c).1.trans (arr3 _ _ _ m c (hx c) (ha c) (hg c)), (h c).2⟩
  · refine θ_run_mono (Cert.GatedNormFwdRefIdeal.Value.run (F := Ideal) m' s') fun r h c => ?_
    obtain ⟨a0, a1, a2⟩ := hagree c
    refine ⟨(h c).1.trans ((Cert.GatedNormFwdRefIdeal.Read.val_main_v17_eq _ _ _).trans ?_), (h c).2⟩
    rw [a0, a1, a2]
    erw [hx c, ha c, hg c]
    exact ref_passed _ _ _

end Cert.RowNorm.GatedUp
-- ==== Proof.ScanUp.lean ====
module

public import proofs.«01_k».proof.Defs
public import proofs.«01_k».proof.Proof.ScanPre
public import proofs.«01_k».proof.Proof.ScanWindow
public import proofs.«01_k».proof.Proof.Gen.PrepFwdFIdeal.Value
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The gates' forward call: what its lines make of one block, and the four arrays -/

noncomputable section

namespace Cert.Chunk

open Idealize.ShloMosaic Idealize.ShloMosaic.TcCoe Idealize.SL.Sem Cert.Reals

/-! ## The four arrays -/

section Spec

variable (le : Fin 16 → Fin 16 → Prop) [DecidableRel le] (q z : Flat.Idx → ℝ) (b : Bound.Idx → ℝ) (N l : Fin 1024) (i : Fin 16)

def uQ : ℝ := qs q N l i * Real.exp (cs le (b (ix1 l)) (qs z N l) i)
def uK : ℝ := key (b (ix1 l)) (qs z N l) i * Real.exp (-cs le (b (ix1 l)) (qs z N l) i)
def uE : ℝ := key (b (ix1 l)) (qs z N l) i * Real.exp (tot (b (ix1 l)) (qs z N l) - cs le (b (ix1 l)) (qs z N l) i)
def uD : ℝ := Real.exp (tot (b (ix1 l)) (qs z N l))

/-- An array of every token's lanes, and one of every chunk's. -/
def spread (f : Fin 1024 → Fin 1024 → Fin 16 → ℝ) : Vec Ideal Flat .f32 := fun j => (f (ch (j 1)) (j 2) (pl (j 1)) : EReal)
def atEnds (f : Fin 1024 → Fin 1024 → ℝ) : Vec Ideal ⟨3, ![1, 1024, 1024]⟩ .f32 := fun j => (f (j 1) (j 2) : EReal)

theorem spread_at (f : Fin 1024 → Fin 1024 → Fin 16 → ℝ) : spread f (ix3 0 (tok N i) l) = (f N l i : EReal) := by
  change (f (ch (tok N i)) l (pl (tok N i)) : EReal) = _
  rw [ch_tok, pl_tok]

end Spec

/-! ## One block -/

section Block

open Cert.PrepFwdFIdeal Cert.PrepFwdFIdeal.Gen

variable (le : Fin 16 → Fin 16 → Prop) [DecidableRel le] (M E : FVec Ideal S256x256 .f32) (R : FVec Ideal S16x256 .f32)
  (hM : ∀ n n' i j, M (ix2 (rw n i) (rw n' j)) = if n = n' ∧ le j i then 1 else 0) (hE : ∀ n n' i j, E (ix2 (rw n i) (rw n' j)) = if n = n' ∧ True then 1 else 0)
  (hR : ∀ n n' j, R (ix2 n (rw n' j)) = if n = n' ∧ True then 1 else 0)
  (l : Fin 1024) (β : ℝ) (q z : Fin 16 → Fin 16 → ℝ) (n i : Fin 16) (w : Vec Ideal S1x1x1024 .f32) (vq vz : Vec Ideal S1x256x1024 .f32)
  (hw : w (ix3 0 0 l) = (β : EReal)) (hq : ∀ n i, vq (ix3 0 (rw n i) l) = (q n i : EReal)) (hz : ∀ n i, vz (ix3 0 (rw n i) l) = (z n i : EReal))

include hw hz in
theorem up_logs (n i : Fin 16) : k0_pay16 vz w (ix2 (rw n i) l) = (lf β (z n) i : EReal) := logs_at l β z w vz hw hz n i

include hw hz in
theorem up_keys (n i : Fin 16) : k0_pay17 vz w (ix2 (rw n i) l) = (key β (z n) i : EReal) := p20 vz w (rw n i) l (z n i) β (hz n i) hw

include hM hw hz in
theorem up_sums : k0_pay24 (k0_pay21 vz w) (k0_pay22 M) (k0_pay23 M vz w) (ix2 (rw n i) l) = (cs le β (z n) i : EReal) :=
  p27 le M hM l β z n i w vz (logs_at l β z w vz hw hz)

include hM hw hz hq in
theorem upQ_at : k0_pay25 (k0_pay21 vz w) (k0_pay22 M) (k0_pay23 M vz w) vq (ix3 0 (rw n i) l) = ((q n i * Real.exp (cs le β (z n) i) : ℝ) : EReal) := by
  have e := up_sums le M hM l β z n i w vz hw hz
  unfold k0_pay25
  revert e
  generalize k0_pay24 (F := Ideal) _ _ _ = P
  intro e
  pointwise
  rw [e, hq, Ideal.exp_coe, ← EReal.coe_mul]

include hM hw hz in
theorem upK_at : k0_pay26 (k0_pay17 vz w) (k0_pay21 vz w) (k0_pay22 M) (k0_pay23 M vz w) (ix3 0 (rw n i) l) = ((key β (z n) i * Real.exp (-cs le β (z n) i) : ℝ) : EReal) := by
  have e := up_sums le M hM l β z n i w vz hw hz
  have k := up_keys l β z w vz hw hz n i
  unfold k0_pay26
  revert e k
  generalize k0_pay24 (F := Ideal) _ _ _ = P
  generalize k0_pay17 (F := Ideal) _ _ = K
  intro e k
  pointwise
  rw [e, k, zero_sub, ← EReal.coe_neg, Ideal.exp_coe, ← EReal.coe_mul]

include hM hE hw hz in
theorem upE_at : k0_pay27 E (k0_pay16 vz w) (k0_pay17 vz w) (k0_pay21 vz w) (k0_pay22 M) (k0_pay23 M vz w) (ix3 0 (rw n i) l)
    = ((key β (z n) i * Real.exp (tot β (z n) - cs le β (z n) i) : ℝ) : EReal) := by
  have e := up_sums le M hM l β z n i w vz hw hz
  have k := up_keys l β z w vz hw hz n i
  have g := up_logs l β z w vz hw hz
  unfold k0_pay27
  revert e k g
  generalize k0_pay24 (F := Ideal) _ _ _ = P
  generalize k0_pay17 (F := Ideal) _ _ = K
  generalize k0_pay16 (F := Ideal) _ _ = L
  intro e k g
  pointwise
  have s := chunk_pieces (fun s => E (ix2 (rw n i) s)) n (fun _ => True) (fun n' j => hE n n' i j) (fun s => L (ix2 s l)) (fun n j => lf β (z n) j) g
  simp only [if_true] at s
  refine (congrArg₂ (· * ·) k (congrArg Ideal.exp (congrArg₂ (· - ·) s e))).trans ?_
  rw [← EReal.coe_sub, Ideal.exp_coe, ← EReal.coe_mul]
  rfl

include hR hw hz in
theorem upD_at : k0_pay1 R (k0_pay28 (k0_pay16 vz w)) (k0_pay29 (k0_pay16 vz w)) (k0_pay30 (k0_pay16 vz w)) (k0_pay31 (k0_pay16 vz w)) (ix3 0 n l) = ((Real.exp (tot β (z n)) : ℝ) : EReal) := by
  have g := up_logs l β z w vz hw hz
  revert g
  generalize k0_pay16 (F := Ideal) _ _ = L
  intro g
  unfold k0_pay1 k0_pay31 k0_pay30 k0_pay29 k0_pay28
  pointwise
  have s := chunk_pieces (fun s => R (ix2 n s)) n (fun _ => True) (fun n' j => hR n n' j) (fun s => L (ix2 s l)) (fun n j => lf β (z n) j) g
  simp only [if_true] at s
  exact (congrArg Ideal.exp s).trans (Ideal.exp_coe _)

end Block

/-! ## The host's last two changes of shape, and its arguments -/

theorem join_lanes (X : Split.Idx → EReal) (c : Split.ShapeCasts Flat) (u : Fin 16384) (h : Fin 8) (k : Fin 128) : shapeCast Flat X c (ix3 0 u (lane h k)) = X (ix4 0 u h k) := by
  pointwise
  exact congrArg₂ (fun h k => X (ix4 0 u h k)) (hd_lane h k) (ln_lane h k)

theorem join_chunks (X : Chunks.Idx → EReal) (c : Chunks.ShapeCasts Split) (N : Fin 1024) (i : Fin 16) (h : Fin 8) (k : Fin 128) : shapeCast Split X c (ix4 0 (tok N i) h k) = X (ix5 0 N i h k) := by
  pointwise
  exact congrArg₂ (fun N i => X (ix5 0 N i h k)) (ch_tok N i) (pl_tok N i)

section Pre

open Cert.Pre_finite_gates

theorem gates_real [Cert.Pre_finite_gates.Facts] (x0 x1 : Flat.Idx → EReal) (x2 : Bound.Idx → EReal) (hp : fn (F := Ideal) x0 x1 x2 = fun _ => 1#1) :
    (∃ q : Flat.Idx → ℝ, x0 = up q) ∧ (∃ z : Flat.Idx → ℝ, x1 = up z) ∧ ∃ b : Bound.Idx → ℝ, x2 = up b := by
  have h0 := congrFun hp ix0
  dsimp only [fn] at h0
  have : Subsingleton S_.Idx := ⟨fun a b => funext fun d => d.elim0⟩
  obtain ⟨h1, h2⟩ := IntOp.andi_eq_one.1 h0
  obtain ⟨h3, h4⟩ := IntOp.andi_eq_one.1 h1
  exact ⟨reals_of_all x0 _ (fun _ => bits_top) _ _ _ _ h3, reals_of_all x1 _ (fun _ => bits_top) _ _ _ _ h4, reals_of_all x2 _ (fun _ => bits_top) _ _ _ _ h2⟩

end Pre

end Cert.Chunk
-- ==== Proof.ScanUpF.lean ====
module

public import proofs.«01_k».proof.Proof.ScanUp
public import proofs.«01_k».proof.Proof.ScanFwd
public import proofs.«01_k».proof.Proof.ScanRefF
public import proofs.«01_k».proof.Proof.Gen.PrepFwdF.Frame
public import proofs.«01_k».proof.Proof.Gen.PrepFwdFIdeal.Value
public import proofs.«01_k».proof.Proof.Gen.PrepFwdFRefIdeal.Run
public import proofs.«01_k».proof.Proof.Gen.PrepFwdFRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The forward gates' forward call -/

noncomputable section

namespace Cert.Chunk.UpF

open Idealize.ShloMosaic Idealize.ShloMosaic.TcCoe Idealize.SL.Sem Cert.Reals

section Kernel

open Cert.PrepFwdFIdeal Cert.PrepFwdFIdeal.Gen
open Cert.Chunk.Fwd (le)

variable (m : (ℓ : Loc nD τ sig) → Buf (Elt Ideal) ℓ) (c : Dev nD) (t : Fin cfg0.N)

abbrev arg (r : Ref sig .tc) := m ((c : Thread nD τ).loc r)

theorem stored (p : Vec Ideal S1x256x1024 .f32) : View.canon [⟨r0_0, p⟩] = p := View.canon_cons_unit_lit' _ _ _ (by decide)
theorem stored_ends (p : Vec Ideal S1x16x1024 .f32) : View.canon [⟨r0_2, p⟩] = p := View.canon_cons_unit_lit' _ _ _ (by decide)
theorem loaded (x : Vec Ideal S1x256x1024 .f32) : View.ld x r0_0 = x := View.ld_unit_lit' _ _ (by decide)
theorem loaded_bound (x : Vec Ideal S1x1x1024 .f32) : View.ld x r0_1 = x := View.ld_unit_lit' _ _ (by decide)

theorem idx : ∀ t : Fin grid0.N, win0_0.index t = ![0, t.val, 0] ∧ win0_1.index t = ![0, t.val, 0] ∧ win0_2.index t = ![0, 0, 0] ∧ win0_3.index t = ![0, t.val, 0] ∧ win0_4.index t = ![0, t.val, 0]
    ∧ win0_5.index t = ![0, t.val, 0] ∧ win0_6.index t = ![0, t.val, 0] := by decide +kernel

theorem in0 (r : Fin 256) (l : Fin 1024) (u : Fin 16384) (hu : u.val = t.val * 256 + r.val) : iblk m c 0 t (ix3 0 r l) = arg m c main_arg0 (ix3 0 u l) := by
  blk_simp [iblk]; entry_read; pointwise; blk_ext [iblk, (idx t).1]
theorem in1 (r : Fin 256) (l : Fin 1024) (u : Fin 16384) (hu : u.val = t.val * 256 + r.val) : iblk m c 1 t (ix3 0 r l) = arg m c main_arg1 (ix3 0 u l) := by
  blk_simp [iblk]; entry_read; pointwise; blk_ext [iblk, (idx t).2.1]
theorem in2 (l : Fin 1024) : iblk m c 2 t (ix3 0 0 l) = arg m c main_arg2 (ix1 l) := by
  blk_simp [iblk]; entry_read; pointwise; blk_ext [iblk, (idx t).2.2.1]

def cnk (n : Fin 16) : Fin 1024 := ⟨t.val * 16 + n.val, by have hN : t.val < 64 := t.isLt; omega⟩

theorem row_tok (n i : Fin 16) : (tok (cnk t n) i).val = t.val * 256 + (rw n i).val := by
  simp only [tok, cnk, rw]
  omega

variable (q z : Flat.Idx → ℝ) (b : Bound.Idx → ℝ)
  (h0 : arg m c main_arg0 = fun i => (q i : EReal)) (h1 : arg m c main_arg1 = fun i => (z i : EReal)) (h2 : arg m c main_arg2 = fun i => (b i : EReal)) (l : Fin 1024)

include h0 in
theorem block0 (n i : Fin 16) : iblk m c 0 t (ix3 0 (rw n i) l) = (qs q (cnk t n) l i : EReal) := by rw [in0 m c t _ l _ (row_tok t n i), h0]; rfl
include h1 in
theorem block1 (n i : Fin 16) : iblk m c 1 t (ix3 0 (rw n i) l) = (qs z (cnk t n) l i : EReal) := by rw [in1 m c t _ l _ (row_tok t n i), h1]; rfl
include h2 in
theorem block2 : iblk m c 2 t (ix3 0 0 l) = (b (ix1 l) : EReal) := by rw [in2 m c t l, h2]

include h0 h1 h2 in
theorem arrQ : (dats m 0 c).arrAt 3 cfg0.N = spread (uQ le q z b) := by
  refine (dats m 0 c).arrAt_eq_of_covers 3 _ (by decide +kernel) fun t hf y => ?_
  blk_simp
  rw [after0_3]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans spread (uQ le q z b) (ix3 0 (tok (cnk t n) i) l)
  · unfold_out out0_3
    rw [stored]
    simp only [loaded, loaded_bound]
    rw [spread_at]
    exact upQ_at le Fwd.cum Fwd.cum_at l _ (fun n => qs q (cnk t n) l) (fun n => qs z (cnk t n) l) n i _ _ _ (block2 m c t b h2 l) (block0 m c t q h0 l) (block1 m c t z h1 l)
  · generalize spread (uQ le q z b) = d
    have hu := row_tok t n i
    blk_ext [(idx t).2.2.2.1]

include h1 h2 in
theorem arrK : (dats m 0 c).arrAt 4 cfg0.N = spread (uK le z b) := by
  refine (dats m 0 c).arrAt_eq_of_covers 4 _ (by decide +kernel) fun t hf y => ?_
  blk_simp
  rw [after0_4]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans spread (uK le z b) (ix3 0 (tok (cnk t n) i) l)
  · unfold_out out0_4
    rw [stored]
    simp only [loaded, loaded_bound]
    rw [spread_at]
    exact upK_at le Fwd.cum Fwd.cum_at l _ (fun n => qs z (cnk t n) l) n i _ _ (block2 m c t b h2 l) (block1 m c t z h1 l)
  · generalize spread (uK le z b) = d
    have hu := row_tok t n i
    blk_ext [(idx t).2.2.2.2.1]

include h1 h2 in
theorem arrE : (dats m 0 c).arrAt 5 cfg0.N = spread (uE le z b) := by
  refine (dats m 0 c).arrAt_eq_of_covers 5 _ (by decide +kernel) fun t hf y => ?_
  blk_simp
  rw [after0_5]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans spread (uE le z b) (ix3 0 (tok (cnk t n) i) l)
  · unfold_out out0_5
    rw [stored]
    simp only [loaded, loaded_bound]
    rw [spread_at]
    exact upE_at le Fwd.cum Fwd.same Fwd.cum_at chunk_mask l _ (fun n => qs z (cnk t n) l) n i _ _ (block2 m c t b h2 l) (block1 m c t z h1 l)
  · generalize spread (uE le z b) = d
    have hu := row_tok t n i
    blk_ext [(idx t).2.2.2.2.2.1]

include h1 h2 in
theorem arrD : (dats m 0 c).arrAt 6 cfg0.N = atEnds (uD z b) := by
  refine (dats m 0 c).arrAt_eq_of_covers 6 _ (by decide +kernel) fun t hf y => ?_
  blk_simp
  rw [after0_6]
  obtain ⟨o, n, l, rfl⟩ : ∃ (o : Fin 1) (n : Fin 16) (l : Fin 1024), y = ix3 o n l := ⟨y 0, y 1, y 2, eq_ix3 y⟩
  obtain rfl : o = 0 := Subsingleton.elim _ _
  have hN : t.val < 64 := t.isLt
  trans atEnds (uD z b) (ix3 0 (cnk t n) l)
  · unfold_out out0_6
    rw [stored_ends]
    simp only [loaded, loaded_bound]
    exact upD_at Fwd.heads row_mask l _ (fun n => qs z (cnk t n) l) n _ _ (block2 m c t b h2 l) (block1 m c t z h1 l)
  · generalize atEnds (uD z b) = d
    unfold cnk
    blk_ext [(idx t).2.2.2.2.2.2]

end Kernel

section Reference

open Cert.PrepFwdFRefIdeal Cert.PrepFwdFRefIdeal.Gen Cert.PrepFwdFRefIdeal.Read
open Cert.Chunk.Fwd (le)

variable (q z : Flat.Idx → ℝ) (b : Bound.Idx → ℝ)

theorem same_q : val_main_v32 (F := Ideal) (up q) = Cert.PrepFRefIdeal.Read.val_main_v47 (up q) := rfl
theorem same_key : val_main_v33 (F := Ideal) (up z) (up b) = Cert.PrepFRefIdeal.Read.val_main_v48 (up z) (up b) := rfl
theorem same_sum : val_main_v35 (F := Ideal) (up z) (up b) = Cert.PrepFRefIdeal.Read.val_main_v50 (up z) (up b) := rfl
theorem same_end : val_main_v36 (F := Ideal) (up z) (up b) = Cert.PrepFRefIdeal.Read.val_main_v51 (up z) (up b) := rfl

theorem ref_q : val_main_v51 (F := Ideal) (up q) (up z) (up b) = spread (uQ le q z b) := by
  funext j
  obtain ⟨o, u, l, rfl⟩ : ∃ (o : Fin 1) (u : Fin 16384) (l : Fin 1024), j = ix3 o u l := ⟨j 0, j 1, j 2, eq_ix3 j⟩
  obtain rfl : o = 0 := Subsingleton.elim _ _
  obtain ⟨h, k, rfl⟩ := lane_surj l
  obtain ⟨N, i, rfl⟩ := tok_surj u
  rw [spread_at]
  refine (join_lanes (val_main_v39 (F := Ideal) (up q) (up z) (up b)) _ _ h k).trans ((join_chunks (val_main_v38 (F := Ideal) (up q) (up z) (up b)) _ N i h k).trans ?_)
  have e : val_main_v35 (F := Ideal) (up z) (up b) (ix5 0 N i h k) = _ := Fwd.ref50 z b N i h k
  have a : val_main_v32 (F := Ideal) (up q) (ix5 0 N i h k) = _ := Fwd.ref47 q N i h k
  unfold val_main_v38 val_main_v37
  pointwise
  rw [a, e, Ideal.exp_coe, ← EReal.coe_mul]
  rfl

theorem ref_key : val_main_v52 (F := Ideal) (up z) (up b) = spread (uK le z b) := by
  funext j
  obtain ⟨o, u, l, rfl⟩ : ∃ (o : Fin 1) (u : Fin 16384) (l : Fin 1024), j = ix3 o u l := ⟨j 0, j 1, j 2, eq_ix3 j⟩
  obtain rfl : o = 0 := Subsingleton.elim _ _
  obtain ⟨h, k, rfl⟩ := lane_surj l
  obtain ⟨N, i, rfl⟩ := tok_surj u
  rw [spread_at]
  refine (join_lanes (val_main_v43 (F := Ideal) (up z) (up b)) _ _ h k).trans ((join_chunks (val_main_v42 (F := Ideal) (up z) (up b)) _ N i h k).trans ?_)
  have e : val_main_v35 (F := Ideal) (up z) (up b) (ix5 0 N i h k) = _ := Fwd.ref50 z b N i h k
  have a : val_main_v33 (F := Ideal) (up z) (up b) (ix5 0 N i h k) = _ := Fwd.ref48 z b N i h k
  unfold val_main_v42 val_main_v41 val_main_v40
  pointwise
  rw [a, e, ← EReal.coe_neg, Ideal.exp_coe, ← EReal.coe_mul]
  rfl

theorem ref_end : val_main_v53 (F := Ideal) (up z) (up b) = spread (uE le z b) := by
  funext j
  obtain ⟨o, u, l, rfl⟩ : ∃ (o : Fin 1) (u : Fin 16384) (l : Fin 1024), j = ix3 o u l := ⟨j 0, j 1, j 2, eq_ix3 j⟩
  obtain rfl : o = 0 := Subsingleton.elim _ _
  obtain ⟨h, k, rfl⟩ := lane_surj l
  obtain ⟨N, i, rfl⟩ := tok_surj u
  rw [spread_at]
  refine (join_lanes (val_main_v48 (F := Ideal) (up z) (up b)) _ _ h k).trans ((join_chunks (val_main_v47 (F := Ideal) (up z) (up b)) _ N i h k).trans ?_)
  have e : val_main_v35 (F := Ideal) (up z) (up b) (ix5 0 N i h k) = _ := Fwd.ref50 z b N i h k
  have a : val_main_v33 (F := Ideal) (up z) (up b) (ix5 0 N i h k) = _ := Fwd.ref48 z b N i h k
  have g : val_main_v36 (F := Ideal) (up z) (up b) (ix5 0 N 0 h k) = _ := Fwd.ref51 z b N h k
  unfold val_main_v47 val_main_v46 val_main_v45 val_main_v44
  pointwise
  rw [a, e, g, ← EReal.coe_sub, Ideal.exp_coe, ← EReal.coe_mul]
  rfl

theorem ref_decay : val_main_v54 (F := Ideal) (up z) (up b) = atEnds (uD z b) := by
  funext j
  obtain ⟨o, N, l, rfl⟩ : ∃ (o : Fin 1) (N l : Fin 1024), j = ix3 o N l := ⟨j 0, j 1, j 2, eq_ix3 j⟩
  obtain rfl : o = 0 := Subsingleton.elim _ _
  obtain ⟨h, k, rfl⟩ := lane_surj l
  trans val_main_v50 (F := Ideal) (up z) (up b) (ix4 0 N h k)
  · unfold val_main_v54
    generalize val_main_v50 (F := Ideal) _ _ = X
    pointwise
    exact congrArg₂ (fun h k => X (ix4 0 N h k)) (hd_lane h k) (ln_lane h k)
  · have g : val_main_v36 (F := Ideal) (up z) (up b) (ix5 0 N 0 h k) = _ := Fwd.ref51 z b N h k
    unfold val_main_v50 val_main_v49
    pointwise
    rw [g, Ideal.exp_coe]
    rfl

end Reference

theorem frame_k : Cert.quiescent_PrepFwdF := fun m ρ _ => Cert.PrepFwdF.Gen.frame m ρ
theorem frame_i : Cert.quiescent_PrepFwdFIdeal := fun m ρ _ => Cert.PrepFwdFIdeal.Gen.frame m ρ
theorem frame_ip [Cert.Pre_finite_gates.Facts] : Cert.quiescent_PrepFwdFIdeal_pre_finite_gates := fun m ρ _ => Cert.PrepFwdFIdeal.Gen.frame m ρ
theorem frame_r : Cert.quiescent_PrepFwdFRefIdeal := fun m ρ _ =>
  θ_run_mono (Cert.PrepFwdFRefIdeal.Value.run (F := Ideal) m ρ) fun r h => ⟨fun c => (h c).2.2.2.2, sem_eq_zero_of_no_sems (by decide) r.2⟩
theorem frame_rp [Cert.Pre_finite_gates.Facts] : Cert.quiescent_PrepFwdFRefIdeal_pre_finite_gates := fun m ρ _ => frame_r m ρ trivial

theorem algebraic [Cert.Pre_finite_gates.Facts] : Cert.algebraic_PrepFwdFIdeal_PrepFwdFRefIdeal_pre_finite_gates := by
  intro m s m' s' hpre hagree
  have hr := fun c => gates_real _ _ _ (hpre c)
  choose q hq using fun c => (hr c).1
  choose z hz using fun c => (hr c).2.1
  choose b hb using fun c => (hr c).2.2
  refine ⟨fun c => spread (uQ Fwd.le (q c) (z c) (b c)), fun c => spread (uK Fwd.le (z c) (b c)), fun c => spread (uE Fwd.le (z c) (b c)), fun c => atEnds (uD (z c) (b c)), ?_, ?_⟩
  · exact θ_run_mono (Cert.PrepFwdFIdeal.Value.run_blocks m s) fun r h c =>
      ⟨(h c).1.trans (arrQ m c _ _ _ (hq c) (hz c) (hb c)), (h c).2.1.trans (arrK m c _ _ (hz c) (hb c)), (h c).2.2.1.trans (arrE m c _ _ (hz c) (hb c)),
        (h c).2.2.2.1.trans (arrD m c _ _ (hz c) (hb c)), (h c).2.2.2.2⟩
  · refine θ_run_mono (Cert.PrepFwdFRefIdeal.Value.run (F := Ideal) m' s') fun r h c => ?_
    obtain ⟨a0, a1, a2⟩ := hagree c
    refine ⟨(h c).1.trans ((Cert.PrepFwdFRefIdeal.Read.val_main_v51_eq _ _ _).trans ?_), (h c).2.1.trans ((Cert.PrepFwdFRefIdeal.Read.val_main_v52_eq _ _).trans ?_),
      (h c).2.2.1.trans ((Cert.PrepFwdFRefIdeal.Read.val_main_v53_eq _ _).trans ?_), (h c).2.2.2.1.trans ((Cert.PrepFwdFRefIdeal.Read.val_main_v54_eq _ _).trans ?_), (h c).2.2.2.2⟩
    · rw [a0, a1, a2]
      erw [hq c, hz c, hb c]
      exact ref_q _ _ _
    all_goals rw [a1, a2]
    all_goals erw [hz c, hb c]
    · exact ref_key _ _
    · exact ref_end _ _
    · exact ref_decay _ _

end Cert.Chunk.UpF
-- ==== Proof.ScanUpB.lean ====
module

public import proofs.«01_k».proof.Proof.ScanUp
public import proofs.«01_k».proof.Proof.ScanBwd
public import proofs.«01_k».proof.Proof.ScanRefB
public import proofs.«01_k».proof.Proof.Gen.PrepFwdB.Frame
public import proofs.«01_k».proof.Proof.Gen.PrepFwdBIdeal.Value
public import proofs.«01_k».proof.Proof.Gen.PrepFwdBRefIdeal.Run
public import proofs.«01_k».proof.Proof.Gen.PrepFwdBRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The backward gates' forward call -/

noncomputable section

namespace Cert.Chunk.UpB

open Idealize.ShloMosaic Idealize.ShloMosaic.TcCoe Idealize.SL.Sem Cert.Reals

section Kernel

open Cert.PrepFwdBIdeal Cert.PrepFwdBIdeal.Gen
open Cert.Chunk.Bwd (le)

variable (m : (ℓ : Loc nD τ sig) → Buf (Elt Ideal) ℓ) (c : Dev nD) (t : Fin cfg0.N)

abbrev arg (r : Ref sig .tc) := m ((c : Thread nD τ).loc r)

theorem stored (p : Vec Ideal S1x256x1024 .f32) : View.canon [⟨r0_0, p⟩] = p := View.canon_cons_unit_lit' _ _ _ (by decide)
theorem stored_ends (p : Vec Ideal S1x16x1024 .f32) : View.canon [⟨r0_2, p⟩] = p := View.canon_cons_unit_lit' _ _ _ (by decide)
theorem loaded (x : Vec Ideal S1x256x1024 .f32) : View.ld x r0_0 = x := View.ld_unit_lit' _ _ (by decide)
theorem loaded_bound (x : Vec Ideal S1x1x1024 .f32) : View.ld x r0_1 = x := View.ld_unit_lit' _ _ (by decide)

theorem idx : ∀ t : Fin grid0.N, win0_0.index t = ![0, t.val, 0] ∧ win0_1.index t = ![0, t.val, 0] ∧ win0_2.index t = ![0, 0, 0] ∧ win0_3.index t = ![0, t.val, 0] ∧ win0_4.index t = ![0, t.val, 0]
    ∧ win0_5.index t = ![0, t.val, 0] ∧ win0_6.index t = ![0, t.val, 0] := by decide +kernel

theorem in0 (r : Fin 256) (l : Fin 1024) (u : Fin 16384) (hu : u.val = t.val * 256 + r.val) : iblk m c 0 t (ix3 0 r l) = arg m c main_arg0 (ix3 0 u l) := by
  blk_simp [iblk]; entry_read; pointwise; blk_ext [iblk, (idx t).1]
theorem in1 (r : Fin 256) (l : Fin 1024) (u : Fin 16384) (hu : u.val = t.val * 256 + r.val) : iblk m c 1 t (ix3 0 r l) = arg m c main_arg1 (ix3 0 u l) := by
  blk_simp [iblk]; entry_read; pointwise; blk_ext [iblk, (idx t).2.1]
theorem in2 (l : Fin 1024) : iblk m c 2 t (ix3 0 0 l) = arg m c main_arg2 (ix1 l) := by
  blk_simp [iblk]; entry_read; pointwise; blk_ext [iblk, (idx t).2.2.1]

def cnk (n : Fin 16) : Fin 1024 := ⟨t.val * 16 + n.val, by have hN : t.val < 64 := t.isLt; omega⟩

theorem row_tok (n i : Fin 16) : (tok (cnk t n) i).val = t.val * 256 + (rw n i).val := by
  simp only [tok, cnk, rw]
  omega

variable (q z : Flat.Idx → ℝ) (b : Bound.Idx → ℝ)
  (h0 : arg m c main_arg0 = fun i => (q i : EReal)) (h1 : arg m c main_arg1 = fun i => (z i : EReal)) (h2 : arg m c main_arg2 = fun i => (b i : EReal)) (l : Fin 1024)

include h0 in
theorem block0 (n i : Fin 16) : iblk m c 0 t (ix3 0 (rw n i) l) = (qs q (cnk t n) l i : EReal) := by rw [in0 m c t _ l _ (row_tok t n i), h0]; rfl
include h1 in
theorem block1 (n i : Fin 16) : iblk m c 1 t (ix3 0 (rw n i) l) = (qs z (cnk t n) l i : EReal) := by rw [in1 m c t _ l _ (row_tok t n i), h1]; rfl
include h2 in
theorem block2 : iblk m c 2 t (ix3 0 0 l) = (b (ix1 l) : EReal) := by rw [in2 m c t l, h2]

include h0 h1 h2 in
theorem arrQ : (dats m 0 c).arrAt 3 cfg0.N = spread (uQ le q z b) := by
  refine (dats m 0 c).arrAt_eq_of_covers 3 _ (by decide +kernel) fun t hf y => ?_
  blk_simp
  rw [after0_3]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans spread (uQ le q z b) (ix3 0 (tok (cnk t n) i) l)
  · unfold_out out0_3
    rw [stored]
    simp only [loaded, loaded_bound]
    rw [spread_at]
    exact upQ_at le Bwd.cum Bwd.cum_at l _ (fun n => qs q (cnk t n) l) (fun n => qs z (cnk t n) l) n i _ _ _ (block2 m c t b h2 l) (block0 m c t q h0 l) (block1 m c t z h1 l)
  · generalize spread (uQ le q z b) = d
    have hu := row_tok t n i
    blk_ext [(idx t).2.2.2.1]

include h1 h2 in
theorem arrK : (dats m 0 c).arrAt 4 cfg0.N = spread (uK le z b) := by
  refine (dats m 0 c).arrAt_eq_of_covers 4 _ (by decide +kernel) fun t hf y => ?_
  blk_simp
  rw [after0_4]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans spread (uK le z b) (ix3 0 (tok (cnk t n) i) l)
  · unfold_out out0_4
    rw [stored]
    simp only [loaded, loaded_bound]
    rw [spread_at]
    exact upK_at le Bwd.cum Bwd.cum_at l _ (fun n => qs z (cnk t n) l) n i _ _ (block2 m c t b h2 l) (block1 m c t z h1 l)
  · generalize spread (uK le z b) = d
    have hu := row_tok t n i
    blk_ext [(idx t).2.2.2.2.1]

include h1 h2 in
theorem arrE : (dats m 0 c).arrAt 5 cfg0.N = spread (uE le z b) := by
  refine (dats m 0 c).arrAt_eq_of_covers 5 _ (by decide +kernel) fun t hf y => ?_
  blk_simp
  rw [after0_5]
  obtain ⟨o, r, l, rfl⟩ : ∃ (o : Fin 1) (r : Fin 256) (l : Fin 1024), y = ix3 o r l := ⟨y 0, y 1, y 2, eq_ix3 y⟩
  obtain rfl : o = 0 := Subsingleton.elim _ _
  obtain ⟨n, i, rfl⟩ := rw_surj r
  have hN : t.val < 64 := t.isLt
  trans spread (uE le z b) (ix3 0 (tok (cnk t n) i) l)
  · unfold_out out0_5
    rw [stored]
    simp only [loaded, loaded_bound]
    rw [spread_at]
    exact upE_at le Bwd.cum Bwd.same Bwd.cum_at chunk_mask l _ (fun n => qs z (cnk t n) l) n i _ _ (block2 m c t b h2 l) (block1 m c t z h1 l)
  · generalize spread (uE le z b) = d
    have hu := row_tok t n i
    blk_ext [(idx t).2.2.2.2.2.1]

include h1 h2 in
theorem arrD : (dats m 0 c).arrAt 6 cfg0.N = atEnds (uD z b) := by
  refine (dats m 0 c).arrAt_eq_of_covers 6 _ (by decide +kernel) fun t hf y => ?_
  blk_simp
  rw [after0_6]
  obtain ⟨o, n, l, rfl⟩ : ∃ (o : Fin 1) (n : Fin 16) (l : Fin 1024), y = ix3 o n l := ⟨y 0, y 1, y 2, eq_ix3 y⟩
  obtain rfl : o = 0 := Subsingleton.elim _ _
  have hN : t.val < 64 := t.isLt
  trans atEnds (uD z b) (ix3 0 (cnk t n) l)
  · unfold_out out0_6
    rw [stored_ends]
    simp only [loaded, loaded_bound]
    exact upD_at Bwd.heads row_mask l _ (fun n => qs z (cnk t n) l) n _ _ (block2 m c t b h2 l) (block1 m c t z h1 l)
  · generalize atEnds (uD z b) = d
    unfold cnk
    blk_ext [(idx t).2.2.2.2.2.2]

end Kernel

section Reference

open Cert.PrepFwdBRefIdeal Cert.PrepFwdBRefIdeal.Gen Cert.PrepFwdBRefIdeal.Read
open Cert.Chunk.Bwd (le)

variable (q z : Flat.Idx → ℝ) (b : Bound.Idx → ℝ)

theorem same_q : val_main_v35 (F := Ideal) (up q) = Cert.PrepBRefIdeal.Read.val_main_v50 (up q) := rfl
theorem same_key : val_main_v36 (F := Ideal) (up z) (up b) = Cert.PrepBRefIdeal.Read.val_main_v51 (up z) (up b) := rfl
theorem same_sum : val_main_v38 (F := Ideal) (up z) (up b) = Cert.PrepBRefIdeal.Read.val_main_v53 (up z) (up b) := rfl
theorem same_end : val_main_v39 (F := Ideal) (up z) (up b) = Cert.PrepBRefIdeal.Read.val_main_v54 (up z) (up b) := rfl

theorem ref_q : val_main_v58 (F := Ideal) (up q) (up z) (up b) = spread (uQ le q z b) := by
  funext j
  obtain ⟨o, u, l, rfl⟩ : ∃ (o : Fin 1) (u : Fin 16384) (l : Fin 1024), j = ix3 o u l := ⟨j 0, j 1, j 2, eq_ix3 j⟩
  obtain rfl : o = 0 := Subsingleton.elim _ _
  obtain ⟨h, k, rfl⟩ := lane_surj l
  obtain ⟨N, i, rfl⟩ := tok_surj u
  rw [spread_at]
  refine (join_lanes (val_main_v43 (F := Ideal) (up q) (up z) (up b)) _ _ h k).trans ((Bwd.flip N i h k _).trans ((join_chunks (val_main_v41 (F := Ideal) (up q) (up z) (up b)) _ N.rev i.rev h k).trans ?_))
  have e : val_main_v38 (F := Ideal) (up z) (up b) (ix5 0 N.rev i.rev h k) = _ := Bwd.ref53 z b N.rev i.rev h k
  have a : val_main_v35 (F := Ideal) (up q) (ix5 0 N.rev i.rev h k) = _ := Bwd.ref50 q N.rev i.rev h k
  unfold val_main_v41 val_main_v40
  pointwise
  rw [a, e, Ideal.exp_coe, ← EReal.coe_mul]
  simp only [Fin.rev_rev]
  rfl

theorem ref_key : val_main_v59 (F := Ideal) (up z) (up b) = spread (uK le z b) := by
  funext j
  obtain ⟨o, u, l, rfl⟩ : ∃ (o : Fin 1) (u : Fin 16384) (l : Fin 1024), j = ix3 o u l := ⟨j 0, j 1, j 2, eq_ix3 j⟩
  obtain rfl : o = 0 := Subsingleton.elim _ _
  obtain ⟨h, k, rfl⟩ := lane_surj l
  obtain ⟨N, i, rfl⟩ := tok_surj u
  rw [spread_at]
  refine (join_lanes (val_main_v48 (F := Ideal) (up z) (up b)) _ _ h k).trans ((Bwd.flip N i h k _).trans ((join_chunks (val_main_v46 (F := Ideal) (up z) (up b)) _ N.rev i.rev h k).trans ?_))
  have e : val_main_v38 (F := Ideal) (up z) (up b) (ix5 0 N.rev i.rev h k) = _ := Bwd.ref53 z b N.rev i.rev h k
  have a : val_main_v36 (F := Ideal) (up z) (up b) (ix5 0 N.rev i.rev h k) = _ := Bwd.ref51 z b N.rev i.rev h k
  unfold val_main_v46 val_main_v45 val_main_v44
  pointwise
  rw [a, e, ← EReal.coe_neg, Ideal.exp_coe, ← EReal.coe_mul]
  simp only [Fin.rev_rev]
  rfl

theorem ref_end : val_main_v60 (F := Ideal) (up z) (up b) = spread (uE le z b) := by
  funext j
  obtain ⟨o, u, l, rfl⟩ : ∃ (o : Fin 1) (u : Fin 16384) (l : Fin 1024), j = ix3 o u l := ⟨j 0, j 1, j 2, eq_ix3 j⟩
  obtain rfl : o = 0 := Subsingleton.elim _ _
  obtain ⟨h, k, rfl⟩ := lane_surj l
  obtain ⟨N, i, rfl⟩ := tok_surj u
  rw [spread_at]
  refine (join_lanes (val_main_v54 (F := Ideal) (up z) (up b)) _ _ h k).trans ((Bwd.flip N i h k _).trans ((join_chunks (val_main_v52 (F := Ideal) (up z) (up b)) _ N.rev i.rev h k).trans ?_))
  have e : val_main_v38 (F := Ideal) (up z) (up b) (ix5 0 N.rev i.rev h k) = _ := Bwd.ref53 z b N.rev i.rev h k
  have a : val_main_v36 (F := Ideal) (up z) (up b) (ix5 0 N.rev i.rev h k) = _ := Bwd.ref51 z b N.rev i.rev h k
  have g : val_main_v39 (F := Ideal) (up z) (up b) (ix5 0 N.rev 0 h k) = _ := Bwd.ref54 z b N.rev h k
  unfold val_main_v52 val_main_v51 val_main_v50 val_main_v49
  pointwise
  rw [a, e, g, ← EReal.coe_sub, Ideal.exp_coe, ← EReal.coe_mul]
  simp only [Fin.rev_rev]
  rfl

theorem ref_decay : val_main_v61 (F := Ideal) (up z) (up b) = atEnds (uD z b) := by
  funext j
  obtain ⟨o, N, l, rfl⟩ : ∃ (o : Fin 1) (N l : Fin 1024), j = ix3 o N l := ⟨j 0, j 1, j 2, eq_ix3 j⟩
  obtain rfl : o = 0 := Subsingleton.elim _ _
  obtain ⟨h, k, rfl⟩ := lane_surj l
  trans val_main_v57 (F := Ideal) (up z) (up b) (ix4 0 N h k)
  · unfold val_main_v61
    generalize val_main_v57 (F := Ideal) _ _ = X
    pointwise
    exact congrArg₂ (fun h k => X (ix4 0 N h k)) (hd_lane h k) (ln_lane h k)
  · have g : val_main_v39 (F := Ideal) (up z) (up b) (ix5 0 N.rev 0 h k) = _ := Bwd.ref54 z b N.rev h k
    refine (Bwd.flip_ends N h k _).trans ?_
    unfold val_main_v56 val_main_v55
    pointwise
    rw [g, Ideal.exp_coe, Fin.rev_rev]
    rfl

end Reference

theorem frame_k : Cert.quiescent_PrepFwdB := fun m ρ _ => Cert.PrepFwdB.Gen.frame m ρ
theorem frame_i : Cert.quiescent_PrepFwdBIdeal := fun m ρ _ => Cert.PrepFwdBIdeal.Gen.frame m ρ
theorem frame_ip [Cert.Pre_finite_gates.Facts] : Cert.quiescent_PrepFwdBIdeal_pre_finite_gates := fun m ρ _ => Cert.PrepFwdBIdeal.Gen.frame m ρ
theorem frame_r : Cert.quiescent_PrepFwdBRefIdeal := fun m ρ _ =>
  θ_run_mono (Cert.PrepFwdBRefIdeal.Value.run (F := Ideal) m ρ) fun r h => ⟨fun c => (h c).2.2.2.2, sem_eq_zero_of_no_sems (by decide) r.2⟩
theorem frame_rp [Cert.Pre_finite_gates.Facts] : Cert.quiescent_PrepFwdBRefIdeal_pre_finite_gates := fun m ρ _ => frame_r m ρ trivial

theorem algebraic [Cert.Pre_finite_gates.Facts] : Cert.algebraic_PrepFwdBIdeal_PrepFwdBRefIdeal_pre_finite_gates := by
  intro m s m' s' hpre hagree
  have hr := fun c => gates_real _ _ _ (hpre c)
  choose q hq using fun c => (hr c).1
  choose z hz using fun c => (hr c).2.1
  choose b hb using fun c => (hr c).2.2
  refine ⟨fun c => spread (uQ Bwd.le (q c) (z c) (b c)), fun c => spread (uK Bwd.le (z c) (b c)), fun c => spread (uE Bwd.le (z c) (b c)), fun c => atEnds (uD (z c) (b c)), ?_, ?_⟩
  · exact θ_run_mono (Cert.PrepFwdBIdeal.Value.run_blocks m s) fun r h c =>
      ⟨(h c).1.trans (arrQ m c _ _ _ (hq c) (hz c) (hb c)), (h c).2.1.trans (arrK m c _ _ (hz c) (hb c)), (h c).2.2.1.trans (arrE m c _ _ (hz c) (hb c)),
        (h c).2.2.2.1.trans (arrD m c _ _ (hz c) (hb c)), (h c).2.2.2.2⟩
  · refine θ_run_mono (Cert.PrepFwdBRefIdeal.Value.run (F := Ideal) m' s') fun r h c => ?_
    obtain ⟨a0, a1, a2⟩ := hagree c
    refine ⟨(h c).1.trans ((Cert.PrepFwdBRefIdeal.Read.val_main_v58_eq _ _ _).trans ?_), (h c).2.1.trans ((Cert.PrepFwdBRefIdeal.Read.val_main_v59_eq _ _).trans ?_),
      (h c).2.2.1.trans ((Cert.PrepFwdBRefIdeal.Read.val_main_v60_eq _ _).trans ?_), (h c).2.2.2.1.trans ((Cert.PrepFwdBRefIdeal.Read.val_main_v61_eq _ _).trans ?_), (h c).2.2.2.2⟩
    · rw [a0, a1, a2]
      erw [hq c, hz c, hb c]
      exact ref_q _ _ _
    all_goals rw [a1, a2]
    all_goals erw [hz c, hb c]
    · exact ref_key _ _
    · exact ref_end _ _
    · exact ref_decay _ _

end Cert.Chunk.UpB
-- ==== Proof.DotsCols.lean ====
module

public import proofs.«01_k».proof.Defs
public import proofs.«01_k».proof.Proof.Gen.MlaDelta.Frame
public import proofs.«01_k».proof.Proof.Gen.MlaDeltaIdeal.Value
public import proofs.«01_k».proof.Proof.Gen.MlaDeltaRefIdeal.Run
public import proofs.«01_k».proof.Proof.Gen.MlaDeltaRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The rows of the latent attention's output times its cotangent, summed -/

noncomputable section

namespace Cert.RowDots.Cols

open Idealize.ShloMosaic Idealize.ShloMosaic.TcCoe Idealize.SL.Sem

/-- The packed column of channel `e` of head `h`. -/
abbrev col (h : Fin 8) (e : Fin 64) : Fin 512 := ⟨h.val * 64 + e.val, by omega⟩

section Kernel

open Cert.MlaDeltaIdeal Cert.MlaDeltaIdeal.Gen

variable (m : (ℓ : Loc nD τ sig) → Buf (Elt Ideal) ℓ) (c : Dev nD) (t : Fin cfg0.N)

abbrev arg (r : Ref sig .tc) := m ((c : Thread nD τ).loc r)

/-- The attention's output, in the order of axes that the call takes. -/
def turned (X : FVec Ideal S1x16384x8x64 .f32) : FVec Ideal S8x64x16384 .bf16 := truncf .bf16 (transpose S8x64x16384 [1, 2, 0] (shapeCast S16384x8x64 X shapeCasts_S1x16384x8x64_S16384x8x64) transposes_S16384x8x64_S8x64x16384_1_2_0) bitsLt_bf16_f32

theorem turned_at (X : FVec Ideal S1x16384x8x64 .f32) (h : Fin 8) (e : Fin 64) (u : Fin 16384) : turned X (ix3 h e u) = X (ix4 0 u h e) := by
  unfold turned
  pointwise

abbrev output : FVec Ideal S1x16384x8x64 .f32 := Cert.MlaDeltaRefIdeal.Read.val_main_v16 (F := Ideal) (arg m c main_arg0) (arg m c main_arg1) (arg m c main_arg2)

theorem out_entry : (V m c main_v19 : Vec Ideal S8x64x16384 .bf16) = turned (output m c) := by
  entry_read
  rfl

theorem idx : ∀ t : Fin grid0.N, win0_0.index t = ![t.val / 8, 0, t.val % 8] ∧ win0_1.index t = ![t.val / 8, 0, t.val % 8] ∧ win0_2.index t = ![t.val / 8, 0, t.val % 8] := by decide +kernel

section Block

variable (e : Fin 64) (r : Fin 2048) (h : Fin 8) (u : Fin 16384) (hh : h.val = t.val / 8) (hu : u.val = t.val % 8 * 2048 + r.val)

set_option maxRecDepth 65536 in
include hh hu in
theorem block0 : iblk m c 0 t (ix3 0 e r) = (V m c main_v19 : Vec Ideal S8x64x16384 .bf16) (ix3 h e u) := by
  blk_simp [iblk]
  blk_ext [iblk, (idx t).1]

include hh hu in
theorem in0 : iblk m c 0 t (ix3 0 e r) = output m c (ix4 0 u h e) :=
  (block0 m c t e r h u hh hu).trans ((congrFun (out_entry m c) _).trans (turned_at (output m c) h e u))

include hh hu in
theorem in1 : iblk m c 1 t (ix3 0 e r) = arg m c main_arg3 (ix3 0 u (col h e)) := by
  blk_simp [iblk]; entry_read; pointwise; blk_ext [iblk, (idx t).2.1]

end Block

/-- Each row of the output times its cotangent, summed over a head's channels. -/
def dots (a : FVec Ideal S1x16384x8x64 .f32) (g : FVec Ideal S1x16384x512 .f32) : Vec Ideal S8x1x16384 .f32 := fun i => ∑ e : Fin 64, a (ix4 0 (i 2) (i 0) e) * g (ix3 0 (i 2) (col (i 0) e))

theorem stored (p : Vec Ideal S1x1x2048 .f32) : View.canon [⟨r0_1, p⟩] = p := View.canon_cons_unit_lit' _ _ _ (by decide)
theorem loaded (x : Vec Ideal S1x64x2048 .bf16) : View.ld x r0_0 = x := View.ld_unit_lit' _ _ (by decide)

theorem arr2 : (dats m 0 c).arrAt 2 cfg0.N = dots (output m c) (arg m c main_arg3) := by
  refine (dats m 0 c).arrAt_eq_of_covers 2 _ (by decide +kernel) fun t hf y => ?_
  blk_simp
  rw [after0_2]
  obtain ⟨o, p, r, rfl⟩ : ∃ (o p : Fin 1) (r : Fin 2048), y = ix3 o p r := ⟨y 0, y 1, y 2, eq_ix3 y⟩
  obtain rfl : o = 0 := Subsingleton.elim _ _
  obtain rfl : p = 0 := Subsingleton.elim _ _
  have hN : t.val < 64 := t.isLt
  trans dots (output m c) (arg m c main_arg3) (ix3 ⟨t.val / 8, by omega⟩ 0 ⟨t.val % 8 * 2048 + r.val, by omega⟩)
  · unfold out0_2
    rw [stored]
    simp only [loaded]
    unfold k0_pay1
    pointwise
    exact Finset.sum_congr rfl fun e _ => congrArg₂ (· * ·) (in0 m c t e r ⟨t.val / 8, by omega⟩ ⟨t.val % 8 * 2048 + r.val, by omega⟩ rfl rfl) (in1 m c t e r ⟨t.val / 8, by omega⟩ ⟨t.val % 8 * 2048 + r.val, by omega⟩ rfl rfl)
  · generalize dots (output m c) (arg m c main_arg3) = d
    blk_ext [(idx t).2.2]

end Kernel

section Reference

open Cert.MlaDeltaRefIdeal Cert.MlaDeltaRefIdeal.Gen Cert.MlaDeltaRefIdeal.Read

theorem ref_dots (q k : (⟨S1x16384x8x96, .f32⟩ : BufTy).Contents (Elt Ideal)) (v : (⟨S1x16384x8x64, .f32⟩ : BufTy).Contents (Elt Ideal)) (g : (⟨S1x16384x512, .f32⟩ : BufTy).Contents (Elt Ideal)) :
    val_main_v20 q k v g = dots (val_main_v16 q k v) g := by
  funext i
  obtain ⟨h, o, u, rfl⟩ : ∃ (h : Fin 8) (o : Fin 1) (u : Fin 16384), i = ix3 h o u := ⟨i 0, i 1, i 2, eq_ix3 i⟩
  obtain rfl : o = 0 := Subsingleton.elim _ _
  unfold val_main_v20 val_main_v19 val_main_v18 val_main_v17 val_main_cst_3
  generalize val_main_v16 q k v = X
  pointwise
  rfl

end Reference

theorem frame_k : Cert.quiescent_MlaDelta := fun m ρ _ => Cert.MlaDelta.Gen.frame m ρ
theorem frame_i : Cert.quiescent_MlaDeltaIdeal := fun m ρ _ => Cert.MlaDeltaIdeal.Gen.frame m ρ
theorem frame_r : Cert.quiescent_MlaDeltaRefIdeal := fun m ρ _ =>
  θ_run_mono (Cert.MlaDeltaRefIdeal.Value.run (F := Ideal) m ρ) fun r h => ⟨fun c => (h c).2, sem_eq_zero_of_no_sems (by decide) r.2⟩

theorem algebraic : Cert.algebraic_MlaDeltaIdeal_MlaDeltaRefIdeal := by
  intro m s m' s' _ hagree
  refine ⟨fun c => dots (output m c) (arg m c Cert.MlaDeltaIdeal.main_arg3), ?_, ?_⟩
  · exact θ_run_mono (Cert.MlaDeltaIdeal.Value.run_blocks m s) fun r h c => ⟨(h c).1.trans (arr2 m c), (h c).2⟩
  · refine θ_run_mono (Cert.MlaDeltaRefIdeal.Value.run (F := Ideal) m' s') fun r h c => ?_
    obtain ⟨a0, a1, a2, a3⟩ := hagree c
    refine ⟨(h c).1.trans ((Cert.MlaDeltaRefIdeal.Read.val_main_v20_eq _ _ _ _).trans ?_), (h c).2⟩
    rw [a0, a1, a2, a3]
    exact ref_dots _ _ _ _

end Cert.RowDots.Cols
-- ==== Proof.ProjectUp.lean ====
module

public import proofs.«01_k».proof.Defs
public import proofs.«01_k».proof.Proof.Glu
public import proofs.«01_k».proof.Proof.Gen.Project.Frame
public import proofs.«01_k».proof.Proof.Gen.ProjectIdeal.Value
public import proofs.«01_k».proof.Proof.Gen.ProjectRefIdeal.Run
public import proofs.«01_k».proof.Proof.Gen.ProjectRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The projection that a layer begins with -/

noncomputable section

namespace Cert.Glu.Begin

open Idealize.ShloMosaic Idealize.ShloMosaic.TcCoe Idealize.SL.Sem

section Kernel

open Cert.ProjectIdeal Cert.ProjectIdeal.Gen

variable (m : (ℓ : Loc nD τ sig) → Buf (Elt Ideal) ℓ) (c : Dev nD) (t : Fin cfg0.N)

abbrev rows := flat (m ((c : Thread nD τ).loc main_arg0))
abbrev weight := m ((c : Thread nD τ).loc main_arg1)

theorem idx : ∀ t : Fin grid0.N, win0_0.index t = ![t.val % 64, 0] ∧ win0_1.index t = ![0, t.val / 64] ∧ win0_2.index t = ![t.val % 64, t.val / 64] := by decide +kernel

theorem block0 (r : Fin 256) (k : Fin 1024) (u : Fin 16384) (hu : u.val = t.val % 64 * 256 + r.val) : iblk m c 0 t (ix2 r k) = rows m c (ix2 u k) := by
  unfold rows flat
  blk_simp [iblk]; entry_read; pointwise; blk_ext [iblk, (idx t).1]

theorem block1 (k : Fin 1024) (l : Fin 4352) (v : Fin 8704) (hv : v.val = t.val / 64 * 4352 + l.val) : iblk m c 1 t (ix2 k l) = weight m c (ix2 k v) := by
  blk_simp [iblk]; entry_read; pointwise; blk_ext [iblk, (idx t).2.1]

theorem stored (p : Vec Ideal S256x4352 .f32) : View.canon [⟨r0_2, p⟩] = p := View.canon_cons_unit_lit' _ _ _ (by decide)
theorem loaded0 (x : Vec Ideal S256x1024 .bf16) : View.ld x r0_0 = x := View.ld_unit_lit' _ _ (by decide)
theorem loaded1 (x : Vec Ideal S1024x4352 .bf16) : View.ld x r0_1 = x := View.ld_unit_lit' _ _ (by decide)

/-- Every block of the call's result is that block of the whole product. -/
theorem arr2 : (dats m 0 c).arrAt 2 cfg0.N = prod (rows m c) (weight m c) := by
  refine (dats m 0 c).arrAt_eq_of_covers 2 _ (by decide +kernel) fun t hf y => ?_
  blk_simp
  rw [after0_2]
  obtain ⟨r, l, rfl⟩ : ∃ (r : Fin 256) (l : Fin 4352), y = ix2 r l := ⟨y 0, y 1, eq_ix2 y⟩
  have hN : t.val < 128 := t.isLt
  trans prod (rows m c) (weight m c) (ix2 ⟨t.val % 64 * 256 + r.val, by omega⟩ ⟨t.val / 64 * 4352 + l.val, by omega⟩)
  · unfold out0_2
    rw [stored, loaded0, loaded1]
    unfold k0_pay1 prod
    pointwise
    exact Finset.sum_congr rfl fun k _ => congrArg₂ (· * ·) (block0 m c t r k _ rfl) (block1 m c t k l _ rfl)
  · generalize prod (rows m c) (weight m c) = d
    blk_ext [(idx t).2.2]

end Kernel

section Reference

open Cert.ProjectRefIdeal Cert.ProjectRefIdeal.Gen Cert.ProjectRefIdeal.Read

theorem ref_prod (x : Row 16384 1024) (w : Mat 1024 8704) : val_main_v1 (F := Ideal) x w = prod (flat x) w := by
  funext i
  obtain ⟨u, v, rfl⟩ : ∃ (u : Fin 16384) (v : Fin 8704), i = ix2 u v := ⟨i 0, i 1, eq_ix2 i⟩
  unfold val_main_v1 val_main_v0 prod flat
  pointwise

end Reference

theorem frame_k : Cert.quiescent_Project := fun m ρ _ => Cert.Project.Gen.frame m ρ
theorem frame_i : Cert.quiescent_ProjectIdeal := fun m ρ _ => Cert.ProjectIdeal.Gen.frame m ρ
theorem frame_r : Cert.quiescent_ProjectRefIdeal := fun m ρ _ =>
  θ_run_mono (Cert.ProjectRefIdeal.Value.run (F := Ideal) m ρ) fun r h => ⟨fun c => (h c).2, sem_eq_zero_of_no_sems (by decide) r.2⟩

theorem algebraic : Cert.algebraic_ProjectIdeal_ProjectRefIdeal := by
  intro m s m' s' _ hagree
  refine ⟨fun c => prod (rows m c) (weight m c), ?_, ?_⟩
  · exact θ_run_mono (Cert.ProjectIdeal.Value.run_blocks m s) fun r h c => ⟨(h c).1.trans (arr2 m c), (h c).2⟩
  · refine θ_run_mono (Cert.ProjectRefIdeal.Value.run (F := Ideal) m' s') fun r h c => ?_
    obtain ⟨a0, a1⟩ := hagree c
    refine ⟨(h c).1.trans ((Cert.ProjectRefIdeal.Read.val_main_v1_eq _ _).trans ?_), (h c).2⟩
    rw [a0, a1]
    exact ref_prod _ _

end Cert.Glu.Begin
-- ==== Proof.WeightUp.lean ====
module

public import proofs.«01_k».proof.Defs
public import proofs.«01_k».proof.Proof.Glu
public import proofs.«01_k».proof.Proof.RowNorm
public import proofs.«01_k».proof.Proof.Gen.ProjectDw.Frame
public import proofs.«01_k».proof.Proof.Gen.ProjectDwIdeal.Value
public import proofs.«01_k».proof.Proof.Gen.ProjectDwRefIdeal.Run
public import proofs.«01_k».proof.Proof.Gen.ProjectDwRefIdeal.Read
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

/-! # The gradient of a projection's weight -/

noncomputable section

namespace Cert.Glu.Weight

open Idealize.ShloMosaic Idealize.ShloMosaic.TcCoe Idealize.SL.Sem

/-- One row's part of the gradient at column `k` of the rows and column `v` of the cotangent. -/
def term (x : Row 16384 1024) (g : Row 16384 8704) (k v q : ℕ) : EReal :=
  if h : q < 16384 ∧ k < 1024 ∧ v < 8704 then x (ix3 0 ⟨q, h.1⟩ ⟨k, h.2.1⟩) * g (ix3 0 ⟨q, h.1⟩ ⟨v, h.2.2⟩) else 0

theorem term_at (x : Row 16384 1024) (g : Row 16384 8704) (k : Fin 1024) (v : Fin 8704) (q : Fin 16384) : term x g k v q = x (ix3 0 q k) * g (ix3 0 q v) :=
  dif_pos ⟨q.isLt, k.isLt, v.isLt⟩

/-- The gradient: the sum over all rows. -/
def slope (x : Row 16384 1024) (g : Row 16384 8704) : Mat 1024 8704 := fun i => ∑ q : Fin 16384, x (ix3 0 q (i 0)) * g (ix3 0 q (i 1))

section Kernel

open Cert.ProjectDwIdeal Cert.ProjectDwIdeal.Gen Cert.ProjectDwIdeal.Value

variable (m : (ℓ : Loc nD τ sig) → Buf (Elt Ideal) ℓ) (c : Dev nD) (t : Fin cfg0.N)

abbrev rows : Row 16384 1024 := m ((c : Thread nD τ).loc main_arg0)
abbrev cotan : Row 16384 8704 := m ((c : Thread nD τ).loc main_arg2)

theorem idx : ∀ t : Fin grid0.N, win0_0.index t = ![t.val % 16, 0] ∧ win0_1.index t = ![t.val % 16, t.val / 16] ∧ win0_2.index t = ![0, t.val / 16] := by decide +kernel

theorem block0 (r : Fin 1024) (k : Fin 1024) (u : Fin 16384) (hu : u.val = t.val % 16 * 1024 + r.val) : iblk m c 0 t (ix2 r k) = rows m c (ix3 0 u k) := by
  blk_simp [iblk]; entry_read; pointwise; blk_ext [iblk, (idx t).1]

theorem block1 (r : Fin 1024) (l : Fin 2176) (u : Fin 16384) (hu : u.val = t.val % 16 * 1024 + r.val) (v : Fin 8704) (hv : v.val = t.val / 16 * 2176 + l.val) :
    iblk m c 1 t (ix2 r l) = cotan m c (ix3 0 u v) := by
  blk_simp [iblk]; entry_read; pointwise; blk_ext [iblk, (idx t).2.1]

/-- What point `n` adds. -/
def added (n : ℕ) (i : S1024x2176.Idx) : EReal := ∑ r : Fin 1024, term (rows m c) (cotan m c) (i 0).val (n / 16 * 2176 + (i 1).val) (n % 16 * 1024 + r.val)

theorem step_at (acc : Vec Ideal S1024x2176 .f32) (i : S1024x2176.Idx) : k0_pay2 acc (iblk m c 0 t) (iblk m c 1 t) i = acc i + added m c t.val i := by
  obtain ⟨k, l, rfl⟩ : ∃ (k : Fin 1024) (l : Fin 2176), i = ix2 k l := ⟨i 0, i 1, eq_ix2 i⟩
  have hN : t.val < 64 := t.isLt
  unfold k0_pay2 added
  pointwise
  refine congrArg _ (Finset.sum_congr rfl fun r _ => ?_)
  rw [block0 m c t r k ⟨t.val % 16 * 1024 + r.val, by omega⟩ rfl, block1 m c t r l ⟨t.val % 16 * 1024 + r.val, by omega⟩ rfl ⟨t.val / 16 * 2176 + l.val, by omega⟩ rfl]
  exact (term_at _ _ k ⟨t.val / 16 * 2176 + l.val, by omega⟩ ⟨t.val % 16 * 1024 + r.val, by omega⟩).symm

theorem zero_at (i : S1024x2176.Idx) : k0_pay1 (F := Ideal) i = 0 := by
  unfold k0_pay1
  pointwise

theorem sums (k : Fin 1024) (l : Fin 2176) (h : t.val % 16 = 15) : outsAt0 m c t.val t.isLt (ix2 k l)
    = ∑ b ∈ Finset.range 16, ∑ r : Fin 1024, term (rows m c) (cotan m c) k.val (t.val / 16 * 2176 + l.val) (b * 1024 + r.val) := by
  rw [outsAt_2_eq]
  refine (Pipeline.accAt_add_apply (reset2 m c) (step2 m c) (fun _ => 0) (added m c) (16 * (t.val / 16)) 15 ?_ ?_ (t.val % 16) (by omega) _ (ix2 k l)).trans ?_
  · intro hb i
    exact (step_at m c ⟨_, hb⟩ _ i).trans (congrArg (· + _) (zero_at i))
  · exact fun n hn acc i _ _ => step_at m c ⟨n, hn⟩ acc i
  · rw [zero_add, h]
    refine Finset.sum_congr rfl fun s hs => ?_
    have hs' := Finset.mem_range.1 hs
    unfold added
    rw [show (16 * (t.val / 16) + s) / 16 = t.val / 16 by omega, show (16 * (t.val / 16) + s) % 16 = s by omega]
    rfl

theorem all_rows (x : Row 16384 1024) (g : Row 16384 8704) (k : Fin 1024) (v : Fin 8704) :
    ∑ b ∈ Finset.range 16, ∑ r : Fin 1024, term x g k.val v.val (b * 1024 + r.val) = slope x g (ix2 k v) := by
  rw [Cert.RowNorm.sum_in_blocks]
  exact (Fin.sum_univ_eq_sum_range (term x g k.val v.val) 16384).symm.trans (Finset.sum_congr rfl fun q _ => term_at x g k v q)

theorem arr2 : (dats m 0 c).arrAt 2 cfg0.N = slope (rows m c) (cotan m c) := by
  refine (dats m 0 c).arrAt_eq_of_covers 2 _ (by decide +kernel) fun t hf y => ?_
  have h1 := (flush0_2 t).1 hf
  blk_simp
  rw [after0_2]
  obtain ⟨k, l, rfl⟩ : ∃ (k : Fin 1024) (l : Fin 2176), y = ix2 k l := ⟨y 0, y 1, eq_ix2 y⟩
  have hN : t.val < 64 := t.isLt
  trans slope (rows m c) (cotan m c) (ix2 k ⟨t.val / 16 * 2176 + l.val, by omega⟩)
  · exact (sums m c t k l h1).trans (all_rows _ _ k ⟨t.val / 16 * 2176 + l.val, by omega⟩)
  · generalize slope (rows m c) (cotan m c) = d
    blk_ext [(idx t).2.2]

end Kernel

section Reference

open Cert.ProjectDwRefIdeal Cert.ProjectDwRefIdeal.Gen Cert.ProjectDwRefIdeal.Read

theorem ref_slope (x : Row 16384 1024) (g : Row 16384 8704) : val_main_v2 (F := Ideal) x g = slope x g := by
  funext i
  obtain ⟨k, v, rfl⟩ : ∃ (k : Fin 1024) (v : Fin 8704), i = ix2 k v := ⟨i 0, i 1, eq_ix2 i⟩
  unfold val_main_v2 val_main_v1 slope
  pointwise
  refine (Fin.sum_univ_one _).trans (Finset.sum_congr rfl fun q _ => mul_comm _ _)

end Reference

theorem frame_k : Cert.quiescent_ProjectDw := fun m ρ _ => Cert.ProjectDw.Gen.frame m ρ
theorem frame_i : Cert.quiescent_ProjectDwIdeal := fun m ρ _ => Cert.ProjectDwIdeal.Gen.frame m ρ
theorem frame_r : Cert.quiescent_ProjectDwRefIdeal := fun m ρ _ =>
  θ_run_mono (Cert.ProjectDwRefIdeal.Value.run (F := Ideal) m ρ) fun r h => ⟨fun c => (h c).2, sem_eq_zero_of_no_sems (by decide) r.2⟩

theorem algebraic : Cert.algebraic_ProjectDwIdeal_ProjectDwRefIdeal := by
  intro m s m' s' _ hagree
  refine ⟨fun c => slope (rows m c) (cotan m c), ?_, ?_⟩
  · exact θ_run_mono (Cert.ProjectDwIdeal.Value.run_blocks m s) fun r h c => ⟨(h c).1.trans (arr2 m c), (h c).2⟩
  · refine θ_run_mono (Cert.ProjectDwRefIdeal.Value.run (F := Ideal) m' s') fun r h c => ?_
    obtain ⟨a0, a1, a2⟩ := hagree c
    refine ⟨(h c).1.trans ((Cert.ProjectDwRefIdeal.Read.val_main_v2_eq _ _).trans ?_), (h c).2⟩
    rw [a0, a2]
    exact ref_slope _ _

end Cert.Glu.Weight
-- ==== Proof.lean ====
module

public import proofs.«01_k».proof.Defs
public import proofs.«01_k».proof.Proof.Gen.IntraF
public import proofs.«01_k».proof.Proof.Gen.IntraF.Skeleton
public import proofs.«01_k».proof.Proof.Gen.IntraF.Launch
public import proofs.«01_k».proof.Proof.Gen.IntraF.Points
public import proofs.«01_k».proof.Proof.Gen.IntraF.Frame
public import proofs.«01_k».proof.Proof.Gen.IntraFIdeal
public import proofs.«01_k».proof.Proof.Gen.IntraFIdeal.Skeleton
public import proofs.«01_k».proof.Proof.Gen.IntraFIdeal.Launch
public import proofs.«01_k».proof.Proof.Gen.IntraFIdeal.Points
public import proofs.«01_k».proof.Proof.Gen.IntraFIdeal.Frame
public import proofs.«01_k».proof.Proof.Gen.IntraFIdeal.Value
public import proofs.«01_k».proof.Proof.Gen.IntraFRefIdeal
public import proofs.«01_k».proof.Proof.Gen.IntraFRefIdeal.Run
public import proofs.«01_k».proof.Proof.Gen.IntraFRefIdeal.Read
public import proofs.«01_k».proof.Proof.Gen.IntraB
public import proofs.«01_k».proof.Proof.Gen.IntraB.Skeleton
public import proofs.«01_k».proof.Proof.Gen.IntraB.Launch
public import proofs.«01_k».proof.Proof.Gen.IntraB.Points
public import proofs.«01_k».proof.Proof.Gen.IntraB.Frame
public import proofs.«01_k».proof.Proof.Gen.IntraBIdeal
public import proofs.«01_k».proof.Proof.Gen.IntraBIdeal.Skeleton
public import proofs.«01_k».proof.Proof.Gen.IntraBIdeal.Launch
public import proofs.«01_k».proof.Proof.Gen.IntraBIdeal.Points
public import proofs.«01_k».proof.Proof.Gen.IntraBIdeal.Frame
public import proofs.«01_k».proof.Proof.Gen.IntraBIdeal.Value
public import proofs.«01_k».proof.Proof.Gen.IntraBRefIdeal
public import proofs.«01_k».proof.Proof.Gen.IntraBRefIdeal.Run
public import proofs.«01_k».proof.Proof.Gen.IntraBRefIdeal.Read
public import proofs.«01_k».proof.Proof.Gen.MlaFwd
public import proofs.«01_k».proof.Proof.Gen.MlaFwd.Skeleton
public import proofs.«01_k».proof.Proof.Gen.MlaFwd.Launch
public import proofs.«01_k».proof.Proof.Gen.MlaFwd.Points
public import proofs.«01_k».proof.Proof.Gen.MlaFwd.Frame
public import proofs.«01_k».proof.Proof.Gen.MlaFwdIdeal
public import proofs.«01_k».proof.Proof.Gen.MlaFwdIdeal.Skeleton
public import proofs.«01_k».proof.Proof.Gen.MlaFwdIdeal.Launch
public import proofs.«01_k».proof.Proof.Gen.MlaFwdIdeal.Points
public import proofs.«01_k».proof.Proof.Gen.MlaFwdIdeal.Frame
public import proofs.«01_k».proof.Proof.Gen.MlaFwdIdeal.Value
public import proofs.«01_k».proof.Proof.Gen.MlaFwdRefIdeal
public import proofs.«01_k».proof.Proof.Gen.MlaFwdRefIdeal.Run
public import proofs.«01_k».proof.Proof.Gen.MlaFwdRefIdeal.Read
public import proofs.«01_k».proof.Proof.Gen.MlaBwd
public import proofs.«01_k».proof.Proof.Gen.MlaBwd.Skeleton
public import proofs.«01_k».proof.Proof.Gen.MlaBwd.Launch
public import proofs.«01_k».proof.Proof.Gen.MlaBwd.Points
public import proofs.«01_k».proof.Proof.Gen.MlaBwd.Frame
public import proofs.«01_k».proof.Proof.Gen.MlaBwdIdeal
public import proofs.«01_k».proof.Proof.Gen.MlaBwdIdeal.Skeleton
public import proofs.«01_k».proof.Proof.Gen.MlaBwdIdeal.Launch
public import proofs.«01_k».proof.Proof.Gen.MlaBwdIdeal.Points
public import proofs.«01_k».proof.Proof.Gen.MlaBwdIdeal.Frame
public import proofs.«01_k».proof.Proof.Gen.MlaBwdRefIdeal
public import proofs.«01_k».proof.Proof.Gen.MlaBwdRefIdeal.Run
public import proofs.«01_k».proof.Proof.Gen.MlaBwdRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.GatedNorm
public import proofs.«01_k».proof.Proof.Gen.GatedNorm.Skeleton
public import proofs.«01_k».proof.Proof.Gen.GatedNorm.Launch
public import proofs.«01_k».proof.Proof.Gen.GatedNorm.Points
public import proofs.«01_k».proof.Proof.Gen.GatedNorm.Frame
public import proofs.«01_k».proof.Proof.Gen.GatedNormIdeal
public import proofs.«01_k».proof.Proof.Gen.GatedNormIdeal.Skeleton
public import proofs.«01_k».proof.Proof.Gen.GatedNormIdeal.Launch
public import proofs.«01_k».proof.Proof.Gen.GatedNormIdeal.Points
public import proofs.«01_k».proof.Proof.Gen.GatedNormIdeal.Frame
public import proofs.«01_k».proof.Proof.Gen.GatedNormIdeal.Value
public import proofs.«01_k».proof.Proof.Gen.GatedNormRefIdeal
public import proofs.«01_k».proof.Proof.Gen.GatedNormRefIdeal.Run
public import proofs.«01_k».proof.Proof.Gen.GatedNormRefIdeal.Read
public import proofs.«01_k».proof.Proof.Gen.NormKeep
public import proofs.«01_k».proof.Proof.Gen.NormKeep.Skeleton
public import proofs.«01_k».proof.Proof.Gen.NormKeep.Launch
public import proofs.«01_k».proof.Proof.Gen.NormKeep.Points
public import proofs.«01_k».proof.Proof.Gen.NormKeep.Frame
public import proofs.«01_k».proof.Proof.Gen.NormKeepIdeal
public import proofs.«01_k».proof.Proof.Gen.NormKeepIdeal.Skeleton
public import proofs.«01_k».proof.Proof.Gen.NormKeepIdeal.Launch
public import proofs.«01_k».proof.Proof.Gen.NormKeepIdeal.Points
public import proofs.«01_k».proof.Proof.Gen.NormKeepIdeal.Frame
public import proofs.«01_k».proof.Proof.Gen.NormKeepIdeal.Value
public import proofs.«01_k».proof.Proof.Gen.NormKeepRefIdeal
public import proofs.«01_k».proof.Proof.Gen.NormKeepRefIdeal.Run
public import proofs.«01_k».proof.Proof.Gen.NormKeepRefIdeal.Read
public import proofs.«01_k».proof.Proof.Gen.PrepF
public import proofs.«01_k».proof.Proof.Gen.PrepF.Skeleton
public import proofs.«01_k».proof.Proof.Gen.PrepF.Launch
public import proofs.«01_k».proof.Proof.Gen.PrepF.Points
public import proofs.«01_k».proof.Proof.Gen.PrepF.Frame
public import proofs.«01_k».proof.Proof.Gen.PrepFIdeal
public import proofs.«01_k».proof.Proof.Gen.PrepFIdeal.Skeleton
public import proofs.«01_k».proof.Proof.Gen.PrepFIdeal.Launch
public import proofs.«01_k».proof.Proof.Gen.PrepFIdeal.Points
public import proofs.«01_k».proof.Proof.Gen.PrepFIdeal.Frame
public import proofs.«01_k».proof.Proof.Gen.PrepFIdeal.Value
public import proofs.«01_k».proof.Proof.Gen.PrepFRefIdeal
public import proofs.«01_k».proof.Proof.Gen.PrepFRefIdeal.Run
public import proofs.«01_k».proof.Proof.Gen.PrepFRefIdeal.Read
public import proofs.«01_k».proof.Proof.Gen.PrepB
public import proofs.«01_k».proof.Proof.Gen.PrepB.Skeleton
public import proofs.«01_k».proof.Proof.Gen.PrepB.Launch
public import proofs.«01_k».proof.Proof.Gen.PrepB.Points
public import proofs.«01_k».proof.Proof.Gen.PrepB.Frame
public import proofs.«01_k».proof.Proof.Gen.PrepBIdeal
public import proofs.«01_k».proof.Proof.Gen.PrepBIdeal.Skeleton
public import proofs.«01_k».proof.Proof.Gen.PrepBIdeal.Launch
public import proofs.«01_k».proof.Proof.Gen.PrepBIdeal.Points
public import proofs.«01_k».proof.Proof.Gen.PrepBIdeal.Frame
public import proofs.«01_k».proof.Proof.Gen.PrepBIdeal.Value
public import proofs.«01_k».proof.Proof.Gen.PrepBRefIdeal
public import proofs.«01_k».proof.Proof.Gen.PrepBRefIdeal.Run
public import proofs.«01_k».proof.Proof.Gen.PrepBRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnDx
public import proofs.«01_k».proof.Proof.Gen.FfnDx.Skeleton
public import proofs.«01_k».proof.Proof.Gen.FfnDx.Launch
public import proofs.«01_k».proof.Proof.Gen.FfnDx.Points
public import proofs.«01_k».proof.Proof.Gen.FfnDx.Frame
public import proofs.«01_k».proof.Proof.Gen.FfnDxIdeal
public import proofs.«01_k».proof.Proof.Gen.FfnDxIdeal.Skeleton
public import proofs.«01_k».proof.Proof.Gen.FfnDxIdeal.Launch
public import proofs.«01_k».proof.Proof.Gen.FfnDxIdeal.Points
public import proofs.«01_k».proof.Proof.Gen.FfnDxIdeal.Frame
public import proofs.«01_k».proof.Proof.Gen.FfnDxRefIdeal
public import proofs.«01_k».proof.Proof.Gen.FfnDxRefIdeal.Run
public import proofs.«01_k».proof.Proof.Gen.FfnDxRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.IntraFwdF
public import proofs.«01_k».proof.Proof.Gen.IntraFwdF.Skeleton
public import proofs.«01_k».proof.Proof.Gen.IntraFwdF.Launch
public import proofs.«01_k».proof.Proof.Gen.IntraFwdF.Points
public import proofs.«01_k».proof.Proof.Gen.IntraFwdF.Frame
public import proofs.«01_k».proof.Proof.Gen.IntraFwdFIdeal
public import proofs.«01_k».proof.Proof.Gen.IntraFwdFIdeal.Skeleton
public import proofs.«01_k».proof.Proof.Gen.IntraFwdFIdeal.Launch
public import proofs.«01_k».proof.Proof.Gen.IntraFwdFIdeal.Points
public import proofs.«01_k».proof.Proof.Gen.IntraFwdFIdeal.Frame
public import proofs.«01_k».proof.Proof.Gen.IntraFwdFIdeal.Value
public import proofs.«01_k».proof.Proof.Gen.IntraFwdFRefIdeal
public import proofs.«01_k».proof.Proof.Gen.IntraFwdFRefIdeal.Run
public import proofs.«01_k».proof.Proof.Gen.IntraFwdFRefIdeal.Read
public import proofs.«01_k».proof.Proof.Gen.IntraFwdB
public import proofs.«01_k».proof.Proof.Gen.IntraFwdB.Skeleton
public import proofs.«01_k».proof.Proof.Gen.IntraFwdB.Launch
public import proofs.«01_k».proof.Proof.Gen.IntraFwdB.Points
public import proofs.«01_k».proof.Proof.Gen.IntraFwdB.Frame
public import proofs.«01_k».proof.Proof.Gen.IntraFwdBIdeal
public import proofs.«01_k».proof.Proof.Gen.IntraFwdBIdeal.Skeleton
public import proofs.«01_k».proof.Proof.Gen.IntraFwdBIdeal.Launch
public import proofs.«01_k».proof.Proof.Gen.IntraFwdBIdeal.Points
public import proofs.«01_k».proof.Proof.Gen.IntraFwdBIdeal.Frame
public import proofs.«01_k».proof.Proof.Gen.IntraFwdBIdeal.Value
public import proofs.«01_k».proof.Proof.Gen.IntraFwdBRefIdeal
public import proofs.«01_k».proof.Proof.Gen.IntraFwdBRefIdeal.Run
public import proofs.«01_k».proof.Proof.Gen.IntraFwdBRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.GatedNormFwd
public import proofs.«01_k».proof.Proof.Gen.GatedNormFwd.Skeleton
public import proofs.«01_k».proof.Proof.Gen.GatedNormFwd.Launch
public import proofs.«01_k».proof.Proof.Gen.GatedNormFwd.Points
public import proofs.«01_k».proof.Proof.Gen.GatedNormFwd.Frame
public import proofs.«01_k».proof.Proof.Gen.GatedNormFwdIdeal
public import proofs.«01_k».proof.Proof.Gen.GatedNormFwdIdeal.Skeleton
public import proofs.«01_k».proof.Proof.Gen.GatedNormFwdIdeal.Launch
public import proofs.«01_k».proof.Proof.Gen.GatedNormFwdIdeal.Points
public import proofs.«01_k».proof.Proof.Gen.GatedNormFwdIdeal.Frame
public import proofs.«01_k».proof.Proof.Gen.GatedNormFwdIdeal.Value
public import proofs.«01_k».proof.Proof.Gen.GatedNormFwdRefIdeal
public import proofs.«01_k».proof.Proof.Gen.GatedNormFwdRefIdeal.Run
public import proofs.«01_k».proof.Proof.Gen.GatedNormFwdRefIdeal.Read
public import proofs.«01_k».proof.Proof.Gen.PrepFwdF
public import proofs.«01_k».proof.Proof.Gen.PrepFwdF.Skeleton
public import proofs.«01_k».proof.Proof.Gen.PrepFwdF.Launch
public import proofs.«01_k».proof.Proof.Gen.PrepFwdF.Points
public import proofs.«01_k».proof.Proof.Gen.PrepFwdF.Frame
public import proofs.«01_k».proof.Proof.Gen.PrepFwdFIdeal
public import proofs.«01_k».proof.Proof.Gen.PrepFwdFIdeal.Skeleton
public import proofs.«01_k».proof.Proof.Gen.PrepFwdFIdeal.Launch
public import proofs.«01_k».proof.Proof.Gen.PrepFwdFIdeal.Points
public import proofs.«01_k».proof.Proof.Gen.PrepFwdFIdeal.Frame
public import proofs.«01_k».proof.Proof.Gen.PrepFwdFIdeal.Value
public import proofs.«01_k».proof.Proof.Gen.PrepFwdFRefIdeal
public import proofs.«01_k».proof.Proof.Gen.PrepFwdFRefIdeal.Run
public import proofs.«01_k».proof.Proof.Gen.PrepFwdFRefIdeal.Read
public import proofs.«01_k».proof.Proof.Gen.PrepFwdB
public import proofs.«01_k».proof.Proof.Gen.PrepFwdB.Skeleton
public import proofs.«01_k».proof.Proof.Gen.PrepFwdB.Launch
public import proofs.«01_k».proof.Proof.Gen.PrepFwdB.Points
public import proofs.«01_k».proof.Proof.Gen.PrepFwdB.Frame
public import proofs.«01_k».proof.Proof.Gen.PrepFwdBIdeal
public import proofs.«01_k».proof.Proof.Gen.PrepFwdBIdeal.Skeleton
public import proofs.«01_k».proof.Proof.Gen.PrepFwdBIdeal.Launch
public import proofs.«01_k».proof.Proof.Gen.PrepFwdBIdeal.Points
public import proofs.«01_k».proof.Proof.Gen.PrepFwdBIdeal.Frame
public import proofs.«01_k».proof.Proof.Gen.PrepFwdBIdeal.Value
public import proofs.«01_k».proof.Proof.Gen.PrepFwdBRefIdeal
public import proofs.«01_k».proof.Proof.Gen.PrepFwdBRefIdeal.Run
public import proofs.«01_k».proof.Proof.Gen.PrepFwdBRefIdeal.Read
public import proofs.«01_k».proof.Proof.Gen.MlaDelta
public import proofs.«01_k».proof.Proof.Gen.MlaDelta.Skeleton
public import proofs.«01_k».proof.Proof.Gen.MlaDelta.Launch
public import proofs.«01_k».proof.Proof.Gen.MlaDelta.Points
public import proofs.«01_k».proof.Proof.Gen.MlaDelta.Frame
public import proofs.«01_k».proof.Proof.Gen.MlaDeltaIdeal
public import proofs.«01_k».proof.Proof.Gen.MlaDeltaIdeal.Skeleton
public import proofs.«01_k».proof.Proof.Gen.MlaDeltaIdeal.Launch
public import proofs.«01_k».proof.Proof.Gen.MlaDeltaIdeal.Points
public import proofs.«01_k».proof.Proof.Gen.MlaDeltaIdeal.Frame
public import proofs.«01_k».proof.Proof.Gen.MlaDeltaIdeal.Value
public import proofs.«01_k».proof.Proof.Gen.MlaDeltaRefIdeal
public import proofs.«01_k».proof.Proof.Gen.MlaDeltaRefIdeal.Run
public import proofs.«01_k».proof.Proof.Gen.MlaDeltaRefIdeal.Read
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.ProjectRefIdeal.Read
public import proofs.«01_k».proof.Proof.Gen.ProjectDw
public import proofs.«01_k».proof.Proof.Gen.ProjectDw.Skeleton
public import proofs.«01_k».proof.Proof.Gen.ProjectDw.Launch
public import proofs.«01_k».proof.Proof.Gen.ProjectDw.Points
public import proofs.«01_k».proof.Proof.Gen.ProjectDw.Frame
public import proofs.«01_k».proof.Proof.Gen.ProjectDwIdeal
public import proofs.«01_k».proof.Proof.Gen.ProjectDwIdeal.Skeleton
public import proofs.«01_k».proof.Proof.Gen.ProjectDwIdeal.Launch
public import proofs.«01_k».proof.Proof.Gen.ProjectDwIdeal.Points
public import proofs.«01_k».proof.Proof.Gen.ProjectDwIdeal.Frame
public import proofs.«01_k».proof.Proof.Gen.ProjectDwIdeal.Value
public import proofs.«01_k».proof.Proof.Gen.ProjectDwRefIdeal
public import proofs.«01_k».proof.Proof.Gen.ProjectDwRefIdeal.Run
public import proofs.«01_k».proof.Proof.Gen.ProjectDwRefIdeal.Read
public import proofs.«01_k».proof.Proof.Gen.Pre_finite_attention
public import proofs.«01_k».proof.Proof.Gen.Pre_finite_attention_bwd
public import proofs.«01_k».proof.Proof.Gen.Pre_finite_norm
public import proofs.«01_k».proof.Proof.Gen.Pre_finite_gated
public import proofs.«01_k».proof.Proof.Gen.Pre_finite_norm_keep
public import proofs.«01_k».proof.Proof.Gen.Pre_smooth_gates
public import proofs.«01_k».proof.Proof.Gen.Pre_finite_ffn
public import proofs.«01_k».proof.Proof.Gen.Pre_finite_gated_fwd
public import proofs.«01_k».proof.Proof.Gen.Pre_finite_gates
public import proofs.«01_k».proof.Proof.IntraF
public import proofs.«01_k».proof.Proof.IntraB
public import proofs.«01_k».proof.Proof.MlaPair
public import proofs.«01_k».proof.Proof.MlaBwdPair
public import proofs.«01_k».proof.Proof.Merge
public import proofs.«01_k».proof.Proof.Norm
public import proofs.«01_k».proof.Proof.NormKeep
public import proofs.«01_k».proof.Proof.GatedNorm
public import proofs.«01_k».proof.Proof.ScanPairF
public import proofs.«01_k».proof.Proof.ScanPairB
public import proofs.«01_k».proof.Proof.GluDt
public import proofs.«01_k».proof.Proof.GluDx
public import proofs.«01_k».proof.Proof.MergeUp
public import proofs.«01_k».proof.Proof.NormUp
public import proofs.«01_k».proof.Proof.IntraUpF
public import proofs.«01_k».proof.Proof.IntraUpB
public import proofs.«01_k».proof.Proof.GluUp
public import proofs.«01_k».proof.Proof.ErrorUp
public import proofs.«01_k».proof.Proof.GatedUp
public import proofs.«01_k».proof.Proof.ScanUpF
public import proofs.«01_k».proof.Proof.ScanUpB
public import proofs.«01_k».proof.Proof.DotsCols
public import proofs.«01_k».proof.Proof.ProjectUp
public import proofs.«01_k».proof.Proof.WeightUp
public import Idealize.ShloMosaic.Adequacy
public import Idealize.ShloMosaic.Init

@[expose] public section

noncomputable section

namespace Cert.Proof

open Idealize.ShloMosaic Idealize.SL.Sem Cert.IntraF

theorem claim : Cert.Claim := ⟨Cert.IntraF.Gen.facts, Cert.IntraFIdeal.Gen.facts, Cert.IntraFRefIdeal.Gen.facts,
  Cert.IntraB.Gen.facts, Cert.IntraBIdeal.Gen.facts, Cert.IntraBRefIdeal.Gen.facts,
  Cert.MlaFwd.Gen.facts, Cert.MlaFwdIdeal.Gen.facts, Cert.MlaFwdRefIdeal.Gen.facts,
  Cert.MlaBwd.Gen.facts, Cert.MlaBwdIdeal.Gen.facts, Cert.MlaBwdRefIdeal.Gen.facts,
  Cert.Merge.Gen.facts, Cert.MergeIdeal.Gen.facts, Cert.MergeRefIdeal.Gen.facts,
  Cert.Norm.Gen.facts, Cert.NormIdeal.Gen.facts, Cert.NormRefIdeal.Gen.facts,
  Cert.GatedNorm.Gen.facts, Cert.GatedNormIdeal.Gen.facts, Cert.GatedNormRefIdeal.Gen.facts,
  Cert.NormKeep.Gen.facts, Cert.NormKeepIdeal.Gen.facts, Cert.NormKeepRefIdeal.Gen.facts,
  Cert.PrepF.Gen.facts, Cert.PrepFIdeal.Gen.facts, Cert.PrepFRefIdeal.Gen.facts,
  Cert.PrepB.Gen.facts, Cert.PrepBIdeal.Gen.facts, Cert.PrepBRefIdeal.Gen.facts,
  Cert.Ffn.Gen.facts, Cert.FfnIdeal.Gen.facts, Cert.FfnRefIdeal.Gen.facts,
  Cert.FfnDx.Gen.facts, Cert.FfnDxIdeal.Gen.facts, Cert.FfnDxRefIdeal.Gen.facts,
  Cert.MergeFwd.Gen.facts, Cert.MergeFwdIdeal.Gen.facts, Cert.MergeFwdRefIdeal.Gen.facts,
  Cert.NormFwd.Gen.facts, Cert.NormFwdIdeal.Gen.facts, Cert.NormFwdRefIdeal.Gen.facts,
  Cert.IntraFwdF.Gen.facts, Cert.IntraFwdFIdeal.Gen.facts, Cert.IntraFwdFRefIdeal.Gen.facts,
  Cert.IntraFwdB.Gen.facts, Cert.IntraFwdBIdeal.Gen.facts, Cert.IntraFwdBRefIdeal.Gen.facts,
  Cert.FfnUp.Gen.facts, Cert.FfnUpIdeal.Gen.facts, Cert.FfnUpRefIdeal.Gen.facts,
  Cert.Loss.Gen.facts, Cert.LossIdeal.Gen.facts, Cert.LossRefIdeal.Gen.facts,
  Cert.GatedNormFwd.Gen.facts, Cert.GatedNormFwdIdeal.Gen.facts, Cert.GatedNormFwdRefIdeal.Gen.facts,
  Cert.PrepFwdF.Gen.facts, Cert.PrepFwdFIdeal.Gen.facts, Cert.PrepFwdFRefIdeal.Gen.facts,
  Cert.PrepFwdB.Gen.facts, Cert.PrepFwdBIdeal.Gen.facts, Cert.PrepFwdBRefIdeal.Gen.facts,
  Cert.MlaDelta.Gen.facts, Cert.MlaDeltaIdeal.Gen.facts, Cert.MlaDeltaRefIdeal.Gen.facts,
  Cert.Project.Gen.facts, Cert.ProjectIdeal.Gen.facts, Cert.ProjectRefIdeal.Gen.facts,
  Cert.ProjectDw.Gen.facts, Cert.ProjectDwIdeal.Gen.facts, Cert.ProjectDwRefIdeal.Gen.facts,
  Cert.Pre_finite_attention.Gen.facts, Cert.Pre_finite_attention_bwd.Gen.facts, Cert.Pre_finite_norm.Gen.facts, Cert.Pre_finite_gated.Gen.facts, Cert.Pre_finite_norm_keep.Gen.facts, Cert.Pre_smooth_gates.Gen.facts, Cert.Pre_finite_ffn.Gen.facts, Cert.Pre_finite_gated_fwd.Gen.facts, Cert.Pre_finite_gates.Gen.facts,
  Intra.F.frame_k, Intra.F.frame_i, Intra.F.frame_r,
  Intra.B.frame_k, Intra.B.frame_i, Intra.B.frame_r,
  Mla.frame_k, Mla.frame_i, Mla.frame_ip, Mla.frame_r, Mla.frame_rp,
  Mla.Bwd.frame_k, Mla.Bwd.frame_i, Mla.Bwd.frame_ip, Mla.Bwd.frame_r, Mla.Bwd.frame_rp,
  Gates.frame_k, Gates.frame_i, Gates.frame_r,
  RowNorm.Plain.frame_k, RowNorm.Plain.frame_i, RowNorm.Plain.frame_ip, RowNorm.Plain.frame_r, RowNorm.Plain.frame_rp,
  RowNorm.Gated.frame_k, RowNorm.Gated.frame_i, RowNorm.Gated.frame_ip, RowNorm.Gated.frame_r, RowNorm.Gated.frame_rp,
  RowNorm.Keep.frame_k, RowNorm.Keep.frame_i, RowNorm.Keep.frame_ip, RowNorm.Keep.frame_r, RowNorm.Keep.frame_rp,
  Chunk.Fwd.frame_k, Chunk.Fwd.frame_i, Chunk.Fwd.frame_ip, Chunk.Fwd.frame_r, Chunk.Fwd.frame_rp,
  Chunk.Bwd.frame_k, Chunk.Bwd.frame_i, Chunk.Bwd.frame_ip, Chunk.Bwd.frame_r, Chunk.Bwd.frame_rp,
  Glu.Dt.frame_k, Glu.Dt.frame_i, Glu.Dt.frame_ip, Glu.Dt.frame_r, Glu.Dt.frame_rp,
  Glu.Dx.frame_k, Glu.Dx.frame_i, Glu.Dx.frame_ip, Glu.Dx.frame_r, Glu.Dx.frame_rp,
  Gates.Up.frame_k, Gates.Up.frame_i, Gates.Up.frame_r,
  RowNorm.PlainUp.frame_k, RowNorm.PlainUp.frame_i, RowNorm.PlainUp.frame_r,
  Intra.UpF.frame_k, Intra.UpF.frame_i, Intra.UpF.frame_r,
  Intra.UpB.frame_k, Intra.UpB.frame_i, Intra.UpB.frame_r,
  Glu.Up.frame_k, Glu.Up.frame_i, Glu.Up.frame_r,
  SquaredError.frame_k, SquaredError.frame_i, SquaredError.frame_r,
  RowNorm.GatedUp.frame_k, RowNorm.GatedUp.frame_i, RowNorm.GatedUp.frame_ip, RowNorm.GatedUp.frame_r, RowNorm.GatedUp.frame_rp,
  Chunk.UpF.frame_k, Chunk.UpF.frame_i, Chunk.UpF.frame_ip, Chunk.UpF.frame_r, Chunk.UpF.frame_rp,
  Chunk.UpB.frame_k, Chunk.UpB.frame_i, Chunk.UpB.frame_ip, Chunk.UpB.frame_r, Chunk.UpB.frame_rp,
  RowDots.Cols.frame_k, RowDots.Cols.frame_i, RowDots.Cols.frame_r,
  Glu.Begin.frame_k, Glu.Begin.frame_i, Glu.Begin.frame_r,
  Glu.Weight.frame_k, Glu.Weight.frame_i, Glu.Weight.frame_r,
  trivial, Intra.F.algebraic, trivial, Intra.B.algebraic, Mla.preserves, Mla.algebraic, Mla.Bwd.preserves, Mla.Bwd.algebraic, trivial, Gates.algebraic, trivial, RowNorm.Plain.algebraic, trivial, RowNorm.Gated.algebraic, trivial, RowNorm.Keep.algebraic, trivial, Chunk.Fwd.algebraic, trivial, Chunk.Bwd.algebraic, trivial, Glu.Dt.algebraic, trivial, Glu.Dx.algebraic, trivial, Gates.Up.algebraic, trivial, RowNorm.PlainUp.algebraic, trivial, Intra.UpF.algebraic, trivial, Intra.UpB.algebraic, trivial, Glu.Up.algebraic, trivial, SquaredError.algebraic, trivial, RowNorm.GatedUp.algebraic, trivial, Chunk.UpF.algebraic, trivial, Chunk.UpB.algebraic, trivial, RowDots.Cols.algebraic, trivial, Glu.Begin.algebraic, trivial, Glu.Weight.algebraic⟩

end Cert.Proof

end
